-- ==== Defs.lean ====
def Pre_Mla (m : (ℓ : Loc Cert.Mla.nD Cert.Mla.τ Cert.Mla.sig) → Buf (Elt Bits) ℓ) : Prop :=
  True

def Pre_MlaIdeal (m : (ℓ : Loc Cert.MlaIdeal.nD Cert.MlaIdeal.τ Cert.MlaIdeal.sig) → Buf (Elt Ideal) ℓ) : Prop :=
  True

def Pre_MlaIdeal_finite_scores [hPre_finite_scores : Cert.Pre_finite_scores.Facts] (m : (ℓ : Loc Cert.MlaIdeal.nD Cert.MlaIdeal.τ Cert.MlaIdeal.sig) → Buf (Elt Ideal) ℓ) : Prop :=
  ∀ c : Dev Cert.MlaIdeal.nD,
    (Cert.Pre_finite_scores.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).1 = (fun _ => 1#1)
    ∧ (Cert.Pre_finite_scores.fn (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2))).2 = (fun _ => 1#1)

def Pre_MlaRefIdeal (m : (ℓ : Loc Cert.MlaRefIdeal.nD Cert.MlaRefIdeal.τ Cert.MlaRefIdeal.sig) → Buf (Elt Ideal) ℓ) : Prop :=
  True

def Pre_MlaRefIdeal_finite_scores [hPre_finite_scores : Cert.Pre_finite_scores.Facts] (m : (ℓ : Loc Cert.MlaRefIdeal.nD Cert.MlaRefIdeal.τ Cert.MlaRefIdeal.sig) → Buf (Elt Ideal) ℓ) : Prop :=
  ∀ c : Dev Cert.MlaRefIdeal.nD,
    (Cert.Pre_finite_scores.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).1 = (fun _ => 1#1)
    ∧ (Cert.Pre_finite_scores.fn (F := Ideal) (m ((c.tc : Thread Cert.MlaRefIdeal.nD Cert.MlaRefIdeal.τ).loc Cert.MlaRefIdeal.main_arg0)) (m ((c.tc : Thread Cert.MlaRefIdeal.nD Cert.MlaRefIdeal.τ).loc Cert.MlaRefIdeal.main_arg1)) (m ((c.tc : Thread Cert.MlaRefIdeal.nD Cert.MlaRefIdeal.τ).loc Cert.MlaRefIdeal.main_arg2))).2 = (fun _ => 1#1)

def Pre_Gqa (m : (ℓ : Loc Cert.Gqa.nD Cert.Gqa.τ Cert.Gqa.sig) → Buf (Elt Bits) ℓ) : Prop :=
  True

def Pre_GqaIdeal (m : (ℓ : Loc Cert.GqaIdeal.nD Cert.GqaIdeal.τ Cert.GqaIdeal.sig) → Buf (Elt Ideal) ℓ) : Prop :=
  True

def Pre_GqaIdeal_finite_gqa [hPre_finite_gqa : Cert.Pre_finite_gqa.Facts] (m : (ℓ : Loc Cert.GqaIdeal.nD Cert.GqaIdeal.τ Cert.GqaIdeal.sig) → Buf (Elt Ideal) ℓ) : Prop :=
  ∀ c : Dev Cert.GqaIdeal.nD,
    (Cert.Pre_finite_gqa.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))).1 = (fun _ => 1#1)
    ∧ (Cert.Pre_finite_gqa.fn (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2))).2 = (fun _ => 1#1)

def Pre_GqaRefIdeal (m : (ℓ : Loc Cert.GqaRefIdeal.nD Cert.GqaRefIdeal.τ Cert.GqaRefIdeal.sig) → Buf (Elt Ideal) ℓ) : Prop :=
  True

def Pre_GqaRefIdeal_finite_gqa [hPre_finite_gqa : Cert.Pre_finite_gqa.Facts] (m : (ℓ : Loc Cert.GqaRefIdeal.nD Cert.GqaRefIdeal.τ Cert.GqaRefIdeal.sig) → Buf (Elt Ideal) ℓ) : Prop :=
  ∀ c : Dev Cert.GqaRefIdeal.nD,
    (Cert.Pre_finite_gqa.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))).1 = (fun _ => 1#1)
    ∧ (Cert.Pre_finite_gqa.fn (F := Ideal) (m ((c.tc : Thread Cert.GqaRefIdeal.nD Cert.GqaRefIdeal.τ).loc Cert.GqaRefIdeal.main_arg0)) (m ((c.tc : Thread Cert.GqaRefIdeal.nD Cert.GqaRefIdeal.τ).loc Cert.GqaRefIdeal.main_arg1)) (m ((c.tc : Thread Cert.GqaRefIdeal.nD Cert.GqaRefIdeal.τ).loc Cert.GqaRefIdeal.main_arg2))).2 = (fun _ => 1#1)

def Pre_Moe [hPre_plan_in_range : Cert.Pre_plan_in_range.Facts] (m : (ℓ : Loc Cert.Moe.nD Cert.Moe.τ Cert.Moe.sig) → Buf (Elt Bits) ℓ) : Prop :=
  ∀ c : Dev Cert.Moe.nD,
    (Cert.Pre_plan_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7))).1 = (fun _ => 1#1)
    ∧ (Cert.Pre_plan_in_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5)) (m ((c.tc : Thread Cert.Moe.nD Cert.Moe.τ).loc Cert.Moe.main_arg6)) (m ((c.tc : Thread Cert.Moe.nD Cert.Moe.τ).loc Cert.Moe.main_arg7))).2 = (fun _ => 1#1)

def Pre_MoeIdeal [hPre_plan_in_range : Cert.Pre_plan_in_range.Facts] (m : (ℓ : Loc Cert.MoeIdeal.nD Cert.MoeIdeal.τ Cert.MoeIdeal.sig) → Buf (Elt Ideal) ℓ) : Prop :=
  ∀ c : Dev Cert.MoeIdeal.nD,
    (Cert.Pre_plan_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))).1 = (fun _ => 1#1)
    ∧ (Cert.Pre_plan_in_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7))).2 = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_plan_in_range [hPre_plan_in_range : Cert.Pre_plan_in_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_plan_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7))).1 = (fun _ => 1#1)
    ∧ (Cert.Pre_plan_in_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5)) (m ((c.tc : Thread Cert.MoeRefIdeal.nD Cert.MoeRefIdeal.τ).loc Cert.MoeRefIdeal.main_arg6)) (m ((c.tc : Thread Cert.MoeRefIdeal.nD Cert.MoeRefIdeal.τ).loc Cert.MoeRefIdeal.main_arg7))).2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Shared (m : (ℓ : Loc Cert.Shared.nD Cert.Shared.τ Cert.Shared.sig) → Buf (Elt Bits) ℓ) : Prop :=
  True

def Pre_SharedIdeal (m : (ℓ : Loc Cert.SharedIdeal.nD Cert.SharedIdeal.τ Cert.SharedIdeal.sig) → Buf (Elt Ideal) ℓ) : Prop :=
  True

def Pre_SharedRefIdeal (m : (ℓ : Loc Cert.SharedRefIdeal.nD Cert.SharedRefIdeal.τ Cert.SharedRefIdeal.sig) → Buf (Elt Ideal) ℓ) : Prop :=
  True

def Pre_MlaQ (m : (ℓ : Loc Cert.MlaQ.nD Cert.MlaQ.τ Cert.MlaQ.sig) → Buf (Elt Bits) ℓ) : Prop :=
  True

def Pre_MlaQIdeal (m : (ℓ : Loc Cert.MlaQIdeal.nD Cert.MlaQIdeal.τ Cert.MlaQIdeal.sig) → Buf (Elt Ideal) ℓ) : Prop :=
  True

def Pre_MlaQRefIdeal (m : (ℓ : Loc Cert.MlaQRefIdeal.nD Cert.MlaQRefIdeal.τ Cert.MlaQRefIdeal.sig) → Buf (Elt Ideal) ℓ) : Prop :=
  True

def Pre_MlaKV (m : (ℓ : Loc Cert.MlaKV.nD Cert.MlaKV.τ Cert.MlaKV.sig) → Buf (Elt Bits) ℓ) : Prop :=
  True

def Pre_MlaKVIdeal (m : (ℓ : Loc Cert.MlaKVIdeal.nD Cert.MlaKVIdeal.τ Cert.MlaKVIdeal.sig) → Buf (Elt Ideal) ℓ) : Prop :=
  True

def Pre_MlaKVRefIdeal (m : (ℓ : Loc Cert.MlaKVRefIdeal.nD Cert.MlaKVRefIdeal.τ Cert.MlaKVRefIdeal.sig) → Buf (Elt Ideal) ℓ) : Prop :=
  True

def Pre_GqaQK (m : (ℓ : Loc Cert.GqaQK.nD Cert.GqaQK.τ Cert.GqaQK.sig) → Buf (Elt Bits) ℓ) : Prop :=
  True

def Pre_GqaQKIdeal (m : (ℓ : Loc Cert.GqaQKIdeal.nD Cert.GqaQKIdeal.τ Cert.GqaQKIdeal.sig) → Buf (Elt Ideal) ℓ) : Prop :=
  True

def Pre_GqaQKRefIdeal (m : (ℓ : Loc Cert.GqaQKRefIdeal.nD Cert.GqaQKRefIdeal.τ Cert.GqaQKRefIdeal.sig) → Buf (Elt Ideal) ℓ) : Prop :=
  True

def Pre_MlaCtx (m : (ℓ : Loc Cert.MlaCtx.nD Cert.MlaCtx.τ Cert.MlaCtx.sig) → Buf (Elt Bits) ℓ) : Prop :=
  True

def Pre_MlaCtxIdeal (m : (ℓ : Loc Cert.MlaCtxIdeal.nD Cert.MlaCtxIdeal.τ Cert.MlaCtxIdeal.sig) → Buf (Elt Ideal) ℓ) : Prop :=
  True

def Pre_MlaCtxIdeal_finite_scores [hPre_finite_scores : Cert.Pre_finite_scores.Facts] (m : (ℓ : Loc Cert.MlaCtxIdeal.nD Cert.MlaCtxIdeal.τ Cert.MlaCtxIdeal.sig) → Buf (Elt Ideal) ℓ) : Prop :=
  ∀ c : Dev Cert.MlaCtxIdeal.nD,
    (Cert.Pre_finite_scores.fn (F := Ideal) (m ((c.tc : Thread Cert.MlaCtxIdeal.nD Cert.MlaCtxIdeal.τ).loc Cert.MlaCtxIdeal.main_arg0)) (m ((c.tc : Thread Cert.MlaCtxIdeal.nD Cert.MlaCtxIdeal.τ).loc Cert.MlaCtxIdeal.main_arg1)) (m ((c.tc : Thread Cert.MlaCtxIdeal.nD Cert.MlaCtxIdeal.τ).loc Cert.MlaCtxIdeal.main_arg2))).1 = (fun _ => 1#1)
    ∧ (Cert.Pre_finite_scores.fn (F := Ideal) (m ((c.tc : Thread Cert.MlaCtxIdeal.nD Cert.MlaCtxIdeal.τ).loc Cert.MlaCtxIdeal.main_arg0)) (m ((c.tc : Thread Cert.MlaCtxIdeal.nD Cert.MlaCtxIdeal.τ).loc Cert.MlaCtxIdeal.main_arg1)) (m ((c.tc : Thread Cert.MlaCtxIdeal.nD Cert.MlaCtxIdeal.τ).loc Cert.MlaCtxIdeal.main_arg2))).2 = (fun _ => 1#1)

def Pre_MlaCtxRefIdeal (m : (ℓ : Loc Cert.MlaCtxRefIdeal.nD Cert.MlaCtxRefIdeal.τ Cert.MlaCtxRefIdeal.sig) → Buf (Elt Ideal) ℓ) : Prop :=
  True

def Pre_MlaCtxRefIdeal_finite_scores [hPre_finite_scores : Cert.Pre_finite_scores.Facts] (m : (ℓ : Loc Cert.MlaCtxRefIdeal.nD Cert.MlaCtxRefIdeal.τ Cert.MlaCtxRefIdeal.sig) → Buf (Elt Ideal) ℓ) : Prop :=
  ∀ c : Dev Cert.MlaCtxRefIdeal.nD,
    (Cert.Pre_finite_scores.fn (F := Ideal) (m ((c.tc : Thread Cert.MlaCtxRefIdeal.nD Cert.MlaCtxRefIdeal.τ).loc Cert.MlaCtxRefIdeal.main_arg0)) (m ((c.tc : Thread Cert.MlaCtxRefIdeal.nD Cert.MlaCtxRefIdeal.τ).loc Cert.MlaCtxRefIdeal.main_arg1)) (m ((c.tc : Thread Cert.MlaCtxRefIdeal.nD Cert.MlaCtxRefIdeal.τ).loc Cert.MlaCtxRefIdeal.main_arg2))).1 = (fun _ => 1#1)
    ∧ (Cert.Pre_finite_scores.fn (F := Ideal) (m ((c.tc : Thread Cert.MlaCtxRefIdeal.nD Cert.MlaCtxRefIdeal.τ).loc Cert.MlaCtxRefIdeal.main_arg0)) (m ((c.tc : Thread Cert.MlaCtxRefIdeal.nD Cert.MlaCtxRefIdeal.τ).loc Cert.MlaCtxRefIdeal.main_arg1)) (m ((c.tc : Thread Cert.MlaCtxRefIdeal.nD Cert.MlaCtxRefIdeal.τ).loc Cert.MlaCtxRefIdeal.main_arg2))).2 = (fun _ => 1#1)

def Pre_GqaCtx (m : (ℓ : Loc Cert.GqaCtx.nD Cert.GqaCtx.τ Cert.GqaCtx.sig) → Buf (Elt Bits) ℓ) : Prop :=
  True

def Pre_GqaCtxIdeal (m : (ℓ : Loc Cert.GqaCtxIdeal.nD Cert.GqaCtxIdeal.τ Cert.GqaCtxIdeal.sig) → Buf (Elt Ideal) ℓ) : Prop :=
  True

def Pre_GqaCtxIdeal_finite_gqa [hPre_finite_gqa : Cert.Pre_finite_gqa.Facts] (m : (ℓ : Loc Cert.GqaCtxIdeal.nD Cert.GqaCtxIdeal.τ Cert.GqaCtxIdeal.sig) → Buf (Elt Ideal) ℓ) : Prop :=
  ∀ c : Dev Cert.GqaCtxIdeal.nD,
    (Cert.Pre_finite_gqa.fn (F := Ideal) (m ((c.tc : Thread Cert.GqaCtxIdeal.nD Cert.GqaCtxIdeal.τ).loc Cert.GqaCtxIdeal.main_arg0)) (m ((c.tc : Thread Cert.GqaCtxIdeal.nD Cert.GqaCtxIdeal.τ).loc Cert.GqaCtxIdeal.main_arg1)) (m ((c.tc : Thread Cert.GqaCtxIdeal.nD Cert.GqaCtxIdeal.τ).loc Cert.GqaCtxIdeal.main_arg2))).1 = (fun _ => 1#1)
    ∧ (Cert.Pre_finite_gqa.fn (F := Ideal) (m ((c.tc : Thread Cert.GqaCtxIdeal.nD Cert.GqaCtxIdeal.τ).loc Cert.GqaCtxIdeal.main_arg0)) (m ((c.tc : Thread Cert.GqaCtxIdeal.nD Cert.GqaCtxIdeal.τ).loc Cert.GqaCtxIdeal.main_arg1)) (m ((c.tc : Thread Cert.GqaCtxIdeal.nD Cert.GqaCtxIdeal.τ).loc Cert.GqaCtxIdeal.main_arg2))).2 = (fun _ => 1#1)

def Pre_GqaCtxRefIdeal (m : (ℓ : Loc Cert.GqaCtxRefIdeal.nD Cert.GqaCtxRefIdeal.τ Cert.GqaCtxRefIdeal.sig) → Buf (Elt Ideal) ℓ) : Prop :=
  True

def Pre_GqaCtxRefIdeal_finite_gqa [hPre_finite_gqa : Cert.Pre_finite_gqa.Facts] (m : (ℓ : Loc Cert.GqaCtxRefIdeal.nD Cert.GqaCtxRefIdeal.τ Cert.GqaCtxRefIdeal.sig) → Buf (Elt Ideal) ℓ) : Prop :=
  ∀ c : Dev Cert.GqaCtxRefIdeal.nD,
    (Cert.Pre_finite_gqa.fn (F := Ideal) (m ((c.tc : Thread Cert.GqaCtxRefIdeal.nD Cert.GqaCtxRefIdeal.τ).loc Cert.GqaCtxRefIdeal.main_arg0)) (m ((c.tc : Thread Cert.GqaCtxRefIdeal.nD Cert.GqaCtxRefIdeal.τ).loc Cert.GqaCtxRefIdeal.main_arg1)) (m ((c.tc : Thread Cert.GqaCtxRefIdeal.nD Cert.GqaCtxRefIdeal.τ).loc Cert.GqaCtxRefIdeal.main_arg2))).1 = (fun _ => 1#1)
    ∧ (Cert.Pre_finite_gqa.fn (F := Ideal) (m ((c.tc : Thread Cert.GqaCtxRefIdeal.nD Cert.GqaCtxRefIdeal.τ).loc Cert.GqaCtxRefIdeal.main_arg0)) (m ((c.tc : Thread Cert.GqaCtxRefIdeal.nD Cert.GqaCtxRefIdeal.τ).loc Cert.GqaCtxRefIdeal.main_arg1)) (m ((c.tc : Thread Cert.GqaCtxRefIdeal.nD Cert.GqaCtxRefIdeal.τ).loc Cert.GqaCtxRefIdeal.main_arg2))).2 = (fun _ => 1#1)

def Pre_Logits (m : (ℓ : Loc Cert.Logits.nD Cert.Logits.τ Cert.Logits.sig) → Buf (Elt Bits) ℓ) : Prop :=
  True

def Pre_LogitsIdeal (m : (ℓ : Loc Cert.LogitsIdeal.nD Cert.LogitsIdeal.τ Cert.LogitsIdeal.sig) → Buf (Elt Ideal) ℓ) : Prop :=
  True

def Pre_LogitsIdeal_finite_router [hPre_finite_router : Cert.Pre_finite_router.Facts] (m : (ℓ : Loc Cert.LogitsIdeal.nD Cert.LogitsIdeal.τ Cert.LogitsIdeal.sig) → Buf (Elt Ideal) ℓ) : Prop :=
  ∀ c : Dev Cert.LogitsIdeal.nD,
    (Cert.Pre_finite_router.fn (F := Ideal) (m ((c.tc : Thread Cert.LogitsIdeal.nD Cert.LogitsIdeal.τ).loc Cert.LogitsIdeal.main_arg0)) (m ((c.tc : Thread Cert.LogitsIdeal.nD Cert.LogitsIdeal.τ).loc Cert.LogitsIdeal.main_arg1)) (m ((c.tc : Thread Cert.LogitsIdeal.nD Cert.LogitsIdeal.τ).loc Cert.LogitsIdeal.main_arg2)) (m ((c.tc : Thread Cert.LogitsIdeal.nD Cert.LogitsIdeal.τ).loc Cert.LogitsIdeal.main_arg3)) (m ((c.tc : Thread Cert.LogitsIdeal.nD Cert.LogitsIdeal.τ).loc Cert.LogitsIdeal.main_arg4)) (m ((c.tc : Thread Cert.LogitsIdeal.nD Cert.LogitsIdeal.τ).loc Cert.LogitsIdeal.main_arg5)) (m ((c.tc : Thread Cert.LogitsIdeal.nD Cert.LogitsIdeal.τ).loc Cert.LogitsIdeal.main_arg6)) (m ((c.tc : Thread Cert.LogitsIdeal.nD Cert.LogitsIdeal.τ).loc Cert.LogitsIdeal.main_arg7)) (m ((c.tc : Thread Cert.LogitsIdeal.nD Cert.LogitsIdeal.τ).loc Cert.LogitsIdeal.main_arg8))).1 = (fun _ => 1#1)
    ∧ (Cert.Pre_finite_router.fn (F := Ideal) (m ((c.tc : Thread Cert.LogitsIdeal.nD Cert.LogitsIdeal.τ).loc Cert.LogitsIdeal.main_arg0)) (m ((c.tc : Thread Cert.LogitsIdeal.nD Cert.LogitsIdeal.τ).loc Cert.LogitsIdeal.main_arg1)) (m ((c.tc : Thread Cert.LogitsIdeal.nD Cert.LogitsIdeal.τ).loc Cert.LogitsIdeal.main_arg2)) (m ((c.tc : Thread Cert.LogitsIdeal.nD Cert.LogitsIdeal.τ).loc Cert.LogitsIdeal.main_arg3)) (m ((c.tc : Thread Cert.LogitsIdeal.nD Cert.LogitsIdeal.τ).loc Cert.LogitsIdeal.main_arg4)) (m ((c.tc : Thread Cert.LogitsIdeal.nD Cert.LogitsIdeal.τ).loc Cert.LogitsIdeal.main_arg5)) (m ((c.tc : Thread Cert.LogitsIdeal.nD Cert.LogitsIdeal.τ).loc Cert.LogitsIdeal.main_arg6)) (m ((c.tc : Thread Cert.LogitsIdeal.nD Cert.LogitsIdeal.τ).loc Cert.LogitsIdeal.main_arg7)) (m ((c.tc : Thread Cert.LogitsIdeal.nD Cert.LogitsIdeal.τ).loc Cert.LogitsIdeal.main_arg8))).2.1 = (fun _ => 1#1)
    ∧ (Cert.Pre_finite_router.fn (F := Ideal) (m ((c.tc : Thread Cert.LogitsIdeal.nD Cert.LogitsIdeal.τ).loc Cert.LogitsIdeal.main_arg0)) (m ((c.tc : Thread Cert.LogitsIdeal.nD Cert.LogitsIdeal.τ).loc Cert.LogitsIdeal.main_arg1)) (m ((c.tc : Thread Cert.LogitsIdeal.nD Cert.LogitsIdeal.τ).loc Cert.LogitsIdeal.main_arg2)) (m ((c.tc : Thread Cert.LogitsIdeal.nD Cert.LogitsIdeal.τ).loc Cert.LogitsIdeal.main_arg3)) (m ((c.tc : Thread Cert.LogitsIdeal.nD Cert.LogitsIdeal.τ).loc Cert.LogitsIdeal.main_arg4)) (m ((c.tc : Thread Cert.LogitsIdeal.nD Cert.LogitsIdeal.τ).loc Cert.LogitsIdeal.main_arg5)) (m ((c.tc : Thread Cert.LogitsIdeal.nD Cert.LogitsIdeal.τ).loc Cert.LogitsIdeal.main_arg6)) (m ((c.tc : Thread Cert.LogitsIdeal.nD Cert.LogitsIdeal.τ).loc Cert.LogitsIdeal.main_arg7)) (m ((c.tc : Thread Cert.LogitsIdeal.nD Cert.LogitsIdeal.τ).loc Cert.LogitsIdeal.main_arg8))).2.2 = (fun _ => 1#1)

def Pre_LogitsRefIdeal (m : (ℓ : Loc Cert.LogitsRefIdeal.nD Cert.LogitsRefIdeal.τ Cert.LogitsRefIdeal.sig) → Buf (Elt Ideal) ℓ) : Prop :=
  True

def Pre_LogitsRefIdeal_finite_router [hPre_finite_router : Cert.Pre_finite_router.Facts] (m : (ℓ : Loc Cert.LogitsRefIdeal.nD Cert.LogitsRefIdeal.τ Cert.LogitsRefIdeal.sig) → Buf (Elt Ideal) ℓ) : Prop :=
  ∀ c : Dev Cert.LogitsRefIdeal.nD,
    (Cert.Pre_finite_router.fn (F := Ideal) (m ((c.tc : Thread Cert.LogitsRefIdeal.nD Cert.LogitsRefIdeal.τ).loc Cert.LogitsRefIdeal.main_arg0)) (m ((c.tc : Thread Cert.LogitsRefIdeal.nD Cert.LogitsRefIdeal.τ).loc Cert.LogitsRefIdeal.main_arg1)) (m ((c.tc : Thread Cert.LogitsRefIdeal.nD Cert.LogitsRefIdeal.τ).loc Cert.LogitsRefIdeal.main_arg2)) (m ((c.tc : Thread Cert.LogitsRefIdeal.nD Cert.LogitsRefIdeal.τ).loc Cert.LogitsRefIdeal.main_arg3)) (m ((c.tc : Thread Cert.LogitsRefIdeal.nD Cert.LogitsRefIdeal.τ).loc Cert.LogitsRefIdeal.main_arg4)) (m ((c.tc : Thread Cert.LogitsRefIdeal.nD Cert.LogitsRefIdeal.τ).loc Cert.LogitsRefIdeal.main_arg5)) (m ((c.tc : Thread Cert.LogitsRefIdeal.nD Cert.LogitsRefIdeal.τ).loc Cert.LogitsRefIdeal.main_arg6)) (m ((c.tc : Thread Cert.LogitsRefIdeal.nD Cert.LogitsRefIdeal.τ).loc Cert.LogitsRefIdeal.main_arg7)) (m ((c.tc : Thread Cert.LogitsRefIdeal.nD Cert.LogitsRefIdeal.τ).loc Cert.LogitsRefIdeal.main_arg8))).1 = (fun _ => 1#1)
    ∧ (Cert.Pre_finite_router.fn (F := Ideal) (m ((c.tc : Thread Cert.LogitsRefIdeal.nD Cert.LogitsRefIdeal.τ).loc Cert.LogitsRefIdeal.main_arg0)) (m ((c.tc : Thread Cert.LogitsRefIdeal.nD Cert.LogitsRefIdeal.τ).loc Cert.LogitsRefIdeal.main_arg1)) (m ((c.tc : Thread Cert.LogitsRefIdeal.nD Cert.LogitsRefIdeal.τ).loc Cert.LogitsRefIdeal.main_arg2)) (m ((c.tc : Thread Cert.LogitsRefIdeal.nD Cert.LogitsRefIdeal.τ).loc Cert.LogitsRefIdeal.main_arg3)) (m ((c.tc : Thread Cert.LogitsRefIdeal.nD Cert.LogitsRefIdeal.τ).loc Cert.LogitsRefIdeal.main_arg4)) (m ((c.tc : Thread Cert.LogitsRefIdeal.nD Cert.LogitsRefIdeal.τ).loc Cert.LogitsRefIdeal.main_arg5)) (m ((c.tc : Thread Cert.LogitsRefIdeal.nD Cert.LogitsRefIdeal.τ).loc Cert.LogitsRefIdeal.main_arg6)) (m ((c.tc : Thread Cert.LogitsRefIdeal.nD Cert.LogitsRefIdeal.τ).loc Cert.LogitsRefIdeal.main_arg7)) (m ((c.tc : Thread Cert.LogitsRefIdeal.nD Cert.LogitsRefIdeal.τ).loc Cert.LogitsRefIdeal.main_arg8))).2.1 = (fun _ => 1#1)
    ∧ (Cert.Pre_finite_router.fn (F := Ideal) (m ((c.tc : Thread Cert.LogitsRefIdeal.nD Cert.LogitsRefIdeal.τ).loc Cert.LogitsRefIdeal.main_arg0)) (m ((c.tc : Thread Cert.LogitsRefIdeal.nD Cert.LogitsRefIdeal.τ).loc Cert.LogitsRefIdeal.main_arg1)) (m ((c.tc : Thread Cert.LogitsRefIdeal.nD Cert.LogitsRefIdeal.τ).loc Cert.LogitsRefIdeal.main_arg2)) (m ((c.tc : Thread Cert.LogitsRefIdeal.nD Cert.LogitsRefIdeal.τ).loc Cert.LogitsRefIdeal.main_arg3)) (m ((c.tc : Thread Cert.LogitsRefIdeal.nD Cert.LogitsRefIdeal.τ).loc Cert.LogitsRefIdeal.main_arg4)) (m ((c.tc : Thread Cert.LogitsRefIdeal.nD Cert.LogitsRefIdeal.τ).loc Cert.LogitsRefIdeal.main_arg5)) (m ((c.tc : Thread Cert.LogitsRefIdeal.nD Cert.LogitsRefIdeal.τ).loc Cert.LogitsRefIdeal.main_arg6)) (m ((c.tc : Thread Cert.LogitsRefIdeal.nD Cert.LogitsRefIdeal.τ).loc Cert.LogitsRefIdeal.main_arg7)) (m ((c.tc : Thread Cert.LogitsRefIdeal.nD Cert.LogitsRefIdeal.τ).loc Cert.LogitsRefIdeal.main_arg8))).2.2 = (fun _ => 1#1)

def quiescent_Mla [hMla : Cert.Mla.Facts] : Prop :=
  ∀ (m : (ℓ : Loc Cert.Mla.nD Cert.Mla.τ Cert.Mla.sig) → Buf (Elt Bits) ℓ) (g : Dev Cert.Mla.nD → PrngReg), Pre_Mla m →
    θ_run (Cert.Mla.defs (F := Bits)) (onTc (τ := Cert.Mla.τ) (Cert.Mla.main (F := Bits))) ⟨m, fun _ => 0, g⟩ (fun r => (∀ c : Dev Cert.Mla.nD,
      r.2.mem ((c.tc : Thread Cert.Mla.nD Cert.Mla.τ).loc Cert.Mla.main_arg0) = m ((c.tc : Thread Cert.Mla.nD Cert.Mla.τ).loc Cert.Mla.main_arg0)
      ∧ r.2.mem ((c.tc : Thread Cert.Mla.nD Cert.Mla.τ).loc Cert.Mla.main_arg1) = m ((c.tc : Thread Cert.Mla.nD Cert.Mla.τ).loc Cert.Mla.main_arg1)
      ∧ r.2.mem ((c.tc : Thread Cert.Mla.nD Cert.Mla.τ).loc Cert.Mla.main_arg2) = m ((c.tc : Thread Cert.Mla.nD Cert.Mla.τ).loc Cert.Mla.main_arg2))
      ∧ r.2.sem = fun _ => 0)

def quiescent_MlaIdeal [hMlaIdeal : Cert.MlaIdeal.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaIdeal_pre_finite_scores [hMlaIdeal : Cert.MlaIdeal.Facts] [hPre_finite_scores : Cert.Pre_finite_scores.Facts] : Prop :=
  ∀ (m : (ℓ : Loc Cert.MlaIdeal.nD Cert.MlaIdeal.τ Cert.MlaIdeal.sig) → Buf (Elt Ideal) ℓ) (g : Dev Cert.MlaIdeal.nD → PrngReg), Pre_MlaIdeal_finite_scores m →
    θ_run (Cert.MlaIdeal.defs (F := Ideal)) (onTc (τ := Cert.MlaIdeal.τ) (Cert.MlaIdeal.main (F := Ideal))) ⟨m, fun _ => 0, g⟩ (fun r => (∀ c : Dev Cert.MlaIdeal.nD,
      r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
      ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
      ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ r.2.sem = fun _ => 0)

def quiescent_MlaRefIdeal [hMlaRefIdeal : Cert.MlaRefIdeal.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_MlaRefIdeal_pre_finite_scores [hMlaRefIdeal : Cert.MlaRefIdeal.Facts] [hPre_finite_scores : Cert.Pre_finite_scores.Facts] : Prop :=
  ∀ (m : (ℓ : Loc Cert.MlaRefIdeal.nD Cert.MlaRefIdeal.τ Cert.MlaRefIdeal.sig) → Buf (Elt Ideal) ℓ) (g : Dev Cert.MlaRefIdeal.nD → PrngReg), Pre_MlaRefIdeal_finite_scores m →
    θ_run (Cert.MlaRefIdeal.defs (F := Ideal)) (onTc (τ := Cert.MlaRefIdeal.τ) (Cert.MlaRefIdeal.main (F := Ideal))) ⟨m, fun _ => 0, g⟩ (fun r => (∀ c : Dev Cert.MlaRefIdeal.nD,
      r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
      ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
      ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0)

def quiescent_Gqa [hGqa : Cert.Gqa.Facts] : Prop :=
  ∀ (m : (ℓ : Loc Cert.Gqa.nD Cert.Gqa.τ Cert.Gqa.sig) → Buf (Elt Bits) ℓ) (g : Dev Cert.Gqa.nD → PrngReg), Pre_Gqa m →
    θ_run (Cert.Gqa.defs (F := Bits)) (onTc (τ := Cert.Gqa.τ) (Cert.Gqa.main (F := Bits))) ⟨m, fun _ => 0, g⟩ (fun r => (∀ c : Dev Cert.Gqa.nD,
      r.2.mem ((c.tc : Thread Cert.Gqa.nD Cert.Gqa.τ).loc Cert.Gqa.main_arg0) = m ((c.tc : Thread Cert.Gqa.nD Cert.Gqa.τ).loc Cert.Gqa.main_arg0)
      ∧ r.2.mem ((c.tc : Thread Cert.Gqa.nD Cert.Gqa.τ).loc Cert.Gqa.main_arg1) = m ((c.tc : Thread Cert.Gqa.nD Cert.Gqa.τ).loc Cert.Gqa.main_arg1)
      ∧ r.2.mem ((c.tc : Thread Cert.Gqa.nD Cert.Gqa.τ).loc Cert.Gqa.main_arg2) = m ((c.tc : Thread Cert.Gqa.nD Cert.Gqa.τ).loc Cert.Gqa.main_arg2))
      ∧ r.2.sem = fun _ => 0)

def quiescent_GqaIdeal [hGqaIdeal : Cert.GqaIdeal.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaIdeal_pre_finite_gqa [hGqaIdeal : Cert.GqaIdeal.Facts] [hPre_finite_gqa : Cert.Pre_finite_gqa.Facts] : Prop :=
  ∀ (m : (ℓ : Loc Cert.GqaIdeal.nD Cert.GqaIdeal.τ Cert.GqaIdeal.sig) → Buf (Elt Ideal) ℓ) (g : Dev Cert.GqaIdeal.nD → PrngReg), Pre_GqaIdeal_finite_gqa m →
    θ_run (Cert.GqaIdeal.defs (F := Ideal)) (onTc (τ := Cert.GqaIdeal.τ) (Cert.GqaIdeal.main (F := Ideal))) ⟨m, fun _ => 0, g⟩ (fun r => (∀ c : Dev Cert.GqaIdeal.nD,
      r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
      ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
      ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ r.2.sem = fun _ => 0)

def quiescent_GqaRefIdeal [hGqaRefIdeal : Cert.GqaRefIdeal.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_GqaRefIdeal_pre_finite_gqa [hGqaRefIdeal : Cert.GqaRefIdeal.Facts] [hPre_finite_gqa : Cert.Pre_finite_gqa.Facts] : Prop :=
  ∀ (m : (ℓ : Loc Cert.GqaRefIdeal.nD Cert.GqaRefIdeal.τ Cert.GqaRefIdeal.sig) → Buf (Elt Ideal) ℓ) (g : Dev Cert.GqaRefIdeal.nD → PrngReg), Pre_GqaRefIdeal_finite_gqa m →
    θ_run (Cert.GqaRefIdeal.defs (F := Ideal)) (onTc (τ := Cert.GqaRefIdeal.τ) (Cert.GqaRefIdeal.main (F := Ideal))) ⟨m, fun _ => 0, g⟩ (fun r => (∀ c : Dev Cert.GqaRefIdeal.nD,
      r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
      ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
      ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0)

def quiescent_Moe [hMoe : Cert.Moe.Facts] [hPre_plan_in_range : Cert.Pre_plan_in_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5)
      ∧ r.2.mem ((c.tc : Thread Cert.Moe.nD Cert.Moe.τ).loc Cert.Moe.main_arg6) = m ((c.tc : Thread Cert.Moe.nD Cert.Moe.τ).loc Cert.Moe.main_arg6)
      ∧ r.2.mem ((c.tc : Thread Cert.Moe.nD Cert.Moe.τ).loc Cert.Moe.main_arg7) = m ((c.tc : Thread Cert.Moe.nD Cert.Moe.τ).loc Cert.Moe.main_arg7))
      ∧ r.2.sem = fun _ => 0)

def quiescent_MoeIdeal [hMoeIdeal : Cert.MoeIdeal.Facts] [hPre_plan_in_range : Cert.Pre_plan_in_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
      ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
      ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_MoeRefIdeal_pre_plan_in_range [hMoeRefIdeal : Cert.MoeRefIdeal.Facts] [hPre_plan_in_range : Cert.Pre_plan_in_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_plan_in_range m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
      ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
      ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_Shared [hShared : Cert.Shared.Facts] : Prop :=
  ∀ (m : (ℓ : Loc Cert.Shared.nD Cert.Shared.τ Cert.Shared.sig) → Buf (Elt Bits) ℓ) (g : Dev Cert.Shared.nD → PrngReg), Pre_Shared m →
    θ_run (Cert.Shared.defs (F := Bits)) (onTc (τ := Cert.Shared.τ) (Cert.Shared.main (F := Bits))) ⟨m, fun _ => 0, g⟩ (fun r => (∀ c : Dev Cert.Shared.nD,
      r.2.mem ((c.tc : Thread Cert.Shared.nD Cert.Shared.τ).loc Cert.Shared.main_arg0) = m ((c.tc : Thread Cert.Shared.nD Cert.Shared.τ).loc Cert.Shared.main_arg0)
      ∧ r.2.mem ((c.tc : Thread Cert.Shared.nD Cert.Shared.τ).loc Cert.Shared.main_arg1) = m ((c.tc : Thread Cert.Shared.nD Cert.Shared.τ).loc Cert.Shared.main_arg1)
      ∧ r.2.mem ((c.tc : Thread Cert.Shared.nD Cert.Shared.τ).loc Cert.Shared.main_arg2) = m ((c.tc : Thread Cert.Shared.nD Cert.Shared.τ).loc Cert.Shared.main_arg2)
      ∧ r.2.mem ((c.tc : Thread Cert.Shared.nD Cert.Shared.τ).loc Cert.Shared.main_arg3) = m ((c.tc : Thread Cert.Shared.nD Cert.Shared.τ).loc Cert.Shared.main_arg3)
      ∧ r.2.mem ((c.tc : Thread Cert.Shared.nD Cert.Shared.τ).loc Cert.Shared.main_arg4) = m ((c.tc : Thread Cert.Shared.nD Cert.Shared.τ).loc Cert.Shared.main_arg4)
      ∧ r.2.mem ((c.tc : Thread Cert.Shared.nD Cert.Shared.τ).loc Cert.Shared.main_arg5) = m ((c.tc : Thread Cert.Shared.nD Cert.Shared.τ).loc Cert.Shared.main_arg5)
      ∧ r.2.mem ((c.tc : Thread Cert.Shared.nD Cert.Shared.τ).loc Cert.Shared.main_arg6) = m ((c.tc : Thread Cert.Shared.nD Cert.Shared.τ).loc Cert.Shared.main_arg6)
      ∧ r.2.mem ((c.tc : Thread Cert.Shared.nD Cert.Shared.τ).loc Cert.Shared.main_arg7) = m ((c.tc : Thread Cert.Shared.nD Cert.Shared.τ).loc Cert.Shared.main_arg7))
      ∧ r.2.sem = fun _ => 0)

def quiescent_SharedIdeal [hSharedIdeal : Cert.SharedIdeal.Facts] : Prop :=
  ∀ (m : (ℓ : Loc Cert.SharedIdeal.nD Cert.SharedIdeal.τ Cert.SharedIdeal.sig) → Buf (Elt Ideal) ℓ) (g : Dev Cert.SharedIdeal.nD → PrngReg), Pre_SharedIdeal m →
    θ_run (Cert.SharedIdeal.defs (F := Ideal)) (onTc (τ := Cert.SharedIdeal.τ) (Cert.SharedIdeal.main (F := Ideal))) ⟨m, fun _ => 0, g⟩ (fun r => (∀ c : Dev Cert.SharedIdeal.nD,
      r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
      ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
      ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
      ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
      ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
      ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5)
      ∧ r.2.mem ((c.tc : Thread Cert.SharedIdeal.nD Cert.SharedIdeal.τ).loc Cert.SharedIdeal.main_arg6) = m ((c.tc : Thread Cert.SharedIdeal.nD Cert.SharedIdeal.τ).loc Cert.SharedIdeal.main_arg6)
      ∧ r.2.mem ((c.tc : Thread Cert.SharedIdeal.nD Cert.SharedIdeal.τ).loc Cert.SharedIdeal.main_arg7) = m ((c.tc : Thread Cert.SharedIdeal.nD Cert.SharedIdeal.τ).loc Cert.SharedIdeal.main_arg7))
      ∧ r.2.sem = fun _ => 0)

def quiescent_SharedRefIdeal [hSharedRefIdeal : Cert.SharedRefIdeal.Facts] : Prop :=
  ∀ (m : (ℓ : Loc Cert.SharedRefIdeal.nD Cert.SharedRefIdeal.τ Cert.SharedRefIdeal.sig) → Buf (Elt Ideal) ℓ) (g : Dev Cert.SharedRefIdeal.nD → PrngReg), Pre_SharedRefIdeal m →
    θ_run (Cert.SharedRefIdeal.defs (F := Ideal)) (onTc (τ := Cert.SharedRefIdeal.τ) (Cert.SharedRefIdeal.main (F := Ideal))) ⟨m, fun _ => 0, g⟩ (fun r => (∀ c : Dev Cert.SharedRefIdeal.nD,
      r.2.mem ((c.tc : Thread Cert.SharedRefIdeal.nD Cert.SharedRefIdeal.τ).loc Cert.SharedRefIdeal.main_arg0) = m ((c.tc : Thread Cert.SharedRefIdeal.nD Cert.SharedRefIdeal.τ).loc Cert.SharedRefIdeal.main_arg0)
      ∧ r.2.mem ((c.tc : Thread Cert.SharedRefIdeal.nD Cert.SharedRefIdeal.τ).loc Cert.SharedRefIdeal.main_arg1) = m ((c.tc : Thread Cert.SharedRefIdeal.nD Cert.SharedRefIdeal.τ).loc Cert.SharedRefIdeal.main_arg1)
      ∧ r.2.mem ((c.tc : Thread Cert.SharedRefIdeal.nD Cert.SharedRefIdeal.τ).loc Cert.SharedRefIdeal.main_arg2) = m ((c.tc : Thread Cert.SharedRefIdeal.nD Cert.SharedRefIdeal.τ).loc Cert.SharedRefIdeal.main_arg2)
      ∧ r.2.mem ((c.tc : Thread Cert.SharedRefIdeal.nD Cert.SharedRefIdeal.τ).loc Cert.SharedRefIdeal.main_arg3) = m ((c.tc : Thread Cert.SharedRefIdeal.nD Cert.SharedRefIdeal.τ).loc Cert.SharedRefIdeal.main_arg3)
      ∧ r.2.mem ((c.tc : Thread Cert.SharedRefIdeal.nD Cert.SharedRefIdeal.τ).loc Cert.SharedRefIdeal.main_arg4) = m ((c.tc : Thread Cert.SharedRefIdeal.nD Cert.SharedRefIdeal.τ).loc Cert.SharedRefIdeal.main_arg4)
      ∧ r.2.mem ((c.tc : Thread Cert.SharedRefIdeal.nD Cert.SharedRefIdeal.τ).loc Cert.SharedRefIdeal.main_arg5) = m ((c.tc : Thread Cert.SharedRefIdeal.nD Cert.SharedRefIdeal.τ).loc Cert.SharedRefIdeal.main_arg5)
      ∧ r.2.mem ((c.tc : Thread Cert.SharedRefIdeal.nD Cert.SharedRefIdeal.τ).loc Cert.SharedRefIdeal.main_arg6) = m ((c.tc : Thread Cert.SharedRefIdeal.nD Cert.SharedRefIdeal.τ).loc Cert.SharedRefIdeal.main_arg6)
      ∧ r.2.mem ((c.tc : Thread Cert.SharedRefIdeal.nD Cert.SharedRefIdeal.τ).loc Cert.SharedRefIdeal.main_arg7) = m ((c.tc : Thread Cert.SharedRefIdeal.nD Cert.SharedRefIdeal.τ).loc Cert.SharedRefIdeal.main_arg7))
      ∧ r.2.sem = fun _ => 0)

def quiescent_MlaQ [hMlaQ : Cert.MlaQ.Facts] : Prop :=
  ∀ (m : (ℓ : Loc Cert.MlaQ.nD Cert.MlaQ.τ Cert.MlaQ.sig) → Buf (Elt Bits) ℓ) (g : Dev Cert.MlaQ.nD → PrngReg), Pre_MlaQ m →
    θ_run (Cert.MlaQ.defs (F := Bits)) (onTc (τ := Cert.MlaQ.τ) (Cert.MlaQ.main (F := Bits))) ⟨m, fun _ => 0, g⟩ (fun r => (∀ c : Dev Cert.MlaQ.nD,
      r.2.mem ((c.tc : Thread Cert.MlaQ.nD Cert.MlaQ.τ).loc Cert.MlaQ.main_arg0) = m ((c.tc : Thread Cert.MlaQ.nD Cert.MlaQ.τ).loc Cert.MlaQ.main_arg0)
      ∧ r.2.mem ((c.tc : Thread Cert.MlaQ.nD Cert.MlaQ.τ).loc Cert.MlaQ.main_arg1) = m ((c.tc : Thread Cert.MlaQ.nD Cert.MlaQ.τ).loc Cert.MlaQ.main_arg1)
      ∧ r.2.mem ((c.tc : Thread Cert.MlaQ.nD Cert.MlaQ.τ).loc Cert.MlaQ.main_arg2) = m ((c.tc : Thread Cert.MlaQ.nD Cert.MlaQ.τ).loc Cert.MlaQ.main_arg2))
      ∧ r.2.sem = fun _ => 0)

def quiescent_MlaQIdeal [hMlaQIdeal : Cert.MlaQIdeal.Facts] : Prop :=
  ∀ (m : (ℓ : Loc Cert.MlaQIdeal.nD Cert.MlaQIdeal.τ Cert.MlaQIdeal.sig) → Buf (Elt Ideal) ℓ) (g : Dev Cert.MlaQIdeal.nD → PrngReg), Pre_MlaQIdeal m →
    θ_run (Cert.MlaQIdeal.defs (F := Ideal)) (onTc (τ := Cert.MlaQIdeal.τ) (Cert.MlaQIdeal.main (F := Ideal))) ⟨m, fun _ => 0, g⟩ (fun r => (∀ c : Dev Cert.MlaQIdeal.nD,
      r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
      ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1)
      ∧ r.2.mem ((c.tc : Thread Cert.MlaQIdeal.nD Cert.MlaQIdeal.τ).loc Cert.MlaQIdeal.main_arg2) = m ((c.tc : Thread Cert.MlaQIdeal.nD Cert.MlaQIdeal.τ).loc Cert.MlaQIdeal.main_arg2))
      ∧ r.2.sem = fun _ => 0)

def quiescent_MlaQRefIdeal [hMlaQRefIdeal : Cert.MlaQRefIdeal.Facts] : Prop :=
  ∀ (m : (ℓ : Loc Cert.MlaQRefIdeal.nD Cert.MlaQRefIdeal.τ Cert.MlaQRefIdeal.sig) → Buf (Elt Ideal) ℓ) (g : Dev Cert.MlaQRefIdeal.nD → PrngReg), Pre_MlaQRefIdeal m →
    θ_run (Cert.MlaQRefIdeal.defs (F := Ideal)) (onTc (τ := Cert.MlaQRefIdeal.τ) (Cert.MlaQRefIdeal.main (F := Ideal))) ⟨m, fun _ => 0, g⟩ (fun r => (∀ c : Dev Cert.MlaQRefIdeal.nD,
      r.2.mem ((c.tc : Thread Cert.MlaQRefIdeal.nD Cert.MlaQRefIdeal.τ).loc Cert.MlaQRefIdeal.main_arg0) = m ((c.tc : Thread Cert.MlaQRefIdeal.nD Cert.MlaQRefIdeal.τ).loc Cert.MlaQRefIdeal.main_arg0)
      ∧ r.2.mem ((c.tc : Thread Cert.MlaQRefIdeal.nD Cert.MlaQRefIdeal.τ).loc Cert.MlaQRefIdeal.main_arg1) = m ((c.tc : Thread Cert.MlaQRefIdeal.nD Cert.MlaQRefIdeal.τ).loc Cert.MlaQRefIdeal.main_arg1)
      ∧ r.2.mem ((c.tc : Thread Cert.MlaQRefIdeal.nD Cert.MlaQRefIdeal.τ).loc Cert.MlaQRefIdeal.main_arg2) = m ((c.tc : Thread Cert.MlaQRefIdeal.nD Cert.MlaQRefIdeal.τ).loc Cert.MlaQRefIdeal.main_arg2))
      ∧ r.2.sem = fun _ => 0)

def quiescent_MlaKV [hMlaKV : Cert.MlaKV.Facts] : Prop :=
  ∀ (m : (ℓ : Loc Cert.MlaKV.nD Cert.MlaKV.τ Cert.MlaKV.sig) → Buf (Elt Bits) ℓ) (g : Dev Cert.MlaKV.nD → PrngReg), Pre_MlaKV m →
    θ_run (Cert.MlaKV.defs (F := Bits)) (onTc (τ := Cert.MlaKV.τ) (Cert.MlaKV.main (F := Bits))) ⟨m, fun _ => 0, g⟩ (fun r => (∀ c : Dev Cert.MlaKV.nD,
      r.2.mem ((c.tc : Thread Cert.MlaKV.nD Cert.MlaKV.τ).loc Cert.MlaKV.main_arg0) = m ((c.tc : Thread Cert.MlaKV.nD Cert.MlaKV.τ).loc Cert.MlaKV.main_arg0)
      ∧ r.2.mem ((c.tc : Thread Cert.MlaKV.nD Cert.MlaKV.τ).loc Cert.MlaKV.main_arg1) = m ((c.tc : Thread Cert.MlaKV.nD Cert.MlaKV.τ).loc Cert.MlaKV.main_arg1)
      ∧ r.2.mem ((c.tc : Thread Cert.MlaKV.nD Cert.MlaKV.τ).loc Cert.MlaKV.main_arg2) = m ((c.tc : Thread Cert.MlaKV.nD Cert.MlaKV.τ).loc Cert.MlaKV.main_arg2))
      ∧ r.2.sem = fun _ => 0)

def quiescent_MlaKVIdeal [hMlaKVIdeal : Cert.MlaKVIdeal.Facts] : Prop :=
  ∀ (m : (ℓ : Loc Cert.MlaKVIdeal.nD Cert.MlaKVIdeal.τ Cert.MlaKVIdeal.sig) → Buf (Elt Ideal) ℓ) (g : Dev Cert.MlaKVIdeal.nD → PrngReg), Pre_MlaKVIdeal m →
    θ_run (Cert.MlaKVIdeal.defs (F := Ideal)) (onTc (τ := Cert.MlaKVIdeal.τ) (Cert.MlaKVIdeal.main (F := Ideal))) ⟨m, fun _ => 0, g⟩ (fun r => (∀ c : Dev Cert.MlaKVIdeal.nD,
      r.2.mem ((c.tc : Thread Cert.MlaKVIdeal.nD Cert.MlaKVIdeal.τ).loc Cert.MlaKVIdeal.main_arg0) = m ((c.tc : Thread Cert.MlaKVIdeal.nD Cert.MlaKVIdeal.τ).loc Cert.MlaKVIdeal.main_arg0)
      ∧ r.2.mem ((c.tc : Thread Cert.MlaKVIdeal.nD Cert.MlaKVIdeal.τ).loc Cert.MlaKVIdeal.main_arg1) = m ((c.tc : Thread Cert.MlaKVIdeal.nD Cert.MlaKVIdeal.τ).loc Cert.MlaKVIdeal.main_arg1)
      ∧ r.2.mem ((c.tc : Thread Cert.MlaKVIdeal.nD Cert.MlaKVIdeal.τ).loc Cert.MlaKVIdeal.main_arg2) = m ((c.tc : Thread Cert.MlaKVIdeal.nD Cert.MlaKVIdeal.τ).loc Cert.MlaKVIdeal.main_arg2))
      ∧ r.2.sem = fun _ => 0)

def quiescent_MlaKVRefIdeal [hMlaKVRefIdeal : Cert.MlaKVRefIdeal.Facts] : Prop :=
  ∀ (m : (ℓ : Loc Cert.MlaKVRefIdeal.nD Cert.MlaKVRefIdeal.τ Cert.MlaKVRefIdeal.sig) → Buf (Elt Ideal) ℓ) (g : Dev Cert.MlaKVRefIdeal.nD → PrngReg), Pre_MlaKVRefIdeal m →
    θ_run (Cert.MlaKVRefIdeal.defs (F := Ideal)) (onTc (τ := Cert.MlaKVRefIdeal.τ) (Cert.MlaKVRefIdeal.main (F := Ideal))) ⟨m, fun _ => 0, g⟩ (fun r => (∀ c : Dev Cert.MlaKVRefIdeal.nD,
      r.2.mem ((c.tc : Thread Cert.MlaKVRefIdeal.nD Cert.MlaKVRefIdeal.τ).loc Cert.MlaKVRefIdeal.main_arg0) = m ((c.tc : Thread Cert.MlaKVRefIdeal.nD Cert.MlaKVRefIdeal.τ).loc Cert.MlaKVRefIdeal.main_arg0)
      ∧ r.2.mem ((c.tc : Thread Cert.MlaKVRefIdeal.nD Cert.MlaKVRefIdeal.τ).loc Cert.MlaKVRefIdeal.main_arg1) = m ((c.tc : Thread Cert.MlaKVRefIdeal.nD Cert.MlaKVRefIdeal.τ).loc Cert.MlaKVRefIdeal.main_arg1)
      ∧ r.2.mem ((c.tc : Thread Cert.MlaKVRefIdeal.nD Cert.MlaKVRefIdeal.τ).loc Cert.MlaKVRefIdeal.main_arg2) = m ((c.tc : Thread Cert.MlaKVRefIdeal.nD Cert.MlaKVRefIdeal.τ).loc Cert.MlaKVRefIdeal.main_arg2))
      ∧ r.2.sem = fun _ => 0)

def quiescent_GqaQK [hGqaQK : Cert.GqaQK.Facts] : Prop :=
  ∀ (m : (ℓ : Loc Cert.GqaQK.nD Cert.GqaQK.τ Cert.GqaQK.sig) → Buf (Elt Bits) ℓ) (g : Dev Cert.GqaQK.nD → PrngReg), Pre_GqaQK m →
    θ_run (Cert.GqaQK.defs (F := Bits)) (onTc (τ := Cert.GqaQK.τ) (Cert.GqaQK.main (F := Bits))) ⟨m, fun _ => 0, g⟩ (fun r => (∀ c : Dev Cert.GqaQK.nD,
      r.2.mem ((c.tc : Thread Cert.GqaQK.nD Cert.GqaQK.τ).loc Cert.GqaQK.main_arg0) = m ((c.tc : Thread Cert.GqaQK.nD Cert.GqaQK.τ).loc Cert.GqaQK.main_arg0)
      ∧ r.2.mem ((c.tc : Thread Cert.GqaQK.nD Cert.GqaQK.τ).loc Cert.GqaQK.main_arg1) = m ((c.tc : Thread Cert.GqaQK.nD Cert.GqaQK.τ).loc Cert.GqaQK.main_arg1)
      ∧ r.2.mem ((c.tc : Thread Cert.GqaQK.nD Cert.GqaQK.τ).loc Cert.GqaQK.main_arg2) = m ((c.tc : Thread Cert.GqaQK.nD Cert.GqaQK.τ).loc Cert.GqaQK.main_arg2))
      ∧ r.2.sem = fun _ => 0)

def quiescent_GqaQKIdeal [hGqaQKIdeal : Cert.GqaQKIdeal.Facts] : Prop :=
  ∀ (m : (ℓ : Loc Cert.GqaQKIdeal.nD Cert.GqaQKIdeal.τ Cert.GqaQKIdeal.sig) → Buf (Elt Ideal) ℓ) (g : Dev Cert.GqaQKIdeal.nD → PrngReg), Pre_GqaQKIdeal m →
    θ_run (Cert.GqaQKIdeal.defs (F := Ideal)) (onTc (τ := Cert.GqaQKIdeal.τ) (Cert.GqaQKIdeal.main (F := Ideal))) ⟨m, fun _ => 0, g⟩ (fun r => (∀ c : Dev Cert.GqaQKIdeal.nD,
      r.2.mem ((c.tc : Thread Cert.GqaQKIdeal.nD Cert.GqaQKIdeal.τ).loc Cert.GqaQKIdeal.main_arg0) = m ((c.tc : Thread Cert.GqaQKIdeal.nD Cert.GqaQKIdeal.τ).loc Cert.GqaQKIdeal.main_arg0)
      ∧ r.2.mem ((c.tc : Thread Cert.GqaQKIdeal.nD Cert.GqaQKIdeal.τ).loc Cert.GqaQKIdeal.main_arg1) = m ((c.tc : Thread Cert.GqaQKIdeal.nD Cert.GqaQKIdeal.τ).loc Cert.GqaQKIdeal.main_arg1)
      ∧ r.2.mem ((c.tc : Thread Cert.GqaQKIdeal.nD Cert.GqaQKIdeal.τ).loc Cert.GqaQKIdeal.main_arg2) = m ((c.tc : Thread Cert.GqaQKIdeal.nD Cert.GqaQKIdeal.τ).loc Cert.GqaQKIdeal.main_arg2))
      ∧ r.2.sem = fun _ => 0)

def quiescent_GqaQKRefIdeal [hGqaQKRefIdeal : Cert.GqaQKRefIdeal.Facts] : Prop :=
  ∀ (m : (ℓ : Loc Cert.GqaQKRefIdeal.nD Cert.GqaQKRefIdeal.τ Cert.GqaQKRefIdeal.sig) → Buf (Elt Ideal) ℓ) (g : Dev Cert.GqaQKRefIdeal.nD → PrngReg), Pre_GqaQKRefIdeal m →
    θ_run (Cert.GqaQKRefIdeal.defs (F := Ideal)) (onTc (τ := Cert.GqaQKRefIdeal.τ) (Cert.GqaQKRefIdeal.main (F := Ideal))) ⟨m, fun _ => 0, g⟩ (fun r => (∀ c : Dev Cert.GqaQKRefIdeal.nD,
      r.2.mem ((c.tc : Thread Cert.GqaQKRefIdeal.nD Cert.GqaQKRefIdeal.τ).loc Cert.GqaQKRefIdeal.main_arg0) = m ((c.tc : Thread Cert.GqaQKRefIdeal.nD Cert.GqaQKRefIdeal.τ).loc Cert.GqaQKRefIdeal.main_arg0)
      ∧ r.2.mem ((c.tc : Thread Cert.GqaQKRefIdeal.nD Cert.GqaQKRefIdeal.τ).loc Cert.GqaQKRefIdeal.main_arg1) = m ((c.tc : Thread Cert.GqaQKRefIdeal.nD Cert.GqaQKRefIdeal.τ).loc Cert.GqaQKRefIdeal.main_arg1)
      ∧ r.2.mem ((c.tc : Thread Cert.GqaQKRefIdeal.nD Cert.GqaQKRefIdeal.τ).loc Cert.GqaQKRefIdeal.main_arg2) = m ((c.tc : Thread Cert.GqaQKRefIdeal.nD Cert.GqaQKRefIdeal.τ).loc Cert.GqaQKRefIdeal.main_arg2))
      ∧ r.2.sem = fun _ => 0)

def quiescent_MlaCtx [hMlaCtx : Cert.MlaCtx.Facts] : Prop :=
  ∀ (m : (ℓ : Loc Cert.MlaCtx.nD Cert.MlaCtx.τ Cert.MlaCtx.sig) → Buf (Elt Bits) ℓ) (g : Dev Cert.MlaCtx.nD → PrngReg), Pre_MlaCtx m →
    θ_run (Cert.MlaCtx.defs (F := Bits)) (onTc (τ := Cert.MlaCtx.τ) (Cert.MlaCtx.main (F := Bits))) ⟨m, fun _ => 0, g⟩ (fun r => (∀ c : Dev Cert.MlaCtx.nD,
      r.2.mem ((c.tc : Thread Cert.MlaCtx.nD Cert.MlaCtx.τ).loc Cert.MlaCtx.main_arg0) = m ((c.tc : Thread Cert.MlaCtx.nD Cert.MlaCtx.τ).loc Cert.MlaCtx.main_arg0)
      ∧ r.2.mem ((c.tc : Thread Cert.MlaCtx.nD Cert.MlaCtx.τ).loc Cert.MlaCtx.main_arg1) = m ((c.tc : Thread Cert.MlaCtx.nD Cert.MlaCtx.τ).loc Cert.MlaCtx.main_arg1)
      ∧ r.2.mem ((c.tc : Thread Cert.MlaCtx.nD Cert.MlaCtx.τ).loc Cert.MlaCtx.main_arg2) = m ((c.tc : Thread Cert.MlaCtx.nD Cert.MlaCtx.τ).loc Cert.MlaCtx.main_arg2))
      ∧ r.2.sem = fun _ => 0)

def quiescent_MlaCtxIdeal [hMlaCtxIdeal : Cert.MlaCtxIdeal.Facts] : Prop :=
  ∀ (m : (ℓ : Loc Cert.MlaCtxIdeal.nD Cert.MlaCtxIdeal.τ Cert.MlaCtxIdeal.sig) → Buf (Elt Ideal) ℓ) (g : Dev Cert.MlaCtxIdeal.nD → PrngReg), Pre_MlaCtxIdeal m →
    θ_run (Cert.MlaCtxIdeal.defs (F := Ideal)) (onTc (τ := Cert.MlaCtxIdeal.τ) (Cert.MlaCtxIdeal.main (F := Ideal))) ⟨m, fun _ => 0, g⟩ (fun r => (∀ c : Dev Cert.MlaCtxIdeal.nD,
      r.2.mem ((c.tc : Thread Cert.MlaCtxIdeal.nD Cert.MlaCtxIdeal.τ).loc Cert.MlaCtxIdeal.main_arg0) = m ((c.tc : Thread Cert.MlaCtxIdeal.nD Cert.MlaCtxIdeal.τ).loc Cert.MlaCtxIdeal.main_arg0)
      ∧ r.2.mem ((c.tc : Thread Cert.MlaCtxIdeal.nD Cert.MlaCtxIdeal.τ).loc Cert.MlaCtxIdeal.main_arg1) = m ((c.tc : Thread Cert.MlaCtxIdeal.nD Cert.MlaCtxIdeal.τ).loc Cert.MlaCtxIdeal.main_arg1)
      ∧ r.2.mem ((c.tc : Thread Cert.MlaCtxIdeal.nD Cert.MlaCtxIdeal.τ).loc Cert.MlaCtxIdeal.main_arg2) = m ((c.tc : Thread Cert.MlaCtxIdeal.nD Cert.MlaCtxIdeal.τ).loc Cert.MlaCtxIdeal.main_arg2))
      ∧ r.2.sem = fun _ => 0)

def quiescent_MlaCtxIdeal_pre_finite_scores [hMlaCtxIdeal : Cert.MlaCtxIdeal.Facts] [hPre_finite_scores : Cert.Pre_finite_scores.Facts] : Prop :=
  ∀ (m : (ℓ : Loc Cert.MlaCtxIdeal.nD Cert.MlaCtxIdeal.τ Cert.MlaCtxIdeal.sig) → Buf (Elt Ideal) ℓ) (g : Dev Cert.MlaCtxIdeal.nD → PrngReg), Pre_MlaCtxIdeal_finite_scores m →
    θ_run (Cert.MlaCtxIdeal.defs (F := Ideal)) (onTc (τ := Cert.MlaCtxIdeal.τ) (Cert.MlaCtxIdeal.main (F := Ideal))) ⟨m, fun _ => 0, g⟩ (fun r => (∀ c : Dev Cert.MlaCtxIdeal.nD,
      r.2.mem ((c.tc : Thread Cert.MlaCtxIdeal.nD Cert.MlaCtxIdeal.τ).loc Cert.MlaCtxIdeal.main_arg0) = m ((c.tc : Thread Cert.MlaCtxIdeal.nD Cert.MlaCtxIdeal.τ).loc Cert.MlaCtxIdeal.main_arg0)
      ∧ r.2.mem ((c.tc : Thread Cert.MlaCtxIdeal.nD Cert.MlaCtxIdeal.τ).loc Cert.MlaCtxIdeal.main_arg1) = m ((c.tc : Thread Cert.MlaCtxIdeal.nD Cert.MlaCtxIdeal.τ).loc Cert.MlaCtxIdeal.main_arg1)
      ∧ r.2.mem ((c.tc : Thread Cert.MlaCtxIdeal.nD Cert.MlaCtxIdeal.τ).loc Cert.MlaCtxIdeal.main_arg2) = m ((c.tc : Thread Cert.MlaCtxIdeal.nD Cert.MlaCtxIdeal.τ).loc Cert.MlaCtxIdeal.main_arg2))
      ∧ r.2.sem = fun _ => 0)

def quiescent_MlaCtxRefIdeal [hMlaCtxRefIdeal : Cert.MlaCtxRefIdeal.Facts] : Prop :=
  ∀ (m : (ℓ : Loc Cert.MlaCtxRefIdeal.nD Cert.MlaCtxRefIdeal.τ Cert.MlaCtxRefIdeal.sig) → Buf (Elt Ideal) ℓ) (g : Dev Cert.MlaCtxRefIdeal.nD → PrngReg), Pre_MlaCtxRefIdeal m →
    θ_run (Cert.MlaCtxRefIdeal.defs (F := Ideal)) (onTc (τ := Cert.MlaCtxRefIdeal.τ) (Cert.MlaCtxRefIdeal.main (F := Ideal))) ⟨m, fun _ => 0, g⟩ (fun r => (∀ c : Dev Cert.MlaCtxRefIdeal.nD,
      r.2.mem ((c.tc : Thread Cert.MlaCtxRefIdeal.nD Cert.MlaCtxRefIdeal.τ).loc Cert.MlaCtxRefIdeal.main_arg0) = m ((c.tc : Thread Cert.MlaCtxRefIdeal.nD Cert.MlaCtxRefIdeal.τ).loc Cert.MlaCtxRefIdeal.main_arg0)
      ∧ r.2.mem ((c.tc : Thread Cert.MlaCtxRefIdeal.nD Cert.MlaCtxRefIdeal.τ).loc Cert.MlaCtxRefIdeal.main_arg1) = m ((c.tc : Thread Cert.MlaCtxRefIdeal.nD Cert.MlaCtxRefIdeal.τ).loc Cert.MlaCtxRefIdeal.main_arg1)
      ∧ r.2.mem ((c.tc : Thread Cert.MlaCtxRefIdeal.nD Cert.MlaCtxRefIdeal.τ).loc Cert.MlaCtxRefIdeal.main_arg2) = m ((c.tc : Thread Cert.MlaCtxRefIdeal.nD Cert.MlaCtxRefIdeal.τ).loc Cert.MlaCtxRefIdeal.main_arg2))
      ∧ r.2.sem = fun _ => 0)

def quiescent_MlaCtxRefIdeal_pre_finite_scores [hMlaCtxRefIdeal : Cert.MlaCtxRefIdeal.Facts] [hPre_finite_scores : Cert.Pre_finite_scores.Facts] : Prop :=
  ∀ (m : (ℓ : Loc Cert.MlaCtxRefIdeal.nD Cert.MlaCtxRefIdeal.τ Cert.MlaCtxRefIdeal.sig) → Buf (Elt Ideal) ℓ) (g : Dev Cert.MlaCtxRefIdeal.nD → PrngReg), Pre_MlaCtxRefIdeal_finite_scores m →
    θ_run (Cert.MlaCtxRefIdeal.defs (F := Ideal)) (onTc (τ := Cert.MlaCtxRefIdeal.τ) (Cert.MlaCtxRefIdeal.main (F := Ideal))) ⟨m, fun _ => 0, g⟩ (fun r => (∀ c : Dev Cert.MlaCtxRefIdeal.nD,
      r.2.mem ((c.tc : Thread Cert.MlaCtxRefIdeal.nD Cert.MlaCtxRefIdeal.τ).loc Cert.MlaCtxRefIdeal.main_arg0) = m ((c.tc : Thread Cert.MlaCtxRefIdeal.nD Cert.MlaCtxRefIdeal.τ).loc Cert.MlaCtxRefIdeal.main_arg0)
      ∧ r.2.mem ((c.tc : Thread Cert.MlaCtxRefIdeal.nD Cert.MlaCtxRefIdeal.τ).loc Cert.MlaCtxRefIdeal.main_arg1) = m ((c.tc : Thread Cert.MlaCtxRefIdeal.nD Cert.MlaCtxRefIdeal.τ).loc Cert.MlaCtxRefIdeal.main_arg1)
      ∧ r.2.mem ((c.tc : Thread Cert.MlaCtxRefIdeal.nD Cert.MlaCtxRefIdeal.τ).loc Cert.MlaCtxRefIdeal.main_arg2) = m ((c.tc : Thread Cert.MlaCtxRefIdeal.nD Cert.MlaCtxRefIdeal.τ).loc Cert.MlaCtxRefIdeal.main_arg2))
      ∧ r.2.sem = fun _ => 0)

def quiescent_GqaCtx [hGqaCtx : Cert.GqaCtx.Facts] : Prop :=
  ∀ (m : (ℓ : Loc Cert.GqaCtx.nD Cert.GqaCtx.τ Cert.GqaCtx.sig) → Buf (Elt Bits) ℓ) (g : Dev Cert.GqaCtx.nD → PrngReg), Pre_GqaCtx m →
    θ_run (Cert.GqaCtx.defs (F := Bits)) (onTc (τ := Cert.GqaCtx.τ) (Cert.GqaCtx.main (F := Bits))) ⟨m, fun _ => 0, g⟩ (fun r => (∀ c : Dev Cert.GqaCtx.nD,
      r.2.mem ((c.tc : Thread Cert.GqaCtx.nD Cert.GqaCtx.τ).loc Cert.GqaCtx.main_arg0) = m ((c.tc : Thread Cert.GqaCtx.nD Cert.GqaCtx.τ).loc Cert.GqaCtx.main_arg0)
      ∧ r.2.mem ((c.tc : Thread Cert.GqaCtx.nD Cert.GqaCtx.τ).loc Cert.GqaCtx.main_arg1) = m ((c.tc : Thread Cert.GqaCtx.nD Cert.GqaCtx.τ).loc Cert.GqaCtx.main_arg1)
      ∧ r.2.mem ((c.tc : Thread Cert.GqaCtx.nD Cert.GqaCtx.τ).loc Cert.GqaCtx.main_arg2) = m ((c.tc : Thread Cert.GqaCtx.nD Cert.GqaCtx.τ).loc Cert.GqaCtx.main_arg2))
      ∧ r.2.sem = fun _ => 0)

def quiescent_GqaCtxIdeal [hGqaCtxIdeal : Cert.GqaCtxIdeal.Facts] : Prop :=
  ∀ (m : (ℓ : Loc Cert.GqaCtxIdeal.nD Cert.GqaCtxIdeal.τ Cert.GqaCtxIdeal.sig) → Buf (Elt Ideal) ℓ) (g : Dev Cert.GqaCtxIdeal.nD → PrngReg), Pre_GqaCtxIdeal m →
    θ_run (Cert.GqaCtxIdeal.defs (F := Ideal)) (onTc (τ := Cert.GqaCtxIdeal.τ) (Cert.GqaCtxIdeal.main (F := Ideal))) ⟨m, fun _ => 0, g⟩ (fun r => (∀ c : Dev Cert.GqaCtxIdeal.nD,
      r.2.mem ((c.tc : Thread Cert.GqaCtxIdeal.nD Cert.GqaCtxIdeal.τ).loc Cert.GqaCtxIdeal.main_arg0) = m ((c.tc : Thread Cert.GqaCtxIdeal.nD Cert.GqaCtxIdeal.τ).loc Cert.GqaCtxIdeal.main_arg0)
      ∧ r.2.mem ((c.tc : Thread Cert.GqaCtxIdeal.nD Cert.GqaCtxIdeal.τ).loc Cert.GqaCtxIdeal.main_arg1) = m ((c.tc : Thread Cert.GqaCtxIdeal.nD Cert.GqaCtxIdeal.τ).loc Cert.GqaCtxIdeal.main_arg1)
      ∧ r.2.mem ((c.tc : Thread Cert.GqaCtxIdeal.nD Cert.GqaCtxIdeal.τ).loc Cert.GqaCtxIdeal.main_arg2) = m ((c.tc : Thread Cert.GqaCtxIdeal.nD Cert.GqaCtxIdeal.τ).loc Cert.GqaCtxIdeal.main_arg2))
      ∧ r.2.sem = fun _ => 0)

def quiescent_GqaCtxIdeal_pre_finite_gqa [hGqaCtxIdeal : Cert.GqaCtxIdeal.Facts] [hPre_finite_gqa : Cert.Pre_finite_gqa.Facts] : Prop :=
  ∀ (m : (ℓ : Loc Cert.GqaCtxIdeal.nD Cert.GqaCtxIdeal.τ Cert.GqaCtxIdeal.sig) → Buf (Elt Ideal) ℓ) (g : Dev Cert.GqaCtxIdeal.nD → PrngReg), Pre_GqaCtxIdeal_finite_gqa m →
    θ_run (Cert.GqaCtxIdeal.defs (F := Ideal)) (onTc (τ := Cert.GqaCtxIdeal.τ) (Cert.GqaCtxIdeal.main (F := Ideal))) ⟨m, fun _ => 0, g⟩ (fun r => (∀ c : Dev Cert.GqaCtxIdeal.nD,
      r.2.mem ((c.tc : Thread Cert.GqaCtxIdeal.nD Cert.GqaCtxIdeal.τ).loc Cert.GqaCtxIdeal.main_arg0) = m ((c.tc : Thread Cert.GqaCtxIdeal.nD Cert.GqaCtxIdeal.τ).loc Cert.GqaCtxIdeal.main_arg0)
      ∧ r.2.mem ((c.tc : Thread Cert.GqaCtxIdeal.nD Cert.GqaCtxIdeal.τ).loc Cert.GqaCtxIdeal.main_arg1) = m ((c.tc : Thread Cert.GqaCtxIdeal.nD Cert.GqaCtxIdeal.τ).loc Cert.GqaCtxIdeal.main_arg1)
      ∧ r.2.mem ((c.tc : Thread Cert.GqaCtxIdeal.nD Cert.GqaCtxIdeal.τ).loc Cert.GqaCtxIdeal.main_arg2) = m ((c.tc : Thread Cert.GqaCtxIdeal.nD Cert.GqaCtxIdeal.τ).loc Cert.GqaCtxIdeal.main_arg2))
      ∧ r.2.sem = fun _ => 0)

def quiescent_GqaCtxRefIdeal [hGqaCtxRefIdeal : Cert.GqaCtxRefIdeal.Facts] : Prop :=
  ∀ (m : (ℓ : Loc Cert.GqaCtxRefIdeal.nD Cert.GqaCtxRefIdeal.τ Cert.GqaCtxRefIdeal.sig) → Buf (Elt Ideal) ℓ) (g : Dev Cert.GqaCtxRefIdeal.nD → PrngReg), Pre_GqaCtxRefIdeal m →
    θ_run (Cert.GqaCtxRefIdeal.defs (F := Ideal)) (onTc (τ := Cert.GqaCtxRefIdeal.τ) (Cert.GqaCtxRefIdeal.main (F := Ideal))) ⟨m, fun _ => 0, g⟩ (fun r => (∀ c : Dev Cert.GqaCtxRefIdeal.nD,
      r.2.mem ((c.tc : Thread Cert.GqaCtxRefIdeal.nD Cert.GqaCtxRefIdeal.τ).loc Cert.GqaCtxRefIdeal.main_arg0) = m ((c.tc : Thread Cert.GqaCtxRefIdeal.nD Cert.GqaCtxRefIdeal.τ).loc Cert.GqaCtxRefIdeal.main_arg0)
      ∧ r.2.mem ((c.tc : Thread Cert.GqaCtxRefIdeal.nD Cert.GqaCtxRefIdeal.τ).loc Cert.GqaCtxRefIdeal.main_arg1) = m ((c.tc : Thread Cert.GqaCtxRefIdeal.nD Cert.GqaCtxRefIdeal.τ).loc Cert.GqaCtxRefIdeal.main_arg1)
      ∧ r.2.mem ((c.tc : Thread Cert.GqaCtxRefIdeal.nD Cert.GqaCtxRefIdeal.τ).loc Cert.GqaCtxRefIdeal.main_arg2) = m ((c.tc : Thread Cert.GqaCtxRefIdeal.nD Cert.GqaCtxRefIdeal.τ).loc Cert.GqaCtxRefIdeal.main_arg2))
      ∧ r.2.sem = fun _ => 0)

def quiescent_GqaCtxRefIdeal_pre_finite_gqa [hGqaCtxRefIdeal : Cert.GqaCtxRefIdeal.Facts] [hPre_finite_gqa : Cert.Pre_finite_gqa.Facts] : Prop :=
  ∀ (m : (ℓ : Loc Cert.GqaCtxRefIdeal.nD Cert.GqaCtxRefIdeal.τ Cert.GqaCtxRefIdeal.sig) → Buf (Elt Ideal) ℓ) (g : Dev Cert.GqaCtxRefIdeal.nD → PrngReg), Pre_GqaCtxRefIdeal_finite_gqa m →
    θ_run (Cert.GqaCtxRefIdeal.defs (F := Ideal)) (onTc (τ := Cert.GqaCtxRefIdeal.τ) (Cert.GqaCtxRefIdeal.main (F := Ideal))) ⟨m, fun _ => 0, g⟩ (fun r => (∀ c : Dev Cert.GqaCtxRefIdeal.nD,
      r.2.mem ((c.tc : Thread Cert.GqaCtxRefIdeal.nD Cert.GqaCtxRefIdeal.τ).loc Cert.GqaCtxRefIdeal.main_arg0) = m ((c.tc : Thread Cert.GqaCtxRefIdeal.nD Cert.GqaCtxRefIdeal.τ).loc Cert.GqaCtxRefIdeal.main_arg0)
      ∧ r.2.mem ((c.tc : Thread Cert.GqaCtxRefIdeal.nD Cert.GqaCtxRefIdeal.τ).loc Cert.GqaCtxRefIdeal.main_arg1) = m ((c.tc : Thread Cert.GqaCtxRefIdeal.nD Cert.GqaCtxRefIdeal.τ).loc Cert.GqaCtxRefIdeal.main_arg1)
      ∧ r.2.mem ((c.tc : Thread Cert.GqaCtxRefIdeal.nD Cert.GqaCtxRefIdeal.τ).loc Cert.GqaCtxRefIdeal.main_arg2) = m ((c.tc : Thread Cert.GqaCtxRefIdeal.nD Cert.GqaCtxRefIdeal.τ).loc Cert.GqaCtxRefIdeal.main_arg2))
      ∧ r.2.sem = fun _ => 0)

def quiescent_Logits [hLogits : Cert.Logits.Facts] : Prop :=
  ∀ (m : (ℓ : Loc Cert.Logits.nD Cert.Logits.τ Cert.Logits.sig) → Buf (Elt Bits) ℓ) (g : Dev Cert.Logits.nD → PrngReg), Pre_Logits m →
    θ_run (Cert.Logits.defs (F := Bits)) (onTc (τ := Cert.Logits.τ) (Cert.Logits.main (F := Bits))) ⟨m, fun _ => 0, g⟩ (fun r => (∀ c : Dev Cert.Logits.nD,
      r.2.mem ((c.tc : Thread Cert.Logits.nD Cert.Logits.τ).loc Cert.Logits.main_arg0) = m ((c.tc : Thread Cert.Logits.nD Cert.Logits.τ).loc Cert.Logits.main_arg0)
      ∧ r.2.mem ((c.tc : Thread Cert.Logits.nD Cert.Logits.τ).loc Cert.Logits.main_arg1) = m ((c.tc : Thread Cert.Logits.nD Cert.Logits.τ).loc Cert.Logits.main_arg1)
      ∧ r.2.mem ((c.tc : Thread Cert.Logits.nD Cert.Logits.τ).loc Cert.Logits.main_arg2) = m ((c.tc : Thread Cert.Logits.nD Cert.Logits.τ).loc Cert.Logits.main_arg2)
      ∧ r.2.mem ((c.tc : Thread Cert.Logits.nD Cert.Logits.τ).loc Cert.Logits.main_arg3) = m ((c.tc : Thread Cert.Logits.nD Cert.Logits.τ).loc Cert.Logits.main_arg3)
      ∧ r.2.mem ((c.tc : Thread Cert.Logits.nD Cert.Logits.τ).loc Cert.Logits.main_arg4) = m ((c.tc : Thread Cert.Logits.nD Cert.Logits.τ).loc Cert.Logits.main_arg4)
      ∧ r.2.mem ((c.tc : Thread Cert.Logits.nD Cert.Logits.τ).loc Cert.Logits.main_arg5) = m ((c.tc : Thread Cert.Logits.nD Cert.Logits.τ).loc Cert.Logits.main_arg5)
      ∧ r.2.mem ((c.tc : Thread Cert.Logits.nD Cert.Logits.τ).loc Cert.Logits.main_arg6) = m ((c.tc : Thread Cert.Logits.nD Cert.Logits.τ).loc Cert.Logits.main_arg6)
      ∧ r.2.mem ((c.tc : Thread Cert.Logits.nD Cert.Logits.τ).loc Cert.Logits.main_arg7) = m ((c.tc : Thread Cert.Logits.nD Cert.Logits.τ).loc Cert.Logits.main_arg7)
      ∧ r.2.mem ((c.tc : Thread Cert.Logits.nD Cert.Logits.τ).loc Cert.Logits.main_arg8) = m ((c.tc : Thread Cert.Logits.nD Cert.Logits.τ).loc Cert.Logits.main_arg8))
      ∧ r.2.sem = fun _ => 0)

def quiescent_LogitsIdeal [hLogitsIdeal : Cert.LogitsIdeal.Facts] : Prop :=
  ∀ (m : (ℓ : Loc Cert.LogitsIdeal.nD Cert.LogitsIdeal.τ Cert.LogitsIdeal.sig) → Buf (Elt Ideal) ℓ) (g : Dev Cert.LogitsIdeal.nD → PrngReg), Pre_LogitsIdeal m →
    θ_run (Cert.LogitsIdeal.defs (F := Ideal)) (onTc (τ := Cert.LogitsIdeal.τ) (Cert.LogitsIdeal.main (F := Ideal))) ⟨m, fun _ => 0, g⟩ (fun r => (∀ c : Dev Cert.LogitsIdeal.nD,
      r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
      ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
      ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
      ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3)
      ∧ r.2.mem ((c.tc : Thread Cert.LogitsIdeal.nD Cert.LogitsIdeal.τ).loc Cert.LogitsIdeal.main_arg4) = m ((c.tc : Thread Cert.LogitsIdeal.nD Cert.LogitsIdeal.τ).loc Cert.LogitsIdeal.main_arg4)
      ∧ r.2.mem ((c.tc : Thread Cert.LogitsIdeal.nD Cert.LogitsIdeal.τ).loc Cert.LogitsIdeal.main_arg5) = m ((c.tc : Thread Cert.LogitsIdeal.nD Cert.LogitsIdeal.τ).loc Cert.LogitsIdeal.main_arg5)
      ∧ r.2.mem ((c.tc : Thread Cert.LogitsIdeal.nD Cert.LogitsIdeal.τ).loc Cert.LogitsIdeal.main_arg6) = m ((c.tc : Thread Cert.LogitsIdeal.nD Cert.LogitsIdeal.τ).loc Cert.LogitsIdeal.main_arg6)
      ∧ r.2.mem ((c.tc : Thread Cert.LogitsIdeal.nD Cert.LogitsIdeal.τ).loc Cert.LogitsIdeal.main_arg7) = m ((c.tc : Thread Cert.LogitsIdeal.nD Cert.LogitsIdeal.τ).loc Cert.LogitsIdeal.main_arg7)
      ∧ r.2.mem ((c.tc : Thread Cert.LogitsIdeal.nD Cert.LogitsIdeal.τ).loc Cert.LogitsIdeal.main_arg8) = m ((c.tc : Thread Cert.LogitsIdeal.nD Cert.LogitsIdeal.τ).loc Cert.LogitsIdeal.main_arg8))
      ∧ r.2.sem = fun _ => 0)

def quiescent_LogitsIdeal_pre_finite_router [hLogitsIdeal : Cert.LogitsIdeal.Facts] [hPre_finite_router : Cert.Pre_finite_router.Facts] : Prop :=
  ∀ (m : (ℓ : Loc Cert.LogitsIdeal.nD Cert.LogitsIdeal.τ Cert.LogitsIdeal.sig) → Buf (Elt Ideal) ℓ) (g : Dev Cert.LogitsIdeal.nD → PrngReg), Pre_LogitsIdeal_finite_router m →
    θ_run (Cert.LogitsIdeal.defs (F := Ideal)) (onTc (τ := Cert.LogitsIdeal.τ) (Cert.LogitsIdeal.main (F := Ideal))) ⟨m, fun _ => 0, g⟩ (fun r => (∀ c : Dev Cert.LogitsIdeal.nD,
      r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
      ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
      ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
      ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3)
      ∧ r.2.mem ((c.tc : Thread Cert.LogitsIdeal.nD Cert.LogitsIdeal.τ).loc Cert.LogitsIdeal.main_arg4) = m ((c.tc : Thread Cert.LogitsIdeal.nD Cert.LogitsIdeal.τ).loc Cert.LogitsIdeal.main_arg4)
      ∧ r.2.mem ((c.tc : Thread Cert.LogitsIdeal.nD Cert.LogitsIdeal.τ).loc Cert.LogitsIdeal.main_arg5) = m ((c.tc : Thread Cert.LogitsIdeal.nD Cert.LogitsIdeal.τ).loc Cert.LogitsIdeal.main_arg5)
      ∧ r.2.mem ((c.tc : Thread Cert.LogitsIdeal.nD Cert.LogitsIdeal.τ).loc Cert.LogitsIdeal.main_arg6) = m ((c.tc : Thread Cert.LogitsIdeal.nD Cert.LogitsIdeal.τ).loc Cert.LogitsIdeal.main_arg6)
      ∧ r.2.mem ((c.tc : Thread Cert.LogitsIdeal.nD Cert.LogitsIdeal.τ).loc Cert.LogitsIdeal.main_arg7) = m ((c.tc : Thread Cert.LogitsIdeal.nD Cert.LogitsIdeal.τ).loc Cert.LogitsIdeal.main_arg7)
      ∧ r.2.mem ((c.tc : Thread Cert.LogitsIdeal.nD Cert.LogitsIdeal.τ).loc Cert.LogitsIdeal.main_arg8) = m ((c.tc : Thread Cert.LogitsIdeal.nD Cert.LogitsIdeal.τ).loc Cert.LogitsIdeal.main_arg8))
      ∧ r.2.sem = fun _ => 0)

def quiescent_LogitsRefIdeal [hLogitsRefIdeal : Cert.LogitsRefIdeal.Facts] : Prop :=
  ∀ (m : (ℓ : Loc Cert.LogitsRefIdeal.nD Cert.LogitsRefIdeal.τ Cert.LogitsRefIdeal.sig) → Buf (Elt Ideal) ℓ) (g : Dev Cert.LogitsRefIdeal.nD → PrngReg), Pre_LogitsRefIdeal m →
    θ_run (Cert.LogitsRefIdeal.defs (F := Ideal)) (onTc (τ := Cert.LogitsRefIdeal.τ) (Cert.LogitsRefIdeal.main (F := Ideal))) ⟨m, fun _ => 0, g⟩ (fun r => (∀ c : Dev Cert.LogitsRefIdeal.nD,
      r.2.mem ((c.tc : Thread Cert.LogitsRefIdeal.nD Cert.LogitsRefIdeal.τ).loc Cert.LogitsRefIdeal.main_arg0) = m ((c.tc : Thread Cert.LogitsRefIdeal.nD Cert.LogitsRefIdeal.τ).loc Cert.LogitsRefIdeal.main_arg0)
      ∧ r.2.mem ((c.tc : Thread Cert.LogitsRefIdeal.nD Cert.LogitsRefIdeal.τ).loc Cert.LogitsRefIdeal.main_arg1) = m ((c.tc : Thread Cert.LogitsRefIdeal.nD Cert.LogitsRefIdeal.τ).loc Cert.LogitsRefIdeal.main_arg1)
      ∧ r.2.mem ((c.tc : Thread Cert.LogitsRefIdeal.nD Cert.LogitsRefIdeal.τ).loc Cert.LogitsRefIdeal.main_arg2) = m ((c.tc : Thread Cert.LogitsRefIdeal.nD Cert.LogitsRefIdeal.τ).loc Cert.LogitsRefIdeal.main_arg2)
      ∧ r.2.mem ((c.tc : Thread Cert.LogitsRefIdeal.nD Cert.LogitsRefIdeal.τ).loc Cert.LogitsRefIdeal.main_arg3) = m ((c.tc : Thread Cert.LogitsRefIdeal.nD Cert.LogitsRefIdeal.τ).loc Cert.LogitsRefIdeal.main_arg3)
      ∧ r.2.mem ((c.tc : Thread Cert.LogitsRefIdeal.nD Cert.LogitsRefIdeal.τ).loc Cert.LogitsRefIdeal.main_arg4) = m ((c.tc : Thread Cert.LogitsRefIdeal.nD Cert.LogitsRefIdeal.τ).loc Cert.LogitsRefIdeal.main_arg4)
      ∧ r.2.mem ((c.tc : Thread Cert.LogitsRefIdeal.nD Cert.LogitsRefIdeal.τ).loc Cert.LogitsRefIdeal.main_arg5) = m ((c.tc : Thread Cert.LogitsRefIdeal.nD Cert.LogitsRefIdeal.τ).loc Cert.LogitsRefIdeal.main_arg5)
      ∧ r.2.mem ((c.tc : Thread Cert.LogitsRefIdeal.nD Cert.LogitsRefIdeal.τ).loc Cert.LogitsRefIdeal.main_arg6) = m ((c.tc : Thread Cert.LogitsRefIdeal.nD Cert.LogitsRefIdeal.τ).loc Cert.LogitsRefIdeal.main_arg6)
      ∧ r.2.mem ((c.tc : Thread Cert.LogitsRefIdeal.nD Cert.LogitsRefIdeal.τ).loc Cert.LogitsRefIdeal.main_arg7) = m ((c.tc : Thread Cert.LogitsRefIdeal.nD Cert.LogitsRefIdeal.τ).loc Cert.LogitsRefIdeal.main_arg7)
      ∧ r.2.mem ((c.tc : Thread Cert.LogitsRefIdeal.nD Cert.LogitsRefIdeal.τ).loc Cert.LogitsRefIdeal.main_arg8) = m ((c.tc : Thread Cert.LogitsRefIdeal.nD Cert.LogitsRefIdeal.τ).loc Cert.LogitsRefIdeal.main_arg8))
      ∧ r.2.sem = fun _ => 0)

def quiescent_LogitsRefIdeal_pre_finite_router [hLogitsRefIdeal : Cert.LogitsRefIdeal.Facts] [hPre_finite_router : Cert.Pre_finite_router.Facts] : Prop :=
  ∀ (m : (ℓ : Loc Cert.LogitsRefIdeal.nD Cert.LogitsRefIdeal.τ Cert.LogitsRefIdeal.sig) → Buf (Elt Ideal) ℓ) (g : Dev Cert.LogitsRefIdeal.nD → PrngReg), Pre_LogitsRefIdeal_finite_router m →
    θ_run (Cert.LogitsRefIdeal.defs (F := Ideal)) (onTc (τ := Cert.LogitsRefIdeal.τ) (Cert.LogitsRefIdeal.main (F := Ideal))) ⟨m, fun _ => 0, g⟩ (fun r => (∀ c : Dev Cert.LogitsRefIdeal.nD,
      r.2.mem ((c.tc : Thread Cert.LogitsRefIdeal.nD Cert.LogitsRefIdeal.τ).loc Cert.LogitsRefIdeal.main_arg0) = m ((c.tc : Thread Cert.LogitsRefIdeal.nD Cert.LogitsRefIdeal.τ).loc Cert.LogitsRefIdeal.main_arg0)
      ∧ r.2.mem ((c.tc : Thread Cert.LogitsRefIdeal.nD Cert.LogitsRefIdeal.τ).loc Cert.LogitsRefIdeal.main_arg1) = m ((c.tc : Thread Cert.LogitsRefIdeal.nD Cert.LogitsRefIdeal.τ).loc Cert.LogitsRefIdeal.main_arg1)
      ∧ r.2.mem ((c.tc : Thread Cert.LogitsRefIdeal.nD Cert.LogitsRefIdeal.τ).loc Cert.LogitsRefIdeal.main_arg2) = m ((c.tc : Thread Cert.LogitsRefIdeal.nD Cert.LogitsRefIdeal.τ).loc Cert.LogitsRefIdeal.main_arg2)
      ∧ r.2.mem ((c.tc : Thread Cert.LogitsRefIdeal.nD Cert.LogitsRefIdeal.τ).loc Cert.LogitsRefIdeal.main_arg3) = m ((c.tc : Thread Cert.LogitsRefIdeal.nD Cert.LogitsRefIdeal.τ).loc Cert.LogitsRefIdeal.main_arg3)
      ∧ r.2.mem ((c.tc : Thread Cert.LogitsRefIdeal.nD Cert.LogitsRefIdeal.τ).loc Cert.LogitsRefIdeal.main_arg4) = m ((c.tc : Thread Cert.LogitsRefIdeal.nD Cert.LogitsRefIdeal.τ).loc Cert.LogitsRefIdeal.main_arg4)
      ∧ r.2.mem ((c.tc : Thread Cert.LogitsRefIdeal.nD Cert.LogitsRefIdeal.τ).loc Cert.LogitsRefIdeal.main_arg5) = m ((c.tc : Thread Cert.LogitsRefIdeal.nD Cert.LogitsRefIdeal.τ).loc Cert.LogitsRefIdeal.main_arg5)
      ∧ r.2.mem ((c.tc : Thread Cert.LogitsRefIdeal.nD Cert.LogitsRefIdeal.τ).loc Cert.LogitsRefIdeal.main_arg6) = m ((c.tc : Thread Cert.LogitsRefIdeal.nD Cert.LogitsRefIdeal.τ).loc Cert.LogitsRefIdeal.main_arg6)
      ∧ r.2.mem ((c.tc : Thread Cert.LogitsRefIdeal.nD Cert.LogitsRefIdeal.τ).loc Cert.LogitsRefIdeal.main_arg7) = m ((c.tc : Thread Cert.LogitsRefIdeal.nD Cert.LogitsRefIdeal.τ).loc Cert.LogitsRefIdeal.main_arg7)
      ∧ r.2.mem ((c.tc : Thread Cert.LogitsRefIdeal.nD Cert.LogitsRefIdeal.τ).loc Cert.LogitsRefIdeal.main_arg8) = m ((c.tc : Thread Cert.LogitsRefIdeal.nD Cert.LogitsRefIdeal.τ).loc Cert.LogitsRefIdeal.main_arg8))
      ∧ r.2.sem = fun _ => 0)

def preserves_Mla_MlaIdeal : Prop :=
  True

def algebraic_MlaIdeal_MlaRefIdeal_pre_finite_scores [hMlaIdeal : Cert.MlaIdeal.Facts] [hMlaRefIdeal : Cert.MlaRefIdeal.Facts] [hPre_finite_scores : Cert.Pre_finite_scores.Facts] : Prop :=
  ∀ (m : (ℓ : Loc Cert.MlaIdeal.nD Cert.MlaIdeal.τ Cert.MlaIdeal.sig) → Buf (Elt Ideal) ℓ) (g : Dev Cert.MlaIdeal.nD → PrngReg)
    (m' : (ℓ : Loc Cert.MlaRefIdeal.nD Cert.MlaRefIdeal.τ Cert.MlaRefIdeal.sig) → Buf (Elt Ideal) ℓ) (g' : Dev Cert.MlaRefIdeal.nD → PrngReg), Pre_MlaIdeal_finite_scores m →
    (∀ c : Dev Cert.MlaIdeal.nD,
      m' ((c.tc : Thread Cert.MlaRefIdeal.nD Cert.MlaRefIdeal.τ).loc Cert.MlaRefIdeal.main_arg0) = m ((c.tc : Thread Cert.MlaIdeal.nD Cert.MlaIdeal.τ).loc Cert.MlaIdeal.main_arg0)
      ∧ m' ((c.tc : Thread Cert.MlaRefIdeal.nD Cert.MlaRefIdeal.τ).loc Cert.MlaRefIdeal.main_arg1) = m ((c.tc : Thread Cert.MlaIdeal.nD Cert.MlaIdeal.τ).loc Cert.MlaIdeal.main_arg1)
      ∧ m' ((c.tc : Thread Cert.MlaRefIdeal.nD Cert.MlaRefIdeal.τ).loc Cert.MlaRefIdeal.main_arg2) = m ((c.tc : Thread Cert.MlaIdeal.nD Cert.MlaIdeal.τ).loc Cert.MlaIdeal.main_arg2)) →
    ∃ (v0 : (c : Dev Cert.MlaIdeal.nD) → Buf (Elt Ideal) ((c.tc : Thread Cert.MlaIdeal.nD Cert.MlaIdeal.τ).loc Cert.MlaIdeal.main_v0)),
      θ_run (Cert.MlaIdeal.defs (F := Ideal)) (onTc (τ := Cert.MlaIdeal.τ) (Cert.MlaIdeal.main (F := Ideal))) ⟨m, fun _ => 0, g⟩ (fun r => ∀ c : Dev Cert.MlaIdeal.nD,
          r.2.mem ((c.tc : Thread Cert.MlaIdeal.nD Cert.MlaIdeal.τ).loc Cert.MlaIdeal.main_v0) = v0 c
          ∧ r.2.mem ((c.tc : Thread Cert.MlaIdeal.nD Cert.MlaIdeal.τ).loc Cert.MlaIdeal.main_arg0) = m ((c.tc : Thread Cert.MlaIdeal.nD Cert.MlaIdeal.τ).loc Cert.MlaIdeal.main_arg0)
          ∧ r.2.mem ((c.tc : Thread Cert.MlaIdeal.nD Cert.MlaIdeal.τ).loc Cert.MlaIdeal.main_arg1) = m ((c.tc : Thread Cert.MlaIdeal.nD Cert.MlaIdeal.τ).loc Cert.MlaIdeal.main_arg1)
          ∧ r.2.mem ((c.tc : Thread Cert.MlaIdeal.nD Cert.MlaIdeal.τ).loc Cert.MlaIdeal.main_arg2) = m ((c.tc : Thread Cert.MlaIdeal.nD Cert.MlaIdeal.τ).loc Cert.MlaIdeal.main_arg2))
      ∧ θ_run (Cert.MlaRefIdeal.defs (F := Ideal)) (onTc (τ := Cert.MlaRefIdeal.τ) (Cert.MlaRefIdeal.main (F := Ideal))) ⟨m', fun _ => 0, g'⟩ (fun r => ∀ c : Dev Cert.MlaRefIdeal.nD,
          r.2.mem ((c.tc : Thread Cert.MlaRefIdeal.nD Cert.MlaRefIdeal.τ).loc Cert.MlaRefIdeal.main_v33) = v0 c
          ∧ r.2.mem ((c.tc : Thread Cert.MlaRefIdeal.nD Cert.MlaRefIdeal.τ).loc Cert.MlaRefIdeal.main_arg0) = m' ((c.tc : Thread Cert.MlaRefIdeal.nD Cert.MlaRefIdeal.τ).loc Cert.MlaRefIdeal.main_arg0)
          ∧ r.2.mem ((c.tc : Thread Cert.MlaRefIdeal.nD Cert.MlaRefIdeal.τ).loc Cert.MlaRefIdeal.main_arg1) = m' ((c.tc : Thread Cert.MlaRefIdeal.nD Cert.MlaRefIdeal.τ).loc Cert.MlaRefIdeal.main_arg1)
          ∧ r.2.mem ((c.tc : Thread Cert.MlaRefIdeal.nD Cert.MlaRefIdeal.τ).loc Cert.MlaRefIdeal.main_arg2) = m' ((c.tc : Thread Cert.MlaRefIdeal.nD Cert.MlaRefIdeal.τ).loc Cert.MlaRefIdeal.main_arg2))

def preserves_Gqa_GqaIdeal : Prop :=
  True

def algebraic_GqaIdeal_GqaRefIdeal_pre_finite_gqa [hGqaIdeal : Cert.GqaIdeal.Facts] [hGqaRefIdeal : Cert.GqaRefIdeal.Facts] [hPre_finite_gqa : Cert.Pre_finite_gqa.Facts] : Prop :=
  ∀ (m : (ℓ : Loc Cert.GqaIdeal.nD Cert.GqaIdeal.τ Cert.GqaIdeal.sig) → Buf (Elt Ideal) ℓ) (g : Dev Cert.GqaIdeal.nD → PrngReg)
    (m' : (ℓ : Loc Cert.GqaRefIdeal.nD Cert.GqaRefIdeal.τ Cert.GqaRefIdeal.sig) → Buf (Elt Ideal) ℓ) (g' : Dev Cert.GqaRefIdeal.nD → PrngReg), Pre_GqaIdeal_finite_gqa m →
    (∀ c : Dev Cert.GqaIdeal.nD,
      m' ((c.tc : Thread Cert.GqaRefIdeal.nD Cert.GqaRefIdeal.τ).loc Cert.GqaRefIdeal.main_arg0) = m ((c.tc : Thread Cert.GqaIdeal.nD Cert.GqaIdeal.τ).loc Cert.GqaIdeal.main_arg0)
      ∧ m' ((c.tc : Thread Cert.GqaRefIdeal.nD Cert.GqaRefIdeal.τ).loc Cert.GqaRefIdeal.main_arg1) = m ((c.tc : Thread Cert.GqaIdeal.nD Cert.GqaIdeal.τ).loc Cert.GqaIdeal.main_arg1)
      ∧ m' ((c.tc : Thread Cert.GqaRefIdeal.nD Cert.GqaRefIdeal.τ).loc Cert.GqaRefIdeal.main_arg2) = m ((c.tc : Thread Cert.GqaIdeal.nD Cert.GqaIdeal.τ).loc Cert.GqaIdeal.main_arg2)) →
    ∃ (v0 : (c : Dev Cert.GqaIdeal.nD) → Buf (Elt Ideal) ((c.tc : Thread Cert.GqaIdeal.nD Cert.GqaIdeal.τ).loc Cert.GqaIdeal.main_v0)),
      θ_run (Cert.GqaIdeal.defs (F := Ideal)) (onTc (τ := Cert.GqaIdeal.τ) (Cert.GqaIdeal.main (F := Ideal))) ⟨m, fun _ => 0, g⟩ (fun r => ∀ c : Dev Cert.GqaIdeal.nD,
          r.2.mem ((c.tc : Thread Cert.GqaIdeal.nD Cert.GqaIdeal.τ).loc Cert.GqaIdeal.main_v0) = v0 c
          ∧ r.2.mem ((c.tc : Thread Cert.GqaIdeal.nD Cert.GqaIdeal.τ).loc Cert.GqaIdeal.main_arg0) = m ((c.tc : Thread Cert.GqaIdeal.nD Cert.GqaIdeal.τ).loc Cert.GqaIdeal.main_arg0)
          ∧ r.2.mem ((c.tc : Thread Cert.GqaIdeal.nD Cert.GqaIdeal.τ).loc Cert.GqaIdeal.main_arg1) = m ((c.tc : Thread Cert.GqaIdeal.nD Cert.GqaIdeal.τ).loc Cert.GqaIdeal.main_arg1)
          ∧ r.2.mem ((c.tc : Thread Cert.GqaIdeal.nD Cert.GqaIdeal.τ).loc Cert.GqaIdeal.main_arg2) = m ((c.tc : Thread Cert.GqaIdeal.nD Cert.GqaIdeal.τ).loc Cert.GqaIdeal.main_arg2))
      ∧ θ_run (Cert.GqaRefIdeal.defs (F := Ideal)) (onTc (τ := Cert.GqaRefIdeal.τ) (Cert.GqaRefIdeal.main (F := Ideal))) ⟨m', fun _ => 0, g'⟩ (fun r => ∀ c : Dev Cert.GqaRefIdeal.nD,
          r.2.mem ((c.tc : Thread Cert.GqaRefIdeal.nD Cert.GqaRefIdeal.τ).loc Cert.GqaRefIdeal.main_v34) = v0 c
          ∧ r.2.mem ((c.tc : Thread Cert.GqaRefIdeal.nD Cert.GqaRefIdeal.τ).loc Cert.GqaRefIdeal.main_arg0) = m' ((c.tc : Thread Cert.GqaRefIdeal.nD Cert.GqaRefIdeal.τ).loc Cert.GqaRefIdeal.main_arg0)
          ∧ r.2.mem ((c.tc : Thread Cert.GqaRefIdeal.nD Cert.GqaRefIdeal.τ).loc Cert.GqaRefIdeal.main_arg1) = m' ((c.tc : Thread Cert.GqaRefIdeal.nD Cert.GqaRefIdeal.τ).loc Cert.GqaRefIdeal.main_arg1)
          ∧ r.2.mem ((c.tc : Thread Cert.GqaRefIdeal.nD Cert.GqaRefIdeal.τ).loc Cert.GqaRefIdeal.main_arg2) = m' ((c.tc : Thread Cert.GqaRefIdeal.nD Cert.GqaRefIdeal.τ).loc Cert.GqaRefIdeal.main_arg2))

def preserves_Moe_MoeIdeal : Prop :=
  True

def algebraic_MoeIdeal_MoeRefIdeal [hMoeIdeal : Cert.MoeIdeal.Facts] [hMoeRefIdeal : Cert.MoeRefIdeal.Facts] [hPre_plan_in_range : Cert.Pre_plan_in_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)
      ∧ m' ((c.tc : Thread Cert.MoeRefIdeal.nD Cert.MoeRefIdeal.τ).loc Cert.MoeRefIdeal.main_arg6) = m ((c.tc : Thread Cert.MoeIdeal.nD Cert.MoeIdeal.τ).loc Cert.MoeIdeal.main_arg6)
      ∧ m' ((c.tc : Thread Cert.MoeRefIdeal.nD Cert.MoeRefIdeal.τ).loc Cert.MoeRefIdeal.main_arg7) = m ((c.tc : Thread Cert.MoeIdeal.nD Cert.MoeIdeal.τ).loc Cert.MoeIdeal.main_arg7)) →
    ∃ (v0 : (c : Dev Cert.MoeIdeal.nD) → Buf (Elt Ideal) ((c.tc : Thread Cert.MoeIdeal.nD Cert.MoeIdeal.τ).loc Cert.MoeIdeal.main_v12)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v12) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
          ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
          ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v42) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5)
          ∧ r.2.mem ((c.tc : Thread Cert.MoeRefIdeal.nD Cert.MoeRefIdeal.τ).loc Cert.MoeRefIdeal.main_arg6) = m' ((c.tc : Thread Cert.MoeRefIdeal.nD Cert.MoeRefIdeal.τ).loc Cert.MoeRefIdeal.main_arg6)
          ∧ r.2.mem ((c.tc : Thread Cert.MoeRefIdeal.nD Cert.MoeRefIdeal.τ).loc Cert.MoeRefIdeal.main_arg7) = m' ((c.tc : Thread Cert.MoeRefIdeal.nD Cert.MoeRefIdeal.τ).loc Cert.MoeRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v8)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v8) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v68) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v11_0)) (v1 : (c : Dev Cert.OutProjIdeal.nD) → Buf (Elt Ideal) ((c.tc : Thread Cert.OutProjIdeal.nD Cert.OutProjIdeal.τ).loc Cert.OutProjIdeal.main_v11_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v11_0) = v0 c
          ∧ r.2.mem ((c.tc : Thread Cert.OutProjIdeal.nD Cert.OutProjIdeal.τ).loc Cert.OutProjIdeal.main_v11_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v103) = v0 c
          ∧ r.2.mem ((c.tc : Thread Cert.OutProjRefIdeal.nD Cert.OutProjRefIdeal.τ).loc Cert.OutProjRefIdeal.main_v107) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_Shared_SharedIdeal : Prop :=
  True

def algebraic_SharedIdeal_SharedRefIdeal [hSharedIdeal : Cert.SharedIdeal.Facts] [hSharedRefIdeal : Cert.SharedRefIdeal.Facts] : Prop :=
  ∀ (m : (ℓ : Loc Cert.SharedIdeal.nD Cert.SharedIdeal.τ Cert.SharedIdeal.sig) → Buf (Elt Ideal) ℓ) (g : Dev Cert.SharedIdeal.nD → PrngReg)
    (m' : (ℓ : Loc Cert.SharedRefIdeal.nD Cert.SharedRefIdeal.τ Cert.SharedRefIdeal.sig) → Buf (Elt Ideal) ℓ) (g' : Dev Cert.SharedRefIdeal.nD → PrngReg), Pre_SharedIdeal m →
    (∀ c : Dev Cert.SharedIdeal.nD,
      m' ((c.tc : Thread Cert.SharedRefIdeal.nD Cert.SharedRefIdeal.τ).loc Cert.SharedRefIdeal.main_arg0) = m ((c.tc : Thread Cert.SharedIdeal.nD Cert.SharedIdeal.τ).loc Cert.SharedIdeal.main_arg0)
      ∧ m' ((c.tc : Thread Cert.SharedRefIdeal.nD Cert.SharedRefIdeal.τ).loc Cert.SharedRefIdeal.main_arg1) = m ((c.tc : Thread Cert.SharedIdeal.nD Cert.SharedIdeal.τ).loc Cert.SharedIdeal.main_arg1)
      ∧ m' ((c.tc : Thread Cert.SharedRefIdeal.nD Cert.SharedRefIdeal.τ).loc Cert.SharedRefIdeal.main_arg2) = m ((c.tc : Thread Cert.SharedIdeal.nD Cert.SharedIdeal.τ).loc Cert.SharedIdeal.main_arg2)
      ∧ m' ((c.tc : Thread Cert.SharedRefIdeal.nD Cert.SharedRefIdeal.τ).loc Cert.SharedRefIdeal.main_arg3) = m ((c.tc : Thread Cert.SharedIdeal.nD Cert.SharedIdeal.τ).loc Cert.SharedIdeal.main_arg3)
      ∧ m' ((c.tc : Thread Cert.SharedRefIdeal.nD Cert.SharedRefIdeal.τ).loc Cert.SharedRefIdeal.main_arg4) = m ((c.tc : Thread Cert.SharedIdeal.nD Cert.SharedIdeal.τ).loc Cert.SharedIdeal.main_arg4)
      ∧ m' ((c.tc : Thread Cert.SharedRefIdeal.nD Cert.SharedRefIdeal.τ).loc Cert.SharedRefIdeal.main_arg5) = m ((c.tc : Thread Cert.SharedIdeal.nD Cert.SharedIdeal.τ).loc Cert.SharedIdeal.main_arg5)
      ∧ m' ((c.tc : Thread Cert.SharedRefIdeal.nD Cert.SharedRefIdeal.τ).loc Cert.SharedRefIdeal.main_arg6) = m ((c.tc : Thread Cert.SharedIdeal.nD Cert.SharedIdeal.τ).loc Cert.SharedIdeal.main_arg6)
      ∧ m' ((c.tc : Thread Cert.SharedRefIdeal.nD Cert.SharedRefIdeal.τ).loc Cert.SharedRefIdeal.main_arg7) = m ((c.tc : Thread Cert.SharedIdeal.nD Cert.SharedIdeal.τ).loc Cert.SharedIdeal.main_arg7)) →
    ∃ (v0 : (c : Dev Cert.SharedIdeal.nD) → Buf (Elt Ideal) ((c.tc : Thread Cert.SharedIdeal.nD Cert.SharedIdeal.τ).loc Cert.SharedIdeal.main_v4)),
      θ_run (Cert.SharedIdeal.defs (F := Ideal)) (onTc (τ := Cert.SharedIdeal.τ) (Cert.SharedIdeal.main (F := Ideal))) ⟨m, fun _ => 0, g⟩ (fun r => ∀ c : Dev Cert.SharedIdeal.nD,
          r.2.mem ((c.tc : Thread Cert.SharedIdeal.nD Cert.SharedIdeal.τ).loc Cert.SharedIdeal.main_v4) = v0 c
          ∧ r.2.mem ((c.tc : Thread Cert.SharedIdeal.nD Cert.SharedIdeal.τ).loc Cert.SharedIdeal.main_arg0) = m ((c.tc : Thread Cert.SharedIdeal.nD Cert.SharedIdeal.τ).loc Cert.SharedIdeal.main_arg0)
          ∧ r.2.mem ((c.tc : Thread Cert.SharedIdeal.nD Cert.SharedIdeal.τ).loc Cert.SharedIdeal.main_arg1) = m ((c.tc : Thread Cert.SharedIdeal.nD Cert.SharedIdeal.τ).loc Cert.SharedIdeal.main_arg1)
          ∧ r.2.mem ((c.tc : Thread Cert.SharedIdeal.nD Cert.SharedIdeal.τ).loc Cert.SharedIdeal.main_arg2) = m ((c.tc : Thread Cert.SharedIdeal.nD Cert.SharedIdeal.τ).loc Cert.SharedIdeal.main_arg2)
          ∧ r.2.mem ((c.tc : Thread Cert.SharedIdeal.nD Cert.SharedIdeal.τ).loc Cert.SharedIdeal.main_arg3) = m ((c.tc : Thread Cert.SharedIdeal.nD Cert.SharedIdeal.τ).loc Cert.SharedIdeal.main_arg3)
          ∧ r.2.mem ((c.tc : Thread Cert.SharedIdeal.nD Cert.SharedIdeal.τ).loc Cert.SharedIdeal.main_arg4) = m ((c.tc : Thread Cert.SharedIdeal.nD Cert.SharedIdeal.τ).loc Cert.SharedIdeal.main_arg4)
          ∧ r.2.mem ((c.tc : Thread Cert.SharedIdeal.nD Cert.SharedIdeal.τ).loc Cert.SharedIdeal.main_arg5) = m ((c.tc : Thread Cert.SharedIdeal.nD Cert.SharedIdeal.τ).loc Cert.SharedIdeal.main_arg5)
          ∧ r.2.mem ((c.tc : Thread Cert.SharedIdeal.nD Cert.SharedIdeal.τ).loc Cert.SharedIdeal.main_arg6) = m ((c.tc : Thread Cert.SharedIdeal.nD Cert.SharedIdeal.τ).loc Cert.SharedIdeal.main_arg6)
          ∧ r.2.mem ((c.tc : Thread Cert.SharedIdeal.nD Cert.SharedIdeal.τ).loc Cert.SharedIdeal.main_arg7) = m ((c.tc : Thread Cert.SharedIdeal.nD Cert.SharedIdeal.τ).loc Cert.SharedIdeal.main_arg7))
      ∧ θ_run (Cert.SharedRefIdeal.defs (F := Ideal)) (onTc (τ := Cert.SharedRefIdeal.τ) (Cert.SharedRefIdeal.main (F := Ideal))) ⟨m', fun _ => 0, g'⟩ (fun r => ∀ c : Dev Cert.SharedRefIdeal.nD,
          r.2.mem ((c.tc : Thread Cert.SharedRefIdeal.nD Cert.SharedRefIdeal.τ).loc Cert.SharedRefIdeal.main_v55) = v0 c
          ∧ r.2.mem ((c.tc : Thread Cert.SharedRefIdeal.nD Cert.SharedRefIdeal.τ).loc Cert.SharedRefIdeal.main_arg0) = m' ((c.tc : Thread Cert.SharedRefIdeal.nD Cert.SharedRefIdeal.τ).loc Cert.SharedRefIdeal.main_arg0)
          ∧ r.2.mem ((c.tc : Thread Cert.SharedRefIdeal.nD Cert.SharedRefIdeal.τ).loc Cert.SharedRefIdeal.main_arg1) = m' ((c.tc : Thread Cert.SharedRefIdeal.nD Cert.SharedRefIdeal.τ).loc Cert.SharedRefIdeal.main_arg1)
          ∧ r.2.mem ((c.tc : Thread Cert.SharedRefIdeal.nD Cert.SharedRefIdeal.τ).loc Cert.SharedRefIdeal.main_arg2) = m' ((c.tc : Thread Cert.SharedRefIdeal.nD Cert.SharedRefIdeal.τ).loc Cert.SharedRefIdeal.main_arg2)
          ∧ r.2.mem ((c.tc : Thread Cert.SharedRefIdeal.nD Cert.SharedRefIdeal.τ).loc Cert.SharedRefIdeal.main_arg3) = m' ((c.tc : Thread Cert.SharedRefIdeal.nD Cert.SharedRefIdeal.τ).loc Cert.SharedRefIdeal.main_arg3)
          ∧ r.2.mem ((c.tc : Thread Cert.SharedRefIdeal.nD Cert.SharedRefIdeal.τ).loc Cert.SharedRefIdeal.main_arg4) = m' ((c.tc : Thread Cert.SharedRefIdeal.nD Cert.SharedRefIdeal.τ).loc Cert.SharedRefIdeal.main_arg4)
          ∧ r.2.mem ((c.tc : Thread Cert.SharedRefIdeal.nD Cert.SharedRefIdeal.τ).loc Cert.SharedRefIdeal.main_arg5) = m' ((c.tc : Thread Cert.SharedRefIdeal.nD Cert.SharedRefIdeal.τ).loc Cert.SharedRefIdeal.main_arg5)
          ∧ r.2.mem ((c.tc : Thread Cert.SharedRefIdeal.nD Cert.SharedRefIdeal.τ).loc Cert.SharedRefIdeal.main_arg6) = m' ((c.tc : Thread Cert.SharedRefIdeal.nD Cert.SharedRefIdeal.τ).loc Cert.SharedRefIdeal.main_arg6)
          ∧ r.2.mem ((c.tc : Thread Cert.SharedRefIdeal.nD Cert.SharedRefIdeal.τ).loc Cert.SharedRefIdeal.main_arg7) = m' ((c.tc : Thread Cert.SharedRefIdeal.nD Cert.SharedRefIdeal.τ).loc Cert.SharedRefIdeal.main_arg7))

def preserves_MlaQ_MlaQIdeal : Prop :=
  True

def algebraic_MlaQIdeal_MlaQRefIdeal [hMlaQIdeal : Cert.MlaQIdeal.Facts] [hMlaQRefIdeal : Cert.MlaQRefIdeal.Facts] : Prop :=
  ∀ (m : (ℓ : Loc Cert.MlaQIdeal.nD Cert.MlaQIdeal.τ Cert.MlaQIdeal.sig) → Buf (Elt Ideal) ℓ) (g : Dev Cert.MlaQIdeal.nD → PrngReg)
    (m' : (ℓ : Loc Cert.MlaQRefIdeal.nD Cert.MlaQRefIdeal.τ Cert.MlaQRefIdeal.sig) → Buf (Elt Ideal) ℓ) (g' : Dev Cert.MlaQRefIdeal.nD → PrngReg), Pre_MlaQIdeal m →
    (∀ c : Dev Cert.MlaQIdeal.nD,
      m' ((c.tc : Thread Cert.MlaQRefIdeal.nD Cert.MlaQRefIdeal.τ).loc Cert.MlaQRefIdeal.main_arg0) = m ((c.tc : Thread Cert.MlaQIdeal.nD Cert.MlaQIdeal.τ).loc Cert.MlaQIdeal.main_arg0)
      ∧ m' ((c.tc : Thread Cert.MlaQRefIdeal.nD Cert.MlaQRefIdeal.τ).loc Cert.MlaQRefIdeal.main_arg1) = m ((c.tc : Thread Cert.MlaQIdeal.nD Cert.MlaQIdeal.τ).loc Cert.MlaQIdeal.main_arg1)
      ∧ m' ((c.tc : Thread Cert.MlaQRefIdeal.nD Cert.MlaQRefIdeal.τ).loc Cert.MlaQRefIdeal.main_arg2) = m ((c.tc : Thread Cert.MlaQIdeal.nD Cert.MlaQIdeal.τ).loc Cert.MlaQIdeal.main_arg2)) →
    ∃ (v0 : (c : Dev Cert.MlaQIdeal.nD) → Buf (Elt Ideal) ((c.tc : Thread Cert.MlaQIdeal.nD Cert.MlaQIdeal.τ).loc Cert.MlaQIdeal.main_v55)),
      θ_run (Cert.MlaQIdeal.defs (F := Ideal)) (onTc (τ := Cert.MlaQIdeal.τ) (Cert.MlaQIdeal.main (F := Ideal))) ⟨m, fun _ => 0, g⟩ (fun r => ∀ c : Dev Cert.MlaQIdeal.nD,
          r.2.mem ((c.tc : Thread Cert.MlaQIdeal.nD Cert.MlaQIdeal.τ).loc Cert.MlaQIdeal.main_v55) = v0 c
          ∧ r.2.mem ((c.tc : Thread Cert.MlaQIdeal.nD Cert.MlaQIdeal.τ).loc Cert.MlaQIdeal.main_arg0) = m ((c.tc : Thread Cert.MlaQIdeal.nD Cert.MlaQIdeal.τ).loc Cert.MlaQIdeal.main_arg0)
          ∧ r.2.mem ((c.tc : Thread Cert.MlaQIdeal.nD Cert.MlaQIdeal.τ).loc Cert.MlaQIdeal.main_arg1) = m ((c.tc : Thread Cert.MlaQIdeal.nD Cert.MlaQIdeal.τ).loc Cert.MlaQIdeal.main_arg1)
          ∧ r.2.mem ((c.tc : Thread Cert.MlaQIdeal.nD Cert.MlaQIdeal.τ).loc Cert.MlaQIdeal.main_arg2) = m ((c.tc : Thread Cert.MlaQIdeal.nD Cert.MlaQIdeal.τ).loc Cert.MlaQIdeal.main_arg2))
      ∧ θ_run (Cert.MlaQRefIdeal.defs (F := Ideal)) (onTc (τ := Cert.MlaQRefIdeal.τ) (Cert.MlaQRefIdeal.main (F := Ideal))) ⟨m', fun _ => 0, g'⟩ (fun r => ∀ c : Dev Cert.MlaQRefIdeal.nD,
          r.2.mem ((c.tc : Thread Cert.MlaQRefIdeal.nD Cert.MlaQRefIdeal.τ).loc Cert.MlaQRefIdeal.main_v101) = v0 c
          ∧ r.2.mem ((c.tc : Thread Cert.MlaQRefIdeal.nD Cert.MlaQRefIdeal.τ).loc Cert.MlaQRefIdeal.main_arg0) = m' ((c.tc : Thread Cert.MlaQRefIdeal.nD Cert.MlaQRefIdeal.τ).loc Cert.MlaQRefIdeal.main_arg0)
          ∧ r.2.mem ((c.tc : Thread Cert.MlaQRefIdeal.nD Cert.MlaQRefIdeal.τ).loc Cert.MlaQRefIdeal.main_arg1) = m' ((c.tc : Thread Cert.MlaQRefIdeal.nD Cert.MlaQRefIdeal.τ).loc Cert.MlaQRefIdeal.main_arg1)
          ∧ r.2.mem ((c.tc : Thread Cert.MlaQRefIdeal.nD Cert.MlaQRefIdeal.τ).loc Cert.MlaQRefIdeal.main_arg2) = m' ((c.tc : Thread Cert.MlaQRefIdeal.nD Cert.MlaQRefIdeal.τ).loc Cert.MlaQRefIdeal.main_arg2))

def preserves_MlaKV_MlaKVIdeal : Prop :=
  True

def algebraic_MlaKVIdeal_MlaKVRefIdeal [hMlaKVIdeal : Cert.MlaKVIdeal.Facts] [hMlaKVRefIdeal : Cert.MlaKVRefIdeal.Facts] : Prop :=
  ∀ (m : (ℓ : Loc Cert.MlaKVIdeal.nD Cert.MlaKVIdeal.τ Cert.MlaKVIdeal.sig) → Buf (Elt Ideal) ℓ) (g : Dev Cert.MlaKVIdeal.nD → PrngReg)
    (m' : (ℓ : Loc Cert.MlaKVRefIdeal.nD Cert.MlaKVRefIdeal.τ Cert.MlaKVRefIdeal.sig) → Buf (Elt Ideal) ℓ) (g' : Dev Cert.MlaKVRefIdeal.nD → PrngReg), Pre_MlaKVIdeal m →
    (∀ c : Dev Cert.MlaKVIdeal.nD,
      m' ((c.tc : Thread Cert.MlaKVRefIdeal.nD Cert.MlaKVRefIdeal.τ).loc Cert.MlaKVRefIdeal.main_arg0) = m ((c.tc : Thread Cert.MlaKVIdeal.nD Cert.MlaKVIdeal.τ).loc Cert.MlaKVIdeal.main_arg0)
      ∧ m' ((c.tc : Thread Cert.MlaKVRefIdeal.nD Cert.MlaKVRefIdeal.τ).loc Cert.MlaKVRefIdeal.main_arg1) = m ((c.tc : Thread Cert.MlaKVIdeal.nD Cert.MlaKVIdeal.τ).loc Cert.MlaKVIdeal.main_arg1)
      ∧ m' ((c.tc : Thread Cert.MlaKVRefIdeal.nD Cert.MlaKVRefIdeal.τ).loc Cert.MlaKVRefIdeal.main_arg2) = m ((c.tc : Thread Cert.MlaKVIdeal.nD Cert.MlaKVIdeal.τ).loc Cert.MlaKVIdeal.main_arg2)) →
    ∃ (v0 : (c : Dev Cert.MlaKVIdeal.nD) → Buf (Elt Ideal) ((c.tc : Thread Cert.MlaKVIdeal.nD Cert.MlaKVIdeal.τ).loc Cert.MlaKVIdeal.main_v58_0)) (v1 : (c : Dev Cert.MlaKVIdeal.nD) → Buf (Elt Ideal) ((c.tc : Thread Cert.MlaKVIdeal.nD Cert.MlaKVIdeal.τ).loc Cert.MlaKVIdeal.main_v58_1)),
      θ_run (Cert.MlaKVIdeal.defs (F := Ideal)) (onTc (τ := Cert.MlaKVIdeal.τ) (Cert.MlaKVIdeal.main (F := Ideal))) ⟨m, fun _ => 0, g⟩ (fun r => ∀ c : Dev Cert.MlaKVIdeal.nD,
          r.2.mem ((c.tc : Thread Cert.MlaKVIdeal.nD Cert.MlaKVIdeal.τ).loc Cert.MlaKVIdeal.main_v58_0) = v0 c
          ∧ r.2.mem ((c.tc : Thread Cert.MlaKVIdeal.nD Cert.MlaKVIdeal.τ).loc Cert.MlaKVIdeal.main_v58_1) = v1 c
          ∧ r.2.mem ((c.tc : Thread Cert.MlaKVIdeal.nD Cert.MlaKVIdeal.τ).loc Cert.MlaKVIdeal.main_arg0) = m ((c.tc : Thread Cert.MlaKVIdeal.nD Cert.MlaKVIdeal.τ).loc Cert.MlaKVIdeal.main_arg0)
          ∧ r.2.mem ((c.tc : Thread Cert.MlaKVIdeal.nD Cert.MlaKVIdeal.τ).loc Cert.MlaKVIdeal.main_arg1) = m ((c.tc : Thread Cert.MlaKVIdeal.nD Cert.MlaKVIdeal.τ).loc Cert.MlaKVIdeal.main_arg1)
          ∧ r.2.mem ((c.tc : Thread Cert.MlaKVIdeal.nD Cert.MlaKVIdeal.τ).loc Cert.MlaKVIdeal.main_arg2) = m ((c.tc : Thread Cert.MlaKVIdeal.nD Cert.MlaKVIdeal.τ).loc Cert.MlaKVIdeal.main_arg2))
      ∧ θ_run (Cert.MlaKVRefIdeal.defs (F := Ideal)) (onTc (τ := Cert.MlaKVRefIdeal.τ) (Cert.MlaKVRefIdeal.main (F := Ideal))) ⟨m', fun _ => 0, g'⟩ (fun r => ∀ c : Dev Cert.MlaKVRefIdeal.nD,
          r.2.mem ((c.tc : Thread Cert.MlaKVRefIdeal.nD Cert.MlaKVRefIdeal.τ).loc Cert.MlaKVRefIdeal.main_v105) = v0 c
          ∧ r.2.mem ((c.tc : Thread Cert.MlaKVRefIdeal.nD Cert.MlaKVRefIdeal.τ).loc Cert.MlaKVRefIdeal.main_v107) = v1 c
          ∧ r.2.mem ((c.tc : Thread Cert.MlaKVRefIdeal.nD Cert.MlaKVRefIdeal.τ).loc Cert.MlaKVRefIdeal.main_arg0) = m' ((c.tc : Thread Cert.MlaKVRefIdeal.nD Cert.MlaKVRefIdeal.τ).loc Cert.MlaKVRefIdeal.main_arg0)
          ∧ r.2.mem ((c.tc : Thread Cert.MlaKVRefIdeal.nD Cert.MlaKVRefIdeal.τ).loc Cert.MlaKVRefIdeal.main_arg1) = m' ((c.tc : Thread Cert.MlaKVRefIdeal.nD Cert.MlaKVRefIdeal.τ).loc Cert.MlaKVRefIdeal.main_arg1)
          ∧ r.2.mem ((c.tc : Thread Cert.MlaKVRefIdeal.nD Cert.MlaKVRefIdeal.τ).loc Cert.MlaKVRefIdeal.main_arg2) = m' ((c.tc : Thread Cert.MlaKVRefIdeal.nD Cert.MlaKVRefIdeal.τ).loc Cert.MlaKVRefIdeal.main_arg2))

def preserves_GqaQK_GqaQKIdeal : Prop :=
  True

def algebraic_GqaQKIdeal_GqaQKRefIdeal [hGqaQKIdeal : Cert.GqaQKIdeal.Facts] [hGqaQKRefIdeal : Cert.GqaQKRefIdeal.Facts] : Prop :=
  ∀ (m : (ℓ : Loc Cert.GqaQKIdeal.nD Cert.GqaQKIdeal.τ Cert.GqaQKIdeal.sig) → Buf (Elt Ideal) ℓ) (g : Dev Cert.GqaQKIdeal.nD → PrngReg)
    (m' : (ℓ : Loc Cert.GqaQKRefIdeal.nD Cert.GqaQKRefIdeal.τ Cert.GqaQKRefIdeal.sig) → Buf (Elt Ideal) ℓ) (g' : Dev Cert.GqaQKRefIdeal.nD → PrngReg), Pre_GqaQKIdeal m →
    (∀ c : Dev Cert.GqaQKIdeal.nD,
      m' ((c.tc : Thread Cert.GqaQKRefIdeal.nD Cert.GqaQKRefIdeal.τ).loc Cert.GqaQKRefIdeal.main_arg0) = m ((c.tc : Thread Cert.GqaQKIdeal.nD Cert.GqaQKIdeal.τ).loc Cert.GqaQKIdeal.main_arg0)
      ∧ m' ((c.tc : Thread Cert.GqaQKRefIdeal.nD Cert.GqaQKRefIdeal.τ).loc Cert.GqaQKRefIdeal.main_arg1) = m ((c.tc : Thread Cert.GqaQKIdeal.nD Cert.GqaQKIdeal.τ).loc Cert.GqaQKIdeal.main_arg1)
      ∧ m' ((c.tc : Thread Cert.GqaQKRefIdeal.nD Cert.GqaQKRefIdeal.τ).loc Cert.GqaQKRefIdeal.main_arg2) = m ((c.tc : Thread Cert.GqaQKIdeal.nD Cert.GqaQKIdeal.τ).loc Cert.GqaQKIdeal.main_arg2)) →
    ∃ (v0 : (c : Dev Cert.GqaQKIdeal.nD) → Buf (Elt Ideal) ((c.tc : Thread Cert.GqaQKIdeal.nD Cert.GqaQKIdeal.τ).loc Cert.GqaQKIdeal.main_v52_0)) (v1 : (c : Dev Cert.GqaQKIdeal.nD) → Buf (Elt Ideal) ((c.tc : Thread Cert.GqaQKIdeal.nD Cert.GqaQKIdeal.τ).loc Cert.GqaQKIdeal.main_v52_1)),
      θ_run (Cert.GqaQKIdeal.defs (F := Ideal)) (onTc (τ := Cert.GqaQKIdeal.τ) (Cert.GqaQKIdeal.main (F := Ideal))) ⟨m, fun _ => 0, g⟩ (fun r => ∀ c : Dev Cert.GqaQKIdeal.nD,
          r.2.mem ((c.tc : Thread Cert.GqaQKIdeal.nD Cert.GqaQKIdeal.τ).loc Cert.GqaQKIdeal.main_v52_0) = v0 c
          ∧ r.2.mem ((c.tc : Thread Cert.GqaQKIdeal.nD Cert.GqaQKIdeal.τ).loc Cert.GqaQKIdeal.main_v52_1) = v1 c
          ∧ r.2.mem ((c.tc : Thread Cert.GqaQKIdeal.nD Cert.GqaQKIdeal.τ).loc Cert.GqaQKIdeal.main_arg0) = m ((c.tc : Thread Cert.GqaQKIdeal.nD Cert.GqaQKIdeal.τ).loc Cert.GqaQKIdeal.main_arg0)
          ∧ r.2.mem ((c.tc : Thread Cert.GqaQKIdeal.nD Cert.GqaQKIdeal.τ).loc Cert.GqaQKIdeal.main_arg1) = m ((c.tc : Thread Cert.GqaQKIdeal.nD Cert.GqaQKIdeal.τ).loc Cert.GqaQKIdeal.main_arg1)
          ∧ r.2.mem ((c.tc : Thread Cert.GqaQKIdeal.nD Cert.GqaQKIdeal.τ).loc Cert.GqaQKIdeal.main_arg2) = m ((c.tc : Thread Cert.GqaQKIdeal.nD Cert.GqaQKIdeal.τ).loc Cert.GqaQKIdeal.main_arg2))
      ∧ θ_run (Cert.GqaQKRefIdeal.defs (F := Ideal)) (onTc (τ := Cert.GqaQKRefIdeal.τ) (Cert.GqaQKRefIdeal.main (F := Ideal))) ⟨m', fun _ => 0, g'⟩ (fun r => ∀ c : Dev Cert.GqaQKRefIdeal.nD,
          r.2.mem ((c.tc : Thread Cert.GqaQKRefIdeal.nD Cert.GqaQKRefIdeal.τ).loc Cert.GqaQKRefIdeal.main_v189) = v0 c
          ∧ r.2.mem ((c.tc : Thread Cert.GqaQKRefIdeal.nD Cert.GqaQKRefIdeal.τ).loc Cert.GqaQKRefIdeal.main_v191) = v1 c
          ∧ r.2.mem ((c.tc : Thread Cert.GqaQKRefIdeal.nD Cert.GqaQKRefIdeal.τ).loc Cert.GqaQKRefIdeal.main_arg0) = m' ((c.tc : Thread Cert.GqaQKRefIdeal.nD Cert.GqaQKRefIdeal.τ).loc Cert.GqaQKRefIdeal.main_arg0)
          ∧ r.2.mem ((c.tc : Thread Cert.GqaQKRefIdeal.nD Cert.GqaQKRefIdeal.τ).loc Cert.GqaQKRefIdeal.main_arg1) = m' ((c.tc : Thread Cert.GqaQKRefIdeal.nD Cert.GqaQKRefIdeal.τ).loc Cert.GqaQKRefIdeal.main_arg1)
          ∧ r.2.mem ((c.tc : Thread Cert.GqaQKRefIdeal.nD Cert.GqaQKRefIdeal.τ).loc Cert.GqaQKRefIdeal.main_arg2) = m' ((c.tc : Thread Cert.GqaQKRefIdeal.nD Cert.GqaQKRefIdeal.τ).loc Cert.GqaQKRefIdeal.main_arg2))

def preserves_MlaCtx_MlaCtxIdeal : Prop :=
  True

def algebraic_MlaCtxIdeal_MlaCtxRefIdeal_pre_finite_scores [hMlaCtxIdeal : Cert.MlaCtxIdeal.Facts] [hMlaCtxRefIdeal : Cert.MlaCtxRefIdeal.Facts] [hPre_finite_scores : Cert.Pre_finite_scores.Facts] : Prop :=
  ∀ (m : (ℓ : Loc Cert.MlaCtxIdeal.nD Cert.MlaCtxIdeal.τ Cert.MlaCtxIdeal.sig) → Buf (Elt Ideal) ℓ) (g : Dev Cert.MlaCtxIdeal.nD → PrngReg)
    (m' : (ℓ : Loc Cert.MlaCtxRefIdeal.nD Cert.MlaCtxRefIdeal.τ Cert.MlaCtxRefIdeal.sig) → Buf (Elt Ideal) ℓ) (g' : Dev Cert.MlaCtxRefIdeal.nD → PrngReg), Pre_MlaCtxIdeal_finite_scores m →
    (∀ c : Dev Cert.MlaCtxIdeal.nD,
      m' ((c.tc : Thread Cert.MlaCtxRefIdeal.nD Cert.MlaCtxRefIdeal.τ).loc Cert.MlaCtxRefIdeal.main_arg0) = m ((c.tc : Thread Cert.MlaCtxIdeal.nD Cert.MlaCtxIdeal.τ).loc Cert.MlaCtxIdeal.main_arg0)
      ∧ m' ((c.tc : Thread Cert.MlaCtxRefIdeal.nD Cert.MlaCtxRefIdeal.τ).loc Cert.MlaCtxRefIdeal.main_arg1) = m ((c.tc : Thread Cert.MlaCtxIdeal.nD Cert.MlaCtxIdeal.τ).loc Cert.MlaCtxIdeal.main_arg1)
      ∧ m' ((c.tc : Thread Cert.MlaCtxRefIdeal.nD Cert.MlaCtxRefIdeal.τ).loc Cert.MlaCtxRefIdeal.main_arg2) = m ((c.tc : Thread Cert.MlaCtxIdeal.nD Cert.MlaCtxIdeal.τ).loc Cert.MlaCtxIdeal.main_arg2)) →
    ∃ (v0 : (c : Dev Cert.MlaCtxIdeal.nD) → Buf (Elt Ideal) ((c.tc : Thread Cert.MlaCtxIdeal.nD Cert.MlaCtxIdeal.τ).loc Cert.MlaCtxIdeal.main_v0)),
      θ_run (Cert.MlaCtxIdeal.defs (F := Ideal)) (onTc (τ := Cert.MlaCtxIdeal.τ) (Cert.MlaCtxIdeal.main (F := Ideal))) ⟨m, fun _ => 0, g⟩ (fun r => ∀ c : Dev Cert.MlaCtxIdeal.nD,
          r.2.mem ((c.tc : Thread Cert.MlaCtxIdeal.nD Cert.MlaCtxIdeal.τ).loc Cert.MlaCtxIdeal.main_v0) = v0 c
          ∧ r.2.mem ((c.tc : Thread Cert.MlaCtxIdeal.nD Cert.MlaCtxIdeal.τ).loc Cert.MlaCtxIdeal.main_arg0) = m ((c.tc : Thread Cert.MlaCtxIdeal.nD Cert.MlaCtxIdeal.τ).loc Cert.MlaCtxIdeal.main_arg0)
          ∧ r.2.mem ((c.tc : Thread Cert.MlaCtxIdeal.nD Cert.MlaCtxIdeal.τ).loc Cert.MlaCtxIdeal.main_arg1) = m ((c.tc : Thread Cert.MlaCtxIdeal.nD Cert.MlaCtxIdeal.τ).loc Cert.MlaCtxIdeal.main_arg1)
          ∧ r.2.mem ((c.tc : Thread Cert.MlaCtxIdeal.nD Cert.MlaCtxIdeal.τ).loc Cert.MlaCtxIdeal.main_arg2) = m ((c.tc : Thread Cert.MlaCtxIdeal.nD Cert.MlaCtxIdeal.τ).loc Cert.MlaCtxIdeal.main_arg2))
      ∧ θ_run (Cert.MlaCtxRefIdeal.defs (F := Ideal)) (onTc (τ := Cert.MlaCtxRefIdeal.τ) (Cert.MlaCtxRefIdeal.main (F := Ideal))) ⟨m', fun _ => 0, g'⟩ (fun r => ∀ c : Dev Cert.MlaCtxRefIdeal.nD,
          r.2.mem ((c.tc : Thread Cert.MlaCtxRefIdeal.nD Cert.MlaCtxRefIdeal.τ).loc Cert.MlaCtxRefIdeal.main_v27) = v0 c
          ∧ r.2.mem ((c.tc : Thread Cert.MlaCtxRefIdeal.nD Cert.MlaCtxRefIdeal.τ).loc Cert.MlaCtxRefIdeal.main_arg0) = m' ((c.tc : Thread Cert.MlaCtxRefIdeal.nD Cert.MlaCtxRefIdeal.τ).loc Cert.MlaCtxRefIdeal.main_arg0)
          ∧ r.2.mem ((c.tc : Thread Cert.MlaCtxRefIdeal.nD Cert.MlaCtxRefIdeal.τ).loc Cert.MlaCtxRefIdeal.main_arg1) = m' ((c.tc : Thread Cert.MlaCtxRefIdeal.nD Cert.MlaCtxRefIdeal.τ).loc Cert.MlaCtxRefIdeal.main_arg1)
          ∧ r.2.mem ((c.tc : Thread Cert.MlaCtxRefIdeal.nD Cert.MlaCtxRefIdeal.τ).loc Cert.MlaCtxRefIdeal.main_arg2) = m' ((c.tc : Thread Cert.MlaCtxRefIdeal.nD Cert.MlaCtxRefIdeal.τ).loc Cert.MlaCtxRefIdeal.main_arg2))

def preserves_GqaCtx_GqaCtxIdeal : Prop :=
  True

def algebraic_GqaCtxIdeal_GqaCtxRefIdeal_pre_finite_gqa [hGqaCtxIdeal : Cert.GqaCtxIdeal.Facts] [hGqaCtxRefIdeal : Cert.GqaCtxRefIdeal.Facts] [hPre_finite_gqa : Cert.Pre_finite_gqa.Facts] : Prop :=
  ∀ (m : (ℓ : Loc Cert.GqaCtxIdeal.nD Cert.GqaCtxIdeal.τ Cert.GqaCtxIdeal.sig) → Buf (Elt Ideal) ℓ) (g : Dev Cert.GqaCtxIdeal.nD → PrngReg)
    (m' : (ℓ : Loc Cert.GqaCtxRefIdeal.nD Cert.GqaCtxRefIdeal.τ Cert.GqaCtxRefIdeal.sig) → Buf (Elt Ideal) ℓ) (g' : Dev Cert.GqaCtxRefIdeal.nD → PrngReg), Pre_GqaCtxIdeal_finite_gqa m →
    (∀ c : Dev Cert.GqaCtxIdeal.nD,
      m' ((c.tc : Thread Cert.GqaCtxRefIdeal.nD Cert.GqaCtxRefIdeal.τ).loc Cert.GqaCtxRefIdeal.main_arg0) = m ((c.tc : Thread Cert.GqaCtxIdeal.nD Cert.GqaCtxIdeal.τ).loc Cert.GqaCtxIdeal.main_arg0)
      ∧ m' ((c.tc : Thread Cert.GqaCtxRefIdeal.nD Cert.GqaCtxRefIdeal.τ).loc Cert.GqaCtxRefIdeal.main_arg1) = m ((c.tc : Thread Cert.GqaCtxIdeal.nD Cert.GqaCtxIdeal.τ).loc Cert.GqaCtxIdeal.main_arg1)
      ∧ m' ((c.tc : Thread Cert.GqaCtxRefIdeal.nD Cert.GqaCtxRefIdeal.τ).loc Cert.GqaCtxRefIdeal.main_arg2) = m ((c.tc : Thread Cert.GqaCtxIdeal.nD Cert.GqaCtxIdeal.τ).loc Cert.GqaCtxIdeal.main_arg2)) →
    ∃ (v0 : (c : Dev Cert.GqaCtxIdeal.nD) → Buf (Elt Ideal) ((c.tc : Thread Cert.GqaCtxIdeal.nD Cert.GqaCtxIdeal.τ).loc Cert.GqaCtxIdeal.main_v0)),
      θ_run (Cert.GqaCtxIdeal.defs (F := Ideal)) (onTc (τ := Cert.GqaCtxIdeal.τ) (Cert.GqaCtxIdeal.main (F := Ideal))) ⟨m, fun _ => 0, g⟩ (fun r => ∀ c : Dev Cert.GqaCtxIdeal.nD,
          r.2.mem ((c.tc : Thread Cert.GqaCtxIdeal.nD Cert.GqaCtxIdeal.τ).loc Cert.GqaCtxIdeal.main_v0) = v0 c
          ∧ r.2.mem ((c.tc : Thread Cert.GqaCtxIdeal.nD Cert.GqaCtxIdeal.τ).loc Cert.GqaCtxIdeal.main_arg0) = m ((c.tc : Thread Cert.GqaCtxIdeal.nD Cert.GqaCtxIdeal.τ).loc Cert.GqaCtxIdeal.main_arg0)
          ∧ r.2.mem ((c.tc : Thread Cert.GqaCtxIdeal.nD Cert.GqaCtxIdeal.τ).loc Cert.GqaCtxIdeal.main_arg1) = m ((c.tc : Thread Cert.GqaCtxIdeal.nD Cert.GqaCtxIdeal.τ).loc Cert.GqaCtxIdeal.main_arg1)
          ∧ r.2.mem ((c.tc : Thread Cert.GqaCtxIdeal.nD Cert.GqaCtxIdeal.τ).loc Cert.GqaCtxIdeal.main_arg2) = m ((c.tc : Thread Cert.GqaCtxIdeal.nD Cert.GqaCtxIdeal.τ).loc Cert.GqaCtxIdeal.main_arg2))
      ∧ θ_run (Cert.GqaCtxRefIdeal.defs (F := Ideal)) (onTc (τ := Cert.GqaCtxRefIdeal.τ) (Cert.GqaCtxRefIdeal.main (F := Ideal))) ⟨m', fun _ => 0, g'⟩ (fun r => ∀ c : Dev Cert.GqaCtxRefIdeal.nD,
          r.2.mem ((c.tc : Thread Cert.GqaCtxRefIdeal.nD Cert.GqaCtxRefIdeal.τ).loc Cert.GqaCtxRefIdeal.main_v28) = v0 c
          ∧ r.2.mem ((c.tc : Thread Cert.GqaCtxRefIdeal.nD Cert.GqaCtxRefIdeal.τ).loc Cert.GqaCtxRefIdeal.main_arg0) = m' ((c.tc : Thread Cert.GqaCtxRefIdeal.nD Cert.GqaCtxRefIdeal.τ).loc Cert.GqaCtxRefIdeal.main_arg0)
          ∧ r.2.mem ((c.tc : Thread Cert.GqaCtxRefIdeal.nD Cert.GqaCtxRefIdeal.τ).loc Cert.GqaCtxRefIdeal.main_arg1) = m' ((c.tc : Thread Cert.GqaCtxRefIdeal.nD Cert.GqaCtxRefIdeal.τ).loc Cert.GqaCtxRefIdeal.main_arg1)
          ∧ r.2.mem ((c.tc : Thread Cert.GqaCtxRefIdeal.nD Cert.GqaCtxRefIdeal.τ).loc Cert.GqaCtxRefIdeal.main_arg2) = m' ((c.tc : Thread Cert.GqaCtxRefIdeal.nD Cert.GqaCtxRefIdeal.τ).loc Cert.GqaCtxRefIdeal.main_arg2))

def preserves_Logits_LogitsIdeal : Prop :=
  True

def algebraic_LogitsIdeal_LogitsRefIdeal_pre_finite_router [hLogitsIdeal : Cert.LogitsIdeal.Facts] [hLogitsRefIdeal : Cert.LogitsRefIdeal.Facts] [hPre_finite_router : Cert.Pre_finite_router.Facts] : Prop :=
  ∀ (m : (ℓ : Loc Cert.LogitsIdeal.nD Cert.LogitsIdeal.τ Cert.LogitsIdeal.sig) → Buf (Elt Ideal) ℓ) (g : Dev Cert.LogitsIdeal.nD → PrngReg)
    (m' : (ℓ : Loc Cert.LogitsRefIdeal.nD Cert.LogitsRefIdeal.τ Cert.LogitsRefIdeal.sig) → Buf (Elt Ideal) ℓ) (g' : Dev Cert.LogitsRefIdeal.nD → PrngReg), Pre_LogitsIdeal_finite_router m →
    (∀ c : Dev Cert.LogitsIdeal.nD,
      m' ((c.tc : Thread Cert.LogitsRefIdeal.nD Cert.LogitsRefIdeal.τ).loc Cert.LogitsRefIdeal.main_arg0) = m ((c.tc : Thread Cert.LogitsIdeal.nD Cert.LogitsIdeal.τ).loc Cert.LogitsIdeal.main_arg0)
      ∧ m' ((c.tc : Thread Cert.LogitsRefIdeal.nD Cert.LogitsRefIdeal.τ).loc Cert.LogitsRefIdeal.main_arg1) = m ((c.tc : Thread Cert.LogitsIdeal.nD Cert.LogitsIdeal.τ).loc Cert.LogitsIdeal.main_arg1)
      ∧ m' ((c.tc : Thread Cert.LogitsRefIdeal.nD Cert.LogitsRefIdeal.τ).loc Cert.LogitsRefIdeal.main_arg2) = m ((c.tc : Thread Cert.LogitsIdeal.nD Cert.LogitsIdeal.τ).loc Cert.LogitsIdeal.main_arg2)
      ∧ m' ((c.tc : Thread Cert.LogitsRefIdeal.nD Cert.LogitsRefIdeal.τ).loc Cert.LogitsRefIdeal.main_arg3) = m ((c.tc : Thread Cert.LogitsIdeal.nD Cert.LogitsIdeal.τ).loc Cert.LogitsIdeal.main_arg3)
      ∧ m' ((c.tc : Thread Cert.LogitsRefIdeal.nD Cert.LogitsRefIdeal.τ).loc Cert.LogitsRefIdeal.main_arg4) = m ((c.tc : Thread Cert.LogitsIdeal.nD Cert.LogitsIdeal.τ).loc Cert.LogitsIdeal.main_arg4)
      ∧ m' ((c.tc : Thread Cert.LogitsRefIdeal.nD Cert.LogitsRefIdeal.τ).loc Cert.LogitsRefIdeal.main_arg5) = m ((c.tc : Thread Cert.LogitsIdeal.nD Cert.LogitsIdeal.τ).loc Cert.LogitsIdeal.main_arg5)
      ∧ m' ((c.tc : Thread Cert.LogitsRefIdeal.nD Cert.LogitsRefIdeal.τ).loc Cert.LogitsRefIdeal.main_arg6) = m ((c.tc : Thread Cert.LogitsIdeal.nD Cert.LogitsIdeal.τ).loc Cert.LogitsIdeal.main_arg6)
      ∧ m' ((c.tc : Thread Cert.LogitsRefIdeal.nD Cert.LogitsRefIdeal.τ).loc Cert.LogitsRefIdeal.main_arg7) = m ((c.tc : Thread Cert.LogitsIdeal.nD Cert.LogitsIdeal.τ).loc Cert.LogitsIdeal.main_arg7)
      ∧ m' ((c.tc : Thread Cert.LogitsRefIdeal.nD Cert.LogitsRefIdeal.τ).loc Cert.LogitsRefIdeal.main_arg8) = m ((c.tc : Thread Cert.LogitsIdeal.nD Cert.LogitsIdeal.τ).loc Cert.LogitsIdeal.main_arg8)) →
    ∃ (v0 : (c : Dev Cert.LogitsIdeal.nD) → Buf (Elt Ideal) ((c.tc : Thread Cert.LogitsIdeal.nD Cert.LogitsIdeal.τ).loc Cert.LogitsIdeal.main_v11_2)),
      θ_run (Cert.LogitsIdeal.defs (F := Ideal)) (onTc (τ := Cert.LogitsIdeal.τ) (Cert.LogitsIdeal.main (F := Ideal))) ⟨m, fun _ => 0, g⟩ (fun r => ∀ c : Dev Cert.LogitsIdeal.nD,
          r.2.mem ((c.tc : Thread Cert.LogitsIdeal.nD Cert.LogitsIdeal.τ).loc Cert.LogitsIdeal.main_v11_2) = v0 c
          ∧ r.2.mem ((c.tc : Thread Cert.LogitsIdeal.nD Cert.LogitsIdeal.τ).loc Cert.LogitsIdeal.main_arg0) = m ((c.tc : Thread Cert.LogitsIdeal.nD Cert.LogitsIdeal.τ).loc Cert.LogitsIdeal.main_arg0)
          ∧ r.2.mem ((c.tc : Thread Cert.LogitsIdeal.nD Cert.LogitsIdeal.τ).loc Cert.LogitsIdeal.main_arg1) = m ((c.tc : Thread Cert.LogitsIdeal.nD Cert.LogitsIdeal.τ).loc Cert.LogitsIdeal.main_arg1)
          ∧ r.2.mem ((c.tc : Thread Cert.LogitsIdeal.nD Cert.LogitsIdeal.τ).loc Cert.LogitsIdeal.main_arg2) = m ((c.tc : Thread Cert.LogitsIdeal.nD Cert.LogitsIdeal.τ).loc Cert.LogitsIdeal.main_arg2)
          ∧ r.2.mem ((c.tc : Thread Cert.LogitsIdeal.nD Cert.LogitsIdeal.τ).loc Cert.LogitsIdeal.main_arg3) = m ((c.tc : Thread Cert.LogitsIdeal.nD Cert.LogitsIdeal.τ).loc Cert.LogitsIdeal.main_arg3)
          ∧ r.2.mem ((c.tc : Thread Cert.LogitsIdeal.nD Cert.LogitsIdeal.τ).loc Cert.LogitsIdeal.main_arg4) = m ((c.tc : Thread Cert.LogitsIdeal.nD Cert.LogitsIdeal.τ).loc Cert.LogitsIdeal.main_arg4)
          ∧ r.2.mem ((c.tc : Thread Cert.LogitsIdeal.nD Cert.LogitsIdeal.τ).loc Cert.LogitsIdeal.main_arg5) = m ((c.tc : Thread Cert.LogitsIdeal.nD Cert.LogitsIdeal.τ).loc Cert.LogitsIdeal.main_arg5)
          ∧ r.2.mem ((c.tc : Thread Cert.LogitsIdeal.nD Cert.LogitsIdeal.τ).loc Cert.LogitsIdeal.main_arg6) = m ((c.tc : Thread Cert.LogitsIdeal.nD Cert.LogitsIdeal.τ).loc Cert.LogitsIdeal.main_arg6)
          ∧ r.2.mem ((c.tc : Thread Cert.LogitsIdeal.nD Cert.LogitsIdeal.τ).loc Cert.LogitsIdeal.main_arg7) = m ((c.tc : Thread Cert.LogitsIdeal.nD Cert.LogitsIdeal.τ).loc Cert.LogitsIdeal.main_arg7)
          ∧ r.2.mem ((c.tc : Thread Cert.LogitsIdeal.nD Cert.LogitsIdeal.τ).loc Cert.LogitsIdeal.main_arg8) = m ((c.tc : Thread Cert.LogitsIdeal.nD Cert.LogitsIdeal.τ).loc Cert.LogitsIdeal.main_arg8))
      ∧ θ_run (Cert.LogitsRefIdeal.defs (F := Ideal)) (onTc (τ := Cert.LogitsRefIdeal.τ) (Cert.LogitsRefIdeal.main (F := Ideal))) ⟨m', fun _ => 0, g'⟩ (fun r => ∀ c : Dev Cert.LogitsRefIdeal.nD,
          r.2.mem ((c.tc : Thread Cert.LogitsRefIdeal.nD Cert.LogitsRefIdeal.τ).loc Cert.LogitsRefIdeal.main_v106) = v0 c
          ∧ r.2.mem ((c.tc : Thread Cert.LogitsRefIdeal.nD Cert.LogitsRefIdeal.τ).loc Cert.LogitsRefIdeal.main_arg0) = m' ((c.tc : Thread Cert.LogitsRefIdeal.nD Cert.LogitsRefIdeal.τ).loc Cert.LogitsRefIdeal.main_arg0)
          ∧ r.2.mem ((c.tc : Thread Cert.LogitsRefIdeal.nD Cert.LogitsRefIdeal.τ).loc Cert.LogitsRefIdeal.main_arg1) = m' ((c.tc : Thread Cert.LogitsRefIdeal.nD Cert.LogitsRefIdeal.τ).loc Cert.LogitsRefIdeal.main_arg1)
          ∧ r.2.mem ((c.tc : Thread Cert.LogitsRefIdeal.nD Cert.LogitsRefIdeal.τ).loc Cert.LogitsRefIdeal.main_arg2) = m' ((c.tc : Thread Cert.LogitsRefIdeal.nD Cert.LogitsRefIdeal.τ).loc Cert.LogitsRefIdeal.main_arg2)
          ∧ r.2.mem ((c.tc : Thread Cert.LogitsRefIdeal.nD Cert.LogitsRefIdeal.τ).loc Cert.LogitsRefIdeal.main_arg3) = m' ((c.tc : Thread Cert.LogitsRefIdeal.nD Cert.LogitsRefIdeal.τ).loc Cert.LogitsRefIdeal.main_arg3)
          ∧ r.2.mem ((c.tc : Thread Cert.LogitsRefIdeal.nD Cert.LogitsRefIdeal.τ).loc Cert.LogitsRefIdeal.main_arg4) = m' ((c.tc : Thread Cert.LogitsRefIdeal.nD Cert.LogitsRefIdeal.τ).loc Cert.LogitsRefIdeal.main_arg4)
          ∧ r.2.mem ((c.tc : Thread Cert.LogitsRefIdeal.nD Cert.LogitsRefIdeal.τ).loc Cert.LogitsRefIdeal.main_arg5) = m' ((c.tc : Thread Cert.LogitsRefIdeal.nD Cert.LogitsRefIdeal.τ).loc Cert.LogitsRefIdeal.main_arg5)
          ∧ r.2.mem ((c.tc : Thread Cert.LogitsRefIdeal.nD Cert.LogitsRefIdeal.τ).loc Cert.LogitsRefIdeal.main_arg6) = m' ((c.tc : Thread Cert.LogitsRefIdeal.nD Cert.LogitsRefIdeal.τ).loc Cert.LogitsRefIdeal.main_arg6)
          ∧ r.2.mem ((c.tc : Thread Cert.LogitsRefIdeal.nD Cert.LogitsRefIdeal.τ).loc Cert.LogitsRefIdeal.main_arg7) = m' ((c.tc : Thread Cert.LogitsRefIdeal.nD Cert.LogitsRefIdeal.τ).loc Cert.LogitsRefIdeal.main_arg7)
          ∧ r.2.mem ((c.tc : Thread Cert.LogitsRefIdeal.nD Cert.LogitsRefIdeal.τ).loc Cert.LogitsRefIdeal.main_arg8) = m' ((c.tc : Thread Cert.LogitsRefIdeal.nD Cert.LogitsRefIdeal.τ).loc Cert.LogitsRefIdeal.main_arg8))

def Claim : Prop :=
  ∃ (hMla : Cert.Mla.Facts) (hMlaIdeal : Cert.MlaIdeal.Facts) (hMlaRefIdeal : Cert.MlaRefIdeal.Facts) (hGqa : Cert.Gqa.Facts) (hGqaIdeal : Cert.GqaIdeal.Facts) (hGqaRefIdeal : Cert.GqaRefIdeal.Facts) (hMoe : Cert.Moe.Facts) (hMoeIdeal : Cert.MoeIdeal.Facts) (hMoeRefIdeal : Cert.MoeRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hShared : Cert.Shared.Facts) (hSharedIdeal : Cert.SharedIdeal.Facts) (hSharedRefIdeal : Cert.SharedRefIdeal.Facts) (hMlaQ : Cert.MlaQ.Facts) (hMlaQIdeal : Cert.MlaQIdeal.Facts) (hMlaQRefIdeal : Cert.MlaQRefIdeal.Facts) (hMlaKV : Cert.MlaKV.Facts) (hMlaKVIdeal : Cert.MlaKVIdeal.Facts) (hMlaKVRefIdeal : Cert.MlaKVRefIdeal.Facts) (hGqaQK : Cert.GqaQK.Facts) (hGqaQKIdeal : Cert.GqaQKIdeal.Facts) (hGqaQKRefIdeal : Cert.GqaQKRefIdeal.Facts) (hMlaCtx : Cert.MlaCtx.Facts) (hMlaCtxIdeal : Cert.MlaCtxIdeal.Facts) (hMlaCtxRefIdeal : Cert.MlaCtxRefIdeal.Facts) (hGqaCtx : Cert.GqaCtx.Facts) (hGqaCtxIdeal : Cert.GqaCtxIdeal.Facts) (hGqaCtxRefIdeal : Cert.GqaCtxRefIdeal.Facts) (hLogits : Cert.Logits.Facts) (hLogitsIdeal : Cert.LogitsIdeal.Facts) (hLogitsRefIdeal : Cert.LogitsRefIdeal.Facts) (hPre_finite_scores : Cert.Pre_finite_scores.Facts) (hPre_finite_gqa : Cert.Pre_finite_gqa.Facts) (hPre_plan_in_range : Cert.Pre_plan_in_range.Facts) (hPre_finite_router : Cert.Pre_finite_router.Facts),
    quiescent_Mla (hMla := hMla)
    ∧ quiescent_MlaIdeal (hMlaIdeal := hMlaIdeal)
    ∧ quiescent_MlaIdeal_pre_finite_scores (hMlaIdeal := hMlaIdeal) (hPre_finite_scores := hPre_finite_scores)
    ∧ quiescent_MlaRefIdeal (hMlaRefIdeal := hMlaRefIdeal)
    ∧ quiescent_MlaRefIdeal_pre_finite_scores (hMlaRefIdeal := hMlaRefIdeal) (hPre_finite_scores := hPre_finite_scores)
    ∧ quiescent_Gqa (hGqa := hGqa)
    ∧ quiescent_GqaIdeal (hGqaIdeal := hGqaIdeal)
    ∧ quiescent_GqaIdeal_pre_finite_gqa (hGqaIdeal := hGqaIdeal) (hPre_finite_gqa := hPre_finite_gqa)
    ∧ quiescent_GqaRefIdeal (hGqaRefIdeal := hGqaRefIdeal)
    ∧ quiescent_GqaRefIdeal_pre_finite_gqa (hGqaRefIdeal := hGqaRefIdeal) (hPre_finite_gqa := hPre_finite_gqa)
    ∧ quiescent_Moe (hMoe := hMoe) (hPre_plan_in_range := hPre_plan_in_range)
    ∧ quiescent_MoeIdeal (hMoeIdeal := hMoeIdeal) (hPre_plan_in_range := hPre_plan_in_range)
    ∧ quiescent_MoeRefIdeal (hMoeRefIdeal := hMoeRefIdeal)
    ∧ quiescent_MoeRefIdeal_pre_plan_in_range (hMoeRefIdeal := hMoeRefIdeal) (hPre_plan_in_range := hPre_plan_in_range)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Shared (hShared := hShared)
    ∧ quiescent_SharedIdeal (hSharedIdeal := hSharedIdeal)
    ∧ quiescent_SharedRefIdeal (hSharedRefIdeal := hSharedRefIdeal)
    ∧ quiescent_MlaQ (hMlaQ := hMlaQ)
    ∧ quiescent_MlaQIdeal (hMlaQIdeal := hMlaQIdeal)
    ∧ quiescent_MlaQRefIdeal (hMlaQRefIdeal := hMlaQRefIdeal)
    ∧ quiescent_MlaKV (hMlaKV := hMlaKV)
    ∧ quiescent_MlaKVIdeal (hMlaKVIdeal := hMlaKVIdeal)
    ∧ quiescent_MlaKVRefIdeal (hMlaKVRefIdeal := hMlaKVRefIdeal)
    ∧ quiescent_GqaQK (hGqaQK := hGqaQK)
    ∧ quiescent_GqaQKIdeal (hGqaQKIdeal := hGqaQKIdeal)
    ∧ quiescent_GqaQKRefIdeal (hGqaQKRefIdeal := hGqaQKRefIdeal)
    ∧ quiescent_MlaCtx (hMlaCtx := hMlaCtx)
    ∧ quiescent_MlaCtxIdeal (hMlaCtxIdeal := hMlaCtxIdeal)
    ∧ quiescent_MlaCtxIdeal_pre_finite_scores (hMlaCtxIdeal := hMlaCtxIdeal) (hPre_finite_scores := hPre_finite_scores)
    ∧ quiescent_MlaCtxRefIdeal (hMlaCtxRefIdeal := hMlaCtxRefIdeal)
    ∧ quiescent_MlaCtxRefIdeal_pre_finite_scores (hMlaCtxRefIdeal := hMlaCtxRefIdeal) (hPre_finite_scores := hPre_finite_scores)
    ∧ quiescent_GqaCtx (hGqaCtx := hGqaCtx)
    ∧ quiescent_GqaCtxIdeal (hGqaCtxIdeal := hGqaCtxIdeal)
    ∧ quiescent_GqaCtxIdeal_pre_finite_gqa (hGqaCtxIdeal := hGqaCtxIdeal) (hPre_finite_gqa := hPre_finite_gqa)
    ∧ quiescent_GqaCtxRefIdeal (hGqaCtxRefIdeal := hGqaCtxRefIdeal)
    ∧ quiescent_GqaCtxRefIdeal_pre_finite_gqa (hGqaCtxRefIdeal := hGqaCtxRefIdeal) (hPre_finite_gqa := hPre_finite_gqa)
    ∧ quiescent_Logits (hLogits := hLogits)
    ∧ quiescent_LogitsIdeal (hLogitsIdeal := hLogitsIdeal)
    ∧ quiescent_LogitsIdeal_pre_finite_router (hLogitsIdeal := hLogitsIdeal) (hPre_finite_router := hPre_finite_router)
    ∧ quiescent_LogitsRefIdeal (hLogitsRefIdeal := hLogitsRefIdeal)
    ∧ quiescent_LogitsRefIdeal_pre_finite_router (hLogitsRefIdeal := hLogitsRefIdeal) (hPre_finite_router := hPre_finite_router)
    ∧ preserves_Mla_MlaIdeal
    ∧ algebraic_MlaIdeal_MlaRefIdeal_pre_finite_scores (hMlaIdeal := hMlaIdeal) (hMlaRefIdeal := hMlaRefIdeal) (hPre_finite_scores := hPre_finite_scores)
    ∧ preserves_Gqa_GqaIdeal
    ∧ algebraic_GqaIdeal_GqaRefIdeal_pre_finite_gqa (hGqaIdeal := hGqaIdeal) (hGqaRefIdeal := hGqaRefIdeal) (hPre_finite_gqa := hPre_finite_gqa)
    ∧ preserves_Moe_MoeIdeal
    ∧ algebraic_MoeIdeal_MoeRefIdeal (hMoeIdeal := hMoeIdeal) (hMoeRefIdeal := hMoeRefIdeal) (hPre_plan_in_range := hPre_plan_in_range)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Shared_SharedIdeal
    ∧ algebraic_SharedIdeal_SharedRefIdeal (hSharedIdeal := hSharedIdeal) (hSharedRefIdeal := hSharedRefIdeal)
    ∧ preserves_MlaQ_MlaQIdeal
    ∧ algebraic_MlaQIdeal_MlaQRefIdeal (hMlaQIdeal := hMlaQIdeal) (hMlaQRefIdeal := hMlaQRefIdeal)
    ∧ preserves_MlaKV_MlaKVIdeal
    ∧ algebraic_MlaKVIdeal_MlaKVRefIdeal (hMlaKVIdeal := hMlaKVIdeal) (hMlaKVRefIdeal := hMlaKVRefIdeal)
    ∧ preserves_GqaQK_GqaQKIdeal
    ∧ algebraic_GqaQKIdeal_GqaQKRefIdeal (hGqaQKIdeal := hGqaQKIdeal) (hGqaQKRefIdeal := hGqaQKRefIdeal)
    ∧ preserves_MlaCtx_MlaCtxIdeal
    ∧ algebraic_MlaCtxIdeal_MlaCtxRefIdeal_pre_finite_scores (hMlaCtxIdeal := hMlaCtxIdeal) (hMlaCtxRefIdeal := hMlaCtxRefIdeal) (hPre_finite_scores := hPre_finite_scores)
    ∧ preserves_GqaCtx_GqaCtxIdeal
    ∧ algebraic_GqaCtxIdeal_GqaCtxRefIdeal_pre_finite_gqa (hGqaCtxIdeal := hGqaCtxIdeal) (hGqaCtxRefIdeal := hGqaCtxRefIdeal) (hPre_finite_gqa := hPre_finite_gqa)
    ∧ preserves_Logits_LogitsIdeal
    ∧ algebraic_LogitsIdeal_LogitsRefIdeal_pre_finite_router (hLogitsIdeal := hLogitsIdeal) (hLogitsRefIdeal := hLogitsRefIdeal) (hPre_finite_router := hPre_finite_router)
-- ==== Pre_finite_gqa.lean ====
abbrev S18432x768 : Shape := ⟨2, ![18432, 768]⟩
abbrev S18432x256 : Shape := ⟨2, ![18432, 256]⟩
abbrev S18432x3968 : Shape := ⟨2, ![18432, 3968]⟩
abbrev S_ : Shape := ⟨0, ![]⟩

class Facts : Prop where
  bitsLt_bf16_f32 : FTy.bits .bf16 < FTy.bits .f32
  bcast_S_S18432x768 : S_.BroadcastsInDim S18432x768 (![] : Fin 0 → Fin S18432x768.rank)
  bcast_S_S18432x256 : S_.BroadcastsInDim S18432x256 (![] : Fin 0 → Fin S18432x256.rank)

variable [Facts]

def fn {F : FTy → Type} [FloatOps F] (main_arg0 : FVec F S18432x768 .bf16) (main_arg1 : FVec F S18432x256 .bf16) (main_arg2 : FVec F S18432x3968 .bf16) : IVec S18432x768 1 × IVec S18432x256 1 :=
  let main_v0 : FVec F S18432x768 .f32 := (extf .f32 · bitsLt_bf16_f32) main_arg0
  let main_v1 : FVec F S18432x768 .f32 := Host.absf main_v0
  let main_cst : FVec F S_ .f32 := constant S_ .f32 0x7F800000#32
  let main_v2 : FVec F S18432x768 .f32 := broadcastInDim S18432x768 ![] bcast_S_S18432x768 main_cst
  let main_v3 : IVec S18432x768 1 := cmpf .olt main_v1 main_v2
  let main_v4 : FVec F S18432x256 .f32 := (extf .f32 · bitsLt_bf16_f32) main_arg1
  let main_v5 : FVec F S18432x256 .f32 := Host.absf main_v4
  let main_cst_0 : FVec F S_ .f32 := constant S_ .f32 0x7F800000#32
  let main_v6 : FVec F S18432x256 .f32 := broadcastInDim S18432x256 ![] bcast_S_S18432x256 main_cst_0
  let main_v7 : IVec S18432x256 1 := cmpf .olt main_v5 main_v6
  (main_v3, main_v7)
-- ==== Pre_finite_router.lean ====
abbrev S18432x512 : Shape := ⟨2, ![18432, 512]⟩
abbrev S18432x768 : Shape := ⟨2, ![18432, 768]⟩
abbrev S2048x2048 : Shape := ⟨2, ![2048, 2048]⟩
abbrev S18432x2048 : Shape := ⟨2, ![18432, 2048]⟩
abbrev S2048 : Shape := ⟨1, ![2048]⟩
abbrev S16x6x2048 : Shape := ⟨3, ![16, 6, 2048]⟩
abbrev S2048x64 : Shape := ⟨2, ![2048, 64]⟩
abbrev S9x2x2048 : Shape := ⟨3, ![9, 2, 2048]⟩
abbrev S_ : Shape := ⟨0, ![]⟩

class Facts : Prop where
  slices_S16x6x2048_S9x2x2048_0_3_0 : S16x6x2048.Slices ![0, 3, 0] S9x2x2048
  bcast_S_S2048 : S_.BroadcastsInDim S2048 (![] : Fin 0 → Fin S2048.rank)
  bcast_S_S9x2x2048 : S_.BroadcastsInDim S9x2x2048 (![] : Fin 0 → Fin S9x2x2048.rank)
  bcast_S_S2048x64 : S_.BroadcastsInDim S2048x64 (![] : Fin 0 → Fin S2048x64.rank)

variable [Facts]

def fn {F : FTy → Type} [FloatOps F] (main_arg0 : FVec F S18432x512 .bf16) (main_arg1 : FVec F S18432x768 .bf16) (main_arg2 : FVec F S18432x768 .bf16) (main_arg3 : FVec F S2048x2048 .f32) (main_arg4 : FVec F S18432x2048 .f32) (main_arg5 : FVec F S2048 .f32) (main_arg6 : FVec F S2048 .f32) (main_arg7 : FVec F S16x6x2048 .f32) (main_arg8 : FVec F S2048x64 .f32) : IVec S2048 1 × IVec S9x2x2048 1 × IVec S2048x64 1 :=
  let main_v0 : FVec F S9x2x2048 .f32 := (extractStridedSlice S9x2x2048 ![0, 3, 0] · slices_S16x6x2048_S9x2x2048_0_3_0) main_arg7
  let main_v1 : FVec F S2048 .f32 := Host.absf main_arg6
  let main_cst : FVec F S_ .f32 := constant S_ .f32 0x7F800000#32
  let main_v2 : FVec F S2048 .f32 := broadcastInDim S2048 ![] bcast_S_S2048 main_cst
  let main_v3 : IVec S2048 1 := cmpf .olt main_v1 main_v2
  let main_v4 : FVec F S9x2x2048 .f32 := Host.absf main_v0
  let main_cst_0 : FVec F S_ .f32 := constant S_ .f32 0x7F800000#32
  let main_v5 : FVec F S9x2x2048 .f32 := broadcastInDim S9x2x2048 ![] bcast_S_S9x2x2048 main_cst_0
  let main_v6 : IVec S9x2x2048 1 := cmpf .olt main_v4 main_v5
  let main_v7 : FVec F S2048x64 .f32 := Host.absf main_arg8
  let main_cst_1 : FVec F S_ .f32 := constant S_ .f32 0x7F800000#32
  let main_v8 : FVec F S2048x64 .f32 := broadcastInDim S2048x64 ![] bcast_S_S2048x64 main_cst_1
  let main_v9 : IVec S2048x64 1 := cmpf .olt main_v7 main_v8
  (main_v3, main_v6, main_v9)
-- ==== Pre_finite_scores.lean ====
abbrev S18432x1536 : Shape := ⟨2, ![18432, 1536]⟩
abbrev S18432x768 : Shape := ⟨2, ![18432, 768]⟩
abbrev S_ : Shape := ⟨0, ![]⟩

class Facts : Prop where
  bitsLt_bf16_f32 : FTy.bits .bf16 < FTy.bits .f32
  bcast_S_S18432x1536 : S_.BroadcastsInDim S18432x1536 (![] : Fin 0 → Fin S18432x1536.rank)

variable [Facts]

def fn {F : FTy → Type} [FloatOps F] (main_arg0 : FVec F S18432x1536 .bf16) (main_arg1 : FVec F S18432x1536 .bf16) (main_arg2 : FVec F S18432x768 .bf16) : IVec S18432x1536 1 × IVec S18432x1536 1 :=
  let main_v0 : FVec F S18432x1536 .f32 := (extf .f32 · bitsLt_bf16_f32) main_arg0
  let main_v1 : FVec F S18432x1536 .f32 := Host.absf main_v0
  let main_cst : FVec F S_ .f32 := constant S_ .f32 0x7F800000#32
  let main_v2 : FVec F S18432x1536 .f32 := broadcastInDim S18432x1536 ![] bcast_S_S18432x1536 main_cst
  let main_v3 : IVec S18432x1536 1 := cmpf .olt main_v1 main_v2
  let main_v4 : FVec F S18432x1536 .f32 := (extf .f32 · bitsLt_bf16_f32) main_arg1
  let main_v5 : FVec F S18432x1536 .f32 := Host.absf main_v4
  let main_cst_0 : FVec F S_ .f32 := constant S_ .f32 0x7F800000#32
  let main_v6 : FVec F S18432x1536 .f32 := broadcastInDim S18432x1536 ![] bcast_S_S18432x1536 main_cst_0
  let main_v7 : IVec S18432x1536 1 := cmpf .olt main_v5 main_v6
  (main_v3, main_v7)
-- ==== Pre_plan_in_range.lean ====
abbrev S18432x2048 : Shape := ⟨2, ![18432, 2048]⟩
abbrev S126976 : Shape := ⟨1, ![126976]⟩
abbrev S126976x1 : Shape := ⟨2, ![126976, 1]⟩
abbrev S496 : Shape := ⟨1, ![496]⟩
abbrev S64x2048x512 : Shape := ⟨3, ![64, 2048, 512]⟩
abbrev S64x512x2048 : Shape := ⟨3, ![64, 512, 2048]⟩
abbrev S496x256 : Shape := ⟨2, ![496, 256]⟩
abbrev S_ : Shape := ⟨0, ![]⟩
abbrev S496x1 : Shape := ⟨2, ![496, 1]⟩

class Facts : Prop where
  shapeCasts_S126976x1_S496x256 : S126976x1.ShapeCasts S496x256
  bcast_S_S496 : S_.BroadcastsInDim S496 (![] : Fin 0 → Fin S496.rank)
  bcast_S496_S496x1_0 : S496.BroadcastsInDim S496x1 (![0] : Fin 1 → Fin S496x1.rank)
  bcast_S_S496x1 : S_.BroadcastsInDim S496x1 (![] : Fin 0 → Fin S496x1.rank)
  bcast_S_S496x256 : S_.BroadcastsInDim S496x256 (![] : Fin 0 → Fin S496x256.rank)
  bcast_S496x1_S496x256_0_1 : S496x1.BroadcastsInDim S496x256 (![0, 1] : Fin 2 → Fin S496x256.rank)

variable [Facts]

def fn {F : FTy → Type} [FloatOps F] (main_arg0 : FVec F S18432x2048 .bf16) (main_arg1 : IVec S126976 32) (main_arg2 : FVec F S126976x1 .f32) (main_arg3 : IVec S496 32) (main_arg4 : IVec S496 32) (main_arg5 : FVec F S64x2048x512 .f32) (main_arg6 : FVec F S64x2048x512 .f32) (main_arg7 : FVec F S64x512x2048 .f32) : IVec S496 1 × IVec S496x256 1 :=
  let main_v0 : FVec F S496x256 .f32 := shapeCast S496x256 main_arg2 shapeCasts_S126976x1_S496x256
  let main_c : IVec S_ 32 := constantI S_ 32 0#32
  let main_v1 : IVec S496 32 := broadcastInDim S496 ![] bcast_S_S496 main_c
  let main_v2 : IVec S496 1 := cmpi .sge main_arg3 main_v1
  let main_c_0 : IVec S_ 32 := constantI S_ 32 64#32
  let main_v3 : IVec S496 32 := broadcastInDim S496 ![] bcast_S_S496 main_c_0
  let main_v4 : IVec S496 1 := cmpi .slt main_arg3 main_v3
  let main_v5 : IVec S496 1 := andi main_v2 main_v4
  let main_v6 : IVec S496x1 32 := broadcastInDim S496x1 ![0] bcast_S496_S496x1_0 main_arg4
  let main_c_1 : IVec S_ 32 := constantI S_ 32 0#32
  let main_v7 : IVec S496x1 32 := broadcastInDim S496x1 ![] bcast_S_S496x1 main_c_1
  let main_v8 : IVec S496x1 1 := cmpi .ne main_v6 main_v7
  let main_cst : FVec F S_ .f32 := constant S_ .f32 0x00000000#32
  let main_v9 : FVec F S496x256 .f32 := broadcastInDim S496x256 ![] bcast_S_S496x256 main_cst
  let main_v10 : IVec S496x256 1 := cmpf .oeq main_v0 main_v9
  let main_v11 : IVec S496x256 1 := broadcastInDim S496x256 ![0, 1] bcast_S496x1_S496x256_0_1 main_v8
  let main_v12 : IVec S496x256 1 := ori main_v11 main_v10
  (main_v5, main_v12)
-- ==== Mla.lean ====
abbrev S18432x1536 : Shape := ⟨2, ![18432, 1536]⟩
abbrev S18432x768 : Shape := ⟨2, ![18432, 768]⟩
abbrev S16384x768 : Shape := ⟨2, ![16384, 768]⟩
abbrev S512x256 : Shape := ⟨2, ![512, 256]⟩
abbrev S256x256 : Shape := ⟨2, ![256, 256]⟩
abbrev S2048x256 : Shape := ⟨2, ![2048, 256]⟩
abbrev S256x128 : Shape := ⟨2, ![256, 128]⟩
abbrev S2048x128 : Shape := ⟨2, ![2048, 128]⟩
abbrev S512x128 : Shape := ⟨2, ![512, 128]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 12
  | .smem => 0
  | _ => 0

abbrev bufTy : (tb : Table) → Fin (tcTables nBuf tb) → BufTy
  | .hbm, ⟨0, _⟩ => ⟨S18432x1536, .bf16⟩
  | .hbm, ⟨1, _⟩ => ⟨S18432x1536, .bf16⟩
  | .hbm, ⟨2, _⟩ => ⟨S18432x768, .bf16⟩
  | .hbm, ⟨3, _⟩ => ⟨S16384x768, .bf16⟩
  | .local _ .vmem, ⟨0, _⟩ => ⟨S512x256, .bf16⟩
  | .local _ .vmem, ⟨1, _⟩ => ⟨S512x256, .bf16⟩
  | .local _ .vmem, ⟨2, _⟩ => ⟨S256x256, .bf16⟩
  | .local _ .vmem, ⟨3, _⟩ => ⟨S256x256, .bf16⟩
  | .local _ .vmem, ⟨4, _⟩ => ⟨S2048x256, .bf16⟩
  | .local _ .vmem, ⟨5, _⟩ => ⟨S2048x256, .bf16⟩
  | .local _ .vmem, ⟨6, _⟩ => ⟨S256x128, .bf16⟩
  | .local _ .vmem, ⟨7, _⟩ => ⟨S256x128, .bf16⟩
  | .local _ .vmem, ⟨8, _⟩ => ⟨S2048x128, .bf16⟩
  | .local _ .vmem, ⟨9, _⟩ => ⟨S2048x128, .bf16⟩
  | .local _ .vmem, ⟨10, _⟩ => ⟨S512x128, .bf16⟩
  | .local _ .vmem, ⟨11, _⟩ => ⟨S512x128, .bf16⟩
  | _, _ => ⟨S18432x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 6, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  ![v0.toNat, v17.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  ![v0.toNat, v17.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let v18 : BitVec 32 := Scalar.addi c0_i32_5 v17
  let c0_i32_6 : BitVec 32 := 0#32
  ![v0.toNat, v18.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c1_i32 : BitVec 32 := 1#32
  let v1 : BitVec 32 := Scalar.divsi arg1 c1_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c1_i32 c0_i32_2
  let v8 : BitVec 32 := Scalar.extui v7
  let c0_i32_3 : BitVec 32 := 0#32
  let v9 : BitVec 1 := Scalar.cmpi .slt c1_i32 c0_i32_3
  let v10 : BitVec 32 := Scalar.extui v9
  let v11 : BitVec 32 := Scalar.subi v8 v10
  let v12 : BitVec 1 := Scalar.cmpi .ne v6 v11
  let v13 : BitVec 32 := Scalar.remsi arg1 c1_i32
  let c0_i32_4 : BitVec 32 := 0#32
  let v14 : BitVec 1 := Scalar.cmpi .ne v13 c0_i32_4
  let v15 : BitVec 1 := Scalar.andi v12 v14
  let c1_i32_5 : BitVec 32 := 1#32
  let v16 : BitVec 32 := Scalar.subi v1 c1_i32_5
  let v17 : BitVec 32 := Scalar.select v15 v16 v1
  let c0_i32_6 : BitVec 32 := 0#32
  let v18 : BitVec 32 := Scalar.addi c0_i32_6 v17
  let c0_i32_7 : BitVec 32 := 0#32
  ![v0.toNat, v18.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== MlaRefIdeal.lean ====
abbrev S18432x1536 : Shape := ⟨2, ![18432, 1536]⟩
abbrev S18432x768 : Shape := ⟨2, ![18432, 768]⟩
abbrev S16384x1536 : Shape := ⟨2, ![16384, 1536]⟩
abbrev S8x2048x6x256 : Shape := ⟨4, ![8, 2048, 6, 256]⟩
abbrev S2048x1536 : Shape := ⟨2, ![2048, 1536]⟩
abbrev S8x256x6x256 : Shape := ⟨4, ![8, 256, 6, 256]⟩
abbrev S8x2304x6x256 : Shape := ⟨4, ![8, 2304, 6, 256]⟩
abbrev S16384x768 : Shape := ⟨2, ![16384, 768]⟩
abbrev S8x2048x6x128 : Shape := ⟨4, ![8, 2048, 6, 128]⟩
abbrev S2048x768 : Shape := ⟨2, ![2048, 768]⟩
abbrev S8x256x6x128 : Shape := ⟨4, ![8, 256, 6, 128]⟩
abbrev S8x2304x6x128 : Shape := ⟨4, ![8, 2304, 6, 128]⟩
abbrev S8x2048x6x1x256 : Shape := ⟨5, ![8, 2048, 6, 1, 256]⟩
abbrev S8x6x2304x2048x1 : Shape := ⟨5, ![8, 6, 2304, 2048, 1]⟩
abbrev S8x6x1x2048x2304 : Shape := ⟨5, ![8, 6, 1, 2048, 2304]⟩
abbrev S_ : Shape := ⟨0, ![]⟩
abbrev S8x6x1x2048 : Shape := ⟨4, ![8, 6, 1, 2048]⟩
abbrev S8x6x1x2048x1 : Shape := ⟨5, ![8, 6, 1, 2048, 1]⟩
abbrev S8x6x128x1x2048 : Shape := ⟨5, ![8, 6, 128, 1, 2048]⟩
abbrev S8x2048x6x1x128 : Shape := ⟨5, ![8, 2048, 6, 1, 128]⟩
abbrev S8x2048x768 : Shape := ⟨3, ![8, 2048, 768]⟩

abbrev nBuf : Space → Nat
  | .hbm => 40
  | .vmem => 0
  | .smem => 0
  | _ => 0

abbrev bufTy : (tb : Table) → Fin (tcTables nBuf tb) → BufTy
  | .hbm, ⟨0, _⟩ => ⟨S18432x1536, .bf16⟩
  | .hbm, ⟨1, _⟩ => ⟨S18432x1536, .bf16⟩
  | .hbm, ⟨2, _⟩ => ⟨S18432x768, .bf16⟩
  | .hbm, ⟨3, _⟩ => ⟨S16384x1536, .bf16⟩
  | .hbm, ⟨4, _⟩ => ⟨S16384x1536, .f32⟩
  | .hbm, ⟨5, _⟩ => ⟨S8x2048x6x256, .f32⟩
  | .hbm, ⟨6, _⟩ => ⟨S18432x1536, .f32⟩
  | .hbm, ⟨7, _⟩ => ⟨S16384x1536, .f32⟩
  | .hbm, ⟨8, _⟩ => ⟨S8x2048x6x256, .f32⟩
  | .hbm, ⟨9, _⟩ => ⟨S2048x1536, .f32⟩
  | .hbm, ⟨10, _⟩ => ⟨S8x256x6x256, .f32⟩
  | .hbm, ⟨11, _⟩ => ⟨S8x2304x6x256, .f32⟩
  | .hbm, ⟨12, _⟩ => ⟨S18432x768, .f32⟩
  | .hbm, ⟨13, _⟩ => ⟨S16384x768, .f32⟩
  | .hbm, ⟨14, _⟩ => ⟨S8x2048x6x128, .f32⟩
  | .hbm, ⟨15, _⟩ => ⟨S2048x768, .f32⟩
  | .hbm, ⟨16, _⟩ => ⟨S8x256x6x128, .f32⟩
  | .hbm, ⟨17, _⟩ => ⟨S8x2304x6x128, .f32⟩
  | .hbm, ⟨18, _⟩ => ⟨S8x2048x6x1x256, .f32⟩
  | .hbm, ⟨19, _⟩ => ⟨S8x6x2304x2048x1, .f32⟩
  | .hbm, ⟨20, _⟩ => ⟨S8x6x1x2048x2304, .f32⟩
  | .hbm, ⟨21, _⟩ => ⟨S_, .f32⟩
  | .hbm, ⟨22, _⟩ => ⟨S8x6x1x2048, .f32⟩
  | .hbm, ⟨23, _⟩ => ⟨S_, .f32⟩
  | .hbm, ⟨24, _⟩ => ⟨S8x6x1x2048, .f32⟩
  | .hbm, ⟨25, _⟩ => ⟨S8x6x1x2048, .f32⟩
  | .hbm, ⟨26, _⟩ => ⟨S8x6x1x2048x1, .f32⟩
  | .hbm, ⟨27, _⟩ => ⟨S8x6x1x2048x2304, .f32⟩
  | .hbm, ⟨28, _⟩ => ⟨S8x6x1x2048x2304, .f32⟩
  | .hbm, ⟨29, _⟩ => ⟨S8x6x1x2048x2304, .f32⟩
  | .hbm, ⟨30, _⟩ => ⟨S_, .f32⟩
  | .hbm, ⟨31, _⟩ => ⟨S8x6x1x2048, .f32⟩
  | .hbm, ⟨32, _⟩ => ⟨S8x6x1x2048x1, .f32⟩
  | .hbm, ⟨33, _⟩ => ⟨S8x6x1x2048x2304, .f32⟩
  | .hbm, ⟨34, _⟩ => ⟨S8x6x1x2048x2304, .f32⟩
  | .hbm, ⟨35, _⟩ => ⟨S8x6x128x1x2048, .f32⟩
  | .hbm, ⟨36, _⟩ => ⟨S8x2048x6x1x128, .f32⟩
  | .hbm, ⟨37, _⟩ => ⟨S8x2048x768, .f32⟩
  | .hbm, ⟨38, _⟩ => ⟨S16384x768, .f32⟩
  | .hbm, ⟨39, _⟩ => ⟨S16384x768, .bf16⟩
  | _, _ => ⟨S18432x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst : Ref sig .tc := ⟨.hbm, 21, rfl⟩
abbrev main_v18 : Ref sig .tc := ⟨.hbm, 22, rfl⟩
abbrev main_cst_0 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩

abbrev nD : Nat := 1
abbrev τ : Topo := Topo.v7x

variable {F : FTy → Type} [FloatOps F]
-- ==== Gqa.lean ====
abbrev S18432x768 : Shape := ⟨2, ![18432, 768]⟩
abbrev S18432x256 : Shape := ⟨2, ![18432, 256]⟩
abbrev S18432x3968 : Shape := ⟨2, ![18432, 3968]⟩
abbrev S16384x768 : Shape := ⟨2, ![16384, 768]⟩
abbrev S512x128 : Shape := ⟨2, ![512, 128]⟩
abbrev S256x128 : Shape := ⟨2, ![256, 128]⟩
abbrev S2048x128 : Shape := ⟨2, ![2048, 128]⟩
abbrev S512x256 : Shape := ⟨2, ![512, 256]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 12
  | .smem => 0
  | _ => 0

abbrev bufTy : (tb : Table) → Fin (tcTables nBuf tb) → BufTy
  | .hbm, ⟨0, _⟩ => ⟨S18432x768, .bf16⟩
  | .hbm, ⟨1, _⟩ => ⟨S18432x256, .bf16⟩
  | .hbm, ⟨2, _⟩ => ⟨S18432x3968, .bf16⟩
  | .hbm, ⟨3, _⟩ => ⟨S16384x768, .bf16⟩
  | .local _ .vmem, ⟨0, _⟩ => ⟨S512x128, .bf16⟩
  | .local _ .vmem, ⟨1, _⟩ => ⟨S512x128, .bf16⟩
  | .local _ .vmem, ⟨2, _⟩ => ⟨S256x128, .bf16⟩
  | .local _ .vmem, ⟨3, _⟩ => ⟨S256x128, .bf16⟩
  | .local _ .vmem, ⟨4, _⟩ => ⟨S2048x128, .bf16⟩
  | .local _ .vmem, ⟨5, _⟩ => ⟨S2048x128, .bf16⟩
  | .local _ .vmem, ⟨6, _⟩ => ⟨S256x128, .bf16⟩
  | .local _ .vmem, ⟨7, _⟩ => ⟨S256x128, .bf16⟩
  | .local _ .vmem, ⟨8, _⟩ => ⟨S2048x128, .bf16⟩
  | .local _ .vmem, ⟨9, _⟩ => ⟨S2048x128, .bf16⟩
  | .local _ .vmem, ⟨10, _⟩ => ⟨S512x128, .bf16⟩
  | .local _ .vmem, ⟨11, _⟩ => ⟨S512x128, .bf16⟩
  | _, _ => ⟨S18432x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 6, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c3_i32 : BitVec 32 := 3#32
  let v1 : BitVec 32 := Scalar.divsi arg1 c3_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi arg1 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  ![v0.toNat, v17.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c3_i32 : BitVec 32 := 3#32
  let v1 : BitVec 32 := Scalar.divsi arg1 c3_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi arg1 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c0_i32_5 : BitVec 32 := 0#32
  ![v0.toNat, v17.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c3_i32 : BitVec 32 := 3#32
  let v1 : BitVec 32 := Scalar.divsi arg1 c3_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi arg1 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c28_i32 : BitVec 32 := 28#32
  let v18 : BitVec 32 := Scalar.addi c28_i32 v17
  let c0_i32_4 : BitVec 32 := 0#32
  ![v0.toNat, v18.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c3_i32 : BitVec 32 := 3#32
  let v1 : BitVec 32 := Scalar.divsi arg1 c3_i32
  let c0_i32_0 : BitVec 32 := 0#32
  let v2 : BitVec 1 := Scalar.cmpi .sgt arg1 c0_i32_0
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c3_i32 c0_i32_2
  let v8 : BitVec 32 := Scalar.extui v7
  let c0_i32_3 : BitVec 32 := 0#32
  let v9 : BitVec 1 := Scalar.cmpi .slt c3_i32 c0_i32_3
  let v10 : BitVec 32 := Scalar.extui v9
  let v11 : BitVec 32 := Scalar.subi v8 v10
  let v12 : BitVec 1 := Scalar.cmpi .ne v6 v11
  let v13 : BitVec 32 := Scalar.remsi arg1 c3_i32
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let c28_i32 : BitVec 32 := 28#32
  let v18 : BitVec 32 := Scalar.addi c28_i32 v17
  let c0_i32_5 : BitVec 32 := 0#32
  ![v0.toNat, v18.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== GqaRefIdeal.lean ====
abbrev S18432x768 : Shape := ⟨2, ![18432, 768]⟩
abbrev S18432x256 : Shape := ⟨2, ![18432, 256]⟩
abbrev S18432x3968 : Shape := ⟨2, ![18432, 3968]⟩
abbrev S16384x768 : Shape := ⟨2, ![16384, 768]⟩
abbrev S8x2048x6x128 : Shape := ⟨4, ![8, 2048, 6, 128]⟩
abbrev S16384x256 : Shape := ⟨2, ![16384, 256]⟩
abbrev S8x2048x2x128 : Shape := ⟨4, ![8, 2048, 2, 128]⟩
abbrev S2048x256 : Shape := ⟨2, ![2048, 256]⟩
abbrev S8x256x2x128 : Shape := ⟨4, ![8, 256, 2, 128]⟩
abbrev S8x2304x2x128 : Shape := ⟨4, ![8, 2304, 2, 128]⟩
abbrev S8x2048x2x3x128 : Shape := ⟨5, ![8, 2048, 2, 3, 128]⟩
abbrev S8x2x2304x2048x3 : Shape := ⟨5, ![8, 2, 2304, 2048, 3]⟩
abbrev S8x2x3x2048x2304 : Shape := ⟨5, ![8, 2, 3, 2048, 2304]⟩
abbrev S_ : Shape := ⟨0, ![]⟩
abbrev S8x2x3x2048 : Shape := ⟨4, ![8, 2, 3, 2048]⟩
abbrev S8x2x3x2048x1 : Shape := ⟨5, ![8, 2, 3, 2048, 1]⟩
abbrev S8x2x128x3x2048 : Shape := ⟨5, ![8, 2, 128, 3, 2048]⟩
abbrev S8x2048x768 : Shape := ⟨3, ![8, 2048, 768]⟩

abbrev nBuf : Space → Nat
  | .hbm => 41
  | .vmem => 0
  | .smem => 0
  | _ => 0

abbrev bufTy : (tb : Table) → Fin (tcTables nBuf tb) → BufTy
  | .hbm, ⟨0, _⟩ => ⟨S18432x768, .bf16⟩
  | .hbm, ⟨1, _⟩ => ⟨S18432x256, .bf16⟩
  | .hbm, ⟨2, _⟩ => ⟨S18432x3968, .bf16⟩
  | .hbm, ⟨3, _⟩ => ⟨S16384x768, .bf16⟩
  | .hbm, ⟨4, _⟩ => ⟨S16384x768, .f32⟩
  | .hbm, ⟨5, _⟩ => ⟨S8x2048x6x128, .f32⟩
  | .hbm, ⟨6, _⟩ => ⟨S18432x256, .bf16⟩
  | .hbm, ⟨7, _⟩ => ⟨S18432x256, .f32⟩
  | .hbm, ⟨8, _⟩ => ⟨S16384x256, .f32⟩
  | .hbm, ⟨9, _⟩ => ⟨S8x2048x2x128, .f32⟩
  | .hbm, ⟨10, _⟩ => ⟨S2048x256, .f32⟩
  | .hbm, ⟨11, _⟩ => ⟨S8x256x2x128, .f32⟩
  | .hbm, ⟨12, _⟩ => ⟨S8x2304x2x128, .f32⟩
  | .hbm, ⟨13, _⟩ => ⟨S18432x256, .f32⟩
  | .hbm, ⟨14, _⟩ => ⟨S16384x256, .f32⟩
  | .hbm, ⟨15, _⟩ => ⟨S8x2048x2x128, .f32⟩
  | .hbm, ⟨16, _⟩ => ⟨S2048x256, .f32⟩
  | .hbm, ⟨17, _⟩ => ⟨S8x256x2x128, .f32⟩
  | .hbm, ⟨18, _⟩ => ⟨S8x2304x2x128, .f32⟩
  | .hbm, ⟨19, _⟩ => ⟨S8x2048x2x3x128, .f32⟩
  | .hbm, ⟨20, _⟩ => ⟨S8x2x2304x2048x3, .f32⟩
  | .hbm, ⟨21, _⟩ => ⟨S8x2x3x2048x2304, .f32⟩
  | .hbm, ⟨22, _⟩ => ⟨S_, .f32⟩
  | .hbm, ⟨23, _⟩ => ⟨S8x2x3x2048, .f32⟩
  | .hbm, ⟨24, _⟩ => ⟨S_, .f32⟩
  | .hbm, ⟨25, _⟩ => ⟨S8x2x3x2048, .f32⟩
  | .hbm, ⟨26, _⟩ => ⟨S8x2x3x2048, .f32⟩
  | .hbm, ⟨27, _⟩ => ⟨S8x2x3x2048x1, .f32⟩
  | .hbm, ⟨28, _⟩ => ⟨S8x2x3x2048x2304, .f32⟩
  | .hbm, ⟨29, _⟩ => ⟨S8x2x3x2048x2304, .f32⟩
  | .hbm, ⟨30, _⟩ => ⟨S8x2x3x2048x2304, .f32⟩
  | .hbm, ⟨31, _⟩ => ⟨S_, .f32⟩
  | .hbm, ⟨32, _⟩ => ⟨S8x2x3x2048, .f32⟩
  | .hbm, ⟨33, _⟩ => ⟨S8x2x3x2048x1, .f32⟩
  | .hbm, ⟨34, _⟩ => ⟨S8x2x3x2048x2304, .f32⟩
  | .hbm, ⟨35, _⟩ => ⟨S8x2x3x2048x2304, .f32⟩
  | .hbm, ⟨36, _⟩ => ⟨S8x2x128x3x2048, .f32⟩
  | .hbm, ⟨37, _⟩ => ⟨S8x2048x2x3x128, .f32⟩
  | .hbm, ⟨38, _⟩ => ⟨S8x2048x768, .f32⟩
  | .hbm, ⟨39, _⟩ => ⟨S16384x768, .f32⟩
  | .hbm, ⟨40, _⟩ => ⟨S16384x768, .bf16⟩
  | _, _ => ⟨S18432x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_cst_0 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_1 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩

abbrev nD : Nat := 1
abbrev τ : Topo := Topo.v7x

variable {F : FTy → Type} [FloatOps F]
-- ==== Moe.lean ====
abbrev S18432x2048 : Shape := ⟨2, ![18432, 2048]⟩
abbrev S126976 : Shape := ⟨1, ![126976]⟩
abbrev S126976x1 : Shape := ⟨2, ![126976, 1]⟩
abbrev S496 : Shape := ⟨1, ![496]⟩
abbrev S64x2048x512 : Shape := ⟨3, ![64, 2048, 512]⟩
abbrev S64x512x2048 : Shape := ⟨3, ![64, 512, 2048]⟩
abbrev S_ : Shape := ⟨0, ![]⟩
abbrev S1x2048 : Shape := ⟨2, ![1, 2048]⟩
abbrev S18433x2048 : Shape := ⟨2, ![18433, 2048]⟩
abbrev S126976x2048 : Shape := ⟨2, ![126976, 2048]⟩
abbrev S256x2048 : Shape := ⟨2, ![256, 2048]⟩
abbrev S256x1 : Shape := ⟨2, ![256, 1]⟩
abbrev S1x2048x512 : Shape := ⟨3, ![1, 2048, 512]⟩
abbrev S1 : Shape := ⟨1, ![1]⟩
abbrev S1x512x2048 : Shape := ⟨3, ![1, 512, 2048]⟩
abbrev S2048x512 : Shape := ⟨2, ![2048, 512]⟩
abbrev S256x512 : Shape := ⟨2, ![256, 512]⟩
abbrev S512x2048 : Shape := ⟨2, ![512, 2048]⟩

abbrev nBuf : Space → Nat
  | .hbm => 22
  | .vmem => 12
  | .smem => 2
  | _ => 0

abbrev bufTy : (tb : Table) → Fin (tcTables nBuf tb) → BufTy
  | .hbm, ⟨0, _⟩ => ⟨S18432x2048, .bf16⟩
  | .hbm, ⟨1, _⟩ => ⟨S126976, .i32⟩
  | .hbm, ⟨2, _⟩ => ⟨S126976x1, .f32⟩
  | .hbm, ⟨3, _⟩ => ⟨S64x2048x512, .f32⟩
  | .hbm, ⟨4, _⟩ => ⟨S64x2048x512, .f32⟩
  | .hbm, ⟨5, _⟩ => ⟨S64x512x2048, .f32⟩
  | .hbm, ⟨6, _⟩ => ⟨S_, .bf16⟩
  | .hbm, ⟨7, _⟩ => ⟨S1x2048, .bf16⟩
  | .hbm, ⟨8, _⟩ => ⟨S18433x2048, .bf16⟩
  | .hbm, ⟨9, _⟩ => ⟨S_, .i32⟩
  | .hbm, ⟨10, _⟩ => ⟨S126976, .i32⟩
  | .hbm, ⟨11, _⟩ => ⟨S126976, .i1⟩
  | .hbm, ⟨12, _⟩ => ⟨S_, .i32⟩
  | .hbm, ⟨13, _⟩ => ⟨S126976, .i32⟩
  | .hbm, ⟨14, _⟩ => ⟨S126976, .i32⟩
  | .hbm, ⟨15, _⟩ => ⟨S126976, .i32⟩
  | .hbm, ⟨16, _⟩ => ⟨S126976x1, .i32⟩
  | .hbm, ⟨17, _⟩ => ⟨S126976x2048, .bf16⟩
  | .hbm, ⟨18, _⟩ => ⟨S64x2048x512, .bf16⟩
  | .hbm, ⟨19, _⟩ => ⟨S64x2048x512, .bf16⟩
  | .hbm, ⟨20, _⟩ => ⟨S64x512x2048, .bf16⟩
  | .hbm, ⟨21, _⟩ => ⟨S126976x2048, .bf16⟩
  | .local _ .vmem, ⟨0, _⟩ => ⟨S256x2048, .bf16⟩
  | .local _ .vmem, ⟨1, _⟩ => ⟨S256x2048, .bf16⟩
  | .local _ .vmem, ⟨2, _⟩ => ⟨S256x1, .f32⟩
  | .local _ .vmem, ⟨3, _⟩ => ⟨S256x1, .f32⟩
  | .local _ .vmem, ⟨4, _⟩ => ⟨S1x2048x512, .bf16⟩
  | .local _ .vmem, ⟨5, _⟩ => ⟨S1x2048x512, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x512x2048, .bf16⟩
  | .local _ .vmem, ⟨9, _⟩ => ⟨S1x512x2048, .bf16⟩
  | .local _ .vmem, ⟨10, _⟩ => ⟨S256x2048, .bf16⟩
  | .local _ .vmem, ⟨11, _⟩ => ⟨S256x2048, .bf16⟩
  | .local _ .smem, ⟨0, _⟩ => ⟨S496, .i32⟩
  | .local _ .smem, ⟨1, _⟩ => ⟨S496, .i32⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_arg3 : Ref sig .tc := ⟨.smem, 0, rfl⟩
abbrev main_arg4 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![496], ![false]⟩

abbrev pre0 : Pipeline.Prefetch sig := ⟨2, ![main_arg3.idx, main_arg4.idx], fun | 0 => main_arg3.names | 1 => main_arg4.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_cond1 (v1 : BitVec 32) : BitVec 1 :=
  let c0_i32 : BitVec 32 := 0#32
  let v2 : BitVec 1 := Scalar.cmpi .ne v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .eq v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S496.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S496) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S496.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S496) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S496.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S496) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MoeRefIdeal.lean ====
abbrev S18432x2048 : Shape := ⟨2, ![18432, 2048]⟩
abbrev S126976 : Shape := ⟨1, ![126976]⟩
abbrev S126976x1 : Shape := ⟨2, ![126976, 1]⟩
abbrev S496 : Shape := ⟨1, ![496]⟩
abbrev S64x2048x512 : Shape := ⟨3, ![64, 2048, 512]⟩
abbrev S64x512x2048 : Shape := ⟨3, ![64, 512, 2048]⟩
abbrev S_ : Shape := ⟨0, ![]⟩
abbrev S1x2048 : Shape := ⟨2, ![1, 2048]⟩
abbrev S18433x2048 : Shape := ⟨2, ![18433, 2048]⟩
abbrev S496x256 : Shape := ⟨2, ![496, 256]⟩
abbrev S496x256x1 : Shape := ⟨3, ![496, 256, 1]⟩
abbrev S496x256x2048 : Shape := ⟨3, ![496, 256, 2048]⟩
abbrev S496x1 : Shape := ⟨2, ![496, 1]⟩
abbrev S496x2048x512 : Shape := ⟨3, ![496, 2048, 512]⟩
abbrev S496x512x2048 : Shape := ⟨3, ![496, 512, 2048]⟩
abbrev S496x256x512 : Shape := ⟨3, ![496, 256, 512]⟩
abbrev S126976x2048 : Shape := ⟨2, ![126976, 2048]⟩

abbrev nBuf : Space → Nat
  | .hbm => 68
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S126976, .i32⟩
  | .hbm, ⟨2, _⟩ => ⟨S126976x1, .f32⟩
  | .hbm, ⟨3, _⟩ => ⟨S496, .i32⟩
  | .hbm, ⟨4, _⟩ => ⟨S496, .i32⟩
  | .hbm, ⟨5, _⟩ => ⟨S64x2048x512, .f32⟩
  | .hbm, ⟨6, _⟩ => ⟨S64x2048x512, .f32⟩
  | .hbm, ⟨7, _⟩ => ⟨S64x512x2048, .f32⟩
  | .hbm, ⟨8, _⟩ => ⟨S18432x2048, .f32⟩
  | .hbm, ⟨9, _⟩ => ⟨S_, .f32⟩
  | .hbm, ⟨10, _⟩ => ⟨S1x2048, .f32⟩
  | .hbm, ⟨11, _⟩ => ⟨S18433x2048, .f32⟩
  | .hbm, ⟨12, _⟩ => ⟨S496x256, .i32⟩
  | .hbm, ⟨13, _⟩ => ⟨S496x256, .f32⟩
  | .hbm, ⟨14, _⟩ => ⟨S_, .i32⟩
  | .hbm, ⟨15, _⟩ => ⟨S496x256, .i32⟩
  | .hbm, ⟨16, _⟩ => ⟨S496x256, .i1⟩
  | .hbm, ⟨17, _⟩ => ⟨S_, .i32⟩
  | .hbm, ⟨18, _⟩ => ⟨S496x256, .i32⟩
  | .hbm, ⟨19, _⟩ => ⟨S496x256, .i32⟩
  | .hbm, ⟨20, _⟩ => ⟨S496x256, .i32⟩
  | .hbm, ⟨21, _⟩ => ⟨S496x256x1, .i32⟩
  | .hbm, ⟨22, _⟩ => ⟨S496x256x2048, .f32⟩
  | .hbm, ⟨23, _⟩ => ⟨S_, .i32⟩
  | .hbm, ⟨24, _⟩ => ⟨S496, .i32⟩
  | .hbm, ⟨25, _⟩ => ⟨S496, .i1⟩
  | .hbm, ⟨26, _⟩ => ⟨S_, .i32⟩
  | .hbm, ⟨27, _⟩ => ⟨S496, .i32⟩
  | .hbm, ⟨28, _⟩ => ⟨S496, .i32⟩
  | .hbm, ⟨29, _⟩ => ⟨S496, .i32⟩
  | .hbm, ⟨30, _⟩ => ⟨S496x1, .i32⟩
  | .hbm, ⟨31, _⟩ => ⟨S496x2048x512, .f32⟩
  | .hbm, ⟨32, _⟩ => ⟨S_, .i32⟩
  | .hbm, ⟨33, _⟩ => ⟨S496, .i32⟩
  | .hbm, ⟨34, _⟩ => ⟨S496, .i1⟩
  | .hbm, ⟨35, _⟩ => ⟨S_, .i32⟩
  | .hbm, ⟨36, _⟩ => ⟨S496, .i32⟩
  | .hbm, ⟨37, _⟩ => ⟨S496, .i32⟩
  | .hbm, ⟨38, _⟩ => ⟨S496, .i32⟩
  | .hbm, ⟨39, _⟩ => ⟨S496x1, .i32⟩
  | .hbm, ⟨40, _⟩ => ⟨S496x2048x512, .f32⟩
  | .hbm, ⟨41, _⟩ => ⟨S_, .i32⟩
  | .hbm, ⟨42, _⟩ => ⟨S496, .i32⟩
  | .hbm, ⟨43, _⟩ => ⟨S496, .i1⟩
  | .hbm, ⟨44, _⟩ => ⟨S_, .i32⟩
  | .hbm, ⟨45, _⟩ => ⟨S496, .i32⟩
  | .hbm, ⟨46, _⟩ => ⟨S496, .i32⟩
  | .hbm, ⟨47, _⟩ => ⟨S496, .i32⟩
  | .hbm, ⟨48, _⟩ => ⟨S496x1, .i32⟩
  | .hbm, ⟨49, _⟩ => ⟨S496x512x2048, .f32⟩
  | .hbm, ⟨50, _⟩ => ⟨S496x256x512, .f32⟩
  | .hbm, ⟨51, _⟩ => ⟨S496x256x512, .f32⟩
  | .hbm, ⟨52, _⟩ => ⟨S496x256x512, .f32⟩
  | .hbm, ⟨53, _⟩ => ⟨S_, .f32⟩
  | .hbm, ⟨54, _⟩ => ⟨S496x256x512, .f32⟩
  | .hbm, ⟨55, _⟩ => ⟨S496x256x512, .f32⟩
  | .hbm, ⟨56, _⟩ => ⟨S_, .f32⟩
  | .hbm, ⟨57, _⟩ => ⟨S496x256x512, .f32⟩
  | .hbm, ⟨58, _⟩ => ⟨S496x256x512, .f32⟩
  | .hbm, ⟨59, _⟩ => ⟨S496x256x512, .f32⟩
  | .hbm, ⟨60, _⟩ => ⟨S496x256x512, .f32⟩
  | .hbm, ⟨61, _⟩ => ⟨S496x256x512, .f32⟩
  | .hbm, ⟨62, _⟩ => ⟨S496x256x2048, .f32⟩
  | .hbm, ⟨63, _⟩ => ⟨S496x256x1, .f32⟩
  | .hbm, ⟨64, _⟩ => ⟨S496x256x2048, .f32⟩
  | .hbm, ⟨65, _⟩ => ⟨S496x256x2048, .f32⟩
  | .hbm, ⟨66, _⟩ => ⟨S126976x2048, .f32⟩
  | .hbm, ⟨67, _⟩ => ⟨S126976x2048, .bf16⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== InProj.lean ====
abbrev S18432x2048 : Shape := ⟨2, ![18432, 2048]⟩
abbrev S2048 : Shape := ⟨1, ![2048]⟩
abbrev S16x6x2048 : Shape := ⟨3, ![16, 6, 2048]⟩
abbrev S2048x3904 : Shape := ⟨2, ![2048, 3904]⟩
abbrev S1x2048 : Shape := ⟨2, ![1, 2048]⟩
abbrev S2048x256 : Shape := ⟨2, ![2048, 256]⟩
abbrev S2048x64 : Shape := ⟨2, ![2048, 64]⟩
abbrev S2048x512 : Shape := ⟨2, ![2048, 512]⟩
abbrev S_ : Shape := ⟨0, ![]⟩
abbrev S2048x128 : Shape := ⟨2, ![2048, 128]⟩
abbrev S2048x3072 : Shape := ⟨2, ![2048, 3072]⟩
abbrev S2048x3968 : Shape := ⟨2, ![2048, 3968]⟩
abbrev S18432x3968 : Shape := ⟨2, ![18432, 3968]⟩
abbrev S512x2048 : Shape := ⟨2, ![512, 2048]⟩
abbrev S1x6x2048 : Shape := ⟨3, ![1, 6, 2048]⟩
abbrev S512x3968 : Shape := ⟨2, ![512, 3968]⟩
abbrev S512 : Shape := ⟨1, ![512]⟩
abbrev S512x1 : Shape := ⟨2, ![512, 1]⟩
abbrev S1x1x2048 : Shape := ⟨3, ![1, 1, 2048]⟩

abbrev nBuf : Space → Nat
  | .hbm => 15
  | .vmem => 8
  | .smem => 0
  | _ => 0

abbrev bufTy : (tb : Table) → Fin (tcTables nBuf tb) → BufTy
  | .hbm, ⟨0, _⟩ => ⟨S18432x2048, .f32⟩
  | .hbm, ⟨1, _⟩ => ⟨S2048, .f32⟩
  | .hbm, ⟨2, _⟩ => ⟨S16x6x2048, .f32⟩
  | .hbm, ⟨3, _⟩ => ⟨S2048x3904, .f32⟩
  | .hbm, ⟨4, _⟩ => ⟨S1x2048, .f32⟩
  | .hbm, ⟨5, _⟩ => ⟨S2048x256, .f32⟩
  | .hbm, ⟨6, _⟩ => ⟨S2048x64, .f32⟩
  | .hbm, ⟨7, _⟩ => ⟨S2048x512, .f32⟩
  | .hbm, ⟨8, _⟩ => ⟨S_, .i32⟩
  | .hbm, ⟨9, _⟩ => ⟨S_, .f32⟩
  | .hbm, ⟨10, _⟩ => ⟨S2048x128, .f32⟩
  | .hbm, ⟨11, _⟩ => ⟨S2048x3072, .f32⟩
  | .hbm, ⟨12, _⟩ => ⟨S2048x3968, .f32⟩
  | .hbm, ⟨13, _⟩ => ⟨S2048x3968, .bf16⟩
  | .hbm, ⟨14, _⟩ => ⟨S18432x3968, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x6x2048, .f32⟩
  | .local _ .vmem, ⟨4, _⟩ => ⟨S1x6x2048, .f32⟩
  | .local _ .vmem, ⟨5, _⟩ => ⟨S2048x3968, .bf16⟩
  | .local _ .vmem, ⟨6, _⟩ => ⟨S512x3968, .bf16⟩
  | .local _ .vmem, ⟨7, _⟩ => ⟨S512x3968, .bf16⟩
  | _, _ => ⟨S18432x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x6x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x3968 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3968 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InProjRefIdeal.lean ====
abbrev S18432x2048 : Shape := ⟨2, ![18432, 2048]⟩
abbrev S2048 : Shape := ⟨1, ![2048]⟩
abbrev S16x6x2048 : Shape := ⟨3, ![16, 6, 2048]⟩
abbrev S2048x3904 : Shape := ⟨2, ![2048, 3904]⟩
abbrev S16384x2048 : Shape := ⟨2, ![16384, 2048]⟩
abbrev S8x2048x2048 : Shape := ⟨3, ![8, 2048, 2048]⟩
abbrev S2048x2048 : Shape := ⟨2, ![2048, 2048]⟩
abbrev S8x256x2048 : Shape := ⟨3, ![8, 256, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x1x2048 : Shape := ⟨3, ![8, 1, 2048]⟩
abbrev S8x256 : Shape := ⟨2, ![8, 256]⟩
abbrev S8x256x1 : Shape := ⟨3, ![8, 256, 1]⟩
abbrev S8x2048x3904 : Shape := ⟨3, ![8, 2048, 3904]⟩
abbrev S8x256x3904 : Shape := ⟨3, ![8, 256, 3904]⟩
abbrev S16384x3904 : Shape := ⟨2, ![16384, 3904]⟩
abbrev S18432x3904 : Shape := ⟨2, ![18432, 3904]⟩
abbrev S18432x1536 : Shape := ⟨2, ![18432, 1536]⟩
abbrev S18432x768 : Shape := ⟨2, ![18432, 768]⟩
abbrev S18432x256 : Shape := ⟨2, ![18432, 256]⟩
abbrev S18432x64 : Shape := ⟨2, ![18432, 64]⟩
abbrev S18432x3968 : Shape := ⟨2, ![18432, 3968]⟩

abbrev nBuf : Space → Nat
  | .hbm => 82
  | .vmem => 0
  | .smem => 0
  | _ => 0

abbrev bufTy : (tb : Table) → Fin (tcTables nBuf tb) → BufTy
  | .hbm, ⟨0, _⟩ => ⟨S18432x2048, .f32⟩
  | .hbm, ⟨1, _⟩ => ⟨S2048, .f32⟩
  | .hbm, ⟨2, _⟩ => ⟨S16x6x2048, .f32⟩
  | .hbm, ⟨3, _⟩ => ⟨S2048x3904, .f32⟩
  | .hbm, ⟨4, _⟩ => ⟨S16384x2048, .f32⟩
  | .hbm, ⟨5, _⟩ => ⟨S8x2048x2048, .f32⟩
  | .hbm, ⟨6, _⟩ => ⟨S2048x2048, .f32⟩
  | .hbm, ⟨7, _⟩ => ⟨S8x256x2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S1x1x2048, .f32⟩
  | .hbm, ⟨22, _⟩ => ⟨S8x2048x2048, .f32⟩
  | .hbm, ⟨23, _⟩ => ⟨S8x2048x2048, .f32⟩
  | .hbm, ⟨24, _⟩ => ⟨S8x1x2048, .f32⟩
  | .hbm, ⟨25, _⟩ => ⟨S8x2048, .f32⟩
  | .hbm, ⟨26, _⟩ => ⟨S8x1x2048, .f32⟩
  | .hbm, ⟨27, _⟩ => ⟨S8x1x2048, .f32⟩
  | .hbm, ⟨28, _⟩ => ⟨S8x2048, .f32⟩
  | .hbm, ⟨29, _⟩ => ⟨S8x1x2048, .f32⟩
  | .hbm, ⟨30, _⟩ => ⟨S_, .f32⟩
  | .hbm, ⟨31, _⟩ => ⟨S8x1x2048, .f32⟩
  | .hbm, ⟨32, _⟩ => ⟨S8x1x2048, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S8x256x2048, .f32⟩
  | .hbm, ⟨38, _⟩ => ⟨S_, .f32⟩
  | .hbm, ⟨39, _⟩ => ⟨S8x256, .f32⟩
  | .hbm, ⟨40, _⟩ => ⟨S8x256x1, .f32⟩
  | .hbm, ⟨41, _⟩ => ⟨S_, .f32⟩
  | .hbm, ⟨42, _⟩ => ⟨S8x256x1, .f32⟩
  | .hbm, ⟨43, _⟩ => ⟨S8x256x1, .f32⟩
  | .hbm, ⟨44, _⟩ => ⟨S_, .f32⟩
  | .hbm, ⟨45, _⟩ => ⟨S8x256x1, .f32⟩
  | .hbm, ⟨46, _⟩ => ⟨S8x256x1, .f32⟩
  | .hbm, ⟨47, _⟩ => ⟨S8x256x1, .f32⟩
  | .hbm, ⟨48, _⟩ => ⟨S8x256x2048, .f32⟩
  | .hbm, ⟨49, _⟩ => ⟨S8x256x2048, .f32⟩
  | .hbm, ⟨50, _⟩ => ⟨S1x1x2048, .f32⟩
  | .hbm, ⟨51, _⟩ => ⟨S8x256x2048, .f32⟩
  | .hbm, ⟨52, _⟩ => ⟨S8x256x2048, .f32⟩
  | .hbm, ⟨53, _⟩ => ⟨S1x1x2048, .f32⟩
  | .hbm, ⟨54, _⟩ => ⟨S2048, .f32⟩
  | .hbm, ⟨55, _⟩ => ⟨S1x1x2048, .f32⟩
  | .hbm, ⟨56, _⟩ => ⟨S2048, .f32⟩
  | .hbm, ⟨57, _⟩ => ⟨S_, .f32⟩
  | .hbm, ⟨58, _⟩ => ⟨S2048, .f32⟩
  | .hbm, ⟨59, _⟩ => ⟨S2048, .f32⟩
  | .hbm, ⟨60, _⟩ => ⟨S1x1x2048, .f32⟩
  | .hbm, ⟨61, _⟩ => ⟨S8x256x2048, .f32⟩
  | .hbm, ⟨62, _⟩ => ⟨S8x256x2048, .f32⟩
  | .hbm, ⟨63, _⟩ => ⟨S1x1x2048, .f32⟩
  | .hbm, ⟨64, _⟩ => ⟨S8x256x2048, .f32⟩
  | .hbm, ⟨65, _⟩ => ⟨S8x256x2048, .f32⟩
  | .hbm, ⟨66, _⟩ => ⟨S8x2048x3904, .f32⟩
  | .hbm, ⟨67, _⟩ => ⟨S8x256x3904, .f32⟩
  | .hbm, ⟨68, _⟩ => ⟨S16384x3904, .f32⟩
  | .hbm, ⟨69, _⟩ => ⟨S2048x3904, .f32⟩
  | .hbm, ⟨70, _⟩ => ⟨S18432x3904, .f32⟩
  | .hbm, ⟨71, _⟩ => ⟨S18432x1536, .f32⟩
  | .hbm, ⟨72, _⟩ => ⟨S18432x768, .f32⟩
  | .hbm, ⟨73, _⟩ => ⟨S18432x768, .f32⟩
  | .hbm, ⟨74, _⟩ => ⟨S18432x256, .f32⟩
  | .hbm, ⟨75, _⟩ => ⟨S18432x64, .f32⟩
  | .hbm, ⟨76, _⟩ => ⟨S18432x256, .f32⟩
  | .hbm, ⟨77, _⟩ => ⟨S18432x256, .f32⟩
  | .hbm, ⟨78, _⟩ => ⟨S_, .f32⟩
  | .hbm, ⟨79, _⟩ => ⟨S18432x64, .f32⟩
  | .hbm, ⟨80, _⟩ => ⟨S18432x3968, .f32⟩
  | .hbm, ⟨81, _⟩ => ⟨S18432x3968, .bf16⟩
  | _, _ => ⟨S18432x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_7 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩

abbrev nD : Nat := 1
abbrev τ : Topo := Topo.v7x

variable {F : FTy → Type} [FloatOps F]
-- ==== OutProj.lean ====
abbrev S18432x512 : Shape := ⟨2, ![18432, 512]⟩
abbrev S18432x768 : Shape := ⟨2, ![18432, 768]⟩
abbrev S2048x2048 : Shape := ⟨2, ![2048, 2048]⟩
abbrev S18432x2048 : Shape := ⟨2, ![18432, 2048]⟩
abbrev S2048 : Shape := ⟨1, ![2048]⟩
abbrev S16x6x2048 : Shape := ⟨3, ![16, 6, 2048]⟩
abbrev S2048x64 : Shape := ⟨2, ![2048, 64]⟩
abbrev S_ : Shape := ⟨0, ![]⟩
abbrev S2048x128 : Shape := ⟨2, ![2048, 128]⟩
abbrev S512x2048 : Shape := ⟨2, ![512, 2048]⟩
abbrev S768x2048 : Shape := ⟨2, ![768, 2048]⟩
abbrev S1x2048 : Shape := ⟨2, ![1, 2048]⟩
abbrev S18432x128 : Shape := ⟨2, ![18432, 128]⟩
abbrev S512x512 : Shape := ⟨2, ![512, 512]⟩
abbrev S512x768 : Shape := ⟨2, ![512, 768]⟩
abbrev S1x6x2048 : Shape := ⟨3, ![1, 6, 2048]⟩
abbrev S512x128 : Shape := ⟨2, ![512, 128]⟩
abbrev S1x1x2048 : Shape := ⟨3, ![1, 1, 2048]⟩
abbrev S512 : Shape := ⟨1, ![512]⟩
abbrev S512x1 : Shape := ⟨2, ![512, 1]⟩

abbrev nBuf : Space → Nat
  | .hbm => 25
  | .vmem => 23
  | .smem => 0
  | _ => 0

abbrev bufTy : (tb : Table) → Fin (tcTables nBuf tb) → BufTy
  | .hbm, ⟨0, _⟩ => ⟨S18432x512, .bf16⟩
  | .hbm, ⟨1, _⟩ => ⟨S18432x768, .bf16⟩
  | .hbm, ⟨2, _⟩ => ⟨S18432x768, .bf16⟩
  | .hbm, ⟨3, _⟩ => ⟨S2048x2048, .f32⟩
  | .hbm, ⟨4, _⟩ => ⟨S18432x2048, .f32⟩
  | .hbm, ⟨5, _⟩ => ⟨S2048, .f32⟩
  | .hbm, ⟨6, _⟩ => ⟨S2048, .f32⟩
  | .hbm, ⟨7, _⟩ => ⟨S16x6x2048, .f32⟩
  | .hbm, ⟨8, _⟩ => ⟨S2048x64, .f32⟩
  | .hbm, ⟨9, _⟩ => ⟨S2048x2048, .bf16⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x128, .bf16⟩
  | .hbm, ⟨14, _⟩ => ⟨S2048x128, .f32⟩
  | .hbm, ⟨15, _⟩ => ⟨S2048x128, .f32⟩
  | .hbm, ⟨16, _⟩ => ⟨S2048x128, .bf16⟩
  | .hbm, ⟨17, _⟩ => ⟨S512x2048, .bf16⟩
  | .hbm, ⟨18, _⟩ => ⟨S768x2048, .bf16⟩
  | .hbm, ⟨19, _⟩ => ⟨S768x2048, .bf16⟩
  | .hbm, ⟨20, _⟩ => ⟨S1x2048, .f32⟩
  | .hbm, ⟨21, _⟩ => ⟨S1x2048, .f32⟩
  | .hbm, ⟨22, _⟩ => ⟨S18432x2048, .f32⟩
  | .hbm, ⟨23, _⟩ => ⟨S18432x2048, .bf16⟩
  | .hbm, ⟨24, _⟩ => ⟨S18432x128, .f32⟩
  | .local _ .vmem, ⟨0, _⟩ => ⟨S512x512, .bf16⟩
  | .local _ .vmem, ⟨1, _⟩ => ⟨S512x512, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x2048, .bf16⟩
  | .local _ .vmem, ⟨7, _⟩ => ⟨S768x2048, .bf16⟩
  | .local _ .vmem, ⟨8, _⟩ => ⟨S768x2048, .bf16⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | .local _ .vmem, ⟨13, _⟩ => ⟨S1x6x2048, .f32⟩
  | .local _ .vmem, ⟨14, _⟩ => ⟨S1x6x2048, .f32⟩
  | .local _ .vmem, ⟨15, _⟩ => ⟨S2048x128, .bf16⟩
  | .local _ .vmem, ⟨16, _⟩ => ⟨S2048x128, .bf16⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | .local _ .vmem, ⟨20, _⟩ => ⟨S512x2048, .bf16⟩
  | .local _ .vmem, ⟨21, _⟩ => ⟨S512x128, .f32⟩
  | .local _ .vmem, ⟨22, _⟩ => ⟨S512x128, .f32⟩
  | _, _ => ⟨S18432x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c0_i32_4 : BitVec 32 := 0#32
  let c0_i32_5 : BitVec 32 := 0#32
  let c0_i32_6 : BitVec 32 := 0#32
  ![v17.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x6x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OutProjRefIdeal.lean ====
abbrev S18432x512 : Shape := ⟨2, ![18432, 512]⟩
abbrev S18432x768 : Shape := ⟨2, ![18432, 768]⟩
abbrev S2048x2048 : Shape := ⟨2, ![2048, 2048]⟩
abbrev S18432x2048 : Shape := ⟨2, ![18432, 2048]⟩
abbrev S2048 : Shape := ⟨1, ![2048]⟩
abbrev S16x6x2048 : Shape := ⟨3, ![16, 6, 2048]⟩
abbrev S2048x64 : Shape := ⟨2, ![2048, 64]⟩
abbrev S16384x2048 : Shape := ⟨2, ![16384, 2048]⟩
abbrev S8x2048x2048 : Shape := ⟨3, ![8, 2048, 2048]⟩
abbrev S8x256x2048 : Shape := ⟨3, ![8, 256, 2048]⟩
abbrev S8x1x2048 : Shape := ⟨3, ![8, 1, 2048]⟩
abbrev S8x2048 : Shape := ⟨2, ![8, 2048]⟩
abbrev S_ : Shape := ⟨0, ![]⟩
abbrev S8x2048x1 : Shape := ⟨3, ![8, 2048, 1]⟩
abbrev S1x1x2048 : Shape := ⟨3, ![1, 1, 2048]⟩
abbrev S8x256 : Shape := ⟨2, ![8, 256]⟩
abbrev S8x256x1 : Shape := ⟨3, ![8, 256, 1]⟩

abbrev nBuf : Space → Nat
  | .hbm => 131
  | .vmem => 0
  | .smem => 0
  | _ => 0

abbrev hbmTy0_0 (i : Nat) : BufTy := match i % 128 with
  | 0 => ⟨S18432x512, .bf16⟩
  | 1 => ⟨S18432x768, .bf16⟩
  | 2 => ⟨S18432x768, .bf16⟩
  | 3 => ⟨S2048x2048, .f32⟩
  | 4 => ⟨S18432x2048, .f32⟩
  | 5 => ⟨S2048, .f32⟩
  | 6 => ⟨S2048, .f32⟩
  | 7 => ⟨S16x6x2048, .f32⟩
  | 8 => ⟨S2048x64, .f32⟩
  | 9 => ⟨S18432x512, .f32⟩
  | 10 => ⟨S18432x768, .f32⟩
  | 11 => ⟨S18432x768, .f32⟩
  | 12 => ⟨S18432x2048, .f32⟩
  | 13 => ⟨S18432x2048, .f32⟩
  | 14 => ⟨S16384x2048, .f32⟩
  | 15 => ⟨S8x2048x2048, .f32⟩
  | 16 => ⟨S2048x2048, .f32⟩
  | 17 => ⟨S8x256x2048, .f32⟩
  | 18 => ⟨S16384x2048, .f32⟩
  | 19 => ⟨S8x2048x2048, .f32⟩
  | 20 => ⟨S2048x2048, .f32⟩
  | 21 => ⟨S8x256x2048, .f32⟩
  | 22 => ⟨S8x1x2048, .f32⟩
  | 23 => ⟨S8x2048, .f32⟩
  | 24 => ⟨S8x1x2048, .f32⟩
  | 25 => ⟨S8x2048x2048, .f32⟩
  | 26 => ⟨S_, .f32⟩
  | 27 => ⟨S8x2048, .f32⟩
  | 28 => ⟨S8x2048x1, .f32⟩
  | 29 => ⟨S_, .f32⟩
  | 30 => ⟨S8x2048x1, .f32⟩
  | 31 => ⟨S8x2048x1, .f32⟩
  | 32 => ⟨S_, .f32⟩
  | 33 => ⟨S8x2048x1, .f32⟩
  | 34 => ⟨S8x2048x1, .f32⟩
  | 35 => ⟨S8x2048x1, .f32⟩
  | 36 => ⟨S8x2048x2048, .f32⟩
  | 37 => ⟨S8x2048x2048, .f32⟩
  | 38 => ⟨S1x1x2048, .f32⟩
  | 39 => ⟨S8x2048x2048, .f32⟩
  | 40 => ⟨S8x2048x2048, .f32⟩
  | 41 => ⟨S8x2048x2048, .f32⟩
  | 42 => ⟨S8x2048x2048, .f32⟩
  | 43 => ⟨S8x2048x2048, .f32⟩
  | 44 => ⟨S1x1x2048, .f32⟩
  | 45 => ⟨S2048, .f32⟩
  | 46 => ⟨S8x256x2048, .f32⟩
  | 47 => ⟨S_, .f32⟩
  | 48 => ⟨S8x256, .f32⟩
  | 49 => ⟨S8x256x1, .f32⟩
  | 50 => ⟨S_, .f32⟩
  | 51 => ⟨S8x256x1, .f32⟩
  | 52 => ⟨S8x256x1, .f32⟩
  | 53 => ⟨S_, .f32⟩
  | 54 => ⟨S8x256x1, .f32⟩
  | 55 => ⟨S8x256x1, .f32⟩
  | 56 => ⟨S8x256x1, .f32⟩
  | 57 => ⟨S8x256x2048, .f32⟩
  | 58 => ⟨S8x256x2048, .f32⟩
  | 59 => ⟨S1x1x2048, .f32⟩
  | 60 => ⟨S8x256x2048, .f32⟩
  | 61 => ⟨S8x256x2048, .f32⟩
  | 62 => ⟨S1x1x2048, .f32⟩
  | 63 => ⟨S8x256x2048, .f32⟩
  | 64 => ⟨S8x256x2048, .f32⟩
  | 65 => ⟨S8x256x2048, .f32⟩
  | 66 => ⟨S8x2048x2048, .f32⟩
  | 67 => ⟨S_, .f32⟩
  | 68 => ⟨S8x2048, .f32⟩
  | 69 => ⟨S8x2048x1, .f32⟩
  | 70 => ⟨S_, .f32⟩
  | 71 => ⟨S8x2048x1, .f32⟩
  | 72 => ⟨S8x2048x1, .f32⟩
  | 73 => ⟨S_, .f32⟩
  | 74 => ⟨S8x2048x1, .f32⟩
  | 75 => ⟨S8x2048x1, .f32⟩
  | 76 => ⟨S8x2048x1, .f32⟩
  | 77 => ⟨S8x2048x2048, .f32⟩
  | 78 => ⟨S8x2048x2048, .f32⟩
  | 79 => ⟨S1x1x2048, .f32⟩
  | 80 => ⟨S8x2048x2048, .f32⟩
  | 81 => ⟨S8x2048x2048, .f32⟩
  | 82 => ⟨S8x1x2048, .f32⟩
  | 83 => ⟨S8x2048, .f32⟩
  | 84 => ⟨S8x1x2048, .f32⟩
  | 85 => ⟨S8x1x2048, .f32⟩
  | 86 => ⟨S8x2048, .f32⟩
  | 87 => ⟨S8x1x2048, .f32⟩
  | 88 => ⟨S_, .f32⟩
  | 89 => ⟨S8x1x2048, .f32⟩
  | 90 => ⟨S8x1x2048, .f32⟩
  | 91 => ⟨S8x2048x2048, .f32⟩
  | 92 => ⟨S8x2048x2048, .f32⟩
  | 93 => ⟨S8x2048x2048, .f32⟩
  | 94 => ⟨S8x2048x2048, .f32⟩
  | 95 => ⟨S8x256x2048, .f32⟩
  | 96 => ⟨S_, .f32⟩
  | 97 => ⟨S8x256, .f32⟩
  | 98 => ⟨S8x256x1, .f32⟩
  | 99 => ⟨S_, .f32⟩
  | 100 => ⟨S8x256x1, .f32⟩
  | 101 => ⟨S8x256x1, .f32⟩
  | 102 => ⟨S_, .f32⟩
  | 103 => ⟨S8x256x1, .f32⟩
  | 104 => ⟨S8x256x1, .f32⟩
  | 105 => ⟨S8x256x1, .f32⟩
  | 106 => ⟨S8x256x2048, .f32⟩
  | 107 => ⟨S8x256x2048, .f32⟩
  | 108 => ⟨S1x1x2048, .f32⟩
  | 109 => ⟨S8x256x2048, .f32⟩
  | 110 => ⟨S8x256x2048, .f32⟩
  | 111 => ⟨S1x1x2048, .f32⟩
  | 112 => ⟨S2048, .f32⟩
  | 113 => ⟨S1x1x2048, .f32⟩
  | 114 => ⟨S2048, .f32⟩
  | 115 => ⟨S_, .f32⟩
  | 116 => ⟨S2048, .f32⟩
  | 117 => ⟨S2048, .f32⟩
  | 118 => ⟨S1x1x2048, .f32⟩
  | 119 => ⟨S8x256x2048, .f32⟩
  | 120 => ⟨S8x256x2048, .f32⟩
  | 121 => ⟨S1x1x2048, .f32⟩
  | 122 => ⟨S8x256x2048, .f32⟩
  | 123 => ⟨S8x256x2048, .f32⟩
  | 124 => ⟨S16384x2048, .f32⟩
  | 125 => ⟨S2048x2048, .f32⟩
  | 126 => ⟨S18432x2048, .f32⟩
  | 127 => ⟨S16384x2048, .f32⟩
  | _ => ⟨S18432x512, .bf16⟩

abbrev hbmTy0_1 (i : Nat) : BufTy := match i % 128 with
  | 0 => ⟨S2048x2048, .f32⟩
  | 1 => ⟨S18432x2048, .f32⟩
  | 2 => ⟨S18432x2048, .bf16⟩
  | _ => ⟨S18432x512, .bf16⟩

abbrev hbmTy (i : Nat) : BufTy := match i / 128 with
  | 0 => hbmTy0_0 i
  | 1 => hbmTy0_1 i
  | _ => ⟨S18432x512, .bf16⟩

abbrev bufTy : (tb : Table) → Fin (tcTables nBuf tb) → BufTy
  | .hbm, ⟨i, _⟩ => hbmTy i
  | _, _ => ⟨S18432x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_5 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_9 : Ref sig .tc := ⟨.hbm, 96, rfl⟩
abbrev main_v77 : Ref sig .tc := ⟨.hbm, 97, rfl⟩
abbrev main_v78 : Ref sig .tc := ⟨.hbm, 98, rfl⟩
abbrev main_cst_10 : Ref sig .tc := ⟨.hbm, 99, rfl⟩
abbrev main_v79 : Ref sig .tc := ⟨.hbm, 100, rfl⟩
abbrev main_v80 : Ref sig .tc := ⟨.hbm, 101, rfl⟩
abbrev main_cst_11 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_12 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩

abbrev nD : Nat := 1
abbrev τ : Topo := Topo.v7x

variable {F : FTy → Type} [FloatOps F]
-- ==== Shared.lean ====
abbrev S18432x2048 : Shape := ⟨2, ![18432, 2048]⟩
abbrev S2048x512 : Shape := ⟨2, ![2048, 512]⟩
abbrev S512x2048 : Shape := ⟨2, ![512, 2048]⟩
abbrev S2048 : Shape := ⟨1, ![2048]⟩
abbrev S16x6x2048 : Shape := ⟨3, ![16, 6, 2048]⟩
abbrev S1x2048 : Shape := ⟨2, ![1, 2048]⟩
abbrev S1x6x2048 : Shape := ⟨3, ![1, 6, 2048]⟩
abbrev S512x512 : Shape := ⟨2, ![512, 512]⟩
abbrev S1x1x2048 : Shape := ⟨3, ![1, 1, 2048]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S18432x2048, .bf16⟩
  | .hbm, ⟨1, _⟩ => ⟨S18432x2048, .f32⟩
  | .hbm, ⟨2, _⟩ => ⟨S18432x2048, .f32⟩
  | .hbm, ⟨3, _⟩ => ⟨S2048x512, .f32⟩
  | .hbm, ⟨4, _⟩ => ⟨S2048x512, .f32⟩
  | .hbm, ⟨5, _⟩ => ⟨S512x2048, .f32⟩
  | .hbm, ⟨6, _⟩ => ⟨S2048, .f32⟩
  | .hbm, ⟨7, _⟩ => ⟨S16x6x2048, .f32⟩
  | .hbm, ⟨8, _⟩ => ⟨S2048x512, .bf16⟩
  | .hbm, ⟨9, _⟩ => ⟨S2048x512, .bf16⟩
  | .hbm, ⟨10, _⟩ => ⟨S512x2048, .bf16⟩
  | .hbm, ⟨11, _⟩ => ⟨S1x2048, .f32⟩
  | .hbm, ⟨12, _⟩ => ⟨S18432x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S1x2048, .f32⟩
  | .local _ .vmem, ⟨10, _⟩ => ⟨S1x6x2048, .f32⟩
  | .local _ .vmem, ⟨11, _⟩ => ⟨S1x6x2048, .f32⟩
  | .local _ .vmem, ⟨12, _⟩ => ⟨S512x2048, .f32⟩
  | .local _ .vmem, ⟨13, _⟩ => ⟨S512x2048, .f32⟩
  | _, _ => ⟨S18432x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x6x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SharedRefIdeal.lean ====
abbrev S18432x2048 : Shape := ⟨2, ![18432, 2048]⟩
abbrev S2048x512 : Shape := ⟨2, ![2048, 512]⟩
abbrev S512x2048 : Shape := ⟨2, ![512, 2048]⟩
abbrev S2048 : Shape := ⟨1, ![2048]⟩
abbrev S16x6x2048 : Shape := ⟨3, ![16, 6, 2048]⟩
abbrev S18432x512 : Shape := ⟨2, ![18432, 512]⟩
abbrev S_ : Shape := ⟨0, ![]⟩
abbrev S16384x2048 : Shape := ⟨2, ![16384, 2048]⟩
abbrev S8x2048x2048 : Shape := ⟨3, ![8, 2048, 2048]⟩
abbrev S2048x2048 : Shape := ⟨2, ![2048, 2048]⟩
abbrev S8x256x2048 : Shape := ⟨3, ![8, 256, 2048]⟩
abbrev S8x1x2048 : Shape := ⟨3, ![8, 1, 2048]⟩
abbrev S8x2048 : Shape := ⟨2, ![8, 2048]⟩
abbrev S8x2048x1 : Shape := ⟨3, ![8, 2048, 1]⟩
abbrev S1x1x2048 : Shape := ⟨3, ![1, 1, 2048]⟩
abbrev S8x256 : Shape := ⟨2, ![8, 256]⟩
abbrev S8x256x1 : Shape := ⟨3, ![8, 256, 1]⟩

abbrev nBuf : Space → Nat
  | .hbm => 78
  | .vmem => 0
  | .smem => 0
  | _ => 0

abbrev bufTy : (tb : Table) → Fin (tcTables nBuf tb) → BufTy
  | .hbm, ⟨0, _⟩ => ⟨S18432x2048, .bf16⟩
  | .hbm, ⟨1, _⟩ => ⟨S18432x2048, .f32⟩
  | .hbm, ⟨2, _⟩ => ⟨S18432x2048, .f32⟩
  | .hbm, ⟨3, _⟩ => ⟨S2048x512, .f32⟩
  | .hbm, ⟨4, _⟩ => ⟨S2048x512, .f32⟩
  | .hbm, ⟨5, _⟩ => ⟨S512x2048, .f32⟩
  | .hbm, ⟨6, _⟩ => ⟨S2048, .f32⟩
  | .hbm, ⟨7, _⟩ => ⟨S16x6x2048, .f32⟩
  | .hbm, ⟨8, _⟩ => ⟨S18432x2048, .f32⟩
  | .hbm, ⟨9, _⟩ => ⟨S18432x512, .f32⟩
  | .hbm, ⟨10, _⟩ => ⟨S18432x512, .f32⟩
  | .hbm, ⟨11, _⟩ => ⟨S18432x512, .f32⟩
  | .hbm, ⟨12, _⟩ => ⟨S_, .f32⟩
  | .hbm, ⟨13, _⟩ => ⟨S18432x512, .f32⟩
  | .hbm, ⟨14, _⟩ => ⟨S18432x512, .f32⟩
  | .hbm, ⟨15, _⟩ => ⟨S_, .f32⟩
  | .hbm, ⟨16, _⟩ => ⟨S18432x512, .f32⟩
  | .hbm, ⟨17, _⟩ => ⟨S18432x512, .f32⟩
  | .hbm, ⟨18, _⟩ => ⟨S18432x512, .f32⟩
  | .hbm, ⟨19, _⟩ => ⟨S18432x512, .f32⟩
  | .hbm, ⟨20, _⟩ => ⟨S18432x512, .f32⟩
  | .hbm, ⟨21, _⟩ => ⟨S18432x2048, .f32⟩
  | .hbm, ⟨22, _⟩ => ⟨S18432x2048, .f32⟩
  | .hbm, ⟨23, _⟩ => ⟨S16384x2048, .f32⟩
  | .hbm, ⟨24, _⟩ => ⟨S8x2048x2048, .f32⟩
  | .hbm, ⟨25, _⟩ => ⟨S2048x2048, .f32⟩
  | .hbm, ⟨26, _⟩ => ⟨S8x256x2048, .f32⟩
  | .hbm, ⟨27, _⟩ => ⟨S16384x2048, .f32⟩
  | .hbm, ⟨28, _⟩ => ⟨S8x2048x2048, .f32⟩
  | .hbm, ⟨29, _⟩ => ⟨S2048x2048, .f32⟩
  | .hbm, ⟨30, _⟩ => ⟨S8x256x2048, .f32⟩
  | .hbm, ⟨31, _⟩ => ⟨S8x1x2048, .f32⟩
  | .hbm, ⟨32, _⟩ => ⟨S8x2048, .f32⟩
  | .hbm, ⟨33, _⟩ => ⟨S8x1x2048, .f32⟩
  | .hbm, ⟨34, _⟩ => ⟨S8x2048x2048, .f32⟩
  | .hbm, ⟨35, _⟩ => ⟨S_, .f32⟩
  | .hbm, ⟨36, _⟩ => ⟨S8x2048, .f32⟩
  | .hbm, ⟨37, _⟩ => ⟨S8x2048x1, .f32⟩
  | .hbm, ⟨38, _⟩ => ⟨S_, .f32⟩
  | .hbm, ⟨39, _⟩ => ⟨S8x2048x1, .f32⟩
  | .hbm, ⟨40, _⟩ => ⟨S8x2048x1, .f32⟩
  | .hbm, ⟨41, _⟩ => ⟨S_, .f32⟩
  | .hbm, ⟨42, _⟩ => ⟨S8x2048x1, .f32⟩
  | .hbm, ⟨43, _⟩ => ⟨S8x2048x1, .f32⟩
  | .hbm, ⟨44, _⟩ => ⟨S8x2048x1, .f32⟩
  | .hbm, ⟨45, _⟩ => ⟨S8x2048x2048, .f32⟩
  | .hbm, ⟨46, _⟩ => ⟨S8x2048x2048, .f32⟩
  | .hbm, ⟨47, _⟩ => ⟨S1x1x2048, .f32⟩
  | .hbm, ⟨48, _⟩ => ⟨S8x2048x2048, .f32⟩
  | .hbm, ⟨49, _⟩ => ⟨S8x2048x2048, .f32⟩
  | .hbm, ⟨50, _⟩ => ⟨S8x2048x2048, .f32⟩
  | .hbm, ⟨51, _⟩ => ⟨S8x2048x2048, .f32⟩
  | .hbm, ⟨52, _⟩ => ⟨S8x2048x2048, .f32⟩
  | .hbm, ⟨53, _⟩ => ⟨S1x1x2048, .f32⟩
  | .hbm, ⟨54, _⟩ => ⟨S2048, .f32⟩
  | .hbm, ⟨55, _⟩ => ⟨S8x256x2048, .f32⟩
  | .hbm, ⟨56, _⟩ => ⟨S_, .f32⟩
  | .hbm, ⟨57, _⟩ => ⟨S8x256, .f32⟩
  | .hbm, ⟨58, _⟩ => ⟨S8x256x1, .f32⟩
  | .hbm, ⟨59, _⟩ => ⟨S_, .f32⟩
  | .hbm, ⟨60, _⟩ => ⟨S8x256x1, .f32⟩
  | .hbm, ⟨61, _⟩ => ⟨S8x256x1, .f32⟩
  | .hbm, ⟨62, _⟩ => ⟨S_, .f32⟩
  | .hbm, ⟨63, _⟩ => ⟨S8x256x1, .f32⟩
  | .hbm, ⟨64, _⟩ => ⟨S8x256x1, .f32⟩
  | .hbm, ⟨65, _⟩ => ⟨S8x256x1, .f32⟩
  | .hbm, ⟨66, _⟩ => ⟨S8x256x2048, .f32⟩
  | .hbm, ⟨67, _⟩ => ⟨S8x256x2048, .f32⟩
  | .hbm, ⟨68, _⟩ => ⟨S1x1x2048, .f32⟩
  | .hbm, ⟨69, _⟩ => ⟨S8x256x2048, .f32⟩
  | .hbm, ⟨70, _⟩ => ⟨S8x256x2048, .f32⟩
  | .hbm, ⟨71, _⟩ => ⟨S1x1x2048, .f32⟩
  | .hbm, ⟨72, _⟩ => ⟨S8x256x2048, .f32⟩
  | .hbm, ⟨73, _⟩ => ⟨S8x256x2048, .f32⟩
  | .hbm, ⟨74, _⟩ => ⟨S8x256x2048, .f32⟩
  | .hbm, ⟨75, _⟩ => ⟨S16384x2048, .f32⟩
  | .hbm, ⟨76, _⟩ => ⟨S2048x2048, .f32⟩
  | .hbm, ⟨77, _⟩ => ⟨S18432x2048, .f32⟩
  | _, _ => ⟨S18432x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst : Ref sig .tc := ⟨.hbm, 35, rfl⟩
abbrev main_v19 : Ref sig .tc := ⟨.hbm, 36, rfl⟩
abbrev main_v20 : Ref sig .tc := ⟨.hbm, 37, rfl⟩
abbrev main_cst_0 : Ref sig .tc := ⟨.hbm, 38, rfl⟩
abbrev main_v21 : Ref sig .tc := ⟨.hbm, 39, rfl⟩
abbrev main_v22 : Ref sig .tc := ⟨.hbm, 40, rfl⟩
abbrev main_cst_1 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_2 : Ref sig .tc := ⟨.hbm, 56, rfl⟩
abbrev main_v37 : Ref sig .tc := ⟨.hbm, 57, rfl⟩
abbrev main_v38 : Ref sig .tc := ⟨.hbm, 58, rfl⟩
abbrev main_cst_3 : Ref sig .tc := ⟨.hbm, 59, rfl⟩
abbrev main_v39 : Ref sig .tc := ⟨.hbm, 60, rfl⟩
abbrev main_v40 : Ref sig .tc := ⟨.hbm, 61, rfl⟩
abbrev main_cst_4 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]
-- ==== MlaQ.lean ====
abbrev S18432x3968 : Shape := ⟨2, ![18432, 3968]⟩
abbrev S768 : Shape := ⟨1, ![768]⟩
abbrev S768x1152 : Shape := ⟨2, ![768, 1152]⟩
abbrev S1x768 : Shape := ⟨2, ![1, 768]⟩
abbrev S768x6x192 : Shape := ⟨3, ![768, 6, 192]⟩
abbrev S_ : Shape := ⟨0, ![]⟩
abbrev S768x6x256 : Shape := ⟨3, ![768, 6, 256]⟩
abbrev S768x1536 : Shape := ⟨2, ![768, 1536]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x128 : Shape := ⟨2, ![2048, 128]⟩
abbrev S512x128 : Shape := ⟨2, ![512, 128]⟩
abbrev S2560x128 : Shape := ⟨2, ![2560, 128]⟩
abbrev S18432x1536 : Shape := ⟨2, ![18432, 1536]⟩
abbrev S512x768 : Shape := ⟨2, ![512, 768]⟩
abbrev S512x1536 : Shape := ⟨2, ![512, 1536]⟩
abbrev S512 : Shape := ⟨1, ![512]⟩
abbrev S512x1 : Shape := ⟨2, ![512, 1]⟩

abbrev nBuf : Space → Nat
  | .hbm => 75
  | .vmem => 12
  | .smem => 0
  | _ => 0

abbrev bufTy : (tb : Table) → Fin (tcTables nBuf tb) → BufTy
  | .hbm, ⟨0, _⟩ => ⟨S18432x3968, .bf16⟩
  | .hbm, ⟨1, _⟩ => ⟨S768, .f32⟩
  | .hbm, ⟨2, _⟩ => ⟨S768x1152, .f32⟩
  | .hbm, ⟨3, _⟩ => ⟨S1x768, .f32⟩
  | .hbm, ⟨4, _⟩ => ⟨S768x6x192, .f32⟩
  | .hbm, ⟨5, _⟩ => ⟨S_, .i32⟩
  | .hbm, ⟨6, _⟩ => ⟨S_, .f32⟩
  | .hbm, ⟨7, _⟩ => ⟨S768x6x256, .f32⟩
  | .hbm, ⟨8, _⟩ => ⟨S768x1536, .f32⟩
  | .hbm, ⟨9, _⟩ => ⟨S768x1536, .bf16⟩
  | .hbm, ⟨10, _⟩ => ⟨S32, .f32⟩
  | .hbm, ⟨11, _⟩ => ⟨S32x64, .f32⟩
  | .hbm, ⟨12, _⟩ => ⟨S2048, .f32⟩
  | .hbm, ⟨13, _⟩ => ⟨S64, .f32⟩
  | .hbm, ⟨14, _⟩ => ⟨S1x64, .f32⟩
  | .hbm, ⟨15, _⟩ => ⟨S32x64, .f32⟩
  | .hbm, ⟨16, _⟩ => ⟨S2048, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S16, .f32⟩
  | .hbm, ⟨25, _⟩ => ⟨S_, .f32⟩
  | .hbm, ⟨26, _⟩ => ⟨S16, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S2048x1, .f32⟩
  | .hbm, ⟨32, _⟩ => ⟨S1x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S2048x1, .f32⟩
  | .hbm, ⟨37, _⟩ => ⟨S1x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S_, .f32⟩
  | .hbm, ⟨42, _⟩ => ⟨S2048x16, .f32⟩
  | .hbm, ⟨43, _⟩ => ⟨S2048x16, .f32⟩
  | .hbm, ⟨44, _⟩ => ⟨S2048x16, .f32⟩
  | .hbm, ⟨45, _⟩ => ⟨S2048x16, .f32⟩
  | .hbm, ⟨46, _⟩ => ⟨S2048x16, .f32⟩
  | .hbm, ⟨47, _⟩ => ⟨S2048x64, .f32⟩
  | .hbm, ⟨48, _⟩ => ⟨S2048x16, .f32⟩
  | .hbm, ⟨49, _⟩ => ⟨S2048x16, .f32⟩
  | .hbm, ⟨50, _⟩ => ⟨S2048x16, .f32⟩
  | .hbm, ⟨51, _⟩ => ⟨S2048x16, .f32⟩
  | .hbm, ⟨52, _⟩ => ⟨S2048x64, .f32⟩
  | .hbm, ⟨53, _⟩ => ⟨S2048x16, .f32⟩
  | .hbm, ⟨54, _⟩ => ⟨S2048x16, .f32⟩
  | .hbm, ⟨55, _⟩ => ⟨S2048x64, .f32⟩
  | .hbm, ⟨56, _⟩ => ⟨S_, .f32⟩
  | .hbm, ⟨57, _⟩ => ⟨S_, .f32⟩
  | .hbm, ⟨58, _⟩ => ⟨S2048x128, .f32⟩
  | .hbm, ⟨59, _⟩ => ⟨S_, .f32⟩
  | .hbm, ⟨60, _⟩ => ⟨S512x128, .f32⟩
  | .hbm, ⟨61, _⟩ => ⟨S2560x128, .f32⟩
  | .hbm, ⟨62, _⟩ => ⟨S_, .f32⟩
  | .hbm, ⟨63, _⟩ => ⟨S_, .f32⟩
  | .hbm, ⟨64, _⟩ => ⟨S2048x128, .f32⟩
  | .hbm, ⟨65, _⟩ => ⟨S_, .f32⟩
  | .hbm, ⟨66, _⟩ => ⟨S512x128, .f32⟩
  | .hbm, ⟨67, _⟩ => ⟨S2560x128, .f32⟩
  | .hbm, ⟨68, _⟩ => ⟨S_, .f32⟩
  | .hbm, ⟨69, _⟩ => ⟨S_, .f32⟩
  | .hbm, ⟨70, _⟩ => ⟨S2048x128, .f32⟩
  | .hbm, ⟨71, _⟩ => ⟨S_, .f32⟩
  | .hbm, ⟨72, _⟩ => ⟨S512x128, .f32⟩
  | .hbm, ⟨73, _⟩ => ⟨S2560x128, .f32⟩
  | .hbm, ⟨74, _⟩ => ⟨S18432x1536, .bf16⟩
  | .local _ .vmem, ⟨0, _⟩ => ⟨S512x768, .bf16⟩
  | .local _ .vmem, ⟨1, _⟩ => ⟨S512x768, .bf16⟩
  | .local _ .vmem, ⟨2, _⟩ => ⟨S1x768, .f32⟩
  | .local _ .vmem, ⟨3, _⟩ => ⟨S768x1536, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x1536, .bf16⟩
  | .local _ .vmem, ⟨11, _⟩ => ⟨S512x1536, .bf16⟩
  | _, _ => ⟨S18432x3968, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_call1_v0 : Ref sig .tc := ⟨.hbm, 57, rfl⟩
abbrev main_v46 : Ref sig .tc := ⟨.hbm, 58, rfl⟩
abbrev main_cst_5 : Ref sig .tc := ⟨.hbm, 59, rfl⟩
abbrev main_v47 : Ref sig .tc := ⟨.hbm, 60, rfl⟩
abbrev main_v48 : Ref sig .tc := ⟨.hbm, 61, rfl⟩
abbrev main_cst_6 : Ref sig .tc := ⟨.hbm, 62, rfl⟩
abbrev main_call2_v0 : Ref sig .tc := ⟨.hbm, 63, rfl⟩
abbrev main_v49 : Ref sig .tc := ⟨.hbm, 64, rfl⟩
abbrev main_cst_7 : Ref sig .tc := ⟨.hbm, 65, rfl⟩
abbrev main_v50 : Ref sig .tc := ⟨.hbm, 66, rfl⟩
abbrev main_v51 : Ref sig .tc := ⟨.hbm, 67, rfl⟩
abbrev main_cst_8 : Ref sig .tc := ⟨.hbm, 68, rfl⟩
abbrev main_call3_v0 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_4 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MlaQRefIdeal.lean ====
abbrev S18432x3968 : Shape := ⟨2, ![18432, 3968]⟩
abbrev S768 : Shape := ⟨1, ![768]⟩
abbrev S768x1152 : Shape := ⟨2, ![768, 1152]⟩
abbrev S18432x768 : Shape := ⟨2, ![18432, 768]⟩
abbrev S_ : Shape := ⟨0, ![]⟩
abbrev S18432 : Shape := ⟨1, ![18432]⟩
abbrev S18432x1 : Shape := ⟨2, ![18432, 1]⟩
abbrev S1x768 : Shape := ⟨2, ![1, 768]⟩
abbrev S18432x1152 : Shape := ⟨2, ![18432, 1152]⟩
abbrev S18432x6x192 : Shape := ⟨3, ![18432, 6, 192]⟩
abbrev S18432x6x128 : Shape := ⟨3, ![18432, 6, 128]⟩
abbrev S18432x6x64 : Shape := ⟨3, ![18432, 6, 64]⟩
abbrev S16384x6x64 : Shape := ⟨3, ![16384, 6, 64]⟩
abbrev S8x2048x6x64 : Shape := ⟨4, ![8, 2048, 6, 64]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S8x2048x6x32 : Shape := ⟨4, ![8, 2048, 6, 32]⟩
abbrev S8x2048x6x16 : Shape := ⟨4, ![8, 2048, 6, 16]⟩
abbrev S2048x1x16 : Shape := ⟨3, ![2048, 1, 16]⟩
abbrev S1x2048x1x16 : Shape := ⟨4, ![1, 2048, 1, 16]⟩
abbrev S2048x6x64 : Shape := ⟨3, ![2048, 6, 64]⟩
abbrev S18432x6x256 : Shape := ⟨3, ![18432, 6, 256]⟩
abbrev S18432x1536 : Shape := ⟨2, ![18432, 1536]⟩

abbrev nBuf : Space → Nat
  | .hbm => 114
  | .vmem => 0
  | .smem => 0
  | _ => 0

abbrev bufTy : (tb : Table) → Fin (tcTables nBuf tb) → BufTy
  | .hbm, ⟨0, _⟩ => ⟨S18432x3968, .bf16⟩
  | .hbm, ⟨1, _⟩ => ⟨S768, .f32⟩
  | .hbm, ⟨2, _⟩ => ⟨S768x1152, .f32⟩
  | .hbm, ⟨3, _⟩ => ⟨S18432x768, .bf16⟩
  | .hbm, ⟨4, _⟩ => ⟨S18432x768, .f32⟩
  | .hbm, ⟨5, _⟩ => ⟨S18432x768, .f32⟩
  | .hbm, ⟨6, _⟩ => ⟨S_, .f32⟩
  | .hbm, ⟨7, _⟩ => ⟨S18432, .f32⟩
  | .hbm, ⟨8, _⟩ => ⟨S18432x1, .f32⟩
  | .hbm, ⟨9, _⟩ => ⟨S_, .f32⟩
  | .hbm, ⟨10, _⟩ => ⟨S18432x1, .f32⟩
  | .hbm, ⟨11, _⟩ => ⟨S18432x1, .f32⟩
  | .hbm, ⟨12, _⟩ => ⟨S_, .f32⟩
  | .hbm, ⟨13, _⟩ => ⟨S18432x1, .f32⟩
  | .hbm, ⟨14, _⟩ => ⟨S18432x1, .f32⟩
  | .hbm, ⟨15, _⟩ => ⟨S18432x1, .f32⟩
  | .hbm, ⟨16, _⟩ => ⟨S18432x768, .f32⟩
  | .hbm, ⟨17, _⟩ => ⟨S18432x768, .f32⟩
  | .hbm, ⟨18, _⟩ => ⟨S1x768, .f32⟩
  | .hbm, ⟨19, _⟩ => ⟨S18432x768, .f32⟩
  | .hbm, ⟨20, _⟩ => ⟨S18432x768, .f32⟩
  | .hbm, ⟨21, _⟩ => ⟨S18432x1152, .f32⟩
  | .hbm, ⟨22, _⟩ => ⟨S18432x6x192, .f32⟩
  | .hbm, ⟨23, _⟩ => ⟨S18432x6x128, .f32⟩
  | .hbm, ⟨24, _⟩ => ⟨S18432x6x64, .f32⟩
  | .hbm, ⟨25, _⟩ => ⟨S16384x6x64, .f32⟩
  | .hbm, ⟨26, _⟩ => ⟨S8x2048x6x64, .f32⟩
  | .hbm, ⟨27, _⟩ => ⟨S32, .f32⟩
  | .hbm, ⟨28, _⟩ => ⟨S32x64, .f32⟩
  | .hbm, ⟨29, _⟩ => ⟨S2048, .f32⟩
  | .hbm, ⟨30, _⟩ => ⟨S64, .f32⟩
  | .hbm, ⟨31, _⟩ => ⟨S1x64, .f32⟩
  | .hbm, ⟨32, _⟩ => ⟨S32x64, .f32⟩
  | .hbm, ⟨33, _⟩ => ⟨S2048, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S2048x1, .f32⟩
  | .hbm, ⟨49, _⟩ => ⟨S1x16, .f32⟩
  | .hbm, ⟨50, _⟩ => ⟨S2048x16, .f32⟩
  | .hbm, ⟨51, _⟩ => ⟨S2048x16, .f32⟩
  | .hbm, ⟨52, _⟩ => ⟨S2048x16, .f32⟩
  | .hbm, ⟨53, _⟩ => ⟨S2048x1, .f32⟩
  | .hbm, ⟨54, _⟩ => ⟨S1x16, .f32⟩
  | .hbm, ⟨55, _⟩ => ⟨S2048x16, .f32⟩
  | .hbm, ⟨56, _⟩ => ⟨S2048x16, .f32⟩
  | .hbm, ⟨57, _⟩ => ⟨S2048x16, .f32⟩
  | .hbm, ⟨58, _⟩ => ⟨S8x2048x6x32, .f32⟩
  | .hbm, ⟨59, _⟩ => ⟨S8x2048x6x32, .f32⟩
  | .hbm, ⟨60, _⟩ => ⟨S8x2048x6x16, .f32⟩
  | .hbm, ⟨61, _⟩ => ⟨S8x2048x6x16, .f32⟩
  | .hbm, ⟨62, _⟩ => ⟨S2048x16, .f32⟩
  | .hbm, ⟨63, _⟩ => ⟨S2048x1x16, .f32⟩
  | .hbm, ⟨64, _⟩ => ⟨S2048x16, .f32⟩
  | .hbm, ⟨65, _⟩ => ⟨S2048x1x16, .f32⟩
  | .hbm, ⟨66, _⟩ => ⟨S1x2048x1x16, .f32⟩
  | .hbm, ⟨67, _⟩ => ⟨S8x2048x6x16, .f32⟩
  | .hbm, ⟨68, _⟩ => ⟨S8x2048x6x16, .f32⟩
  | .hbm, ⟨69, _⟩ => ⟨S1x2048x1x16, .f32⟩
  | .hbm, ⟨70, _⟩ => ⟨S8x2048x6x16, .f32⟩
  | .hbm, ⟨71, _⟩ => ⟨S8x2048x6x16, .f32⟩
  | .hbm, ⟨72, _⟩ => ⟨S8x2048x6x16, .f32⟩
  | .hbm, ⟨73, _⟩ => ⟨S1x2048x1x16, .f32⟩
  | .hbm, ⟨74, _⟩ => ⟨S8x2048x6x16, .f32⟩
  | .hbm, ⟨75, _⟩ => ⟨S8x2048x6x16, .f32⟩
  | .hbm, ⟨76, _⟩ => ⟨S1x2048x1x16, .f32⟩
  | .hbm, ⟨77, _⟩ => ⟨S8x2048x6x16, .f32⟩
  | .hbm, ⟨78, _⟩ => ⟨S8x2048x6x16, .f32⟩
  | .hbm, ⟨79, _⟩ => ⟨S8x2048x6x16, .f32⟩
  | .hbm, ⟨80, _⟩ => ⟨S8x2048x6x32, .f32⟩
  | .hbm, ⟨81, _⟩ => ⟨S8x2048x6x16, .f32⟩
  | .hbm, ⟨82, _⟩ => ⟨S8x2048x6x16, .f32⟩
  | .hbm, ⟨83, _⟩ => ⟨S2048x16, .f32⟩
  | .hbm, ⟨84, _⟩ => ⟨S2048x1x16, .f32⟩
  | .hbm, ⟨85, _⟩ => ⟨S2048x16, .f32⟩
  | .hbm, ⟨86, _⟩ => ⟨S2048x1x16, .f32⟩
  | .hbm, ⟨87, _⟩ => ⟨S1x2048x1x16, .f32⟩
  | .hbm, ⟨88, _⟩ => ⟨S8x2048x6x16, .f32⟩
  | .hbm, ⟨89, _⟩ => ⟨S8x2048x6x16, .f32⟩
  | .hbm, ⟨90, _⟩ => ⟨S1x2048x1x16, .f32⟩
  | .hbm, ⟨91, _⟩ => ⟨S8x2048x6x16, .f32⟩
  | .hbm, ⟨92, _⟩ => ⟨S8x2048x6x16, .f32⟩
  | .hbm, ⟨93, _⟩ => ⟨S8x2048x6x16, .f32⟩
  | .hbm, ⟨94, _⟩ => ⟨S1x2048x1x16, .f32⟩
  | .hbm, ⟨95, _⟩ => ⟨S8x2048x6x16, .f32⟩
  | .hbm, ⟨96, _⟩ => ⟨S8x2048x6x16, .f32⟩
  | .hbm, ⟨97, _⟩ => ⟨S1x2048x1x16, .f32⟩
  | .hbm, ⟨98, _⟩ => ⟨S8x2048x6x16, .f32⟩
  | .hbm, ⟨99, _⟩ => ⟨S8x2048x6x16, .f32⟩
  | .hbm, ⟨100, _⟩ => ⟨S8x2048x6x16, .f32⟩
  | .hbm, ⟨101, _⟩ => ⟨S8x2048x6x32, .f32⟩
  | .hbm, ⟨102, _⟩ => ⟨S8x2048x6x64, .f32⟩
  | .hbm, ⟨103, _⟩ => ⟨S16384x6x64, .f32⟩
  | .hbm, ⟨104, _⟩ => ⟨S2048x6x64, .f32⟩
  | .hbm, ⟨105, _⟩ => ⟨S18432x6x64, .f32⟩
  | .hbm, ⟨106, _⟩ => ⟨S_, .f32⟩
  | .hbm, ⟨107, _⟩ => ⟨S18432x6x64, .f32⟩
  | .hbm, ⟨108, _⟩ => ⟨S18432x6x256, .f32⟩
  | .hbm, ⟨109, _⟩ => ⟨S_, .f32⟩
  | .hbm, ⟨110, _⟩ => ⟨S18432x6x256, .f32⟩
  | .hbm, ⟨111, _⟩ => ⟨S18432x6x256, .f32⟩
  | .hbm, ⟨112, _⟩ => ⟨S18432x1536, .f32⟩
  | .hbm, ⟨113, _⟩ => ⟨S18432x1536, .bf16⟩
  | _, _ => ⟨S18432x3968, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_cst_6 : Ref sig .tc := ⟨.hbm, 106, rfl⟩
abbrev main_v96 : Ref sig .tc := ⟨.hbm, 107, rfl⟩
abbrev main_v97 : Ref sig .tc := ⟨.hbm, 108, rfl⟩
abbrev main_cst_7 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩

abbrev nD : Nat := 1
abbrev τ : Topo := Topo.v7x

variable {F : FTy → Type} [FloatOps F]
-- ==== MlaKV.lean ====
abbrev S18432x3968 : Shape := ⟨2, ![18432, 3968]⟩
abbrev S256 : Shape := ⟨1, ![256]⟩
abbrev S256x1536 : Shape := ⟨2, ![256, 1536]⟩
abbrev S1x256 : Shape := ⟨2, ![1, 256]⟩
abbrev S256x6x256 : Shape := ⟨3, ![256, 6, 256]⟩
abbrev S256x6x128 : Shape := ⟨3, ![256, 6, 128]⟩
abbrev S256x768 : Shape := ⟨2, ![256, 768]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S2048x128 : Shape := ⟨2, ![2048, 128]⟩
abbrev S512x128 : Shape := ⟨2, ![512, 128]⟩
abbrev S2560x128 : Shape := ⟨2, ![2560, 128]⟩
abbrev S18432x1536 : Shape := ⟨2, ![18432, 1536]⟩
abbrev S18432x768 : Shape := ⟨2, ![18432, 768]⟩
abbrev S512x256 : Shape := ⟨2, ![512, 256]⟩
abbrev S512x1536 : Shape := ⟨2, ![512, 1536]⟩
abbrev S512x768 : Shape := ⟨2, ![512, 768]⟩
abbrev S512 : Shape := ⟨1, ![512]⟩
abbrev S512x1 : Shape := ⟨2, ![512, 1]⟩

abbrev nBuf : Space → Nat
  | .hbm => 77
  | .vmem => 16
  | .smem => 0
  | _ => 0

abbrev bufTy : (tb : Table) → Fin (tcTables nBuf tb) → BufTy
  | .hbm, ⟨0, _⟩ => ⟨S18432x3968, .bf16⟩
  | .hbm, ⟨1, _⟩ => ⟨S256, .f32⟩
  | .hbm, ⟨2, _⟩ => ⟨S256x1536, .f32⟩
  | .hbm, ⟨3, _⟩ => ⟨S1x256, .f32⟩
  | .hbm, ⟨4, _⟩ => ⟨S256x6x256, .f32⟩
  | .hbm, ⟨5, _⟩ => ⟨S256x6x128, .f32⟩
  | .hbm, ⟨6, _⟩ => ⟨S256x768, .f32⟩
  | .hbm, ⟨7, _⟩ => ⟨S256x6x128, .f32⟩
  | .hbm, ⟨8, _⟩ => ⟨S256x768, .f32⟩
  | .hbm, ⟨9, _⟩ => ⟨S256x1536, .f32⟩
  | .hbm, ⟨10, _⟩ => ⟨S256x1536, .bf16⟩
  | .hbm, ⟨11, _⟩ => ⟨S32, .f32⟩
  | .hbm, ⟨12, _⟩ => ⟨S32x64, .f32⟩
  | .hbm, ⟨13, _⟩ => ⟨S2048, .f32⟩
  | .hbm, ⟨14, _⟩ => ⟨S64, .f32⟩
  | .hbm, ⟨15, _⟩ => ⟨S1x64, .f32⟩
  | .hbm, ⟨16, _⟩ => ⟨S32x64, .f32⟩
  | .hbm, ⟨17, _⟩ => ⟨S2048, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S16, .f32⟩
  | .hbm, ⟨26, _⟩ => ⟨S_, .f32⟩
  | .hbm, ⟨27, _⟩ => ⟨S16, .f32⟩
  | .hbm, ⟨28, _⟩ => ⟨S16, .f32⟩
  | .hbm, ⟨29, _⟩ => ⟨S_, .f32⟩
  | .hbm, ⟨30, _⟩ => ⟨S16, .f32⟩
  | .hbm, ⟨31, _⟩ => ⟨S16, .f32⟩
  | .hbm, ⟨32, _⟩ => ⟨S2048x1, .f32⟩
  | .hbm, ⟨33, _⟩ => ⟨S1x16, .f32⟩
  | .hbm, ⟨34, _⟩ => ⟨S2048x16, .f32⟩
  | .hbm, ⟨35, _⟩ => ⟨S2048x16, .f32⟩
  | .hbm, ⟨36, _⟩ => ⟨S2048x16, .f32⟩
  | .hbm, ⟨37, _⟩ => ⟨S2048x1, .f32⟩
  | .hbm, ⟨38, _⟩ => ⟨S1x16, .f32⟩
  | .hbm, ⟨39, _⟩ => ⟨S2048x16, .f32⟩
  | .hbm, ⟨40, _⟩ => ⟨S2048x16, .f32⟩
  | .hbm, ⟨41, _⟩ => ⟨S2048x16, .f32⟩
  | .hbm, ⟨42, _⟩ => ⟨S_, .f32⟩
  | .hbm, ⟨43, _⟩ => ⟨S2048x16, .f32⟩
  | .hbm, ⟨44, _⟩ => ⟨S2048x16, .f32⟩
  | .hbm, ⟨45, _⟩ => ⟨S2048x16, .f32⟩
  | .hbm, ⟨46, _⟩ => ⟨S2048x16, .f32⟩
  | .hbm, ⟨47, _⟩ => ⟨S2048x16, .f32⟩
  | .hbm, ⟨48, _⟩ => ⟨S2048x64, .f32⟩
  | .hbm, ⟨49, _⟩ => ⟨S2048x16, .f32⟩
  | .hbm, ⟨50, _⟩ => ⟨S2048x16, .f32⟩
  | .hbm, ⟨51, _⟩ => ⟨S2048x16, .f32⟩
  | .hbm, ⟨52, _⟩ => ⟨S2048x16, .f32⟩
  | .hbm, ⟨53, _⟩ => ⟨S2048x64, .f32⟩
  | .hbm, ⟨54, _⟩ => ⟨S2048x16, .f32⟩
  | .hbm, ⟨55, _⟩ => ⟨S2048x16, .f32⟩
  | .hbm, ⟨56, _⟩ => ⟨S2048x64, .f32⟩
  | .hbm, ⟨57, _⟩ => ⟨S_, .f32⟩
  | .hbm, ⟨58, _⟩ => ⟨S_, .f32⟩
  | .hbm, ⟨59, _⟩ => ⟨S2048x128, .f32⟩
  | .hbm, ⟨60, _⟩ => ⟨S_, .f32⟩
  | .hbm, ⟨61, _⟩ => ⟨S512x128, .f32⟩
  | .hbm, ⟨62, _⟩ => ⟨S2560x128, .f32⟩
  | .hbm, ⟨63, _⟩ => ⟨S_, .f32⟩
  | .hbm, ⟨64, _⟩ => ⟨S_, .f32⟩
  | .hbm, ⟨65, _⟩ => ⟨S2048x128, .f32⟩
  | .hbm, ⟨66, _⟩ => ⟨S_, .f32⟩
  | .hbm, ⟨67, _⟩ => ⟨S512x128, .f32⟩
  | .hbm, ⟨68, _⟩ => ⟨S2560x128, .f32⟩
  | .hbm, ⟨69, _⟩ => ⟨S_, .f32⟩
  | .hbm, ⟨70, _⟩ => ⟨S_, .f32⟩
  | .hbm, ⟨71, _⟩ => ⟨S2048x128, .f32⟩
  | .hbm, ⟨72, _⟩ => ⟨S_, .f32⟩
  | .hbm, ⟨73, _⟩ => ⟨S512x128, .f32⟩
  | .hbm, ⟨74, _⟩ => ⟨S2560x128, .f32⟩
  | .hbm, ⟨75, _⟩ => ⟨S18432x1536, .bf16⟩
  | .hbm, ⟨76, _⟩ => ⟨S18432x768, .bf16⟩
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S1x256, .f32⟩
  | .local _ .vmem, ⟨5, _⟩ => ⟨S256x1536, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1536, .bf16⟩
  | .local _ .vmem, ⟨13, _⟩ => ⟨S512x1536, .bf16⟩
  | .local _ .vmem, ⟨14, _⟩ => ⟨S512x768, .bf16⟩
  | .local _ .vmem, ⟨15, _⟩ => ⟨S512x768, .bf16⟩
  | _, _ => ⟨S18432x3968, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_4 : Ref sig .tc := ⟨.hbm, 57, rfl⟩
abbrev main_call0_v0 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_cst_6 : Ref sig .tc := ⟨.hbm, 63, rfl⟩
abbrev main_call1_v0 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_cst_8 : Ref sig .tc := ⟨.hbm, 69, rfl⟩
abbrev main_call2_v0 : Ref sig .tc := ⟨.hbm, 70, rfl⟩
abbrev main_v55 : Ref sig .tc := ⟨.hbm, 71, rfl⟩
abbrev main_cst_9 : Ref sig .tc := ⟨.hbm, 72, rfl⟩
abbrev main_v56 : Ref sig .tc := ⟨.hbm, 73, rfl⟩
abbrev main_v57 : Ref sig .tc := ⟨.hbm, 74, rfl⟩
abbrev main_v58_0 : Ref sig .tc := ⟨.hbm, 75, rfl⟩
abbrev main_v58_1 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_1 (i : grid0.Coords) : Fin 2 → Nat :=
  let arg0 : BitVec 32 := BitVec.ofNat 32 (i 0).val
  let c30_i32 : BitVec 32 := 30#32
  let c0_i32 : BitVec 32 := 0#32
  ![arg0.toNat, c30_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MlaKVRefIdeal.lean ====
abbrev S18432x3968 : Shape := ⟨2, ![18432, 3968]⟩
abbrev S256 : Shape := ⟨1, ![256]⟩
abbrev S256x1536 : Shape := ⟨2, ![256, 1536]⟩
abbrev S18432x256 : Shape := ⟨2, ![18432, 256]⟩
abbrev S18432x64 : Shape := ⟨2, ![18432, 64]⟩
abbrev S_ : Shape := ⟨0, ![]⟩
abbrev S18432 : Shape := ⟨1, ![18432]⟩
abbrev S18432x1 : Shape := ⟨2, ![18432, 1]⟩
abbrev S1x256 : Shape := ⟨2, ![1, 256]⟩
abbrev S18432x1536 : Shape := ⟨2, ![18432, 1536]⟩
abbrev S18432x6x256 : Shape := ⟨3, ![18432, 6, 256]⟩
abbrev S18432x6x128 : Shape := ⟨3, ![18432, 6, 128]⟩
abbrev S16384x64 : Shape := ⟨2, ![16384, 64]⟩
abbrev S8x2048x1x64 : Shape := ⟨4, ![8, 2048, 1, 64]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S8x2048x1x32 : Shape := ⟨4, ![8, 2048, 1, 32]⟩
abbrev S8x2048x1x16 : Shape := ⟨4, ![8, 2048, 1, 16]⟩
abbrev S2048x1x16 : Shape := ⟨3, ![2048, 1, 16]⟩
abbrev S1x2048x1x16 : Shape := ⟨4, ![1, 2048, 1, 16]⟩
abbrev S2048x64 : Shape := ⟨2, ![2048, 64]⟩
abbrev S18432x128 : Shape := ⟨2, ![18432, 128]⟩
abbrev S18432x1x128 : Shape := ⟨3, ![18432, 1, 128]⟩
abbrev S18432x768 : Shape := ⟨2, ![18432, 768]⟩

abbrev nBuf : Space → Nat
  | .hbm => 118
  | .vmem => 0
  | .smem => 0
  | _ => 0

abbrev bufTy : (tb : Table) → Fin (tcTables nBuf tb) → BufTy
  | .hbm, ⟨0, _⟩ => ⟨S18432x3968, .bf16⟩
  | .hbm, ⟨1, _⟩ => ⟨S256, .f32⟩
  | .hbm, ⟨2, _⟩ => ⟨S256x1536, .f32⟩
  | .hbm, ⟨3, _⟩ => ⟨S18432x256, .bf16⟩
  | .hbm, ⟨4, _⟩ => ⟨S18432x256, .f32⟩
  | .hbm, ⟨5, _⟩ => ⟨S18432x64, .bf16⟩
  | .hbm, ⟨6, _⟩ => ⟨S18432x64, .f32⟩
  | .hbm, ⟨7, _⟩ => ⟨S18432x64, .bf16⟩
  | .hbm, ⟨8, _⟩ => ⟨S18432x64, .f32⟩
  | .hbm, ⟨9, _⟩ => ⟨S18432x256, .f32⟩
  | .hbm, ⟨10, _⟩ => ⟨S_, .f32⟩
  | .hbm, ⟨11, _⟩ => ⟨S18432, .f32⟩
  | .hbm, ⟨12, _⟩ => ⟨S18432x1, .f32⟩
  | .hbm, ⟨13, _⟩ => ⟨S_, .f32⟩
  | .hbm, ⟨14, _⟩ => ⟨S18432x1, .f32⟩
  | .hbm, ⟨15, _⟩ => ⟨S18432x1, .f32⟩
  | .hbm, ⟨16, _⟩ => ⟨S_, .f32⟩
  | .hbm, ⟨17, _⟩ => ⟨S18432x1, .f32⟩
  | .hbm, ⟨18, _⟩ => ⟨S18432x1, .f32⟩
  | .hbm, ⟨19, _⟩ => ⟨S18432x1, .f32⟩
  | .hbm, ⟨20, _⟩ => ⟨S18432x256, .f32⟩
  | .hbm, ⟨21, _⟩ => ⟨S18432x256, .f32⟩
  | .hbm, ⟨22, _⟩ => ⟨S1x256, .f32⟩
  | .hbm, ⟨23, _⟩ => ⟨S18432x256, .f32⟩
  | .hbm, ⟨24, _⟩ => ⟨S18432x256, .f32⟩
  | .hbm, ⟨25, _⟩ => ⟨S18432x1536, .f32⟩
  | .hbm, ⟨26, _⟩ => ⟨S18432x6x256, .f32⟩
  | .hbm, ⟨27, _⟩ => ⟨S18432x6x128, .f32⟩
  | .hbm, ⟨28, _⟩ => ⟨S18432x6x128, .f32⟩
  | .hbm, ⟨29, _⟩ => ⟨S16384x64, .f32⟩
  | .hbm, ⟨30, _⟩ => ⟨S8x2048x1x64, .f32⟩
  | .hbm, ⟨31, _⟩ => ⟨S32, .f32⟩
  | .hbm, ⟨32, _⟩ => ⟨S32x64, .f32⟩
  | .hbm, ⟨33, _⟩ => ⟨S2048, .f32⟩
  | .hbm, ⟨34, _⟩ => ⟨S64, .f32⟩
  | .hbm, ⟨35, _⟩ => ⟨S1x64, .f32⟩
  | .hbm, ⟨36, _⟩ => ⟨S32x64, .f32⟩
  | .hbm, ⟨37, _⟩ => ⟨S2048, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S16, .f32⟩
  | .hbm, ⟨46, _⟩ => ⟨S_, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S2048x1, .f32⟩
  | .hbm, ⟨53, _⟩ => ⟨S1x16, .f32⟩
  | .hbm, ⟨54, _⟩ => ⟨S2048x16, .f32⟩
  | .hbm, ⟨55, _⟩ => ⟨S2048x16, .f32⟩
  | .hbm, ⟨56, _⟩ => ⟨S2048x16, .f32⟩
  | .hbm, ⟨57, _⟩ => ⟨S2048x1, .f32⟩
  | .hbm, ⟨58, _⟩ => ⟨S1x16, .f32⟩
  | .hbm, ⟨59, _⟩ => ⟨S2048x16, .f32⟩
  | .hbm, ⟨60, _⟩ => ⟨S2048x16, .f32⟩
  | .hbm, ⟨61, _⟩ => ⟨S2048x16, .f32⟩
  | .hbm, ⟨62, _⟩ => ⟨S8x2048x1x32, .f32⟩
  | .hbm, ⟨63, _⟩ => ⟨S8x2048x1x32, .f32⟩
  | .hbm, ⟨64, _⟩ => ⟨S8x2048x1x16, .f32⟩
  | .hbm, ⟨65, _⟩ => ⟨S8x2048x1x16, .f32⟩
  | .hbm, ⟨66, _⟩ => ⟨S2048x16, .f32⟩
  | .hbm, ⟨67, _⟩ => ⟨S2048x1x16, .f32⟩
  | .hbm, ⟨68, _⟩ => ⟨S2048x16, .f32⟩
  | .hbm, ⟨69, _⟩ => ⟨S2048x1x16, .f32⟩
  | .hbm, ⟨70, _⟩ => ⟨S1x2048x1x16, .f32⟩
  | .hbm, ⟨71, _⟩ => ⟨S8x2048x1x16, .f32⟩
  | .hbm, ⟨72, _⟩ => ⟨S8x2048x1x16, .f32⟩
  | .hbm, ⟨73, _⟩ => ⟨S1x2048x1x16, .f32⟩
  | .hbm, ⟨74, _⟩ => ⟨S8x2048x1x16, .f32⟩
  | .hbm, ⟨75, _⟩ => ⟨S8x2048x1x16, .f32⟩
  | .hbm, ⟨76, _⟩ => ⟨S8x2048x1x16, .f32⟩
  | .hbm, ⟨77, _⟩ => ⟨S1x2048x1x16, .f32⟩
  | .hbm, ⟨78, _⟩ => ⟨S8x2048x1x16, .f32⟩
  | .hbm, ⟨79, _⟩ => ⟨S8x2048x1x16, .f32⟩
  | .hbm, ⟨80, _⟩ => ⟨S1x2048x1x16, .f32⟩
  | .hbm, ⟨81, _⟩ => ⟨S8x2048x1x16, .f32⟩
  | .hbm, ⟨82, _⟩ => ⟨S8x2048x1x16, .f32⟩
  | .hbm, ⟨83, _⟩ => ⟨S8x2048x1x16, .f32⟩
  | .hbm, ⟨84, _⟩ => ⟨S8x2048x1x32, .f32⟩
  | .hbm, ⟨85, _⟩ => ⟨S8x2048x1x16, .f32⟩
  | .hbm, ⟨86, _⟩ => ⟨S8x2048x1x16, .f32⟩
  | .hbm, ⟨87, _⟩ => ⟨S2048x16, .f32⟩
  | .hbm, ⟨88, _⟩ => ⟨S2048x1x16, .f32⟩
  | .hbm, ⟨89, _⟩ => ⟨S2048x16, .f32⟩
  | .hbm, ⟨90, _⟩ => ⟨S2048x1x16, .f32⟩
  | .hbm, ⟨91, _⟩ => ⟨S1x2048x1x16, .f32⟩
  | .hbm, ⟨92, _⟩ => ⟨S8x2048x1x16, .f32⟩
  | .hbm, ⟨93, _⟩ => ⟨S8x2048x1x16, .f32⟩
  | .hbm, ⟨94, _⟩ => ⟨S1x2048x1x16, .f32⟩
  | .hbm, ⟨95, _⟩ => ⟨S8x2048x1x16, .f32⟩
  | .hbm, ⟨96, _⟩ => ⟨S8x2048x1x16, .f32⟩
  | .hbm, ⟨97, _⟩ => ⟨S8x2048x1x16, .f32⟩
  | .hbm, ⟨98, _⟩ => ⟨S1x2048x1x16, .f32⟩
  | .hbm, ⟨99, _⟩ => ⟨S8x2048x1x16, .f32⟩
  | .hbm, ⟨100, _⟩ => ⟨S8x2048x1x16, .f32⟩
  | .hbm, ⟨101, _⟩ => ⟨S1x2048x1x16, .f32⟩
  | .hbm, ⟨102, _⟩ => ⟨S8x2048x1x16, .f32⟩
  | .hbm, ⟨103, _⟩ => ⟨S8x2048x1x16, .f32⟩
  | .hbm, ⟨104, _⟩ => ⟨S8x2048x1x16, .f32⟩
  | .hbm, ⟨105, _⟩ => ⟨S8x2048x1x32, .f32⟩
  | .hbm, ⟨106, _⟩ => ⟨S8x2048x1x64, .f32⟩
  | .hbm, ⟨107, _⟩ => ⟨S16384x64, .f32⟩
  | .hbm, ⟨108, _⟩ => ⟨S2048x64, .f32⟩
  | .hbm, ⟨109, _⟩ => ⟨S18432x64, .f32⟩
  | .hbm, ⟨110, _⟩ => ⟨S18432x128, .f32⟩
  | .hbm, ⟨111, _⟩ => ⟨S18432x1x128, .f32⟩
  | .hbm, ⟨112, _⟩ => ⟨S18432x6x128, .f32⟩
  | .hbm, ⟨113, _⟩ => ⟨S18432x6x256, .f32⟩
  | .hbm, ⟨114, _⟩ => ⟨S18432x1536, .f32⟩
  | .hbm, ⟨115, _⟩ => ⟨S18432x1536, .bf16⟩
  | .hbm, ⟨116, _⟩ => ⟨S18432x768, .f32⟩
  | .hbm, ⟨117, _⟩ => ⟨S18432x768, .bf16⟩
  | _, _ => ⟨S18432x3968, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_cst_3 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩

abbrev nD : Nat := 1
abbrev τ : Topo := Topo.v7x

variable {F : FTy → Type} [FloatOps F]
-- ==== GqaQK.lean ====
abbrev S18432x3968 : Shape := ⟨2, ![18432, 3968]⟩
abbrev S128 : Shape := ⟨1, ![128]⟩
abbrev S1x128 : Shape := ⟨2, ![1, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S512x128 : Shape := ⟨2, ![512, 128]⟩
abbrev S2560x128 : Shape := ⟨2, ![2560, 128]⟩
abbrev S18432x768 : Shape := ⟨2, ![18432, 768]⟩
abbrev S18432x256 : Shape := ⟨2, ![18432, 256]⟩
abbrev S512x768 : Shape := ⟨2, ![512, 768]⟩
abbrev S512x256 : Shape := ⟨2, ![512, 256]⟩
abbrev S512 : Shape := ⟨1, ![512]⟩
abbrev S512x1 : Shape := ⟨2, ![512, 1]⟩

abbrev nBuf : Space → Nat
  | .hbm => 71
  | .vmem => 16
  | .smem => 0
  | _ => 0

abbrev bufTy : (tb : Table) → Fin (tcTables nBuf tb) → BufTy
  | .hbm, ⟨0, _⟩ => ⟨S18432x3968, .bf16⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S32, .f32⟩
  | .hbm, ⟨6, _⟩ => ⟨S32x64, .f32⟩
  | .hbm, ⟨7, _⟩ => ⟨S2048, .f32⟩
  | .hbm, ⟨8, _⟩ => ⟨S64, .f32⟩
  | .hbm, ⟨9, _⟩ => ⟨S1x64, .f32⟩
  | .hbm, ⟨10, _⟩ => ⟨S32x64, .f32⟩
  | .hbm, ⟨11, _⟩ => ⟨S2048, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S2048x1, .f32⟩
  | .hbm, ⟨27, _⟩ => ⟨S1x32, .f32⟩
  | .hbm, ⟨28, _⟩ => ⟨S2048x32, .f32⟩
  | .hbm, ⟨29, _⟩ => ⟨S2048x32, .f32⟩
  | .hbm, ⟨30, _⟩ => ⟨S2048x32, .f32⟩
  | .hbm, ⟨31, _⟩ => ⟨S2048x1, .f32⟩
  | .hbm, ⟨32, _⟩ => ⟨S1x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S_, .f32⟩
  | .hbm, ⟨37, _⟩ => ⟨S2048x32, .f32⟩
  | .hbm, ⟨38, _⟩ => ⟨S2048x32, .f32⟩
  | .hbm, ⟨39, _⟩ => ⟨S2048x32, .f32⟩
  | .hbm, ⟨40, _⟩ => ⟨S2048x32, .f32⟩
  | .hbm, ⟨41, _⟩ => ⟨S2048x32, .f32⟩
  | .hbm, ⟨42, _⟩ => ⟨S2048x128, .f32⟩
  | .hbm, ⟨43, _⟩ => ⟨S2048x32, .f32⟩
  | .hbm, ⟨44, _⟩ => ⟨S2048x32, .f32⟩
  | .hbm, ⟨45, _⟩ => ⟨S2048x32, .f32⟩
  | .hbm, ⟨46, _⟩ => ⟨S2048x32, .f32⟩
  | .hbm, ⟨47, _⟩ => ⟨S2048x128, .f32⟩
  | .hbm, ⟨48, _⟩ => ⟨S2048x32, .f32⟩
  | .hbm, ⟨49, _⟩ => ⟨S2048x32, .f32⟩
  | .hbm, ⟨50, _⟩ => ⟨S2048x128, .f32⟩
  | .hbm, ⟨51, _⟩ => ⟨S_, .f32⟩
  | .hbm, ⟨52, _⟩ => ⟨S_, .f32⟩
  | .hbm, ⟨53, _⟩ => ⟨S2048x128, .f32⟩
  | .hbm, ⟨54, _⟩ => ⟨S_, .f32⟩
  | .hbm, ⟨55, _⟩ => ⟨S512x128, .f32⟩
  | .hbm, ⟨56, _⟩ => ⟨S2560x128, .f32⟩
  | .hbm, ⟨57, _⟩ => ⟨S_, .f32⟩
  | .hbm, ⟨58, _⟩ => ⟨S_, .f32⟩
  | .hbm, ⟨59, _⟩ => ⟨S2048x128, .f32⟩
  | .hbm, ⟨60, _⟩ => ⟨S_, .f32⟩
  | .hbm, ⟨61, _⟩ => ⟨S512x128, .f32⟩
  | .hbm, ⟨62, _⟩ => ⟨S2560x128, .f32⟩
  | .hbm, ⟨63, _⟩ => ⟨S_, .f32⟩
  | .hbm, ⟨64, _⟩ => ⟨S_, .f32⟩
  | .hbm, ⟨65, _⟩ => ⟨S2048x128, .f32⟩
  | .hbm, ⟨66, _⟩ => ⟨S_, .f32⟩
  | .hbm, ⟨67, _⟩ => ⟨S512x128, .f32⟩
  | .hbm, ⟨68, _⟩ => ⟨S2560x128, .f32⟩
  | .hbm, ⟨69, _⟩ => ⟨S18432x768, .bf16⟩
  | .hbm, ⟨70, _⟩ => ⟨S18432x256, .bf16⟩
  | .local _ .vmem, ⟨0, _⟩ => ⟨S512x768, .bf16⟩
  | .local _ .vmem, ⟨1, _⟩ => ⟨S512x768, .bf16⟩
  | .local _ .vmem, ⟨2, _⟩ => ⟨S512x256, .bf16⟩
  | .local _ .vmem, ⟨3, _⟩ => ⟨S512x256, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x768, .bf16⟩
  | .local _ .vmem, ⟨13, _⟩ => ⟨S512x768, .bf16⟩
  | .local _ .vmem, ⟨14, _⟩ => ⟨S512x256, .bf16⟩
  | .local _ .vmem, ⟨15, _⟩ => ⟨S512x256, .bf16⟩
  | _, _ => ⟨S18432x3968, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_4 : Ref sig .tc := ⟨.hbm, 51, rfl⟩
abbrev main_call0_v0 : Ref sig .tc := ⟨.hbm, 52, rfl⟩
abbrev main_v43 : Ref sig .tc := ⟨.hbm, 53, rfl⟩
abbrev main_cst_5 : Ref sig .tc := ⟨.hbm, 54, rfl⟩
abbrev main_v44 : Ref sig .tc := ⟨.hbm, 55, rfl⟩
abbrev main_v45 : Ref sig .tc := ⟨.hbm, 56, rfl⟩
abbrev main_cst_6 : Ref sig .tc := ⟨.hbm, 57, rfl⟩
abbrev main_call1_v0 : Ref sig .tc := ⟨.hbm, 58, rfl⟩
abbrev main_v46 : Ref sig .tc := ⟨.hbm, 59, rfl⟩
abbrev main_cst_7 : Ref sig .tc := ⟨.hbm, 60, rfl⟩
abbrev main_v47 : Ref sig .tc := ⟨.hbm, 61, rfl⟩
abbrev main_v48 : Ref sig .tc := ⟨.hbm, 62, rfl⟩
abbrev main_cst_8 : Ref sig .tc := ⟨.hbm, 63, rfl⟩
abbrev main_call2_v0 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_v52_0 : Ref sig .tc := ⟨.hbm, 69, rfl⟩
abbrev main_v52_1 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_5 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_6 (i : grid0.Coords) : Fin 2 → Nat :=
  let arg0 : BitVec 32 := BitVec.ofNat 32 (i 0).val
  let c32_i32 : BitVec 32 := 32#32
  let v0 : BitVec 1 := Scalar.cmpi .slt arg0 c32_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GqaQKRefIdeal.lean ====
abbrev S18432x3968 : Shape := ⟨2, ![18432, 3968]⟩
abbrev S128 : Shape := ⟨1, ![128]⟩
abbrev S18432x768 : Shape := ⟨2, ![18432, 768]⟩
abbrev S18432x6x128 : Shape := ⟨3, ![18432, 6, 128]⟩
abbrev S18432x256 : Shape := ⟨2, ![18432, 256]⟩
abbrev S18432x2x128 : Shape := ⟨3, ![18432, 2, 128]⟩
abbrev S_ : Shape := ⟨0, ![]⟩
abbrev S18432x6 : Shape := ⟨2, ![18432, 6]⟩
abbrev S18432x6x1 : Shape := ⟨3, ![18432, 6, 1]⟩
abbrev S1x1x128 : Shape := ⟨3, ![1, 1, 128]⟩
abbrev S16384x6x128 : Shape := ⟨3, ![16384, 6, 128]⟩
abbrev S8x2048x6x128 : Shape := ⟨4, ![8, 2048, 6, 128]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2048x1 : Shape := ⟨2, ![2048, 1]⟩
abbrev S1x32 : Shape := ⟨2, ![1, 32]⟩
abbrev S2048x32 : Shape := ⟨2, ![2048, 32]⟩
abbrev S8x2048x6x64 : Shape := ⟨4, ![8, 2048, 6, 64]⟩
abbrev S8x2048x6x32 : Shape := ⟨4, ![8, 2048, 6, 32]⟩
abbrev S2048x1x32 : Shape := ⟨3, ![2048, 1, 32]⟩
abbrev S1x2048x1x32 : Shape := ⟨4, ![1, 2048, 1, 32]⟩
abbrev S2048x6x128 : Shape := ⟨3, ![2048, 6, 128]⟩
abbrev S18432x2 : Shape := ⟨2, ![18432, 2]⟩
abbrev S18432x2x1 : Shape := ⟨3, ![18432, 2, 1]⟩
abbrev S16384x2x128 : Shape := ⟨3, ![16384, 2, 128]⟩
abbrev S8x2048x2x128 : Shape := ⟨4, ![8, 2048, 2, 128]⟩
abbrev S8x2048x2x64 : Shape := ⟨4, ![8, 2048, 2, 64]⟩
abbrev S8x2048x2x32 : Shape := ⟨4, ![8, 2048, 2, 32]⟩
abbrev S2048x2x128 : Shape := ⟨3, ![2048, 2, 128]⟩

abbrev nBuf : Space → Nat
  | .hbm => 210
  | .vmem => 0
  | .smem => 0
  | _ => 0

abbrev hbmTy0_0 (i : Nat) : BufTy := match i % 128 with
  | 0 => ⟨S18432x3968, .bf16⟩
  | 1 => ⟨S128, .f32⟩
  | 2 => ⟨S128, .f32⟩
  | 3 => ⟨S18432x768, .bf16⟩
  | 4 => ⟨S18432x768, .f32⟩
  | 5 => ⟨S18432x6x128, .f32⟩
  | 6 => ⟨S18432x256, .bf16⟩
  | 7 => ⟨S18432x256, .f32⟩
  | 8 => ⟨S18432x2x128, .f32⟩
  | 9 => ⟨S18432x6x128, .f32⟩
  | 10 => ⟨S_, .f32⟩
  | 11 => ⟨S18432x6, .f32⟩
  | 12 => ⟨S18432x6x1, .f32⟩
  | 13 => ⟨S_, .f32⟩
  | 14 => ⟨S18432x6x1, .f32⟩
  | 15 => ⟨S18432x6x1, .f32⟩
  | 16 => ⟨S_, .f32⟩
  | 17 => ⟨S18432x6x1, .f32⟩
  | 18 => ⟨S18432x6x1, .f32⟩
  | 19 => ⟨S18432x6x1, .f32⟩
  | 20 => ⟨S18432x6x128, .f32⟩
  | 21 => ⟨S18432x6x128, .f32⟩
  | 22 => ⟨S1x1x128, .f32⟩
  | 23 => ⟨S18432x6x128, .f32⟩
  | 24 => ⟨S18432x6x128, .f32⟩
  | 25 => ⟨S16384x6x128, .f32⟩
  | 26 => ⟨S8x2048x6x128, .f32⟩
  | 27 => ⟨S32, .f32⟩
  | 28 => ⟨S32x64, .f32⟩
  | 29 => ⟨S2048, .f32⟩
  | 30 => ⟨S64, .f32⟩
  | 31 => ⟨S1x64, .f32⟩
  | 32 => ⟨S32x64, .f32⟩
  | 33 => ⟨S2048, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S32, .f32⟩
  | 42 => ⟨S_, .f32⟩
  | 43 => ⟨S32, .f32⟩
  | 44 => ⟨S32, .f32⟩
  | 45 => ⟨S_, .f32⟩
  | 46 => ⟨S32, .f32⟩
  | 47 => ⟨S32, .f32⟩
  | 48 => ⟨S2048x1, .f32⟩
  | 49 => ⟨S1x32, .f32⟩
  | 50 => ⟨S2048x32, .f32⟩
  | 51 => ⟨S2048x32, .f32⟩
  | 52 => ⟨S2048x32, .f32⟩
  | 53 => ⟨S2048x1, .f32⟩
  | 54 => ⟨S1x32, .f32⟩
  | 55 => ⟨S2048x32, .f32⟩
  | 56 => ⟨S2048x32, .f32⟩
  | 57 => ⟨S2048x32, .f32⟩
  | 58 => ⟨S8x2048x6x64, .f32⟩
  | 59 => ⟨S8x2048x6x64, .f32⟩
  | 60 => ⟨S8x2048x6x32, .f32⟩
  | 61 => ⟨S8x2048x6x32, .f32⟩
  | 62 => ⟨S2048x32, .f32⟩
  | 63 => ⟨S2048x1x32, .f32⟩
  | 64 => ⟨S2048x32, .f32⟩
  | 65 => ⟨S2048x1x32, .f32⟩
  | 66 => ⟨S1x2048x1x32, .f32⟩
  | 67 => ⟨S8x2048x6x32, .f32⟩
  | 68 => ⟨S8x2048x6x32, .f32⟩
  | 69 => ⟨S1x2048x1x32, .f32⟩
  | 70 => ⟨S8x2048x6x32, .f32⟩
  | 71 => ⟨S8x2048x6x32, .f32⟩
  | 72 => ⟨S8x2048x6x32, .f32⟩
  | 73 => ⟨S1x2048x1x32, .f32⟩
  | 74 => ⟨S8x2048x6x32, .f32⟩
  | 75 => ⟨S8x2048x6x32, .f32⟩
  | 76 => ⟨S1x2048x1x32, .f32⟩
  | 77 => ⟨S8x2048x6x32, .f32⟩
  | 78 => ⟨S8x2048x6x32, .f32⟩
  | 79 => ⟨S8x2048x6x32, .f32⟩
  | 80 => ⟨S8x2048x6x64, .f32⟩
  | 81 => ⟨S8x2048x6x32, .f32⟩
  | 82 => ⟨S8x2048x6x32, .f32⟩
  | 83 => ⟨S2048x32, .f32⟩
  | 84 => ⟨S2048x1x32, .f32⟩
  | 85 => ⟨S2048x32, .f32⟩
  | 86 => ⟨S2048x1x32, .f32⟩
  | 87 => ⟨S1x2048x1x32, .f32⟩
  | 88 => ⟨S8x2048x6x32, .f32⟩
  | 89 => ⟨S8x2048x6x32, .f32⟩
  | 90 => ⟨S1x2048x1x32, .f32⟩
  | 91 => ⟨S8x2048x6x32, .f32⟩
  | 92 => ⟨S8x2048x6x32, .f32⟩
  | 93 => ⟨S8x2048x6x32, .f32⟩
  | 94 => ⟨S1x2048x1x32, .f32⟩
  | 95 => ⟨S8x2048x6x32, .f32⟩
  | 96 => ⟨S8x2048x6x32, .f32⟩
  | 97 => ⟨S1x2048x1x32, .f32⟩
  | 98 => ⟨S8x2048x6x32, .f32⟩
  | 99 => ⟨S8x2048x6x32, .f32⟩
  | 100 => ⟨S8x2048x6x32, .f32⟩
  | 101 => ⟨S8x2048x6x64, .f32⟩
  | 102 => ⟨S8x2048x6x128, .f32⟩
  | 103 => ⟨S16384x6x128, .f32⟩
  | 104 => ⟨S2048x6x128, .f32⟩
  | 105 => ⟨S18432x6x128, .f32⟩
  | 106 => ⟨S_, .f32⟩
  | 107 => ⟨S18432x6x128, .f32⟩
  | 108 => ⟨S18432x6x128, .f32⟩
  | 109 => ⟨S18432x2x128, .f32⟩
  | 110 => ⟨S_, .f32⟩
  | 111 => ⟨S18432x2, .f32⟩
  | 112 => ⟨S18432x2x1, .f32⟩
  | 113 => ⟨S_, .f32⟩
  | 114 => ⟨S18432x2x1, .f32⟩
  | 115 => ⟨S18432x2x1, .f32⟩
  | 116 => ⟨S_, .f32⟩
  | 117 => ⟨S18432x2x1, .f32⟩
  | 118 => ⟨S18432x2x1, .f32⟩
  | 119 => ⟨S18432x2x1, .f32⟩
  | 120 => ⟨S18432x2x128, .f32⟩
  | 121 => ⟨S18432x2x128, .f32⟩
  | 122 => ⟨S1x1x128, .f32⟩
  | 123 => ⟨S18432x2x128, .f32⟩
  | 124 => ⟨S18432x2x128, .f32⟩
  | 125 => ⟨S16384x2x128, .f32⟩
  | 126 => ⟨S8x2048x2x128, .f32⟩
  | 127 => ⟨S32, .f32⟩
  | _ => ⟨S18432x3968, .bf16⟩

abbrev hbmTy0_1 (i : Nat) : BufTy := match i % 128 with
  | 0 => ⟨S32x64, .f32⟩
  | 1 => ⟨S2048, .f32⟩
  | 2 => ⟨S64, .f32⟩
  | 3 => ⟨S1x64, .f32⟩
  | 4 => ⟨S32x64, .f32⟩
  | 5 => ⟨S2048, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S2048x1, .f32⟩
  | 21 => ⟨S1x32, .f32⟩
  | 22 => ⟨S2048x32, .f32⟩
  | 23 => ⟨S2048x32, .f32⟩
  | 24 => ⟨S2048x32, .f32⟩
  | 25 => ⟨S2048x1, .f32⟩
  | 26 => ⟨S1x32, .f32⟩
  | 27 => ⟨S2048x32, .f32⟩
  | 28 => ⟨S2048x32, .f32⟩
  | 29 => ⟨S2048x32, .f32⟩
  | 30 => ⟨S8x2048x2x64, .f32⟩
  | 31 => ⟨S8x2048x2x64, .f32⟩
  | 32 => ⟨S8x2048x2x32, .f32⟩
  | 33 => ⟨S8x2048x2x32, .f32⟩
  | 34 => ⟨S2048x32, .f32⟩
  | 35 => ⟨S2048x1x32, .f32⟩
  | 36 => ⟨S2048x32, .f32⟩
  | 37 => ⟨S2048x1x32, .f32⟩
  | 38 => ⟨S1x2048x1x32, .f32⟩
  | 39 => ⟨S8x2048x2x32, .f32⟩
  | 40 => ⟨S8x2048x2x32, .f32⟩
  | 41 => ⟨S1x2048x1x32, .f32⟩
  | 42 => ⟨S8x2048x2x32, .f32⟩
  | 43 => ⟨S8x2048x2x32, .f32⟩
  | 44 => ⟨S8x2048x2x32, .f32⟩
  | 45 => ⟨S1x2048x1x32, .f32⟩
  | 46 => ⟨S8x2048x2x32, .f32⟩
  | 47 => ⟨S8x2048x2x32, .f32⟩
  | 48 => ⟨S1x2048x1x32, .f32⟩
  | 49 => ⟨S8x2048x2x32, .f32⟩
  | 50 => ⟨S8x2048x2x32, .f32⟩
  | 51 => ⟨S8x2048x2x32, .f32⟩
  | 52 => ⟨S8x2048x2x64, .f32⟩
  | 53 => ⟨S8x2048x2x32, .f32⟩
  | 54 => ⟨S8x2048x2x32, .f32⟩
  | 55 => ⟨S2048x32, .f32⟩
  | 56 => ⟨S2048x1x32, .f32⟩
  | 57 => ⟨S2048x32, .f32⟩
  | 58 => ⟨S2048x1x32, .f32⟩
  | 59 => ⟨S1x2048x1x32, .f32⟩
  | 60 => ⟨S8x2048x2x32, .f32⟩
  | 61 => ⟨S8x2048x2x32, .f32⟩
  | 62 => ⟨S1x2048x1x32, .f32⟩
  | 63 => ⟨S8x2048x2x32, .f32⟩
  | 64 => ⟨S8x2048x2x32, .f32⟩
  | 65 => ⟨S8x2048x2x32, .f32⟩
  | 66 => ⟨S1x2048x1x32, .f32⟩
  | 67 => ⟨S8x2048x2x32, .f32⟩
  | 68 => ⟨S8x2048x2x32, .f32⟩
  | 69 => ⟨S1x2048x1x32, .f32⟩
  | 70 => ⟨S8x2048x2x32, .f32⟩
  | 71 => ⟨S8x2048x2x32, .f32⟩
  | 72 => ⟨S8x2048x2x32, .f32⟩
  | 73 => ⟨S8x2048x2x64, .f32⟩
  | 74 => ⟨S8x2048x2x128, .f32⟩
  | 75 => ⟨S16384x2x128, .f32⟩
  | 76 => ⟨S2048x2x128, .f32⟩
  | 77 => ⟨S18432x2x128, .f32⟩
  | 78 => ⟨S18432x768, .f32⟩
  | 79 => ⟨S18432x768, .bf16⟩
  | 80 => ⟨S18432x256, .f32⟩
  | 81 => ⟨S18432x256, .bf16⟩
  | _ => ⟨S18432x3968, .bf16⟩

abbrev hbmTy (i : Nat) : BufTy := match i / 128 with
  | 0 => hbmTy0_0 i
  | 1 => hbmTy0_1 i
  | _ => ⟨S18432x3968, .bf16⟩

abbrev bufTy : (tb : Table) → Fin (tcTables nBuf tb) → BufTy
  | .hbm, ⟨i, _⟩ => hbmTy i
  | _, _ => ⟨S18432x3968, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_v35 : Ref sig .tc := ⟨.hbm, 44, rfl⟩
abbrev main_cst_5 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_cst_6 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_cst_7 : Ref sig .tc := ⟨.hbm, 110, rfl⟩
abbrev main_v99 : Ref sig .tc := ⟨.hbm, 111, rfl⟩
abbrev main_v100 : Ref sig .tc := ⟨.hbm, 112, rfl⟩
abbrev main_cst_8 : Ref sig .tc := ⟨.hbm, 113, rfl⟩
abbrev main_v101 : Ref sig .tc := ⟨.hbm, 114, rfl⟩
abbrev main_v102 : Ref sig .tc := ⟨.hbm, 115, rfl⟩
abbrev main_cst_9 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_cst_10 : Ref sig .tc := ⟨.hbm, 135, rfl⟩
abbrev main_v121 : Ref sig .tc := ⟨.hbm, 136, rfl⟩
abbrev main_v122 : Ref sig .tc := ⟨.hbm, 137, rfl⟩
abbrev main_cst_11 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_cst_12 : Ref sig .tc := ⟨.hbm, 142, rfl⟩
abbrev main_v126 : Ref sig .tc := ⟨.hbm, 143, rfl⟩
abbrev main_v127 : Ref sig .tc := ⟨.hbm, 144, rfl⟩
abbrev main_cst_13 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩

abbrev nD : Nat := 1
abbrev τ : Topo := Topo.v7x

variable {F : FTy → Type} [FloatOps F]
-- ==== MlaCtx.lean ====
abbrev S18432x1536 : Shape := ⟨2, ![18432, 1536]⟩
abbrev S18432x768 : Shape := ⟨2, ![18432, 768]⟩
abbrev S2048x768 : Shape := ⟨2, ![2048, 768]⟩
abbrev S256x256 : Shape := ⟨2, ![256, 256]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S18432x1536, .bf16⟩
  | .hbm, ⟨1, _⟩ => ⟨S18432x1536, .bf16⟩
  | .hbm, ⟨2, _⟩ => ⟨S18432x768, .bf16⟩
  | .hbm, ⟨3, _⟩ => ⟨S2048x768, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | _, _ => ⟨S18432x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c64_i32 : BitVec 32 := 64#32
  let v1 : BitVec 32 := Scalar.addi c64_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  ![v0.toNat, v17.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let c0_i32_5 : BitVec 32 := 0#32
  let v18 : BitVec 32 := Scalar.addi c0_i32_5 v17
  let c0_i32_6 : BitVec 32 := 0#32
  ![v0.toNat, v18.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== MlaCtxRefIdeal.lean ====
abbrev S18432x1536 : Shape := ⟨2, ![18432, 1536]⟩
abbrev S18432x768 : Shape := ⟨2, ![18432, 768]⟩
abbrev S2048x1536 : Shape := ⟨2, ![2048, 1536]⟩
abbrev S8x256x6x256 : Shape := ⟨4, ![8, 256, 6, 256]⟩
abbrev S2048x768 : Shape := ⟨2, ![2048, 768]⟩
abbrev S8x256x6x128 : Shape := ⟨4, ![8, 256, 6, 128]⟩
abbrev S8x256x6x1x256 : Shape := ⟨5, ![8, 256, 6, 1, 256]⟩
abbrev S8x6x256x256x1 : Shape := ⟨5, ![8, 6, 256, 256, 1]⟩
abbrev S8x6x1x256x256 : Shape := ⟨5, ![8, 6, 1, 256, 256]⟩
abbrev S_ : Shape := ⟨0, ![]⟩
abbrev S8x6x1x256 : Shape := ⟨4, ![8, 6, 1, 256]⟩
abbrev S8x6x1x256x1 : Shape := ⟨5, ![8, 6, 1, 256, 1]⟩
abbrev S8x6x128x1x256 : Shape := ⟨5, ![8, 6, 128, 1, 256]⟩
abbrev S8x256x6x1x128 : Shape := ⟨5, ![8, 256, 6, 1, 128]⟩
abbrev S8x256x768 : Shape := ⟨3, ![8, 256, 768]⟩

abbrev nBuf : Space → Nat
  | .hbm => 34
  | .vmem => 0
  | .smem => 0
  | _ => 0

abbrev bufTy : (tb : Table) → Fin (tcTables nBuf tb) → BufTy
  | .hbm, ⟨0, _⟩ => ⟨S18432x1536, .bf16⟩
  | .hbm, ⟨1, _⟩ => ⟨S18432x1536, .bf16⟩
  | .hbm, ⟨2, _⟩ => ⟨S18432x768, .bf16⟩
  | .hbm, ⟨3, _⟩ => ⟨S2048x1536, .bf16⟩
  | .hbm, ⟨4, _⟩ => ⟨S2048x1536, .f32⟩
  | .hbm, ⟨5, _⟩ => ⟨S8x256x6x256, .f32⟩
  | .hbm, ⟨6, _⟩ => ⟨S2048x1536, .bf16⟩
  | .hbm, ⟨7, _⟩ => ⟨S2048x1536, .f32⟩
  | .hbm, ⟨8, _⟩ => ⟨S8x256x6x256, .f32⟩
  | .hbm, ⟨9, _⟩ => ⟨S2048x768, .bf16⟩
  | .hbm, ⟨10, _⟩ => ⟨S2048x768, .f32⟩
  | .hbm, ⟨11, _⟩ => ⟨S8x256x6x128, .f32⟩
  | .hbm, ⟨12, _⟩ => ⟨S8x256x6x1x256, .f32⟩
  | .hbm, ⟨13, _⟩ => ⟨S8x6x256x256x1, .f32⟩
  | .hbm, ⟨14, _⟩ => ⟨S8x6x1x256x256, .f32⟩
  | .hbm, ⟨15, _⟩ => ⟨S_, .f32⟩
  | .hbm, ⟨16, _⟩ => ⟨S8x6x1x256, .f32⟩
  | .hbm, ⟨17, _⟩ => ⟨S_, .f32⟩
  | .hbm, ⟨18, _⟩ => ⟨S8x6x1x256, .f32⟩
  | .hbm, ⟨19, _⟩ => ⟨S8x6x1x256, .f32⟩
  | .hbm, ⟨20, _⟩ => ⟨S8x6x1x256x1, .f32⟩
  | .hbm, ⟨21, _⟩ => ⟨S8x6x1x256x256, .f32⟩
  | .hbm, ⟨22, _⟩ => ⟨S8x6x1x256x256, .f32⟩
  | .hbm, ⟨23, _⟩ => ⟨S8x6x1x256x256, .f32⟩
  | .hbm, ⟨24, _⟩ => ⟨S_, .f32⟩
  | .hbm, ⟨25, _⟩ => ⟨S8x6x1x256, .f32⟩
  | .hbm, ⟨26, _⟩ => ⟨S8x6x1x256x1, .f32⟩
  | .hbm, ⟨27, _⟩ => ⟨S8x6x1x256x256, .f32⟩
  | .hbm, ⟨28, _⟩ => ⟨S8x6x1x256x256, .f32⟩
  | .hbm, ⟨29, _⟩ => ⟨S8x6x128x1x256, .f32⟩
  | .hbm, ⟨30, _⟩ => ⟨S8x256x6x1x128, .f32⟩
  | .hbm, ⟨31, _⟩ => ⟨S8x256x768, .f32⟩
  | .hbm, ⟨32, _⟩ => ⟨S2048x768, .f32⟩
  | .hbm, ⟨33, _⟩ => ⟨S2048x768, .bf16⟩
  | _, _ => ⟨S18432x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== GqaCtx.lean ====
abbrev S18432x768 : Shape := ⟨2, ![18432, 768]⟩
abbrev S18432x256 : Shape := ⟨2, ![18432, 256]⟩
abbrev S18432x3968 : Shape := ⟨2, ![18432, 3968]⟩
abbrev S2048x768 : Shape := ⟨2, ![2048, 768]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 8
  | .smem => 0
  | _ => 0

abbrev bufTy : (tb : Table) → Fin (tcTables nBuf tb) → BufTy
  | .hbm, ⟨0, _⟩ => ⟨S18432x768, .bf16⟩
  | .hbm, ⟨1, _⟩ => ⟨S18432x256, .bf16⟩
  | .hbm, ⟨2, _⟩ => ⟨S18432x3968, .bf16⟩
  | .hbm, ⟨3, _⟩ => ⟨S2048x768, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | _, _ => ⟨S18432x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c64_i32 : BitVec 32 := 64#32
  let v1 : BitVec 32 := Scalar.addi c64_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c3_i32 : BitVec 32 := 3#32
  let v1 : BitVec 32 := Scalar.divsi arg1 c3_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi arg1 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  ![v0.toNat, v17.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg0
  let c3_i32 : BitVec 32 := 3#32
  let v1 : BitVec 32 := Scalar.divsi arg1 c3_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c3_i32 c0_i32_1
  let v8 : BitVec 32 := Scalar.extui v7
  let c0_i32_2 : BitVec 32 := 0#32
  let v9 : BitVec 1 := Scalar.cmpi .slt c3_i32 c0_i32_2
  let v10 : BitVec 32 := Scalar.extui v9
  let v11 : BitVec 32 := Scalar.subi v8 v10
  let v12 : BitVec 1 := Scalar.cmpi .ne v6 v11
  let v13 : BitVec 32 := Scalar.remsi arg1 c3_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c28_i32 : BitVec 32 := 28#32
  let v18 : BitVec 32 := Scalar.addi c28_i32 v17
  let c0_i32_4 : BitVec 32 := 0#32
  ![v0.toNat, v18.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== GqaCtxRefIdeal.lean ====
abbrev S18432x768 : Shape := ⟨2, ![18432, 768]⟩
abbrev S18432x256 : Shape := ⟨2, ![18432, 256]⟩
abbrev S18432x3968 : Shape := ⟨2, ![18432, 3968]⟩
abbrev S2048x768 : Shape := ⟨2, ![2048, 768]⟩
abbrev S8x256x6x128 : Shape := ⟨4, ![8, 256, 6, 128]⟩
abbrev S2048x256 : Shape := ⟨2, ![2048, 256]⟩
abbrev S8x256x2x128 : Shape := ⟨4, ![8, 256, 2, 128]⟩
abbrev S8x256x2x3x128 : Shape := ⟨5, ![8, 256, 2, 3, 128]⟩
abbrev S8x2x256x256x3 : Shape := ⟨5, ![8, 2, 256, 256, 3]⟩
abbrev S8x2x3x256x256 : Shape := ⟨5, ![8, 2, 3, 256, 256]⟩
abbrev S_ : Shape := ⟨0, ![]⟩
abbrev S8x2x3x256 : Shape := ⟨4, ![8, 2, 3, 256]⟩
abbrev S8x2x3x256x1 : Shape := ⟨5, ![8, 2, 3, 256, 1]⟩
abbrev S8x2x128x3x256 : Shape := ⟨5, ![8, 2, 128, 3, 256]⟩
abbrev S8x256x768 : Shape := ⟨3, ![8, 256, 768]⟩

abbrev nBuf : Space → Nat
  | .hbm => 35
  | .vmem => 0
  | .smem => 0
  | _ => 0

abbrev bufTy : (tb : Table) → Fin (tcTables nBuf tb) → BufTy
  | .hbm, ⟨0, _⟩ => ⟨S18432x768, .bf16⟩
  | .hbm, ⟨1, _⟩ => ⟨S18432x256, .bf16⟩
  | .hbm, ⟨2, _⟩ => ⟨S18432x3968, .bf16⟩
  | .hbm, ⟨3, _⟩ => ⟨S18432x256, .bf16⟩
  | .hbm, ⟨4, _⟩ => ⟨S2048x768, .bf16⟩
  | .hbm, ⟨5, _⟩ => ⟨S2048x768, .f32⟩
  | .hbm, ⟨6, _⟩ => ⟨S8x256x6x128, .f32⟩
  | .hbm, ⟨7, _⟩ => ⟨S2048x256, .bf16⟩
  | .hbm, ⟨8, _⟩ => ⟨S2048x256, .f32⟩
  | .hbm, ⟨9, _⟩ => ⟨S8x256x2x128, .f32⟩
  | .hbm, ⟨10, _⟩ => ⟨S2048x256, .bf16⟩
  | .hbm, ⟨11, _⟩ => ⟨S2048x256, .f32⟩
  | .hbm, ⟨12, _⟩ => ⟨S8x256x2x128, .f32⟩
  | .hbm, ⟨13, _⟩ => ⟨S8x256x2x3x128, .f32⟩
  | .hbm, ⟨14, _⟩ => ⟨S8x2x256x256x3, .f32⟩
  | .hbm, ⟨15, _⟩ => ⟨S8x2x3x256x256, .f32⟩
  | .hbm, ⟨16, _⟩ => ⟨S_, .f32⟩
  | .hbm, ⟨17, _⟩ => ⟨S8x2x3x256, .f32⟩
  | .hbm, ⟨18, _⟩ => ⟨S_, .f32⟩
  | .hbm, ⟨19, _⟩ => ⟨S8x2x3x256, .f32⟩
  | .hbm, ⟨20, _⟩ => ⟨S8x2x3x256, .f32⟩
  | .hbm, ⟨21, _⟩ => ⟨S8x2x3x256x1, .f32⟩
  | .hbm, ⟨22, _⟩ => ⟨S8x2x3x256x256, .f32⟩
  | .hbm, ⟨23, _⟩ => ⟨S8x2x3x256x256, .f32⟩
  | .hbm, ⟨24, _⟩ => ⟨S8x2x3x256x256, .f32⟩
  | .hbm, ⟨25, _⟩ => ⟨S_, .f32⟩
  | .hbm, ⟨26, _⟩ => ⟨S8x2x3x256, .f32⟩
  | .hbm, ⟨27, _⟩ => ⟨S8x2x3x256x1, .f32⟩
  | .hbm, ⟨28, _⟩ => ⟨S8x2x3x256x256, .f32⟩
  | .hbm, ⟨29, _⟩ => ⟨S8x2x3x256x256, .f32⟩
  | .hbm, ⟨30, _⟩ => ⟨S8x2x128x3x256, .f32⟩
  | .hbm, ⟨31, _⟩ => ⟨S8x256x2x3x128, .f32⟩
  | .hbm, ⟨32, _⟩ => ⟨S8x256x768, .f32⟩
  | .hbm, ⟨33, _⟩ => ⟨S2048x768, .f32⟩
  | .hbm, ⟨34, _⟩ => ⟨S2048x768, .bf16⟩
  | _, _ => ⟨S18432x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Logits.lean ====
abbrev S18432x512 : Shape := ⟨2, ![18432, 512]⟩
abbrev S18432x768 : Shape := ⟨2, ![18432, 768]⟩
abbrev S2048x2048 : Shape := ⟨2, ![2048, 2048]⟩
abbrev S18432x2048 : Shape := ⟨2, ![18432, 2048]⟩
abbrev S2048 : Shape := ⟨1, ![2048]⟩
abbrev S16x6x2048 : Shape := ⟨3, ![16, 6, 2048]⟩
abbrev S2048x64 : Shape := ⟨2, ![2048, 64]⟩
abbrev S_ : Shape := ⟨0, ![]⟩
abbrev S2048x128 : Shape := ⟨2, ![2048, 128]⟩
abbrev S512x2048 : Shape := ⟨2, ![512, 2048]⟩
abbrev S768x2048 : Shape := ⟨2, ![768, 2048]⟩
abbrev S1x2048 : Shape := ⟨2, ![1, 2048]⟩
abbrev S18432x128 : Shape := ⟨2, ![18432, 128]⟩
abbrev S512x512 : Shape := ⟨2, ![512, 512]⟩
abbrev S512x768 : Shape := ⟨2, ![512, 768]⟩
abbrev S1x6x2048 : Shape := ⟨3, ![1, 6, 2048]⟩
abbrev S512x128 : Shape := ⟨2, ![512, 128]⟩
abbrev S1x1x2048 : Shape := ⟨3, ![1, 1, 2048]⟩
abbrev S512 : Shape := ⟨1, ![512]⟩
abbrev S512x1 : Shape := ⟨2, ![512, 1]⟩

abbrev nBuf : Space → Nat
  | .hbm => 25
  | .vmem => 23
  | .smem => 0
  | _ => 0

abbrev bufTy : (tb : Table) → Fin (tcTables nBuf tb) → BufTy
  | .hbm, ⟨0, _⟩ => ⟨S18432x512, .bf16⟩
  | .hbm, ⟨1, _⟩ => ⟨S18432x768, .bf16⟩
  | .hbm, ⟨2, _⟩ => ⟨S18432x768, .bf16⟩
  | .hbm, ⟨3, _⟩ => ⟨S2048x2048, .f32⟩
  | .hbm, ⟨4, _⟩ => ⟨S18432x2048, .f32⟩
  | .hbm, ⟨5, _⟩ => ⟨S2048, .f32⟩
  | .hbm, ⟨6, _⟩ => ⟨S2048, .f32⟩
  | .hbm, ⟨7, _⟩ => ⟨S16x6x2048, .f32⟩
  | .hbm, ⟨8, _⟩ => ⟨S2048x64, .f32⟩
  | .hbm, ⟨9, _⟩ => ⟨S2048x2048, .bf16⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x128, .bf16⟩
  | .hbm, ⟨14, _⟩ => ⟨S2048x128, .f32⟩
  | .hbm, ⟨15, _⟩ => ⟨S2048x128, .f32⟩
  | .hbm, ⟨16, _⟩ => ⟨S2048x128, .bf16⟩
  | .hbm, ⟨17, _⟩ => ⟨S512x2048, .bf16⟩
  | .hbm, ⟨18, _⟩ => ⟨S768x2048, .bf16⟩
  | .hbm, ⟨19, _⟩ => ⟨S768x2048, .bf16⟩
  | .hbm, ⟨20, _⟩ => ⟨S1x2048, .f32⟩
  | .hbm, ⟨21, _⟩ => ⟨S1x2048, .f32⟩
  | .hbm, ⟨22, _⟩ => ⟨S18432x2048, .f32⟩
  | .hbm, ⟨23, _⟩ => ⟨S18432x2048, .bf16⟩
  | .hbm, ⟨24, _⟩ => ⟨S18432x128, .f32⟩
  | .local _ .vmem, ⟨0, _⟩ => ⟨S512x512, .bf16⟩
  | .local _ .vmem, ⟨1, _⟩ => ⟨S512x512, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x2048, .bf16⟩
  | .local _ .vmem, ⟨7, _⟩ => ⟨S768x2048, .bf16⟩
  | .local _ .vmem, ⟨8, _⟩ => ⟨S768x2048, .bf16⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S1x2048, .f32⟩
  | .local _ .vmem, ⟨13, _⟩ => ⟨S1x6x2048, .f32⟩
  | .local _ .vmem, ⟨14, _⟩ => ⟨S1x6x2048, .f32⟩
  | .local _ .vmem, ⟨15, _⟩ => ⟨S2048x128, .bf16⟩
  | .local _ .vmem, ⟨16, _⟩ => ⟨S2048x128, .bf16⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | .local _ .vmem, ⟨20, _⟩ => ⟨S512x2048, .bf16⟩
  | .local _ .vmem, ⟨21, _⟩ => ⟨S512x128, .f32⟩
  | .local _ .vmem, ⟨22, _⟩ => ⟨S512x128, .f32⟩
  | _, _ => ⟨S18432x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11_0 : Ref sig .tc := ⟨.hbm, 22, rfl⟩
abbrev main_v11_1 : Ref sig .tc := ⟨.hbm, 23, rfl⟩
abbrev main_v11_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![36], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.minsi v16 c8_i32
  let c0_i32_4 : BitVec 32 := 0#32
  let c0_i32_5 : BitVec 32 := 0#32
  let c0_i32_6 : BitVec 32 := 0#32
  ![v17.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x6x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2048x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2048x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== LogitsRefIdeal.lean ====
abbrev S18432x512 : Shape := ⟨2, ![18432, 512]⟩
abbrev S18432x768 : Shape := ⟨2, ![18432, 768]⟩
abbrev S2048x2048 : Shape := ⟨2, ![2048, 2048]⟩
abbrev S18432x2048 : Shape := ⟨2, ![18432, 2048]⟩
abbrev S2048 : Shape := ⟨1, ![2048]⟩
abbrev S16x6x2048 : Shape := ⟨3, ![16, 6, 2048]⟩
abbrev S2048x64 : Shape := ⟨2, ![2048, 64]⟩
abbrev S16384x2048 : Shape := ⟨2, ![16384, 2048]⟩
abbrev S8x2048x2048 : Shape := ⟨3, ![8, 2048, 2048]⟩
abbrev S8x256x2048 : Shape := ⟨3, ![8, 256, 2048]⟩
abbrev S8x1x2048 : Shape := ⟨3, ![8, 1, 2048]⟩
abbrev S8x2048 : Shape := ⟨2, ![8, 2048]⟩
abbrev S_ : Shape := ⟨0, ![]⟩
abbrev S8x2048x1 : Shape := ⟨3, ![8, 2048, 1]⟩
abbrev S1x1x2048 : Shape := ⟨3, ![1, 1, 2048]⟩
abbrev S8x256 : Shape := ⟨2, ![8, 256]⟩
abbrev S8x256x1 : Shape := ⟨3, ![8, 256, 1]⟩
abbrev S18432x64 : Shape := ⟨2, ![18432, 64]⟩
abbrev S18432x128 : Shape := ⟨2, ![18432, 128]⟩

abbrev nBuf : Space → Nat
  | .hbm => 131
  | .vmem => 0
  | .smem => 0
  | _ => 0

abbrev hbmTy0_0 (i : Nat) : BufTy := match i % 128 with
  | 0 => ⟨S18432x512, .bf16⟩
  | 1 => ⟨S18432x768, .bf16⟩
  | 2 => ⟨S18432x768, .bf16⟩
  | 3 => ⟨S2048x2048, .f32⟩
  | 4 => ⟨S18432x2048, .f32⟩
  | 5 => ⟨S2048, .f32⟩
  | 6 => ⟨S2048, .f32⟩
  | 7 => ⟨S16x6x2048, .f32⟩
  | 8 => ⟨S2048x64, .f32⟩
  | 9 => ⟨S18432x512, .f32⟩
  | 10 => ⟨S18432x768, .f32⟩
  | 11 => ⟨S18432x768, .f32⟩
  | 12 => ⟨S18432x2048, .f32⟩
  | 13 => ⟨S18432x2048, .f32⟩
  | 14 => ⟨S16384x2048, .f32⟩
  | 15 => ⟨S8x2048x2048, .f32⟩
  | 16 => ⟨S2048x2048, .f32⟩
  | 17 => ⟨S8x256x2048, .f32⟩
  | 18 => ⟨S16384x2048, .f32⟩
  | 19 => ⟨S8x2048x2048, .f32⟩
  | 20 => ⟨S2048x2048, .f32⟩
  | 21 => ⟨S8x256x2048, .f32⟩
  | 22 => ⟨S8x1x2048, .f32⟩
  | 23 => ⟨S8x2048, .f32⟩
  | 24 => ⟨S8x1x2048, .f32⟩
  | 25 => ⟨S8x2048x2048, .f32⟩
  | 26 => ⟨S_, .f32⟩
  | 27 => ⟨S8x2048, .f32⟩
  | 28 => ⟨S8x2048x1, .f32⟩
  | 29 => ⟨S_, .f32⟩
  | 30 => ⟨S8x2048x1, .f32⟩
  | 31 => ⟨S8x2048x1, .f32⟩
  | 32 => ⟨S_, .f32⟩
  | 33 => ⟨S8x2048x1, .f32⟩
  | 34 => ⟨S8x2048x1, .f32⟩
  | 35 => ⟨S8x2048x1, .f32⟩
  | 36 => ⟨S8x2048x2048, .f32⟩
  | 37 => ⟨S8x2048x2048, .f32⟩
  | 38 => ⟨S1x1x2048, .f32⟩
  | 39 => ⟨S8x2048x2048, .f32⟩
  | 40 => ⟨S8x2048x2048, .f32⟩
  | 41 => ⟨S8x2048x2048, .f32⟩
  | 42 => ⟨S8x2048x2048, .f32⟩
  | 43 => ⟨S8x2048x2048, .f32⟩
  | 44 => ⟨S1x1x2048, .f32⟩
  | 45 => ⟨S2048, .f32⟩
  | 46 => ⟨S8x256x2048, .f32⟩
  | 47 => ⟨S_, .f32⟩
  | 48 => ⟨S8x256, .f32⟩
  | 49 => ⟨S8x256x1, .f32⟩
  | 50 => ⟨S_, .f32⟩
  | 51 => ⟨S8x256x1, .f32⟩
  | 52 => ⟨S8x256x1, .f32⟩
  | 53 => ⟨S_, .f32⟩
  | 54 => ⟨S8x256x1, .f32⟩
  | 55 => ⟨S8x256x1, .f32⟩
  | 56 => ⟨S8x256x1, .f32⟩
  | 57 => ⟨S8x256x2048, .f32⟩
  | 58 => ⟨S8x256x2048, .f32⟩
  | 59 => ⟨S1x1x2048, .f32⟩
  | 60 => ⟨S8x256x2048, .f32⟩
  | 61 => ⟨S8x256x2048, .f32⟩
  | 62 => ⟨S1x1x2048, .f32⟩
  | 63 => ⟨S8x256x2048, .f32⟩
  | 64 => ⟨S8x256x2048, .f32⟩
  | 65 => ⟨S8x256x2048, .f32⟩
  | 66 => ⟨S8x2048x2048, .f32⟩
  | 67 => ⟨S_, .f32⟩
  | 68 => ⟨S8x2048, .f32⟩
  | 69 => ⟨S8x2048x1, .f32⟩
  | 70 => ⟨S_, .f32⟩
  | 71 => ⟨S8x2048x1, .f32⟩
  | 72 => ⟨S8x2048x1, .f32⟩
  | 73 => ⟨S_, .f32⟩
  | 74 => ⟨S8x2048x1, .f32⟩
  | 75 => ⟨S8x2048x1, .f32⟩
  | 76 => ⟨S8x2048x1, .f32⟩
  | 77 => ⟨S8x2048x2048, .f32⟩
  | 78 => ⟨S8x2048x2048, .f32⟩
  | 79 => ⟨S1x1x2048, .f32⟩
  | 80 => ⟨S8x2048x2048, .f32⟩
  | 81 => ⟨S8x2048x2048, .f32⟩
  | 82 => ⟨S8x1x2048, .f32⟩
  | 83 => ⟨S8x2048, .f32⟩
  | 84 => ⟨S8x1x2048, .f32⟩
  | 85 => ⟨S8x1x2048, .f32⟩
  | 86 => ⟨S8x2048, .f32⟩
  | 87 => ⟨S8x1x2048, .f32⟩
  | 88 => ⟨S_, .f32⟩
  | 89 => ⟨S8x1x2048, .f32⟩
  | 90 => ⟨S8x1x2048, .f32⟩
  | 91 => ⟨S8x2048x2048, .f32⟩
  | 92 => ⟨S8x2048x2048, .f32⟩
  | 93 => ⟨S8x2048x2048, .f32⟩
  | 94 => ⟨S8x2048x2048, .f32⟩
  | 95 => ⟨S8x256x2048, .f32⟩
  | 96 => ⟨S_, .f32⟩
  | 97 => ⟨S8x256, .f32⟩
  | 98 => ⟨S8x256x1, .f32⟩
  | 99 => ⟨S_, .f32⟩
  | 100 => ⟨S8x256x1, .f32⟩
  | 101 => ⟨S8x256x1, .f32⟩
  | 102 => ⟨S_, .f32⟩
  | 103 => ⟨S8x256x1, .f32⟩
  | 104 => ⟨S8x256x1, .f32⟩
  | 105 => ⟨S8x256x1, .f32⟩
  | 106 => ⟨S8x256x2048, .f32⟩
  | 107 => ⟨S8x256x2048, .f32⟩
  | 108 => ⟨S1x1x2048, .f32⟩
  | 109 => ⟨S8x256x2048, .f32⟩
  | 110 => ⟨S8x256x2048, .f32⟩
  | 111 => ⟨S1x1x2048, .f32⟩
  | 112 => ⟨S2048, .f32⟩
  | 113 => ⟨S1x1x2048, .f32⟩
  | 114 => ⟨S2048, .f32⟩
  | 115 => ⟨S_, .f32⟩
  | 116 => ⟨S2048, .f32⟩
  | 117 => ⟨S2048, .f32⟩
  | 118 => ⟨S1x1x2048, .f32⟩
  | 119 => ⟨S8x256x2048, .f32⟩
  | 120 => ⟨S8x256x2048, .f32⟩
  | 121 => ⟨S1x1x2048, .f32⟩
  | 122 => ⟨S8x256x2048, .f32⟩
  | 123 => ⟨S8x256x2048, .f32⟩
  | 124 => ⟨S16384x2048, .f32⟩
  | 125 => ⟨S2048x2048, .f32⟩
  | 126 => ⟨S18432x2048, .f32⟩
  | 127 => ⟨S18432x64, .f32⟩
  | _ => ⟨S18432x512, .bf16⟩

abbrev hbmTy0_1 (i : Nat) : BufTy := match i % 128 with
  | 0 => ⟨S_, .f32⟩
  | 1 => ⟨S18432x64, .f32⟩
  | 2 => ⟨S18432x128, .f32⟩
  | _ => ⟨S18432x512, .bf16⟩

abbrev hbmTy (i : Nat) : BufTy := match i / 128 with
  | 0 => hbmTy0_0 i
  | 1 => hbmTy0_1 i
  | _ => ⟨S18432x512, .bf16⟩

abbrev bufTy : (tb : Table) → Fin (tcTables nBuf tb) → BufTy
  | .hbm, ⟨i, _⟩ => hbmTy i
  | _, _ => ⟨S18432x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_cst_1 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_5 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst_9 : Ref sig .tc := ⟨.hbm, 96, rfl⟩
abbrev main_v77 : Ref sig .tc := ⟨.hbm, 97, rfl⟩
abbrev main_v78 : Ref sig .tc := ⟨.hbm, 98, rfl⟩
abbrev main_cst_10 : Ref sig .tc := ⟨.hbm, 99, rfl⟩
abbrev main_v79 : Ref sig .tc := ⟨.hbm, 100, rfl⟩
abbrev main_v80 : Ref sig .tc := ⟨.hbm, 101, rfl⟩
abbrev main_cst_11 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_cst_12 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_cst_13 : Ref sig .tc := ⟨.hbm, 128, rfl⟩
abbrev main_v105 : Ref sig .tc := ⟨.hbm, 129, rfl⟩
abbrev main_v106 : Ref sig .tc := ⟨.hbm, 130, rfl⟩

abbrev nD : Nat := 1
abbrev τ : Topo := Topo.v7x

variable {F : FTy → Type} [FloatOps F]
-- ==== Proof.AttnMath.lean ====
module
public import Idealize.ShloMosaic.Lib.Pipeline.ValueKit
public import Idealize.ShloMosaic.Lib.Pointwise

@[expose] public section
noncomputable section
open Idealize.ShloMosaic

/-! The arithmetic of one attention row, over the extended reals. -/
namespace Cert.AttnMath

/-- The extended real is a real number. -/
abbrev IsReal (x : EReal) : Prop := ∃ r : ℝ, x = r

/-- A real factor that is not negative distributes over a finite sum of extended reals. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (by exact_mod_cast hr) (EReal.coe_ne_top r)]

/-- The largest of a finite family of reals, started at minus infinity, is a real number unless the family is empty. -/
theorem fold_max_real {ι : Type*} (s : Finset ι) (f : ι → EReal) (h : ∀ i, ∃ r : ℝ, f i = r) :
    (s = ∅ ∧ Finset.fold max ⊥ f s = ⊥) ∨ ∃ r : ℝ, Finset.fold max ⊥ f s = r := by
  classical
  induction s using Finset.induction_on with
  | empty => exact Or.inl ⟨rfl, by simp⟩
  | insert a s ha ih =>
    right
    rw [Finset.fold_insert ha]
    obtain ⟨x, hx⟩ := h a
    rcases ih with ⟨_, h0⟩ | ⟨r, hr⟩
    · exact ⟨x, by rw [h0, hx]; simp⟩
    · exact ⟨max x r, by rw [hr, hx]; exact (EReal.coe_strictMono.monotone.map_max).symm⟩

/-- A finite sum of exponentials of reals is a real number, positive when there is a term. -/
theorem sum_exp_real {ι : Type*} (s : Finset ι) (f : ι → EReal) (h : ∀ i, ∃ r : ℝ, f i = r) :
    ∃ r : ℝ, 0 ≤ r ∧ (s.Nonempty → 0 < r) ∧ ∑ i ∈ s, Ideal.exp (f i) = r := by
  classical
  induction s using Finset.induction_on with
  | empty => exact ⟨0, le_refl _, fun h => absurd h (by simp), by simp⟩
  | insert a s ha ih =>
    obtain ⟨x, hx⟩ := h a
    obtain ⟨r, hr, _, he⟩ := ih
    refine ⟨Real.exp x + r, by positivity, fun _ => by positivity, ?_⟩
    rw [Finset.sum_insert ha, he, hx, Ideal.exp_coe, EReal.coe_add]

/-- The largest over a joined axis is the larger of the two parts' largest. -/
theorem fold_max_join {n m N : ℕ} (hN : N = n + m) (f : Fin N → EReal) (f1 : Fin n → EReal) (f2 : Fin m → EReal)
    (h1 : ∀ j : Fin n, f ⟨j.val, by omega⟩ = f1 j) (h2 : ∀ j : Fin m, f ⟨n + j.val, by omega⟩ = f2 j) :
    Finset.fold max ⊥ f Finset.univ = max (Finset.fold max ⊥ f1 Finset.univ) (Finset.fold max ⊥ f2 Finset.univ) := by
  apply le_antisymm
  · rw [Finset.fold_max_le]
    refine ⟨bot_le, fun j _ => ?_⟩
    by_cases hj : j.val < n
    · refine le_max_of_le_left ?_
      rw [Finset.le_fold_max]
      exact Or.inr ⟨⟨j.val, hj⟩, Finset.mem_univ _, by rw [← h1]⟩
    · refine le_max_of_le_right ?_
      rw [Finset.le_fold_max]
      refine Or.inr ⟨⟨j.val - n, by omega⟩, Finset.mem_univ _, ?_⟩
      rw [← h2]
      exact le_of_eq (congrArg f (Fin.ext (by simp only; omega)))
  · refine max_le ?_ ?_
    · rw [Finset.fold_max_le]
      refine ⟨bot_le, fun j _ => ?_⟩
      rw [← h1, Finset.le_fold_max]
      exact Or.inr ⟨_, Finset.mem_univ _, le_refl _⟩
    · rw [Finset.fold_max_le]
      refine ⟨bot_le, fun j _ => ?_⟩
      rw [← h2, Finset.le_fold_max]
      exact Or.inr ⟨_, Finset.mem_univ _, le_refl _⟩

/-- The sum over a joined axis is the sum of the two parts' sums. -/
theorem sum_join {n m N : ℕ} (hN : N = n + m) (f : Fin N → EReal) (f1 : Fin n → EReal) (f2 : Fin m → EReal)
    (h1 : ∀ j : Fin n, f ⟨j.val, by omega⟩ = f1 j) (h2 : ∀ j : Fin m, f ⟨n + j.val, by omega⟩ = f2 j) :
    ∑ j, f j = ∑ j, f1 j + ∑ j, f2 j := by
  subst hN
  rw [Fin.sum_univ_add]
  exact congrArg₂ (· + ·) (Finset.sum_congr rfl fun j _ => h1 j) (Finset.sum_congr rfl fun j _ => h2 j)

/-- One attention row. Left: the weights and the weighted values added up over two key ranges and divided once at the
    end, against one common largest score. Right: the weights of the joined range divided first, then averaged over the
    values. Every score is a real number, so the divisor is a positive real and the two agree, whatever the values are. -/
theorem row {n m N : ℕ} (hn : 0 < n) (hN : N = n + m) (s v : Fin N → EReal) (s1 v1 : Fin n → EReal) (s2 v2 : Fin m → EReal)
    (hs1 : ∀ j : Fin n, s ⟨j.val, by omega⟩ = s1 j) (hs2 : ∀ j : Fin m, s ⟨n + j.val, by omega⟩ = s2 j)
    (hv1 : ∀ j : Fin n, v ⟨j.val, by omega⟩ = v1 j) (hv2 : ∀ j : Fin m, v ⟨n + j.val, by omega⟩ = v2 j)
    (hr1 : ∀ j, ∃ r : ℝ, s1 j = r) (hr2 : ∀ j, ∃ r : ℝ, s2 j = r) :
    Ideal.div
      (∑ j, Ideal.exp (s1 j - max (Finset.fold max ⊥ s1 Finset.univ) (Finset.fold max ⊥ s2 Finset.univ)) * v1 j
        + ∑ j, Ideal.exp (s2 j - max (Finset.fold max ⊥ s1 Finset.univ) (Finset.fold max ⊥ s2 Finset.univ)) * v2 j)
      (∑ j, Ideal.exp (s1 j - max (Finset.fold max ⊥ s1 Finset.univ) (Finset.fold max ⊥ s2 Finset.univ))
        + ∑ j, Ideal.exp (s2 j - max (Finset.fold max ⊥ s1 Finset.univ) (Finset.fold max ⊥ s2 Finset.univ)))
    = ∑ j, v j * Ideal.div (Ideal.exp (s j - max ⊥ (Finset.fold max ⊥ s Finset.univ)))
        (0 + ∑ i, Ideal.exp (s i - max ⊥ (Finset.fold max ⊥ s Finset.univ))) := by
  have hmax : max ⊥ (Finset.fold max ⊥ s Finset.univ)
      = max (Finset.fold max ⊥ s1 Finset.univ) (Finset.fold max ⊥ s2 Finset.univ) := by
    rw [max_eq_right bot_le]; exact fold_max_join hN s s1 s2 hs1 hs2
  rw [hmax]
  have hM : ∃ M : ℝ, max (Finset.fold max ⊥ s1 Finset.univ) (Finset.fold max ⊥ s2 Finset.univ) = M := by
    have h1 : ∃ a : ℝ, Finset.fold max ⊥ s1 Finset.univ = a := by
      rcases fold_max_real Finset.univ s1 hr1 with ⟨h, _⟩ | h
      · exact absurd h (Finset.univ_nonempty_iff.mpr ⟨⟨0, hn⟩⟩).ne_empty
      · exact h
    obtain ⟨a, ha⟩ := h1
    rcases fold_max_real Finset.univ s2 hr2 with ⟨_, h⟩ | ⟨b, hb⟩
    · exact ⟨a, by rw [ha, h]; simp⟩
    · exact ⟨max a b, by rw [ha, hb]; exact (EReal.coe_strictMono.monotone.map_max).symm⟩
  obtain ⟨M, hM⟩ := hM
  rw [hM]
  have r1 : ∀ j, ∃ r : ℝ, s1 j - (M : EReal) = r := fun j => by
    obtain ⟨r, hr⟩ := hr1 j; exact ⟨r - M, by rw [hr, EReal.coe_sub]⟩
  have r2 : ∀ j, ∃ r : ℝ, s2 j - (M : EReal) = r := fun j => by
    obtain ⟨r, hr⟩ := hr2 j; exact ⟨r - M, by rw [hr, EReal.coe_sub]⟩
  have hsum : ∑ i, Ideal.exp (s i - (M : EReal)) = ∑ j, Ideal.exp (s1 j - (M : EReal)) + ∑ j, Ideal.exp (s2 j - (M : EReal)) :=
    sum_join hN _ _ _ (fun j => by rw [hs1]) (fun j => by rw [hs2])
  rw [zero_add, hsum]
  obtain ⟨d1, _, hd1, e1⟩ := sum_exp_real Finset.univ _ r1
  obtain ⟨d2, hd2, _, e2⟩ := sum_exp_real Finset.univ _ r2
  have hpos : 0 < d1 + d2 := by
    have := hd1 (Finset.univ_nonempty_iff.mpr ⟨⟨0, hn⟩⟩); linarith
  rw [e1, e2, ← EReal.coe_add]
  simp only [Ideal.div_coe hpos.ne']
  have hinv : 0 ≤ 1 / (d1 + d2) := by positivity
  rw [EReal.right_distrib_of_nonneg_of_ne_top (by exact_mod_cast hinv) (EReal.coe_ne_top _), sum_mul_coe _ _ _ hinv,
    sum_mul_coe _ _ _ hinv]
  symm
  refine sum_join hN _ _ _ (fun j => ?_) (fun j => ?_)
  · rw [hs1, hv1, mul_comm (v1 j), mul_assoc, mul_assoc, mul_comm (v1 j)]
  · rw [hs2, hv2, mul_comm (v2 j), mul_assoc, mul_assoc, mul_comm (v2 j)]

/-- One attention row over a single key range: the weighted values added up and divided once at the end are the
    average under the weights divided first. -/
theorem row_one {n : ℕ} (hn : 0 < n) (s v s1 v1 : Fin n → EReal) (hs : ∀ j, s j = s1 j) (hv : ∀ j, v j = v1 j)
    (hr : ∀ j, ∃ r : ℝ, s1 j = r) :
    Ideal.div (∑ j, Ideal.exp (s1 j - Finset.fold max ⊥ s1 Finset.univ) * v1 j)
      (∑ j, Ideal.exp (s1 j - Finset.fold max ⊥ s1 Finset.univ))
    = ∑ j, v j * Ideal.div (Ideal.exp (s j - max ⊥ (Finset.fold max ⊥ s Finset.univ)))
        (0 + ∑ i, Ideal.exp (s i - max ⊥ (Finset.fold max ⊥ s Finset.univ))) := by
  have h := row (m := 0) hn rfl s v s1 v1 (fun j => j.elim0) (fun j => j.elim0) hs (fun j => j.elim0) hv
    (fun j => j.elim0) hr (fun j => j.elim0)
  refine Eq.trans ?_ h
  simp only [Finset.univ_eq_empty, Finset.fold_empty, Finset.sum_empty, add_zero, max_eq_left bot_le]

/-- A finite sum of products of reals is a real. -/
theorem dot_real {n : ℕ} (a b : Fin n → EReal) (ha : ∀ j, ∃ r : ℝ, a j = r) (hb : ∀ j, ∃ r : ℝ, b j = r) :
    ∃ r : ℝ, ∑ j, a j * b j = r := by
  choose x hx using ha
  choose y hy using hb
  refine ⟨∑ j, x j * y j, ?_⟩
  simp only [hx, hy, ← EReal.coe_mul]
  exact (map_sum (⟨⟨fun r : ℝ => (r : EReal), EReal.coe_zero⟩, EReal.coe_add⟩ : ℝ →+ EReal) (fun j => x j * y j) Finset.univ).symm

/-- An extended real whose absolute value is below plus infinity is a real number. -/
theorem real_of_abs_lt {x : EReal} (h : max x (-x) < ⊤) : ∃ r : ℝ, x = r := by
  induction x with
  | bot => simp at h
  | coe r => exact ⟨r, rfl⟩
  | top => simp at h

/-- A finite bound that holds as a mask bit makes the value a real number. -/
theorem real_of_mask {x : EReal} (h : Ideal.cmp .olt (max x (-x)) (Ideal.ofBits .f32 0x7F800000#32) = 1#1) : IsReal x := by
  apply real_of_abs_lt
  rw [show Ideal.ofBits .f32 0x7F800000#32 = ⊤ by simp [Ideal.ofBits, Ideal.ieee]] at h
  by_contra hn
  simp [Ideal.cmp, hn] at h

/-- The word of minus infinity in f32 reads as minus infinity. -/
theorem ofBits_neg_inf : Ideal.ofBits .f32 4286578688#32 = ⊥ := by simp [Ideal.ofBits, Ideal.ieee]

/-- The word of plus infinity in f32 reads as plus infinity. -/
theorem ofBits_inf : Ideal.ofBits .f32 0x7F800000#32 = ⊤ := by simp [Ideal.ofBits, Ideal.ieee]

/-- A largest-element reduction of the last of five axes, read at an index. -/
theorem reduce_last {n0 n1 n2 n3 n4 : ℕ} {u : Shape} (y : (⟨5, ![n0, n1, n2, n3, n4]⟩ : Shape).Idx → EReal) (init : u.Idx → EReal)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce (max : EReal → EReal → EReal) y init h hu (ix4 a b c d)
      = Finset.fold max (init (Shape.Idx.first hu)) (fun j : Fin n4 => y (ix5 a b c d j)) Finset.univ := by
  rw [Host.reduce_eq_fold]
  exact h.fold_fiber_r5_a4 (ix4 a b c d) max _ y

end Cert.AttnMath
end
-- ==== Proof.MlaRead.lean ====
module
public import proofs.«01_k».proof.Proof.Gen.MlaRefIdeal.Read
public import proofs.«01_k».proof.Proof.AttnMath
public import Idealize.ShloMosaic.Lib.Pointwise

@[expose] public section
set_option maxRecDepth 16384
noncomputable section
open Idealize.ShloMosaic Idealize.ShloMosaic.TcCoe Idealize.SL.Sem
namespace Cert.MlaRead
open Cert.MlaRefIdeal Cert.MlaRefIdeal.Gen Cert.MlaRefIdeal.Read

abbrev A0 := (⟨S18432x1536, .bf16⟩ : BufTy).Contents (Elt Ideal)
abbrev A2 := (⟨S18432x768, .bf16⟩ : BufTy).Contents (Elt Ideal)

/-- The query of a row, head and column, in the arguments. -/
theorem q_read (q : A0) (b : Fin 8) (r : Fin 2048) (h : Fin 6) (x : Fin 256) :
    val_main_v15 q (ix5 b r h 0 x) = q (ix2 ⟨b.val * 2048 + r.val, by omega⟩ ⟨h.val * 256 + x.val, by omega⟩) := by
  pointwise [val_main_v15, val_main_v2, val_main_v1, val_main_v0]

/-- A context key. -/
theorem k_ctx (k : A0) (b : Fin 8) (j : Fin 256) (h : Fin 6) (x : Fin 256) :
    val_main_v8 k (ix4 b ⟨j.val, by omega⟩ h x)
      = k (ix2 ⟨16384 + (b.val * 256 + j.val), by omega⟩ ⟨h.val * 256 + x.val, by omega⟩) := by
  pointwise [val_main_v8, val_main_v7, val_main_v6, val_main_v5, val_main_v4, val_main_v3]

/-- A latent key. -/
theorem k_lat (k : A0) (b : Fin 8) (j : Fin 2048) (h : Fin 6) (x : Fin 256) :
    val_main_v8 k (ix4 b ⟨256 + j.val, by omega⟩ h x)
      = k (ix2 ⟨b.val * 2048 + j.val, by omega⟩ ⟨h.val * 256 + x.val, by omega⟩) := by
  pointwise [val_main_v8, val_main_v7, val_main_v6, val_main_v5, val_main_v4, val_main_v3]

/-- A context value. -/
theorem v_ctx (v : A2) (b : Fin 8) (j : Fin 256) (h : Fin 6) (x : Fin 128) :
    val_main_v14 v (ix4 b ⟨j.val, by omega⟩ h x)
      = v (ix2 ⟨16384 + (b.val * 256 + j.val), by omega⟩ ⟨h.val * 128 + x.val, by omega⟩) := by
  pointwise [val_main_v14, val_main_v13, val_main_v12, val_main_v11, val_main_v10, val_main_v9]

/-- A latent value. -/
theorem v_lat (v : A2) (b : Fin 8) (j : Fin 2048) (h : Fin 6) (x : Fin 128) :
    val_main_v14 v (ix4 b ⟨256 + j.val, by omega⟩ h x)
      = v (ix2 ⟨b.val * 2048 + j.val, by omega⟩ ⟨h.val * 128 + x.val, by omega⟩) := by
  pointwise [val_main_v14, val_main_v13, val_main_v12, val_main_v11, val_main_v10, val_main_v9]

/-- A score: the dot product of a query and a key. -/
theorem s_read (q k : A0) (b : Fin 8) (r : Fin 2048) (h : Fin 6) (j : Fin 2304) :
    val_main_v17 q k (ix5 b h 0 r j) = ∑ x : Fin 256, val_main_v8 k (ix4 b j h x) * val_main_v15 q (ix5 b r h 0 x) := by
  pointwise [val_main_v17, val_main_v16]

/-- The largest score of a row, folded from minus infinity. -/
theorem m18_read (q k : A0) (b : Fin 8) (r : Fin 2048) (h : Fin 6)  :
    val_main_v18 q k (ix4 b h 0 r) = Finset.fold max ⊥ (fun j : Fin 2304 => val_main_v17 q k (ix5 b h 0 r j)) Finset.univ := by
  unfold val_main_v18
  generalize val_main_v17 q k = y
  rw [← AttnMath.ofBits_neg_inf]
  exact AttnMath.reduce_last y _ _ _ b h 0 r

/-- The largest score of a row. -/
theorem m_read (q k : A0) (b : Fin 8) (r : Fin 2048) (h : Fin 6)  :
    val_main_v20 q k (ix4 b h 0 r) = max ⊥ (val_main_v18 q k (ix4 b h 0 r)) := by
  rw [val_main_v20_apply, val_main_v19_apply, val_main_cst_0_apply]
  exact congrArg (fun z : EReal => max z (val_main_v18 q k (ix4 b h 0 r))) AttnMath.ofBits_neg_inf

/-- The exponential of a score less the largest. -/
theorem p_read (q k : A0) (b : Fin 8) (r : Fin 2048) (h : Fin 6) (j : Fin 2304) :
    val_main_v24 q k (ix5 b h 0 r j) = Ideal.exp (val_main_v17 q k (ix5 b h 0 r j) - val_main_v20 q k (ix4 b h 0 r)) := by
  pointwise [val_main_v24, val_main_v23, val_main_v22, val_main_v21]

/-- The sum of a row's exponentials. -/
theorem d_read (q k : A0) (b : Fin 8) (r : Fin 2048) (h : Fin 6) :
    val_main_v25 q k (ix4 b h 0 r) = ∑ j, val_main_v24 q k (ix5 b h 0 r j) := by
  pointwise [val_main_v25, val_main_cst_1]

/-- The result: the values weighted by the exponentials over their sum. -/
theorem o_read (q k : A0) (v : A2) (b : Fin 8) (r : Fin 2048) (h : Fin 6) (x : Fin 128) :
    val_main_v33 q k v (ix2 ⟨b.val * 2048 + r.val, by omega⟩ ⟨h.val * 128 + x.val, by omega⟩)
      = ∑ j, val_main_v14 v (ix4 b j h x) * Ideal.div (val_main_v24 q k (ix5 b h 0 r j)) (val_main_v25 q k (ix4 b h 0 r)) := by
  pointwise [val_main_v33, val_main_v32, val_main_v31, val_main_v30, val_main_v29, val_main_v28, val_main_v27, val_main_v26]

/-- The reference at one query row and one value column is one attention row. -/
theorem ref_row (q k : A0) (v : A2) (b : Fin 8) (r : Fin 2048) (h : Fin 6) (x : Fin 128) :
    val_main_v33 q k v (ix2 ⟨b.val * 2048 + r.val, by omega⟩ ⟨h.val * 128 + x.val, by omega⟩)
      = ∑ j, val_main_v14 v (ix4 b j h x) * Ideal.div
          (Ideal.exp (val_main_v17 q k (ix5 b h 0 r j) - max ⊥ (Finset.fold max ⊥ (fun j : Fin 2304 => val_main_v17 q k (ix5 b h 0 r j)) Finset.univ)))
          (0 + ∑ i, Ideal.exp (val_main_v17 q k (ix5 b h 0 r i) - max ⊥ (Finset.fold max ⊥ (fun j : Fin 2304 => val_main_v17 q k (ix5 b h 0 r j)) Finset.univ))) := by
  rw [o_read]
  simp only [p_read, d_read, m_read, m18_read, zero_add]

end Cert.MlaRead
end
-- ==== Proof.MlaValue.lean ====
module
public import proofs.«01_k».proof.Proof.Gen.MlaIdeal.Frame
public import proofs.«01_k».proof.Proof.MlaRead
public import proofs.«01_k».proof.Pre_finite_scores
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.MlaIdeal.Value
open Cert.MlaIdeal Cert.MlaIdeal.Gen
variable (m : (ℓ : Loc nD τ sig) → Buf (Elt Ideal) ℓ)

/-- The windows' block indices at every grid point: the batch, the head and the query tile are the digits of the point. -/
theorem idx : ∀ t : Fin cfg0.N, win0_0.index t = ![t.val / 24 * 4 + t.val % 4, t.val % 24 / 4]
    ∧ win0_1.index t = ![64 + t.val / 24, t.val % 24 / 4] ∧ win0_2.index t = ![t.val / 24, t.val % 24 / 4]
    ∧ win0_3.index t = ![64 + t.val / 24, t.val % 24 / 4] ∧ win0_4.index t = ![t.val / 24, t.val % 24 / 4]
    ∧ win0_5.index t = ![t.val / 24 * 4 + t.val % 4, t.val % 24 / 4] :=
  (by decide +kernel : ∀ t : Fin grid0.N, _)

/-- What the body computes at one row and one column: one attention row over the two key ranges it loads. -/
theorem pay_row (q : FVec Ideal S512x256 .bf16) (k1 : FVec Ideal S256x256 .bf16) (k2 : FVec Ideal S2048x256 .bf16)
    (v1 : FVec Ideal S256x128 .bf16) (v2 : FVec Ideal S2048x128 .bf16) (r : Fin 512) (d : Fin 128)
    (s1 w1 : Fin 256 → EReal) (s2 w2 : Fin 2048 → EReal)
    (h1 : (fun j => ∑ x : Fin 256, (q (ix2 r x) : EReal) * k1 (ix2 j x)) = s1) (h2 : (fun j => ∑ x : Fin 256, (q (ix2 r x) : EReal) * k2 (ix2 j x)) = s2)
    (h3 : (fun j => (v1 (ix2 j d) : EReal)) = w1) (h4 : (fun j => (v2 (ix2 j d) : EReal)) = w2) :
    k0_pay1 (F := Ideal) q k1 k2 v1 v2 (ix2 r d) = Ideal.div
      (∑ j, Ideal.exp (s1 j - max (Finset.fold max ⊥ s1 Finset.univ) (Finset.fold max ⊥ s2 Finset.univ)) * w1 j
        + ∑ j, Ideal.exp (s2 j - max (Finset.fold max ⊥ s1 Finset.univ) (Finset.fold max ⊥ s2 Finset.univ)) * w2 j)
      (∑ j, Ideal.exp (s1 j - max (Finset.fold max ⊥ s1 Finset.univ) (Finset.fold max ⊥ s2 Finset.univ))
        + ∑ j, Ideal.exp (s2 j - max (Finset.fold max ⊥ s1 Finset.univ) (Finset.fold max ⊥ s2 Finset.univ))) := by
  subst h1 h2 h3 h4
  rw [← AttnMath.ofBits_neg_inf]
  pointwise [k0_pay1]

/-- The query block at a grid point. -/
theorem read0 (c : Dev nD) (t : Fin cfg0.N) (a : Fin 512) (x : Fin 256) :
    iblk m c 0 t (ix2 a x) = m ((c : Thread nD τ).loc main_arg0)
      (ix2 ⟨t.val / 24 * 2048 + (t.val % 4 * 512 + a.val), by have : t.val < 192 := t.isLt; omega⟩ ⟨t.val % 24 / 4 * 256 + x.val, by omega⟩) := by
  blk_ext [iblk, V, idx t]
/-- The context keys at a grid point. -/
theorem read1 (c : Dev nD) (t : Fin cfg0.N) (a : Fin 256) (x : Fin 256) :
    iblk m c 1 t (ix2 a x) = m ((c : Thread nD τ).loc main_arg1)
      (ix2 ⟨16384 + (t.val / 24 * 256 + a.val), by have : t.val < 192 := t.isLt; omega⟩ ⟨t.val % 24 / 4 * 256 + x.val, by omega⟩) := by
  blk_ext [iblk, V, idx t]
/-- The latent keys at a grid point. -/
theorem read2 (c : Dev nD) (t : Fin cfg0.N) (a : Fin 2048) (x : Fin 256) :
    iblk m c 2 t (ix2 a x) = m ((c : Thread nD τ).loc main_arg1)
      (ix2 ⟨t.val / 24 * 2048 + a.val, by have : t.val < 192 := t.isLt; omega⟩ ⟨t.val % 24 / 4 * 256 + x.val, by omega⟩) := by
  blk_ext [iblk, V, idx t]
/-- The context values at a grid point. -/
theorem read3 (c : Dev nD) (t : Fin cfg0.N) (a : Fin 256) (x : Fin 128) :
    iblk m c 3 t (ix2 a x) = m ((c : Thread nD τ).loc main_arg2)
      (ix2 ⟨16384 + (t.val / 24 * 256 + a.val), by have : t.val < 192 := t.isLt; omega⟩ ⟨t.val % 24 / 4 * 128 + x.val, by omega⟩) := by
  blk_ext [iblk, V, idx t]
/-- The latent values at a grid point. -/
theorem read4 (c : Dev nD) (t : Fin cfg0.N) (a : Fin 2048) (x : Fin 128) :
    iblk m c 4 t (ix2 a x) = m ((c : Thread nD τ).loc main_arg2)
      (ix2 ⟨t.val / 24 * 2048 + a.val, by have : t.val < 192 := t.isLt; omega⟩ ⟨t.val % 24 / 4 * 128 + x.val, by omega⟩) := by
  blk_ext [iblk, V, idx t]

/-- Every query and every key the precondition speaks of is a real number. -/
theorem real_of_pre [Cert.Pre_finite_scores.Facts] (q k : FVec Ideal S18432x1536 .bf16) (v : FVec Ideal S18432x768 .bf16)
    (h : (Cert.Pre_finite_scores.fn (F := Ideal) q k v).1 = (fun _ => 1#1) ∧ (Cert.Pre_finite_scores.fn (F := Ideal) q k v).2 = (fun _ => 1#1)) :
    (∀ i, AttnMath.IsReal (q i)) ∧ (∀ i, AttnMath.IsReal (k i)) := by
  refine ⟨fun i => AttnMath.real_of_mask ?_, fun i => AttnMath.real_of_mask ?_⟩
  · exact congrFun h.1 i
  · exact congrFun h.2 i

/-- What a grid point stores at a block index is the reference at the array index it sits at. -/
theorem point (c : Dev nD) (hq : ∀ i, AttnMath.IsReal (m ((c : Thread nD τ).loc main_arg0) i))
    (hk : ∀ i, AttnMath.IsReal (m ((c : Thread nD τ).loc main_arg1) i)) (t : Fin cfg0.N) (a : Fin 512) (x : Fin 128) :
    k0_pay1 (iblk m c 0 t) (iblk m c 1 t) (iblk m c 2 t) (iblk m c 3 t) (iblk m c 4 t) (ix2 a x)
      = Cert.MlaRefIdeal.Read.val_main_v33 (F := Ideal) (m ((c : Thread nD τ).loc main_arg0)) (m ((c : Thread nD τ).loc main_arg1))
          (m ((c : Thread nD τ).loc main_arg2))
          (ix2 ⟨t.val / 24 * 2048 + (t.val % 4 * 512 + a.val), by have : t.val < 192 := t.isLt; omega⟩ ⟨t.val % 24 / 4 * 128 + x.val, by omega⟩) := by
  have ht : t.val < 192 := t.isLt
  refine (pay_row _ _ _ _ _ a x _ _ _ _ rfl rfl rfl rfl).trans ?_
  refine Eq.trans ?_ (Cert.MlaRead.ref_row _ _ _ ⟨t.val / 24, by omega⟩ ⟨t.val % 4 * 512 + a.val, by omega⟩ ⟨t.val % 24 / 4, by omega⟩ x).symm
  refine AttnMath.row (by decide) (by decide) _ _ _ _ _ _ (fun j => ?_) (fun j => ?_) (fun j => ?_) (fun j => ?_) (fun j => ?_) (fun j => ?_)
  · refine (Cert.MlaRead.s_read _ _ _ _ _ _).trans (Finset.sum_congr rfl fun z _ => ?_)
    rw [Cert.MlaRead.k_ctx, Cert.MlaRead.q_read, read0, read1, mul_comm]
  · refine (Cert.MlaRead.s_read _ _ _ _ _ _).trans (Finset.sum_congr rfl fun z _ => ?_)
    rw [Cert.MlaRead.k_lat, Cert.MlaRead.q_read, read0, read2, mul_comm]
  · rw [Cert.MlaRead.v_ctx, read3]
  · rw [Cert.MlaRead.v_lat, read4]
  · exact AttnMath.dot_real _ _ (fun z => by rw [read0]; exact hq _) (fun z => by rw [read1]; exact hk _)
  · exact AttnMath.dot_real _ _ (fun z => by rw [read0]; exact hq _) (fun z => by rw [read2]; exact hk _)

/-- The result array after the run is the reference of the argument arrays. -/
theorem final (c : Dev nD) (hq : ∀ i, AttnMath.IsReal (m ((c : Thread nD τ).loc main_arg0) i))
    (hk : ∀ i, AttnMath.IsReal (m ((c : Thread nD τ).loc main_arg1) i)) : (dats m 0 c).arrAt 5 (cfgs 0).N
    = Cert.MlaRefIdeal.Read.val_main_v33 (F := Ideal) (m ((c : Thread nD τ).loc main_arg0)) (m ((c : Thread nD τ).loc main_arg1))
          (m ((c : Thread nD τ).loc main_arg2)) := by
  refine (dats m 0 c).arrAt_eq_of_covers 5 _ (by decide +kernel) fun t _ y => ?_
  blk_simp
  rw [after0_5]; frame_out
  idx_vars y
  refine (point m c hq hk t _ _).trans ?_
  blk_ext [idx t]

end Cert.MlaIdeal.Value
end
-- ==== Proof.MlaClaim.lean ====
/- What is claimed of `Mla`, put together: the frames of the program, of its reading over the extended reals and of
   the reference, and that the two readings end with equal results. -/
module

public import proofs.«01_k».proof.Defs
public import proofs.«01_k».proof.Proof.Gen.Mla.Frame
public import proofs.«01_k».proof.Proof.Gen.MlaIdeal.Frame
public import proofs.«01_k».proof.Proof.Gen.MlaIdeal.Value
public import proofs.«01_k».proof.Proof.Gen.MlaRefIdeal.Run
public import proofs.«01_k».proof.Proof.Gen.MlaRefIdeal.Read
public import proofs.«01_k».proof.Proof.MlaValue
public import proofs.«01_k».proof.Proof.Gen.Pre_finite_scores
public import Idealize.ShloMosaic.Lib.Quiescent

@[expose] public section

noncomputable section

namespace Cert.Proof.Mla

open Idealize.ShloMosaic Idealize.SL.Sem

/-- The reference ends with its arguments unchanged and, declaring no semaphore, with every counter at zero. -/
theorem ref_frame (m : (ℓ : Loc Cert.MlaRefIdeal.nD Cert.MlaRefIdeal.τ Cert.MlaRefIdeal.sig) → Buf (Elt Ideal) ℓ) (g : Dev Cert.MlaRefIdeal.nD → PrngReg) :
    θ_run (Cert.MlaRefIdeal.defs (F := Ideal)) (onTc (τ := Cert.MlaRefIdeal.τ) (Cert.MlaRefIdeal.main (F := Ideal))) ⟨m, fun _ => 0, g⟩ (fun r =>
      (∀ c : Dev Cert.MlaRefIdeal.nD, r.2.mem ((c.tc : Thread Cert.MlaRefIdeal.nD Cert.MlaRefIdeal.τ).loc Cert.MlaRefIdeal.main_arg0) = m ((c.tc : Thread Cert.MlaRefIdeal.nD Cert.MlaRefIdeal.τ).loc Cert.MlaRefIdeal.main_arg0)
        ∧ r.2.mem ((c.tc : Thread Cert.MlaRefIdeal.nD Cert.MlaRefIdeal.τ).loc Cert.MlaRefIdeal.main_arg1) = m ((c.tc : Thread Cert.MlaRefIdeal.nD Cert.MlaRefIdeal.τ).loc Cert.MlaRefIdeal.main_arg1)
        ∧ r.2.mem ((c.tc : Thread Cert.MlaRefIdeal.nD Cert.MlaRefIdeal.τ).loc Cert.MlaRefIdeal.main_arg2) = m ((c.tc : Thread Cert.MlaRefIdeal.nD Cert.MlaRefIdeal.τ).loc Cert.MlaRefIdeal.main_arg2))
      ∧ r.2.sem = fun _ => 0) :=
  (θ_run (Cert.MlaRefIdeal.defs (F := Ideal)) _ _).mono
    (fun r h => ⟨fun c => (h c).2, sem_eq_zero_of_no_sems (by decide) r.2⟩) (Cert.MlaRefIdeal.Value.run m g)

/-- The two readings end with equal results and unchanged arguments. -/
theorem algebraic [Cert.MlaIdeal.Facts] [Cert.MlaRefIdeal.Facts] [Cert.Pre_finite_scores.Facts] : Cert.algebraic_MlaIdeal_MlaRefIdeal_pre_finite_scores := by
  intro m g m' g' hpre hagree
  refine ⟨fun c => Cert.MlaRefIdeal.Read.val_main_v33 (F := Ideal) (m ((c.tc : Thread Cert.MlaIdeal.nD Cert.MlaIdeal.τ).loc Cert.MlaIdeal.main_arg0)) (m ((c.tc : Thread Cert.MlaIdeal.nD Cert.MlaIdeal.τ).loc Cert.MlaIdeal.main_arg1)) (m ((c.tc : Thread Cert.MlaIdeal.nD Cert.MlaIdeal.τ).loc Cert.MlaIdeal.main_arg2)), ?_, ?_⟩
  · refine (θ_run (Cert.MlaIdeal.defs (F := Ideal)) _ _).mono (fun r h c => ?_) (Cert.MlaIdeal.Value.run_blocks m g)
    have hr := Cert.MlaIdeal.Value.real_of_pre _ _ _ (hpre c)
    exact ⟨(h c).1.trans (Cert.MlaIdeal.Value.final m c hr.1 hr.2), (h c).2⟩
  · exact (θ_run (Cert.MlaRefIdeal.defs (F := Ideal)) _ _).mono
      (fun r h c => ⟨(h c).1.trans ((Cert.MlaRefIdeal.Read.val_main_v33_eq m' c).trans (by rw [(hagree c).1, (hagree c).2.1, (hagree c).2.2])), (h c).2⟩)
      (Cert.MlaRefIdeal.Value.run m' g')

end Cert.Proof.Mla

end
-- ==== Proof.GqaRead.lean ====
module
public import proofs.«01_k».proof.Proof.Gen.GqaRefIdeal.Read
public import proofs.«01_k».proof.Proof.AttnMath
public import Idealize.ShloMosaic.Lib.Pointwise

@[expose] public section
set_option maxRecDepth 16384
noncomputable section
open Idealize.ShloMosaic Idealize.ShloMosaic.TcCoe Idealize.SL.Sem
namespace Cert.GqaRead
open Cert.GqaRefIdeal Cert.GqaRefIdeal.Gen Cert.GqaRefIdeal.Read

abbrev A0 := (⟨S18432x768, .bf16⟩ : BufTy).Contents (Elt Ideal)
abbrev A1 := (⟨S18432x256, .bf16⟩ : BufTy).Contents (Elt Ideal)
abbrev A2 := (⟨S18432x3968, .bf16⟩ : BufTy).Contents (Elt Ideal)

/-- The query of a row, head and column, in the arguments. -/
theorem q_read (q : A0) (b : Fin 8) (r : Fin 2048) (h : Fin 2) (e : Fin 3) (x : Fin 128) :
    val_main_v16 q (ix5 b r h e x) = q (ix2 ⟨b.val * 2048 + r.val, by omega⟩ ⟨(h.val * 3 + e.val) * 128 + x.val, by omega⟩) := by
  pointwise [val_main_v16, val_main_v2, val_main_v1, val_main_v0]

/-- A context key. -/
theorem k_ctx (k : A1) (b : Fin 8) (j : Fin 256) (h : Fin 2) (x : Fin 128) :
    val_main_v9 k (ix4 b ⟨j.val, by omega⟩ h x)
      = k (ix2 ⟨16384 + (b.val * 256 + j.val), by omega⟩ ⟨h.val * 128 + x.val, by omega⟩) := by
  pointwise [val_main_v9, val_main_v8, val_main_v7, val_main_v6, val_main_v5, val_main_v4]

/-- A latent key. -/
theorem k_lat (k : A1) (b : Fin 8) (j : Fin 2048) (h : Fin 2) (x : Fin 128) :
    val_main_v9 k (ix4 b ⟨256 + j.val, by omega⟩ h x)
      = k (ix2 ⟨b.val * 2048 + j.val, by omega⟩ ⟨h.val * 128 + x.val, by omega⟩) := by
  pointwise [val_main_v9, val_main_v8, val_main_v7, val_main_v6, val_main_v5, val_main_v4]

/-- A context value. -/
theorem v_ctx (v : A2) (b : Fin 8) (j : Fin 256) (h : Fin 2) (x : Fin 128) :
    val_main_v15 v (ix4 b ⟨j.val, by omega⟩ h x)
      = v (ix2 ⟨16384 + (b.val * 256 + j.val), by omega⟩ ⟨3584 + (h.val * 128 + x.val), by omega⟩) := by
  pointwise [val_main_v15, val_main_v14, val_main_v13, val_main_v12, val_main_v11, val_main_v10, val_main_v3]

/-- A latent value. -/
theorem v_lat (v : A2) (b : Fin 8) (j : Fin 2048) (h : Fin 2) (x : Fin 128) :
    val_main_v15 v (ix4 b ⟨256 + j.val, by omega⟩ h x)
      = v (ix2 ⟨b.val * 2048 + j.val, by omega⟩ ⟨3584 + (h.val * 128 + x.val), by omega⟩) := by
  pointwise [val_main_v15, val_main_v14, val_main_v13, val_main_v12, val_main_v11, val_main_v10, val_main_v3]

/-- A score: the dot product of a query and a key. -/
theorem s_read (q : A0) (k : A1) (b : Fin 8) (r : Fin 2048) (h : Fin 2) (e : Fin 3) (j : Fin 2304) :
    val_main_v18 q k (ix5 b h e r j) = ∑ x : Fin 128, val_main_v9 k (ix4 b j h x) * val_main_v16 q (ix5 b r h e x) := by
  pointwise [val_main_v18, val_main_v17]

/-- The largest score of a row, folded from minus infinity. -/
theorem mx_read (q : A0) (k : A1) (b : Fin 8) (r : Fin 2048) (h : Fin 2) (e : Fin 3)  :
    val_main_v19 q k (ix4 b h e r) = Finset.fold max ⊥ (fun j : Fin 2304 => val_main_v18 q k (ix5 b h e r j)) Finset.univ := by
  unfold val_main_v19
  generalize val_main_v18 q k = y
  rw [← AttnMath.ofBits_neg_inf]
  exact AttnMath.reduce_last y _ _ _ b h e r

/-- The largest score of a row. -/
theorem m_read (q : A0) (k : A1) (b : Fin 8) (r : Fin 2048) (h : Fin 2) (e : Fin 3)  :
    val_main_v21 q k (ix4 b h e r) = max ⊥ (val_main_v19 q k (ix4 b h e r)) := by
  rw [val_main_v21_apply, val_main_v20_apply, val_main_cst_0_apply]
  exact congrArg (fun z : EReal => max z (val_main_v19 q k (ix4 b h e r))) AttnMath.ofBits_neg_inf

/-- The exponential of a score less the largest. -/
theorem p_read (q : A0) (k : A1) (b : Fin 8) (r : Fin 2048) (h : Fin 2) (e : Fin 3) (j : Fin 2304) :
    val_main_v25 q k (ix5 b h e r j) = Ideal.exp (val_main_v18 q k (ix5 b h e r j) - val_main_v21 q k (ix4 b h e r)) := by
  pointwise [val_main_v25, val_main_v24, val_main_v23, val_main_v22]

/-- The sum of a row's exponentials. -/
theorem d_read (q : A0) (k : A1) (b : Fin 8) (r : Fin 2048) (h : Fin 2) (e : Fin 3) :
    val_main_v26 q k (ix4 b h e r) = ∑ j, val_main_v25 q k (ix5 b h e r j) := by
  pointwise [val_main_v26, val_main_cst_1]

/-- The result: the values weighted by the exponentials over their sum. -/
theorem o_read (q : A0) (k : A1) (v : A2) (b : Fin 8) (r : Fin 2048) (h : Fin 2) (e : Fin 3) (x : Fin 128) :
    val_main_v34 q k v (ix2 ⟨b.val * 2048 + r.val, by omega⟩ ⟨(h.val * 3 + e.val) * 128 + x.val, by omega⟩)
      = ∑ j, val_main_v15 v (ix4 b j h x) * Ideal.div (val_main_v25 q k (ix5 b h e r j)) (val_main_v26 q k (ix4 b h e r)) := by
  pointwise [val_main_v34, val_main_v33, val_main_v32, val_main_v31, val_main_v30, val_main_v29, val_main_v28, val_main_v27]

/-- The reference at one query row and one value column is one attention row. -/
theorem ref_row (q : A0) (k : A1) (v : A2) (b : Fin 8) (r : Fin 2048) (h : Fin 2) (e : Fin 3) (x : Fin 128) :
    val_main_v34 q k v (ix2 ⟨b.val * 2048 + r.val, by omega⟩ ⟨(h.val * 3 + e.val) * 128 + x.val, by omega⟩)
      = ∑ j, val_main_v15 v (ix4 b j h x) * Ideal.div
          (Ideal.exp (val_main_v18 q k (ix5 b h e r j) - max ⊥ (Finset.fold max ⊥ (fun j : Fin 2304 => val_main_v18 q k (ix5 b h e r j)) Finset.univ)))
          (0 + ∑ i, Ideal.exp (val_main_v18 q k (ix5 b h e r i) - max ⊥ (Finset.fold max ⊥ (fun j : Fin 2304 => val_main_v18 q k (ix5 b h e r j)) Finset.univ))) := by
  rw [o_read]
  simp only [p_read, d_read, m_read, mx_read, zero_add]

end Cert.GqaRead
end
-- ==== Proof.GqaValue.lean ====
module
public import proofs.«01_k».proof.Proof.Gen.GqaIdeal.Frame
public import proofs.«01_k».proof.Proof.GqaRead
public import proofs.«01_k».proof.Pre_finite_gqa
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.GqaIdeal.Value
open Cert.GqaIdeal Cert.GqaIdeal.Gen
variable (m : (ℓ : Loc nD τ sig) → Buf (Elt Ideal) ℓ)

/-- The windows' block indices at every grid point: the batch, the head and the query tile are the digits of the point. -/
theorem idx : ∀ t : Fin cfg0.N, win0_0.index t = ![t.val / 24 * 4 + t.val % 4, t.val % 24 / 4]
    ∧ win0_1.index t = ![64 + t.val / 24, t.val % 24 / 12] ∧ win0_2.index t = ![t.val / 24, t.val % 24 / 12]
    ∧ win0_3.index t = ![64 + t.val / 24, 28 + t.val % 24 / 12] ∧ win0_4.index t = ![t.val / 24, 28 + t.val % 24 / 12]
    ∧ win0_5.index t = ![t.val / 24 * 4 + t.val % 4, t.val % 24 / 4] :=
  (by decide +kernel : ∀ t : Fin grid0.N, _)

/-- What the body computes at one row and one column: one attention row over the two key ranges it loads. -/
theorem pay_row (q : FVec Ideal S512x128 .bf16) (k1 : FVec Ideal S256x128 .bf16) (k2 : FVec Ideal S2048x128 .bf16)
    (v1 : FVec Ideal S256x128 .bf16) (v2 : FVec Ideal S2048x128 .bf16) (r : Fin 512) (d : Fin 128)
    (s1 w1 : Fin 256 → EReal) (s2 w2 : Fin 2048 → EReal)
    (h1 : (fun j => ∑ x : Fin 128, (q (ix2 r x) : EReal) * k1 (ix2 j x)) = s1) (h2 : (fun j => ∑ x : Fin 128, (q (ix2 r x) : EReal) * k2 (ix2 j x)) = s2)
    (h3 : (fun j => (v1 (ix2 j d) : EReal)) = w1) (h4 : (fun j => (v2 (ix2 j d) : EReal)) = w2) :
    k0_pay1 (F := Ideal) q k1 k2 v1 v2 (ix2 r d) = Ideal.div
      (∑ j, Ideal.exp (s1 j - max (Finset.fold max ⊥ s1 Finset.univ) (Finset.fold max ⊥ s2 Finset.univ)) * w1 j
        + ∑ j, Ideal.exp (s2 j - max (Finset.fold max ⊥ s1 Finset.univ) (Finset.fold max ⊥ s2 Finset.univ)) * w2 j)
      (∑ j, Ideal.exp (s1 j - max (Finset.fold max ⊥ s1 Finset.univ) (Finset.fold max ⊥ s2 Finset.univ))
        + ∑ j, Ideal.exp (s2 j - max (Finset.fold max ⊥ s1 Finset.univ) (Finset.fold max ⊥ s2 Finset.univ))) := by
  subst h1 h2 h3 h4
  rw [← AttnMath.ofBits_neg_inf]
  pointwise [k0_pay1]

/-- The query block at a grid point. -/
theorem read0 (c : Dev nD) (t : Fin cfg0.N) (a : Fin 512) (x : Fin 128) :
    iblk m c 0 t (ix2 a x) = m ((c : Thread nD τ).loc main_arg0)
      (ix2 ⟨t.val / 24 * 2048 + (t.val % 4 * 512 + a.val), by have : t.val < 192 := t.isLt; omega⟩ ⟨t.val % 24 / 4 * 128 + x.val, by omega⟩) := by
  blk_ext [iblk, V, idx t]
/-- The context keys at a grid point. -/
theorem read1 (c : Dev nD) (t : Fin cfg0.N) (a : Fin 256) (x : Fin 128) :
    iblk m c 1 t (ix2 a x) = m ((c : Thread nD τ).loc main_arg1)
      (ix2 ⟨16384 + (t.val / 24 * 256 + a.val), by have : t.val < 192 := t.isLt; omega⟩ ⟨t.val % 24 / 12 * 128 + x.val, by omega⟩) := by
  blk_ext [iblk, V, idx t]
/-- The latent keys at a grid point. -/
theorem read2 (c : Dev nD) (t : Fin cfg0.N) (a : Fin 2048) (x : Fin 128) :
    iblk m c 2 t (ix2 a x) = m ((c : Thread nD τ).loc main_arg1)
      (ix2 ⟨t.val / 24 * 2048 + a.val, by have : t.val < 192 := t.isLt; omega⟩ ⟨t.val % 24 / 12 * 128 + x.val, by omega⟩) := by
  blk_ext [iblk, V, idx t]
/-- The context values at a grid point. -/
theorem read3 (c : Dev nD) (t : Fin cfg0.N) (a : Fin 256) (x : Fin 128) :
    iblk m c 3 t (ix2 a x) = m ((c : Thread nD τ).loc main_arg2)
      (ix2 ⟨16384 + (t.val / 24 * 256 + a.val), by have : t.val < 192 := t.isLt; omega⟩ ⟨3584 + (t.val % 24 / 12 * 128 + x.val), by omega⟩) := by
  blk_ext [iblk, V, idx t]
/-- The latent values at a grid point. -/
theorem read4 (c : Dev nD) (t : Fin cfg0.N) (a : Fin 2048) (x : Fin 128) :
    iblk m c 4 t (ix2 a x) = m ((c : Thread nD τ).loc main_arg2)
      (ix2 ⟨t.val / 24 * 2048 + a.val, by have : t.val < 192 := t.isLt; omega⟩ ⟨3584 + (t.val % 24 / 12 * 128 + x.val), by omega⟩) := by
  blk_ext [iblk, V, idx t]

/-- Every query and every key the precondition speaks of is a real number. -/
theorem real_of_pre [Cert.Pre_finite_gqa.Facts] (q : FVec Ideal S18432x768 .bf16) (k : FVec Ideal S18432x256 .bf16) (v : FVec Ideal S18432x3968 .bf16)
    (h : (Cert.Pre_finite_gqa.fn (F := Ideal) q k v).1 = (fun _ => 1#1) ∧ (Cert.Pre_finite_gqa.fn (F := Ideal) q k v).2 = (fun _ => 1#1)) :
    (∀ i, AttnMath.IsReal (q i)) ∧ (∀ i, AttnMath.IsReal (k i)) := by
  refine ⟨fun i => AttnMath.real_of_mask ?_, fun i => AttnMath.real_of_mask ?_⟩
  · exact congrFun h.1 i
  · exact congrFun h.2 i

/-- What a grid point stores at a block index is the reference at the array index it sits at. -/
theorem point (c : Dev nD) (hq : ∀ i, AttnMath.IsReal (m ((c : Thread nD τ).loc main_arg0) i))
    (hk : ∀ i, AttnMath.IsReal (m ((c : Thread nD τ).loc main_arg1) i)) (t : Fin cfg0.N) (a : Fin 512) (x : Fin 128) :
    k0_pay1 (iblk m c 0 t) (iblk m c 1 t) (iblk m c 2 t) (iblk m c 3 t) (iblk m c 4 t) (ix2 a x)
      = Cert.GqaRefIdeal.Read.val_main_v34 (F := Ideal) (m ((c : Thread nD τ).loc main_arg0)) (m ((c : Thread nD τ).loc main_arg1))
          (m ((c : Thread nD τ).loc main_arg2))
          (ix2 ⟨t.val / 24 * 2048 + (t.val % 4 * 512 + a.val), by have : t.val < 192 := t.isLt; omega⟩ ⟨(t.val % 24 / 12 * 3 + t.val % 12 / 4) * 128 + x.val, by omega⟩) := by
  have ht : t.val < 192 := t.isLt
  refine (pay_row _ _ _ _ _ a x _ _ _ _ rfl rfl rfl rfl).trans ?_
  refine Eq.trans ?_ (Cert.GqaRead.ref_row _ _ _ ⟨t.val / 24, by omega⟩ ⟨t.val % 4 * 512 + a.val, by omega⟩ ⟨t.val % 24 / 12, by omega⟩ ⟨t.val % 12 / 4, by omega⟩ x).symm
  refine AttnMath.row (by decide) (by decide) _ _ _ _ _ _ (fun j => ?_) (fun j => ?_) (fun j => ?_) (fun j => ?_) (fun j => ?_) (fun j => ?_)
  · refine (Cert.GqaRead.s_read _ _ _ _ _ _ _).trans (Finset.sum_congr rfl fun z _ => ?_)
    rw [Cert.GqaRead.k_ctx, Cert.GqaRead.q_read, read0, read1, mul_comm]
    refine congrArg₂ (· * ·) ?_ rfl
    blk_ext
  · refine (Cert.GqaRead.s_read _ _ _ _ _ _ _).trans (Finset.sum_congr rfl fun z _ => ?_)
    rw [Cert.GqaRead.k_lat, Cert.GqaRead.q_read, read0, read2, mul_comm]
    refine congrArg₂ (· * ·) ?_ rfl
    blk_ext
  · rw [Cert.GqaRead.v_ctx, read3]
  · rw [Cert.GqaRead.v_lat, read4]
  · exact AttnMath.dot_real _ _ (fun z => by rw [read0]; exact hq _) (fun z => by rw [read1]; exact hk _)
  · exact AttnMath.dot_real _ _ (fun z => by rw [read0]; exact hq _) (fun z => by rw [read2]; exact hk _)

/-- The result array after the run is the reference of the argument arrays. -/
theorem final (c : Dev nD) (hq : ∀ i, AttnMath.IsReal (m ((c : Thread nD τ).loc main_arg0) i))
    (hk : ∀ i, AttnMath.IsReal (m ((c : Thread nD τ).loc main_arg1) i)) : (dats m 0 c).arrAt 5 (cfgs 0).N
    = Cert.GqaRefIdeal.Read.val_main_v34 (F := Ideal) (m ((c : Thread nD τ).loc main_arg0)) (m ((c : Thread nD τ).loc main_arg1))
          (m ((c : Thread nD τ).loc main_arg2)) := by
  refine (dats m 0 c).arrAt_eq_of_covers 5 _ (by decide +kernel) fun t _ y => ?_
  blk_simp
  rw [after0_5]; frame_out
  idx_vars y
  refine (point m c hq hk t _ _).trans ?_
  blk_ext [idx t]

end Cert.GqaIdeal.Value
end
-- ==== Proof.GqaClaim.lean ====
/- What is claimed of `Gqa`, put together: the frames of the program, of its reading over the extended reals and of
   the reference, and that the two readings end with equal results. -/
module

public import proofs.«01_k».proof.Defs
public import proofs.«01_k».proof.Proof.Gen.Gqa.Frame
public import proofs.«01_k».proof.Proof.Gen.GqaIdeal.Frame
public import proofs.«01_k».proof.Proof.Gen.GqaIdeal.Value
public import proofs.«01_k».proof.Proof.Gen.GqaRefIdeal.Run
public import proofs.«01_k».proof.Proof.Gen.GqaRefIdeal.Read
public import proofs.«01_k».proof.Proof.GqaValue
public import proofs.«01_k».proof.Proof.Gen.Pre_finite_gqa
public import Idealize.ShloMosaic.Lib.Quiescent

@[expose] public section

noncomputable section

namespace Cert.Proof.Gqa

open Idealize.ShloMosaic Idealize.SL.Sem

/-- The reference ends with its arguments unchanged and, declaring no semaphore, with every counter at zero. -/
theorem ref_frame (m : (ℓ : Loc Cert.GqaRefIdeal.nD Cert.GqaRefIdeal.τ Cert.GqaRefIdeal.sig) → Buf (Elt Ideal) ℓ) (g : Dev Cert.GqaRefIdeal.nD → PrngReg) :
    θ_run (Cert.GqaRefIdeal.defs (F := Ideal)) (onTc (τ := Cert.GqaRefIdeal.τ) (Cert.GqaRefIdeal.main (F := Ideal))) ⟨m, fun _ => 0, g⟩ (fun r =>
      (∀ c : Dev Cert.GqaRefIdeal.nD, r.2.mem ((c.tc : Thread Cert.GqaRefIdeal.nD Cert.GqaRefIdeal.τ).loc Cert.GqaRefIdeal.main_arg0) = m ((c.tc : Thread Cert.GqaRefIdeal.nD Cert.GqaRefIdeal.τ).loc Cert.GqaRefIdeal.main_arg0)
        ∧ r.2.mem ((c.tc : Thread Cert.GqaRefIdeal.nD Cert.GqaRefIdeal.τ).loc Cert.GqaRefIdeal.main_arg1) = m ((c.tc : Thread Cert.GqaRefIdeal.nD Cert.GqaRefIdeal.τ).loc Cert.GqaRefIdeal.main_arg1)
        ∧ r.2.mem ((c.tc : Thread Cert.GqaRefIdeal.nD Cert.GqaRefIdeal.τ).loc Cert.GqaRefIdeal.main_arg2) = m ((c.tc : Thread Cert.GqaRefIdeal.nD Cert.GqaRefIdeal.τ).loc Cert.GqaRefIdeal.main_arg2))
      ∧ r.2.sem = fun _ => 0) :=
  (θ_run (Cert.GqaRefIdeal.defs (F := Ideal)) _ _).mono
    (fun r h => ⟨fun c => (h c).2, sem_eq_zero_of_no_sems (by decide) r.2⟩) (Cert.GqaRefIdeal.Value.run m g)

/-- The two readings end with equal results and unchanged arguments. -/
theorem algebraic [Cert.GqaIdeal.Facts] [Cert.GqaRefIdeal.Facts] [Cert.Pre_finite_gqa.Facts] : Cert.algebraic_GqaIdeal_GqaRefIdeal_pre_finite_gqa := by
  intro m g m' g' hpre hagree
  refine ⟨fun c => Cert.GqaRefIdeal.Read.val_main_v34 (F := Ideal) (m ((c.tc : Thread Cert.GqaIdeal.nD Cert.GqaIdeal.τ).loc Cert.GqaIdeal.main_arg0)) (m ((c.tc : Thread Cert.GqaIdeal.nD Cert.GqaIdeal.τ).loc Cert.GqaIdeal.main_arg1)) (m ((c.tc : Thread Cert.GqaIdeal.nD Cert.GqaIdeal.τ).loc Cert.GqaIdeal.main_arg2)), ?_, ?_⟩
  · refine (θ_run (Cert.GqaIdeal.defs (F := Ideal)) _ _).mono (fun r h c => ?_) (Cert.GqaIdeal.Value.run_blocks m g)
    have hr := Cert.GqaIdeal.Value.real_of_pre _ _ _ (hpre c)
    exact ⟨(h c).1.trans (Cert.GqaIdeal.Value.final m c hr.1 hr.2), (h c).2⟩
  · exact (θ_run (Cert.GqaRefIdeal.defs (F := Ideal)) _ _).mono
      (fun r h c => ⟨(h c).1.trans ((Cert.GqaRefIdeal.Read.val_main_v34_eq m' c).trans (by rw [(hagree c).1, (hagree c).2.1, (hagree c).2.2])), (h c).2⟩)
      (Cert.GqaRefIdeal.Value.run m' g')

end Cert.Proof.Gqa

end
-- ==== Proof.MoePlan.lean ====
/- What the precondition on the routing plan says: every block's expert is one of the 64, and a block marked empty has
   zero gates. -/
module
public import proofs.«01_k».proof.Proof.Gen.Pre_plan_in_range
public import Idealize.ShloMosaic.Lib.Pointwise

@[expose] public section
set_option maxRecDepth 16384
noncomputable section
open Idealize.ShloMosaic Idealize.ShloMosaic.TcCoe
namespace Cert.MoePlan
open Cert.Pre_plan_in_range

/-- Every block's expert word lies between 0 and 63. -/
theorem expert_range {F : FTy → Type} [FloatOps F] [Cert.Pre_plan_in_range.Facts] (x0 : FVec F S18432x2048 .bf16) (x1 : IVec S126976 32) (x2 : FVec F S126976x1 .f32)
    (x3 x4 : IVec S496 32) (x5 x6 : FVec F S64x2048x512 .f32) (x7 : FVec F S64x512x2048 .f32)
    (h : (fn (F := F) x0 x1 x2 x3 x4 x5 x6 x7).1 = fun _ => 1#1) (t : S496.Idx) :
    (0#32).sle (x3 t) = true ∧ (x3 t).slt 64#32 = true := by
  have andi_one (a b : BitVec 1) : IntOp.andi a b = 1#1 ↔ a = 1#1 ∧ b = 1#1 := by revert a b; decide
  have ofBool_eq_one (p : Bool) : (BitVec.ofBool p = 1#1) ↔ p = true := by cases p <;> decide
  have pre := congrFun h t
  simp only [fn, constantI, broadcastInDim, cmpi, andi, andi_one, IntOp.cmpi, ofBool_eq_one] at pre
  exact pre

/-- A row's entry of the second array of the precondition. -/
theorem gate_entry [Cert.Pre_plan_in_range.Facts] (x0 : FVec Ideal S18432x2048 .bf16) (x1 : IVec S126976 32) (x2 : FVec Ideal S126976x1 .f32)
    (x3 x4 : IVec S496 32) (x5 x6 : FVec Ideal S64x2048x512 .f32) (x7 : FVec Ideal S64x512x2048 .f32) (t : Fin 496) (a : Fin 256) :
    (fn (F := Ideal) x0 x1 x2 x3 x4 x5 x6 x7).2 (ix2 t a)
      = IntOp.ori (IntOp.cmpi .ne (x4 (ix1 t)) 0#32) (Ideal.cmp .oeq (x2 (ix2 ⟨t.val * 256 + a.val, by omega⟩ 0)) 0) := by
  pointwise [fn]

/-- A row of a block marked empty has gate 0. -/
theorem gate_zero [Cert.Pre_plan_in_range.Facts] (x0 : FVec Ideal S18432x2048 .bf16) (x1 : IVec S126976 32) (x2 : FVec Ideal S126976x1 .f32)
    (x3 x4 : IVec S496 32) (x5 x6 : FVec Ideal S64x2048x512 .f32) (x7 : FVec Ideal S64x512x2048 .f32)
    (h : (fn (F := Ideal) x0 x1 x2 x3 x4 x5 x6 x7).2 = fun _ => 1#1) (t : Fin 496) (a : Fin 256) (hv : x4 (ix1 t) = 0#32) :
    (x2 (ix2 ⟨t.val * 256 + a.val, by omega⟩ 0) : EReal) = 0 := by
  have e := (gate_entry x0 x1 x2 x3 x4 x5 x6 x7 t a).symm.trans (congrFun h (ix2 t a))
  rw [hv] at e
  by_contra hg
  simp [Ideal.cmp, IntOp.cmpi, IntOp.ori, hg] at e

end Cert.MoePlan
end
-- ==== Proof.GatherMath.lean ====
/- Rows and matrices looked up in a table by words, read at an index. -/
module
public import Idealize.ShloMosaic.Lib.ValueIdx
public import Idealize.ShloMosaic.Lib.Pointwise

@[expose] public section
noncomputable section
open Idealize.ShloMosaic Idealize.ShloMosaic.TcCoe
namespace Cert.GatherMath
variable {α : Type}

/-- Rows of a matrix, looked up by a column of words. -/
abbrev rowsDims (N D M : Nat) (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- A looked-up row is the table's at the word, read signed and clamped to the table. -/
theorem rows_apply {N D M w : Nat} (hN : 0 < N)
    (wf : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (i : Fin M) (k : Fin D) :
    Host.gather (rowsDims N D M wf) x idx (ix2 i k) = x (ix2 ⟨min (idx (ix2 i 0)).toInt.toNat (N - 1), by omega⟩ k) := by
  unfold Host.gather
  congr 1
  funext a
  refine Fin.ext ?_
  show (rowsDims N D M wf).start (ix2 i k) idx a + (rowsDims N D M wf).batchCoord (ix2 i k) a + (rowsDims N D M wf).offCoord (ix2 i k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : (rowsDims N D M wf).siIdx (ix2 i k) ⟨List.idxOf (0 : Fin 2) (rowsDims N D M wf).startIndexMap,
        List.idxOf_lt_length_iff.2 (List.mem_singleton.mpr rfl)⟩ = ix2 i 0 := by
      funext b; refine Fin.ext ?_
      match b with
      | ⟨0, _⟩ => rfl
      | ⟨1, _⟩ => rfl
    exact congrArg (fun z => min (idx z).toInt.toNat (N - 1)) hsi
  | ⟨1, _⟩ =>
    unfold GatherDims.start
    rw [dif_neg (fun h => absurd (Fin.val_eq_of_eq (List.mem_singleton.mp h)) (by simp))]
    simp only [Nat.zero_add, Nat.add_zero]
    rfl

/-- Blocks of rows of a matrix, looked up by a matrix of words. -/
abbrev tileDims (N D R C : Nat) (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- A looked-up row of a block is the table's at the word, read signed and clamped to the table. -/
theorem tile_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (i : Fin R) (j : Fin C) (k : Fin D) :
    Host.gather (tileDims N D R C wf) x idx (ix3 i j k) = x (ix2 ⟨min (idx (ix3 i j 0)).toInt.toNat (N - 1), by omega⟩ k) := by
  unfold Host.gather
  congr 1
  funext a
  refine Fin.ext ?_
  show (tileDims N D R C wf).start (ix3 i j k) idx a + (tileDims N D R C wf).batchCoord (ix3 i j k) a + (tileDims N D R C wf).offCoord (ix3 i j k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : (tileDims N D R C wf).siIdx (ix3 i j k) ⟨List.idxOf (0 : Fin 2) (tileDims N D R C wf).startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    exact congrArg (fun z => min (idx z).toInt.toNat (N - 1)) hsi
  | ⟨1, _⟩ =>
    unfold GatherDims.start
    rw [dif_neg (fun h => absurd (Fin.val_eq_of_eq (List.mem_singleton.mp h)) (by simp))]
    simp only [Nat.zero_add, Nat.add_zero]
    rfl

/-- Matrices of a stack, looked up by a column of words. -/
abbrev matDims (N A B R : Nat) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- A looked-up matrix is the stack's at the word, read signed and clamped to the stack. -/
theorem mat_apply {N A B R w : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ w) (i : Fin R) (j : Fin A) (k : Fin B) :
    Host.gather (matDims N A B R wf) x idx (ix3 i j k) = x (ix3 ⟨min (idx (ix2 i 0)).toInt.toNat (N - 1), by omega⟩ j k) := by
  unfold Host.gather
  congr 1
  funext a
  refine Fin.ext ?_
  show (matDims N A B R wf).start (ix3 i j k) idx a + (matDims N A B R wf).batchCoord (ix3 i j k) a + (matDims N A B R wf).offCoord (ix3 i j k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : (matDims N A B R wf).siIdx (ix3 i j k) ⟨List.idxOf (0 : Fin 3) (matDims N A B R wf).startIndexMap,
        List.idxOf_lt_length_iff.2 (List.mem_singleton.mpr rfl)⟩ = ix2 i 0 := by
      funext b; refine Fin.ext ?_
      match b with
      | ⟨0, _⟩ => rfl
      | ⟨1, _⟩ => rfl
    exact congrArg (fun z => min (idx z).toInt.toNat (N - 1)) hsi
  | ⟨1, _⟩ =>
    unfold GatherDims.start
    rw [dif_neg (fun h => absurd (Fin.val_eq_of_eq (List.mem_singleton.mp h)) (by simp))]
    simp only [Nat.zero_add, Nat.add_zero]
    rfl
  | ⟨2, _⟩ =>
    unfold GatherDims.start
    rw [dif_neg (fun h => absurd (Fin.val_eq_of_eq (List.mem_singleton.mp h)) (by simp))]
    simp only [Nat.zero_add, Nat.add_zero]
    rfl

/-- A word as an index from the end of a table of `n` rows when it is negative. -/
def wrap (n w : BitVec 32) : BitVec 32 := Scalar.select (IntOp.cmpi .slt w 0#32) (IntOp.addi w n) w

/-- A word that names an expert names it after wrapping and clamping. -/
theorem wrap_expert (w : BitVec 32) (h0 : (0#32).sle w = true) (h1 : w.slt 64#32 = true) :
    w.toNat < 64 ∧ min (wrap 64#32 w).toInt.toNat (64 - 1) = w.toNat := by
  have h0' : (0 : Int) ≤ w.toInt := by simpa [BitVec.sle] using h0
  have h1' : w.toInt < 64 := by
    have := h1
    simp only [BitVec.slt, decide_eq_true_eq] at this
    exact this
  have hn : w.toInt = (w.toNat : Int) := by
    rw [BitVec.toInt_eq_toNat_cond] at h0' ⊢
    split
    · rfl
    · rename_i h
      rw [if_neg h] at h0'
      have := w.isLt
      omega
  have hs : w.slt 0#32 = false := by
    simp only [BitVec.slt, decide_eq_false_iff_not]
    simpa using h0'
  have hw : wrap 64#32 w = w := by
    unfold wrap Scalar.select
    simp only [IntOp.cmpi, hs]
    rfl
  rw [hw, hn]
  omega

/-- A table of rows with a zero row after them, at a word: the row the word names, wrapped and clamped. -/
def rowOf {N D : Nat} (x : (⟨2, ![N, D]⟩ : Shape).Idx → EReal) (n w : BitVec 32) (k : Fin D) : EReal :=
  if h : min (wrap n w).toInt.toNat N < N then x (ix2 ⟨_, h⟩ k) else 0

end Cert.GatherMath
end
-- ==== Proof.MoeIdealFrame.lean ====
/-
The frame of the routed experts' program `MoeIdeal`, by hand: the kernel's body branches on a word of the prefetched
validity table, so the launch is set up here (after the library's frame certificates of other kernels) and the body is
run twice, once for a block the table marks valid and once for a block it marks empty.
-/
module

public import proofs.«01_k».proof.Proof.Gen.MoeIdeal.Launch
public import proofs.«01_k».proof.Proof.Gen.MoeIdeal.Skeleton
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import Idealize.ShloMosaic.Lib.Claim

@[expose] public section

set_option maxRecDepth 16384

noncomputable section

namespace Cert.MoeIdeal.Routed

open Cert.MoeIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- The host operations before the region allocate nothing. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes an argument array: the region finds each as launched. -/
theorem V_args (c : Dev nD) :
    V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg4 = m ((c : Thread nD τ).loc main_arg4) ∧ V m c main_arg5 = m ((c : Thread nD τ).loc main_arg5)
    ∧ V m c main_arg6 = m ((c : Thread nD τ).loc main_arg6) ∧ V m c main_arg7 = m ((c : Thread nD τ).loc main_arg7) := by
  refine ⟨?_, ?_, ?_, ?_, ?_, ?_, ?_, ?_⟩ <;>
  exact StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Argument array 0 as the region finds it: as launched. -/
theorem V_main_arg0 (c : Dev nD) : V m c main_arg0 = m ((c : Thread nD τ).loc main_arg0) := (V_args m c).1
/-- Argument array 1 as the region finds it: as launched. -/
theorem V_main_arg1 (c : Dev nD) : V m c main_arg1 = m ((c : Thread nD τ).loc main_arg1) := (V_args m c).2.1
/-- Argument array 2 as the region finds it: as launched. -/
theorem V_main_arg2 (c : Dev nD) : V m c main_arg2 = m ((c : Thread nD τ).loc main_arg2) := (V_args m c).2.2.1
/-- Argument array 3 as the region finds it: as launched. -/
theorem V_main_arg3 (c : Dev nD) : V m c main_arg3 = m ((c : Thread nD τ).loc main_arg3) := (V_args m c).2.2.2.1
/-- Argument array 4 as the region finds it: as launched. -/
theorem V_main_arg4 (c : Dev nD) : V m c main_arg4 = m ((c : Thread nD τ).loc main_arg4) := (V_args m c).2.2.2.2.1
/-- Argument array 5 as the region finds it: as launched. -/
theorem V_main_arg5 (c : Dev nD) : V m c main_arg5 = m ((c : Thread nD τ).loc main_arg5) := (V_args m c).2.2.2.2.2.1
/-- Argument array 6 as the region finds it: as launched. -/
theorem V_main_arg6 (c : Dev nD) : V m c main_arg6 = m ((c : Thread nD τ).loc main_arg6) := (V_args m c).2.2.2.2.2.2.1
/-- Argument array 7 as the region finds it: as launched. -/
theorem V_main_arg7 (c : Dev nD) : V m c main_arg7 = m ((c : Thread nD τ).loc main_arg7) := (V_args m c).2.2.2.2.2.2.2

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S496 .i32 := Memref.whole main_arg3
abbrev htbM0_0 : tbM0_0.IsWhole := Memref.isWhole_whole _
abbrev tbM0_1 : Memref sig .tc .smem S496 .i32 := Memref.whole main_arg4
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (UR sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (UR sig nD τ) ℕ)) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_MoeIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 1).trans (((dats 0 c).arrAt_in 1 rfl _).trans ((hA c 1).trans (V_main_arg2 m c))),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

/-! ## The kernel body on any staging memrefs: a subtype the run finds -/

/-- One staging buffer of output window 5, through which its contents are stated (`View.read_writes_of_cover`: the
    choice does not matter). -/
abbrev VO0_5 : View sig .tc .vmem S256x2048 .bf16 := (Memref.whole cc0_stg5_0 : Memref sig .tc .vmem S256x2048 .bf16).view
/-- Each window's current staging memref at point `t`, spelled as the pipeline passes it (`bodyAt0`), and its wholeness. -/
abbrev ms0_0 (hO : Ok m) (t : Fin (cfgM m hO).N) : Memref sig .tc .vmem S256x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S256x1 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2048x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512x2048 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S256x2048 .bf16 := spec0_5.stage ((cfgM m hO).slots t 5)
abbrev hs0_5 (hO : Ok m) (t : Fin (cfgM m hO).N) : (ms0_5 m hO t).IsWhole := hstage0_5 (((cfgM m hO).slots t 5).cast nbuf0_5)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_moe_experts (grid0.coords t) (Memref.whole main_arg3) (Memref.isWhole_whole _) (Memref.whole main_arg4) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5))

/-! ## The body on any staging memrefs -/

/-- The validity word of point `i`: the entry of the second prefetched table the body loads there. -/
def word (c : Dev nD) (i : grid0.Coords) (xt1 : TbBuf0 (F := F) c tbM0_1) : BitVec 32 :=
  View.readAt (Elt F) tbM0_1.view (Rect.unit (s := S496) (k0_off1 i) S1.size (k0_off1_inb i)).toLoadRect xt1
    (Shape.Idx.first (by show 0 < S1.numel; rw [numel1_S1]; exact Nat.one_pos))

/-- What the body leaves in the output's block, of the validity word and the input blocks: the expert's rows times
    their gates for a valid block, zeros for an empty one. -/
def blockOut (w : BitVec 32) (x0 : Vec F S256x2048 .bf16) (x1 : Vec F S256x1 .f32) (x2 : Vec F S1x2048x512 .bf16)
    (x3 : Vec F S1x2048x512 .bf16) (x4 : Vec F S1x512x2048 .bf16) : Vec F S256x2048 .bf16 :=
  if k0_cond1 w = 1#1 then k0_pay1 x0 x2 x3 x4 x1 else k0_pay2

/-- The first region runs exactly when the word is not zero. -/
theorem cond1_iff (w : BitVec 32) : k0_cond1 w = 1#1 ↔ w ≠ 0#32 := by
  by_cases h : w = 0#32
  · subst h; decide
  · refine ⟨fun _ => h, fun _ => ?_⟩
    have e : Scalar.cmpi .ne w 0#32 = 1#1 := by
      have hb : (w == 0#32) = false := beq_eq_false_iff_ne.2 h
      simp only [Scalar.cmpi, IntOp.cmpi, bne, hb]; rfl
    show Scalar.cmpi .ne (Scalar.extui (Scalar.cmpi .ne w 0#32) : BitVec 32) 0#32 = 1#1
    rw [e]; decide

/-- The second region runs exactly when the word is zero. -/
theorem cond2_iff (w : BitVec 32) : k0_cond2 w = 1#1 ↔ w = 0#32 := by
  by_cases h : w = 0#32
  · subst h; decide
  · refine ⟨fun q => ?_, fun q => absurd q h⟩
    have e : Scalar.cmpi .eq w 0#32 = 0#1 := by
      have hb : (w == 0#32) = false := beq_eq_false_iff_ne.2 h
      simp only [Scalar.cmpi, IntOp.cmpi, bne, hb]; rfl
    exfalso; revert q
    show Scalar.cmpi .ne (Scalar.extui (Scalar.cmpi .eq w 0#32) : BitVec 32) 0#32 = 1#1 → False
    rw [e]; decide

set_option maxHeartbeats 1000000 in
/-- The body on whole staging memrefs: it hands the inputs and the tables back as they were and leaves `blockOut` in
    the output's block, whichever of its two regions the validity word selects. -/
theorem body_run (c : Dev nD) (i : grid0.Coords) (arg3 : Memref sig .tc .vmem S256x2048 .bf16) (harg3 : arg3.IsWhole) (arg4 : Memref sig .tc .vmem S256x1 .f32) (harg4 : arg4.IsWhole) (arg5 : Memref sig .tc .vmem S1x2048x512 .bf16) (harg5 : arg5.IsWhole) (arg6 : Memref sig .tc .vmem S1x2048x512 .bf16) (harg6 : arg6.IsWhole) (arg7 : Memref sig .tc .vmem S1x512x2048 .bf16) (harg7 : arg7.IsWhole) (arg8 : Memref sig .tc .vmem S256x2048 .bf16) (harg8 : arg8.IsWhole)
    (x0 : Vec F S256x2048 .bf16) (x1 : Vec F S256x1 .f32) (x2 : Vec F S1x2048x512 .bf16) (x3 : Vec F S1x2048x512 .bf16) (x4 : Vec F S1x512x2048 .bf16) (xt0 : TbBuf0 (F := F) c tbM0_0) (xt1 : TbBuf0 (F := F) c tbM0_1) (E : Set ℕ) (K : PUnit → sProp (MT nD τ sig Unit (Elt F) ℕ (UR sig nD τ) ℕ)) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ tbPt0 c tbM0_0 xt0 ∗ tbPt0 c tbM0_1 xt1
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (blockOut (word c i xt1) x0 x1 x2 x3 x4) ∗ tbPt0 c tbM0_0 xt0 ∗ tbPt0 c tbM0_1 xt1) -∗ K ⟨⟩))
      ⊢ wp frame (wpE (defs₀ (F := F)) Variants.none c none) E (cc0_moe_experts i tbM0_0 htbM0_0 tbM0_1 htbM0_1 arg3 harg3 arg4 harg4 arg5 harg5 arg6 harg6 arg7 harg7 arg8 harg8) K := by
  simp only [cc0_moe_experts_eq_skeleton]; unfold cc0_moe_experts_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, HT0, HT1, Hk⟩
  sl_exec
  unfold body_run.sl.r_1 body_run.sl.r
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    change View.read (Elt F) arg8.view (if hc : k0_cond2 (word c i xt1) = 1#1 then _ else if hc : k0_cond1 (word c i xt1) = 1#1 then _ else _) = _
    unfold blockOut
    by_cases h : word c i xt1 = 0#32
    · rw [dif_pos ((cond2_iff _).2 h), if_neg (fun q => (cond1_iff _).1 q h)]
      exact View.read_writes_full (s := S256x2048) arg8.view _ inb_S256x2048_S256x2048_0_0 _ []
    · rw [dif_neg (fun q => h ((cond2_iff _).1 q)), dif_pos ((cond1_iff _).2 h), if_pos ((cond1_iff _).2 h)]
      refine (View.read_writes_full (s := S256x2048) arg8.view _ inb_S256x2048_S256x2048_0_0 _ []).trans ?_
      rw [← hf0, ← hf1, ← hf2, ← hf3, ← hf4]
      congr 1
      · exact View.readAt_full (s := S256x2048) arg3.view _ inb_S256x2048_S256x2048_0_0
      · exact View.readAt_full (s := S1x2048x512) arg5.view _ inb_S1x2048x512_S1x2048x512_0_0_0
      · exact View.readAt_full (s := S1x2048x512) arg6.view _ inb_S1x2048x512_S1x2048x512_0_0_0
      · exact View.readAt_full (s := S1x512x2048) arg7.view _ inb_S1x512x2048_S1x512x2048_0_0_0
      · exact View.readAt_full (s := S256x1) arg4.view _ inb_S256x1_S256x1_0_0
  isplitl [HT0]; · iexact HT0
  iexact HT1

/-! ## What the outputs hold after each point -/

/-- What the output's staging buffer holds after the body at point `t`: `blockOut` at the point's validity word and
    input blocks. -/
def outsAt0 (hO : Ok m) (c : Dev nD) (t : Fin (cfgM m hO).N) : Vec F S256x2048 .bf16 :=
  blockOut (word c (grid0.coords t) (tbl m 1)) (iblk m hO c 0 t) (iblk m hO c 1 t) (iblk m hO c 2 t) (iblk m hO c 3 t) (iblk m hO c 4 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t) := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- and what it returns. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t))

/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq]
  unfold outsAt0
  iintro ⟨⟨HΦ, ⟨HT0, HT1⟩⟩, Ho, ⟨%d0, H0⟩, ⟨%d1, H1⟩, ⟨%d2, H2⟩, ⟨%d3, H3⟩, ⟨%d4, H4⟩, ⟨%d5, H5⟩⟩
  iapply (body_run c (grid0.coords t) _ (hs0_0 m hO t) _ (hs0_1 m hO t) _ (hs0_2 m hO t) _ (hs0_3 m hO t) _ (hs0_4 m hO t) _ (hs0_5 m hO t) (iblk m hO c 0 t) (iblk m hO c 1 t) (iblk m hO c 2 t) (iblk m hO c 3 t) (iblk m hO c 4 t) (tbl m 0) (tbl m 1) Set.univ _)
  isplitl [H0]; · iexact H0
  isplitl [H1]; · iexact H1
  isplitl [H2]; · iexact H2
  isplitl [H3]; · iexact H3
  isplitl [H4]; · iexact H4
  isplitl [H5]; · iexists _; iexact H5
  isplitl [HT0]; · iexact HT0
  isplitl [HT1]; · iexact HT1
  iintro ⟨H0, H1, H2, H3, H4, H5, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The output is live at every point: one of the body's two regions stores it. -/
theorem live5 (hO : Ok m) (i : grid0.Coords) : (cfgM m hO).idle 5 i = false := by
  have key : ∀ w : BitVec 32, (!(k0_cond1 w == 1#1) && !(k0_cond2 w == 1#1)) = false := fun w => by
    by_cases h : w = 0#32
    · rw [(cond2_iff w).2 h]; simp
    · rw [(cond1_iff w).2 h]; simp
  exact key ((tbl m).atD 1 (k0_off1 i))

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO, live5 m hO]
  exact triple_restated (sound_body m hO c t) rfl .rfl fun _ => .rfl

/-! ## The run and the frame -/

-- `θ_run_frameP`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO) (A_eq m hO) (run_main m ρ hO)

/-- THE FRAME: `Cert.quiescent_MoeIdeal`'s statement (Defs.lean) at any `F` — for every contents of the PREFETCHED TABLES, under `Ok m` (the pipeline's side
    condition of them). -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO) ((θ_run defs _ _).mono (fun _ h => h.2) (run_main_quiescent m ρ hO))

end Cert.MoeIdeal.Routed

end
-- ==== Proof.MoeIdealWords.lean ====
/- The words of the routing plan's two tables, as the program `MoeIdeal` reads them at a block, and that words naming an
   expert keep every weight block inside its array. -/
module
public import proofs.«01_k».proof.Defs
public import proofs.«01_k».proof.Proof.MoeIdealFrame
public import proofs.«01_k».proof.Proof.MoePlan
public import proofs.«01_k».proof.Proof.GatherMath
public import Idealize.ShloMosaic.Lib.Affine

@[expose] public section
set_option maxRecDepth 16384
noncomputable section
open Idealize.ShloMosaic Idealize.ShloMosaic.TcCoe Idealize.SL.Sem
namespace Cert.MoeIdeal.Routed
open Cert.MoeIdeal Cert.MoeIdeal.Gen

/-- The offset a table is loaded at is the block's number. -/
theorem off1_val (i : grid0.Coords) : k0_off1 i 0 = (i 0).val := by
  have h : (i 0).val < 496 := (i 0).isLt
  show (BitVec.ofNat 32 (i 0).val).toNat = (i 0).val
  rw [BitVec.toNat_ofNat]
  omega

/-- The one index under a block's rectangle is the block's number. -/
theorem emb_first (i : grid0.Coords) (h1 : 0 < (Rect.unit (s := S496) (k0_off1 i) S1.size (k0_off1_inb i)).shape.numel) :
    (Rect.unit (s := S496) (k0_off1 i) S1.size (k0_off1_inb i)).emb (Shape.Idx.first h1) = ix1 ⟨(i 0).val, (i 0).isLt⟩ := by
  funext a
  obtain rfl : a = 0 := Subsingleton.elim _ _
  refine Fin.ext ?_
  show k0_off1 i 0 + 1 * 0 = (i 0).val
  rw [off1_val]
  omega

variable {F : FTy → Type} [FloatOps F] (m : (ℓ : Loc nD τ sig) → Buf (Elt F) ℓ)

/-- A block's expert word. -/
def ew (i : grid0.Coords) : BitVec 32 := m (((0 : Dev nD) : Thread nD τ).loc main_arg3) (ix1 ⟨(i 0).val, (i 0).isLt⟩)

/-- The window of the gate's weight is at the block's expert. -/
theorem ix2_eq (i : grid0.Coords) : cc0_transform_2 k0_off1_inb numel1_S1 (tbl m) i = ![(ew m i).toNat, 0, 0] := by
  have e : (tbl m).at 0 (Rect.unit (s := S496) (k0_off1 i) S1.size (k0_off1_inb i)) numel1_S1 = ew m i := by
    refine (congrArg (tbl m 0) (emb_first i _)).trans ?_
    exact congrFun (V_main_arg3 m 0) _
  exact congrArg (fun w : BitVec 32 => (![w.toNat, 0, 0] : Fin 3 → Nat)) e
/-- The window of the other weight is at the block's expert. -/
theorem ix3_eq (i : grid0.Coords) : cc0_transform_3 k0_off1_inb numel1_S1 (tbl m) i = ![(ew m i).toNat, 0, 0] := ix2_eq m i
/-- The window of the output weight is at the block's expert. -/
theorem ix4_eq (i : grid0.Coords) : cc0_transform_4 k0_off1_inb numel1_S1 (tbl m) i = ![(ew m i).toNat, 0, 0] := ix2_eq m i

/-- A block's validity word, as the body loads it. -/
theorem word_eq (c : Dev nD) (i : grid0.Coords) : word c i (tbl m 1) = m (((0 : Dev nD) : Thread nD τ).loc main_arg4) (ix1 ⟨(i 0).val, (i 0).isLt⟩) := by
  refine (congrArg (tbl m 1) (emb_first i _)).trans ?_
  exact congrFun (V_main_arg4 m 0) _

/-- Expert words that name an expert keep every weight block inside its array. -/
theorem ok_of_range (h : ∀ i, (ew m i).toNat < 64) : Ok m := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩
  · rw [ix2_eq]
    have := h i
    match a with
    | ⟨0, _⟩ => show ((ew m i).toNat + 1) * 1 ≤ 64; omega
    | ⟨1, _⟩ => show (0 + 1) * 2048 ≤ 2048; omega
    | ⟨2, _⟩ => show (0 + 1) * 512 ≤ 512; omega
  · rw [ix3_eq]
    have := h i
    match a with
    | ⟨0, _⟩ => show ((ew m i).toNat + 1) * 1 ≤ 64; omega
    | ⟨1, _⟩ => show (0 + 1) * 2048 ≤ 2048; omega
    | ⟨2, _⟩ => show (0 + 1) * 512 ≤ 512; omega
  · rw [ix4_eq]
    have := h i
    match a with
    | ⟨0, _⟩ => show ((ew m i).toNat + 1) * 1 ≤ 64; omega
    | ⟨1, _⟩ => show (0 + 1) * 512 ≤ 512; omega
    | ⟨2, _⟩ => show (0 + 1) * 2048 ≤ 2048; omega

/-- The precondition keeps every weight block inside its array. -/
theorem ok_of_pre [Cert.Pre_plan_in_range.Facts] (m : (ℓ : Loc nD τ sig) → Buf (Elt Ideal) ℓ) (h : Cert.Pre_MoeIdeal m) : Ok m :=
  ok_of_range m fun i =>
    let e := MoePlan.expert_range _ _ _ _ _ _ _ _ (h 0).1 (ix1 ⟨(i 0).val, (i 0).isLt⟩)
    (GatherMath.wrap_expert _ e.1 e.2).1

end Cert.MoeIdeal.Routed
end
-- ==== Proof.NormMath.lean ====
/- The row functions the projections and the expert layers share, over the extended reals: a row divided by its root mean
   square, the same row scaled and shifted, and one column of a gated layer. -/
module
public import proofs.«01_k».proof.Proof.AttnMath

@[expose] public section
noncomputable section
open Idealize.ShloMosaic Idealize.SL.Sem
namespace Cert.NormMath

/-- A row over its root mean square, times a gain. -/
def norm (x g : Fin 2048 → EReal) (k : Fin 2048) : EReal :=
  x k * Ideal.rsqrt (Ideal.div (∑ j, x j * x j) (Ideal.ofBits .f32 0x45000000#32) + Ideal.ofBits .f32 0x358637BD#32) * g k

/-- The normalised row scaled and shifted. -/
def modulated (x g sc sh : Fin 2048 → EReal) (k : Fin 2048) : EReal :=
  norm x g k * (Ideal.ofBits .f32 0x3F800000#32 + sc k) + sh k

end Cert.NormMath
end
-- ==== Proof.GateMath.lean ====
/- The gate of an expert layer over the extended reals: a value times its logistic, and the kernel's quotient for it. -/
module
public import proofs.«01_k».proof.Proof.NormMath

@[expose] public section
noncomputable section
open Idealize.ShloMosaic Idealize.SL.Sem
namespace Cert.GateMath

/-- A value times its logistic. -/
def silu (s : EReal) : EReal :=
  s * Ideal.div (Ideal.ofBits .f32 0x3F800000#32) (Ideal.ofBits .f32 0x3F800000#32 + Ideal.exp (-s))

/-- An exponential is not negative. -/
theorem exp_nonneg (x : EReal) : 0 ≤ Ideal.exp x := by
  induction x using EReal.rec with
  | bot => simp
  | top => simp
  | coe r => rw [Ideal.exp_coe]; exact_mod_cast (Real.exp_pos r).le

/-- The value over one plus the exponential of its negative is the value times its logistic, at the infinities too: that
    denominator is never zero. -/
theorem silu_quot (s : EReal) :
    Ideal.div s (Ideal.ofBits .f32 0x3F800000#32 + Ideal.exp (Ideal.ofBits .f32 0x00000000#32 - s)) = silu s := by
  have h1 : Ideal.ofBits .f32 0x3F800000#32 = 1 := by
    simp [Ideal.ofBits, Ideal.ieee]
    rw [← EReal.coe_mul]
    norm_num
  have h0 : Ideal.ofBits .f32 0x00000000#32 = 0 := by simp [Ideal.ofBits, Ideal.ieee]
  unfold silu
  rw [h1, h0, zero_sub]
  have hd : (1 : EReal) + Ideal.exp (-s) ≠ 0 := by
    have h := add_le_add (le_refl (1 : EReal)) (exp_nonneg (-s))
    rw [add_zero] at h
    exact (lt_of_lt_of_le zero_lt_one h).ne'
  unfold Ideal.div
  rw [if_neg hd, if_neg hd, one_mul]

end Cert.GateMath
end
-- ==== Proof.MoeRead.lean ====
/- The routed experts' reference read at a row of a block: the token's row and the block's expert are looked up by words,
   the gated product, and the scaling by the row's gate. -/
module
public import proofs.«01_k».proof.Proof.Gen.MoeRefIdeal.Read
public import proofs.«01_k».proof.Proof.GateMath
public import proofs.«01_k».proof.Proof.GatherMath
public import Idealize.ShloMosaic.Lib.Pointwise

@[expose] public section
set_option maxRecDepth 16384
noncomputable section
open Idealize.ShloMosaic Idealize.ShloMosaic.TcCoe Idealize.SL.Sem
namespace Cert.MoeRead
open Cert.MoeRefIdeal Cert.MoeRefIdeal.Gen Cert.MoeRefIdeal.Read Cert.GatherMath

abbrev FT := (⟨S18432x2048, .bf16⟩ : BufTy).Contents (Elt Ideal)
abbrev TK := (⟨S126976, .i32⟩ : BufTy).Contents (Elt Ideal)
abbrev GT := (⟨S126976x1, .f32⟩ : BufTy).Contents (Elt Ideal)
abbrev EX := (⟨S496, .i32⟩ : BufTy).Contents (Elt Ideal)
abbrev WU := (⟨S64x2048x512, .f32⟩ : BufTy).Contents (Elt Ideal)
abbrev WD := (⟨S64x512x2048, .f32⟩ : BufTy).Contents (Elt Ideal)
variable (f : FT) (tk : TK) (gt : GT) (ex : EX) (wg wu : WU) (wd : WD)

/-- The expert a word names, wrapped and clamped. -/
def expert (w : BitVec 32) : Fin 64 := ⟨min (wrap 64#32 w).toInt.toNat (64 - 1), by omega⟩

/-- The tokens' table with the zero row after it. -/
theorem table_read (r : Fin 18433) (k : Fin 2048) : val_main_v2 f (ix2 r k)
    = if h : r.val < 18432 then (f (ix2 ⟨r.val, h⟩ k) : EReal) else 0 := by
  pointwise [val_main_v2, val_main_v1, val_main_v0, val_main_cst]
/-- The word a row's token is looked up by. -/
theorem word_read (t : Fin 496) (a : Fin 256) : val_main_v10 (F := Ideal) tk (ix3 t a 0)
    = wrap 18433#32 (tk (ix1 ⟨t.val * 256 + a.val, by omega⟩)) := by
  unfold wrap
  pointwise [val_main_v10, val_main_v9, val_main_v8, val_main_v7, val_main_v6, val_main_v5, val_main_v3, val_main_c, val_main_c_0]
/-- A row's token. -/
theorem tok_read (t : Fin 496) (a : Fin 256) (k : Fin 2048) : val_main_v11 f tk (ix3 t a k)
    = rowOf (N := 18432) (D := 2048) f 18433#32 (tk (ix1 ⟨t.val * 256 + a.val, by omega⟩)) k := by
  refine (tile_apply (N := 18433) (D := 2048) (R := 496) (C := 256) (by omega) _ (val_main_v2 f) (val_main_v10 (F := Ideal) tk) t a k).trans ?_
  rw [table_read]
  unfold rowOf
  simp only [word_read]
/-- The word a block's expert is looked up by, for the gate. -/
theorem wordg_read (t : Fin 496) : val_main_v17 (F := Ideal) ex (ix2 t 0) = wrap 64#32 (ex (ix1 t)) := by
  unfold wrap
  pointwise [val_main_v17, val_main_v16, val_main_v15, val_main_v14, val_main_v13, val_main_v12, val_main_c_1, val_main_c_2]
/-- The word a block's expert is looked up by, for the other factor. -/
theorem wordu_read (t : Fin 496) : val_main_v24 (F := Ideal) ex (ix2 t 0) = wrap 64#32 (ex (ix1 t)) := by
  unfold wrap
  pointwise [val_main_v24, val_main_v23, val_main_v22, val_main_v21, val_main_v20, val_main_v19, val_main_c_3, val_main_c_4]
/-- The word a block's expert is looked up by, for the output. -/
theorem wordd_read (t : Fin 496) : val_main_v31 (F := Ideal) ex (ix2 t 0) = wrap 64#32 (ex (ix1 t)) := by
  unfold wrap
  pointwise [val_main_v31, val_main_v30, val_main_v29, val_main_v28, val_main_v27, val_main_v26, val_main_c_5, val_main_c_6]
/-- A block's gate weight. -/
theorem wg_read (t : Fin 496) (k : Fin 2048) (h : Fin 512) : val_main_v18 ex wg (ix3 t k h) = wg (ix3 (expert (ex (ix1 t))) k h) := by
  refine (mat_apply (N := 64) (A := 2048) (B := 512) (R := 496) (by omega) _ wg (val_main_v17 (F := Ideal) ex) t k h).trans ?_
  unfold expert
  simp only [wordg_read]
/-- A block's other weight. -/
theorem wu_read (t : Fin 496) (k : Fin 2048) (h : Fin 512) : val_main_v25 ex wu (ix3 t k h) = wu (ix3 (expert (ex (ix1 t))) k h) := by
  refine (mat_apply (N := 64) (A := 2048) (B := 512) (R := 496) (by omega) _ wu (val_main_v24 (F := Ideal) ex) t k h).trans ?_
  unfold expert
  simp only [wordu_read]
/-- A block's output weight. -/
theorem wd_read (t : Fin 496) (h : Fin 512) (k : Fin 2048) : val_main_v32 ex wd (ix3 t h k) = wd (ix3 (expert (ex (ix1 t))) h k) := by
  refine (mat_apply (N := 64) (A := 512) (B := 2048) (R := 496) (by omega) _ wd (val_main_v31 (F := Ideal) ex) t h k).trans ?_
  unfold expert
  simp only [wordd_read]

/-- The gate's product at a row. -/
theorem gate_read (t : Fin 496) (a : Fin 256) (h : Fin 512) : val_main_v33 f tk ex wg (ix3 t a h)
    = ∑ k : Fin 2048, val_main_v11 f tk (ix3 t a k) * val_main_v18 ex wg (ix3 t k h) := by
  pointwise [val_main_v33]
/-- The other factor's product at a row. -/
theorem up_read (t : Fin 496) (a : Fin 256) (h : Fin 512) : val_main_v35 f tk ex wu (ix3 t a h)
    = ∑ k : Fin 2048, val_main_v11 f tk (ix3 t a k) * val_main_v25 ex wu (ix3 t k h) := by
  pointwise [val_main_v35]
/-- The hidden unit at a row. -/
theorem hid_read (t : Fin 496) (a : Fin 256) (h : Fin 512) : val_main_v36 f tk ex wg wu (ix3 t a h)
    = GateMath.silu (val_main_v33 f tk ex wg (ix3 t a h)) * val_main_v35 f tk ex wu (ix3 t a h) := by
  unfold GateMath.silu
  pointwise [val_main_v36, val_main_v34, val_main_call0_v5, val_main_call0_v4, val_main_call0_v3, val_main_call0_v2, val_main_call0_v1, val_main_call0_v0, val_main_call0_cst, val_main_call0_cst_0]
/-- The expert's output at a row. -/
theorem y_read (t : Fin 496) (a : Fin 256) (k : Fin 2048) : val_main_v37 f tk ex wg wu wd (ix3 t a k)
    = ∑ h : Fin 512, val_main_v36 f tk ex wg wu (ix3 t a h) * val_main_v32 ex wd (ix3 t h k) := by
  pointwise [val_main_v37]
/-- The expert's output at a row times the row's gate. -/
theorem s_read (t : Fin 496) (a : Fin 256) (k : Fin 2048) : val_main_v40 f tk gt ex wg wu wd (ix3 t a k)
    = val_main_v37 f tk ex wg wu wd (ix3 t a k) * gt (ix2 ⟨t.val * 256 + a.val, by omega⟩ 0) := by
  pointwise [val_main_v40, val_main_v39, val_main_v38, val_main_v4]
/-- The result at a row of a block. -/
theorem o_read (t : Fin 496) (a : Fin 256) (k : Fin 2048) : val_main_v42 f tk gt ex wg wu wd (ix2 ⟨t.val * 256 + a.val, by omega⟩ k)
    = val_main_v40 f tk gt ex wg wu wd (ix3 t a k) := by
  pointwise [val_main_v42, val_main_v41]

/-- A row of looked-up tokens through an expert. -/
def yrow (x : Fin 2048 → EReal) (e : Fin 64) (k : Fin 2048) : EReal :=
  ∑ h : Fin 512, (GateMath.silu (∑ k : Fin 2048, x k * wg (ix3 e k h)) * ∑ k : Fin 2048, x k * wu (ix3 e k h)) * wd (ix3 e h k)

/-- The result at a row of a block, from the arguments. -/
theorem out_read (t : Fin 496) (a : Fin 256) (k : Fin 2048) : val_main_v42 f tk gt ex wg wu wd (ix2 ⟨t.val * 256 + a.val, by omega⟩ k)
    = yrow wg wu wd (rowOf (N := 18432) (D := 2048) f 18433#32 (tk (ix1 ⟨t.val * 256 + a.val, by omega⟩))) (expert (ex (ix1 t))) k
      * gt (ix2 ⟨t.val * 256 + a.val, by omega⟩ 0) := by
  rw [o_read, s_read, y_read]
  unfold yrow
  simp only [hid_read, gate_read, up_read, wg_read, wu_read, wd_read, tok_read]

end Cert.MoeRead
end
-- ==== Proof.MoeValue.lean ====
/- The routed experts' result array after a run is the reference of the argument arrays, under the precondition on the
   plan. -/
module
public import proofs.«01_k».proof.Proof.MoeIdealWords
public import proofs.«01_k».proof.Proof.MoeRead
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.MoeIdeal.Routed
open Cert.MoeIdeal Cert.MoeIdeal.Gen
variable (m : (ℓ : Loc nD τ sig) → Buf (Elt Ideal) ℓ)

/-- A block's coordinate is its number. -/
theorem coord (t : Fin grid0.N) : (grid0.coords t 0).val = t.val := (by decide +kernel : ∀ t : Fin grid0.N, (grid0.coords t 0).val = t.val) t

/-- The windows that walk the rows are at the block's rows, the weights' at the block's expert. -/
theorem idx (hO : Ok m) (t : Fin (cfgM m hO).N) : ((cfgM m hO).win 0).index t = ![t.val, 0] ∧ ((cfgM m hO).win 1).index t = ![t.val, 0]
    ∧ ((cfgM m hO).win 2).index t = ![(ew m (grid0.coords t)).toNat, 0, 0] ∧ ((cfgM m hO).win 3).index t = ![(ew m (grid0.coords t)).toNat, 0, 0]
    ∧ ((cfgM m hO).win 4).index t = ![(ew m (grid0.coords t)).toNat, 0, 0] ∧ ((cfgM m hO).win 5).index t = ![t.val, 0] :=
  ⟨(by decide +kernel : ∀ t : Fin grid0.N, cc0_transform_0 (grid0.coords t) = ![t.val, 0]) t,
    (by decide +kernel : ∀ t : Fin grid0.N, cc0_transform_1 (grid0.coords t) = ![t.val, 0]) t,
    ix2_eq m _, ix3_eq m _, ix4_eq m _,
    (by decide +kernel : ∀ t : Fin grid0.N, cc0_transform_5 (grid0.coords t) = ![t.val, 0]) t⟩

/-- Every block is written back. -/
theorem flush5 (hO : Ok m) (t : Fin (cfgM m hO).N) : ((cfgM m hO).win 5).flush t = true :=
  (by decide +kernel : ∀ t : Fin grid0.N, Pipeline.Window.flushOf grid0 true cc0_transform_5 t = true) t

/-- The blocks written back cover the result. -/
theorem covers (hO : Ok m) : ((cfgM m hO).win 5).Covers := by
  refine ⟨fun a => ?_, fun β => ⟨⟨(β (0 : Fin 2)).val, lt_of_lt_of_eq (β (0 : Fin 2)).isLt (show (126976 + 256 - 1) / 256 = grid0.N by decide)⟩, flush5 m hO _, fun a => ⟨?_, Or.inl rfl⟩⟩⟩
  · match a with
    | ⟨0, _⟩ => exact (by decide : 0 < 256)
    | ⟨1, _⟩ => exact (by decide : 0 < 2048)
  · rw [(idx m hO _).2.2.2.2.2]
    match a with
    | ⟨0, _⟩ => rfl
    | ⟨1, h⟩ =>
      have hb : (β ⟨1, h⟩).val < 1 := lt_of_lt_of_eq (β ⟨1, h⟩).isLt (show (2048 + 2048 - 1) / 2048 = 1 by decide)
      show 0 = (β ⟨1, h⟩).val
      omega

/-- The gate's weight, as the kernel is handed it. -/
theorem V9 (c : Dev nD) : V m c main_v9 = truncf (F := Ideal) .bf16 (m ((c : Thread nD τ).loc main_arg5)) bitsLt_bf16_f32 := by
  show StableHlo.after hostOps0 _ (Proc.devRef .tc _) = _
  simp only [hostOps0]
  after_results_simp
/-- The other factor's weight, as the kernel is handed it. -/
theorem V10 (c : Dev nD) : V m c main_v10 = truncf (F := Ideal) .bf16 (m ((c : Thread nD τ).loc main_arg6)) bitsLt_bf16_f32 := by
  show StableHlo.after hostOps0 _ (Proc.devRef .tc _) = _
  simp only [hostOps0]
  after_results_simp
/-- The output weight, as the kernel is handed it. -/
theorem V11 (c : Dev nD) : V m c main_v11 = truncf (F := Ideal) .bf16 (m ((c : Thread nD τ).loc main_arg7)) bitsLt_bf16_f32 := by
  show StableHlo.after hostOps0 _ (Proc.devRef .tc _) = _
  simp only [hostOps0]
  after_results_simp

/-- The table of tokens with the zero row after it, as the kernel's rows are looked up in it. -/
def table (f : FVec Ideal S18432x2048 .bf16) : FVec Ideal S18433x2048 .bf16 :=
  concatenate S18433x2048 0 [⟨S18432x2048, f⟩, ⟨S1x2048, broadcastInDim S1x2048 ![] bcast_S_S1x2048 (constant (F := Ideal) S_ .bf16 0x0000#16)⟩] concatenates_S18432x2048_S1x2048_S18433x2048_d0
/-- The words the rows are looked up by. -/
def words (tk : IVec S126976 32) : IVec S126976x1 32 :=
  broadcastInDim S126976x1 ![0] bcast_S126976_S126976x1_0
    (select (cmpi .slt tk (broadcastInDim S126976 ![] bcast_S_S126976 (constantI S_ 32 0#32)))
      (addi tk (broadcastInDim S126976 ![] bcast_S_S126976 (constantI S_ 32 18433#32))) tk)

/-- The looked-up rows, as the kernel is handed them. -/
theorem V8 (c : Dev nD) : V m c main_v8 = Host.gather gather_S18433x2048_S126976x1_S126976x2048_1_0_n_n_0_1_12048
    (table (m ((c : Thread nD τ).loc main_arg0))) (words (m ((c : Thread nD τ).loc main_arg1))) := by
  show StableHlo.after hostOps0 _ (Proc.devRef .tc _) = _
  simp only [hostOps0]
  after_results_simp
  rfl

/-- The table at an index. -/
theorem table_at (f : FVec Ideal S18432x2048 .bf16) (r : Fin 18433) (k : Fin 2048) :
    table f (ix2 r k) = if h : r.val < 18432 then (f (ix2 ⟨r.val, h⟩ k) : EReal) else 0 := by
  pointwise [table]
/-- A row's word. -/
theorem words_at (tk : IVec S126976 32) (i : Fin 126976) : words tk (ix2 i 0) = GatherMath.wrap 18433#32 (tk (ix1 i)) := by
  unfold GatherMath.wrap
  pointwise [words]
/-- A looked-up row. -/
theorem rows_at (f : FVec Ideal S18432x2048 .bf16) (tk : IVec S126976 32) (i : Fin 126976) (k : Fin 2048) :
    Host.gather gather_S18433x2048_S126976x1_S126976x2048_1_0_n_n_0_1_12048 (table f) (words tk) (ix2 i k)
      = GatherMath.rowOf (N := 18432) (D := 2048) f 18433#32 (tk (ix1 i)) k := by
  refine (GatherMath.rows_apply (N := 18433) (D := 2048) (M := 126976) (by omega) _ (table f) (words tk) i k).trans ?_
  rw [table_at]
  unfold GatherMath.rowOf
  simp only [words_at]

/-- The rows' block at a grid point. -/
theorem read0 (hO : Ok m) (c : Dev nD) (t : Fin (cfgM m hO).N) (a : Fin 256) (k : Fin 2048) :
    iblk m hO c 0 t (ix2 a k) = GatherMath.rowOf (N := 18432) (D := 2048) (m ((c : Thread nD τ).loc main_arg0)) 18433#32
      (m ((c : Thread nD τ).loc main_arg1) (ix1 ⟨t.val * 256 + a.val, by have : t.val < 496 := t.isLt; omega⟩)) k := by
  have e : iblk m hO c 0 t (ix2 a k) = V m c main_v8 (ix2 ⟨t.val * 256 + a.val, by have : t.val < 496 := t.isLt; omega⟩ k) := by
    blk_ext [iblk, idx m hO t]
  rw [e, V8]
  exact rows_at _ _ _ k
/-- The gates' block. -/
theorem read1 (hO : Ok m) (c : Dev nD) (t : Fin (cfgM m hO).N) (a : Fin 256) :
    iblk m hO c 1 t (ix2 a 0) = m ((c : Thread nD τ).loc main_arg2) (ix2 ⟨t.val * 256 + a.val, by have : t.val < 496 := t.isLt; omega⟩ 0) := by
  rw [← V_main_arg2 m c]
  blk_ext [iblk, idx m hO t]
/-- The gate's weight at a grid point is the block's expert's. -/
theorem read2 (hO : Ok m) (c : Dev nD) (t : Fin (cfgM m hO).N) (hr : (ew m (grid0.coords t)).toNat < 64) (k : Fin 2048) (h : Fin 512) :
    iblk m hO c 2 t (ix3 0 k h) = m ((c : Thread nD τ).loc main_arg5) (ix3 ⟨(ew m (grid0.coords t)).toNat, hr⟩ k h) := by
  have e : iblk m hO c 2 t (ix3 0 k h) = V m c main_v9 (ix3 ⟨(ew m (grid0.coords t)).toNat, hr⟩ k h) := by blk_ext [iblk, idx m hO t]
  rw [e, V9]
  pointwise []
/-- The other weight at a grid point is the block's expert's. -/
theorem read3 (hO : Ok m) (c : Dev nD) (t : Fin (cfgM m hO).N) (hr : (ew m (grid0.coords t)).toNat < 64) (k : Fin 2048) (h : Fin 512) :
    iblk m hO c 3 t (ix3 0 k h) = m ((c : Thread nD τ).loc main_arg6) (ix3 ⟨(ew m (grid0.coords t)).toNat, hr⟩ k h) := by
  have e : iblk m hO c 3 t (ix3 0 k h) = V m c main_v10 (ix3 ⟨(ew m (grid0.coords t)).toNat, hr⟩ k h) := by blk_ext [iblk, idx m hO t]
  rw [e, V10]
  pointwise []
/-- The output weight at a grid point is the block's expert's. -/
theorem read4 (hO : Ok m) (c : Dev nD) (t : Fin (cfgM m hO).N) (hr : (ew m (grid0.coords t)).toNat < 64) (h : Fin 512) (k : Fin 2048) :
    iblk m hO c 4 t (ix3 0 h k) = m ((c : Thread nD τ).loc main_arg7) (ix3 ⟨(ew m (grid0.coords t)).toNat, hr⟩ h k) := by
  have e : iblk m hO c 4 t (ix3 0 h k) = V m c main_v11 (ix3 ⟨(ew m (grid0.coords t)).toNat, hr⟩ h k) := by blk_ext [iblk, idx m hO t]
  rw [e, V11]
  pointwise []

section
variable (x0 : Vec Ideal S256x2048 .bf16) (x1 : Vec Ideal S256x1 .f32) (x2 x3 : Vec Ideal S1x2048x512 .bf16) (x4 : Vec Ideal S1x512x2048 .bf16)

/-- The block a grid point marked valid stores, from the blocks it loads. -/
theorem pay_valid (a : Fin 256) (k : Fin 2048) : k0_pay1 (F := Ideal) x0 x2 x3 x4 x1 (ix2 a k)
    = (∑ h : Fin 512, (GateMath.silu (∑ k : Fin 2048, (x0 (ix2 a k) : EReal) * x2 (ix3 0 k h)) * ∑ k : Fin 2048, (x0 (ix2 a k) : EReal) * x3 (ix3 0 k h)) * x4 (ix3 0 h k))
      * x1 (ix2 a 0) := by
  simp only [← GateMath.silu_quot]
  pointwise [k0_pay1]
/-- The block a grid point marked empty stores. -/
theorem pay_empty (a : Fin 256) (k : Fin 2048) : k0_pay2 (F := Ideal) (ix2 a k) = (0 : EReal) := by
  pointwise [k0_pay2]
end

/-- What a grid point stores at a block index is the reference at the array index it sits at. -/
theorem point [Cert.Pre_plan_in_range.Facts] (hP : Cert.Pre_MoeIdeal m) (hO : Ok m) (c : Dev nD) (t : Fin (cfgM m hO).N) (a : Fin 256) (k : Fin 2048) :
    outsAt0 m hO c t (ix2 a k)
      = Cert.MoeRefIdeal.Read.val_main_v42 (F := Ideal) (m ((c : Thread nD τ).loc main_arg0)) (m ((c : Thread nD τ).loc main_arg1))
          (m ((c : Thread nD τ).loc main_arg2)) (m ((c : Thread nD τ).loc main_arg3)) (m ((c : Thread nD τ).loc main_arg5))
          (m ((c : Thread nD τ).loc main_arg6)) (m ((c : Thread nD τ).loc main_arg7))
          (ix2 ⟨t.val * 256 + a.val, by have : t.val < 496 := t.isLt; omega⟩ k) := by
  obtain rfl : c = 0 := Subsingleton.elim _ _
  have hi : (ix1 ⟨(grid0.coords t 0).val, (grid0.coords t 0).isLt⟩ : S496.Idx) = ix1 ⟨t.val, t.isLt⟩ :=
    congrArg ix1 (Fin.ext (coord t))
  have he : ew m (grid0.coords t) = m (((0 : Dev nD) : Thread nD τ).loc main_arg3) (ix1 ⟨t.val, t.isLt⟩) := congrArg _ hi
  have hw : word 0 (grid0.coords t) (tbl m 1) = m (((0 : Dev nD) : Thread nD τ).loc main_arg4) (ix1 ⟨t.val, t.isLt⟩) := (word_eq m 0 _).trans (congrArg _ hi)
  have hx := MoePlan.expert_range _ _ _ _ _ _ _ _ (hP 0).1 (ix1 ⟨t.val, t.isLt⟩)
  have hn := GatherMath.wrap_expert _ hx.1 hx.2
  have hr : (ew m (grid0.coords t)).toNat < 64 := by rw [he]; exact hn.1
  have hE : (⟨(ew m (grid0.coords t)).toNat, hr⟩ : Fin 64) = MoeRead.expert (m (((0 : Dev nD) : Thread nD τ).loc main_arg3) (ix1 ⟨t.val, t.isLt⟩)) := by
    refine Fin.ext ?_
    show (ew m (grid0.coords t)).toNat = _
    rw [he]
    exact hn.2.symm
  refine Eq.trans ?_ (MoeRead.out_read _ _ _ _ _ _ _ ⟨t.val, t.isLt⟩ a k).symm
  unfold outsAt0 blockOut
  rw [hw]
  by_cases hv : m (((0 : Dev nD) : Thread nD τ).loc main_arg4) (ix1 ⟨t.val, t.isLt⟩) = 0#32
  · rw [if_neg (fun hc => (cond1_iff _).1 hc hv)]
    refine (pay_empty a k).trans ?_
    rw [MoePlan.gate_zero _ _ _ _ _ _ _ _ (hP 0).2 ⟨t.val, t.isLt⟩ a hv, mul_zero]
  · rw [if_pos ((cond1_iff _).2 hv)]
    refine (pay_valid _ _ _ _ _ a k).trans ?_
    unfold MoeRead.yrow
    rw [← hE]
    simp only [read0, read1, read2 m hO 0 t hr, read3 m hO 0 t hr, read4 m hO 0 t hr]

/-- The result array after the run is the reference's. -/
theorem final [Cert.Pre_plan_in_range.Facts] (hP : Cert.Pre_MoeIdeal m) (hO : Ok m) (c : Dev nD) : (dats m hO 0 c).arrAt 5 (cfgM m hO).N
    = Cert.MoeRefIdeal.Read.val_main_v42 (F := Ideal) (m ((c : Thread nD τ).loc main_arg0)) (m ((c : Thread nD τ).loc main_arg1))
          (m ((c : Thread nD τ).loc main_arg2)) (m ((c : Thread nD τ).loc main_arg3)) (m ((c : Thread nD τ).loc main_arg5))
          (m ((c : Thread nD τ).loc main_arg6)) (m ((c : Thread nD τ).loc main_arg7)) := by
  refine (dats m hO 0 c).arrAt_eq_of_covers 5 _ (covers m hO) fun t _ (y : S256x2048.Idx) => ?_
  blk_simp
  rw [after0_5]
  idx_vars y
  refine (point m hP hO c t _ _).trans ?_
  blk_ext [idx m hO t]

end Cert.MoeIdeal.Routed
end
-- ==== Proof.MoeClaim.lean ====
/- What is claimed of `Moe`, put together: the frames of the program, of its reading over the extended reals and of
   the reference, and that the two readings end with equal results. -/
module

public import proofs.«01_k».proof.Defs
public import proofs.«01_k».proof.Proof.Gen.MoeRefIdeal.Run
public import proofs.«01_k».proof.Proof.Gen.MoeRefIdeal.Read
public import proofs.«01_k».proof.Proof.MoeWords
public import proofs.«01_k».proof.Proof.MoeValue
public import proofs.«01_k».proof.Proof.Gen.Pre_plan_in_range
public import Idealize.ShloMosaic.Lib.Quiescent

@[expose] public section

noncomputable section

namespace Cert.Proof.Moe

open Idealize.ShloMosaic Idealize.SL.Sem

/-- The reference ends with its arguments unchanged and, declaring no semaphore, with every counter at zero. -/
theorem ref_frame (m : (ℓ : Loc Cert.MoeRefIdeal.nD Cert.MoeRefIdeal.τ Cert.MoeRefIdeal.sig) → Buf (Elt Ideal) ℓ) (g : Dev Cert.MoeRefIdeal.nD → PrngReg) :
    θ_run (Cert.MoeRefIdeal.defs (F := Ideal)) (onTc (τ := Cert.MoeRefIdeal.τ) (Cert.MoeRefIdeal.main (F := Ideal))) ⟨m, fun _ => 0, g⟩ (fun r =>
      (∀ c : Dev Cert.MoeRefIdeal.nD, r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
        ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
        ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
        ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
        ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
        ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5)
        ∧ r.2.mem ((c.tc : Thread Cert.MoeRefIdeal.nD Cert.MoeRefIdeal.τ).loc Cert.MoeRefIdeal.main_arg6) = m ((c.tc : Thread Cert.MoeRefIdeal.nD Cert.MoeRefIdeal.τ).loc Cert.MoeRefIdeal.main_arg6)
        ∧ r.2.mem ((c.tc : Thread Cert.MoeRefIdeal.nD Cert.MoeRefIdeal.τ).loc Cert.MoeRefIdeal.main_arg7) = m ((c.tc : Thread Cert.MoeRefIdeal.nD Cert.MoeRefIdeal.τ).loc Cert.MoeRefIdeal.main_arg7))
      ∧ r.2.sem = fun _ => 0) :=
  (θ_run (Cert.MoeRefIdeal.defs (F := Ideal)) _ _).mono
    (fun r h => ⟨fun c => (h c).2, sem_eq_zero_of_no_sems (by decide) r.2⟩) (Cert.MoeRefIdeal.Value.run m g)

/-- The program's arguments end unchanged and its counters at zero, under the precondition on the plan. -/
theorem frame [Cert.Moe.Facts] [Cert.Pre_plan_in_range.Facts] : Cert.quiescent_Moe :=
  fun m g h => Cert.Moe.Routed.frame m g (Cert.Moe.Routed.ok_of_pre m h)

/-- So do those of its reading over the extended reals. -/
theorem frame_ideal [Cert.MoeIdeal.Facts] [Cert.Pre_plan_in_range.Facts] : Cert.quiescent_MoeIdeal :=
  fun m g h => Cert.MoeIdeal.Routed.frame m g (Cert.MoeIdeal.Routed.ok_of_pre m h)

/-- A run of the reading over the extended reals ends with the result array at what its blocks wrote and the arguments
    unchanged. -/
theorem run_blocks (m : (ℓ : Loc Cert.MoeIdeal.nD Cert.MoeIdeal.τ Cert.MoeIdeal.sig) → Buf (Elt Ideal) ℓ) (g : Dev Cert.MoeIdeal.nD → PrngReg)
    (hO : Cert.MoeIdeal.Routed.Ok m) :
    θ_run (Cert.MoeIdeal.defs (F := Ideal)) (onTc (τ := Cert.MoeIdeal.τ) (Cert.MoeIdeal.main (F := Ideal))) ⟨m, fun _ => 0, g⟩ (fun r => ∀ c : Dev Cert.MoeIdeal.nD,
      r.2.mem ((c.tc : Thread Cert.MoeIdeal.nD Cert.MoeIdeal.τ).loc Cert.MoeIdeal.main_v12) = (Cert.MoeIdeal.Routed.dats m hO 0 c).arrAt 5 (Cert.MoeIdeal.Routed.cfgM m hO).N
        ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
        ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
        ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
        ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
        ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
        ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5)
        ∧ r.2.mem ((c.tc : Thread Cert.MoeIdeal.nD Cert.MoeIdeal.τ).loc Cert.MoeIdeal.main_arg6) = m ((c.tc : Thread Cert.MoeIdeal.nD Cert.MoeIdeal.τ).loc Cert.MoeIdeal.main_arg6)
        ∧ r.2.mem ((c.tc : Thread Cert.MoeIdeal.nD Cert.MoeIdeal.τ).loc Cert.MoeIdeal.main_arg7) = m ((c.tc : Thread Cert.MoeIdeal.nD Cert.MoeIdeal.τ).loc Cert.MoeIdeal.main_arg7)) :=
  (θ_run (Cert.MoeIdeal.defs (F := Ideal)) _ _).mono (fun r h c => ⟨(h.1 c).1 5, h.2 c⟩)
    (θ_run_and (Cert.MoeIdeal.Routed.run_main m g hO) (Cert.MoeIdeal.Routed.unchanged m g hO))

/-- The two readings end with equal results and unchanged arguments. -/
theorem algebraic [Cert.MoeIdeal.Facts] [Cert.MoeRefIdeal.Facts] [Cert.Pre_plan_in_range.Facts] : Cert.algebraic_MoeIdeal_MoeRefIdeal := by
  intro m g m' g' hpre hagree
  refine ⟨fun c => Cert.MoeRefIdeal.Read.val_main_v42 (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg5)) (m ((c.tc : Thread Cert.MoeIdeal.nD Cert.MoeIdeal.τ).loc Cert.MoeIdeal.main_arg6)) (m ((c.tc : Thread Cert.MoeIdeal.nD Cert.MoeIdeal.τ).loc Cert.MoeIdeal.main_arg7)), ?_, ?_⟩
  · refine (θ_run (Cert.MoeIdeal.defs (F := Ideal)) _ _).mono (fun r h c => ?_) (run_blocks m g (Cert.MoeIdeal.Routed.ok_of_pre m hpre))
    exact ⟨(h c).1.trans (Cert.MoeIdeal.Routed.final m hpre (Cert.MoeIdeal.Routed.ok_of_pre m hpre) c), (h c).2⟩
  · exact (θ_run (Cert.MoeRefIdeal.defs (F := Ideal)) _ _).mono
      (fun r h c => ⟨(h c).1.trans ((Cert.MoeRefIdeal.Read.val_main_v42_eq m' c).trans (by rw [(hagree c).1, (hagree c).2.1, (hagree c).2.2.1, (hagree c).2.2.2.1, (hagree c).2.2.2.2.2.1, (hagree c).2.2.2.2.2.2.1, (hagree c).2.2.2.2.2.2.2])), (h c).2⟩)
      (Cert.MoeRefIdeal.Value.run m' g')

end Cert.Proof.Moe

end
-- ==== Proof.InProjRead.lean ====
module
public import proofs.«01_k».proof.Proof.Gen.InProjRefIdeal.Read
public import proofs.«01_k».proof.Proof.NormMath
public import Idealize.ShloMosaic.Lib.Pointwise

@[expose] public section
set_option maxRecDepth 16384
noncomputable section
open Idealize.ShloMosaic Idealize.ShloMosaic.TcCoe Idealize.SL.Sem
namespace Cert.InProjRead
open Cert.InProjRefIdeal Cert.InProjRefIdeal.Gen Cert.InProjRefIdeal.Read

abbrev X := (⟨S18432x2048, .f32⟩ : BufTy).Contents (Elt Ideal)
abbrev G := (⟨S2048, .f32⟩ : BufTy).Contents (Elt Ideal)
abbrev M := (⟨S16x6x2048, .f32⟩ : BufTy).Contents (Elt Ideal)
abbrev W := (⟨S2048x3904, .f32⟩ : BufTy).Contents (Elt Ideal)

/-- The sum of a latent row's squares. -/
theorem ss_lat (x : X) (b : Fin 8) (r : Fin 2048) :
    val_main_v5 x (ix2 b r) = ∑ j : Fin 2048, (x (ix2 ⟨b.val * 2048 + r.val, by omega⟩ j) : EReal) * x (ix2 ⟨b.val * 2048 + r.val, by omega⟩ j) := by
  pointwise [val_main_v5, val_main_v4, val_main_v1, val_main_v0, val_main_cst]

/-- The sum of a context row's squares. -/
theorem ss_ctx (x : X) (b : Fin 8) (r : Fin 256) :
    val_main_v30 x (ix2 b r) = ∑ j : Fin 2048, (x (ix2 ⟨16384 + (b.val * 256 + r.val), by omega⟩ j) : EReal) * x (ix2 ⟨16384 + (b.val * 256 + r.val), by omega⟩ j) := by
  pointwise [val_main_v30, val_main_v29, val_main_v3, val_main_v2, val_main_cst_3]

/-- A latent row after the norm and its batch's scale and shift. -/
theorem h_lat (x : X) (g : G) (md : M) (b : Fin 8) (r : Fin 2048) (k : Fin 2048) :
    val_main_v28 x g md (ix3 b r k) = NormMath.modulated (fun k => x (ix2 ⟨b.val * 2048 + r.val, by omega⟩ k)) (fun k => g (ix1 k))
      (fun k => md (ix3 ⟨b.val, by omega⟩ 1 k)) (fun k => md (ix3 ⟨b.val, by omega⟩ 0 k)) k := by
  unfold NormMath.modulated NormMath.norm
  rw [← ss_lat]
  pointwise [val_main_v28, val_main_v27, val_main_v26, val_main_v25, val_main_v24, val_main_v23, val_main_v22, val_main_v21, val_main_v20,
    val_main_v19, val_main_v18, val_main_v17, val_main_v16, val_main_v15, val_main_v14, val_main_v13, val_main_v12, val_main_v11, val_main_v10,
    val_main_v9, val_main_v8, val_main_v7, val_main_v6, val_main_v1, val_main_v0, val_main_cst_0, val_main_cst_1, val_main_cst_2]

/-- A context row after the norm and the context's scale and shift. -/
theorem h_ctx (x : X) (g : G) (md : M) (b : Fin 8) (r : Fin 256) (k : Fin 2048) :
    val_main_v53 x g md (ix3 b r k) = NormMath.modulated (fun k => x (ix2 ⟨16384 + (b.val * 256 + r.val), by omega⟩ k)) (fun k => g (ix1 k))
      (fun k => md (ix3 8 1 k)) (fun k => md (ix3 8 0 k)) k := by
  unfold NormMath.modulated NormMath.norm
  rw [← ss_ctx]
  pointwise [val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36, val_main_v35,
    val_main_v34, val_main_v33, val_main_v32, val_main_v31, val_main_v3, val_main_v2, val_main_cst_4, val_main_cst_5, val_main_cst_6]

/-- A latent row's projection. -/
theorem p_lat (x : X) (g : G) (md : M) (w : W) (b : Fin 8) (r : Fin 2048) (j : Fin 3904) :
    val_main_v58 x g md w (ix2 ⟨b.val * 2048 + r.val, by omega⟩ j) = ∑ k : Fin 2048, val_main_v28 x g md (ix3 b r k) * w (ix2 k j) := by
  pointwise [val_main_v58, val_main_v57, val_main_v56, val_main_v55, val_main_v54]
  exact dif_pos (by omega)

/-- The joined rows past the latent ones are the context's. -/
theorem join_ctx (x : X) (g : G) (md : M) (w : W) (i : Fin 2048) (j : Fin 3904) :
    val_main_v58 x g md w (ix2 ⟨16384 + i.val, by omega⟩ j) = val_main_v57 x g md w (ix2 i j) := by
  pointwise [val_main_v58]

/-- A context row's projection. -/
theorem p_ctx (x : X) (g : G) (md : M) (w : W) (b : Fin 8) (r : Fin 256) (j : Fin 3904) :
    val_main_v58 x g md w (ix2 ⟨16384 + (b.val * 256 + r.val), by omega⟩ j) = ∑ k : Fin 2048, val_main_v53 x g md (ix3 b r k) * w (ix2 k j) := by
  refine (join_ctx x g md w ⟨b.val * 256 + r.val, by omega⟩ j).trans ?_
  pointwise [val_main_v57, val_main_v55]

/-- Which row of the modulation table a token row reads. -/
def sel (i : Fin 18432) : Fin 16 := if h : i.val < 16384 then ⟨i.val / 2048, by omega⟩ else 8

/-- Any row's projection. -/
theorem p_read (x : X) (g : G) (md : M) (w : W) (i : Fin 18432) (j : Fin 3904) :
    val_main_v58 x g md w (ix2 i j) = ∑ k : Fin 2048, NormMath.modulated (fun k => x (ix2 i k)) (fun k => g (ix1 k))
      (fun k => md (ix3 (sel i) 1 k)) (fun k => md (ix3 (sel i) 0 k)) k * w (ix2 k j) := by
  by_cases h : i.val < 16384
  · have hi : i = ⟨(⟨i.val / 2048, by omega⟩ : Fin 8).val * 2048 + (⟨i.val % 2048, by omega⟩ : Fin 2048).val, by simp only; omega⟩ := Fin.ext (by simp only; omega)
    have hs : sel i = ⟨(⟨i.val / 2048, by omega⟩ : Fin 8).val, by simp only; omega⟩ := by unfold sel; rw [dif_pos h]
    rw [hs]
    conv_lhs => rw [hi]
    rw [p_lat]
    refine Finset.sum_congr rfl fun k _ => ?_
    rw [h_lat, ← hi]
  · have hi : i = ⟨16384 + ((⟨(i.val - 16384) / 256, by omega⟩ : Fin 8).val * 256 + (⟨(i.val - 16384) % 256, by omega⟩ : Fin 256).val), by simp only; omega⟩ := Fin.ext (by simp only; omega)
    have hs : sel i = 8 := by unfold sel; rw [dif_neg h]
    rw [hs]
    conv_lhs => rw [hi]
    rw [p_ctx]
    refine Finset.sum_congr rfl fun k _ => ?_
    rw [h_ctx, ← hi]

/-- The first columns of the result: the projection's own. -/
theorem out_a (x : X) (g : G) (md : M) (w : W) (i : Fin 18432) (j : Fin 3328) :
    val_main_v68 x g md w (ix2 i ⟨j.val, by omega⟩) = val_main_v58 x g md w (ix2 i ⟨j.val, by omega⟩) := by
  pointwise [val_main_v68, val_main_v67, val_main_v66, val_main_v65, val_main_v64, val_main_v63, val_main_v62, val_main_v61, val_main_v60, val_main_v59]
  split_ifs <;> first | (exfalso; omega) | exact congrArg _ (congrArg (ix2 i) (Fin.ext (by (try simp only) <;> omega)))
/-- The next columns: the grouped keys and values, 64 columns further on in the projection. -/
theorem out_b (x : X) (g : G) (md : M) (w : W) (i : Fin 18432) (j : Fin 512) :
    val_main_v68 x g md w (ix2 i ⟨3328 + j.val, by omega⟩) = val_main_v58 x g md w (ix2 i ⟨3392 + j.val, by omega⟩) := by
  pointwise [val_main_v68, val_main_v67, val_main_v66, val_main_v65, val_main_v64, val_main_v63, val_main_v62, val_main_v61, val_main_v60, val_main_v59]
  split_ifs <;> first | (exfalso; omega) | exact congrArg _ (congrArg (ix2 i) (Fin.ext (by (try simp only) <;> omega)))
/-- The next columns: the rotary key. -/
theorem out_c (x : X) (g : G) (md : M) (w : W) (i : Fin 18432) (j : Fin 64) :
    val_main_v68 x g md w (ix2 i ⟨3840 + j.val, by omega⟩) = val_main_v58 x g md w (ix2 i ⟨3328 + j.val, by omega⟩) := by
  pointwise [val_main_v68, val_main_v67, val_main_v66, val_main_v65, val_main_v64, val_main_v63, val_main_v62, val_main_v61, val_main_v60, val_main_v59]
  split_ifs <;> first | (exfalso; omega) | exact congrArg _ (congrArg (ix2 i) (Fin.ext (by (try simp only) <;> omega)))
/-- The last columns: zeros. -/
theorem out_d (x : X) (g : G) (md : M) (w : W) (i : Fin 18432) (j : Fin 64) :
    val_main_v68 x g md w (ix2 i ⟨3904 + j.val, by omega⟩) = (0 : EReal) := by
  pointwise [val_main_v68, val_main_v67, val_main_v66, val_main_v65, val_main_v64, val_main_v63, val_main_v62, val_main_v61, val_main_v60, val_main_v59, val_main_cst_7]
  split_ifs <;> first | (exfalso; omega) | simp [Ideal.ofBits, Ideal.ieee]

end Cert.InProjRead
end
-- ==== Proof.InProjValue.lean ====
module
public import proofs.«01_k».proof.Proof.Gen.InProjIdeal.Frame
public import proofs.«01_k».proof.Proof.NormMath
public import proofs.«01_k».proof.Proof.InProjRead
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.InProjIdeal.Value
open Cert.InProjIdeal Cert.InProjIdeal.Gen
variable (m : (ℓ : Loc nD τ sig) → Buf (Elt Ideal) ℓ)

/-- The windows' block indices at every grid point: the row tile, and the modulation row the tile's tokens share. -/
theorem idx : ∀ t : Fin cfg0.N, win0_0.index t = ![t.val, 0]
    ∧ win0_1.index t = ![0, 0] ∧ win0_2.index t = ![if t.val < 32 then t.val / 4 else 8, 0, 0] ∧ win0_3.index t = ![0, 0]
    ∧ win0_4.index t = ![t.val, 0] :=
  (by decide +kernel : ∀ t : Fin grid0.N, _)

/-- The weight's columns in the order the kernel takes them, with 64 columns of zeros at the end. -/
def packed (w : FVec Ideal S2048x3904 .f32) : FVec Ideal S2048x3968 .bf16 :=
  truncf .bf16 (concatenate S2048x3968 1 [⟨S2048x3072, extractStridedSlice S2048x3072 ![0, 0] w slices_S2048x3904_S2048x3072_0_0⟩,
    ⟨S2048x256, extractStridedSlice S2048x256 ![0, 3072] w slices_S2048x3904_S2048x256_0_3072⟩,
    ⟨S2048x512, extractStridedSlice S2048x512 ![0, 3392] w slices_S2048x3904_S2048x512_0_3392⟩,
    ⟨S2048x128, pad S2048x128 ![0, 0] ![0, 64] ![0, 0] (extractStridedSlice S2048x64 ![0, 3328] w slices_S2048x3904_S2048x64_0_3328)
      (sitofp (F := Ideal) .f32 (constantI S_ 32 0#32)) pads_S2048x64_S2048x128_000_0640 h_S_⟩]
    concatenates_S2048x3072_S2048x256_S2048x512_S2048x128_S2048x3968_d1) bitsLt_bf16_f32

/-- The weight array the kernel is handed. -/
theorem V7 (c : Dev nD) : V m c main_v7 = packed (m ((c : Thread nD τ).loc main_arg3)) := by
  show StableHlo.after (List.flatten [hostOps0, hostOps0_1, hostOps0_2]) _ (Proc.devRef .tc _) = _
  simp only [List.flatten_cons, List.flatten_nil, List.append_nil, List.cons_append, List.nil_append, hostOps0, hostOps0_1, hostOps0_2]
  after_results_simp
  rfl

/-- The gain the kernel is handed: the same numbers as one row. -/
theorem V0 (c : Dev nD) : V m c main_v0 = shapeCast S1x2048 (m ((c : Thread nD τ).loc main_arg1)) shapeCasts_S2048_S1x2048 := by
  show StableHlo.after (List.flatten [hostOps0, hostOps0_1, hostOps0_2]) _ (Proc.devRef .tc _) = _
  simp only [List.flatten_cons, List.flatten_nil, List.append_nil, List.cons_append, List.nil_append, hostOps0, hostOps0_1, hostOps0_2]
  after_results_simp
  rfl

/-- The packed weight's first columns. -/
theorem packed_a (w : FVec Ideal S2048x3904 .f32) (k : Fin 2048) (j : Fin 3328) :
    packed w (ix2 k ⟨j.val, by omega⟩) = w (ix2 k ⟨j.val, by omega⟩) := by
  pointwise [packed, hlo_ix]
  split_ifs <;> first | (exfalso; omega) | exact congrArg w (congrArg (ix2 k) (Fin.ext (by (try simp only) <;> omega)))
/-- The packed weight's next columns: keys and values. -/
theorem packed_b (w : FVec Ideal S2048x3904 .f32) (k : Fin 2048) (j : Fin 512) :
    packed w (ix2 k ⟨3328 + j.val, by omega⟩) = w (ix2 k ⟨3392 + j.val, by omega⟩) := by
  pointwise [packed, hlo_ix]
  split_ifs <;> first | (exfalso; omega) | exact congrArg w (congrArg (ix2 k) (Fin.ext (by (try simp only) <;> omega)))
/-- The packed weight's next columns: the rotary key. -/
theorem packed_c (w : FVec Ideal S2048x3904 .f32) (k : Fin 2048) (j : Fin 64) :
    packed w (ix2 k ⟨3840 + j.val, by omega⟩) = w (ix2 k ⟨3328 + j.val, by omega⟩) := by
  pointwise [packed, hlo_ix]
  split_ifs <;> first | (exfalso; omega) | exact congrArg w (congrArg (ix2 k) (Fin.ext (by (try simp only) <;> omega)))
/-- The packed weight's last columns: zeros. -/
theorem packed_d (w : FVec Ideal S2048x3904 .f32) (k : Fin 2048) (j : Fin 64) :
    packed w (ix2 k ⟨3904 + j.val, by omega⟩) = (0 : EReal) := by
  pointwise [packed, hlo_ix]
  split_ifs <;> first | (exfalso; omega) | exact (by simp : (((0#32).toInt : ℝ) : EReal) = 0)

/-- The token block at a grid point. -/
theorem read0 (c : Dev nD) (t : Fin cfg0.N) (a : Fin 512) (k : Fin 2048) :
    iblk m c 0 t (ix2 a k) = m ((c : Thread nD τ).loc main_arg0) (ix2 ⟨t.val * 512 + a.val, by have : t.val < 36 := t.isLt; omega⟩ k) := by
  rw [← V_main_arg0 m c]
  blk_ext [iblk, idx t]
/-- The gain at a grid point. -/
theorem read1 (c : Dev nD) (t : Fin cfg0.N) (k : Fin 2048) :
    iblk m c 1 t (ix2 0 k) = m ((c : Thread nD τ).loc main_arg1) (ix1 k) := by
  have h : iblk m c 1 t (ix2 0 k) = V m c main_v0 (ix2 0 k) := by blk_ext [iblk, idx t]
  rw [h, V0]
  pointwise []
/-- The modulation block at a grid point is the row its tokens read. -/
theorem read2 (c : Dev nD) (t : Fin cfg0.N) (a : Fin 512) (q : Fin 6) (k : Fin 2048) :
    iblk m c 2 t (ix3 0 q k) = m ((c : Thread nD τ).loc main_arg2)
      (ix3 (InProjRead.sel ⟨t.val * 512 + a.val, by have : t.val < 36 := t.isLt; omega⟩) q k) := by
  have ht : t.val < 36 := t.isLt
  rw [← V_main_arg2 m c]
  have hs : InProjRead.sel ⟨t.val * 512 + a.val, by omega⟩ = ⟨if t.val < 32 then t.val / 4 else 8, by split <;> omega⟩ := by
    unfold InProjRead.sel
    apply Fin.ext
    simp only
    split <;> split <;> first | (exfalso; omega) | (simp only; omega) | rfl
  rw [hs]
  blk_ext [iblk, idx t]
/-- The weight at a grid point. -/
theorem read3 (c : Dev nD) (t : Fin cfg0.N) (k : Fin 2048) (j : Fin 3968) :
    iblk m c 3 t (ix2 k j) = packed (m ((c : Thread nD τ).loc main_arg3)) (ix2 k j) := by
  rw [← V7 m c]
  blk_ext [iblk, idx t]

/-- The block a grid point stores, from the blocks it loads. -/
theorem pay_ld (x0 : Vec Ideal S512x2048 .f32) (x1 : Vec Ideal S1x2048 .f32) (x2 : Vec Ideal S1x6x2048 .f32) (x3 : Vec Ideal S2048x3968 .bf16)
    (a : Fin 512) (j : Fin 3968) :
    out0_4 (F := Ideal) x0 x1 x2 x3 (ix2 a j)
      = ∑ k : Fin 2048, Cert.NormMath.modulated (fun k => x0 (ix2 a k)) (fun k => x1 (ix2 0 k)) (fun k => x2 (ix3 0 1 k)) (fun k => x2 (ix3 0 0 k)) k * x3 (ix2 k j) := by
  unfold out0_4; frame_out
  unfold NormMath.modulated NormMath.norm
  pointwise [k0_pay1]

/-- The weight's packed columns against the reference's columns. -/
theorem cols (x : InProjRead.X) (g : InProjRead.G) (md : InProjRead.M) (w : InProjRead.W) (i : Fin 18432) (j : Fin 3968) :
    (∑ k : Fin 2048, Cert.NormMath.modulated (fun k => x (ix2 i k)) (fun k => g (ix1 k)) (fun k => md (ix3 (InProjRead.sel i) 1 k))
        (fun k => md (ix3 (InProjRead.sel i) 0 k)) k * packed w (ix2 k j) : EReal)
      = Cert.InProjRefIdeal.Read.val_main_v68 (F := Ideal) x g md w (ix2 i j) := by
  by_cases h1 : j.val < 3328
  · have hj : j = ⟨(⟨j.val, h1⟩ : Fin 3328).val, by simp only; omega⟩ := rfl
    rw [hj, InProjRead.out_a, InProjRead.p_read]
    exact Finset.sum_congr rfl fun k _ => by rw [packed_a]
  by_cases h2 : j.val < 3840
  · have hj : j = ⟨3328 + (⟨j.val - 3328, by omega⟩ : Fin 512).val, by simp only; omega⟩ := Fin.ext (by simp only; omega)
    rw [hj, InProjRead.out_b, InProjRead.p_read]
    exact Finset.sum_congr rfl fun k _ => by rw [packed_b]
  by_cases h3 : j.val < 3904
  · have hj : j = ⟨3840 + (⟨j.val - 3840, by omega⟩ : Fin 64).val, by simp only; omega⟩ := Fin.ext (by simp only; omega)
    rw [hj, InProjRead.out_c, InProjRead.p_read]
    exact Finset.sum_congr rfl fun k _ => by rw [packed_c]
  · have hj : j = ⟨3904 + (⟨j.val - 3904, by omega⟩ : Fin 64).val, by simp only; omega⟩ := Fin.ext (by simp only; omega)
    rw [hj, InProjRead.out_d]
    exact Finset.sum_eq_zero fun k _ => by rw [packed_d]; exact mul_zero _

/-- What a grid point stores at a block index is the reference at the array index it sits at. -/
theorem point (c : Dev nD) (t : Fin cfg0.N) (a : Fin 512) (j : Fin 3968) :
    out0_4 (F := Ideal) (iblk m c 0 t) (iblk m c 1 t) (iblk m c 2 t) (iblk m c 3 t) (ix2 a j)
      = Cert.InProjRefIdeal.Read.val_main_v68 (F := Ideal) (m ((c : Thread nD τ).loc main_arg0)) (m ((c : Thread nD τ).loc main_arg1))
          (m ((c : Thread nD τ).loc main_arg2)) (m ((c : Thread nD τ).loc main_arg3))
          (ix2 ⟨t.val * 512 + a.val, by have : t.val < 36 := t.isLt; omega⟩ j) := by
  refine (pay_ld _ _ _ _ a j).trans (Eq.trans ?_ (cols _ _ _ _ _ j))
  refine Finset.sum_congr rfl fun k _ => ?_
  rw [read3, show (fun k => iblk m c 0 t (ix2 a k)) = _ from funext (read0 m c t a), show (fun k => iblk m c 1 t (ix2 0 k)) = _ from funext (read1 m c t),
    show (fun k => iblk m c 2 t (ix3 0 1 k)) = _ from funext (read2 m c t a 1), show (fun k => iblk m c 2 t (ix3 0 0 k)) = _ from funext (read2 m c t a 0)]

/-- The result array after the run is the reference of the argument arrays. -/
theorem final (c : Dev nD) : (dats m 0 c).arrAt 4 (cfgs 0).N
    = Cert.InProjRefIdeal.Read.val_main_v68 (F := Ideal) (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]
  idx_vars y
  refine (point m c t _ _).trans ?_
  blk_ext [idx t]

end Cert.InProjIdeal.Value
end
-- ==== Proof.InProjClaim.lean ====
/- What is claimed of `InProj`, put together: the frames of the program, of its reading over the extended reals and of
   the reference, and that the two readings end with equal results. -/
module

public import proofs.«01_k».proof.Defs
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.InProjValue
public import Idealize.ShloMosaic.Lib.Quiescent

@[expose] public section

noncomputable section

namespace Cert.Proof.InProj

open Idealize.ShloMosaic Idealize.SL.Sem

/-- The reference ends with its arguments unchanged and, declaring no semaphore, with every counter at zero. -/
theorem ref_frame (m : (ℓ : Loc Cert.InProjRefIdeal.nD Cert.InProjRefIdeal.τ Cert.InProjRefIdeal.sig) → Buf (Elt Ideal) ℓ) (g : Dev Cert.InProjRefIdeal.nD → PrngReg) :
    θ_run (Cert.InProjRefIdeal.defs (F := Ideal)) (onTc (τ := Cert.InProjRefIdeal.τ) (Cert.InProjRefIdeal.main (F := Ideal))) ⟨m, fun _ => 0, g⟩ (fun r =>
      (∀ c : Dev Cert.InProjRefIdeal.nD, r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
        ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
        ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
        ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0) :=
  (θ_run (Cert.InProjRefIdeal.defs (F := Ideal)) _ _).mono
    (fun r h => ⟨fun c => (h c).2, sem_eq_zero_of_no_sems (by decide) r.2⟩) (Cert.InProjRefIdeal.Value.run m g)

/-- The two readings end with equal results and unchanged arguments. -/
theorem algebraic [Cert.InProjIdeal.Facts] [Cert.InProjRefIdeal.Facts] : Cert.algebraic_InProjIdeal_InProjRefIdeal := by
  intro m g m' g' hpre hagree
  refine ⟨fun c => Cert.InProjRefIdeal.Read.val_main_v68 (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)), ?_, ?_⟩
  · refine (θ_run (Cert.InProjIdeal.defs (F := Ideal)) _ _).mono (fun r h c => ?_) (Cert.InProjIdeal.Value.run_blocks m g)
    exact ⟨(h c).1.trans (Cert.InProjIdeal.Value.final m c), (h c).2⟩
  · exact (θ_run (Cert.InProjRefIdeal.defs (F := Ideal)) _ _).mono
      (fun r h c => ⟨(h c).1.trans ((Cert.InProjRefIdeal.Read.val_main_v68_eq m' c).trans (by rw [(hagree c).1, (hagree c).2.1, (hagree c).2.2.1, (hagree c).2.2.2])), (h c).2⟩)
      (Cert.InProjRefIdeal.Value.run m' g')

end Cert.Proof.InProj

end
-- ==== Proof.OutProjRead.lean ====
/- The output projection's reference read at a row: the joined heads times the weight, the residual with its gate, and the
   second norm, for the latent rows, the context rows, and then for any row. -/
module
public import proofs.«01_k».proof.Proof.Gen.OutProjRefIdeal.Read
public import proofs.«01_k».proof.Proof.NormMath
public import Idealize.ShloMosaic.Lib.Pointwise

@[expose] public section
set_option maxRecDepth 16384
noncomputable section
open Idealize.ShloMosaic Idealize.ShloMosaic.TcCoe Idealize.SL.Sem
namespace Cert.OutProjRead
open Cert.OutProjRefIdeal Cert.OutProjRefIdeal.Gen Cert.OutProjRefIdeal.Read

abbrev H := (⟨S18432x512, .bf16⟩ : BufTy).Contents (Elt Ideal)
abbrev A := (⟨S18432x768, .bf16⟩ : BufTy).Contents (Elt Ideal)
abbrev W := (⟨S2048x2048, .f32⟩ : BufTy).Contents (Elt Ideal)
abbrev X := (⟨S18432x2048, .f32⟩ : BufTy).Contents (Elt Ideal)
abbrev G := (⟨S2048, .f32⟩ : BufTy).Contents (Elt Ideal)
abbrev M := (⟨S16x6x2048, .f32⟩ : BufTy).Contents (Elt Ideal)
variable (ho : H) (mo go : A) (w : W) (x : X) (g1 g2 : G) (md : M)

/-- The first heads' columns of the joined row. -/
theorem cat_a (i : Fin 18432) (k : Fin 512) : val_main_v3 ho mo go (ix2 i ⟨k.val, by omega⟩) = ho (ix2 i k) := by
  pointwise [val_main_v3, val_main_v2, val_main_v1, val_main_v0]
/-- The latent attention's columns of the joined row. -/
theorem cat_b (i : Fin 18432) (k : Fin 768) : val_main_v3 ho mo go (ix2 i ⟨512 + k.val, by omega⟩) = mo (ix2 i k) := by
  pointwise [val_main_v3, val_main_v2, val_main_v1, val_main_v0]
/-- The grouped attention's columns of the joined row. -/
theorem cat_c (i : Fin 18432) (k : Fin 768) : val_main_v3 ho mo go (ix2 i ⟨1280 + k.val, by omega⟩) = go (ix2 i k) := by
  pointwise [val_main_v3, val_main_v2, val_main_v1, val_main_v0]
  rw [dif_neg (by omega), dif_neg (by omega)]
  exact congrArg go (congrArg (ix2 i) (Fin.ext (by (try simp only) <;> omega)))

/-- The joined row times the weight. -/
theorem mix_dot (i : Fin 18432) (j : Fin 2048) : val_main_v4 ho mo go w (ix2 i j) = ∑ k : Fin 2048, val_main_v3 ho mo go (ix2 i k) * w (ix2 k j) := by
  pointwise [val_main_v4]

/-- The same, one sum for each kind of head. -/
theorem mix_read (i : Fin 18432) (j : Fin 2048) : val_main_v4 ho mo go w (ix2 i j)
    = (∑ k : Fin 512, (ho (ix2 i k) : EReal) * w (ix2 ⟨k.val, by omega⟩ j) + ∑ k : Fin 768, (mo (ix2 i k) : EReal) * w (ix2 ⟨512 + k.val, by omega⟩ j))
      + ∑ k : Fin 768, (go (ix2 i k) : EReal) * w (ix2 ⟨1280 + k.val, by omega⟩ j) := by
  rw [mix_dot]
  refine (Fin.sum_univ_add (M := EReal) (a := 1280) (b := 768) (fun k => val_main_v3 ho mo go (ix2 i k) * w (ix2 k j))).trans ?_
  refine congrArg₂ (fun a b : EReal => a + b) ((Fin.sum_univ_add (M := EReal) (a := 512) (b := 768)
    (fun k : Fin 1280 => val_main_v3 ho mo go (ix2 i (Fin.castAdd 768 k)) * w (ix2 (Fin.castAdd 768 k) j))).trans
      (congrArg₂ (fun a b : EReal => a + b) ?_ ?_)) ?_
  · exact Finset.sum_congr rfl fun k _ => congrArg (fun z : EReal => z * w (ix2 ⟨k.val, by omega⟩ j)) (cat_a ho mo go i k)
  · exact Finset.sum_congr rfl fun k _ => congrArg (fun z : EReal => z * w (ix2 ⟨512 + k.val, by omega⟩ j)) (cat_b ho mo go i k)
  · exact Finset.sum_congr rfl fun k _ => congrArg (fun z : EReal => z * w (ix2 ⟨1280 + k.val, by omega⟩ j)) (cat_c ho mo go i k)

/-- Which row of the modulation table a token row reads. -/
def sel (i : Fin 18432) : Fin 16 := if h : i.val < 16384 then ⟨i.val / 2048, by omega⟩ else 8

/-- The joined product at a latent row. -/
theorem mix_lat (b : Fin 8) (r : Fin 2048) (k : Fin 2048) : val_main_v6 ho mo go w (ix3 b r k) = val_main_v4 ho mo go w (ix2 ⟨b.val * 2048 + r.val, by omega⟩ k) := by
  pointwise [val_main_v6, val_main_v5]
/-- The sum of its squares. -/
theorem mss_lat (b : Fin 8) (r : Fin 2048) : val_main_v17 ho mo go w (ix2 b r) = ∑ j : Fin 2048, val_main_v6 ho mo go w (ix3 b r j) * val_main_v6 ho mo go w (ix3 b r j) := by
  pointwise [val_main_v17, val_main_v16, val_main_cst]
/-- The residual at a latent row. -/
theorem x_lat (b : Fin 8) (r : Fin 2048) (k : Fin 2048) : val_main_v31 ho mo go w x g1 md (ix3 b r k)
    = (x (ix2 ⟨b.val * 2048 + r.val, by omega⟩ k) : EReal) + md (ix3 ⟨b.val, by omega⟩ 2 k) * NormMath.norm (fun j => val_main_v4 ho mo go w (ix2 ⟨b.val * 2048 + r.val, by omega⟩ j)) (fun j => g1 (ix1 j)) k := by
  unfold NormMath.norm
  simp only [← mix_lat]
  rw [← mss_lat]
  pointwise [val_main_v31, val_main_v30, val_main_v29, val_main_v28, val_main_v27, val_main_v26, val_main_v25, val_main_v24, val_main_v23, val_main_v22, val_main_v21, val_main_v20, val_main_v19, val_main_v18, val_main_v15, val_main_v14, val_main_v13, val_main_v10, val_main_v9, val_main_cst_0, val_main_cst_1]
/-- The sum of the residual's squares. -/
theorem xss_lat (b : Fin 8) (r : Fin 2048) : val_main_v52 ho mo go w x g1 md (ix2 b r)
    = ∑ j : Fin 2048, val_main_v31 ho mo go w x g1 md (ix3 b r j) * val_main_v31 ho mo go w x g1 md (ix3 b r j) := by
  pointwise [val_main_v52, val_main_v51, val_main_cst_5]
/-- The second norm at a latent row. -/
theorem f_lat (b : Fin 8) (r : Fin 2048) (k : Fin 2048) : val_main_v75 ho mo go w x g1 g2 md (ix3 b r k)
    = NormMath.modulated (fun j => val_main_v31 ho mo go w x g1 md (ix3 b r j)) (fun j => g2 (ix1 j)) (fun k => md (ix3 ⟨b.val, by omega⟩ 4 k)) (fun k => md (ix3 ⟨b.val, by omega⟩ 3 k)) k := by
  unfold NormMath.modulated NormMath.norm
  rw [← xss_lat]
  pointwise [val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_cst_6, val_main_cst_7, val_main_cst_8]

/-- The joined product at a context row. -/
theorem mix_ctx (b : Fin 8) (r : Fin 256) (k : Fin 2048) : val_main_v8 ho mo go w (ix3 b r k) = val_main_v4 ho mo go w (ix2 ⟨16384 + (b.val * 256 + r.val), by omega⟩ k) := by
  pointwise [val_main_v8, val_main_v7]
/-- The sum of its squares. -/
theorem mss_ctx (b : Fin 8) (r : Fin 256) : val_main_v35 ho mo go w (ix2 b r) = ∑ j : Fin 2048, val_main_v8 ho mo go w (ix3 b r j) * val_main_v8 ho mo go w (ix3 b r j) := by
  pointwise [val_main_v35, val_main_v34, val_main_cst_2]
/-- The residual at a context row. -/
theorem x_ctx (b : Fin 8) (r : Fin 256) (k : Fin 2048) : val_main_v50 ho mo go w x g1 md (ix3 b r k)
    = (x (ix2 ⟨16384 + (b.val * 256 + r.val), by omega⟩ k) : EReal) + md (ix3 8 2 k) * NormMath.norm (fun j => val_main_v4 ho mo go w (ix2 ⟨16384 + (b.val * 256 + r.val), by omega⟩ j)) (fun j => g1 (ix1 j)) k := by
  unfold NormMath.norm
  simp only [← mix_ctx]
  rw [← mss_ctx]
  pointwise [val_main_v50, val_main_v49, val_main_v48, val_main_v47, val_main_v46, val_main_v45, val_main_v44, val_main_v43, val_main_v42, val_main_v41, val_main_v40, val_main_v39, val_main_v38, val_main_v37, val_main_v36, val_main_v33, val_main_v32, val_main_v12, val_main_v11, val_main_cst_3, val_main_cst_4]
/-- The sum of the residual's squares. -/
theorem xss_ctx (b : Fin 8) (r : Fin 256) : val_main_v77 ho mo go w x g1 md (ix2 b r)
    = ∑ j : Fin 2048, val_main_v50 ho mo go w x g1 md (ix3 b r j) * val_main_v50 ho mo go w x g1 md (ix3 b r j) := by
  pointwise [val_main_v77, val_main_v76, val_main_cst_9]
/-- The second norm at a context row. -/
theorem f_ctx (b : Fin 8) (r : Fin 256) (k : Fin 2048) : val_main_v100 ho mo go w x g1 g2 md (ix3 b r k)
    = NormMath.modulated (fun j => val_main_v50 ho mo go w x g1 md (ix3 b r j)) (fun j => g2 (ix1 j)) (fun k => md (ix3 8 4 k)) (fun k => md (ix3 8 3 k)) k := by
  unfold NormMath.modulated NormMath.norm
  rw [← xss_ctx]
  pointwise [val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_cst_10, val_main_cst_11, val_main_cst_12]

/-- The first result's latent rows. -/
theorem o1_lat (b : Fin 8) (r : Fin 2048) (k : Fin 2048) : val_main_v103 ho mo go w x g1 md (ix2 ⟨b.val * 2048 + r.val, by omega⟩ k)
    = val_main_v31 ho mo go w x g1 md (ix3 b r k) := by
  pointwise [val_main_v103, val_main_v101]
  exact dif_pos (by omega)
/-- The first result's context rows, still joined. -/
theorem o1_join (i : Fin 2048) (k : Fin 2048) : val_main_v103 ho mo go w x g1 md (ix2 ⟨16384 + i.val, by omega⟩ k)
    = val_main_v102 ho mo go w x g1 md (ix2 i k) := by
  pointwise [val_main_v103]
/-- The first result's context rows. -/
theorem o1_ctx (b : Fin 8) (r : Fin 256) (k : Fin 2048) : val_main_v103 ho mo go w x g1 md (ix2 ⟨16384 + (b.val * 256 + r.val), by omega⟩ k)
    = val_main_v50 ho mo go w x g1 md (ix3 b r k) := by
  refine (o1_join ho mo go w x g1 md ⟨b.val * 256 + r.val, by omega⟩ k).trans ?_
  pointwise [val_main_v102]
/-- The second result's latent rows. -/
theorem o2_lat (b : Fin 8) (r : Fin 2048) (k : Fin 2048) : val_main_v107 ho mo go w x g1 g2 md (ix2 ⟨b.val * 2048 + r.val, by omega⟩ k)
    = val_main_v75 ho mo go w x g1 g2 md (ix3 b r k) := by
  pointwise [val_main_v107, val_main_v106, val_main_v104]
  exact dif_pos (by omega)
/-- The second result's context rows, still joined. -/
theorem o2_join (i : Fin 2048) (k : Fin 2048) : val_main_v107 ho mo go w x g1 g2 md (ix2 ⟨16384 + i.val, by omega⟩ k)
    = val_main_v105 ho mo go w x g1 g2 md (ix2 i k) := by
  pointwise [val_main_v107, val_main_v106]
/-- The second result's context rows. -/
theorem o2_ctx (b : Fin 8) (r : Fin 256) (k : Fin 2048) : val_main_v107 ho mo go w x g1 g2 md (ix2 ⟨16384 + (b.val * 256 + r.val), by omega⟩ k)
    = val_main_v100 ho mo go w x g1 g2 md (ix3 b r k) := by
  refine (o2_join ho mo go w x g1 g2 md ⟨b.val * 256 + r.val, by omega⟩ k).trans ?_
  pointwise [val_main_v105]

/-- The first result at any row. -/
theorem o1_read (i : Fin 18432) (k : Fin 2048) : val_main_v103 ho mo go w x g1 md (ix2 i k)
    = (x (ix2 i k) : EReal) + md (ix3 (sel i) 2 k) * NormMath.norm (fun j => val_main_v4 ho mo go w (ix2 i j)) (fun j => g1 (ix1 j)) k := by
  by_cases h : i.val < 16384
  · have hi : i = ⟨(⟨i.val / 2048, by omega⟩ : Fin 8).val * 2048 + (⟨i.val % 2048, by omega⟩ : Fin 2048).val, by simp only; omega⟩ := Fin.ext (by simp only; omega)
    have hs : sel i = ⟨(⟨i.val / 2048, by omega⟩ : Fin 8).val, by simp only; omega⟩ := by unfold sel; rw [dif_pos h]
    rw [hs]
    conv_lhs => rw [hi]
    rw [o1_lat, x_lat, ← hi]
  · have hi : i = ⟨16384 + ((⟨(i.val - 16384) / 256, by omega⟩ : Fin 8).val * 256 + (⟨(i.val - 16384) % 256, by omega⟩ : Fin 256).val), by simp only; omega⟩ := Fin.ext (by simp only; omega)
    have hs : sel i = 8 := by unfold sel; rw [dif_neg h]
    rw [hs]
    conv_lhs => rw [hi]
    rw [o1_ctx, x_ctx, ← hi]

/-- The second result at any row: the first one's row, normalised and modulated. -/
theorem o2_read (i : Fin 18432) (k : Fin 2048) : val_main_v107 ho mo go w x g1 g2 md (ix2 i k)
    = NormMath.modulated (fun j => val_main_v103 ho mo go w x g1 md (ix2 i j)) (fun j => g2 (ix1 j)) (fun k => md (ix3 (sel i) 4 k)) (fun k => md (ix3 (sel i) 3 k)) k := by
  by_cases h : i.val < 16384
  · have hi : i = ⟨(⟨i.val / 2048, by omega⟩ : Fin 8).val * 2048 + (⟨i.val % 2048, by omega⟩ : Fin 2048).val, by simp only; omega⟩ := Fin.ext (by simp only; omega)
    have hs : sel i = ⟨(⟨i.val / 2048, by omega⟩ : Fin 8).val, by simp only; omega⟩ := by unfold sel; rw [dif_pos h]
    rw [hs]
    conv_lhs => rw [hi]
    rw [o2_lat, f_lat]
    simp only [← o1_lat, ← hi]
  · have hi : i = ⟨16384 + ((⟨(i.val - 16384) / 256, by omega⟩ : Fin 8).val * 256 + (⟨(i.val - 16384) % 256, by omega⟩ : Fin 256).val), by simp only; omega⟩ := Fin.ext (by simp only; omega)
    have hs : sel i = 8 := by unfold sel; rw [dif_neg h]
    rw [hs]
    conv_lhs => rw [hi]
    rw [o2_ctx, f_ctx]
    simp only [← o1_ctx, ← hi]

end Cert.OutProjRead
end
-- ==== Proof.OutProjValue.lean ====
/- The output projection's two result arrays after a run are the reference of the argument arrays. -/
module
public import proofs.«01_k».proof.Proof.Gen.OutProjIdeal.Frame
public import proofs.«01_k».proof.Proof.NormMath
public import proofs.«01_k».proof.Proof.OutProjRead
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.OutProjIdeal.Value
open Cert.OutProjIdeal Cert.OutProjIdeal.Gen
variable (m : (ℓ : Loc nD τ sig) → Buf (Elt Ideal) ℓ)

/-- The windows' block indices at every grid point: the row tile, and the modulation row the tile's tokens share. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![0, 0] ∧ win0_8.index t = ![0, 0] ∧ win0_9.index t = ![if t.val < 32 then t.val / 4 else 8, 0, 0]
    ∧ win0_12.index t = ![t.val, 0] ∧ win0_13.index t = ![t.val, 0] :=
  (by decide +kernel : ∀ t : Fin grid0.N, _)

/-- The weight rows of the first heads, as the kernel is handed them. -/
theorem V6 (c : Dev nD) : V m c main_v6 = extractStridedSlice S512x2048 ![0, 0]
    (truncf (F := Ideal) .bf16 (m ((c : Thread nD τ).loc main_arg3)) bitsLt_bf16_f32) slices_S2048x2048_S512x2048_0_0 := by
  show StableHlo.after (List.flatten [hostOps0, hostOps0_1, hostOps0_2]) _ (Proc.devRef .tc _) = _
  simp only [List.flatten_cons, List.flatten_nil, List.append_nil, List.cons_append, List.nil_append, hostOps0, hostOps0_1, hostOps0_2]
  after_results_simp
/-- The weight rows of the latent attention's heads. -/
theorem V7 (c : Dev nD) : V m c main_v7 = extractStridedSlice S768x2048 ![512, 0]
    (truncf (F := Ideal) .bf16 (m ((c : Thread nD τ).loc main_arg3)) bitsLt_bf16_f32) slices_S2048x2048_S768x2048_512_0 := by
  show StableHlo.after (List.flatten [hostOps0, hostOps0_1, hostOps0_2]) _ (Proc.devRef .tc _) = _
  simp only [List.flatten_cons, List.flatten_nil, List.append_nil, List.cons_append, List.nil_append, hostOps0, hostOps0_1, hostOps0_2]
  after_results_simp
/-- The weight rows of the grouped attention's heads. -/
theorem V8 (c : Dev nD) : V m c main_v8 = extractStridedSlice S768x2048 ![1280, 0]
    (truncf (F := Ideal) .bf16 (m ((c : Thread nD τ).loc main_arg3)) bitsLt_bf16_f32) slices_S2048x2048_S768x2048_1280_0 := by
  show StableHlo.after (List.flatten [hostOps0, hostOps0_1, hostOps0_2]) _ (Proc.devRef .tc _) = _
  simp only [List.flatten_cons, List.flatten_nil, List.append_nil, List.cons_append, List.nil_append, hostOps0, hostOps0_1, hostOps0_2]
  after_results_simp
/-- The first gain as one row. -/
theorem V9 (c : Dev nD) : V m c main_v9 = shapeCast S1x2048 (m ((c : Thread nD τ).loc main_arg5)) shapeCasts_S2048_S1x2048 := by
  show StableHlo.after (List.flatten [hostOps0, hostOps0_1, hostOps0_2]) _ (Proc.devRef .tc _) = _
  simp only [List.flatten_cons, List.flatten_nil, List.append_nil, List.cons_append, List.nil_append, hostOps0, hostOps0_1, hostOps0_2]
  after_results_simp
  rfl
/-- The second gain as one row. -/
theorem V10 (c : Dev nD) : V m c main_v10 = shapeCast S1x2048 (m ((c : Thread nD τ).loc main_arg6)) shapeCasts_S2048_S1x2048 := by
  show StableHlo.after (List.flatten [hostOps0, hostOps0_1, hostOps0_2]) _ (Proc.devRef .tc _) = _
  simp only [List.flatten_cons, List.flatten_nil, List.append_nil, List.cons_append, List.nil_append, hostOps0, hostOps0_1, hostOps0_2]
  after_results_simp
  rfl

/-- The first heads' block at a grid point. -/
theorem read0 (c : Dev nD) (t : Fin cfg0.N) (a : Fin 512) (k : Fin 512) :
    iblk m c 0 t (ix2 a k) = m ((c : Thread nD τ).loc main_arg0) (ix2 ⟨t.val * 512 + a.val, by have : t.val < 36 := t.isLt; omega⟩ k) := by
  rw [← V_main_arg0 m c]
  blk_ext [iblk, idx t]
/-- The latent attention's block. -/
theorem read1 (c : Dev nD) (t : Fin cfg0.N) (a : Fin 512) (k : Fin 768) :
    iblk m c 1 t (ix2 a k) = m ((c : Thread nD τ).loc main_arg1) (ix2 ⟨t.val * 512 + a.val, by have : t.val < 36 := t.isLt; omega⟩ k) := by
  rw [← V_main_arg1 m c]
  blk_ext [iblk, idx t]
/-- The grouped attention's block. -/
theorem read2 (c : Dev nD) (t : Fin cfg0.N) (a : Fin 512) (k : Fin 768) :
    iblk m c 2 t (ix2 a k) = m ((c : Thread nD τ).loc main_arg2) (ix2 ⟨t.val * 512 + a.val, by have : t.val < 36 := t.isLt; omega⟩ k) := by
  rw [← V_main_arg2 m c]
  blk_ext [iblk, idx t]
/-- The first heads' weight rows. -/
theorem read3 (c : Dev nD) (t : Fin cfg0.N) (k : Fin 512) (j : Fin 2048) :
    iblk m c 3 t (ix2 k j) = m ((c : Thread nD τ).loc main_arg3) (ix2 ⟨k.val, by omega⟩ j) := by
  have h : iblk m c 3 t (ix2 k j) = V m c main_v6 (ix2 k j) := by blk_ext [iblk, idx t]
  rw [h, V6]
  pointwise []
/-- The latent attention's weight rows. -/
theorem read4 (c : Dev nD) (t : Fin cfg0.N) (k : Fin 768) (j : Fin 2048) :
    iblk m c 4 t (ix2 k j) = m ((c : Thread nD τ).loc main_arg3) (ix2 ⟨512 + k.val, by omega⟩ j) := by
  have h : iblk m c 4 t (ix2 k j) = V m c main_v7 (ix2 k j) := by blk_ext [iblk, idx t]
  rw [h, V7]
  pointwise []
/-- The grouped attention's weight rows. -/
theorem read5 (c : Dev nD) (t : Fin cfg0.N) (k : Fin 768) (j : Fin 2048) :
    iblk m c 5 t (ix2 k j) = m ((c : Thread nD τ).loc main_arg3) (ix2 ⟨1280 + k.val, by omega⟩ j) := by
  have h : iblk m c 5 t (ix2 k j) = V m c main_v8 (ix2 k j) := by blk_ext [iblk, idx t]
  rw [h, V8]
  pointwise []
/-- The token block. -/
theorem read6 (c : Dev nD) (t : Fin cfg0.N) (a : Fin 512) (k : Fin 2048) :
    iblk m c 6 t (ix2 a k) = m ((c : Thread nD τ).loc main_arg4) (ix2 ⟨t.val * 512 + a.val, by have : t.val < 36 := t.isLt; omega⟩ k) := by
  rw [← V_main_arg4 m c]
  blk_ext [iblk, idx t]
/-- The first gain. -/
theorem read7 (c : Dev nD) (t : Fin cfg0.N) (k : Fin 2048) :
    iblk m c 7 t (ix2 0 k) = m ((c : Thread nD τ).loc main_arg5) (ix1 k) := by
  have h : iblk m c 7 t (ix2 0 k) = V m c main_v9 (ix2 0 k) := by blk_ext [iblk, idx t]
  rw [h, V9]
  pointwise []
/-- The second gain. -/
theorem read8 (c : Dev nD) (t : Fin cfg0.N) (k : Fin 2048) :
    iblk m c 8 t (ix2 0 k) = m ((c : Thread nD τ).loc main_arg6) (ix1 k) := by
  have h : iblk m c 8 t (ix2 0 k) = V m c main_v10 (ix2 0 k) := by blk_ext [iblk, idx t]
  rw [h, V10]
  pointwise []
/-- The modulation block at a grid point is the row its tokens read. -/
theorem read9 (c : Dev nD) (t : Fin cfg0.N) (a : Fin 512) (q : Fin 6) (k : Fin 2048) :
    iblk m c 9 t (ix3 0 q k) = m ((c : Thread nD τ).loc main_arg7)
      (ix3 (OutProjRead.sel ⟨t.val * 512 + a.val, by have : t.val < 36 := t.isLt; omega⟩) q k) := by
  have ht : t.val < 36 := t.isLt
  rw [← V_main_arg7 m c]
  have hs : OutProjRead.sel ⟨t.val * 512 + a.val, by omega⟩ = ⟨if t.val < 32 then t.val / 4 else 8, by split <;> omega⟩ := by
    unfold OutProjRead.sel
    apply Fin.ext
    simp only
    split <;> split <;> first | (exfalso; omega) | (simp only; omega) | rfl
  rw [hs]
  blk_ext [iblk, idx t]

section
variable (x0 : Vec Ideal S512x512 .bf16) (x1 x2 : Vec Ideal S512x768 .bf16) (x3 : Vec Ideal S512x2048 .bf16) (x4 x5 : Vec Ideal S768x2048 .bf16)
  (x6 : Vec Ideal S512x2048 .f32) (x7 x8 : Vec Ideal S1x2048 .f32) (x9 : Vec Ideal S1x6x2048 .f32) (x10 x11 : Vec Ideal S2048x128 .bf16)

/-- The residual a grid point computes, from the blocks it loads. -/
theorem pay_x (a : Fin 512) (k : Fin 2048) :
    k0_pay7 (F := Ideal) x0 x1 x2 x3 x4 x5 x6 x7 x8 x9 x10 x11 (ix2 a k)
      = (x6 (ix2 a k) : EReal) + x9 (ix3 0 2 k) * NormMath.norm (fun j => (∑ z : Fin 512, (x0 (ix2 a z) : EReal) * x3 (ix2 z j)
          + ∑ z : Fin 768, (x1 (ix2 a z) : EReal) * x4 (ix2 z j)) + ∑ z : Fin 768, (x2 (ix2 a z) : EReal) * x5 (ix2 z j)) (fun j => x7 (ix2 0 j)) k := by
  unfold k0_pay7 NormMath.norm
  pointwise [k0_pay2]

/-- The first block a grid point stores is that residual. -/
theorem out_x (a : Fin 512) (k : Fin 2048) :
    out0_12 (F := Ideal) x0 x1 x2 x3 x4 x5 x6 x7 x8 x9 x10 x11 (ix2 a k) = k0_pay7 (F := Ideal) x0 x1 x2 x3 x4 x5 x6 x7 x8 x9 x10 x11 (ix2 a k) := by
  unfold out0_12
  generalize k0_pay7 (F := Ideal) x0 x1 x2 x3 x4 x5 x6 x7 x8 x9 x10 x11 = y
  frame_out

/-- The second block it stores is the residual's row, normalised and modulated. -/
theorem out_f (a : Fin 512) (k : Fin 2048) :
    out0_13 (F := Ideal) x0 x1 x2 x3 x4 x5 x6 x7 x8 x9 x10 x11 (ix2 a k)
      = NormMath.modulated (fun j => k0_pay7 (F := Ideal) x0 x1 x2 x3 x4 x5 x6 x7 x8 x9 x10 x11 (ix2 a j)) (fun j => x8 (ix2 0 j))
          (fun k => x9 (ix3 0 4 k)) (fun k => x9 (ix3 0 3 k)) k := by
  unfold out0_13
  generalize k0_pay7 (F := Ideal) x0 x1 x2 x3 x4 x5 x6 x7 x8 x9 x10 x11 = y
  frame_out
  unfold NormMath.modulated NormMath.norm
  pointwise [k0_pay4, k0_pay3]
end

/-- The residual at a grid point is the reference's first result at the array index it sits at. -/
theorem point_x (c : Dev nD) (t : Fin cfg0.N) (a : Fin 512) (k : Fin 2048) :
    k0_pay7 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 a k)
      = Cert.OutProjRefIdeal.Read.val_main_v103 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg7))
          (ix2 ⟨t.val * 512 + a.val, by have : t.val < 36 := t.isLt; omega⟩ k) := by
  refine (pay_x _ _ _ _ _ _ _ _ _ _ _ _ a k).trans ?_
  rw [OutProjRead.o1_read]
  simp only [OutProjRead.mix_read, read0, read1, read2, read3, read4, read5, read6, read7, read9 m c t a]

/-- The second block at a grid point is the reference's second result at the array index it sits at. -/
theorem point_f (c : Dev nD) (t : Fin cfg0.N) (a : Fin 512) (k : Fin 2048) :
    out0_13 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 a k)
      = Cert.OutProjRefIdeal.Read.val_main_v107 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (ix2 ⟨t.val * 512 + a.val, by have : t.val < 36 := t.isLt; omega⟩ k) := by
  refine (out_f _ _ _ _ _ _ _ _ _ _ _ _ a k).trans ?_
  rw [OutProjRead.o2_read]
  simp only [point_x, read8, read9 m c t a]

/-- The first result array after the run is the reference's. -/
theorem final_x (c : Dev nD) : (dats m 0 c).arrAt 12 (cfgs 0).N
    = Cert.OutProjRefIdeal.Read.val_main_v103 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg7)) := by
  refine (dats m 0 c).arrAt_eq_of_covers 12 _ (by decide +kernel) fun t _ y => ?_
  blk_simp
  rw [after0_12]
  idx_vars y
  refine (out_x _ _ _ _ _ _ _ _ _ _ _ _ _ _).trans ((point_x m c t _ _).trans ?_)
  blk_ext [idx t]

/-- The second result array after the run is the reference's. -/
theorem final_f (c : Dev nD) : (dats m 0 c).arrAt 13 (cfgs 0).N
    = Cert.OutProjRefIdeal.Read.val_main_v107 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (dats m 0 c).arrAt_eq_of_covers 13 _ (by decide +kernel) fun t _ y => ?_
  blk_simp
  rw [after0_13]
  idx_vars y
  refine (point_f m c t _ _).trans ?_
  blk_ext [idx t]

end Cert.OutProjIdeal.Value
end
-- ==== Proof.OutProjClaim.lean ====
/- What is claimed of `OutProj`, put together: the frames of the program, of its reading over the extended reals and of
   the reference, and that the two readings end with equal results. -/
module

public import proofs.«01_k».proof.Defs
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.OutProjValue
public import Idealize.ShloMosaic.Lib.Quiescent

@[expose] public section

noncomputable section

namespace Cert.Proof.OutProj

open Idealize.ShloMosaic Idealize.SL.Sem

/-- The reference ends with its arguments unchanged and, declaring no semaphore, with every counter at zero. -/
theorem ref_frame (m : (ℓ : Loc Cert.OutProjRefIdeal.nD Cert.OutProjRefIdeal.τ Cert.OutProjRefIdeal.sig) → Buf (Elt Ideal) ℓ) (g : Dev Cert.OutProjRefIdeal.nD → PrngReg) :
    θ_run (Cert.OutProjRefIdeal.defs (F := Ideal)) (onTc (τ := Cert.OutProjRefIdeal.τ) (Cert.OutProjRefIdeal.main (F := Ideal))) ⟨m, fun _ => 0, g⟩ (fun r =>
      (∀ c : Dev Cert.OutProjRefIdeal.nD, r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
        ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
        ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
        ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
        ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
        ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
        ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
        ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
        ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0) :=
  (θ_run (Cert.OutProjRefIdeal.defs (F := Ideal)) _ _).mono
    (fun r h => ⟨fun c => (h c).2.2, sem_eq_zero_of_no_sems (by decide) r.2⟩) (Cert.OutProjRefIdeal.Value.run m g)

/-- The two readings end with equal results and unchanged arguments. -/
theorem algebraic [Cert.OutProjIdeal.Facts] [Cert.OutProjRefIdeal.Facts] : Cert.algebraic_OutProjIdeal_OutProjRefIdeal := by
  intro m g m' g' hpre hagree
  refine ⟨fun c => Cert.OutProjRefIdeal.Read.val_main_v103 (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg7)), fun c => Cert.OutProjRefIdeal.Read.val_main_v107 (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6)) (m ((c.tc : Thread Cert.OutProjIdeal.nD Cert.OutProjIdeal.τ).loc Cert.OutProjIdeal.main_arg7)), ?_, ?_⟩
  · refine (θ_run (Cert.OutProjIdeal.defs (F := Ideal)) _ _).mono (fun r h c => ?_) (Cert.OutProjIdeal.Value.run_blocks m g)
    exact ⟨(h c).1.trans (Cert.OutProjIdeal.Value.final_x m c), (h c).2.1.trans (Cert.OutProjIdeal.Value.final_f m c), (h c).2.2.2⟩
  · exact (θ_run (Cert.OutProjRefIdeal.defs (F := Ideal)) _ _).mono
      (fun r h c => ⟨(h c).1.trans ((Cert.OutProjRefIdeal.Read.val_main_v103_eq m' c).trans (by rw [(hagree c).1, (hagree c).2.1, (hagree c).2.2.1, (hagree c).2.2.2.1, (hagree c).2.2.2.2.1, (hagree c).2.2.2.2.2.1, (hagree c).2.2.2.2.2.2.2.1])), (h c).2.1.trans ((Cert.OutProjRefIdeal.Read.val_main_v107_eq m' c).trans (by rw [(hagree c).1, (hagree c).2.1, (hagree c).2.2.1, (hagree c).2.2.2.1, (hagree c).2.2.2.2.1, (hagree c).2.2.2.2.2.1, (hagree c).2.2.2.2.2.2.1, (hagree c).2.2.2.2.2.2.2.1])), (h c).2.2⟩)
      (Cert.OutProjRefIdeal.Value.run m' g')

end Cert.Proof.OutProj

end
-- ==== Proof.SharedRead.lean ====
/- The shared expert's reference read at a row: the gated product, the sum with the routed experts' rows, and the residual,
   for the latent rows, the context rows, and then for any row. -/
module
public import proofs.«01_k».proof.Proof.Gen.SharedRefIdeal.Read
public import proofs.«01_k».proof.Proof.GateMath
public import Idealize.ShloMosaic.Lib.Pointwise

@[expose] public section
set_option maxRecDepth 16384
noncomputable section
open Idealize.ShloMosaic Idealize.ShloMosaic.TcCoe Idealize.SL.Sem
namespace Cert.SharedRead
open Cert.SharedRefIdeal Cert.SharedRefIdeal.Gen Cert.SharedRefIdeal.Read

abbrev FT := (⟨S18432x2048, .bf16⟩ : BufTy).Contents (Elt Ideal)
abbrev X := (⟨S18432x2048, .f32⟩ : BufTy).Contents (Elt Ideal)
abbrev WU := (⟨S2048x512, .f32⟩ : BufTy).Contents (Elt Ideal)
abbrev WD := (⟨S512x2048, .f32⟩ : BufTy).Contents (Elt Ideal)
abbrev G := (⟨S2048, .f32⟩ : BufTy).Contents (Elt Ideal)
abbrev M := (⟨S16x6x2048, .f32⟩ : BufTy).Contents (Elt Ideal)
variable (f : FT) (yr x : X) (wg wu : WU) (wd : WD) (g : G) (md : M)

/-- The gate's product at a row. -/
theorem gate_read (i : Fin 18432) (h : Fin 512) : val_main_v1 f wg (ix2 i h) = ∑ k : Fin 2048, (f (ix2 i k) : EReal) * wg (ix2 k h) := by
  pointwise [val_main_v1, val_main_v0]
/-- The other factor's product at a row. -/
theorem up_read (i : Fin 18432) (h : Fin 512) : val_main_v3 f wu (ix2 i h) = ∑ k : Fin 2048, (f (ix2 i k) : EReal) * wu (ix2 k h) := by
  pointwise [val_main_v3, val_main_v0]
/-- The hidden unit at a row. -/
theorem hid_read (i : Fin 18432) (h : Fin 512) : val_main_v4 f wg wu (ix2 i h)
    = GateMath.silu (∑ k : Fin 2048, (f (ix2 i k) : EReal) * wg (ix2 k h)) * ∑ k : Fin 2048, (f (ix2 i k) : EReal) * wu (ix2 k h) := by
  rw [← gate_read, ← up_read]
  unfold GateMath.silu
  pointwise [val_main_v4, val_main_v2, val_main_call0_v5, val_main_call0_v4, val_main_call0_v3, val_main_call0_v2, val_main_call0_v1, val_main_call0_v0, val_main_call0_cst, val_main_call0_cst_0]
/-- The layer's output at a row, with the routed experts' added. -/
theorem y_read (i : Fin 18432) (k : Fin 2048) : val_main_v6 f yr wg wu wd (ix2 i k)
    = (∑ h : Fin 512, (val_main_v4 f wg wu (ix2 i h) : EReal) * wd (ix2 h k)) + yr (ix2 i k) := by
  pointwise [val_main_v6, val_main_v5]

/-- Which row of the modulation table a token row reads. -/
def sel (i : Fin 18432) : Fin 16 := if h : i.val < 16384 then ⟨i.val / 2048, by omega⟩ else 8

/-- The layer's output at a latent row. -/
theorem y_lat (b : Fin 8) (r : Fin 2048) (k : Fin 2048) : val_main_v8 f yr wg wu wd (ix3 b r k) = val_main_v6 f yr wg wu wd (ix2 ⟨b.val * 2048 + r.val, by omega⟩ k) := by
  pointwise [val_main_v8, val_main_v7]
/-- The sum of its squares. -/
theorem ss_lat (b : Fin 8) (r : Fin 2048) : val_main_v19 f yr wg wu wd (ix2 b r) = ∑ j : Fin 2048, val_main_v8 f yr wg wu wd (ix3 b r j) * val_main_v8 f yr wg wu wd (ix3 b r j) := by
  pointwise [val_main_v19, val_main_v18, val_main_cst]
/-- The residual at a latent row. -/
theorem x_lat (b : Fin 8) (r : Fin 2048) (k : Fin 2048) : val_main_v33 f yr x wg wu wd g md (ix3 b r k)
    = (x (ix2 ⟨b.val * 2048 + r.val, by omega⟩ k) : EReal) + md (ix3 ⟨b.val, by omega⟩ 5 k) * NormMath.norm (fun j => val_main_v6 f yr wg wu wd (ix2 ⟨b.val * 2048 + r.val, by omega⟩ j)) (fun j => g (ix1 j)) k := by
  unfold NormMath.norm
  simp only [← y_lat]
  rw [← ss_lat]
  pointwise [val_main_v33, val_main_v32, val_main_v31, val_main_v30, val_main_v29, val_main_v28, val_main_v27, val_main_v26, val_main_v25, val_main_v24, val_main_v23, val_main_v22, val_main_v21, val_main_v20, val_main_v17, val_main_v16, val_main_v15, val_main_v12, val_main_v11, val_main_cst_0, val_main_cst_1]

/-- The layer's output at a context row. -/
theorem y_ctx (b : Fin 8) (r : Fin 256) (k : Fin 2048) : val_main_v10 f yr wg wu wd (ix3 b r k) = val_main_v6 f yr wg wu wd (ix2 ⟨16384 + (b.val * 256 + r.val), by omega⟩ k) := by
  pointwise [val_main_v10, val_main_v9]
/-- The sum of its squares. -/
theorem ss_ctx (b : Fin 8) (r : Fin 256) : val_main_v37 f yr wg wu wd (ix2 b r) = ∑ j : Fin 2048, val_main_v10 f yr wg wu wd (ix3 b r j) * val_main_v10 f yr wg wu wd (ix3 b r j) := by
  pointwise [val_main_v37, val_main_v36, val_main_cst_2]
/-- The residual at a context row. -/
theorem x_ctx (b : Fin 8) (r : Fin 256) (k : Fin 2048) : val_main_v52 f yr x wg wu wd g md (ix3 b r k)
    = (x (ix2 ⟨16384 + (b.val * 256 + r.val), by omega⟩ k) : EReal) + md (ix3 8 5 k) * NormMath.norm (fun j => val_main_v6 f yr wg wu wd (ix2 ⟨16384 + (b.val * 256 + r.val), by omega⟩ j)) (fun j => g (ix1 j)) k := by
  unfold NormMath.norm
  simp only [← y_ctx]
  rw [← ss_ctx]
  pointwise [val_main_v52, val_main_v51, val_main_v50, val_main_v49, val_main_v48, val_main_v47, val_main_v46, val_main_v45, val_main_v44, val_main_v43, val_main_v42, val_main_v41, val_main_v40, val_main_v39, val_main_v38, val_main_v35, val_main_v34, val_main_v14, val_main_v13, val_main_cst_3, val_main_cst_4]

/-- The result's latent rows. -/
theorem o_lat (b : Fin 8) (r : Fin 2048) (k : Fin 2048) : val_main_v55 f yr x wg wu wd g md (ix2 ⟨b.val * 2048 + r.val, by omega⟩ k)
    = val_main_v33 f yr x wg wu wd g md (ix3 b r k) := by
  pointwise [val_main_v55, val_main_v53]
  exact dif_pos (by omega)
/-- The result's context rows, still joined. -/
theorem o_join (i : Fin 2048) (k : Fin 2048) : val_main_v55 f yr x wg wu wd g md (ix2 ⟨16384 + i.val, by omega⟩ k)
    = val_main_v54 f yr x wg wu wd g md (ix2 i k) := by
  pointwise [val_main_v55]
/-- The result's context rows. -/
theorem o_ctx (b : Fin 8) (r : Fin 256) (k : Fin 2048) : val_main_v55 f yr x wg wu wd g md (ix2 ⟨16384 + (b.val * 256 + r.val), by omega⟩ k)
    = val_main_v52 f yr x wg wu wd g md (ix3 b r k) := by
  refine (o_join f yr x wg wu wd g md ⟨b.val * 256 + r.val, by omega⟩ k).trans ?_
  pointwise [val_main_v54]

/-- The result at any row. -/
theorem o_read (i : Fin 18432) (k : Fin 2048) : val_main_v55 f yr x wg wu wd g md (ix2 i k)
    = (x (ix2 i k) : EReal) + md (ix3 (sel i) 5 k) * NormMath.norm (fun j => val_main_v6 f yr wg wu wd (ix2 i j)) (fun j => g (ix1 j)) k := by
  by_cases h : i.val < 16384
  · have hi : i = ⟨(⟨i.val / 2048, by omega⟩ : Fin 8).val * 2048 + (⟨i.val % 2048, by omega⟩ : Fin 2048).val, by simp only; omega⟩ := Fin.ext (by simp only; omega)
    have hs : sel i = ⟨(⟨i.val / 2048, by omega⟩ : Fin 8).val, by simp only; omega⟩ := by unfold sel; rw [dif_pos h]
    rw [hs]
    conv_lhs => rw [hi]
    rw [o_lat, x_lat, ← hi]
  · have hi : i = ⟨16384 + ((⟨(i.val - 16384) / 256, by omega⟩ : Fin 8).val * 256 + (⟨(i.val - 16384) % 256, by omega⟩ : Fin 256).val), by simp only; omega⟩ := Fin.ext (by simp only; omega)
    have hs : sel i = 8 := by unfold sel; rw [dif_neg h]
    rw [hs]
    conv_lhs => rw [hi]
    rw [o_ctx, x_ctx, ← hi]

end Cert.SharedRead
end
-- ==== Proof.SharedValue.lean ====
/- The shared expert's result array after a run is the reference of the argument arrays. -/
module
public import proofs.«01_k».proof.Proof.Gen.SharedIdeal.Frame
public import proofs.«01_k».proof.Proof.SharedRead
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.SharedIdeal.Value
open Cert.SharedIdeal Cert.SharedIdeal.Gen
variable (m : (ℓ : Loc nD τ sig) → Buf (Elt Ideal) ℓ)

/-- The windows' block indices at every grid point: the row tile, and the modulation row the tile's tokens share. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![if t.val < 32 then t.val / 4 else 8, 0, 0] ∧ win0_8.index t = ![t.val, 0] :=
  (by decide +kernel : ∀ t : Fin grid0.N, _)

/-- The gate's weight, as the kernel is handed it. -/
theorem V0 (c : Dev nD) : V m c main_v0 = truncf (F := Ideal) .bf16 (m ((c : Thread nD τ).loc main_arg3)) bitsLt_bf16_f32 := by
  show StableHlo.after hostOps0 _ (Proc.devRef .tc _) = _
  simp only [hostOps0]
  after_results_simp
/-- The other factor's weight, as the kernel is handed it. -/
theorem V1 (c : Dev nD) : V m c main_v1 = truncf (F := Ideal) .bf16 (m ((c : Thread nD τ).loc main_arg4)) bitsLt_bf16_f32 := by
  show StableHlo.after hostOps0 _ (Proc.devRef .tc _) = _
  simp only [hostOps0]
  after_results_simp
/-- The output weight, as the kernel is handed it. -/
theorem V2 (c : Dev nD) : V m c main_v2 = truncf (F := Ideal) .bf16 (m ((c : Thread nD τ).loc main_arg5)) bitsLt_bf16_f32 := by
  show StableHlo.after hostOps0 _ (Proc.devRef .tc _) = _
  simp only [hostOps0]
  after_results_simp
/-- The gain as one row. -/
theorem V3 (c : Dev nD) : V m c main_v3 = shapeCast S1x2048 (m ((c : Thread nD τ).loc main_arg6)) shapeCasts_S2048_S1x2048 := by
  show StableHlo.after hostOps0 _ (Proc.devRef .tc _) = _
  simp only [hostOps0]
  after_results_simp
  rfl

/-- The layer's input block at a grid point. -/
theorem read0 (c : Dev nD) (t : Fin cfg0.N) (a : Fin 512) (k : Fin 2048) :
    iblk m c 0 t (ix2 a k) = m ((c : Thread nD τ).loc main_arg0) (ix2 ⟨t.val * 512 + a.val, by have : t.val < 36 := t.isLt; omega⟩ k) := by
  rw [← V_main_arg0 m c]
  blk_ext [iblk, idx t]
/-- The routed experts' block. -/
theorem read1 (c : Dev nD) (t : Fin cfg0.N) (a : Fin 512) (k : Fin 2048) :
    iblk m c 1 t (ix2 a k) = m ((c : Thread nD τ).loc main_arg1) (ix2 ⟨t.val * 512 + a.val, by have : t.val < 36 := t.isLt; omega⟩ k) := by
  rw [← V_main_arg1 m c]
  blk_ext [iblk, idx t]
/-- The residual's block. -/
theorem read2 (c : Dev nD) (t : Fin cfg0.N) (a : Fin 512) (k : Fin 2048) :
    iblk m c 2 t (ix2 a k) = m ((c : Thread nD τ).loc main_arg2) (ix2 ⟨t.val * 512 + a.val, by have : t.val < 36 := t.isLt; omega⟩ k) := by
  rw [← V_main_arg2 m c]
  blk_ext [iblk, idx t]
/-- The gate's weight. -/
theorem read3 (c : Dev nD) (t : Fin cfg0.N) (k : Fin 2048) (h : Fin 512) :
    iblk m c 3 t (ix2 k h) = m ((c : Thread nD τ).loc main_arg3) (ix2 k h) := by
  have e : iblk m c 3 t (ix2 k h) = V m c main_v0 (ix2 k h) := by blk_ext [iblk, idx t]
  rw [e, V0]
  pointwise []
/-- The other factor's weight. -/
theorem read4 (c : Dev nD) (t : Fin cfg0.N) (k : Fin 2048) (h : Fin 512) :
    iblk m c 4 t (ix2 k h) = m ((c : Thread nD τ).loc main_arg4) (ix2 k h) := by
  have e : iblk m c 4 t (ix2 k h) = V m c main_v1 (ix2 k h) := by blk_ext [iblk, idx t]
  rw [e, V1]
  pointwise []
/-- The output weight. -/
theorem read5 (c : Dev nD) (t : Fin cfg0.N) (h : Fin 512) (k : Fin 2048) :
    iblk m c 5 t (ix2 h k) = m ((c : Thread nD τ).loc main_arg5) (ix2 h k) := by
  have e : iblk m c 5 t (ix2 h k) = V m c main_v2 (ix2 h k) := by blk_ext [iblk, idx t]
  rw [e, V2]
  pointwise []
/-- The gain. -/
theorem read6 (c : Dev nD) (t : Fin cfg0.N) (k : Fin 2048) :
    iblk m c 6 t (ix2 0 k) = m ((c : Thread nD τ).loc main_arg6) (ix1 k) := by
  have e : iblk m c 6 t (ix2 0 k) = V m c main_v3 (ix2 0 k) := by blk_ext [iblk, idx t]
  rw [e, V3]
  pointwise []
/-- The modulation block at a grid point is the row its tokens read. -/
theorem read7 (c : Dev nD) (t : Fin cfg0.N) (a : Fin 512) (q : Fin 6) (k : Fin 2048) :
    iblk m c 7 t (ix3 0 q k) = m ((c : Thread nD τ).loc main_arg7)
      (ix3 (SharedRead.sel ⟨t.val * 512 + a.val, by have : t.val < 36 := t.isLt; omega⟩) q k) := by
  have ht : t.val < 36 := t.isLt
  rw [← V_main_arg7 m c]
  have hs : SharedRead.sel ⟨t.val * 512 + a.val, by omega⟩ = ⟨if t.val < 32 then t.val / 4 else 8, by split <;> omega⟩ := by
    unfold SharedRead.sel
    apply Fin.ext
    simp only
    split <;> split <;> first | (exfalso; omega) | (simp only; omega) | rfl
  rw [hs]
  blk_ext [iblk, idx t]

section
variable (x0 : Vec Ideal S512x2048 .bf16) (x1 x2 : Vec Ideal S512x2048 .f32) (x3 x4 : Vec Ideal S2048x512 .bf16)
  (x5 : Vec Ideal S512x2048 .bf16) (x6 : Vec Ideal S1x2048 .f32) (x7 : Vec Ideal S1x6x2048 .f32)

/-- The layer's output at a row of a block, with the routed experts' added. -/
def yrow (a : Fin 512) (j : Fin 2048) : EReal :=
  (∑ h : Fin 512, (GateMath.silu (∑ k : Fin 2048, (x0 (ix2 a k) : EReal) * x3 (ix2 k h)) * ∑ k : Fin 2048, (x0 (ix2 a k) : EReal) * x4 (ix2 k h)) * x5 (ix2 h j))
    + x1 (ix2 a j)

/-- A block's normalised rows, before the gain. -/
theorem norm_ld (a : Fin 512) (k : Fin 2048) : k0_pay3 (F := Ideal) x0 x3 x4 x5 x1 (ix2 a k)
    = yrow x0 x1 x3 x4 x5 a k * Ideal.rsqrt (Ideal.div (∑ j, yrow x0 x1 x3 x4 x5 a j * yrow x0 x1 x3 x4 x5 a j) (Ideal.ofBits .f32 0x45000000#32) + Ideal.ofBits .f32 0x358637BD#32) := by
  unfold yrow
  simp only [← GateMath.silu_quot]
  pointwise [k0_pay3]

/-- The block a grid point stores, from the blocks it loads. -/
theorem pay_ld (a : Fin 512) (k : Fin 2048) :
    out0_8 (F := Ideal) x0 x1 x2 x3 x4 x5 x6 x7 (ix2 a k)
      = (x2 (ix2 a k) : EReal) + x7 (ix3 0 5 k) * NormMath.norm (yrow x0 x1 x3 x4 x5 a) (fun j => x6 (ix2 0 j)) k := by
  unfold NormMath.norm
  rw [← norm_ld]
  unfold out0_8
  frame_out
  generalize k0_pay3 (F := Ideal) x0 x3 x4 x5 x1 = y
  pointwise [k0_pay1, k0_pay2]
end

/-- A grid point's block is the reference at the array index it sits at. -/
theorem point (c : Dev nD) (t : Fin cfg0.N) (a : Fin 512) (k : Fin 2048) :
    out0_8 (F := Ideal) (iblk m c 0 t) (iblk m c 1 t) (iblk m c 2 t) (iblk m c 3 t) (iblk m c 4 t) (iblk m c 5 t) (iblk m c 6 t) (iblk m c 7 t) (ix2 a k)
      = Cert.SharedRefIdeal.Read.val_main_v55 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (ix2 ⟨t.val * 512 + a.val, by have : t.val < 36 := t.isLt; omega⟩ k) := by
  refine (pay_ld _ _ _ _ _ _ _ _ a k).trans ?_
  rw [SharedRead.o_read]
  have hy : yrow (iblk m c 0 t) (iblk m c 1 t) (iblk m c 3 t) (iblk m c 4 t) (iblk m c 5 t) a
      = fun j => Cert.SharedRefIdeal.Read.val_main_v6 (F := Ideal) (m ((c : Thread nD τ).loc main_arg0)) (m ((c : Thread nD τ).loc main_arg1))
          (m ((c : Thread nD τ).loc main_arg3)) (m ((c : Thread nD τ).loc main_arg4)) (m ((c : Thread nD τ).loc main_arg5))
          (ix2 ⟨t.val * 512 + a.val, by have : t.val < 36 := t.isLt; omega⟩ j) := by
    funext j
    unfold yrow
    rw [SharedRead.y_read]
    simp only [SharedRead.hid_read, read0, read1, read3, read4, read5]
  rw [hy]
  simp only [read2, read6, read7 m c t a]

/-- The result array after the run is the reference's. -/
theorem final (c : Dev nD) : (dats m 0 c).arrAt 8 (cfgs 0).N
    = Cert.SharedRefIdeal.Read.val_main_v55 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  idx_vars y
  refine (point m c t _ _).trans ?_
  blk_ext [idx t]

end Cert.SharedIdeal.Value
end
-- ==== Proof.SharedClaim.lean ====
/- What is claimed of `Shared`, put together: the frames of the program, of its reading over the extended reals and of
   the reference, and that the two readings end with equal results. -/
module

public import proofs.«01_k».proof.Defs
public import proofs.«01_k».proof.Proof.Gen.Shared.Frame
public import proofs.«01_k».proof.Proof.Gen.SharedIdeal.Frame
public import proofs.«01_k».proof.Proof.Gen.SharedIdeal.Value
public import proofs.«01_k».proof.Proof.Gen.SharedRefIdeal.Run
public import proofs.«01_k».proof.Proof.Gen.SharedRefIdeal.Read
public import proofs.«01_k».proof.Proof.SharedValue
public import Idealize.ShloMosaic.Lib.Quiescent

@[expose] public section

noncomputable section

namespace Cert.Proof.Shared

open Idealize.ShloMosaic Idealize.SL.Sem

/-- The reference ends with its arguments unchanged and, declaring no semaphore, with every counter at zero. -/
theorem ref_frame (m : (ℓ : Loc Cert.SharedRefIdeal.nD Cert.SharedRefIdeal.τ Cert.SharedRefIdeal.sig) → Buf (Elt Ideal) ℓ) (g : Dev Cert.SharedRefIdeal.nD → PrngReg) :
    θ_run (Cert.SharedRefIdeal.defs (F := Ideal)) (onTc (τ := Cert.SharedRefIdeal.τ) (Cert.SharedRefIdeal.main (F := Ideal))) ⟨m, fun _ => 0, g⟩ (fun r =>
      (∀ c : Dev Cert.SharedRefIdeal.nD, r.2.mem ((c.tc : Thread Cert.SharedRefIdeal.nD Cert.SharedRefIdeal.τ).loc Cert.SharedRefIdeal.main_arg0) = m ((c.tc : Thread Cert.SharedRefIdeal.nD Cert.SharedRefIdeal.τ).loc Cert.SharedRefIdeal.main_arg0)
        ∧ r.2.mem ((c.tc : Thread Cert.SharedRefIdeal.nD Cert.SharedRefIdeal.τ).loc Cert.SharedRefIdeal.main_arg1) = m ((c.tc : Thread Cert.SharedRefIdeal.nD Cert.SharedRefIdeal.τ).loc Cert.SharedRefIdeal.main_arg1)
        ∧ r.2.mem ((c.tc : Thread Cert.SharedRefIdeal.nD Cert.SharedRefIdeal.τ).loc Cert.SharedRefIdeal.main_arg2) = m ((c.tc : Thread Cert.SharedRefIdeal.nD Cert.SharedRefIdeal.τ).loc Cert.SharedRefIdeal.main_arg2)
        ∧ r.2.mem ((c.tc : Thread Cert.SharedRefIdeal.nD Cert.SharedRefIdeal.τ).loc Cert.SharedRefIdeal.main_arg3) = m ((c.tc : Thread Cert.SharedRefIdeal.nD Cert.SharedRefIdeal.τ).loc Cert.SharedRefIdeal.main_arg3)
        ∧ r.2.mem ((c.tc : Thread Cert.SharedRefIdeal.nD Cert.SharedRefIdeal.τ).loc Cert.SharedRefIdeal.main_arg4) = m ((c.tc : Thread Cert.SharedRefIdeal.nD Cert.SharedRefIdeal.τ).loc Cert.SharedRefIdeal.main_arg4)
        ∧ r.2.mem ((c.tc : Thread Cert.SharedRefIdeal.nD Cert.SharedRefIdeal.τ).loc Cert.SharedRefIdeal.main_arg5) = m ((c.tc : Thread Cert.SharedRefIdeal.nD Cert.SharedRefIdeal.τ).loc Cert.SharedRefIdeal.main_arg5)
        ∧ r.2.mem ((c.tc : Thread Cert.SharedRefIdeal.nD Cert.SharedRefIdeal.τ).loc Cert.SharedRefIdeal.main_arg6) = m ((c.tc : Thread Cert.SharedRefIdeal.nD Cert.SharedRefIdeal.τ).loc Cert.SharedRefIdeal.main_arg6)
        ∧ r.2.mem ((c.tc : Thread Cert.SharedRefIdeal.nD Cert.SharedRefIdeal.τ).loc Cert.SharedRefIdeal.main_arg7) = m ((c.tc : Thread Cert.SharedRefIdeal.nD Cert.SharedRefIdeal.τ).loc Cert.SharedRefIdeal.main_arg7))
      ∧ r.2.sem = fun _ => 0) :=
  (θ_run (Cert.SharedRefIdeal.defs (F := Ideal)) _ _).mono
    (fun r h => ⟨fun c => (h c).2, sem_eq_zero_of_no_sems (by decide) r.2⟩) (Cert.SharedRefIdeal.Value.run m g)

/-- The two readings end with equal results and unchanged arguments. -/
theorem algebraic [Cert.SharedIdeal.Facts] [Cert.SharedRefIdeal.Facts] : Cert.algebraic_SharedIdeal_SharedRefIdeal := by
  intro m g m' g' hpre hagree
  refine ⟨fun c => Cert.SharedRefIdeal.Read.val_main_v55 (F := Ideal) (m ((c.tc : Thread Cert.SharedIdeal.nD Cert.SharedIdeal.τ).loc Cert.SharedIdeal.main_arg0)) (m ((c.tc : Thread Cert.SharedIdeal.nD Cert.SharedIdeal.τ).loc Cert.SharedIdeal.main_arg1)) (m ((c.tc : Thread Cert.SharedIdeal.nD Cert.SharedIdeal.τ).loc Cert.SharedIdeal.main_arg2)) (m ((c.tc : Thread Cert.SharedIdeal.nD Cert.SharedIdeal.τ).loc Cert.SharedIdeal.main_arg3)) (m ((c.tc : Thread Cert.SharedIdeal.nD Cert.SharedIdeal.τ).loc Cert.SharedIdeal.main_arg4)) (m ((c.tc : Thread Cert.SharedIdeal.nD Cert.SharedIdeal.τ).loc Cert.SharedIdeal.main_arg5)) (m ((c.tc : Thread Cert.SharedIdeal.nD Cert.SharedIdeal.τ).loc Cert.SharedIdeal.main_arg6)) (m ((c.tc : Thread Cert.SharedIdeal.nD Cert.SharedIdeal.τ).loc Cert.SharedIdeal.main_arg7)), ?_, ?_⟩
  · refine (θ_run (Cert.SharedIdeal.defs (F := Ideal)) _ _).mono (fun r h c => ?_) (Cert.SharedIdeal.Value.run_blocks m g)
    exact ⟨(h c).1.trans (Cert.SharedIdeal.Value.final m c), (h c).2⟩
  · exact (θ_run (Cert.SharedRefIdeal.defs (F := Ideal)) _ _).mono
      (fun r h c => ⟨(h c).1.trans ((Cert.SharedRefIdeal.Read.val_main_v55_eq m' c).trans (by rw [(hagree c).1, (hagree c).2.1, (hagree c).2.2.1, (hagree c).2.2.2.1, (hagree c).2.2.2.2.1, (hagree c).2.2.2.2.2.1, (hagree c).2.2.2.2.2.2.1, (hagree c).2.2.2.2.2.2.2])), (h c).2⟩)
      (Cert.SharedRefIdeal.Value.run m' g')

end Cert.Proof.Shared

end
-- ==== Proof.MlaQRead.lean ====
module
public import proofs.«01_k».proof.Proof.Gen.MlaQRefIdeal.Read
public import proofs.«01_k».proof.Proof.AttnMath
public import Idealize.ShloMosaic.Lib.Pointwise

@[expose] public section
set_option maxRecDepth 16384
noncomputable section
open Idealize.ShloMosaic Idealize.ShloMosaic.TcCoe Idealize.SL.Sem
namespace Cert.MlaQRead
open Cert.MlaQRefIdeal Cert.MlaQRefIdeal.Gen Cert.MlaQRefIdeal.Read

abbrev X := (⟨S18432x3968, .bf16⟩ : BufTy).Contents (Elt Ideal)
abbrev G := (⟨S768, .f32⟩ : BufTy).Contents (Elt Ideal)
abbrev W := (⟨S768x1152, .f32⟩ : BufTy).Contents (Elt Ideal)

/-- A row of the query latents over its root mean square, times the gain. -/
def norm (x g : Fin 768 → EReal) (k : Fin 768) : EReal :=
  x k * Ideal.rsqrt (Ideal.div (∑ j, x j * x j) (Ideal.ofBits .f32 0x44400000#32) + Ideal.ofBits .f32 0x358637BD#32) * g k

/-- The sum of a row's squares. -/
theorem ss (x : X) (i : Fin 18432) :
    val_main_v3 x (ix1 i) = ∑ j : Fin 768, (x (ix2 i ⟨1536 + j.val, by omega⟩) : EReal) * x (ix2 i ⟨1536 + j.val, by omega⟩) := by
  pointwise [val_main_v3, val_main_v2, val_main_v1, val_main_v0, val_main_cst]

/-- One column of a row's projection. -/
theorem proj (x : X) (g : G) (w : W) (i : Fin 18432) (j : Fin 1152) :
    val_main_v15 x g w (ix2 i j) = ∑ k : Fin 768, norm (fun k => x (ix2 i ⟨1536 + k.val, by omega⟩)) (fun k => g (ix1 k)) k * w (ix2 k j) := by
  unfold norm
  rw [← ss]
  pointwise [val_main_v15, val_main_v14, val_main_v13, val_main_v12, val_main_v11, val_main_v10, val_main_v9, val_main_v8, val_main_v7, val_main_v6, val_main_v5, val_main_v4, val_main_v1, val_main_v0, val_main_cst_0, val_main_cst_1]

/-- The factor every query carries. -/
def scale : EReal := Ideal.ofBits .f32 0x3D93CD3A#32

/-- A result column read back as head and lane. -/
theorem flat (x : X) (g : G) (w : W) (i : Fin 18432) (h : Fin 6) (d : Fin 256) :
    val_main_v101 x g w (ix2 i ⟨h.val * 256 + d.val, by omega⟩) = val_main_v97 x g w (ix3 i h d) * scale := by
  unfold scale
  pointwise [val_main_v101, val_main_v100, val_main_v99, val_main_v98, val_main_cst_7]

/-- The first 128 lanes of a head: the projection. -/
theorem lane_plain (x : X) (g : G) (w : W) (i : Fin 18432) (h : Fin 6) (d : Fin 128) :
    val_main_v97 x g w (ix3 i h ⟨d.val, by omega⟩) = val_main_v15 x g w (ix2 i ⟨h.val * 192 + d.val, by omega⟩) := by
  pointwise [val_main_v97, val_main_v17, val_main_v16]

/-- The next 64 lanes of a head. -/
theorem lane_rot (x : X) (g : G) (w : W) (i : Fin 18432) (h : Fin 6) (d : Fin 64) :
    val_main_v97 x g w (ix3 i h ⟨128 + d.val, by omega⟩) = val_main_v95 x g w (ix3 i h d) := by
  pointwise [val_main_v97]

/-- The last 64 lanes of a head: zeros. -/
theorem lane_zero (x : X) (g : G) (w : W) (i : Fin 18432) (h : Fin 6) (d : Fin 64) :
    val_main_v97 x g w (ix3 i h ⟨192 + d.val, by omega⟩) = (0 : EReal) := by
  pointwise [val_main_v97, val_main_v96, val_main_cst_6]
  split_ifs <;> first | (exfalso; omega) | rfl

/-- A context row's lanes are not rotated. -/
theorem rot_ctx (x : X) (g : G) (w : W) (i : Fin 2048) (h : Fin 6) (d : Fin 64) :
    val_main_v95 x g w (ix3 ⟨16384 + i.val, by omega⟩ h d) = val_main_v15 x g w (ix2 ⟨16384 + i.val, by omega⟩ ⟨h.val * 192 + (128 + d.val), by omega⟩) := by
  pointwise [val_main_v95, val_main_v94, val_main_v18, val_main_v16]

/-- A latent row's lanes come from the rotation. -/
theorem rot_lat (x : X) (g : G) (w : W) (b : Fin 8) (r : Fin 2048) (h : Fin 6) (d : Fin 64) :
    val_main_v95 x g w (ix3 ⟨b.val * 2048 + r.val, by omega⟩ h d) = val_main_v92 x g w (ix4 b r h d) := by
  pointwise [val_main_v95, val_main_v93]
  exact dif_pos (by omega)

/-- The rotated lanes before the rotation. -/
theorem pre (x : X) (g : G) (w : W) (b : Fin 8) (r : Fin 2048) (h : Fin 6) (d : Fin 64) :
    val_main_v20 x g w (ix4 b r h d) = val_main_v15 x g w (ix2 ⟨b.val * 2048 + r.val, by omega⟩ ⟨h.val * 192 + (128 + d.val), by omega⟩) := by
  pointwise [val_main_v20, val_main_v19, val_main_v18, val_main_v16]

/-- The first 32 rotated lanes turn by the row's angle. -/
theorem half0 (x : X) (g : G) (w : W) (b : Fin 8) (r : Fin 2048) (h : Fin 6) (e : Fin 32) :
    val_main_v92 x g w (ix4 b r h ⟨e.val, by omega⟩) = val_main_v70 x g w (ix4 b r h e) := by
  pointwise [val_main_v92]
  try exact dif_pos (by omega)

/-- The last 32 rotated lanes turn by the column's angle. -/
theorem half1 (x : X) (g : G) (w : W) (b : Fin 8) (r : Fin 2048) (h : Fin 6) (e : Fin 32) :
    val_main_v92 x g w (ix4 b r h ⟨32 + e.val, by omega⟩) = val_main_v91 x g w (ix4 b r h e) := by
  pointwise [val_main_v92]

/-- The row angle's first half. -/
theorem rot0 (x : X) (g : G) (w : W) (b : Fin 8) (r : Fin 2048) (h : Fin 6) (f : Fin 16) :
    val_main_v70 x g w (ix4 b r h ⟨f.val, by omega⟩)
      = (val_main_v20 x g w (ix4 b r h ⟨f.val, by omega⟩) * Ideal.cos (val_main_v42 (F := Ideal) (ix2 r f))
        - val_main_v20 x g w (ix4 b r h ⟨16 + f.val, by omega⟩) * Ideal.sin (val_main_v42 (F := Ideal) (ix2 r f)) : EReal) := by
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v48]

/-- The row angle's second half. -/
theorem rot1 (x : X) (g : G) (w : W) (b : Fin 8) (r : Fin 2048) (h : Fin 6) (f : Fin 16) :
    val_main_v70 x g w (ix4 b r h ⟨16 + f.val, by omega⟩)
      = (val_main_v20 x g w (ix4 b r h ⟨f.val, by omega⟩) * Ideal.sin (val_main_v42 (F := Ideal) (ix2 r f))
        + val_main_v20 x g w (ix4 b r h ⟨16 + f.val, by omega⟩) * Ideal.cos (val_main_v42 (F := Ideal) (ix2 r f)) : EReal) := by
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v48]

/-- The column angle's first half. -/
theorem rot2 (x : X) (g : G) (w : W) (b : Fin 8) (r : Fin 2048) (h : Fin 6) (f : Fin 16) :
    val_main_v91 x g w (ix4 b r h ⟨f.val, by omega⟩)
      = (val_main_v20 x g w (ix4 b r h ⟨32 + f.val, by omega⟩) * Ideal.cos (val_main_v47 (F := Ideal) (ix2 r f))
        - val_main_v20 x g w (ix4 b r h ⟨32 + (16 + f.val), by omega⟩) * Ideal.sin (val_main_v47 (F := Ideal) (ix2 r f)) : EReal) := by
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v49]

/-- The column angle's second half. -/
theorem rot3 (x : X) (g : G) (w : W) (b : Fin 8) (r : Fin 2048) (h : Fin 6) (f : Fin 16) :
    val_main_v91 x g w (ix4 b r h ⟨16 + f.val, by omega⟩)
      = (val_main_v20 x g w (ix4 b r h ⟨32 + f.val, by omega⟩) * Ideal.sin (val_main_v47 (F := Ideal) (ix2 r f))
        + val_main_v20 x g w (ix4 b r h ⟨32 + (16 + f.val), by omega⟩) * Ideal.cos (val_main_v47 (F := Ideal) (ix2 r f)) : EReal) := by
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v49]

/-- A rotated lane, group 0, from the projection. -/
theorem turned0 (x : X) (g : G) (w : W) (b : Fin 8) (r : Fin 2048) (h : Fin 6) (f : Fin 16) :
    val_main_v92 x g w (ix4 b r h ⟨f.val, by omega⟩)
      = (val_main_v15 x g w (ix2 ⟨b.val * 2048 + r.val, by omega⟩ ⟨h.val * 192 + (128 + (f.val)), by omega⟩) * Ideal.cos (val_main_v42 (F := Ideal) (ix2 r f))
        + val_main_v15 x g w (ix2 ⟨b.val * 2048 + r.val, by omega⟩ ⟨h.val * 192 + (128 + (16 + f.val)), by omega⟩) * -Ideal.sin (val_main_v42 (F := Ideal) (ix2 r f)) : EReal) := by
  have h0 := half0 x g w b r h ⟨f.val, by omega⟩
  rw [rot0, pre, pre, sub_eq_add_neg, ← mul_neg] at h0
  exact h0

/-- A rotated lane, group 1, from the projection. -/
theorem turned1 (x : X) (g : G) (w : W) (b : Fin 8) (r : Fin 2048) (h : Fin 6) (f : Fin 16) :
    val_main_v92 x g w (ix4 b r h ⟨16 + f.val, by omega⟩)
      = (val_main_v15 x g w (ix2 ⟨b.val * 2048 + r.val, by omega⟩ ⟨h.val * 192 + (128 + (16 + f.val)), by omega⟩) * Ideal.cos (val_main_v42 (F := Ideal) (ix2 r f))
        + val_main_v15 x g w (ix2 ⟨b.val * 2048 + r.val, by omega⟩ ⟨h.val * 192 + (128 + (f.val)), by omega⟩) * Ideal.sin (val_main_v42 (F := Ideal) (ix2 r f)) : EReal) := by
  have h0 := half0 x g w b r h ⟨16 + f.val, by omega⟩
  rw [rot1, pre, pre] at h0
  exact h0.trans (add_comm _ _)

/-- A rotated lane, group 2, from the projection. -/
theorem turned2 (x : X) (g : G) (w : W) (b : Fin 8) (r : Fin 2048) (h : Fin 6) (f : Fin 16) :
    val_main_v92 x g w (ix4 b r h ⟨32 + f.val, by omega⟩)
      = (val_main_v15 x g w (ix2 ⟨b.val * 2048 + r.val, by omega⟩ ⟨h.val * 192 + (128 + (32 + f.val)), by omega⟩) * Ideal.cos (val_main_v47 (F := Ideal) (ix2 r f))
        + val_main_v15 x g w (ix2 ⟨b.val * 2048 + r.val, by omega⟩ ⟨h.val * 192 + (128 + (48 + f.val)), by omega⟩) * -Ideal.sin (val_main_v47 (F := Ideal) (ix2 r f)) : EReal) := by
  have hk : (⟨32 + (16 + f.val), by omega⟩ : Fin 64) = ⟨48 + f.val, by omega⟩ := Fin.ext (by simp only; omega)
  have h0 := half1 x g w b r h ⟨f.val, by omega⟩
  rw [rot2, hk, pre, pre, sub_eq_add_neg, ← mul_neg] at h0
  exact h0

/-- A rotated lane, group 3, from the projection. -/
theorem turned3 (x : X) (g : G) (w : W) (b : Fin 8) (r : Fin 2048) (h : Fin 6) (f : Fin 16) :
    val_main_v92 x g w (ix4 b r h ⟨48 + f.val, by omega⟩)
      = (val_main_v15 x g w (ix2 ⟨b.val * 2048 + r.val, by omega⟩ ⟨h.val * 192 + (128 + (48 + f.val)), by omega⟩) * Ideal.cos (val_main_v47 (F := Ideal) (ix2 r f))
        + val_main_v15 x g w (ix2 ⟨b.val * 2048 + r.val, by omega⟩ ⟨h.val * 192 + (128 + (32 + f.val)), by omega⟩) * Ideal.sin (val_main_v47 (F := Ideal) (ix2 r f)) : EReal) := by
  have hk : (⟨32 + (16 + f.val), by omega⟩ : Fin 64) = ⟨48 + f.val, by omega⟩ := Fin.ext (by simp only; omega)
  have h0 := half1 x g w b r h ⟨16 + f.val, by omega⟩
  rw [rot3] at h0
  simp only at h0
  rw [hk, pre, pre] at h0
  exact h0.trans (add_comm _ _)

end Cert.MlaQRead
end
-- ==== Proof.MlaQValue.lean ====
module
public import proofs.«01_k».proof.Proof.Gen.MlaQIdeal.Frame
public import proofs.«01_k».proof.Proof.MlaQRead
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.MlaQIdeal.Value
open Cert.MlaQIdeal Cert.MlaQIdeal.Gen
variable (m : (ℓ : Loc nD τ sig) → Buf (Elt Ideal) ℓ)

/-- The windows' block indices at every grid point. -/
theorem idx : ∀ t : Fin cfg0.N, win0_0.index t = ![t.val, 2]
    ∧ win0_1.index t = ![0, 0] ∧ win0_2.index t = ![0, 0] ∧ win0_3.index t = ![if t.val < 32 then t.val % 4 else 4, 0]
    ∧ win0_4.index t = ![if t.val < 32 then t.val % 4 else 4, 0] ∧ win0_5.index t = ![if t.val < 32 then t.val % 4 else 4, 0]
    ∧ win0_6.index t = ![t.val, 0] :=
  (by decide +kernel : ∀ t : Fin grid0.N, _)

/-- The projection a grid point computes, one element. -/
def P (x0 : Vec Ideal S512x768 .bf16) (x1 : Vec Ideal S1x768 .f32) (x2 : Vec Ideal S768x1536 .bf16) (a : Fin 512) (j : Fin 1536) : EReal :=
  (∑ k : Fin 768, MlaQRead.norm (fun k => x0 (ix2 a k)) (fun k => x1 (ix2 0 k)) k * x2 (ix2 k j)) * MlaQRead.scale

/-- The projection payload at an element. -/
theorem pay6 (x0 : Vec Ideal S512x768 .bf16) (x1 : Vec Ideal S1x768 .f32) (x2 : Vec Ideal S768x1536 .bf16) (a : Fin 512) (j : Fin 1536) :
    k0_pay6 (F := Ideal) x0 x1 x2 (ix2 a j) = P x0 x1 x2 a j := by
  unfold P MlaQRead.norm MlaQRead.scale
  pointwise [k0_pay6]

/-- What a grid point leaves at a lane of a head. -/
def Q (x0 : Vec Ideal S512x768 .bf16) (x1 : Vec Ideal S1x768 .f32) (x2 : Vec Ideal S768x1536 .bf16) (x3 x4 x5 : Vec Ideal S512x128 .f32)
    (a : Fin 512) (h : Fin 6) (d : Fin 256) : EReal :=
  if hd : d.val < 128 then P x0 x1 x2 a ⟨h.val * 256 + d.val, by omega⟩
  else P x0 x1 x2 a ⟨h.val * 256 + d.val, by omega⟩ * x3 (ix2 a ⟨d.val - 128, by omega⟩)
    + P x0 x1 x2 a ⟨h.val * 256 + 128 + (d.val - 128 + 128 - 112) % 128, by omega⟩ * x4 (ix2 a ⟨d.val - 128, by omega⟩)
    + P x0 x1 x2 a ⟨h.val * 256 + 128 + (d.val - 128 + 128 - 16) % 128, by omega⟩ * x5 (ix2 a ⟨d.val - 128, by omega⟩)

/-- Head 0's plain lanes. -/
theorem plain0 (x0 : Vec Ideal S512x768 .bf16) (x1 : Vec Ideal S1x768 .f32) (x2 : Vec Ideal S768x1536 .bf16) (a : Fin 512) (e : Fin 128) :
    k0_pay10 (F := Ideal) x0 x1 x2 (ix2 a e) = k0_pay6 (F := Ideal) x0 x1 x2 (ix2 a ⟨0 + e.val, by omega⟩) := by
  pointwise [k0_pay10]
/-- Head 0's rotated lanes. -/
theorem rope0 (x0 : Vec Ideal S512x768 .bf16) (x1 : Vec Ideal S1x768 .f32) (x2 : Vec Ideal S768x1536 .bf16) (x3 x4 x5 : Vec Ideal S512x128 .f32) (a : Fin 512) (e : Fin 128) :
    k0_pay14 (F := Ideal) (k0_pay9 x5) (k0_pay12 x0 x1 x2 x3 x4) (k0_pay13 x0 x1 x2) (ix2 a e)
      = (k0_pay6 (F := Ideal) x0 x1 x2 (ix2 a ⟨128 + e.val, by omega⟩) * x3 (ix2 a e) + k0_pay6 (F := Ideal) x0 x1 x2 (ix2 a ⟨128 + (e.val + 128 - 112) % 128, by omega⟩) * x4 (ix2 a e) + k0_pay6 (F := Ideal) x0 x1 x2 (ix2 a ⟨128 + (e.val + 128 - 16) % 128, by omega⟩) * x5 (ix2 a e) : EReal) := by
  pointwise [k0_pay14, k0_pay13, k0_pay12, k0_pay11, k0_pay9, k0_pay8, k0_pay7]
/-- Head 1's plain lanes. -/
theorem plain1 (Y : FVec Ideal S512x1536 .f32) (a : Fin 512) (e : Fin 128) :
    k0_pay15 (F := Ideal) Y (ix2 a e) = Y (ix2 a ⟨256 + e.val, by omega⟩) := by
  pointwise [k0_pay15]
/-- Head 1's rotated lanes. -/
theorem rope1 (Y : FVec Ideal S512x1536 .f32) (x3 x4 x5 : Vec Ideal S512x128 .f32) (a : Fin 512) (e : Fin 128) :
    k0_pay16 (F := Ideal) Y (k0_pay7 x3) (k0_pay8 x4) (k0_pay9 x5) (ix2 a e)
      = (Y (ix2 a ⟨384 + e.val, by omega⟩) * x3 (ix2 a e) + Y (ix2 a ⟨384 + (e.val + 128 - 112) % 128, by omega⟩) * x4 (ix2 a e) + Y (ix2 a ⟨384 + (e.val + 128 - 16) % 128, by omega⟩) * x5 (ix2 a e) : EReal) := by
  pointwise [k0_pay16, k0_pay9, k0_pay8, k0_pay7]
/-- Head 2's plain lanes. -/
theorem plain2 (Y : FVec Ideal S512x1536 .f32) (a : Fin 512) (e : Fin 128) :
    k0_pay17 (F := Ideal) Y (ix2 a e) = Y (ix2 a ⟨512 + e.val, by omega⟩) := by
  pointwise [k0_pay17]
/-- Head 2's rotated lanes. -/
theorem rope2 (Y : FVec Ideal S512x1536 .f32) (x3 x4 x5 : Vec Ideal S512x128 .f32) (a : Fin 512) (e : Fin 128) :
    k0_pay18 (F := Ideal) Y (k0_pay7 x3) (k0_pay8 x4) (k0_pay9 x5) (ix2 a e)
      = (Y (ix2 a ⟨640 + e.val, by omega⟩) * x3 (ix2 a e) + Y (ix2 a ⟨640 + (e.val + 128 - 112) % 128, by omega⟩) * x4 (ix2 a e) + Y (ix2 a ⟨640 + (e.val + 128 - 16) % 128, by omega⟩) * x5 (ix2 a e) : EReal) := by
  pointwise [k0_pay18, k0_pay9, k0_pay8, k0_pay7]
/-- Head 3's plain lanes. -/
theorem plain3 (Y : FVec Ideal S512x1536 .f32) (a : Fin 512) (e : Fin 128) :
    k0_pay19 (F := Ideal) Y (ix2 a e) = Y (ix2 a ⟨768 + e.val, by omega⟩) := by
  pointwise [k0_pay19]
/-- Head 3's rotated lanes. -/
theorem rope3 (Y : FVec Ideal S512x1536 .f32) (x3 x4 x5 : Vec Ideal S512x128 .f32) (a : Fin 512) (e : Fin 128) :
    k0_pay1 (F := Ideal) (k0_pay9 x5) (k0_pay20 Y) (k0_pay21 Y (k0_pay7 x3)) (k0_pay22 Y (k0_pay8 x4)) (ix2 a e)
      = (Y (ix2 a ⟨896 + e.val, by omega⟩) * x3 (ix2 a e) + Y (ix2 a ⟨896 + (e.val + 128 - 112) % 128, by omega⟩) * x4 (ix2 a e) + Y (ix2 a ⟨896 + (e.val + 128 - 16) % 128, by omega⟩) * x5 (ix2 a e) : EReal) := by
  pointwise [k0_pay1, k0_pay20, k0_pay21, k0_pay22, k0_pay9, k0_pay8, k0_pay7]
/-- Head 4's plain lanes. -/
theorem plain4 (Y : FVec Ideal S512x1536 .f32) (a : Fin 512) (e : Fin 128) :
    k0_pay2 (F := Ideal) Y (ix2 a e) = Y (ix2 a ⟨1024 + e.val, by omega⟩) := by
  pointwise [k0_pay2]
/-- Head 4's rotated lanes. -/
theorem rope4 (Y : FVec Ideal S512x1536 .f32) (x3 x4 x5 : Vec Ideal S512x128 .f32) (a : Fin 512) (e : Fin 128) :
    k0_pay3 (F := Ideal) Y (k0_pay7 x3) (k0_pay8 x4) (k0_pay9 x5) (ix2 a e)
      = (Y (ix2 a ⟨1152 + e.val, by omega⟩) * x3 (ix2 a e) + Y (ix2 a ⟨1152 + (e.val + 128 - 112) % 128, by omega⟩) * x4 (ix2 a e) + Y (ix2 a ⟨1152 + (e.val + 128 - 16) % 128, by omega⟩) * x5 (ix2 a e) : EReal) := by
  pointwise [k0_pay3, k0_pay9, k0_pay8, k0_pay7]
/-- Head 5's plain lanes. -/
theorem plain5 (Y : FVec Ideal S512x1536 .f32) (a : Fin 512) (e : Fin 128) :
    k0_pay4 (F := Ideal) Y (ix2 a e) = Y (ix2 a ⟨1280 + e.val, by omega⟩) := by
  pointwise [k0_pay4]
/-- Head 5's rotated lanes. -/
theorem rope5 (Y : FVec Ideal S512x1536 .f32) (x3 x4 x5 : Vec Ideal S512x128 .f32) (a : Fin 512) (e : Fin 128) :
    k0_pay5 (F := Ideal) Y (k0_pay7 x3) (k0_pay8 x4) (k0_pay9 x5) (ix2 a e)
      = (Y (ix2 a ⟨1408 + e.val, by omega⟩) * x3 (ix2 a e) + Y (ix2 a ⟨1408 + (e.val + 128 - 112) % 128, by omega⟩) * x4 (ix2 a e) + Y (ix2 a ⟨1408 + (e.val + 128 - 16) % 128, by omega⟩) * x5 (ix2 a e) : EReal) := by
  pointwise [k0_pay5, k0_pay9, k0_pay8, k0_pay7]

/-- A plain lane, with the column it reads. -/
theorem Q_plain (x0 : Vec Ideal S512x768 .bf16) (x1 : Vec Ideal S1x768 .f32) (x2 : Vec Ideal S768x1536 .bf16) (x3 x4 x5 : Vec Ideal S512x128 .f32)
    (a : Fin 512) (h : Fin 6) (d : Fin 256) (j : Fin 1536) (hd : d.val < 128) (hj : j.val = h.val * 256 + d.val) :
    k0_pay6 (F := Ideal) x0 x1 x2 (ix2 a j) = Q x0 x1 x2 x3 x4 x5 a h d := by
  unfold Q
  rw [dif_pos hd, pay6]
  exact congrArg _ (Fin.ext hj)

/-- A rotated lane, with the columns it reads. -/
theorem Q_rope (x0 : Vec Ideal S512x768 .bf16) (x1 : Vec Ideal S1x768 .f32) (x2 : Vec Ideal S768x1536 .bf16) (x3 x4 x5 : Vec Ideal S512x128 .f32)
    (a : Fin 512) (h : Fin 6) (d : Fin 256) (e : Fin 128) (j0 j1 j2 : Fin 1536) (hd : d.val = 128 + e.val) (h0 : j0.val = h.val * 256 + d.val)
    (h1 : j1.val = h.val * 256 + 128 + (e.val + 128 - 112) % 128) (h2 : j2.val = h.val * 256 + 128 + (e.val + 128 - 16) % 128) :
    (k0_pay6 (F := Ideal) x0 x1 x2 (ix2 a j0) * x3 (ix2 a e) + k0_pay6 (F := Ideal) x0 x1 x2 (ix2 a j1) * x4 (ix2 a e)
      + k0_pay6 (F := Ideal) x0 x1 x2 (ix2 a j2) * x5 (ix2 a e) : EReal) = Q x0 x1 x2 x3 x4 x5 a h d := by
  have hl : 128 + e.val < 256 := by
    clear hd h0 h1 h2
    omega
  obtain rfl : d = ⟨128 + e.val, hl⟩ := Fin.ext hd
  unfold Q
  rw [dif_neg (by simp only; omega), pay6, pay6, pay6]
  simp only [Nat.add_sub_cancel_left, Fin.eta] at h0 ⊢
  rw [show P x0 x1 x2 a j0 = P x0 x1 x2 a ⟨h.val * 256 + (128 + e.val), by omega⟩ from congrArg _ (Fin.ext h0)]
  rw [show P x0 x1 x2 a j1 = P x0 x1 x2 a ⟨h.val * 256 + 128 + (e.val + 128 - 112) % 128, by omega⟩ from congrArg _ (Fin.ext h1)]
  rw [show P x0 x1 x2 a j2 = P x0 x1 x2 a ⟨h.val * 256 + 128 + (e.val + 128 - 16) % 128, by omega⟩ from congrArg _ (Fin.ext h2)]

/-- The block a grid point stores, from the blocks it loads. -/
theorem out_ld (c : Dev nD) (t : Fin cfg0.N) (a : Fin 512) (h : Fin 6) (d : Fin 256) :
    outsAt0 m c t (ix2 a ⟨h.val * 256 + d.val, by omega⟩) = Q (X0_0 m c t) (iblk m c 1 t) (iblk m c 2 t) (iblk m c 3 t) (iblk m c 4 t) (iblk m c 5 t) a h d := by
  unfold outsAt0 out0_A_6
  frame_out
  canon_tiles x hx
  all_goals (idx_vars x; obtain rfl := Fin.ext hx0)
  · exact (rope5 _ _ _ _ _ _).trans (Q_rope _ _ _ _ _ _ _ _ _ _ _ _ _ (by omega) (by simp only; omega) (by simp only; omega) (by simp only; omega))
  · exact (plain5 _ _ _).trans (Q_plain _ _ _ _ _ _ _ _ _ _ (by omega) (by simp only; omega))
  · exact (rope4 _ _ _ _ _ _).trans (Q_rope _ _ _ _ _ _ _ _ _ _ _ _ _ (by omega) (by simp only; omega) (by simp only; omega) (by simp only; omega))
  · exact (plain4 _ _ _).trans (Q_plain _ _ _ _ _ _ _ _ _ _ (by omega) (by simp only; omega))
  · exact (rope3 _ _ _ _ _ _).trans (Q_rope _ _ _ _ _ _ _ _ _ _ _ _ _ (by omega) (by simp only; omega) (by simp only; omega) (by simp only; omega))
  · exact (plain3 _ _ _).trans (Q_plain _ _ _ _ _ _ _ _ _ _ (by omega) (by simp only; omega))
  · exact (rope2 _ _ _ _ _ _).trans (Q_rope _ _ _ _ _ _ _ _ _ _ _ _ _ (by omega) (by simp only; omega) (by simp only; omega) (by simp only; omega))
  · exact (plain2 _ _ _).trans (Q_plain _ _ _ _ _ _ _ _ _ _ (by omega) (by simp only; omega))
  · exact (rope1 _ _ _ _ _ _).trans (Q_rope _ _ _ _ _ _ _ _ _ _ _ _ _ (by omega) (by simp only; omega) (by simp only; omega) (by simp only; omega))
  · exact (plain1 _ _ _).trans (Q_plain _ _ _ _ _ _ _ _ _ _ (by omega) (by simp only; omega))
  · exact (rope0 _ _ _ _ _ _ _ _).trans (Q_rope _ _ _ _ _ _ _ _ _ _ _ _ _ (by omega) (by simp only; omega) (by simp only; omega) (by simp only; omega))
  · exact (plain0 _ _ _ _ _).trans (Q_plain _ _ _ _ _ _ _ _ _ _ (by omega) (by simp only; omega))

/-- Each head's 192 weight columns with 64 columns of zeros after them. -/
def packed (w : FVec Ideal S768x1152 .f32) : FVec Ideal S768x1536 .bf16 :=
  truncf .bf16 (shapeCast S768x1536 (pad S768x6x256 ![0, 0, 0] ![0, 0, 64] ![0, 0, 0] (shapeCast S768x6x192 w shapeCasts_S768x1152_S768x6x192)
    (sitofp (F := Ideal) .f32 (constantI S_ 32 0#32)) pads_S768x6x192_S768x6x256_000_000_0640 h_S_) shapeCasts_S768x6x256_S768x1536) bitsLt_bf16_f32

/-- The weight array the kernel is handed. -/
theorem V4 (c : Dev nD) : V m c main_v4 = packed (m ((c : Thread nD τ).loc main_arg2)) := by
  show StableHlo.after (List.flatten [hostOps0, hostOps0_1, hostOps0_2, hostOps0_3, hostOps0_4, hostOps0_5, hostOps0_6, hostOps0_7, hostOps0_8]) _ (Proc.devRef .tc _) = _
  simp only [List.flatten_cons, List.flatten_nil, List.append_nil, List.cons_append, List.nil_append, hostOps0, hostOps0_1, hostOps0_2, hostOps0_3, hostOps0_4, hostOps0_5, hostOps0_6, hostOps0_7, hostOps0_8]
  after_results_simp
  rfl

/-- A head's packed columns: its own weight columns. -/
theorem packed_a (w : FVec Ideal S768x1152 .f32) (k : Fin 768) (h : Fin 6) (d : Fin 192) :
    packed w (ix2 k ⟨h.val * 256 + d.val, by omega⟩) = w (ix2 k ⟨h.val * 192 + d.val, by omega⟩) := by
  pointwise [packed, hlo_ix]
  split_ifs <;> first | (exfalso; omega) | exact congrArg w (congrArg (ix2 k) (Fin.ext (by (try simp only) <;> omega)))
/-- A head's last packed columns: zeros. -/
theorem packed_b (w : FVec Ideal S768x1152 .f32) (k : Fin 768) (h : Fin 6) (d : Fin 64) :
    packed w (ix2 k ⟨h.val * 256 + (192 + d.val), by omega⟩) = (0 : EReal) := by
  pointwise [packed, hlo_ix]
  split_ifs <;> first | (exfalso; omega) | exact (by simp : (((0#32).toInt : ℝ) : EReal) = 0)

/-- The row angles and the column angles of a latent's tokens. -/
abbrev angR : FVec Ideal S2048x16 .f32 := Cert.MlaQRefIdeal.Read.val_main_v42 (F := Ideal)
abbrev angC : FVec Ideal S2048x16 .f32 := Cert.MlaQRefIdeal.Read.val_main_v47 (F := Ideal)
/-- Sixteen lanes of zeros. -/
def zeros16 : FVec Ideal S2048x16 .f32 := broadcastInDim S2048x16 ![] bcast_S_S2048x16 (constant (F := Ideal) S_ .f32 0x00000000#32)
/-- A rotation table: four groups of sixteen lanes, then 64 lanes and 512 rows of one value. -/
def table (u0 u1 u2 u3 : FVec Ideal S2048x16 .f32) (v : BitVec 32) : FVec Ideal S2560x128 .f32 :=
  concatenate S2560x128 0 [⟨S2048x128, pad S2048x128 ![0, 0] ![0, 64] ![0, 0] (concatenate S2048x64 1 [⟨S2048x16, u0⟩, ⟨S2048x16, u1⟩, ⟨S2048x16, u2⟩, ⟨S2048x16, u3⟩] concatenates_S2048x16_S2048x16_S2048x16_S2048x16_S2048x64_d1)
      (constant (F := Ideal) S_ .f32 v) pads_S2048x64_S2048x128_000_0640 h_S_⟩,
    ⟨S512x128, broadcastInDim S512x128 ![] bcast_S_S512x128 (constant (F := Ideal) S_ .f32 v)⟩] concatenates_S2048x128_S512x128_S2560x128_d0

/-- The cosine table the kernel is handed. -/
theorem V48 (c : Dev nD) : V m c main_v48 = table (Host.cos angR) (Host.cos angR) (Host.cos angC) (Host.cos angC) 0x3F800000#32 := by
  show StableHlo.after (List.flatten [hostOps0, hostOps0_1, hostOps0_2, hostOps0_3, hostOps0_4, hostOps0_5, hostOps0_6, hostOps0_7, hostOps0_8]) _ (Proc.devRef .tc _) = _
  simp only [List.flatten_cons, List.flatten_nil, List.append_nil, List.cons_append, List.nil_append, hostOps0, hostOps0_1, hostOps0_2, hostOps0_3, hostOps0_4, hostOps0_5, hostOps0_6, hostOps0_7, hostOps0_8]
  after_results_simp
  rfl
/-- The first sine table the kernel is handed. -/
theorem V51 (c : Dev nD) : V m c main_v51 = table (Host.negf (Host.sin angR)) zeros16 (Host.negf (Host.sin angC)) zeros16 0x00000000#32 := by
  show StableHlo.after (List.flatten [hostOps0, hostOps0_1, hostOps0_2, hostOps0_3, hostOps0_4, hostOps0_5, hostOps0_6, hostOps0_7, hostOps0_8]) _ (Proc.devRef .tc _) = _
  simp only [List.flatten_cons, List.flatten_nil, List.append_nil, List.cons_append, List.nil_append, hostOps0, hostOps0_1, hostOps0_2, hostOps0_3, hostOps0_4, hostOps0_5, hostOps0_6, hostOps0_7, hostOps0_8]
  after_results_simp
  rfl
/-- The second sine table the kernel is handed. -/
theorem V54 (c : Dev nD) : V m c main_v54 = table zeros16 (Host.sin angR) zeros16 (Host.sin angC) 0x00000000#32 := by
  show StableHlo.after (List.flatten [hostOps0, hostOps0_1, hostOps0_2, hostOps0_3, hostOps0_4, hostOps0_5, hostOps0_6, hostOps0_7, hostOps0_8]) _ (Proc.devRef .tc _) = _
  simp only [List.flatten_cons, List.flatten_nil, List.append_nil, List.cons_append, List.nil_append, hostOps0, hostOps0_1, hostOps0_2, hostOps0_3, hostOps0_4, hostOps0_5, hostOps0_6, hostOps0_7, hostOps0_8]
  after_results_simp
  rfl

/-- A table's lane group 0. -/
theorem table_0 (u0 u1 u2 u3 : FVec Ideal S2048x16 .f32) (v : BitVec 32) (r : Fin 2048) (f : Fin 16) :
    table u0 u1 u2 u3 v (ix2 ⟨r.val, by omega⟩ ⟨f.val, by omega⟩) = u0 (ix2 r f) := by
  pointwise [table, hlo_ix]
  try (split_ifs <;> first | (exfalso; omega) | exact congrArg _ (congrArg (ix2 r) (Fin.ext (by (try simp only) <;> omega))))
/-- A table's lane group 1. -/
theorem table_1 (u0 u1 u2 u3 : FVec Ideal S2048x16 .f32) (v : BitVec 32) (r : Fin 2048) (f : Fin 16) :
    table u0 u1 u2 u3 v (ix2 ⟨r.val, by omega⟩ ⟨16 + f.val, by omega⟩) = u1 (ix2 r f) := by
  pointwise [table, hlo_ix]
  try (split_ifs <;> first | (exfalso; omega) | exact congrArg _ (congrArg (ix2 r) (Fin.ext (by (try simp only) <;> omega))))
/-- A table's lane group 2. -/
theorem table_2 (u0 u1 u2 u3 : FVec Ideal S2048x16 .f32) (v : BitVec 32) (r : Fin 2048) (f : Fin 16) :
    table u0 u1 u2 u3 v (ix2 ⟨r.val, by omega⟩ ⟨32 + f.val, by omega⟩) = u2 (ix2 r f) := by
  pointwise [table, hlo_ix]
  try (split_ifs <;> first | (exfalso; omega) | exact congrArg _ (congrArg (ix2 r) (Fin.ext (by (try simp only) <;> omega))))
/-- A table's lane group 3. -/
theorem table_3 (u0 u1 u2 u3 : FVec Ideal S2048x16 .f32) (v : BitVec 32) (r : Fin 2048) (f : Fin 16) :
    table u0 u1 u2 u3 v (ix2 ⟨r.val, by omega⟩ ⟨48 + f.val, by omega⟩) = u3 (ix2 r f) := by
  pointwise [table, hlo_ix]
  try (split_ifs <;> first | (exfalso; omega) | exact congrArg _ (congrArg (ix2 r) (Fin.ext (by (try simp only) <;> omega))))
/-- A table's padding lanes. -/
theorem table_4 (u0 u1 u2 u3 : FVec Ideal S2048x16 .f32) (v : BitVec 32) (r : Fin 2048) (e : Fin 64) :
    table u0 u1 u2 u3 v (ix2 ⟨r.val, by omega⟩ ⟨64 + e.val, by omega⟩) = Ideal.ofBits .f32 v := by
  pointwise [table, hlo_ix]
  try (split_ifs <;> first | (exfalso; omega) | rfl)
/-- A table's rows for the context tokens. -/
theorem table_5 (u0 u1 u2 u3 : FVec Ideal S2048x16 .f32) (v : BitVec 32) (r : Fin 512) (e : Fin 128) :
    table u0 u1 u2 u3 v (ix2 ⟨2048 + r.val, by omega⟩ e) = Ideal.ofBits .f32 v := by
  pointwise [table, hlo_ix]
  try (split_ifs <;> first | (exfalso; omega) | rfl)

/-- The gain the kernel is handed: the same numbers as one row. -/
theorem V0 (c : Dev nD) : V m c main_v0 = shapeCast S1x768 (m ((c : Thread nD τ).loc main_arg1)) shapeCasts_S768_S1x768 := by
  show StableHlo.after (List.flatten [hostOps0, hostOps0_1, hostOps0_2, hostOps0_3, hostOps0_4, hostOps0_5, hostOps0_6, hostOps0_7, hostOps0_8]) _ (Proc.devRef .tc _) = _
  simp only [List.flatten_cons, List.flatten_nil, List.append_nil, List.cons_append, List.nil_append, hostOps0, hostOps0_1, hostOps0_2, hostOps0_3, hostOps0_4, hostOps0_5, hostOps0_6, hostOps0_7, hostOps0_8]
  after_results_simp
  rfl

/-- The query latents' block at a grid point. -/
theorem read0 (c : Dev nD) (t : Fin cfg0.N) (a : Fin 512) (k : Fin 768) :
    X0_0 m c t (ix2 a k) = m ((c : Thread nD τ).loc main_arg0) (ix2 ⟨t.val * 512 + a.val, by have : t.val < 36 := t.isLt; omega⟩ ⟨1536 + k.val, by omega⟩) := by
  rw [← V_main_arg0 m c]
  unfold X0_0 Pipeline.Window.fill
  refine (dif_pos (moved0_0 t (ix2 a k))).trans ?_
  blk_ext [iblk, idx t]
/-- The gain at a grid point. -/
theorem read1 (c : Dev nD) (t : Fin cfg0.N) (k : Fin 768) :
    iblk m c 1 t (ix2 0 k) = m ((c : Thread nD τ).loc main_arg1) (ix1 k) := by
  have h : iblk m c 1 t (ix2 0 k) = V m c main_v0 (ix2 0 k) := by blk_ext [iblk, idx t]
  rw [h, V0]
  pointwise []
/-- The weight at a grid point. -/
theorem read2 (c : Dev nD) (t : Fin cfg0.N) (k : Fin 768) (j : Fin 1536) :
    iblk m c 2 t (ix2 k j) = packed (m ((c : Thread nD τ).loc main_arg2)) (ix2 k j) := by
  rw [← V4 m c]
  blk_ext [iblk, idx t]
/-- The table row a token reads. -/
def trow (t : Fin 36) (a : Fin 512) : Fin 2560 := ⟨(if t.val < 32 then t.val % 4 else 4) * 512 + a.val, by split <;> omega⟩
/-- A rotation table's block at a grid point. -/
theorem read3 (c : Dev nD) (t : Fin cfg0.N) (a : Fin 512) (e : Fin 128) :
    iblk m c 3 t (ix2 a e) = V m c main_v48 (ix2 (trow t a) e) := by
  unfold trow
  blk_ext [iblk, idx t]
/-- A rotation table's block at a grid point. -/
theorem read4 (c : Dev nD) (t : Fin cfg0.N) (a : Fin 512) (e : Fin 128) :
    iblk m c 4 t (ix2 a e) = V m c main_v51 (ix2 (trow t a) e) := by
  unfold trow
  blk_ext [iblk, idx t]
/-- A rotation table's block at a grid point. -/
theorem read5 (c : Dev nD) (t : Fin cfg0.N) (a : Fin 512) (e : Fin 128) :
    iblk m c 5 t (ix2 a e) = V m c main_v54 (ix2 (trow t a) e) := by
  unfold trow
  blk_ext [iblk, idx t]

/-- The token a block row holds. -/
abbrev tok (t : Fin cfg0.N) (a : Fin 512) : Fin 18432 := ⟨t.val * 512 + a.val, by have : t.val < 36 := t.isLt; omega⟩
/-- The reference's projection of the run's arguments. -/
abbrev prj (c : Dev nD) (i : Fin 18432) (j : Fin 1152) : EReal :=
  Cert.MlaQRefIdeal.Read.val_main_v15 (F := Ideal) (m ((c : Thread nD τ).loc main_arg0)) (m ((c : Thread nD τ).loc main_arg1)) (m ((c : Thread nD τ).loc main_arg2)) (ix2 i j)
/-- The projection a grid point computes. -/
abbrev PP (c : Dev nD) (t : Fin cfg0.N) (a : Fin 512) (j : Fin 1536) : EReal := P (X0_0 m c t) (iblk m c 1 t) (iblk m c 2 t) a j

/-- It is the reference's, scaled, … -/
theorem PP_a (c : Dev nD) (t : Fin cfg0.N) (a : Fin 512) (j : Fin 1536) (h : Fin 6) (d : Fin 192) (hj : j.val = h.val * 256 + d.val) :
    PP m c t a j = prj m c (tok t a) ⟨h.val * 192 + d.val, by omega⟩ * MlaQRead.scale := by
  have hl : h.val * 256 + d.val < 1536 := by
    clear hj
    omega
  obtain rfl : j = ⟨h.val * 256 + d.val, hl⟩ := Fin.ext hj
  unfold PP P prj
  rw [MlaQRead.proj]
  refine congrArg (· * MlaQRead.scale) (Finset.sum_congr rfl fun k _ => ?_)
  rw [read2, packed_a, show (fun k => X0_0 m c t (ix2 a k)) = _ from funext (read0 m c t a), show (fun k => iblk m c 1 t (ix2 0 k)) = _ from funext (read1 m c t)]
/-- … and zero in a head's last lanes. -/
theorem PP_b (c : Dev nD) (t : Fin cfg0.N) (a : Fin 512) (j : Fin 1536) (h : Fin 6) (d : Fin 64) (hj : j.val = h.val * 256 + (192 + d.val)) :
    PP m c t a j = 0 := by
  have hl : h.val * 256 + (192 + d.val) < 1536 := by
    clear hj
    omega
  obtain rfl : j = ⟨h.val * 256 + (192 + d.val), hl⟩ := Fin.ext hj
  unfold PP P
  rw [Finset.sum_eq_zero fun k _ => by rw [read2, packed_b]; exact mul_zero _]
  exact zero_mul _

/-- The word of one. -/
theorem one_bits : Ideal.ofBits .f32 0x3F800000#32 = 1 := by
  simp [Ideal.ofBits, Ideal.ieee]
  rw [← EReal.coe_mul]
  norm_num
/-- The word of zero. -/
theorem zero_bits : Ideal.ofBits .f32 0x00000000#32 = 0 := by
  simp [Ideal.ofBits, Ideal.ieee]
/-- The scale is a number, not negative. -/
theorem scale_real : ∃ r : ℝ, 0 ≤ r ∧ MlaQRead.scale = (r : EReal) := by
  unfold MlaQRead.scale
  simp [Ideal.ofBits, Ideal.ieee]
  rw [← EReal.coe_mul]
  exact ⟨_, by positivity, rfl⟩

/-- Scaling before a rotation is scaling after it. -/
theorem turn (x y c d : EReal) : x * MlaQRead.scale * c + y * MlaQRead.scale * d = (x * c + y * d) * MlaQRead.scale := by
  obtain ⟨r, hr, e⟩ := scale_real
  rw [e, EReal.right_distrib_of_nonneg_of_ne_top (by exact_mod_cast hr) (EReal.coe_ne_top r), mul_right_comm x, mul_right_comm y]

/-- The three tables. -/
abbrev tC : FVec Ideal S2560x128 .f32 := table (Host.cos angR) (Host.cos angR) (Host.cos angC) (Host.cos angC) 0x3F800000#32
abbrev tS : FVec Ideal S2560x128 .f32 := table (Host.negf (Host.sin angR)) zeros16 (Host.negf (Host.sin angC)) zeros16 0x00000000#32
abbrev tU : FVec Ideal S2560x128 .f32 := table zeros16 (Host.sin angR) zeros16 (Host.sin angC) 0x00000000#32

/-- A plain lane of what a grid point stores. -/
theorem st_plain (c : Dev nD) (t : Fin cfg0.N) (a : Fin 512) (h : Fin 6) (d : Fin 256) (hd : d.val < 128) :
    outsAt0 m c t (ix2 a ⟨h.val * 256 + d.val, by omega⟩) = PP m c t a ⟨h.val * 256 + d.val, by omega⟩ := by
  rw [out_ld]
  unfold Q
  exact dif_pos hd

/-- A rotated lane of what a grid point stores. -/
theorem st_rope (c : Dev nD) (t : Fin cfg0.N) (a : Fin 512) (h : Fin 6) (d : Fin 256) (e : Fin 128) (r : Fin 2560) (j0 j1 j2 : Fin 1536) (hd : d.val = 128 + e.val)
    (hr : r = trow t a) (h0 : j0.val = h.val * 256 + d.val)
    (h1 : j1.val = h.val * 256 + 128 + (e.val + 128 - 112) % 128) (h2 : j2.val = h.val * 256 + 128 + (e.val + 128 - 16) % 128) :
    outsAt0 m c t (ix2 a ⟨h.val * 256 + d.val, by omega⟩)
      = (PP m c t a j0 * tC (ix2 r e) + PP m c t a j1 * tS (ix2 r e) + PP m c t a j2 * tU (ix2 r e) : EReal) := by
  rw [out_ld, ← Q_rope _ _ _ _ _ _ a h d e j0 j1 j2 hd h0 h1 h2, pay6, pay6, pay6, read3, read4, read5, V48, V51, V54, ← hr]

/-- The lane groups where the table's value is zero. -/
theorem zeros16_read (i : S2048x16.Idx) : zeros16 i = (0 : EReal) := by
  unfold zeros16
  pointwise []
/-- A lane of zeros after the rotation, and a context token's lane, is what it was before. -/
theorem st_same (c : Dev nD) (t : Fin cfg0.N) (a : Fin 512) (h : Fin 6) (d : Fin 256) (e : Fin 128) (hd : d.val = 128 + e.val) (hc : 64 ≤ e.val ∨ 32 ≤ t.val) :
    outsAt0 m c t (ix2 a ⟨h.val * 256 + d.val, by omega⟩) = PP m c t a ⟨h.val * 256 + d.val, by omega⟩ := by
  have ht : t.val < 36 := t.isLt
  rw [st_rope m c t a h d e (trow t a) ⟨h.val * 256 + d.val, by omega⟩ ⟨h.val * 256 + 128 + (e.val + 128 - 112) % 128, by omega⟩
    ⟨h.val * 256 + 128 + (e.val + 128 - 16) % 128, by omega⟩ hd rfl rfl rfl rfl]
  have key : ∀ (u0 u1 u2 u3 : FVec Ideal S2048x16 .f32) (v : BitVec 32), table u0 u1 u2 u3 v (ix2 (trow t a) e) = Ideal.ofBits .f32 v := by
    intro u0 u1 u2 u3 v
    by_cases h32 : t.val < 32
    · have he : 64 ≤ e.val := by omega
      have h1 : trow t a = ⟨(⟨t.val % 4 * 512 + a.val, by omega⟩ : Fin 2048).val, by simp only; omega⟩ := by
        apply Fin.ext; unfold trow; simp only; rw [if_pos h32]
      have h2 : e = ⟨64 + (⟨e.val - 64, by omega⟩ : Fin 64).val, by simp only; omega⟩ := Fin.ext (by simp only; omega)
      rw [h1, h2]
      exact table_4 u0 u1 u2 u3 v ⟨t.val % 4 * 512 + a.val, by omega⟩ ⟨e.val - 64, by omega⟩
    · have h1 : trow t a = ⟨2048 + a.val, by omega⟩ := by
        apply Fin.ext; unfold trow; simp only; rw [if_neg h32]
      rw [h1]
      exact table_5 u0 u1 u2 u3 v a e
  have kC : tC (ix2 (trow t a) e) = (1 : EReal) := (key _ _ _ _ _).trans one_bits
  have kS : tS (ix2 (trow t a) e) = (0 : EReal) := (key _ _ _ _ _).trans zero_bits
  have kU : tU (ix2 (trow t a) e) = (0 : EReal) := (key _ _ _ _ _).trans zero_bits
  rw [kC, kS, kU, mul_one, mul_zero, mul_zero, add_zero, add_zero]

/-- The reference at a lane of a head. -/
abbrev ref (c : Dev nD) (i : Fin 18432) (j : Fin 1536) : EReal :=
  Cert.MlaQRefIdeal.Read.val_main_v101 (F := Ideal) (m ((c : Thread nD τ).loc main_arg0)) (m ((c : Thread nD τ).loc main_arg1)) (m ((c : Thread nD τ).loc main_arg2)) (ix2 i j)

/-- A plain lane. -/
theorem point0 (c : Dev nD) (t : Fin cfg0.N) (a : Fin 512) (h : Fin 6) (d : Fin 256) (hd : d.val < 128) :
    outsAt0 m c t (ix2 a ⟨h.val * 256 + d.val, by omega⟩) = ref m c (tok t a) ⟨h.val * 256 + d.val, by omega⟩ := by
  rw [st_plain m c t a h d hd, PP_a m c t a _ h ⟨d.val, by omega⟩ rfl]
  unfold ref prj
  rw [MlaQRead.flat]
  exact congrArg (· * MlaQRead.scale) (MlaQRead.lane_plain _ _ _ (tok t a) h ⟨d.val, hd⟩).symm

/-- A lane of zeros. -/
theorem point3 (c : Dev nD) (t : Fin cfg0.N) (a : Fin 512) (h : Fin 6) (d : Fin 256) (hd : 192 ≤ d.val) :
    outsAt0 m c t (ix2 a ⟨h.val * 256 + d.val, by omega⟩) = ref m c (tok t a) ⟨h.val * 256 + d.val, by omega⟩ := by
  rw [st_same m c t a h d ⟨d.val - 128, by omega⟩ (by simp only; omega) (Or.inl (by simp only; omega)), PP_b m c t a _ h ⟨d.val - 192, by omega⟩ (by simp only; omega)]
  unfold ref
  rw [MlaQRead.flat, show d = ⟨192 + (⟨d.val - 192, by omega⟩ : Fin 64).val, by simp only; omega⟩ from Fin.ext (by simp only; omega), MlaQRead.lane_zero, zero_mul]

/-- A context token's lane. -/
theorem point2 (c : Dev nD) (t : Fin cfg0.N) (a : Fin 512) (h : Fin 6) (e : Fin 64) (ht : 32 ≤ t.val) :
    outsAt0 m c t (ix2 a ⟨h.val * 256 + (128 + e.val), by omega⟩) = ref m c (tok t a) ⟨h.val * 256 + (128 + e.val), by omega⟩ := by
  have h36 : t.val < 36 := t.isLt
  have hi : tok t a = ⟨16384 + (⟨t.val * 512 + a.val - 16384, by omega⟩ : Fin 2048).val, by simp only; omega⟩ := Fin.ext (by simp only; omega)
  rw [st_same m c t a h ⟨128 + e.val, by omega⟩ ⟨e.val, by omega⟩ rfl (Or.inr ht), PP_a m c t a _ h ⟨128 + e.val, by omega⟩ rfl]
  unfold ref prj
  rw [MlaQRead.flat _ _ _ _ h ⟨128 + e.val, by omega⟩, MlaQRead.lane_rot]
  refine congrArg (· * MlaQRead.scale) ?_
  rw [hi, MlaQRead.rot_ctx]

/-- A latent token's lane, group 0. -/
theorem point1_0 (c : Dev nD) (t : Fin cfg0.N) (a : Fin 512) (h : Fin 6) (f : Fin 16) (ht : t.val < 32) :
    outsAt0 m c t (ix2 a ⟨h.val * 256 + (128 + (f.val)), by omega⟩) = ref m c (tok t a) ⟨h.val * 256 + (128 + (f.val)), by omega⟩ := by
  obtain ⟨b, hb⟩ : ∃ b : Fin 8, b.val = t.val / 4 := ⟨⟨t.val / 4, by omega⟩, rfl⟩
  obtain ⟨r, hr⟩ : ∃ r : Fin 2048, r.val = t.val % 4 * 512 + a.val := ⟨⟨t.val % 4 * 512 + a.val, by omega⟩, rfl⟩
  have hi : tok t a = ⟨b.val * 2048 + r.val, by omega⟩ := Fin.ext (by simp only; omega)
  have hrow : (⟨r.val, by omega⟩ : Fin 2560) = trow t a := by
    apply Fin.ext; unfold trow; simp only; rw [if_pos ht, hr]
  have hC : tC (ix2 ⟨r.val, by omega⟩ ⟨f.val, by omega⟩) = Ideal.cos (angR (ix2 r f)) := table_0 _ _ _ _ _ r f
  have hS : tS (ix2 ⟨r.val, by omega⟩ ⟨f.val, by omega⟩) = -Ideal.sin (angR (ix2 r f)) := table_0 _ _ _ _ _ r f
  have hU : tU (ix2 ⟨r.val, by omega⟩ ⟨f.val, by omega⟩) = (0 : EReal) := (table_0 _ _ _ _ _ r f).trans (zeros16_read _)
  rw [st_rope m c t a h ⟨128 + (f.val), by omega⟩ ⟨f.val, by omega⟩ ⟨r.val, by omega⟩ ⟨h.val * 256 + (128 + (f.val)), by omega⟩ ⟨h.val * 256 + (128 + (16 + f.val)), by omega⟩ ⟨h.val * 256 + 128 + (f.val + 128 - 16) % 128, by omega⟩
    rfl hrow rfl (by first | rfl | (simp only; omega)) (by first | rfl | (simp only; omega))]
  rw [PP_a m c t a ⟨h.val * 256 + (128 + (f.val)), by omega⟩ h ⟨128 + (f.val), by omega⟩ rfl,
    PP_a m c t a ⟨h.val * 256 + (128 + (16 + f.val)), by omega⟩ h ⟨128 + (16 + f.val), by omega⟩ rfl]
  unfold ref prj
  rw [MlaQRead.flat _ _ _ _ h ⟨128 + (f.val), by omega⟩, MlaQRead.lane_rot _ _ _ _ h ⟨f.val, by omega⟩, hi, MlaQRead.rot_lat]
  rw [hC, hS, hU, mul_zero, add_zero, turn]
  exact congrArg (· * MlaQRead.scale) (MlaQRead.turned0 _ _ _ b r h f).symm

/-- A latent token's lane, group 1. -/
theorem point1_1 (c : Dev nD) (t : Fin cfg0.N) (a : Fin 512) (h : Fin 6) (f : Fin 16) (ht : t.val < 32) :
    outsAt0 m c t (ix2 a ⟨h.val * 256 + (128 + (16 + f.val)), by omega⟩) = ref m c (tok t a) ⟨h.val * 256 + (128 + (16 + f.val)), by omega⟩ := by
  obtain ⟨b, hb⟩ : ∃ b : Fin 8, b.val = t.val / 4 := ⟨⟨t.val / 4, by omega⟩, rfl⟩
  obtain ⟨r, hr⟩ : ∃ r : Fin 2048, r.val = t.val % 4 * 512 + a.val := ⟨⟨t.val % 4 * 512 + a.val, by omega⟩, rfl⟩
  have hi : tok t a = ⟨b.val * 2048 + r.val, by omega⟩ := Fin.ext (by simp only; omega)
  have hrow : (⟨r.val, by omega⟩ : Fin 2560) = trow t a := by
    apply Fin.ext; unfold trow; simp only; rw [if_pos ht, hr]
  have hC : tC (ix2 ⟨r.val, by omega⟩ ⟨16 + f.val, by omega⟩) = Ideal.cos (angR (ix2 r f)) := table_1 _ _ _ _ _ r f
  have hS : tS (ix2 ⟨r.val, by omega⟩ ⟨16 + f.val, by omega⟩) = (0 : EReal) := (table_1 _ _ _ _ _ r f).trans (zeros16_read _)
  have hU : tU (ix2 ⟨r.val, by omega⟩ ⟨16 + f.val, by omega⟩) = Ideal.sin (angR (ix2 r f)) := table_1 _ _ _ _ _ r f
  rw [st_rope m c t a h ⟨128 + (16 + f.val), by omega⟩ ⟨16 + f.val, by omega⟩ ⟨r.val, by omega⟩ ⟨h.val * 256 + (128 + (16 + f.val)), by omega⟩ ⟨h.val * 256 + 128 + (16 + f.val + 128 - 112) % 128, by omega⟩ ⟨h.val * 256 + (128 + (f.val)), by omega⟩
    rfl hrow rfl (by first | rfl | (simp only; omega)) (by first | rfl | (simp only; omega))]
  rw [PP_a m c t a ⟨h.val * 256 + (128 + (16 + f.val)), by omega⟩ h ⟨128 + (16 + f.val), by omega⟩ rfl,
    PP_a m c t a ⟨h.val * 256 + (128 + (f.val)), by omega⟩ h ⟨128 + (f.val), by omega⟩ rfl]
  unfold ref prj
  rw [MlaQRead.flat _ _ _ _ h ⟨128 + (16 + f.val), by omega⟩, MlaQRead.lane_rot _ _ _ _ h ⟨16 + f.val, by omega⟩, hi, MlaQRead.rot_lat]
  rw [hC, hS, hU, mul_zero, add_zero, turn]
  exact congrArg (· * MlaQRead.scale) (MlaQRead.turned1 _ _ _ b r h f).symm

/-- A latent token's lane, group 2. -/
theorem point1_2 (c : Dev nD) (t : Fin cfg0.N) (a : Fin 512) (h : Fin 6) (f : Fin 16) (ht : t.val < 32) :
    outsAt0 m c t (ix2 a ⟨h.val * 256 + (128 + (32 + f.val)), by omega⟩) = ref m c (tok t a) ⟨h.val * 256 + (128 + (32 + f.val)), by omega⟩ := by
  obtain ⟨b, hb⟩ : ∃ b : Fin 8, b.val = t.val / 4 := ⟨⟨t.val / 4, by omega⟩, rfl⟩
  obtain ⟨r, hr⟩ : ∃ r : Fin 2048, r.val = t.val % 4 * 512 + a.val := ⟨⟨t.val % 4 * 512 + a.val, by omega⟩, rfl⟩
  have hi : tok t a = ⟨b.val * 2048 + r.val, by omega⟩ := Fin.ext (by simp only; omega)
  have hrow : (⟨r.val, by omega⟩ : Fin 2560) = trow t a := by
    apply Fin.ext; unfold trow; simp only; rw [if_pos ht, hr]
  have hC : tC (ix2 ⟨r.val, by omega⟩ ⟨32 + f.val, by omega⟩) = Ideal.cos (angC (ix2 r f)) := table_2 _ _ _ _ _ r f
  have hS : tS (ix2 ⟨r.val, by omega⟩ ⟨32 + f.val, by omega⟩) = -Ideal.sin (angC (ix2 r f)) := table_2 _ _ _ _ _ r f
  have hU : tU (ix2 ⟨r.val, by omega⟩ ⟨32 + f.val, by omega⟩) = (0 : EReal) := (table_2 _ _ _ _ _ r f).trans (zeros16_read _)
  rw [st_rope m c t a h ⟨128 + (32 + f.val), by omega⟩ ⟨32 + f.val, by omega⟩ ⟨r.val, by omega⟩ ⟨h.val * 256 + (128 + (32 + f.val)), by omega⟩ ⟨h.val * 256 + (128 + (48 + f.val)), by omega⟩ ⟨h.val * 256 + 128 + (32 + f.val + 128 - 16) % 128, by omega⟩
    rfl hrow rfl (by first | rfl | (simp only; omega)) (by first | rfl | (simp only; omega))]
  rw [PP_a m c t a ⟨h.val * 256 + (128 + (32 + f.val)), by omega⟩ h ⟨128 + (32 + f.val), by omega⟩ rfl,
    PP_a m c t a ⟨h.val * 256 + (128 + (48 + f.val)), by omega⟩ h ⟨128 + (48 + f.val), by omega⟩ rfl]
  unfold ref prj
  rw [MlaQRead.flat _ _ _ _ h ⟨128 + (32 + f.val), by omega⟩, MlaQRead.lane_rot _ _ _ _ h ⟨32 + f.val, by omega⟩, hi, MlaQRead.rot_lat]
  rw [hC, hS, hU, mul_zero, add_zero, turn]
  exact congrArg (· * MlaQRead.scale) (MlaQRead.turned2 _ _ _ b r h f).symm

/-- A latent token's lane, group 3. -/
theorem point1_3 (c : Dev nD) (t : Fin cfg0.N) (a : Fin 512) (h : Fin 6) (f : Fin 16) (ht : t.val < 32) :
    outsAt0 m c t (ix2 a ⟨h.val * 256 + (128 + (48 + f.val)), by omega⟩) = ref m c (tok t a) ⟨h.val * 256 + (128 + (48 + f.val)), by omega⟩ := by
  obtain ⟨b, hb⟩ : ∃ b : Fin 8, b.val = t.val / 4 := ⟨⟨t.val / 4, by omega⟩, rfl⟩
  obtain ⟨r, hr⟩ : ∃ r : Fin 2048, r.val = t.val % 4 * 512 + a.val := ⟨⟨t.val % 4 * 512 + a.val, by omega⟩, rfl⟩
  have hi : tok t a = ⟨b.val * 2048 + r.val, by omega⟩ := Fin.ext (by simp only; omega)
  have hrow : (⟨r.val, by omega⟩ : Fin 2560) = trow t a := by
    apply Fin.ext; unfold trow; simp only; rw [if_pos ht, hr]
  have hC : tC (ix2 ⟨r.val, by omega⟩ ⟨48 + f.val, by omega⟩) = Ideal.cos (angC (ix2 r f)) := table_3 _ _ _ _ _ r f
  have hS : tS (ix2 ⟨r.val, by omega⟩ ⟨48 + f.val, by omega⟩) = (0 : EReal) := (table_3 _ _ _ _ _ r f).trans (zeros16_read _)
  have hU : tU (ix2 ⟨r.val, by omega⟩ ⟨48 + f.val, by omega⟩) = Ideal.sin (angC (ix2 r f)) := table_3 _ _ _ _ _ r f
  rw [st_rope m c t a h ⟨128 + (48 + f.val), by omega⟩ ⟨48 + f.val, by omega⟩ ⟨r.val, by omega⟩ ⟨h.val * 256 + (128 + (48 + f.val)), by omega⟩ ⟨h.val * 256 + 128 + (48 + f.val + 128 - 112) % 128, by omega⟩ ⟨h.val * 256 + (128 + (32 + f.val)), by omega⟩
    rfl hrow rfl (by first | rfl | (simp only; omega)) (by first | rfl | (simp only; omega))]
  rw [PP_a m c t a ⟨h.val * 256 + (128 + (48 + f.val)), by omega⟩ h ⟨128 + (48 + f.val), by omega⟩ rfl,
    PP_a m c t a ⟨h.val * 256 + (128 + (32 + f.val)), by omega⟩ h ⟨128 + (32 + f.val), by omega⟩ rfl]
  unfold ref prj
  rw [MlaQRead.flat _ _ _ _ h ⟨128 + (48 + f.val), by omega⟩, MlaQRead.lane_rot _ _ _ _ h ⟨48 + f.val, by omega⟩, hi, MlaQRead.rot_lat]
  rw [hC, hS, hU, mul_zero, add_zero, turn]
  exact congrArg (· * MlaQRead.scale) (MlaQRead.turned3 _ _ _ b r h f).symm

/-- What a grid point stores at a block index is the reference at the array index it sits at. -/
theorem point (c : Dev nD) (t : Fin cfg0.N) (a : Fin 512) (j : Fin 1536) :
    outsAt0 m c t (ix2 a j) = ref m c (tok t a) j := by
  obtain ⟨h, hh⟩ : ∃ h : Fin 6, h.val = j.val / 256 := ⟨⟨j.val / 256, by omega⟩, rfl⟩
  obtain ⟨d, hd⟩ : ∃ d : Fin 256, d.val = j.val % 256 := ⟨⟨j.val % 256, by omega⟩, rfl⟩
  by_cases h1 : d.val < 128
  · exact (show j = ⟨h.val * 256 + d.val, by omega⟩ from Fin.ext (by simp only; omega)) ▸ point0 m c t a h d h1
  by_cases h2 : 192 ≤ d.val
  · exact (show j = ⟨h.val * 256 + d.val, by omega⟩ from Fin.ext (by simp only; omega)) ▸ point3 m c t a h d h2
  by_cases h3 : 32 ≤ t.val
  · exact (show j = ⟨h.val * 256 + (128 + (⟨d.val - 128, by omega⟩ : Fin 64).val), by simp only; omega⟩ from Fin.ext (by simp only; omega)) ▸ point2 m c t a h ⟨d.val - 128, by omega⟩ h3
  have ht : t.val < 32 := by omega
  by_cases g0 : d.val < 144
  · exact (show j = ⟨h.val * 256 + (128 + (⟨d.val - 128, by omega⟩ : Fin 16).val), by simp only; omega⟩ from Fin.ext (by simp only; omega)) ▸ point1_0 m c t a h ⟨d.val - 128, by omega⟩ ht
  by_cases g1 : d.val < 160
  · exact (show j = ⟨h.val * 256 + (128 + (16 + (⟨d.val - 144, by omega⟩ : Fin 16).val)), by simp only; omega⟩ from Fin.ext (by simp only; omega)) ▸ point1_1 m c t a h ⟨d.val - 144, by omega⟩ ht
  by_cases g2 : d.val < 176
  · exact (show j = ⟨h.val * 256 + (128 + (32 + (⟨d.val - 160, by omega⟩ : Fin 16).val)), by simp only; omega⟩ from Fin.ext (by simp only; omega)) ▸ point1_2 m c t a h ⟨d.val - 160, by omega⟩ ht
  · exact (show j = ⟨h.val * 256 + (128 + (48 + (⟨d.val - 176, by omega⟩ : Fin 16).val)), by simp only; omega⟩ from Fin.ext (by simp only; omega)) ▸ point1_3 m c t a h ⟨d.val - 176, by omega⟩ ht

/-- The result array after the run is the reference of the argument arrays. -/
theorem final (c : Dev nD) : (dats m 0 c).arrAt 6 (cfgs 0).N
    = Cert.MlaQRefIdeal.Read.val_main_v101 (F := Ideal) (m ((c : Thread nD τ).loc main_arg0)) (m ((c : Thread nD τ).loc main_arg1))
          (m ((c : Thread nD τ).loc main_arg2)) := by
  refine (dats m 0 c).arrAt_eq_of_covers 6 _ (by decide +kernel) fun t _ y => ?_
  blk_simp
  rw [after0_6]
  idx_vars y
  refine (point m c t _ _).trans ?_
  unfold ref tok
  blk_ext [idx t]

end Cert.MlaQIdeal.Value
end
-- ==== Proof.MlaQClaim.lean ====
/- What is claimed of `MlaQ`, put together: the frames of the program, of its reading over the extended reals and of
   the reference, and that the two readings end with equal results. -/
module

public import proofs.«01_k».proof.Defs
public import proofs.«01_k».proof.Proof.Gen.MlaQ.Frame
public import proofs.«01_k».proof.Proof.Gen.MlaQIdeal.Frame
public import proofs.«01_k».proof.Proof.Gen.MlaQIdeal.Value
public import proofs.«01_k».proof.Proof.Gen.MlaQRefIdeal.Run
public import proofs.«01_k».proof.Proof.Gen.MlaQRefIdeal.Read
public import proofs.«01_k».proof.Proof.MlaQValue
public import Idealize.ShloMosaic.Lib.Quiescent

@[expose] public section

noncomputable section

namespace Cert.Proof.MlaQ

open Idealize.ShloMosaic Idealize.SL.Sem

/-- The reference ends with its arguments unchanged and, declaring no semaphore, with every counter at zero. -/
theorem ref_frame (m : (ℓ : Loc Cert.MlaQRefIdeal.nD Cert.MlaQRefIdeal.τ Cert.MlaQRefIdeal.sig) → Buf (Elt Ideal) ℓ) (g : Dev Cert.MlaQRefIdeal.nD → PrngReg) :
    θ_run (Cert.MlaQRefIdeal.defs (F := Ideal)) (onTc (τ := Cert.MlaQRefIdeal.τ) (Cert.MlaQRefIdeal.main (F := Ideal))) ⟨m, fun _ => 0, g⟩ (fun r =>
      (∀ c : Dev Cert.MlaQRefIdeal.nD, r.2.mem ((c.tc : Thread Cert.MlaQRefIdeal.nD Cert.MlaQRefIdeal.τ).loc Cert.MlaQRefIdeal.main_arg0) = m ((c.tc : Thread Cert.MlaQRefIdeal.nD Cert.MlaQRefIdeal.τ).loc Cert.MlaQRefIdeal.main_arg0)
        ∧ r.2.mem ((c.tc : Thread Cert.MlaQRefIdeal.nD Cert.MlaQRefIdeal.τ).loc Cert.MlaQRefIdeal.main_arg1) = m ((c.tc : Thread Cert.MlaQRefIdeal.nD Cert.MlaQRefIdeal.τ).loc Cert.MlaQRefIdeal.main_arg1)
        ∧ r.2.mem ((c.tc : Thread Cert.MlaQRefIdeal.nD Cert.MlaQRefIdeal.τ).loc Cert.MlaQRefIdeal.main_arg2) = m ((c.tc : Thread Cert.MlaQRefIdeal.nD Cert.MlaQRefIdeal.τ).loc Cert.MlaQRefIdeal.main_arg2))
      ∧ r.2.sem = fun _ => 0) :=
  (θ_run (Cert.MlaQRefIdeal.defs (F := Ideal)) _ _).mono
    (fun r h => ⟨fun c => (h c).2, sem_eq_zero_of_no_sems (by decide) r.2⟩) (Cert.MlaQRefIdeal.Value.run m g)

/-- The two readings end with equal results and unchanged arguments. -/
theorem algebraic [Cert.MlaQIdeal.Facts] [Cert.MlaQRefIdeal.Facts] : Cert.algebraic_MlaQIdeal_MlaQRefIdeal := by
  intro m g m' g' hpre hagree
  refine ⟨fun c => Cert.MlaQRefIdeal.Read.val_main_v101 (F := Ideal) (m ((c.tc : Thread Cert.MlaQIdeal.nD Cert.MlaQIdeal.τ).loc Cert.MlaQIdeal.main_arg0)) (m ((c.tc : Thread Cert.MlaQIdeal.nD Cert.MlaQIdeal.τ).loc Cert.MlaQIdeal.main_arg1)) (m ((c.tc : Thread Cert.MlaQIdeal.nD Cert.MlaQIdeal.τ).loc Cert.MlaQIdeal.main_arg2)), ?_, ?_⟩
  · refine (θ_run (Cert.MlaQIdeal.defs (F := Ideal)) _ _).mono (fun r h c => ?_) (Cert.MlaQIdeal.Value.run_blocks m g)
    exact ⟨(h c).1.trans (Cert.MlaQIdeal.Value.final m c), (h c).2⟩
  · exact (θ_run (Cert.MlaQRefIdeal.defs (F := Ideal)) _ _).mono
      (fun r h c => ⟨(h c).1.trans ((Cert.MlaQRefIdeal.Read.val_main_v101_eq m' c).trans (by rw [(hagree c).1, (hagree c).2.1, (hagree c).2.2])), (h c).2⟩)
      (Cert.MlaQRefIdeal.Value.run m' g')

end Cert.Proof.MlaQ

end
-- ==== Proof.MlaKVRead.lean ====
module
public import proofs.«01_k».proof.Proof.Gen.MlaKVRefIdeal.Read
public import proofs.«01_k».proof.Proof.AttnMath
public import Idealize.ShloMosaic.Lib.Pointwise

@[expose] public section
set_option maxRecDepth 16384
noncomputable section
open Idealize.ShloMosaic Idealize.ShloMosaic.TcCoe Idealize.SL.Sem
namespace Cert.MlaKVRead
open Cert.MlaKVRefIdeal Cert.MlaKVRefIdeal.Gen Cert.MlaKVRefIdeal.Read

abbrev X := (⟨S18432x3968, .bf16⟩ : BufTy).Contents (Elt Ideal)
abbrev G := (⟨S256, .f32⟩ : BufTy).Contents (Elt Ideal)
abbrev W := (⟨S256x1536, .f32⟩ : BufTy).Contents (Elt Ideal)

/-- A row of the key and value latents over its root mean square, times the gain. -/
def norm (x g : Fin 256 → EReal) (k : Fin 256) : EReal :=
  x k * Ideal.rsqrt (Ideal.div (∑ j, x j * x j) (Ideal.ofBits .f32 0x43800000#32) + Ideal.ofBits .f32 0x358637BD#32) * g k

/-- The sum of a row's squares. -/
theorem ss (x : X) (i : Fin 18432) :
    val_main_v7 x (ix1 i) = ∑ j : Fin 256, (x (ix2 i ⟨3072 + j.val, by omega⟩) : EReal) * x (ix2 i ⟨3072 + j.val, by omega⟩) := by
  pointwise [val_main_v7, val_main_v6, val_main_v1, val_main_v0, val_main_cst]

/-- One column of a row's projection. -/
theorem proj (x : X) (g : G) (w : W) (i : Fin 18432) (j : Fin 1536) :
    val_main_v19 x g w (ix2 i j) = ∑ k : Fin 256, norm (fun k => x (ix2 i ⟨3072 + k.val, by omega⟩)) (fun k => g (ix1 k)) k * w (ix2 k j) := by
  unfold norm
  rw [← ss]
  pointwise [val_main_v19, val_main_v18, val_main_v17, val_main_v16, val_main_v15, val_main_v14, val_main_v13, val_main_v12, val_main_v11, val_main_v10, val_main_v9, val_main_v8, val_main_v1, val_main_v0, val_main_cst_0, val_main_cst_1]

/-- A key column read back as head and lane. -/
theorem flat (x : X) (g : G) (w : W) (i : Fin 18432) (h : Fin 6) (d : Fin 256) :
    val_main_v105 x g w (ix2 i ⟨h.val * 256 + d.val, by omega⟩) = val_main_v103 x g w (ix3 i h d) := by
  pointwise [val_main_v105, val_main_v104]

/-- A value column is a projected column. -/
theorem flat_v (x : X) (g : G) (w : W) (i : Fin 18432) (h : Fin 6) (d : Fin 128) :
    val_main_v107 x g w (ix2 i ⟨h.val * 128 + d.val, by omega⟩) = val_main_v19 x g w (ix2 i ⟨h.val * 256 + (128 + d.val), by omega⟩) := by
  pointwise [val_main_v107, val_main_v106, val_main_v22, val_main_v20]

/-- The first 128 lanes of a head: the projection. -/
theorem lane_plain (x : X) (g : G) (w : W) (i : Fin 18432) (h : Fin 6) (d : Fin 128) :
    val_main_v103 x g w (ix3 i h ⟨d.val, by omega⟩) = val_main_v19 x g w (ix2 i ⟨h.val * 256 + d.val, by omega⟩) := by
  pointwise [val_main_v103, val_main_v21, val_main_v20]

/-- The next lanes of a head: the key that all heads share. -/
theorem lane_key (x : X) (g : G) (w : W) (i : Fin 18432) (h : Fin 6) (e : Fin 128) :
    val_main_v103 x g w (ix3 i h ⟨128 + e.val, by omega⟩) = val_main_v100 x (ix2 i e) := by
  pointwise [val_main_v103, val_main_v102, val_main_v101]

/-- The shared key's first 64 lanes. -/
theorem lane_rot (x : X) (i : Fin 18432) (d : Fin 64) :
    val_main_v100 x (ix2 i ⟨d.val, by omega⟩) = val_main_v99 x (ix2 i d) := by
  pointwise [val_main_v100]
  try exact dif_pos (by omega)

/-- The shared key's last 64 lanes: the projection's padding columns. -/
theorem lane_pad (x : X) (i : Fin 18432) (d : Fin 64) :
    val_main_v100 x (ix2 i ⟨64 + d.val, by omega⟩) = x (ix2 i ⟨3904 + d.val, by omega⟩) := by
  pointwise [val_main_v100, val_main_v5, val_main_v4]

/-- A context row's lanes are not rotated. -/
theorem rot_ctx (x : X) (i : Fin 2048) (d : Fin 64) :
    val_main_v99 x (ix2 ⟨16384 + i.val, by omega⟩ d) = x (ix2 ⟨16384 + i.val, by omega⟩ ⟨3840 + d.val, by omega⟩) := by
  pointwise [val_main_v99, val_main_v98, val_main_v3, val_main_v2]

/-- A latent row's lanes come from the rotation. -/
theorem rot_lat (x : X) (b : Fin 8) (r : Fin 2048) (d : Fin 64) :
    val_main_v99 x (ix2 ⟨b.val * 2048 + r.val, by omega⟩ d) = val_main_v96 x (ix4 b r 0 d) := by
  pointwise [val_main_v99, val_main_v97]
  exact dif_pos (by omega)

/-- The rotated lanes before the rotation. -/
theorem pre (x : X) (b : Fin 8) (r : Fin 2048) (d : Fin 64) :
    val_main_v24 x (ix4 b r 0 d) = x (ix2 ⟨b.val * 2048 + r.val, by omega⟩ ⟨3840 + d.val, by omega⟩) := by
  pointwise [val_main_v24, val_main_v23, val_main_v3, val_main_v2]

/-- The first 32 rotated lanes turn by the row's angle. -/
theorem half0 (x : X) (b : Fin 8) (r : Fin 2048) (e : Fin 32) :
    val_main_v96 x (ix4 b r 0 ⟨e.val, by omega⟩) = val_main_v74 x (ix4 b r 0 e) := by
  pointwise [val_main_v96]
  try exact dif_pos (by omega)

/-- The last 32 rotated lanes turn by the column's angle. -/
theorem half1 (x : X) (b : Fin 8) (r : Fin 2048) (e : Fin 32) :
    val_main_v96 x (ix4 b r 0 ⟨32 + e.val, by omega⟩) = val_main_v95 x (ix4 b r 0 e) := by
  pointwise [val_main_v96]

/-- The row angle's first half. -/
theorem rot0 (x : X) (b : Fin 8) (r : Fin 2048) (f : Fin 16) :
    val_main_v74 x (ix4 b r 0 ⟨f.val, by omega⟩)
      = (val_main_v24 x (ix4 b r 0 ⟨f.val, by omega⟩) * Ideal.cos (val_main_v46 (F := Ideal) (ix2 r f))
        - val_main_v24 x (ix4 b r 0 ⟨16 + f.val, by omega⟩) * Ideal.sin (val_main_v46 (F := Ideal) (ix2 r f)) : EReal) := by
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v52]

/-- The row angle's second half. -/
theorem rot1 (x : X) (b : Fin 8) (r : Fin 2048) (f : Fin 16) :
    val_main_v74 x (ix4 b r 0 ⟨16 + f.val, by omega⟩)
      = (val_main_v24 x (ix4 b r 0 ⟨f.val, by omega⟩) * Ideal.sin (val_main_v46 (F := Ideal) (ix2 r f))
        + val_main_v24 x (ix4 b r 0 ⟨16 + f.val, by omega⟩) * Ideal.cos (val_main_v46 (F := Ideal) (ix2 r f)) : EReal) := by
  pointwise [val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v52]

/-- The column angle's first half. -/
theorem rot2 (x : X) (b : Fin 8) (r : Fin 2048) (f : Fin 16) :
    val_main_v95 x (ix4 b r 0 ⟨f.val, by omega⟩)
      = (val_main_v24 x (ix4 b r 0 ⟨32 + f.val, by omega⟩) * Ideal.cos (val_main_v51 (F := Ideal) (ix2 r f))
        - val_main_v24 x (ix4 b r 0 ⟨32 + (16 + f.val), by omega⟩) * Ideal.sin (val_main_v51 (F := Ideal) (ix2 r f)) : EReal) := by
  pointwise [val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v53]

/-- The column angle's second half. -/
theorem rot3 (x : X) (b : Fin 8) (r : Fin 2048) (f : Fin 16) :
    val_main_v95 x (ix4 b r 0 ⟨16 + f.val, by omega⟩)
      = (val_main_v24 x (ix4 b r 0 ⟨32 + f.val, by omega⟩) * Ideal.sin (val_main_v51 (F := Ideal) (ix2 r f))
        + val_main_v24 x (ix4 b r 0 ⟨32 + (16 + f.val), by omega⟩) * Ideal.cos (val_main_v51 (F := Ideal) (ix2 r f)) : EReal) := by
  pointwise [val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v53]

/-- A rotated lane, group 0, from the columns. -/
theorem turned0 (x : X) (b : Fin 8) (r : Fin 2048) (f : Fin 16) :
    val_main_v96 x (ix4 b r 0 ⟨f.val, by omega⟩)
      = (x (ix2 ⟨b.val * 2048 + r.val, by omega⟩ ⟨3840 + (f.val), by omega⟩) * Ideal.cos (val_main_v46 (F := Ideal) (ix2 r f))
        + x (ix2 ⟨b.val * 2048 + r.val, by omega⟩ ⟨3840 + (16 + f.val), by omega⟩) * -Ideal.sin (val_main_v46 (F := Ideal) (ix2 r f)) : EReal) := by
  have h0 := half0 x b r ⟨f.val, by omega⟩
  rw [rot0, pre, pre, sub_eq_add_neg, ← mul_neg] at h0
  exact h0

/-- A rotated lane, group 1, from the columns. -/
theorem turned1 (x : X) (b : Fin 8) (r : Fin 2048) (f : Fin 16) :
    val_main_v96 x (ix4 b r 0 ⟨16 + f.val, by omega⟩)
      = (x (ix2 ⟨b.val * 2048 + r.val, by omega⟩ ⟨3840 + (16 + f.val), by omega⟩) * Ideal.cos (val_main_v46 (F := Ideal) (ix2 r f))
        + x (ix2 ⟨b.val * 2048 + r.val, by omega⟩ ⟨3840 + (f.val), by omega⟩) * Ideal.sin (val_main_v46 (F := Ideal) (ix2 r f)) : EReal) := by
  have h0 := half0 x b r ⟨16 + f.val, by omega⟩
  rw [rot1, pre, pre] at h0
  exact h0.trans (add_comm _ _)

/-- A rotated lane, group 2, from the columns. -/
theorem turned2 (x : X) (b : Fin 8) (r : Fin 2048) (f : Fin 16) :
    val_main_v96 x (ix4 b r 0 ⟨32 + f.val, by omega⟩)
      = (x (ix2 ⟨b.val * 2048 + r.val, by omega⟩ ⟨3840 + (32 + f.val), by omega⟩) * Ideal.cos (val_main_v51 (F := Ideal) (ix2 r f))
        + x (ix2 ⟨b.val * 2048 + r.val, by omega⟩ ⟨3840 + (48 + f.val), by omega⟩) * -Ideal.sin (val_main_v51 (F := Ideal) (ix2 r f)) : EReal) := by
  have hk : (⟨32 + (16 + f.val), by omega⟩ : Fin 64) = ⟨48 + f.val, by omega⟩ := Fin.ext (by simp only; omega)
  have h0 := half1 x b r ⟨f.val, by omega⟩
  rw [rot2, hk, pre, pre, sub_eq_add_neg, ← mul_neg] at h0
  exact h0

/-- A rotated lane, group 3, from the columns. -/
theorem turned3 (x : X) (b : Fin 8) (r : Fin 2048) (f : Fin 16) :
    val_main_v96 x (ix4 b r 0 ⟨48 + f.val, by omega⟩)
      = (x (ix2 ⟨b.val * 2048 + r.val, by omega⟩ ⟨3840 + (48 + f.val), by omega⟩) * Ideal.cos (val_main_v51 (F := Ideal) (ix2 r f))
        + x (ix2 ⟨b.val * 2048 + r.val, by omega⟩ ⟨3840 + (32 + f.val), by omega⟩) * Ideal.sin (val_main_v51 (F := Ideal) (ix2 r f)) : EReal) := by
  have hk : (⟨32 + (16 + f.val), by omega⟩ : Fin 64) = ⟨48 + f.val, by omega⟩ := Fin.ext (by simp only; omega)
  have h0 := half1 x b r ⟨16 + f.val, by omega⟩
  rw [rot3] at h0
  simp only at h0
  rw [hk, pre, pre] at h0
  exact h0.trans (add_comm _ _)

end Cert.MlaKVRead
end
-- ==== Proof.MlaKVValue.lean ====
module
public import proofs.«01_k».proof.Proof.Gen.MlaKVIdeal.Frame
public import proofs.«01_k».proof.Proof.MlaKVRead
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.MlaKVIdeal.Value
open Cert.MlaKVIdeal Cert.MlaKVIdeal.Gen
variable (m : (ℓ : Loc nD τ sig) → Buf (Elt Ideal) ℓ)

/-- The windows' block indices at every grid point. -/
theorem idx : ∀ t : Fin cfg0.N, win0_0.index t = ![t.val, 12] ∧ win0_1.index t = ![t.val, 30]
    ∧ win0_2.index t = ![0, 0] ∧ win0_3.index t = ![0, 0] ∧ win0_4.index t = ![if t.val < 32 then t.val % 4 else 4, 0]
    ∧ win0_5.index t = ![if t.val < 32 then t.val % 4 else 4, 0] ∧ win0_6.index t = ![if t.val < 32 then t.val % 4 else 4, 0]
    ∧ win0_7.index t = ![t.val, 0] ∧ win0_8.index t = ![t.val, 0] :=
  (by decide +kernel : ∀ t : Fin grid0.N, _)

/-- The projection a grid point computes, one element. -/
def P (x0 : Vec Ideal S512x256 .bf16) (x2 : Vec Ideal S1x256 .f32) (x3 : Vec Ideal S256x1536 .bf16) (a : Fin 512) (j : Fin 1536) : EReal :=
  ∑ k : Fin 256, MlaKVRead.norm (fun k => x0 (ix2 a k)) (fun k => x2 (ix2 0 k)) k * x3 (ix2 k j)

/-- The projection payload at an element. -/
theorem pay1 (x0 : Vec Ideal S512x256 .bf16) (x2 : Vec Ideal S1x256 .f32) (x3 : Vec Ideal S256x1536 .bf16) (a : Fin 512) (j : Fin 1536) :
    k0_pay1 (F := Ideal) x0 x2 x3 (ix2 a j) = P x0 x2 x3 a j := by
  unfold P MlaKVRead.norm
  pointwise [k0_pay1]

/-- The turned key columns at a lane. -/
def R (x1 : Vec Ideal S512x128 .bf16) (x4 x5 x6 : Vec Ideal S512x128 .f32) (a : Fin 512) (e : Fin 128) : EReal :=
  x1 (ix2 a e) * x4 (ix2 a e) + x1 (ix2 a ⟨(e.val + 128 - 112) % 128, by omega⟩) * x5 (ix2 a e)
    + x1 (ix2 a ⟨(e.val + 128 - 16) % 128, by omega⟩) * x6 (ix2 a e)

/-- The rotation payload at an element. -/
theorem pay2 (x1 : Vec Ideal S512x128 .bf16) (x4 x5 x6 : Vec Ideal S512x128 .f32) (a : Fin 512) (e : Fin 128) :
    k0_pay2 (F := Ideal) x1 x4 x5 x6 (ix2 a e) = R x1 x4 x5 x6 a e := by
  unfold R
  pointwise [k0_pay2]

/-- What a grid point leaves at a lane of a head. -/
def K (x0 : Vec Ideal S512x256 .bf16) (x1 : Vec Ideal S512x128 .bf16) (x2 : Vec Ideal S1x256 .f32) (x3 : Vec Ideal S256x1536 .bf16) (x4 x5 x6 : Vec Ideal S512x128 .f32) (a : Fin 512) (h : Fin 6) (d : Fin 256) : EReal :=
  if hd : d.val < 128 then P x0 x2 x3 a ⟨h.val * 128 + d.val, by omega⟩ else R x1 x4 x5 x6 a ⟨d.val - 128, by omega⟩

/-- Head 0's plain lanes. -/
theorem plain0 (x0 : Vec Ideal S512x256 .bf16) (x2 : Vec Ideal S1x256 .f32) (x3 : Vec Ideal S256x1536 .bf16) (a : Fin 512) (e : Fin 128) :
    k0_pay3 (F := Ideal) x0 x2 x3 (ix2 a e) = k0_pay1 (F := Ideal) x0 x2 x3 (ix2 a ⟨0 + e.val, by omega⟩) := by
  pointwise [k0_pay3]
/-- Head 1's plain lanes. -/
theorem plain1 (Y : FVec Ideal S512x1536 .f32) (a : Fin 512) (e : Fin 128) :
    k0_pay4 (F := Ideal) Y (ix2 a e) = Y (ix2 a ⟨128 + e.val, by omega⟩) := by
  pointwise [k0_pay4]
/-- Head 2's plain lanes. -/
theorem plain2 (Y : FVec Ideal S512x1536 .f32) (a : Fin 512) (e : Fin 128) :
    k0_pay5 (F := Ideal) Y (ix2 a e) = Y (ix2 a ⟨256 + e.val, by omega⟩) := by
  pointwise [k0_pay5]
/-- Head 3's plain lanes. -/
theorem plain3 (Y : FVec Ideal S512x1536 .f32) (a : Fin 512) (e : Fin 128) :
    k0_pay6 (F := Ideal) Y (ix2 a e) = Y (ix2 a ⟨384 + e.val, by omega⟩) := by
  pointwise [k0_pay6]
/-- Head 4's plain lanes. -/
theorem plain4 (Y : FVec Ideal S512x1536 .f32) (a : Fin 512) (e : Fin 128) :
    k0_pay7 (F := Ideal) Y (ix2 a e) = Y (ix2 a ⟨512 + e.val, by omega⟩) := by
  pointwise [k0_pay7]
/-- Head 5's plain lanes. -/
theorem plain5 (Y : FVec Ideal S512x1536 .f32) (a : Fin 512) (e : Fin 128) :
    k0_pay8 (F := Ideal) Y (ix2 a e) = Y (ix2 a ⟨640 + e.val, by omega⟩) := by
  pointwise [k0_pay8]
/-- The value lanes. -/
theorem plain_v (Y : FVec Ideal S512x1536 .f32) (a : Fin 512) (j : Fin 768) :
    k0_pay9 (F := Ideal) Y (ix2 a j) = Y (ix2 a ⟨768 + j.val, by omega⟩) := by
  pointwise [k0_pay9]

/-- A plain lane, with the column it reads. -/
theorem K_plain (x0 : Vec Ideal S512x256 .bf16) (x1 : Vec Ideal S512x128 .bf16) (x2 : Vec Ideal S1x256 .f32) (x3 : Vec Ideal S256x1536 .bf16) (x4 x5 x6 : Vec Ideal S512x128 .f32) (a : Fin 512) (h : Fin 6) (d : Fin 256) (j : Fin 1536) (hd : d.val < 128) (hj : j.val = h.val * 128 + d.val) :
    k0_pay1 (F := Ideal) x0 x2 x3 (ix2 a j) = K x0 x1 x2 x3 x4 x5 x6 a h d := by
  unfold K
  rw [dif_pos hd, pay1]
  exact congrArg _ (Fin.ext hj)

/-- A shared lane. -/
theorem K_key (x0 : Vec Ideal S512x256 .bf16) (x1 : Vec Ideal S512x128 .bf16) (x2 : Vec Ideal S1x256 .f32) (x3 : Vec Ideal S256x1536 .bf16) (x4 x5 x6 : Vec Ideal S512x128 .f32) (a : Fin 512) (h : Fin 6) (d : Fin 256) (e : Fin 128) (hd : d.val = 128 + e.val) :
    k0_pay2 (F := Ideal) x1 x4 x5 x6 (ix2 a e) = K x0 x1 x2 x3 x4 x5 x6 a h d := by
  unfold K
  rw [dif_neg (by omega), pay2]
  exact congrArg _ (Fin.ext (by simp only; omega))

/-- The key block a grid point stores, from the blocks it loads. -/
theorem out_k (c : Dev nD) (t : Fin cfg0.N) (a : Fin 512) (h : Fin 6) (d : Fin 256) :
    (outsAt0 m c t).1 (ix2 a ⟨h.val * 256 + d.val, by omega⟩)
      = K (X0_0 m c t) (iblk m c 1 t) (iblk m c 2 t) (iblk m c 3 t) (iblk m c 4 t) (iblk m c 5 t) (iblk m c 6 t) a h d := by
  unfold outsAt0
  dsimp only
  unfold out0_A_7
  frame_out
  canon_tiles x hx
  all_goals (idx_vars x; obtain rfl := Fin.ext hx0)
  · exact K_key _ _ _ _ _ _ _ _ _ _ _ (by omega)
  · exact (plain5 _ _ _).trans (K_plain _ _ _ _ _ _ _ _ _ _ _ (by omega) (by simp only; omega))
  · exact K_key _ _ _ _ _ _ _ _ _ _ _ (by omega)
  · exact (plain4 _ _ _).trans (K_plain _ _ _ _ _ _ _ _ _ _ _ (by omega) (by simp only; omega))
  · exact K_key _ _ _ _ _ _ _ _ _ _ _ (by omega)
  · exact (plain3 _ _ _).trans (K_plain _ _ _ _ _ _ _ _ _ _ _ (by omega) (by simp only; omega))
  · exact K_key _ _ _ _ _ _ _ _ _ _ _ (by omega)
  · exact (plain2 _ _ _).trans (K_plain _ _ _ _ _ _ _ _ _ _ _ (by omega) (by simp only; omega))
  · exact K_key _ _ _ _ _ _ _ _ _ _ _ (by omega)
  · exact (plain1 _ _ _).trans (K_plain _ _ _ _ _ _ _ _ _ _ _ (by omega) (by simp only; omega))
  · exact K_key _ _ _ _ _ _ _ _ _ _ _ (by omega)
  · exact (plain0 _ _ _ _ _).trans (K_plain _ _ _ _ _ _ _ _ _ _ _ (by omega) (by simp only; omega))

/-- The value block a grid point stores. -/
theorem out_v (c : Dev nD) (t : Fin cfg0.N) (a : Fin 512) (j : Fin 768) :
    (outsAt0 m c t).2 (ix2 a j) = P (X0_0 m c t) (iblk m c 2 t) (iblk m c 3 t) a ⟨768 + j.val, by omega⟩ := by
  unfold outsAt0
  dsimp only
  unfold out0_A_8
  frame_out
  exact (plain_v _ _ _).trans (pay1 _ _ _ _ _)

/-- The weight columns as the kernel reads them: all heads' key columns, then all heads' value columns. -/
def packed (w : FVec Ideal S256x1536 .f32) : FVec Ideal S256x1536 .bf16 :=
  truncf .bf16 (concatenate S256x1536 1 [⟨S256x768, shapeCast S256x768 (extractStridedSlice S256x6x128 ![0, 0, 0] (shapeCast S256x6x256 w shapeCasts_S256x1536_S256x6x256) slices_S256x6x256_S256x6x128_0_0_0) shapeCasts_S256x6x128_S256x768⟩,
    ⟨S256x768, shapeCast S256x768 (extractStridedSlice S256x6x128 ![0, 0, 128] (shapeCast S256x6x256 w shapeCasts_S256x1536_S256x6x256) slices_S256x6x256_S256x6x128_0_0_128) shapeCasts_S256x6x128_S256x768⟩] concatenates_S256x768_S256x768_S256x1536_d1) bitsLt_bf16_f32

/-- The weight array the kernel is handed. -/
theorem V7 (c : Dev nD) : V m c main_v7 = packed (m ((c : Thread nD τ).loc main_arg2)) := by
  show StableHlo.after (List.flatten [hostOps0, hostOps0_1, hostOps0_2, hostOps0_3, hostOps0_4, hostOps0_5, hostOps0_6]) _ (Proc.devRef .tc _) = _
  simp only [List.flatten_cons, List.flatten_nil, List.append_nil, List.cons_append, List.nil_append, hostOps0, hostOps0_1, hostOps0_2, hostOps0_3, hostOps0_4, hostOps0_5, hostOps0_6]
  after_results_simp
  rfl

/-- A head's key columns. -/
theorem packed_a (w : FVec Ideal S256x1536 .f32) (k : Fin 256) (h : Fin 6) (d : Fin 128) :
    packed w (ix2 k ⟨h.val * 128 + d.val, by omega⟩) = w (ix2 k ⟨h.val * 256 + d.val, by omega⟩) := by
  pointwise [packed, hlo_ix]
  try (split_ifs <;> first | (exfalso; omega) | exact congrArg w (congrArg (ix2 k) (Fin.ext (by (try simp only) <;> omega))))
/-- A head's value columns. -/
theorem packed_b (w : FVec Ideal S256x1536 .f32) (k : Fin 256) (h : Fin 6) (d : Fin 128) :
    packed w (ix2 k ⟨768 + (h.val * 128 + d.val), by omega⟩) = w (ix2 k ⟨h.val * 256 + (128 + d.val), by omega⟩) := by
  pointwise [packed, hlo_ix]
  try (split_ifs <;> first | (exfalso; omega) | exact congrArg w (congrArg (ix2 k) (Fin.ext (by (try simp only) <;> omega))))

/-- The row angles and the column angles of a latent's tokens. -/
abbrev angR : FVec Ideal S2048x16 .f32 := Cert.MlaKVRefIdeal.Read.val_main_v46 (F := Ideal)
abbrev angC : FVec Ideal S2048x16 .f32 := Cert.MlaKVRefIdeal.Read.val_main_v51 (F := Ideal)
/-- Sixteen lanes of zeros. -/
def zeros16 : FVec Ideal S2048x16 .f32 := broadcastInDim S2048x16 ![] bcast_S_S2048x16 (constant (F := Ideal) S_ .f32 0x00000000#32)
/-- A rotation table: four groups of sixteen lanes, then 64 lanes and 512 rows of one value. -/
def table (u0 u1 u2 u3 : FVec Ideal S2048x16 .f32) (v : BitVec 32) : FVec Ideal S2560x128 .f32 :=
  concatenate S2560x128 0 [⟨S2048x128, pad S2048x128 ![0, 0] ![0, 64] ![0, 0] (concatenate S2048x64 1 [⟨S2048x16, u0⟩, ⟨S2048x16, u1⟩, ⟨S2048x16, u2⟩, ⟨S2048x16, u3⟩] concatenates_S2048x16_S2048x16_S2048x16_S2048x16_S2048x64_d1)
      (constant (F := Ideal) S_ .f32 v) pads_S2048x64_S2048x128_000_0640 h_S_⟩,
    ⟨S512x128, broadcastInDim S512x128 ![] bcast_S_S512x128 (constant (F := Ideal) S_ .f32 v)⟩] concatenates_S2048x128_S512x128_S2560x128_d0

/-- The cosine table the kernel is handed. -/
theorem V51 (c : Dev nD) : V m c main_v51 = table (Host.cos angR) (Host.cos angR) (Host.cos angC) (Host.cos angC) 0x3F800000#32 := by
  show StableHlo.after (List.flatten [hostOps0, hostOps0_1, hostOps0_2, hostOps0_3, hostOps0_4, hostOps0_5, hostOps0_6]) _ (Proc.devRef .tc _) = _
  simp only [List.flatten_cons, List.flatten_nil, List.append_nil, List.cons_append, List.nil_append, hostOps0, hostOps0_1, hostOps0_2, hostOps0_3, hostOps0_4, hostOps0_5, hostOps0_6]
  after_results_simp
  rfl
/-- The first sine table the kernel is handed. -/
theorem V54 (c : Dev nD) : V m c main_v54 = table (Host.negf (Host.sin angR)) zeros16 (Host.negf (Host.sin angC)) zeros16 0x00000000#32 := by
  show StableHlo.after (List.flatten [hostOps0, hostOps0_1, hostOps0_2, hostOps0_3, hostOps0_4, hostOps0_5, hostOps0_6]) _ (Proc.devRef .tc _) = _
  simp only [List.flatten_cons, List.flatten_nil, List.append_nil, List.cons_append, List.nil_append, hostOps0, hostOps0_1, hostOps0_2, hostOps0_3, hostOps0_4, hostOps0_5, hostOps0_6]
  after_results_simp
  rfl
/-- The second sine table the kernel is handed. -/
theorem V57 (c : Dev nD) : V m c main_v57 = table zeros16 (Host.sin angR) zeros16 (Host.sin angC) 0x00000000#32 := by
  show StableHlo.after (List.flatten [hostOps0, hostOps0_1, hostOps0_2, hostOps0_3, hostOps0_4, hostOps0_5, hostOps0_6]) _ (Proc.devRef .tc _) = _
  simp only [List.flatten_cons, List.flatten_nil, List.append_nil, List.cons_append, List.nil_append, hostOps0, hostOps0_1, hostOps0_2, hostOps0_3, hostOps0_4, hostOps0_5, hostOps0_6]
  after_results_simp
  rfl

/-- A table's lane group 0. -/
theorem table_0 (u0 u1 u2 u3 : FVec Ideal S2048x16 .f32) (v : BitVec 32) (r : Fin 2048) (f : Fin 16) :
    table u0 u1 u2 u3 v (ix2 ⟨r.val, by omega⟩ ⟨f.val, by omega⟩) = u0 (ix2 r f) := by
  pointwise [table, hlo_ix]
  try (split_ifs <;> first | (exfalso; omega) | exact congrArg _ (congrArg (ix2 r) (Fin.ext (by (try simp only) <;> omega))))
/-- A table's lane group 1. -/
theorem table_1 (u0 u1 u2 u3 : FVec Ideal S2048x16 .f32) (v : BitVec 32) (r : Fin 2048) (f : Fin 16) :
    table u0 u1 u2 u3 v (ix2 ⟨r.val, by omega⟩ ⟨16 + f.val, by omega⟩) = u1 (ix2 r f) := by
  pointwise [table, hlo_ix]
  try (split_ifs <;> first | (exfalso; omega) | exact congrArg _ (congrArg (ix2 r) (Fin.ext (by (try simp only) <;> omega))))
/-- A table's lane group 2. -/
theorem table_2 (u0 u1 u2 u3 : FVec Ideal S2048x16 .f32) (v : BitVec 32) (r : Fin 2048) (f : Fin 16) :
    table u0 u1 u2 u3 v (ix2 ⟨r.val, by omega⟩ ⟨32 + f.val, by omega⟩) = u2 (ix2 r f) := by
  pointwise [table, hlo_ix]
  try (split_ifs <;> first | (exfalso; omega) | exact congrArg _ (congrArg (ix2 r) (Fin.ext (by (try simp only) <;> omega))))
/-- A table's lane group 3. -/
theorem table_3 (u0 u1 u2 u3 : FVec Ideal S2048x16 .f32) (v : BitVec 32) (r : Fin 2048) (f : Fin 16) :
    table u0 u1 u2 u3 v (ix2 ⟨r.val, by omega⟩ ⟨48 + f.val, by omega⟩) = u3 (ix2 r f) := by
  pointwise [table, hlo_ix]
  try (split_ifs <;> first | (exfalso; omega) | exact congrArg _ (congrArg (ix2 r) (Fin.ext (by (try simp only) <;> omega))))
/-- A table's padding lanes. -/
theorem table_4 (u0 u1 u2 u3 : FVec Ideal S2048x16 .f32) (v : BitVec 32) (r : Fin 2048) (e : Fin 64) :
    table u0 u1 u2 u3 v (ix2 ⟨r.val, by omega⟩ ⟨64 + e.val, by omega⟩) = Ideal.ofBits .f32 v := by
  pointwise [table, hlo_ix]
  try (split_ifs <;> first | (exfalso; omega) | rfl)
/-- A table's rows for the context tokens. -/
theorem table_5 (u0 u1 u2 u3 : FVec Ideal S2048x16 .f32) (v : BitVec 32) (r : Fin 512) (e : Fin 128) :
    table u0 u1 u2 u3 v (ix2 ⟨2048 + r.val, by omega⟩ e) = Ideal.ofBits .f32 v := by
  pointwise [table, hlo_ix]
  try (split_ifs <;> first | (exfalso; omega) | rfl)

/-- The gain the kernel is handed: the same numbers as one row. -/
theorem V0 (c : Dev nD) : V m c main_v0 = shapeCast S1x256 (m ((c : Thread nD τ).loc main_arg1)) shapeCasts_S256_S1x256 := by
  show StableHlo.after (List.flatten [hostOps0, hostOps0_1, hostOps0_2, hostOps0_3, hostOps0_4, hostOps0_5, hostOps0_6]) _ (Proc.devRef .tc _) = _
  simp only [List.flatten_cons, List.flatten_nil, List.append_nil, List.cons_append, List.nil_append, hostOps0, hostOps0_1, hostOps0_2, hostOps0_3, hostOps0_4, hostOps0_5, hostOps0_6]
  after_results_simp
  rfl

/-- The latents' block at a grid point. -/
theorem read0 (c : Dev nD) (t : Fin cfg0.N) (a : Fin 512) (k : Fin 256) :
    X0_0 m c t (ix2 a k) = m ((c : Thread nD τ).loc main_arg0) (ix2 ⟨t.val * 512 + a.val, by have : t.val < 36 := t.isLt; omega⟩ ⟨3072 + k.val, by omega⟩) := by
  rw [← V_main_arg0 m c]
  unfold X0_0 Pipeline.Window.fill
  refine (dif_pos (moved0_0 t (ix2 a k))).trans ?_
  blk_ext [iblk, idx t]
/-- The shared key's block at a grid point. -/
theorem read1 (c : Dev nD) (t : Fin cfg0.N) (a : Fin 512) (k : Fin 128) :
    iblk m c 1 t (ix2 a k) = m ((c : Thread nD τ).loc main_arg0) (ix2 ⟨t.val * 512 + a.val, by have : t.val < 36 := t.isLt; omega⟩ ⟨3840 + k.val, by omega⟩) := by
  rw [← V_main_arg0 m c]
  blk_ext [iblk, idx t]
/-- The gain at a grid point. -/
theorem read2 (c : Dev nD) (t : Fin cfg0.N) (k : Fin 256) :
    iblk m c 2 t (ix2 0 k) = m ((c : Thread nD τ).loc main_arg1) (ix1 k) := by
  have h : iblk m c 2 t (ix2 0 k) = V m c main_v0 (ix2 0 k) := by blk_ext [iblk, idx t]
  rw [h, V0]
  pointwise []
/-- The weight at a grid point. -/
theorem read3 (c : Dev nD) (t : Fin cfg0.N) (k : Fin 256) (j : Fin 1536) :
    iblk m c 3 t (ix2 k j) = packed (m ((c : Thread nD τ).loc main_arg2)) (ix2 k j) := by
  rw [← V7 m c]
  blk_ext [iblk, idx t]
/-- The table row a token reads. -/
def trow (t : Fin 36) (a : Fin 512) : Fin 2560 := ⟨(if t.val < 32 then t.val % 4 else 4) * 512 + a.val, by split <;> omega⟩
/-- A rotation table's block at a grid point. -/
theorem read4 (c : Dev nD) (t : Fin cfg0.N) (a : Fin 512) (e : Fin 128) :
    iblk m c 4 t (ix2 a e) = V m c main_v51 (ix2 (trow t a) e) := by
  unfold trow
  blk_ext [iblk, idx t]
/-- A rotation table's block at a grid point. -/
theorem read5 (c : Dev nD) (t : Fin cfg0.N) (a : Fin 512) (e : Fin 128) :
    iblk m c 5 t (ix2 a e) = V m c main_v54 (ix2 (trow t a) e) := by
  unfold trow
  blk_ext [iblk, idx t]
/-- A rotation table's block at a grid point. -/
theorem read6 (c : Dev nD) (t : Fin cfg0.N) (a : Fin 512) (e : Fin 128) :
    iblk m c 6 t (ix2 a e) = V m c main_v57 (ix2 (trow t a) e) := by
  unfold trow
  blk_ext [iblk, idx t]

/-- The token a block row holds. -/
abbrev tok (t : Fin cfg0.N) (a : Fin 512) : Fin 18432 := ⟨t.val * 512 + a.val, by have : t.val < 36 := t.isLt; omega⟩
/-- The reference's projection of the run's arguments. -/
abbrev prj (c : Dev nD) (i : Fin 18432) (j : Fin 1536) : EReal :=
  Cert.MlaKVRefIdeal.Read.val_main_v19 (F := Ideal) (m ((c : Thread nD τ).loc main_arg0)) (m ((c : Thread nD τ).loc main_arg1)) (m ((c : Thread nD τ).loc main_arg2)) (ix2 i j)
/-- The projection a grid point computes. -/
abbrev PP (c : Dev nD) (t : Fin cfg0.N) (a : Fin 512) (j : Fin 1536) : EReal := P (X0_0 m c t) (iblk m c 2 t) (iblk m c 3 t) a j

/-- A key column of it is the reference's, … -/
theorem PP_a (c : Dev nD) (t : Fin cfg0.N) (a : Fin 512) (h : Fin 6) (d : Fin 128) :
    PP m c t a ⟨h.val * 128 + d.val, by omega⟩ = prj m c (tok t a) ⟨h.val * 256 + d.val, by omega⟩ := by
  unfold PP P prj
  rw [MlaKVRead.proj]
  refine Finset.sum_congr rfl fun k _ => ?_
  rw [read3, packed_a, show (fun k => X0_0 m c t (ix2 a k)) = _ from funext (read0 m c t a), show (fun k => iblk m c 2 t (ix2 0 k)) = _ from funext (read2 m c t)]
/-- … and a value column too. -/
theorem PP_b (c : Dev nD) (t : Fin cfg0.N) (a : Fin 512) (h : Fin 6) (d : Fin 128) :
    PP m c t a ⟨768 + (h.val * 128 + d.val), by omega⟩ = prj m c (tok t a) ⟨h.val * 256 + (128 + d.val), by omega⟩ := by
  unfold PP P prj
  rw [MlaKVRead.proj]
  refine Finset.sum_congr rfl fun k _ => ?_
  rw [read3, packed_b, show (fun k => X0_0 m c t (ix2 a k)) = _ from funext (read0 m c t a), show (fun k => iblk m c 2 t (ix2 0 k)) = _ from funext (read2 m c t)]

/-- The word of one. -/
theorem one_bits : Ideal.ofBits .f32 0x3F800000#32 = 1 := by
  simp [Ideal.ofBits, Ideal.ieee]
  rw [← EReal.coe_mul]
  norm_num
/-- The word of zero. -/
theorem zero_bits : Ideal.ofBits .f32 0x00000000#32 = 0 := by
  simp [Ideal.ofBits, Ideal.ieee]

/-- The three tables. -/
abbrev tC : FVec Ideal S2560x128 .f32 := table (Host.cos angR) (Host.cos angR) (Host.cos angC) (Host.cos angC) 0x3F800000#32
abbrev tS : FVec Ideal S2560x128 .f32 := table (Host.negf (Host.sin angR)) zeros16 (Host.negf (Host.sin angC)) zeros16 0x00000000#32
abbrev tU : FVec Ideal S2560x128 .f32 := table zeros16 (Host.sin angR) zeros16 (Host.sin angC) 0x00000000#32

/-- The run's projection columns. -/
abbrev px (c : Dev nD) (i : Fin 18432) (j : Fin 3968) : EReal := m ((c : Thread nD τ).loc main_arg0) (ix2 i j)

/-- A shared lane of what a grid point stores. -/
theorem st_rope (c : Dev nD) (t : Fin cfg0.N) (a : Fin 512) (h : Fin 6) (e : Fin 128) (r : Fin 2560) (j0 j1 j2 : Fin 3968)
    (hr : r = trow t a) (h0 : j0.val = 3840 + e.val) (h1 : j1.val = 3840 + (e.val + 128 - 112) % 128) (h2 : j2.val = 3840 + (e.val + 128 - 16) % 128) :
    (outsAt0 m c t).1 (ix2 a ⟨h.val * 256 + (128 + e.val), by omega⟩)
      = (px m c (tok t a) j0 * tC (ix2 r e) + px m c (tok t a) j1 * tS (ix2 r e) + px m c (tok t a) j2 * tU (ix2 r e) : EReal) := by
  rw [out_k m c t a h ⟨128 + e.val, by omega⟩, ← K_key _ _ _ _ _ _ _ a h ⟨128 + e.val, by omega⟩ e rfl, pay2]
  unfold R
  rw [read1, read1, read1, read4, read5, read6, V51, V54, V57, ← hr]
  rw [show j0 = ⟨3840 + e.val, by omega⟩ from Fin.ext h0, show j1 = ⟨3840 + (e.val + 128 - 112) % 128, by omega⟩ from Fin.ext h1,
    show j2 = ⟨3840 + (e.val + 128 - 16) % 128, by omega⟩ from Fin.ext h2]

/-- The lane groups where the table's value is zero. -/
theorem zeros16_read (i : S2048x16.Idx) : zeros16 i = (0 : EReal) := by
  unfold zeros16
  pointwise []
/-- A padding lane after the rotation, and a context token's lane, is what it was before. -/
theorem st_same (c : Dev nD) (t : Fin cfg0.N) (a : Fin 512) (h : Fin 6) (e : Fin 128) (hc : 64 ≤ e.val ∨ 32 ≤ t.val) :
    (outsAt0 m c t).1 (ix2 a ⟨h.val * 256 + (128 + e.val), by omega⟩) = px m c (tok t a) ⟨3840 + e.val, by omega⟩ := by
  have ht : t.val < 36 := t.isLt
  rw [st_rope m c t a h e (trow t a) ⟨3840 + e.val, by omega⟩ ⟨3840 + (e.val + 128 - 112) % 128, by omega⟩ ⟨3840 + (e.val + 128 - 16) % 128, by omega⟩ rfl rfl rfl rfl]
  have key : ∀ (u0 u1 u2 u3 : FVec Ideal S2048x16 .f32) (v : BitVec 32), table u0 u1 u2 u3 v (ix2 (trow t a) e) = Ideal.ofBits .f32 v := by
    intro u0 u1 u2 u3 v
    by_cases h32 : t.val < 32
    · have he : 64 ≤ e.val := by omega
      have h1 : trow t a = ⟨(⟨t.val % 4 * 512 + a.val, by omega⟩ : Fin 2048).val, by simp only; omega⟩ := by
        apply Fin.ext; unfold trow; simp only; rw [if_pos h32]
      have h2 : e = ⟨64 + (⟨e.val - 64, by omega⟩ : Fin 64).val, by simp only; omega⟩ := Fin.ext (by simp only; omega)
      rw [h1, h2]
      exact table_4 u0 u1 u2 u3 v ⟨t.val % 4 * 512 + a.val, by omega⟩ ⟨e.val - 64, by omega⟩
    · have h1 : trow t a = ⟨2048 + a.val, by omega⟩ := by
        apply Fin.ext; unfold trow; simp only; rw [if_neg h32]
      rw [h1]
      exact table_5 u0 u1 u2 u3 v a e
  have kC : tC (ix2 (trow t a) e) = (1 : EReal) := (key _ _ _ _ _).trans one_bits
  have kS : tS (ix2 (trow t a) e) = (0 : EReal) := (key _ _ _ _ _).trans zero_bits
  have kU : tU (ix2 (trow t a) e) = (0 : EReal) := (key _ _ _ _ _).trans zero_bits
  rw [kC, kS, kU, mul_one, mul_zero, mul_zero, add_zero, add_zero]

/-- The reference's keys at a lane of a head. -/
abbrev ref (c : Dev nD) (i : Fin 18432) (j : Fin 1536) : EReal :=
  Cert.MlaKVRefIdeal.Read.val_main_v105 (F := Ideal) (m ((c : Thread nD τ).loc main_arg0)) (m ((c : Thread nD τ).loc main_arg1)) (m ((c : Thread nD τ).loc main_arg2)) (ix2 i j)

/-- A plain lane. -/
theorem point0 (c : Dev nD) (t : Fin cfg0.N) (a : Fin 512) (h : Fin 6) (d : Fin 256) (hd : d.val < 128) :
    (outsAt0 m c t).1 (ix2 a ⟨h.val * 256 + d.val, by omega⟩) = ref m c (tok t a) ⟨h.val * 256 + d.val, by omega⟩ := by
  rw [out_k]
  unfold K
  rw [dif_pos hd]
  refine (PP_a m c t a h ⟨d.val, hd⟩).trans ?_
  unfold ref prj
  rw [MlaKVRead.flat]
  exact (MlaKVRead.lane_plain _ _ _ (tok t a) h ⟨d.val, hd⟩).symm

/-- The reference at a shared lane. -/
theorem ref_key (c : Dev nD) (i : Fin 18432) (h : Fin 6) (e : Fin 128) :
    ref m c i ⟨h.val * 256 + (128 + e.val), by omega⟩ = Cert.MlaKVRefIdeal.Read.val_main_v100 (F := Ideal) (m ((c : Thread nD τ).loc main_arg0)) (ix2 i e) := by
  unfold ref
  rw [MlaKVRead.flat _ _ _ _ h ⟨128 + e.val, by omega⟩, MlaKVRead.lane_key]

/-- A padding lane. -/
theorem point3 (c : Dev nD) (t : Fin cfg0.N) (a : Fin 512) (h : Fin 6) (d : Fin 64) :
    (outsAt0 m c t).1 (ix2 a ⟨h.val * 256 + (128 + (64 + d.val)), by omega⟩) = ref m c (tok t a) ⟨h.val * 256 + (128 + (64 + d.val)), by omega⟩ := by
  rw [st_same m c t a h ⟨64 + d.val, by omega⟩ (Or.inl (by simp only; omega)), ref_key m c (tok t a) h ⟨64 + d.val, by omega⟩, MlaKVRead.lane_pad]
  exact congrArg (px m c (tok t a)) (Fin.ext (by simp only; omega))

/-- A context token's lane. -/
theorem point2 (c : Dev nD) (t : Fin cfg0.N) (a : Fin 512) (h : Fin 6) (e : Fin 64) (ht : 32 ≤ t.val) :
    (outsAt0 m c t).1 (ix2 a ⟨h.val * 256 + (128 + e.val), by omega⟩) = ref m c (tok t a) ⟨h.val * 256 + (128 + e.val), by omega⟩ := by
  have h36 : t.val < 36 := t.isLt
  have hi : tok t a = ⟨16384 + (⟨t.val * 512 + a.val - 16384, by omega⟩ : Fin 2048).val, by simp only; omega⟩ := Fin.ext (by simp only; omega)
  rw [st_same m c t a h ⟨e.val, by omega⟩ (Or.inr ht), ref_key m c (tok t a) h ⟨e.val, by omega⟩, MlaKVRead.lane_rot, hi, MlaKVRead.rot_ctx]

/-- A latent token's lane, group 0. -/
theorem point1_0 (c : Dev nD) (t : Fin cfg0.N) (a : Fin 512) (h : Fin 6) (f : Fin 16) (ht : t.val < 32) :
    (outsAt0 m c t).1 (ix2 a ⟨h.val * 256 + (128 + (f.val)), by omega⟩) = ref m c (tok t a) ⟨h.val * 256 + (128 + (f.val)), by omega⟩ := by
  obtain ⟨b, hb⟩ : ∃ b : Fin 8, b.val = t.val / 4 := ⟨⟨t.val / 4, by omega⟩, rfl⟩
  obtain ⟨r, hr⟩ : ∃ r : Fin 2048, r.val = t.val % 4 * 512 + a.val := ⟨⟨t.val % 4 * 512 + a.val, by omega⟩, rfl⟩
  have hi : tok t a = ⟨b.val * 2048 + r.val, by omega⟩ := Fin.ext (by simp only; omega)
  have hrow : (⟨r.val, by omega⟩ : Fin 2560) = trow t a := by
    apply Fin.ext; unfold trow; simp only; rw [if_pos ht, hr]
  have hC : tC (ix2 ⟨r.val, by omega⟩ ⟨f.val, by omega⟩) = Ideal.cos (angR (ix2 r f)) := table_0 _ _ _ _ _ r f
  have hS : tS (ix2 ⟨r.val, by omega⟩ ⟨f.val, by omega⟩) = -Ideal.sin (angR (ix2 r f)) := table_0 _ _ _ _ _ r f
  have hU : tU (ix2 ⟨r.val, by omega⟩ ⟨f.val, by omega⟩) = (0 : EReal) := (table_0 _ _ _ _ _ r f).trans (zeros16_read _)
  rw [st_rope m c t a h ⟨f.val, by omega⟩ ⟨r.val, by omega⟩ ⟨3840 + (f.val), by omega⟩ ⟨3840 + (16 + f.val), by omega⟩ ⟨3840 + (f.val + 128 - 16) % 128, by omega⟩
    hrow rfl (by first | rfl | (simp only; omega)) (by first | rfl | (simp only; omega))]
  rw [ref_key m c (tok t a) h ⟨f.val, by omega⟩, MlaKVRead.lane_rot _ _ ⟨f.val, by omega⟩, hi, MlaKVRead.rot_lat]
  rw [hC, hS, hU, mul_zero, add_zero]
  exact (MlaKVRead.turned0 _ b r f).symm

/-- A latent token's lane, group 1. -/
theorem point1_1 (c : Dev nD) (t : Fin cfg0.N) (a : Fin 512) (h : Fin 6) (f : Fin 16) (ht : t.val < 32) :
    (outsAt0 m c t).1 (ix2 a ⟨h.val * 256 + (128 + (16 + f.val)), by omega⟩) = ref m c (tok t a) ⟨h.val * 256 + (128 + (16 + f.val)), by omega⟩ := by
  obtain ⟨b, hb⟩ : ∃ b : Fin 8, b.val = t.val / 4 := ⟨⟨t.val / 4, by omega⟩, rfl⟩
  obtain ⟨r, hr⟩ : ∃ r : Fin 2048, r.val = t.val % 4 * 512 + a.val := ⟨⟨t.val % 4 * 512 + a.val, by omega⟩, rfl⟩
  have hi : tok t a = ⟨b.val * 2048 + r.val, by omega⟩ := Fin.ext (by simp only; omega)
  have hrow : (⟨r.val, by omega⟩ : Fin 2560) = trow t a := by
    apply Fin.ext; unfold trow; simp only; rw [if_pos ht, hr]
  have hC : tC (ix2 ⟨r.val, by omega⟩ ⟨16 + f.val, by omega⟩) = Ideal.cos (angR (ix2 r f)) := table_1 _ _ _ _ _ r f
  have hS : tS (ix2 ⟨r.val, by omega⟩ ⟨16 + f.val, by omega⟩) = (0 : EReal) := (table_1 _ _ _ _ _ r f).trans (zeros16_read _)
  have hU : tU (ix2 ⟨r.val, by omega⟩ ⟨16 + f.val, by omega⟩) = Ideal.sin (angR (ix2 r f)) := table_1 _ _ _ _ _ r f
  rw [st_rope m c t a h ⟨16 + f.val, by omega⟩ ⟨r.val, by omega⟩ ⟨3840 + (16 + f.val), by omega⟩ ⟨3840 + (16 + f.val + 128 - 112) % 128, by omega⟩ ⟨3840 + (f.val), by omega⟩
    hrow rfl (by first | rfl | (simp only; omega)) (by first | rfl | (simp only; omega))]
  rw [ref_key m c (tok t a) h ⟨16 + f.val, by omega⟩, MlaKVRead.lane_rot _ _ ⟨16 + f.val, by omega⟩, hi, MlaKVRead.rot_lat]
  rw [hC, hS, hU, mul_zero, add_zero]
  exact (MlaKVRead.turned1 _ b r f).symm

/-- A latent token's lane, group 2. -/
theorem point1_2 (c : Dev nD) (t : Fin cfg0.N) (a : Fin 512) (h : Fin 6) (f : Fin 16) (ht : t.val < 32) :
    (outsAt0 m c t).1 (ix2 a ⟨h.val * 256 + (128 + (32 + f.val)), by omega⟩) = ref m c (tok t a) ⟨h.val * 256 + (128 + (32 + f.val)), by omega⟩ := by
  obtain ⟨b, hb⟩ : ∃ b : Fin 8, b.val = t.val / 4 := ⟨⟨t.val / 4, by omega⟩, rfl⟩
  obtain ⟨r, hr⟩ : ∃ r : Fin 2048, r.val = t.val % 4 * 512 + a.val := ⟨⟨t.val % 4 * 512 + a.val, by omega⟩, rfl⟩
  have hi : tok t a = ⟨b.val * 2048 + r.val, by omega⟩ := Fin.ext (by simp only; omega)
  have hrow : (⟨r.val, by omega⟩ : Fin 2560) = trow t a := by
    apply Fin.ext; unfold trow; simp only; rw [if_pos ht, hr]
  have hC : tC (ix2 ⟨r.val, by omega⟩ ⟨32 + f.val, by omega⟩) = Ideal.cos (angC (ix2 r f)) := table_2 _ _ _ _ _ r f
  have hS : tS (ix2 ⟨r.val, by omega⟩ ⟨32 + f.val, by omega⟩) = -Ideal.sin (angC (ix2 r f)) := table_2 _ _ _ _ _ r f
  have hU : tU (ix2 ⟨r.val, by omega⟩ ⟨32 + f.val, by omega⟩) = (0 : EReal) := (table_2 _ _ _ _ _ r f).trans (zeros16_read _)
  rw [st_rope m c t a h ⟨32 + f.val, by omega⟩ ⟨r.val, by omega⟩ ⟨3840 + (32 + f.val), by omega⟩ ⟨3840 + (48 + f.val), by omega⟩ ⟨3840 + (32 + f.val + 128 - 16) % 128, by omega⟩
    hrow rfl (by first | rfl | (simp only; omega)) (by first | rfl | (simp only; omega))]
  rw [ref_key m c (tok t a) h ⟨32 + f.val, by omega⟩, MlaKVRead.lane_rot _ _ ⟨32 + f.val, by omega⟩, hi, MlaKVRead.rot_lat]
  rw [hC, hS, hU, mul_zero, add_zero]
  exact (MlaKVRead.turned2 _ b r f).symm

/-- A latent token's lane, group 3. -/
theorem point1_3 (c : Dev nD) (t : Fin cfg0.N) (a : Fin 512) (h : Fin 6) (f : Fin 16) (ht : t.val < 32) :
    (outsAt0 m c t).1 (ix2 a ⟨h.val * 256 + (128 + (48 + f.val)), by omega⟩) = ref m c (tok t a) ⟨h.val * 256 + (128 + (48 + f.val)), by omega⟩ := by
  obtain ⟨b, hb⟩ : ∃ b : Fin 8, b.val = t.val / 4 := ⟨⟨t.val / 4, by omega⟩, rfl⟩
  obtain ⟨r, hr⟩ : ∃ r : Fin 2048, r.val = t.val % 4 * 512 + a.val := ⟨⟨t.val % 4 * 512 + a.val, by omega⟩, rfl⟩
  have hi : tok t a = ⟨b.val * 2048 + r.val, by omega⟩ := Fin.ext (by simp only; omega)
  have hrow : (⟨r.val, by omega⟩ : Fin 2560) = trow t a := by
    apply Fin.ext; unfold trow; simp only; rw [if_pos ht, hr]
  have hC : tC (ix2 ⟨r.val, by omega⟩ ⟨48 + f.val, by omega⟩) = Ideal.cos (angC (ix2 r f)) := table_3 _ _ _ _ _ r f
  have hS : tS (ix2 ⟨r.val, by omega⟩ ⟨48 + f.val, by omega⟩) = (0 : EReal) := (table_3 _ _ _ _ _ r f).trans (zeros16_read _)
  have hU : tU (ix2 ⟨r.val, by omega⟩ ⟨48 + f.val, by omega⟩) = Ideal.sin (angC (ix2 r f)) := table_3 _ _ _ _ _ r f
  rw [st_rope m c t a h ⟨48 + f.val, by omega⟩ ⟨r.val, by omega⟩ ⟨3840 + (48 + f.val), by omega⟩ ⟨3840 + (48 + f.val + 128 - 112) % 128, by omega⟩ ⟨3840 + (32 + f.val), by omega⟩
    hrow rfl (by first | rfl | (simp only; omega)) (by first | rfl | (simp only; omega))]
  rw [ref_key m c (tok t a) h ⟨48 + f.val, by omega⟩, MlaKVRead.lane_rot _ _ ⟨48 + f.val, by omega⟩, hi, MlaKVRead.rot_lat]
  rw [hC, hS, hU, mul_zero, add_zero]
  exact (MlaKVRead.turned3 _ b r f).symm

/-- The key a grid point stores at a block index is the reference at the array index it sits at. -/
theorem point (c : Dev nD) (t : Fin cfg0.N) (a : Fin 512) (j : Fin 1536) :
    (outsAt0 m c t).1 (ix2 a j) = ref m c (tok t a) j := by
  obtain ⟨h, hh⟩ : ∃ h : Fin 6, h.val = j.val / 256 := ⟨⟨j.val / 256, by omega⟩, rfl⟩
  obtain ⟨d, hd⟩ : ∃ d : Fin 256, d.val = j.val % 256 := ⟨⟨j.val % 256, by omega⟩, rfl⟩
  by_cases h1 : d.val < 128
  · exact (show j = ⟨h.val * 256 + d.val, by omega⟩ from Fin.ext (by simp only; omega)) ▸ point0 m c t a h d h1
  by_cases h2 : 192 ≤ d.val
  · exact (show j = ⟨h.val * 256 + (128 + (64 + (⟨d.val - 192, by omega⟩ : Fin 64).val)), by simp only; omega⟩ from Fin.ext (by simp only; omega)) ▸ point3 m c t a h ⟨d.val - 192, by omega⟩
  by_cases h3 : 32 ≤ t.val
  · exact (show j = ⟨h.val * 256 + (128 + (⟨d.val - 128, by omega⟩ : Fin 64).val), by simp only; omega⟩ from Fin.ext (by simp only; omega)) ▸ point2 m c t a h ⟨d.val - 128, by omega⟩ h3
  have ht : t.val < 32 := by omega
  by_cases g0 : d.val < 144
  · exact (show j = ⟨h.val * 256 + (128 + (⟨d.val - 128, by omega⟩ : Fin 16).val), by simp only; omega⟩ from Fin.ext (by simp only; omega)) ▸ point1_0 m c t a h ⟨d.val - 128, by omega⟩ ht
  by_cases g1 : d.val < 160
  · exact (show j = ⟨h.val * 256 + (128 + (16 + (⟨d.val - 144, by omega⟩ : Fin 16).val)), by simp only; omega⟩ from Fin.ext (by simp only; omega)) ▸ point1_1 m c t a h ⟨d.val - 144, by omega⟩ ht
  by_cases g2 : d.val < 176
  · exact (show j = ⟨h.val * 256 + (128 + (32 + (⟨d.val - 160, by omega⟩ : Fin 16).val)), by simp only; omega⟩ from Fin.ext (by simp only; omega)) ▸ point1_2 m c t a h ⟨d.val - 160, by omega⟩ ht
  · exact (show j = ⟨h.val * 256 + (128 + (48 + (⟨d.val - 176, by omega⟩ : Fin 16).val)), by simp only; omega⟩ from Fin.ext (by simp only; omega)) ▸ point1_3 m c t a h ⟨d.val - 176, by omega⟩ ht

/-- The reference's values. -/
abbrev ref_v (c : Dev nD) (i : Fin 18432) (j : Fin 768) : EReal :=
  Cert.MlaKVRefIdeal.Read.val_main_v107 (F := Ideal) (m ((c : Thread nD τ).loc main_arg0)) (m ((c : Thread nD τ).loc main_arg1)) (m ((c : Thread nD τ).loc main_arg2)) (ix2 i j)

/-- The value a grid point stores at a block index is the reference's at the array index it sits at. -/
theorem point_v (c : Dev nD) (t : Fin cfg0.N) (a : Fin 512) (j : Fin 768) :
    (outsAt0 m c t).2 (ix2 a j) = ref_v m c (tok t a) j := by
  obtain ⟨h, hh⟩ : ∃ h : Fin 6, h.val = j.val / 128 := ⟨⟨j.val / 128, by omega⟩, rfl⟩
  obtain ⟨d, hd⟩ : ∃ d : Fin 128, d.val = j.val % 128 := ⟨⟨j.val % 128, by omega⟩, rfl⟩
  have hj : j = ⟨h.val * 128 + d.val, by omega⟩ := Fin.ext (by simp only; omega)
  rw [out_v, hj]
  refine (PP_b m c t a h d).trans ?_
  unfold ref_v prj
  rw [MlaKVRead.flat_v]

/-- The key array after the run is the reference of the argument arrays. -/
theorem final_k (c : Dev nD) : (dats m 0 c).arrAt 7 (cfgs 0).N
    = Cert.MlaKVRefIdeal.Read.val_main_v105 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  idx_vars y
  refine (point m c t _ _).trans ?_
  unfold ref tok
  blk_ext [idx t]

/-- The value array after the run is the reference of the argument arrays. -/
theorem final_v (c : Dev nD) : (dats m 0 c).arrAt 8 (cfgs 0).N
    = Cert.MlaKVRefIdeal.Read.val_main_v107 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8]
  idx_vars y
  refine (point_v m c t _ _).trans ?_
  unfold ref_v tok
  blk_ext [idx t]

end Cert.MlaKVIdeal.Value
end
-- ==== Proof.MlaKVClaim.lean ====
/- What is claimed of `MlaKV`, put together: the frames of the program, of its reading over the extended reals and of
   the reference, and that the two readings end with equal results. -/
module

public import proofs.«01_k».proof.Defs
public import proofs.«01_k».proof.Proof.Gen.MlaKV.Frame
public import proofs.«01_k».proof.Proof.Gen.MlaKVIdeal.Frame
public import proofs.«01_k».proof.Proof.Gen.MlaKVIdeal.Value
public import proofs.«01_k».proof.Proof.Gen.MlaKVRefIdeal.Run
public import proofs.«01_k».proof.Proof.Gen.MlaKVRefIdeal.Read
public import proofs.«01_k».proof.Proof.MlaKVValue
public import Idealize.ShloMosaic.Lib.Quiescent

@[expose] public section

noncomputable section

namespace Cert.Proof.MlaKV

open Idealize.ShloMosaic Idealize.SL.Sem

/-- The reference ends with its arguments unchanged and, declaring no semaphore, with every counter at zero. -/
theorem ref_frame (m : (ℓ : Loc Cert.MlaKVRefIdeal.nD Cert.MlaKVRefIdeal.τ Cert.MlaKVRefIdeal.sig) → Buf (Elt Ideal) ℓ) (g : Dev Cert.MlaKVRefIdeal.nD → PrngReg) :
    θ_run (Cert.MlaKVRefIdeal.defs (F := Ideal)) (onTc (τ := Cert.MlaKVRefIdeal.τ) (Cert.MlaKVRefIdeal.main (F := Ideal))) ⟨m, fun _ => 0, g⟩ (fun r =>
      (∀ c : Dev Cert.MlaKVRefIdeal.nD, r.2.mem ((c.tc : Thread Cert.MlaKVRefIdeal.nD Cert.MlaKVRefIdeal.τ).loc Cert.MlaKVRefIdeal.main_arg0) = m ((c.tc : Thread Cert.MlaKVRefIdeal.nD Cert.MlaKVRefIdeal.τ).loc Cert.MlaKVRefIdeal.main_arg0)
        ∧ r.2.mem ((c.tc : Thread Cert.MlaKVRefIdeal.nD Cert.MlaKVRefIdeal.τ).loc Cert.MlaKVRefIdeal.main_arg1) = m ((c.tc : Thread Cert.MlaKVRefIdeal.nD Cert.MlaKVRefIdeal.τ).loc Cert.MlaKVRefIdeal.main_arg1)
        ∧ r.2.mem ((c.tc : Thread Cert.MlaKVRefIdeal.nD Cert.MlaKVRefIdeal.τ).loc Cert.MlaKVRefIdeal.main_arg2) = m ((c.tc : Thread Cert.MlaKVRefIdeal.nD Cert.MlaKVRefIdeal.τ).loc Cert.MlaKVRefIdeal.main_arg2))
      ∧ r.2.sem = fun _ => 0) :=
  (θ_run (Cert.MlaKVRefIdeal.defs (F := Ideal)) _ _).mono
    (fun r h => ⟨fun c => (h c).2.2, sem_eq_zero_of_no_sems (by decide) r.2⟩) (Cert.MlaKVRefIdeal.Value.run m g)

/-- The two readings end with equal results and unchanged arguments. -/
theorem algebraic [Cert.MlaKVIdeal.Facts] [Cert.MlaKVRefIdeal.Facts] : Cert.algebraic_MlaKVIdeal_MlaKVRefIdeal := by
  intro m g m' g' hpre hagree
  refine ⟨fun c => Cert.MlaKVRefIdeal.Read.val_main_v105 (F := Ideal) (m ((c.tc : Thread Cert.MlaKVIdeal.nD Cert.MlaKVIdeal.τ).loc Cert.MlaKVIdeal.main_arg0)) (m ((c.tc : Thread Cert.MlaKVIdeal.nD Cert.MlaKVIdeal.τ).loc Cert.MlaKVIdeal.main_arg1)) (m ((c.tc : Thread Cert.MlaKVIdeal.nD Cert.MlaKVIdeal.τ).loc Cert.MlaKVIdeal.main_arg2)), fun c => Cert.MlaKVRefIdeal.Read.val_main_v107 (F := Ideal) (m ((c.tc : Thread Cert.MlaKVIdeal.nD Cert.MlaKVIdeal.τ).loc Cert.MlaKVIdeal.main_arg0)) (m ((c.tc : Thread Cert.MlaKVIdeal.nD Cert.MlaKVIdeal.τ).loc Cert.MlaKVIdeal.main_arg1)) (m ((c.tc : Thread Cert.MlaKVIdeal.nD Cert.MlaKVIdeal.τ).loc Cert.MlaKVIdeal.main_arg2)), ?_, ?_⟩
  · refine (θ_run (Cert.MlaKVIdeal.defs (F := Ideal)) _ _).mono (fun r h c => ?_) (Cert.MlaKVIdeal.Value.run_blocks m g)
    exact ⟨(h c).1.trans (Cert.MlaKVIdeal.Value.final_k m c), (h c).2.1.trans (Cert.MlaKVIdeal.Value.final_v m c), (h c).2.2⟩
  · exact (θ_run (Cert.MlaKVRefIdeal.defs (F := Ideal)) _ _).mono
      (fun r h c => ⟨(h c).1.trans ((Cert.MlaKVRefIdeal.Read.val_main_v105_eq m' c).trans (by rw [(hagree c).1, (hagree c).2.1, (hagree c).2.2])), (h c).2.1.trans ((Cert.MlaKVRefIdeal.Read.val_main_v107_eq _ _ _).trans (by rw [(hagree c).1, (hagree c).2.1, (hagree c).2.2])), (h c).2.2⟩)
      (Cert.MlaKVRefIdeal.Value.run m' g')

end Cert.Proof.MlaKV

end
-- ==== Proof.GqaQKRead.lean ====
module
public import proofs.«01_k».proof.Proof.Gen.GqaQKRefIdeal.Read
public import proofs.«01_k».proof.Proof.AttnMath
public import Idealize.ShloMosaic.Lib.Pointwise

@[expose] public section
set_option maxRecDepth 16384
noncomputable section
open Idealize.ShloMosaic Idealize.ShloMosaic.TcCoe Idealize.SL.Sem
namespace Cert.GqaQKRead
open Cert.GqaQKRefIdeal Cert.GqaQKRefIdeal.Gen Cert.GqaQKRefIdeal.Read

abbrev X := (⟨S18432x3968, .bf16⟩ : BufTy).Contents (Elt Ideal)
abbrev G := (⟨S128, .f32⟩ : BufTy).Contents (Elt Ideal)

/-- A head's lanes over their root mean square, times the gain. -/
def norm (x g : Fin 128 → EReal) (k : Fin 128) : EReal :=
  x k * Ideal.rsqrt (Ideal.div (∑ j, x j * x j) (Ideal.ofBits .f32 0x43000000#32) + Ideal.ofBits .f32 0x358637BD#32) * g k

/-- The score scale. -/
def scale : EReal := Ideal.ofBits .f32 0x3DB504F3#32

/-- The sum of a head's squares, queries. -/
theorem ss_q (x : X) (i : Fin 18432) (h : Fin 6) :
    val_main_v7 x (ix2 i h) = ∑ j : Fin 128, (x (ix2 i ⟨2304 + (h.val * 128 + j.val), by omega⟩) : EReal) * x (ix2 i ⟨2304 + (h.val * 128 + j.val), by omega⟩) := by
  pointwise [val_main_v7, val_main_v6, val_main_v2, val_main_v1, val_main_v0, val_main_cst]

/-- A normalized lane, queries. -/
theorem normed_q (x : X) (g : G) (i : Fin 18432) (h : Fin 6) (d : Fin 128) :
    val_main_v18 x g (ix3 i h d) = norm (fun k => x (ix2 i ⟨2304 + (h.val * 128 + k.val), by omega⟩)) (fun k => g (ix1 k)) d := by
  unfold norm
  rw [← ss_q]
  pointwise [val_main_v18, val_main_v17, val_main_v16, val_main_v15, val_main_v14, val_main_v13, val_main_v12, val_main_v11, val_main_v10, val_main_v9, val_main_v8, val_main_v2, val_main_v1, val_main_v0, val_main_cst_0, val_main_cst_1]

/-- A context row's lanes are not rotated, queries. -/
theorem ctx_q (x : X) (g : G) (i : Fin 2048) (h : Fin 6) (d : Fin 128) :
    val_main_v95 x g (ix3 ⟨16384 + i.val, by omega⟩ h d) = val_main_v18 x g (ix3 ⟨16384 + i.val, by omega⟩ h d) := by
  pointwise [val_main_v95, val_main_v94]

/-- A latent row's lanes come from the rotation, queries. -/
theorem lat_q (x : X) (g : G) (b : Fin 8) (r : Fin 2048) (h : Fin 6) (d : Fin 128) :
    val_main_v95 x g (ix3 ⟨b.val * 2048 + r.val, by omega⟩ h d) = val_main_v92 x g (ix4 b r h d) := by
  pointwise [val_main_v95, val_main_v93]
  exact dif_pos (by omega)

/-- The lanes before the rotation, queries. -/
theorem pre_q (x : X) (g : G) (b : Fin 8) (r : Fin 2048) (h : Fin 6) (d : Fin 128) :
    val_main_v20 x g (ix4 b r h d) = val_main_v18 x g (ix3 ⟨b.val * 2048 + r.val, by omega⟩ h d) := by
  pointwise [val_main_v20, val_main_v19]

/-- The first 64 lanes turn by the row's angle, queries. -/
theorem half0_q (x : X) (g : G) (b : Fin 8) (r : Fin 2048) (h : Fin 6) (e : Fin 64) :
    val_main_v92 x g (ix4 b r h ⟨e.val, by omega⟩) = val_main_v70 x g (ix4 b r h e) := by
  pointwise [val_main_v92]
  try exact dif_pos (by omega)

/-- The last 64 lanes turn by the column's angle, queries. -/
theorem half1_q (x : X) (g : G) (b : Fin 8) (r : Fin 2048) (h : Fin 6) (e : Fin 64) :
    val_main_v92 x g (ix4 b r h ⟨64 + e.val, by omega⟩) = val_main_v91 x g (ix4 b r h e) := by
  pointwise [val_main_v92]

/-- Lane group 0 of a rotation, queries. -/
theorem rot0_q (x : X) (g : G) (b : Fin 8) (r : Fin 2048) (h : Fin 6) (f : Fin 32) :
    val_main_v70 x g (ix4 b r h ⟨f.val, by omega⟩)
      = (val_main_v20 x g (ix4 b r h ⟨f.val, by omega⟩) * Ideal.cos (val_main_v42 (F := Ideal) (ix2 r f))
        - val_main_v20 x g (ix4 b r h ⟨32 + f.val, by omega⟩) * Ideal.sin (val_main_v42 (F := Ideal) (ix2 r f)) : EReal) := by
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v48]

/-- A rotated lane, group 0, from the normalized lanes, queries. -/
theorem turned0_q (x : X) (g : G) (b : Fin 8) (r : Fin 2048) (h : Fin 6) (f : Fin 32) :
    val_main_v92 x g (ix4 b r h ⟨f.val, by omega⟩)
      = (val_main_v18 x g (ix3 ⟨b.val * 2048 + r.val, by omega⟩ h ⟨f.val, by omega⟩) * Ideal.cos (val_main_v42 (F := Ideal) (ix2 r f))
        + val_main_v18 x g (ix3 ⟨b.val * 2048 + r.val, by omega⟩ h ⟨32 + f.val, by omega⟩) * -Ideal.sin (val_main_v42 (F := Ideal) (ix2 r f)) : EReal) := by
  have h0 := half0_q x g b r h ⟨f.val, by omega⟩
  rw [rot0_q, pre_q, pre_q, sub_eq_add_neg, ← mul_neg] at h0
  exact h0

/-- Lane group 1 of a rotation, queries. -/
theorem rot1_q (x : X) (g : G) (b : Fin 8) (r : Fin 2048) (h : Fin 6) (f : Fin 32) :
    val_main_v70 x g (ix4 b r h ⟨32 + f.val, by omega⟩)
      = (val_main_v20 x g (ix4 b r h ⟨f.val, by omega⟩) * Ideal.sin (val_main_v42 (F := Ideal) (ix2 r f))
        + val_main_v20 x g (ix4 b r h ⟨32 + f.val, by omega⟩) * Ideal.cos (val_main_v42 (F := Ideal) (ix2 r f)) : EReal) := by
  pointwise [val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v48]

/-- A rotated lane, group 1, from the normalized lanes, queries. -/
theorem turned1_q (x : X) (g : G) (b : Fin 8) (r : Fin 2048) (h : Fin 6) (f : Fin 32) :
    val_main_v92 x g (ix4 b r h ⟨32 + f.val, by omega⟩)
      = (val_main_v18 x g (ix3 ⟨b.val * 2048 + r.val, by omega⟩ h ⟨32 + f.val, by omega⟩) * Ideal.cos (val_main_v42 (F := Ideal) (ix2 r f))
        + val_main_v18 x g (ix3 ⟨b.val * 2048 + r.val, by omega⟩ h ⟨f.val, by omega⟩) * Ideal.sin (val_main_v42 (F := Ideal) (ix2 r f)) : EReal) := by
  have h0 := half0_q x g b r h ⟨32 + f.val, by omega⟩
  rw [rot1_q, pre_q, pre_q] at h0
  exact h0.trans (add_comm _ _)

/-- Lane group 2 of a rotation, queries. -/
theorem rot2_q (x : X) (g : G) (b : Fin 8) (r : Fin 2048) (h : Fin 6) (f : Fin 32) :
    val_main_v91 x g (ix4 b r h ⟨f.val, by omega⟩)
      = (val_main_v20 x g (ix4 b r h ⟨64 + f.val, by omega⟩) * Ideal.cos (val_main_v47 (F := Ideal) (ix2 r f))
        - val_main_v20 x g (ix4 b r h ⟨64 + (32 + f.val), by omega⟩) * Ideal.sin (val_main_v47 (F := Ideal) (ix2 r f)) : EReal) := by
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v49]

/-- A rotated lane, group 2, from the normalized lanes, queries. -/
theorem turned2_q (x : X) (g : G) (b : Fin 8) (r : Fin 2048) (h : Fin 6) (f : Fin 32) :
    val_main_v92 x g (ix4 b r h ⟨64 + f.val, by omega⟩)
      = (val_main_v18 x g (ix3 ⟨b.val * 2048 + r.val, by omega⟩ h ⟨64 + f.val, by omega⟩) * Ideal.cos (val_main_v47 (F := Ideal) (ix2 r f))
        + val_main_v18 x g (ix3 ⟨b.val * 2048 + r.val, by omega⟩ h ⟨96 + f.val, by omega⟩) * -Ideal.sin (val_main_v47 (F := Ideal) (ix2 r f)) : EReal) := by
  have hk : (⟨64 + (32 + f.val), by omega⟩ : Fin 128) = ⟨96 + f.val, by omega⟩ := Fin.ext (by simp only; omega)
  have h0 := half1_q x g b r h ⟨f.val, by omega⟩
  rw [rot2_q, hk, pre_q, pre_q, sub_eq_add_neg, ← mul_neg] at h0
  exact h0

/-- Lane group 3 of a rotation, queries. -/
theorem rot3_q (x : X) (g : G) (b : Fin 8) (r : Fin 2048) (h : Fin 6) (f : Fin 32) :
    val_main_v91 x g (ix4 b r h ⟨32 + f.val, by omega⟩)
      = (val_main_v20 x g (ix4 b r h ⟨64 + f.val, by omega⟩) * Ideal.sin (val_main_v47 (F := Ideal) (ix2 r f))
        + val_main_v20 x g (ix4 b r h ⟨64 + (32 + f.val), by omega⟩) * Ideal.cos (val_main_v47 (F := Ideal) (ix2 r f)) : EReal) := by
  pointwise [val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v73, val_main_v72, val_main_v71, val_main_v49]

/-- A rotated lane, group 3, from the normalized lanes, queries. -/
theorem turned3_q (x : X) (g : G) (b : Fin 8) (r : Fin 2048) (h : Fin 6) (f : Fin 32) :
    val_main_v92 x g (ix4 b r h ⟨96 + f.val, by omega⟩)
      = (val_main_v18 x g (ix3 ⟨b.val * 2048 + r.val, by omega⟩ h ⟨96 + f.val, by omega⟩) * Ideal.cos (val_main_v47 (F := Ideal) (ix2 r f))
        + val_main_v18 x g (ix3 ⟨b.val * 2048 + r.val, by omega⟩ h ⟨64 + f.val, by omega⟩) * Ideal.sin (val_main_v47 (F := Ideal) (ix2 r f)) : EReal) := by
  have hk : (⟨64 + (32 + f.val), by omega⟩ : Fin 128) = ⟨96 + f.val, by omega⟩ := Fin.ext (by simp only; omega)
  have h0 := half1_q x g b r h ⟨32 + f.val, by omega⟩
  rw [rot3_q] at h0
  simp only at h0
  rw [hk, pre_q, pre_q] at h0
  exact h0.trans (add_comm _ _)

/-- The sum of a head's squares, keys. -/
theorem ss_k (x : X) (i : Fin 18432) (h : Fin 2) :
    val_main_v99 x (ix2 i h) = ∑ j : Fin 128, (x (ix2 i ⟨3328 + (h.val * 128 + j.val), by omega⟩) : EReal) * x (ix2 i ⟨3328 + (h.val * 128 + j.val), by omega⟩) := by
  pointwise [val_main_v99, val_main_v98, val_main_v5, val_main_v4, val_main_v3, val_main_cst_7]

/-- A normalized lane, keys. -/
theorem normed_k (x : X) (g : G) (i : Fin 18432) (h : Fin 2) (d : Fin 128) :
    val_main_v110 x g (ix3 i h d) = norm (fun k => x (ix2 i ⟨3328 + (h.val * 128 + k.val), by omega⟩)) (fun k => g (ix1 k)) d := by
  unfold norm
  rw [← ss_k]
  pointwise [val_main_v110, val_main_v109, val_main_v108, val_main_v107, val_main_v106, val_main_v105, val_main_v104, val_main_v103, val_main_v102, val_main_v101, val_main_v100, val_main_v5, val_main_v4, val_main_v3, val_main_cst_8, val_main_cst_9]

/-- A context row's lanes are not rotated, keys. -/
theorem ctx_k (x : X) (g : G) (i : Fin 2048) (h : Fin 2) (d : Fin 128) :
    val_main_v187 x g (ix3 ⟨16384 + i.val, by omega⟩ h d) = val_main_v110 x g (ix3 ⟨16384 + i.val, by omega⟩ h d) := by
  pointwise [val_main_v187, val_main_v186]

/-- A latent row's lanes come from the rotation, keys. -/
theorem lat_k (x : X) (g : G) (b : Fin 8) (r : Fin 2048) (h : Fin 2) (d : Fin 128) :
    val_main_v187 x g (ix3 ⟨b.val * 2048 + r.val, by omega⟩ h d) = val_main_v184 x g (ix4 b r h d) := by
  pointwise [val_main_v187, val_main_v185]
  exact dif_pos (by omega)

/-- The lanes before the rotation, keys. -/
theorem pre_k (x : X) (g : G) (b : Fin 8) (r : Fin 2048) (h : Fin 2) (d : Fin 128) :
    val_main_v112 x g (ix4 b r h d) = val_main_v110 x g (ix3 ⟨b.val * 2048 + r.val, by omega⟩ h d) := by
  pointwise [val_main_v112, val_main_v111]

/-- The first 64 lanes turn by the row's angle, keys. -/
theorem half0_k (x : X) (g : G) (b : Fin 8) (r : Fin 2048) (h : Fin 2) (e : Fin 64) :
    val_main_v184 x g (ix4 b r h ⟨e.val, by omega⟩) = val_main_v162 x g (ix4 b r h e) := by
  pointwise [val_main_v184]
  try exact dif_pos (by omega)

/-- The last 64 lanes turn by the column's angle, keys. -/
theorem half1_k (x : X) (g : G) (b : Fin 8) (r : Fin 2048) (h : Fin 2) (e : Fin 64) :
    val_main_v184 x g (ix4 b r h ⟨64 + e.val, by omega⟩) = val_main_v183 x g (ix4 b r h e) := by
  pointwise [val_main_v184]

/-- Lane group 0 of a rotation, keys. -/
theorem rot0_k (x : X) (g : G) (b : Fin 8) (r : Fin 2048) (h : Fin 2) (f : Fin 32) :
    val_main_v162 x g (ix4 b r h ⟨f.val, by omega⟩)
      = (val_main_v112 x g (ix4 b r h ⟨f.val, by omega⟩) * Ideal.cos (val_main_v134 (F := Ideal) (ix2 r f))
        - val_main_v112 x g (ix4 b r h ⟨32 + f.val, by omega⟩) * Ideal.sin (val_main_v134 (F := Ideal) (ix2 r f)) : EReal) := by
  pointwise [val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v140]

/-- A rotated lane, group 0, from the normalized lanes, keys. -/
theorem turned0_k (x : X) (g : G) (b : Fin 8) (r : Fin 2048) (h : Fin 2) (f : Fin 32) :
    val_main_v184 x g (ix4 b r h ⟨f.val, by omega⟩)
      = (val_main_v110 x g (ix3 ⟨b.val * 2048 + r.val, by omega⟩ h ⟨f.val, by omega⟩) * Ideal.cos (val_main_v134 (F := Ideal) (ix2 r f))
        + val_main_v110 x g (ix3 ⟨b.val * 2048 + r.val, by omega⟩ h ⟨32 + f.val, by omega⟩) * -Ideal.sin (val_main_v134 (F := Ideal) (ix2 r f)) : EReal) := by
  have h0 := half0_k x g b r h ⟨f.val, by omega⟩
  rw [rot0_k, pre_k, pre_k, sub_eq_add_neg, ← mul_neg] at h0
  exact h0

/-- Lane group 1 of a rotation, keys. -/
theorem rot1_k (x : X) (g : G) (b : Fin 8) (r : Fin 2048) (h : Fin 2) (f : Fin 32) :
    val_main_v162 x g (ix4 b r h ⟨32 + f.val, by omega⟩)
      = (val_main_v112 x g (ix4 b r h ⟨f.val, by omega⟩) * Ideal.sin (val_main_v134 (F := Ideal) (ix2 r f))
        + val_main_v112 x g (ix4 b r h ⟨32 + f.val, by omega⟩) * Ideal.cos (val_main_v134 (F := Ideal) (ix2 r f)) : EReal) := by
  pointwise [val_main_v162, val_main_v161, val_main_v160, val_main_v159, val_main_v158, val_main_v157, val_main_v156, val_main_v155, val_main_v154, val_main_v153, val_main_v152, val_main_v151, val_main_v150, val_main_v149, val_main_v148, val_main_v147, val_main_v146, val_main_v145, val_main_v144, val_main_v143, val_main_v142, val_main_v140]

/-- A rotated lane, group 1, from the normalized lanes, keys. -/
theorem turned1_k (x : X) (g : G) (b : Fin 8) (r : Fin 2048) (h : Fin 2) (f : Fin 32) :
    val_main_v184 x g (ix4 b r h ⟨32 + f.val, by omega⟩)
      = (val_main_v110 x g (ix3 ⟨b.val * 2048 + r.val, by omega⟩ h ⟨32 + f.val, by omega⟩) * Ideal.cos (val_main_v134 (F := Ideal) (ix2 r f))
        + val_main_v110 x g (ix3 ⟨b.val * 2048 + r.val, by omega⟩ h ⟨f.val, by omega⟩) * Ideal.sin (val_main_v134 (F := Ideal) (ix2 r f)) : EReal) := by
  have h0 := half0_k x g b r h ⟨32 + f.val, by omega⟩
  rw [rot1_k, pre_k, pre_k] at h0
  exact h0.trans (add_comm _ _)

/-- Lane group 2 of a rotation, keys. -/
theorem rot2_k (x : X) (g : G) (b : Fin 8) (r : Fin 2048) (h : Fin 2) (f : Fin 32) :
    val_main_v183 x g (ix4 b r h ⟨f.val, by omega⟩)
      = (val_main_v112 x g (ix4 b r h ⟨64 + f.val, by omega⟩) * Ideal.cos (val_main_v139 (F := Ideal) (ix2 r f))
        - val_main_v112 x g (ix4 b r h ⟨64 + (32 + f.val), by omega⟩) * Ideal.sin (val_main_v139 (F := Ideal) (ix2 r f)) : EReal) := by
  pointwise [val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v141]

/-- A rotated lane, group 2, from the normalized lanes, keys. -/
theorem turned2_k (x : X) (g : G) (b : Fin 8) (r : Fin 2048) (h : Fin 2) (f : Fin 32) :
    val_main_v184 x g (ix4 b r h ⟨64 + f.val, by omega⟩)
      = (val_main_v110 x g (ix3 ⟨b.val * 2048 + r.val, by omega⟩ h ⟨64 + f.val, by omega⟩) * Ideal.cos (val_main_v139 (F := Ideal) (ix2 r f))
        + val_main_v110 x g (ix3 ⟨b.val * 2048 + r.val, by omega⟩ h ⟨96 + f.val, by omega⟩) * -Ideal.sin (val_main_v139 (F := Ideal) (ix2 r f)) : EReal) := by
  have hk : (⟨64 + (32 + f.val), by omega⟩ : Fin 128) = ⟨96 + f.val, by omega⟩ := Fin.ext (by simp only; omega)
  have h0 := half1_k x g b r h ⟨f.val, by omega⟩
  rw [rot2_k, hk, pre_k, pre_k, sub_eq_add_neg, ← mul_neg] at h0
  exact h0

/-- Lane group 3 of a rotation, keys. -/
theorem rot3_k (x : X) (g : G) (b : Fin 8) (r : Fin 2048) (h : Fin 2) (f : Fin 32) :
    val_main_v183 x g (ix4 b r h ⟨32 + f.val, by omega⟩)
      = (val_main_v112 x g (ix4 b r h ⟨64 + f.val, by omega⟩) * Ideal.sin (val_main_v139 (F := Ideal) (ix2 r f))
        + val_main_v112 x g (ix4 b r h ⟨64 + (32 + f.val), by omega⟩) * Ideal.cos (val_main_v139 (F := Ideal) (ix2 r f)) : EReal) := by
  pointwise [val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v141]

/-- A rotated lane, group 3, from the normalized lanes, keys. -/
theorem turned3_k (x : X) (g : G) (b : Fin 8) (r : Fin 2048) (h : Fin 2) (f : Fin 32) :
    val_main_v184 x g (ix4 b r h ⟨96 + f.val, by omega⟩)
      = (val_main_v110 x g (ix3 ⟨b.val * 2048 + r.val, by omega⟩ h ⟨96 + f.val, by omega⟩) * Ideal.cos (val_main_v139 (F := Ideal) (ix2 r f))
        + val_main_v110 x g (ix3 ⟨b.val * 2048 + r.val, by omega⟩ h ⟨64 + f.val, by omega⟩) * Ideal.sin (val_main_v139 (F := Ideal) (ix2 r f)) : EReal) := by
  have hk : (⟨64 + (32 + f.val), by omega⟩ : Fin 128) = ⟨96 + f.val, by omega⟩ := Fin.ext (by simp only; omega)
  have h0 := half1_k x g b r h ⟨32 + f.val, by omega⟩
  rw [rot3_k] at h0
  simp only at h0
  rw [hk, pre_k, pre_k] at h0
  exact h0.trans (add_comm _ _)

/-- A query column read back as head and lane, with the score scale. -/
theorem flat_q (x : X) (g : G) (i : Fin 18432) (h : Fin 6) (d : Fin 128) :
    val_main_v189 x g (ix2 i ⟨h.val * 128 + d.val, by omega⟩) = (val_main_v95 x g (ix3 i h d) * scale : EReal) := by
  unfold scale
  pointwise [val_main_v189, val_main_v188, val_main_v97, val_main_v96, val_main_cst_6]

/-- A key column read back as head and lane. -/
theorem flat_k (x : X) (g : G) (i : Fin 18432) (h : Fin 2) (d : Fin 128) :
    val_main_v191 x g (ix2 i ⟨h.val * 128 + d.val, by omega⟩) = val_main_v187 x g (ix3 i h d) := by
  pointwise [val_main_v191, val_main_v190]

/-- The two row angles are one array. -/
theorem angR_eq : val_main_v134 (F := Ideal) = val_main_v42 (F := Ideal) := rfl
/-- The two column angles are one array. -/
theorem angC_eq : val_main_v139 (F := Ideal) = val_main_v47 (F := Ideal) := rfl

end Cert.GqaQKRead
end
-- ==== Proof.GqaQKValue.lean ====
module
public import proofs.«01_k».proof.Proof.Gen.GqaQKIdeal.Frame
public import proofs.«01_k».proof.Proof.GqaQKRead
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.GqaQKIdeal.Value
open Cert.GqaQKIdeal Cert.GqaQKIdeal.Gen
variable (m : (ℓ : Loc nD τ sig) → Buf (Elt Ideal) ℓ)

/-- The windows' block indices at every grid point. -/
theorem idx : ∀ t : Fin cfg0.N, win0_0.index t = ![t.val, 3] ∧ win0_1.index t = ![t.val, 13]
    ∧ win0_2.index t = ![0, 0] ∧ win0_3.index t = ![0, 0] ∧ win0_4.index t = ![if t.val < 32 then t.val % 4 else 4, 0]
    ∧ win0_5.index t = ![if t.val < 32 then t.val % 4 else 4, 0] ∧ win0_6.index t = ![if t.val < 32 then t.val % 4 else 4, 0]
    ∧ win0_7.index t = ![t.val, 0] ∧ win0_8.index t = ![t.val, 0] :=
  (by decide +kernel : ∀ t : Fin grid0.N, _)

/-- A head's normalized lanes, turned, one element. -/
def T (n : Fin 128 → EReal) (C S U : Vec Ideal S512x128 .f32) (a : Fin 512) (e : Fin 128) : EReal :=
  n e * C (ix2 a e) + n ⟨(e.val + 128 - 96) % 128, by omega⟩ * S (ix2 a e) + n ⟨(e.val + 128 - 32) % 128, by omega⟩ * U (ix2 a e)

/-- A head's normalized lanes. -/
abbrev N (x : Vec Ideal S512x128 .bf16) (g : Vec Ideal S1x128 .f32) (a : Fin 512) (e : Fin 128) : EReal :=
  GqaQKRead.norm (fun k => x (ix2 a k)) (fun k => g (ix2 0 k)) e

/-- Head 0's store, queries. -/
theorem head_q0 (x0 : Vec Ideal S512x128 .bf16) (g : Vec Ideal S1x128 .f32) (C S U : Vec Ideal S512x128 .f32) (a : Fin 512) (e : Fin 128) :
    k0_pay5 (F := Ideal) C S U x0 g (ix2 a e) = (T (N x0 g a) C S U a e * GqaQKRead.scale : EReal) := by
  unfold T N GqaQKRead.norm GqaQKRead.scale
  pointwise [k0_pay5, k0_pay4, k0_pay3, k0_pay2]
/-- Head 1's store, queries. -/
theorem head_q1 (x0 : Vec Ideal S512x128 .bf16) (g : Vec Ideal S1x128 .f32) (C S U : Vec Ideal S512x128 .f32) (a : Fin 512) (e : Fin 128) :
    k0_pay8 (F := Ideal) (k0_pay2 C) (k0_pay3 S) (k0_pay4 U) (k0_pay6 x0) (k0_pay7 x0) g (ix2 a e) = (T (N x0 g a) C S U a e * GqaQKRead.scale : EReal) := by
  unfold T N GqaQKRead.norm GqaQKRead.scale
  pointwise [k0_pay8, k0_pay7, k0_pay6, k0_pay4, k0_pay3, k0_pay2]
/-- Head 2's store, queries. -/
theorem head_q2 (x0 : Vec Ideal S512x128 .bf16) (g : Vec Ideal S1x128 .f32) (C S U : Vec Ideal S512x128 .f32) (a : Fin 512) (e : Fin 128) :
    k0_pay12 (F := Ideal) (k0_pay4 U) (k0_pay9 x0 g) (k0_pay10 (k0_pay2 C) x0 g) (k0_pay11 (k0_pay3 S) x0 g) (ix2 a e) = (T (N x0 g a) C S U a e * GqaQKRead.scale : EReal) := by
  unfold T N GqaQKRead.norm GqaQKRead.scale
  pointwise [k0_pay12, k0_pay11, k0_pay10, k0_pay9, k0_pay4, k0_pay3, k0_pay2]
/-- Head 3's store, queries. -/
theorem head_q3 (x0 : Vec Ideal S512x128 .bf16) (g : Vec Ideal S1x128 .f32) (C S U : Vec Ideal S512x128 .f32) (a : Fin 512) (e : Fin 128) :
    k0_pay13 (F := Ideal) (k0_pay2 C) (k0_pay3 S) (k0_pay4 U) x0 g (ix2 a e) = (T (N x0 g a) C S U a e * GqaQKRead.scale : EReal) := by
  unfold T N GqaQKRead.norm GqaQKRead.scale
  pointwise [k0_pay13, k0_pay4, k0_pay3, k0_pay2]
/-- Head 4's store, queries. -/
theorem head_q4 (x0 : Vec Ideal S512x128 .bf16) (g : Vec Ideal S1x128 .f32) (C S U : Vec Ideal S512x128 .f32) (a : Fin 512) (e : Fin 128) :
    k0_pay16 (F := Ideal) (k0_pay2 C) (k0_pay3 S) (k0_pay4 U) (k0_pay14 x0) (k0_pay15 x0) g (ix2 a e) = (T (N x0 g a) C S U a e * GqaQKRead.scale : EReal) := by
  unfold T N GqaQKRead.norm GqaQKRead.scale
  pointwise [k0_pay16, k0_pay15, k0_pay14, k0_pay4, k0_pay3, k0_pay2]
/-- Head 5's store, queries. -/
theorem head_q5 (x0 : Vec Ideal S512x128 .bf16) (g : Vec Ideal S1x128 .f32) (C S U : Vec Ideal S512x128 .f32) (a : Fin 512) (e : Fin 128) :
    k0_pay20 (F := Ideal) (k0_pay4 U) (k0_pay17 x0 g) (k0_pay18 (k0_pay2 C) x0 g) (k0_pay19 (k0_pay3 S) x0 g) (ix2 a e) = (T (N x0 g a) C S U a e * GqaQKRead.scale : EReal) := by
  unfold T N GqaQKRead.norm GqaQKRead.scale
  pointwise [k0_pay20, k0_pay19, k0_pay18, k0_pay17, k0_pay4, k0_pay3, k0_pay2]
/-- Head 0's store, keys. -/
theorem head_k0 (x0 : Vec Ideal S512x128 .bf16) (g : Vec Ideal S1x128 .f32) (C S U : Vec Ideal S512x128 .f32) (a : Fin 512) (e : Fin 128) :
    k0_pay21 (F := Ideal) (k0_pay2 C) (k0_pay3 S) (k0_pay4 U) x0 g (ix2 a e) = T (N x0 g a) C S U a e := by
  unfold T N GqaQKRead.norm
  pointwise [k0_pay21, k0_pay4, k0_pay3, k0_pay2]
/-- Head 1's store, keys. -/
theorem head_k1 (x0 : Vec Ideal S512x128 .bf16) (g : Vec Ideal S1x128 .f32) (C S U : Vec Ideal S512x128 .f32) (a : Fin 512) (e : Fin 128) :
    k0_pay1 (F := Ideal) (k0_pay2 C) (k0_pay3 S) (k0_pay4 U) (k0_pay22 x0) (k0_pay23 x0) k0_pay24 g (ix2 a e) = T (N x0 g a) C S U a e := by
  unfold T N GqaQKRead.norm
  pointwise [k0_pay1, k0_pay24, k0_pay23, k0_pay22, k0_pay4, k0_pay3, k0_pay2]

/-- A head's columns of a loaded block. -/
theorem ld_q (X : Vec Ideal S512x768 .bf16) (o : Nat) (inb : ∀ a, (![0, o] : Fin S512x768.rank → Nat) a + (![512, 128] : Fin S512x768.rank → Nat) a ≤ S512x768.size a)
    (a : Fin 512) (k : Fin 128) (j : Fin 768) (hj : j.val = o + k.val) :
    View.ld X (Rect.unit (s := S512x768) ![0, o] ![512, 128] inb) (ix2 a k) = X (ix2 a j) := by
  refine View.ld_unit_apply_of X _ _ inb (ix2 a k) (ix2 a j) fun b => ?_
  match b with
  | ⟨0, _⟩ => show a.val = 0 + a.val; omega
  | ⟨1, _⟩ => exact hj

/-- A head's columns of a loaded block. -/
theorem ld_k (X : Vec Ideal S512x256 .bf16) (o : Nat) (inb : ∀ a, (![0, o] : Fin S512x256.rank → Nat) a + (![512, 128] : Fin S512x256.rank → Nat) a ≤ S512x256.size a)
    (a : Fin 512) (k : Fin 128) (j : Fin 256) (hj : j.val = o + k.val) :
    View.ld X (Rect.unit (s := S512x256) ![0, o] ![512, 128] inb) (ix2 a k) = X (ix2 a j) := by
  refine View.ld_unit_apply_of X _ _ inb (ix2 a k) (ix2 a j) fun b => ?_
  match b with
  | ⟨0, _⟩ => show a.val = 0 + a.val; omega
  | ⟨1, _⟩ => exact hj

/-- The turned lanes, one function and one lane at a time. -/
theorem T_at {n n' : Fin 128 → EReal} (C S U : Vec Ideal S512x128 .f32) (a : Fin 512) {e e' : Fin 128} (he : e = e') (hn : n = n') :
    T n C S U a e = T n' C S U a e' := by rw [hn, he]

/-- The normalization of lanes read elsewhere. -/
theorem norm_at {x x' : Fin 128 → EReal} (g : Fin 128 → EReal) (hx : ∀ k, x k = x' k) : GqaQKRead.norm x g = GqaQKRead.norm x' g := by
  rw [show x = x' from funext hx]

/-- What a grid point stores, queries, from the blocks it loads. -/
theorem out_q (c : Dev nD) (t : Fin cfg0.N) (a : Fin 512) (h : Fin 6) (d : Fin 128) :
    (outsAt0 m c t).1 (ix2 a ⟨h.val * 128 + d.val, by omega⟩)
      = (T (GqaQKRead.norm (fun k => X0_0 m c t (ix2 a ⟨h.val * 128 + k.val, by omega⟩)) (fun k => iblk m c 2 t (ix2 0 k)))
          (iblk m c 4 t) (iblk m c 5 t) (iblk m c 6 t) a d * GqaQKRead.scale : EReal) := by
  unfold outsAt0
  dsimp only
  unfold out0_A_7
  frame_out
  canon_tiles x hx
  all_goals (idx_vars x; obtain rfl := Fin.ext hx0)
  · refine (head_q5 _ _ _ _ _ _ _).trans (congrArg (fun z : EReal => (z * GqaQKRead.scale : EReal)) (T_at _ _ _ _ (Fin.ext (by omega)) (norm_at _ fun k => ld_q _ _ _ _ _ _ (by simp only; omega))))
  · refine (head_q4 _ _ _ _ _ _ _).trans (congrArg (fun z : EReal => (z * GqaQKRead.scale : EReal)) (T_at _ _ _ _ (Fin.ext (by omega)) (norm_at _ fun k => ld_q _ _ _ _ _ _ (by simp only; omega))))
  · refine (head_q3 _ _ _ _ _ _ _).trans (congrArg (fun z : EReal => (z * GqaQKRead.scale : EReal)) (T_at _ _ _ _ (Fin.ext (by omega)) (norm_at _ fun k => ld_q _ _ _ _ _ _ (by simp only; omega))))
  · refine (head_q2 _ _ _ _ _ _ _).trans (congrArg (fun z : EReal => (z * GqaQKRead.scale : EReal)) (T_at _ _ _ _ (Fin.ext (by omega)) (norm_at _ fun k => ld_q _ _ _ _ _ _ (by simp only; omega))))
  · refine (head_q1 _ _ _ _ _ _ _).trans (congrArg (fun z : EReal => (z * GqaQKRead.scale : EReal)) (T_at _ _ _ _ (Fin.ext (by omega)) (norm_at _ fun k => ld_q _ _ _ _ _ _ (by simp only; omega))))
  · refine (head_q0 _ _ _ _ _ _ _).trans (congrArg (fun z : EReal => (z * GqaQKRead.scale : EReal)) (T_at _ _ _ _ (Fin.ext (by omega)) (norm_at _ fun k => ld_q _ _ _ _ _ _ (by simp only; omega))))

/-- What a grid point stores, keys, from the blocks it loads. -/
theorem out_k (c : Dev nD) (t : Fin cfg0.N) (a : Fin 512) (h : Fin 2) (d : Fin 128) :
    (outsAt0 m c t).2 (ix2 a ⟨h.val * 128 + d.val, by omega⟩)
      = (T (GqaQKRead.norm (fun k => X0_1 m c t (ix2 a ⟨h.val * 128 + k.val, by omega⟩)) (fun k => iblk m c 3 t (ix2 0 k)))
          (iblk m c 4 t) (iblk m c 5 t) (iblk m c 6 t) a d : EReal) := by
  unfold outsAt0
  dsimp only
  unfold out0_A_8
  frame_out
  canon_tiles x hx
  all_goals (idx_vars x; obtain rfl := Fin.ext hx0)
  · refine (head_k1 _ _ _ _ _ _ _).trans ((T_at _ _ _ _ (Fin.ext (by omega)) (norm_at _ fun k => ld_k _ _ _ _ _ _ (by simp only; omega))))
  · refine (head_k0 _ _ _ _ _ _ _).trans ((T_at _ _ _ _ (Fin.ext (by omega)) (norm_at _ fun k => ld_k _ _ _ _ _ _ (by simp only; omega))))

/-- The row angles and the column angles of a latent's tokens. -/
abbrev angR : FVec Ideal S2048x32 .f32 := Cert.GqaQKRefIdeal.Read.val_main_v42 (F := Ideal)
abbrev angC : FVec Ideal S2048x32 .f32 := Cert.GqaQKRefIdeal.Read.val_main_v47 (F := Ideal)
/-- Thirty-two lanes of zeros. -/
def zeros32 : FVec Ideal S2048x32 .f32 := broadcastInDim S2048x32 ![] bcast_S_S2048x32 (constant (F := Ideal) S_ .f32 0x00000000#32)
/-- A rotation table: four groups of 32 lanes, then 512 rows of one value. -/
def table (u0 u1 u2 u3 : FVec Ideal S2048x32 .f32) (v : BitVec 32) : FVec Ideal S2560x128 .f32 :=
  concatenate S2560x128 0 [⟨S2048x128, pad S2048x128 ![0, 0] ![0, 0] ![0, 0] (concatenate S2048x128 1 [⟨S2048x32, u0⟩, ⟨S2048x32, u1⟩, ⟨S2048x32, u2⟩, ⟨S2048x32, u3⟩] concatenates_S2048x32_S2048x32_S2048x32_S2048x32_S2048x128_d1)
      (constant (F := Ideal) S_ .f32 v) pads_S2048x128_S2048x128_000_000 h_S_⟩,
    ⟨S512x128, broadcastInDim S512x128 ![] bcast_S_S512x128 (constant (F := Ideal) S_ .f32 v)⟩] concatenates_S2048x128_S512x128_S2560x128_d0

/-- The cosine table the kernel is handed. -/
theorem V45 (c : Dev nD) : V m c main_v45 = table (Host.cos angR) (Host.cos angR) (Host.cos angC) (Host.cos angC) 0x3F800000#32 := by
  show StableHlo.after (List.flatten [hostOps0, hostOps0_1, hostOps0_2, hostOps0_3, hostOps0_4, hostOps0_5, hostOps0_6]) _ (Proc.devRef .tc _) = _
  simp only [List.flatten_cons, List.flatten_nil, List.append_nil, List.cons_append, List.nil_append, hostOps0, hostOps0_1, hostOps0_2, hostOps0_3, hostOps0_4, hostOps0_5, hostOps0_6]
  after_results_simp
  rfl
/-- The first sine table the kernel is handed. -/
theorem V48 (c : Dev nD) : V m c main_v48 = table (Host.negf (Host.sin angR)) zeros32 (Host.negf (Host.sin angC)) zeros32 0x00000000#32 := by
  show StableHlo.after (List.flatten [hostOps0, hostOps0_1, hostOps0_2, hostOps0_3, hostOps0_4, hostOps0_5, hostOps0_6]) _ (Proc.devRef .tc _) = _
  simp only [List.flatten_cons, List.flatten_nil, List.append_nil, List.cons_append, List.nil_append, hostOps0, hostOps0_1, hostOps0_2, hostOps0_3, hostOps0_4, hostOps0_5, hostOps0_6]
  after_results_simp
  rfl
/-- The second sine table the kernel is handed. -/
theorem V51 (c : Dev nD) : V m c main_v51 = table zeros32 (Host.sin angR) zeros32 (Host.sin angC) 0x00000000#32 := by
  show StableHlo.after (List.flatten [hostOps0, hostOps0_1, hostOps0_2, hostOps0_3, hostOps0_4, hostOps0_5, hostOps0_6]) _ (Proc.devRef .tc _) = _
  simp only [List.flatten_cons, List.flatten_nil, List.append_nil, List.cons_append, List.nil_append, hostOps0, hostOps0_1, hostOps0_2, hostOps0_3, hostOps0_4, hostOps0_5, hostOps0_6]
  after_results_simp
  rfl
/-- A table's lane group 0. -/
theorem table_0 (u0 u1 u2 u3 : FVec Ideal S2048x32 .f32) (v : BitVec 32) (r : Fin 2048) (f : Fin 32) :
    table u0 u1 u2 u3 v (ix2 ⟨r.val, by omega⟩ ⟨f.val, by omega⟩) = u0 (ix2 r f) := by
  pointwise [table, hlo_ix]
  try (split_ifs <;> first | (exfalso; omega) | exact congrArg _ (congrArg (ix2 r) (Fin.ext (by (try simp only) <;> omega))))
/-- A table's lane group 1. -/
theorem table_1 (u0 u1 u2 u3 : FVec Ideal S2048x32 .f32) (v : BitVec 32) (r : Fin 2048) (f : Fin 32) :
    table u0 u1 u2 u3 v (ix2 ⟨r.val, by omega⟩ ⟨32 + f.val, by omega⟩) = u1 (ix2 r f) := by
  pointwise [table, hlo_ix]
  try (split_ifs <;> first | (exfalso; omega) | exact congrArg _ (congrArg (ix2 r) (Fin.ext (by (try simp only) <;> omega))))
/-- A table's lane group 2. -/
theorem table_2 (u0 u1 u2 u3 : FVec Ideal S2048x32 .f32) (v : BitVec 32) (r : Fin 2048) (f : Fin 32) :
    table u0 u1 u2 u3 v (ix2 ⟨r.val, by omega⟩ ⟨64 + f.val, by omega⟩) = u2 (ix2 r f) := by
  pointwise [table, hlo_ix]
  try (split_ifs <;> first | (exfalso; omega) | exact congrArg _ (congrArg (ix2 r) (Fin.ext (by (try simp only) <;> omega))))
/-- A table's lane group 3. -/
theorem table_3 (u0 u1 u2 u3 : FVec Ideal S2048x32 .f32) (v : BitVec 32) (r : Fin 2048) (f : Fin 32) :
    table u0 u1 u2 u3 v (ix2 ⟨r.val, by omega⟩ ⟨96 + f.val, by omega⟩) = u3 (ix2 r f) := by
  pointwise [table, hlo_ix]
  try (split_ifs <;> first | (exfalso; omega) | exact congrArg _ (congrArg (ix2 r) (Fin.ext (by (try simp only) <;> omega))))
/-- A table's rows for the context tokens. -/
theorem table_5 (u0 u1 u2 u3 : FVec Ideal S2048x32 .f32) (v : BitVec 32) (r : Fin 512) (e : Fin 128) :
    table u0 u1 u2 u3 v (ix2 ⟨2048 + r.val, by omega⟩ e) = Ideal.ofBits .f32 v := by
  pointwise [table, hlo_ix]
  try (split_ifs <;> first | (exfalso; omega) | rfl)

/-- A gain the kernel is handed: the same numbers as one row. -/
theorem V0 (c : Dev nD) : V m c main_v0 = shapeCast S1x128 (m ((c : Thread nD τ).loc main_arg1)) shapeCasts_S128_S1x128 := by
  show StableHlo.after (List.flatten [hostOps0, hostOps0_1, hostOps0_2, hostOps0_3, hostOps0_4, hostOps0_5, hostOps0_6]) _ (Proc.devRef .tc _) = _
  simp only [List.flatten_cons, List.flatten_nil, List.append_nil, List.cons_append, List.nil_append, hostOps0, hostOps0_1, hostOps0_2, hostOps0_3, hostOps0_4, hostOps0_5, hostOps0_6]
  after_results_simp
  rfl
/-- A gain the kernel is handed: the same numbers as one row. -/
theorem V1 (c : Dev nD) : V m c main_v1 = shapeCast S1x128 (m ((c : Thread nD τ).loc main_arg2)) shapeCasts_S128_S1x128 := by
  show StableHlo.after (List.flatten [hostOps0, hostOps0_1, hostOps0_2, hostOps0_3, hostOps0_4, hostOps0_5, hostOps0_6]) _ (Proc.devRef .tc _) = _
  simp only [List.flatten_cons, List.flatten_nil, List.append_nil, List.cons_append, List.nil_append, hostOps0, hostOps0_1, hostOps0_2, hostOps0_3, hostOps0_4, hostOps0_5, hostOps0_6]
  after_results_simp
  rfl
/-- The block of query columns at a grid point. -/
theorem read0 (c : Dev nD) (t : Fin cfg0.N) (a : Fin 512) (k : Fin 768) :
    X0_0 m c t (ix2 a k) = m ((c : Thread nD τ).loc main_arg0) (ix2 ⟨t.val * 512 + a.val, by have : t.val < 36 := t.isLt; omega⟩ ⟨2304 + k.val, by omega⟩) := by
  rw [← V_main_arg0 m c]
  unfold X0_0 Pipeline.Window.fill
  refine (dif_pos (moved0_0 t (ix2 a k))).trans ?_
  blk_ext [iblk, idx t]
/-- The block of key columns at a grid point. -/
theorem read1 (c : Dev nD) (t : Fin cfg0.N) (a : Fin 512) (k : Fin 256) :
    X0_1 m c t (ix2 a k) = m ((c : Thread nD τ).loc main_arg0) (ix2 ⟨t.val * 512 + a.val, by have : t.val < 36 := t.isLt; omega⟩ ⟨3328 + k.val, by omega⟩) := by
  rw [← V_main_arg0 m c]
  unfold X0_1 Pipeline.Window.fill
  refine (dif_pos (moved0_1 t (ix2 a k))).trans ?_
  blk_ext [iblk, idx t]
/-- A gain at a grid point. -/
theorem read2 (c : Dev nD) (t : Fin cfg0.N) (k : Fin 128) :
    iblk m c 2 t (ix2 0 k) = m ((c : Thread nD τ).loc main_arg1) (ix1 k) := by
  have h : iblk m c 2 t (ix2 0 k) = V m c main_v0 (ix2 0 k) := by blk_ext [iblk, idx t]
  rw [h, V0]
  pointwise []
/-- A gain at a grid point. -/
theorem read3 (c : Dev nD) (t : Fin cfg0.N) (k : Fin 128) :
    iblk m c 3 t (ix2 0 k) = m ((c : Thread nD τ).loc main_arg2) (ix1 k) := by
  have h : iblk m c 3 t (ix2 0 k) = V m c main_v1 (ix2 0 k) := by blk_ext [iblk, idx t]
  rw [h, V1]
  pointwise []
/-- The table row a token reads. -/
def trow (t : Fin 36) (a : Fin 512) : Fin 2560 := ⟨(if t.val < 32 then t.val % 4 else 4) * 512 + a.val, by split <;> omega⟩
/-- A rotation table's block at a grid point. -/
theorem read4 (c : Dev nD) (t : Fin cfg0.N) (a : Fin 512) (e : Fin 128) :
    iblk m c 4 t (ix2 a e) = V m c main_v45 (ix2 (trow t a) e) := by
  unfold trow
  blk_ext [iblk, idx t]
/-- A rotation table's block at a grid point. -/
theorem read5 (c : Dev nD) (t : Fin cfg0.N) (a : Fin 512) (e : Fin 128) :
    iblk m c 5 t (ix2 a e) = V m c main_v48 (ix2 (trow t a) e) := by
  unfold trow
  blk_ext [iblk, idx t]
/-- A rotation table's block at a grid point. -/
theorem read6 (c : Dev nD) (t : Fin cfg0.N) (a : Fin 512) (e : Fin 128) :
    iblk m c 6 t (ix2 a e) = V m c main_v51 (ix2 (trow t a) e) := by
  unfold trow
  blk_ext [iblk, idx t]

/-- The token a block row holds. -/
abbrev tok (t : Fin cfg0.N) (a : Fin 512) : Fin 18432 := ⟨t.val * 512 + a.val, by have : t.val < 36 := t.isLt; omega⟩

/-- The word of one. -/
theorem one_bits : Ideal.ofBits .f32 0x3F800000#32 = 1 := by
  simp [Ideal.ofBits, Ideal.ieee]
  rw [← EReal.coe_mul]
  norm_num
/-- The word of zero. -/
theorem zero_bits : Ideal.ofBits .f32 0x00000000#32 = 0 := by
  simp [Ideal.ofBits, Ideal.ieee]

/-- The three tables. -/
abbrev tC : FVec Ideal S2560x128 .f32 := table (Host.cos angR) (Host.cos angR) (Host.cos angC) (Host.cos angC) 0x3F800000#32
abbrev tS : FVec Ideal S2560x128 .f32 := table (Host.negf (Host.sin angR)) zeros32 (Host.negf (Host.sin angC)) zeros32 0x00000000#32
abbrev tU : FVec Ideal S2560x128 .f32 := table zeros32 (Host.sin angR) zeros32 (Host.sin angC) 0x00000000#32

/-- The lane groups where the table's value is zero. -/
theorem zeros32_read (i : S2048x32.Idx) : zeros32 i = (0 : EReal) := by
  unfold zeros32
  pointwise []
/-- The reference's normalized lanes, queries. -/
abbrev nr_q (c : Dev nD) (i : Fin 18432) (h : Fin 6) (d : Fin 128) : EReal :=
  Cert.GqaQKRefIdeal.Read.val_main_v18 (F := Ideal) (m ((c : Thread nD τ).loc main_arg0)) (m ((c : Thread nD τ).loc main_arg1)) (ix3 i h d)

/-- The kernel's normalized lanes are the reference's, queries. -/
theorem nr_q_eq (c : Dev nD) (t : Fin cfg0.N) (a : Fin 512) (h : Fin 6) :
    GqaQKRead.norm (fun k => X0_0 m c t (ix2 a ⟨h.val * 128 + k.val, by omega⟩)) (fun k => iblk m c 2 t (ix2 0 k)) = nr_q m c (tok t a) h := by
  funext d
  unfold nr_q
  rw [GqaQKRead.normed_q, show (fun k => iblk m c 2 t (ix2 0 k)) = _ from funext (read2 m c t)]
  refine congrFun (norm_at _ fun k => ?_) d
  exact read0 m c t a ⟨h.val * 128 + k.val, by omega⟩

/-- A lane of what a grid point stores, queries. -/
theorem st_q (c : Dev nD) (t : Fin cfg0.N) (a : Fin 512) (h : Fin 6) (e : Fin 128) (r : Fin 2560) (j1 j2 : Fin 128)
    (hr : r = trow t a) (h1 : j1.val = (e.val + 128 - 96) % 128) (h2 : j2.val = (e.val + 128 - 32) % 128) :
    (outsAt0 m c t).1 (ix2 a ⟨h.val * 128 + e.val, by omega⟩)
      = ((nr_q m c (tok t a) h e * tC (ix2 r e) + nr_q m c (tok t a) h j1 * tS (ix2 r e) + nr_q m c (tok t a) h j2 * tU (ix2 r e)) * GqaQKRead.scale : EReal) := by
  rw [out_q m c t a h e, nr_q_eq]
  unfold T
  rw [read4, read5, read6, V45, V48, V51, ← hr]
  rw [show j1 = ⟨(e.val + 128 - 96) % 128, by omega⟩ from Fin.ext h1, show j2 = ⟨(e.val + 128 - 32) % 128, by omega⟩ from Fin.ext h2]

/-- A context token's lane is what it was before the rotation, queries. -/
theorem st_same_q (c : Dev nD) (t : Fin cfg0.N) (a : Fin 512) (h : Fin 6) (e : Fin 128) (hc : 32 ≤ t.val) :
    (outsAt0 m c t).1 (ix2 a ⟨h.val * 128 + e.val, by omega⟩) = (nr_q m c (tok t a) h e * GqaQKRead.scale : EReal) := by
  rw [st_q m c t a h e (trow t a) ⟨(e.val + 128 - 96) % 128, by omega⟩ ⟨(e.val + 128 - 32) % 128, by omega⟩ rfl rfl rfl]
  have key : ∀ (u0 u1 u2 u3 : FVec Ideal S2048x32 .f32) (v : BitVec 32), table u0 u1 u2 u3 v (ix2 (trow t a) e) = Ideal.ofBits .f32 v := by
    intro u0 u1 u2 u3 v
    have h1 : trow t a = ⟨2048 + a.val, by omega⟩ := by
      apply Fin.ext; unfold trow; simp only; rw [if_neg (by omega)]
    rw [h1]
    exact table_5 u0 u1 u2 u3 v a e
  have kC : tC (ix2 (trow t a) e) = (1 : EReal) := (key _ _ _ _ _).trans one_bits
  have kS : tS (ix2 (trow t a) e) = (0 : EReal) := (key _ _ _ _ _).trans zero_bits
  have kU : tU (ix2 (trow t a) e) = (0 : EReal) := (key _ _ _ _ _).trans zero_bits
  rw [kC, kS, kU, mul_one, mul_zero, mul_zero, add_zero, add_zero]

/-- The reference's queries. -/
abbrev ref_q (c : Dev nD) (i : Fin 18432) (j : Fin 768) : EReal :=
  Cert.GqaQKRefIdeal.Read.val_main_v189 (F := Ideal) (m ((c : Thread nD τ).loc main_arg0)) (m ((c : Thread nD τ).loc main_arg1)) (ix2 i j)

/-- A context token's lane, queries. -/
theorem ctx_q (c : Dev nD) (t : Fin cfg0.N) (a : Fin 512) (h : Fin 6) (e : Fin 128) (ht : 32 ≤ t.val) :
    (outsAt0 m c t).1 (ix2 a ⟨h.val * 128 + e.val, by omega⟩) = ref_q m c (tok t a) ⟨h.val * 128 + e.val, by omega⟩ := by
  have h36 : t.val < 36 := t.isLt
  have hi : tok t a = ⟨16384 + (⟨t.val * 512 + a.val - 16384, by omega⟩ : Fin 2048).val, by simp only; omega⟩ := Fin.ext (by simp only; omega)
  rw [st_same_q m c t a h e ht]
  unfold ref_q nr_q
  rw [GqaQKRead.flat_q, hi, GqaQKRead.ctx_q]

/-- A latent token's lane, group 0, queries. -/
theorem lat0_q (c : Dev nD) (t : Fin cfg0.N) (a : Fin 512) (h : Fin 6) (f : Fin 32) (ht : t.val < 32) :
    (outsAt0 m c t).1 (ix2 a ⟨h.val * 128 + f.val, by omega⟩) = ref_q m c (tok t a) ⟨h.val * 128 + f.val, by omega⟩ := by
  obtain ⟨b, hb⟩ : ∃ b : Fin 8, b.val = t.val / 4 := ⟨⟨t.val / 4, by omega⟩, rfl⟩
  obtain ⟨r, hr⟩ : ∃ r : Fin 2048, r.val = t.val % 4 * 512 + a.val := ⟨⟨t.val % 4 * 512 + a.val, by omega⟩, rfl⟩
  have hi : tok t a = ⟨b.val * 2048 + r.val, by omega⟩ := Fin.ext (by simp only; omega)
  have hrow : (⟨r.val, by omega⟩ : Fin 2560) = trow t a := by
    apply Fin.ext; unfold trow; simp only; rw [if_pos ht, hr]
  have hC : tC (ix2 ⟨r.val, by omega⟩ ⟨f.val, by omega⟩) = Ideal.cos (angR (ix2 r f)) := table_0 _ _ _ _ _ r f
  have hS : tS (ix2 ⟨r.val, by omega⟩ ⟨f.val, by omega⟩) = -Ideal.sin (angR (ix2 r f)) := table_0 _ _ _ _ _ r f
  have hU : tU (ix2 ⟨r.val, by omega⟩ ⟨f.val, by omega⟩) = (0 : EReal) := (table_0 _ _ _ _ _ r f).trans (zeros32_read _)
  rw [st_q m c t a h ⟨f.val, by omega⟩ ⟨r.val, by omega⟩ ⟨32 + f.val, by omega⟩ ⟨(f.val + 128 - 32) % 128, by omega⟩
    hrow (by first | rfl | (simp only; omega)) (by first | rfl | (simp only; omega))]
  unfold ref_q nr_q
  rw [GqaQKRead.flat_q _ _ _ h ⟨f.val, by omega⟩, hi, GqaQKRead.lat_q]
  rw [hC, hS, hU, mul_zero, add_zero]
  exact congrArg (fun z : EReal => (z * GqaQKRead.scale : EReal)) (GqaQKRead.turned0_q _ _ b r h f).symm

/-- A latent token's lane, group 1, queries. -/
theorem lat1_q (c : Dev nD) (t : Fin cfg0.N) (a : Fin 512) (h : Fin 6) (f : Fin 32) (ht : t.val < 32) :
    (outsAt0 m c t).1 (ix2 a ⟨h.val * 128 + (32 + f.val), by omega⟩) = ref_q m c (tok t a) ⟨h.val * 128 + (32 + f.val), by omega⟩ := by
  obtain ⟨b, hb⟩ : ∃ b : Fin 8, b.val = t.val / 4 := ⟨⟨t.val / 4, by omega⟩, rfl⟩
  obtain ⟨r, hr⟩ : ∃ r : Fin 2048, r.val = t.val % 4 * 512 + a.val := ⟨⟨t.val % 4 * 512 + a.val, by omega⟩, rfl⟩
  have hi : tok t a = ⟨b.val * 2048 + r.val, by omega⟩ := Fin.ext (by simp only; omega)
  have hrow : (⟨r.val, by omega⟩ : Fin 2560) = trow t a := by
    apply Fin.ext; unfold trow; simp only; rw [if_pos ht, hr]
  have hC : tC (ix2 ⟨r.val, by omega⟩ ⟨32 + f.val, by omega⟩) = Ideal.cos (angR (ix2 r f)) := table_1 _ _ _ _ _ r f
  have hS : tS (ix2 ⟨r.val, by omega⟩ ⟨32 + f.val, by omega⟩) = (0 : EReal) := (table_1 _ _ _ _ _ r f).trans (zeros32_read _)
  have hU : tU (ix2 ⟨r.val, by omega⟩ ⟨32 + f.val, by omega⟩) = Ideal.sin (angR (ix2 r f)) := table_1 _ _ _ _ _ r f
  rw [st_q m c t a h ⟨32 + f.val, by omega⟩ ⟨r.val, by omega⟩ ⟨(32 + f.val + 128 - 96) % 128, by omega⟩ ⟨f.val, by omega⟩
    hrow (by first | rfl | (simp only; omega)) (by first | rfl | (simp only; omega))]
  unfold ref_q nr_q
  rw [GqaQKRead.flat_q _ _ _ h ⟨32 + f.val, by omega⟩, hi, GqaQKRead.lat_q]
  rw [hC, hS, hU, mul_zero, add_zero]
  exact congrArg (fun z : EReal => (z * GqaQKRead.scale : EReal)) (GqaQKRead.turned1_q _ _ b r h f).symm

/-- A latent token's lane, group 2, queries. -/
theorem lat2_q (c : Dev nD) (t : Fin cfg0.N) (a : Fin 512) (h : Fin 6) (f : Fin 32) (ht : t.val < 32) :
    (outsAt0 m c t).1 (ix2 a ⟨h.val * 128 + (64 + f.val), by omega⟩) = ref_q m c (tok t a) ⟨h.val * 128 + (64 + f.val), by omega⟩ := by
  obtain ⟨b, hb⟩ : ∃ b : Fin 8, b.val = t.val / 4 := ⟨⟨t.val / 4, by omega⟩, rfl⟩
  obtain ⟨r, hr⟩ : ∃ r : Fin 2048, r.val = t.val % 4 * 512 + a.val := ⟨⟨t.val % 4 * 512 + a.val, by omega⟩, rfl⟩
  have hi : tok t a = ⟨b.val * 2048 + r.val, by omega⟩ := Fin.ext (by simp only; omega)
  have hrow : (⟨r.val, by omega⟩ : Fin 2560) = trow t a := by
    apply Fin.ext; unfold trow; simp only; rw [if_pos ht, hr]
  have hC : tC (ix2 ⟨r.val, by omega⟩ ⟨64 + f.val, by omega⟩) = Ideal.cos (angC (ix2 r f)) := table_2 _ _ _ _ _ r f
  have hS : tS (ix2 ⟨r.val, by omega⟩ ⟨64 + f.val, by omega⟩) = -Ideal.sin (angC (ix2 r f)) := table_2 _ _ _ _ _ r f
  have hU : tU (ix2 ⟨r.val, by omega⟩ ⟨64 + f.val, by omega⟩) = (0 : EReal) := (table_2 _ _ _ _ _ r f).trans (zeros32_read _)
  rw [st_q m c t a h ⟨64 + f.val, by omega⟩ ⟨r.val, by omega⟩ ⟨96 + f.val, by omega⟩ ⟨(64 + f.val + 128 - 32) % 128, by omega⟩
    hrow (by first | rfl | (simp only; omega)) (by first | rfl | (simp only; omega))]
  unfold ref_q nr_q
  rw [GqaQKRead.flat_q _ _ _ h ⟨64 + f.val, by omega⟩, hi, GqaQKRead.lat_q]
  rw [hC, hS, hU, mul_zero, add_zero]
  exact congrArg (fun z : EReal => (z * GqaQKRead.scale : EReal)) (GqaQKRead.turned2_q _ _ b r h f).symm

/-- A latent token's lane, group 3, queries. -/
theorem lat3_q (c : Dev nD) (t : Fin cfg0.N) (a : Fin 512) (h : Fin 6) (f : Fin 32) (ht : t.val < 32) :
    (outsAt0 m c t).1 (ix2 a ⟨h.val * 128 + (96 + f.val), by omega⟩) = ref_q m c (tok t a) ⟨h.val * 128 + (96 + f.val), by omega⟩ := by
  obtain ⟨b, hb⟩ : ∃ b : Fin 8, b.val = t.val / 4 := ⟨⟨t.val / 4, by omega⟩, rfl⟩
  obtain ⟨r, hr⟩ : ∃ r : Fin 2048, r.val = t.val % 4 * 512 + a.val := ⟨⟨t.val % 4 * 512 + a.val, by omega⟩, rfl⟩
  have hi : tok t a = ⟨b.val * 2048 + r.val, by omega⟩ := Fin.ext (by simp only; omega)
  have hrow : (⟨r.val, by omega⟩ : Fin 2560) = trow t a := by
    apply Fin.ext; unfold trow; simp only; rw [if_pos ht, hr]
  have hC : tC (ix2 ⟨r.val, by omega⟩ ⟨96 + f.val, by omega⟩) = Ideal.cos (angC (ix2 r f)) := table_3 _ _ _ _ _ r f
  have hS : tS (ix2 ⟨r.val, by omega⟩ ⟨96 + f.val, by omega⟩) = (0 : EReal) := (table_3 _ _ _ _ _ r f).trans (zeros32_read _)
  have hU : tU (ix2 ⟨r.val, by omega⟩ ⟨96 + f.val, by omega⟩) = Ideal.sin (angC (ix2 r f)) := table_3 _ _ _ _ _ r f
  rw [st_q m c t a h ⟨96 + f.val, by omega⟩ ⟨r.val, by omega⟩ ⟨(96 + f.val + 128 - 96) % 128, by omega⟩ ⟨64 + f.val, by omega⟩
    hrow (by first | rfl | (simp only; omega)) (by first | rfl | (simp only; omega))]
  unfold ref_q nr_q
  rw [GqaQKRead.flat_q _ _ _ h ⟨96 + f.val, by omega⟩, hi, GqaQKRead.lat_q]
  rw [hC, hS, hU, mul_zero, add_zero]
  exact congrArg (fun z : EReal => (z * GqaQKRead.scale : EReal)) (GqaQKRead.turned3_q _ _ b r h f).symm

/-- What a grid point stores at a block index is the reference at the array index it sits at, queries. -/
theorem point_q (c : Dev nD) (t : Fin cfg0.N) (a : Fin 512) (j : Fin 768) :
    (outsAt0 m c t).1 (ix2 a j) = ref_q m c (tok t a) j := by
  obtain ⟨h, hh⟩ : ∃ h : Fin 6, h.val = j.val / 128 := ⟨⟨j.val / 128, by omega⟩, rfl⟩
  obtain ⟨d, hd⟩ : ∃ d : Fin 128, d.val = j.val % 128 := ⟨⟨j.val % 128, by omega⟩, rfl⟩
  by_cases h3 : 32 ≤ t.val
  · exact (show j = ⟨h.val * 128 + d.val, by omega⟩ from Fin.ext (by simp only; omega)) ▸ ctx_q m c t a h d h3
  have ht : t.val < 32 := by omega
  by_cases g0 : d.val < 32
  · exact (show j = ⟨h.val * 128 + ((⟨d.val - 0, by omega⟩ : Fin 32).val), by simp only; omega⟩ from Fin.ext (by simp only; omega)) ▸ lat0_q m c t a h ⟨d.val - 0, by omega⟩ ht
  by_cases g1 : d.val < 64
  · exact (show j = ⟨h.val * 128 + (32 + (⟨d.val - 32, by omega⟩ : Fin 32).val), by simp only; omega⟩ from Fin.ext (by simp only; omega)) ▸ lat1_q m c t a h ⟨d.val - 32, by omega⟩ ht
  by_cases g2 : d.val < 96
  · exact (show j = ⟨h.val * 128 + (64 + (⟨d.val - 64, by omega⟩ : Fin 32).val), by simp only; omega⟩ from Fin.ext (by simp only; omega)) ▸ lat2_q m c t a h ⟨d.val - 64, by omega⟩ ht
  · exact (show j = ⟨h.val * 128 + (96 + (⟨d.val - 96, by omega⟩ : Fin 32).val), by simp only; omega⟩ from Fin.ext (by simp only; omega)) ▸ lat3_q m c t a h ⟨d.val - 96, by omega⟩ ht

/-- The array of queries after the run is the reference of the argument arrays. -/
theorem final_q (c : Dev nD) : (dats m 0 c).arrAt 7 (cfgs 0).N
    = Cert.GqaQKRefIdeal.Read.val_main_v189 (F := Ideal) (m ((c : Thread nD τ).loc main_arg0)) (m ((c : Thread nD τ).loc main_arg1)) := by
  refine (dats m 0 c).arrAt_eq_of_covers 7 _ (by decide +kernel) fun t _ y => ?_
  blk_simp
  rw [after0_7]
  idx_vars y
  refine (point_q m c t _ _).trans ?_
  unfold ref_q tok
  blk_ext [idx t]

/-- The reference's normalized lanes, keys. -/
abbrev nr_k (c : Dev nD) (i : Fin 18432) (h : Fin 2) (d : Fin 128) : EReal :=
  Cert.GqaQKRefIdeal.Read.val_main_v110 (F := Ideal) (m ((c : Thread nD τ).loc main_arg0)) (m ((c : Thread nD τ).loc main_arg2)) (ix3 i h d)

/-- The kernel's normalized lanes are the reference's, keys. -/
theorem nr_k_eq (c : Dev nD) (t : Fin cfg0.N) (a : Fin 512) (h : Fin 2) :
    GqaQKRead.norm (fun k => X0_1 m c t (ix2 a ⟨h.val * 128 + k.val, by omega⟩)) (fun k => iblk m c 3 t (ix2 0 k)) = nr_k m c (tok t a) h := by
  funext d
  unfold nr_k
  rw [GqaQKRead.normed_k, show (fun k => iblk m c 3 t (ix2 0 k)) = _ from funext (read3 m c t)]
  refine congrFun (norm_at _ fun k => ?_) d
  exact read1 m c t a ⟨h.val * 128 + k.val, by omega⟩

/-- A lane of what a grid point stores, keys. -/
theorem st_k (c : Dev nD) (t : Fin cfg0.N) (a : Fin 512) (h : Fin 2) (e : Fin 128) (r : Fin 2560) (j1 j2 : Fin 128)
    (hr : r = trow t a) (h1 : j1.val = (e.val + 128 - 96) % 128) (h2 : j2.val = (e.val + 128 - 32) % 128) :
    (outsAt0 m c t).2 (ix2 a ⟨h.val * 128 + e.val, by omega⟩)
      = ((nr_k m c (tok t a) h e * tC (ix2 r e) + nr_k m c (tok t a) h j1 * tS (ix2 r e) + nr_k m c (tok t a) h j2 * tU (ix2 r e)) : EReal) := by
  rw [out_k m c t a h e, nr_k_eq]
  unfold T
  rw [read4, read5, read6, V45, V48, V51, ← hr]
  rw [show j1 = ⟨(e.val + 128 - 96) % 128, by omega⟩ from Fin.ext h1, show j2 = ⟨(e.val + 128 - 32) % 128, by omega⟩ from Fin.ext h2]

/-- A context token's lane is what it was before the rotation, keys. -/
theorem st_same_k (c : Dev nD) (t : Fin cfg0.N) (a : Fin 512) (h : Fin 2) (e : Fin 128) (hc : 32 ≤ t.val) :
    (outsAt0 m c t).2 (ix2 a ⟨h.val * 128 + e.val, by omega⟩) = (nr_k m c (tok t a) h e : EReal) := by
  rw [st_k m c t a h e (trow t a) ⟨(e.val + 128 - 96) % 128, by omega⟩ ⟨(e.val + 128 - 32) % 128, by omega⟩ rfl rfl rfl]
  have key : ∀ (u0 u1 u2 u3 : FVec Ideal S2048x32 .f32) (v : BitVec 32), table u0 u1 u2 u3 v (ix2 (trow t a) e) = Ideal.ofBits .f32 v := by
    intro u0 u1 u2 u3 v
    have h1 : trow t a = ⟨2048 + a.val, by omega⟩ := by
      apply Fin.ext; unfold trow; simp only; rw [if_neg (by omega)]
    rw [h1]
    exact table_5 u0 u1 u2 u3 v a e
  have kC : tC (ix2 (trow t a) e) = (1 : EReal) := (key _ _ _ _ _).trans one_bits
  have kS : tS (ix2 (trow t a) e) = (0 : EReal) := (key _ _ _ _ _).trans zero_bits
  have kU : tU (ix2 (trow t a) e) = (0 : EReal) := (key _ _ _ _ _).trans zero_bits
  rw [kC, kS, kU, mul_one, mul_zero, mul_zero, add_zero, add_zero]

/-- The reference's keys. -/
abbrev ref_k (c : Dev nD) (i : Fin 18432) (j : Fin 256) : EReal :=
  Cert.GqaQKRefIdeal.Read.val_main_v191 (F := Ideal) (m ((c : Thread nD τ).loc main_arg0)) (m ((c : Thread nD τ).loc main_arg2)) (ix2 i j)

/-- A context token's lane, keys. -/
theorem ctx_k (c : Dev nD) (t : Fin cfg0.N) (a : Fin 512) (h : Fin 2) (e : Fin 128) (ht : 32 ≤ t.val) :
    (outsAt0 m c t).2 (ix2 a ⟨h.val * 128 + e.val, by omega⟩) = ref_k m c (tok t a) ⟨h.val * 128 + e.val, by omega⟩ := by
  have h36 : t.val < 36 := t.isLt
  have hi : tok t a = ⟨16384 + (⟨t.val * 512 + a.val - 16384, by omega⟩ : Fin 2048).val, by simp only; omega⟩ := Fin.ext (by simp only; omega)
  rw [st_same_k m c t a h e ht]
  unfold ref_k nr_k
  rw [GqaQKRead.flat_k, hi, GqaQKRead.ctx_k]

/-- A latent token's lane, group 0, keys. -/
theorem lat0_k (c : Dev nD) (t : Fin cfg0.N) (a : Fin 512) (h : Fin 2) (f : Fin 32) (ht : t.val < 32) :
    (outsAt0 m c t).2 (ix2 a ⟨h.val * 128 + f.val, by omega⟩) = ref_k m c (tok t a) ⟨h.val * 128 + f.val, by omega⟩ := by
  obtain ⟨b, hb⟩ : ∃ b : Fin 8, b.val = t.val / 4 := ⟨⟨t.val / 4, by omega⟩, rfl⟩
  obtain ⟨r, hr⟩ : ∃ r : Fin 2048, r.val = t.val % 4 * 512 + a.val := ⟨⟨t.val % 4 * 512 + a.val, by omega⟩, rfl⟩
  have hi : tok t a = ⟨b.val * 2048 + r.val, by omega⟩ := Fin.ext (by simp only; omega)
  have hrow : (⟨r.val, by omega⟩ : Fin 2560) = trow t a := by
    apply Fin.ext; unfold trow; simp only; rw [if_pos ht, hr]
  have hC : tC (ix2 ⟨r.val, by omega⟩ ⟨f.val, by omega⟩) = Ideal.cos (angR (ix2 r f)) := table_0 _ _ _ _ _ r f
  have hS : tS (ix2 ⟨r.val, by omega⟩ ⟨f.val, by omega⟩) = -Ideal.sin (angR (ix2 r f)) := table_0 _ _ _ _ _ r f
  have hU : tU (ix2 ⟨r.val, by omega⟩ ⟨f.val, by omega⟩) = (0 : EReal) := (table_0 _ _ _ _ _ r f).trans (zeros32_read _)
  rw [st_k m c t a h ⟨f.val, by omega⟩ ⟨r.val, by omega⟩ ⟨32 + f.val, by omega⟩ ⟨(f.val + 128 - 32) % 128, by omega⟩
    hrow (by first | rfl | (simp only; omega)) (by first | rfl | (simp only; omega))]
  unfold ref_k nr_k
  rw [GqaQKRead.flat_k _ _ _ h ⟨f.val, by omega⟩, hi, GqaQKRead.lat_k]
  rw [hC, hS, hU, mul_zero, add_zero]
  exact (GqaQKRead.turned0_k _ _ b r h f).symm

/-- A latent token's lane, group 1, keys. -/
theorem lat1_k (c : Dev nD) (t : Fin cfg0.N) (a : Fin 512) (h : Fin 2) (f : Fin 32) (ht : t.val < 32) :
    (outsAt0 m c t).2 (ix2 a ⟨h.val * 128 + (32 + f.val), by omega⟩) = ref_k m c (tok t a) ⟨h.val * 128 + (32 + f.val), by omega⟩ := by
  obtain ⟨b, hb⟩ : ∃ b : Fin 8, b.val = t.val / 4 := ⟨⟨t.val / 4, by omega⟩, rfl⟩
  obtain ⟨r, hr⟩ : ∃ r : Fin 2048, r.val = t.val % 4 * 512 + a.val := ⟨⟨t.val % 4 * 512 + a.val, by omega⟩, rfl⟩
  have hi : tok t a = ⟨b.val * 2048 + r.val, by omega⟩ := Fin.ext (by simp only; omega)
  have hrow : (⟨r.val, by omega⟩ : Fin 2560) = trow t a := by
    apply Fin.ext; unfold trow; simp only; rw [if_pos ht, hr]
  have hC : tC (ix2 ⟨r.val, by omega⟩ ⟨32 + f.val, by omega⟩) = Ideal.cos (angR (ix2 r f)) := table_1 _ _ _ _ _ r f
  have hS : tS (ix2 ⟨r.val, by omega⟩ ⟨32 + f.val, by omega⟩) = (0 : EReal) := (table_1 _ _ _ _ _ r f).trans (zeros32_read _)
  have hU : tU (ix2 ⟨r.val, by omega⟩ ⟨32 + f.val, by omega⟩) = Ideal.sin (angR (ix2 r f)) := table_1 _ _ _ _ _ r f
  rw [st_k m c t a h ⟨32 + f.val, by omega⟩ ⟨r.val, by omega⟩ ⟨(32 + f.val + 128 - 96) % 128, by omega⟩ ⟨f.val, by omega⟩
    hrow (by first | rfl | (simp only; omega)) (by first | rfl | (simp only; omega))]
  unfold ref_k nr_k
  rw [GqaQKRead.flat_k _ _ _ h ⟨32 + f.val, by omega⟩, hi, GqaQKRead.lat_k]
  rw [hC, hS, hU, mul_zero, add_zero]
  exact (GqaQKRead.turned1_k _ _ b r h f).symm

/-- A latent token's lane, group 2, keys. -/
theorem lat2_k (c : Dev nD) (t : Fin cfg0.N) (a : Fin 512) (h : Fin 2) (f : Fin 32) (ht : t.val < 32) :
    (outsAt0 m c t).2 (ix2 a ⟨h.val * 128 + (64 + f.val), by omega⟩) = ref_k m c (tok t a) ⟨h.val * 128 + (64 + f.val), by omega⟩ := by
  obtain ⟨b, hb⟩ : ∃ b : Fin 8, b.val = t.val / 4 := ⟨⟨t.val / 4, by omega⟩, rfl⟩
  obtain ⟨r, hr⟩ : ∃ r : Fin 2048, r.val = t.val % 4 * 512 + a.val := ⟨⟨t.val % 4 * 512 + a.val, by omega⟩, rfl⟩
  have hi : tok t a = ⟨b.val * 2048 + r.val, by omega⟩ := Fin.ext (by simp only; omega)
  have hrow : (⟨r.val, by omega⟩ : Fin 2560) = trow t a := by
    apply Fin.ext; unfold trow; simp only; rw [if_pos ht, hr]
  have hC : tC (ix2 ⟨r.val, by omega⟩ ⟨64 + f.val, by omega⟩) = Ideal.cos (angC (ix2 r f)) := table_2 _ _ _ _ _ r f
  have hS : tS (ix2 ⟨r.val, by omega⟩ ⟨64 + f.val, by omega⟩) = -Ideal.sin (angC (ix2 r f)) := table_2 _ _ _ _ _ r f
  have hU : tU (ix2 ⟨r.val, by omega⟩ ⟨64 + f.val, by omega⟩) = (0 : EReal) := (table_2 _ _ _ _ _ r f).trans (zeros32_read _)
  rw [st_k m c t a h ⟨64 + f.val, by omega⟩ ⟨r.val, by omega⟩ ⟨96 + f.val, by omega⟩ ⟨(64 + f.val + 128 - 32) % 128, by omega⟩
    hrow (by first | rfl | (simp only; omega)) (by first | rfl | (simp only; omega))]
  unfold ref_k nr_k
  rw [GqaQKRead.flat_k _ _ _ h ⟨64 + f.val, by omega⟩, hi, GqaQKRead.lat_k]
  rw [hC, hS, hU, mul_zero, add_zero]
  exact (GqaQKRead.turned2_k _ _ b r h f).symm

/-- A latent token's lane, group 3, keys. -/
theorem lat3_k (c : Dev nD) (t : Fin cfg0.N) (a : Fin 512) (h : Fin 2) (f : Fin 32) (ht : t.val < 32) :
    (outsAt0 m c t).2 (ix2 a ⟨h.val * 128 + (96 + f.val), by omega⟩) = ref_k m c (tok t a) ⟨h.val * 128 + (96 + f.val), by omega⟩ := by
  obtain ⟨b, hb⟩ : ∃ b : Fin 8, b.val = t.val / 4 := ⟨⟨t.val / 4, by omega⟩, rfl⟩
  obtain ⟨r, hr⟩ : ∃ r : Fin 2048, r.val = t.val % 4 * 512 + a.val := ⟨⟨t.val % 4 * 512 + a.val, by omega⟩, rfl⟩
  have hi : tok t a = ⟨b.val * 2048 + r.val, by omega⟩ := Fin.ext (by simp only; omega)
  have hrow : (⟨r.val, by omega⟩ : Fin 2560) = trow t a := by
    apply Fin.ext; unfold trow; simp only; rw [if_pos ht, hr]
  have hC : tC (ix2 ⟨r.val, by omega⟩ ⟨96 + f.val, by omega⟩) = Ideal.cos (angC (ix2 r f)) := table_3 _ _ _ _ _ r f
  have hS : tS (ix2 ⟨r.val, by omega⟩ ⟨96 + f.val, by omega⟩) = (0 : EReal) := (table_3 _ _ _ _ _ r f).trans (zeros32_read _)
  have hU : tU (ix2 ⟨r.val, by omega⟩ ⟨96 + f.val, by omega⟩) = Ideal.sin (angC (ix2 r f)) := table_3 _ _ _ _ _ r f
  rw [st_k m c t a h ⟨96 + f.val, by omega⟩ ⟨r.val, by omega⟩ ⟨(96 + f.val + 128 - 96) % 128, by omega⟩ ⟨64 + f.val, by omega⟩
    hrow (by first | rfl | (simp only; omega)) (by first | rfl | (simp only; omega))]
  unfold ref_k nr_k
  rw [GqaQKRead.flat_k _ _ _ h ⟨96 + f.val, by omega⟩, hi, GqaQKRead.lat_k]
  rw [hC, hS, hU, mul_zero, add_zero]
  exact (GqaQKRead.turned3_k _ _ b r h f).symm

/-- What a grid point stores at a block index is the reference at the array index it sits at, keys. -/
theorem point_k (c : Dev nD) (t : Fin cfg0.N) (a : Fin 512) (j : Fin 256) :
    (outsAt0 m c t).2 (ix2 a j) = ref_k m c (tok t a) j := by
  obtain ⟨h, hh⟩ : ∃ h : Fin 2, h.val = j.val / 128 := ⟨⟨j.val / 128, by omega⟩, rfl⟩
  obtain ⟨d, hd⟩ : ∃ d : Fin 128, d.val = j.val % 128 := ⟨⟨j.val % 128, by omega⟩, rfl⟩
  by_cases h3 : 32 ≤ t.val
  · exact (show j = ⟨h.val * 128 + d.val, by omega⟩ from Fin.ext (by simp only; omega)) ▸ ctx_k m c t a h d h3
  have ht : t.val < 32 := by omega
  by_cases g0 : d.val < 32
  · exact (show j = ⟨h.val * 128 + ((⟨d.val - 0, by omega⟩ : Fin 32).val), by simp only; omega⟩ from Fin.ext (by simp only; omega)) ▸ lat0_k m c t a h ⟨d.val - 0, by omega⟩ ht
  by_cases g1 : d.val < 64
  · exact (show j = ⟨h.val * 128 + (32 + (⟨d.val - 32, by omega⟩ : Fin 32).val), by simp only; omega⟩ from Fin.ext (by simp only; omega)) ▸ lat1_k m c t a h ⟨d.val - 32, by omega⟩ ht
  by_cases g2 : d.val < 96
  · exact (show j = ⟨h.val * 128 + (64 + (⟨d.val - 64, by omega⟩ : Fin 32).val), by simp only; omega⟩ from Fin.ext (by simp only; omega)) ▸ lat2_k m c t a h ⟨d.val - 64, by omega⟩ ht
  · exact (show j = ⟨h.val * 128 + (96 + (⟨d.val - 96, by omega⟩ : Fin 32).val), by simp only; omega⟩ from Fin.ext (by simp only; omega)) ▸ lat3_k m c t a h ⟨d.val - 96, by omega⟩ ht

/-- The array of keys after the run is the reference of the argument arrays. -/
theorem final_k (c : Dev nD) : (dats m 0 c).arrAt 8 (cfgs 0).N
    = Cert.GqaQKRefIdeal.Read.val_main_v191 (F := Ideal) (m ((c : Thread nD τ).loc main_arg0)) (m ((c : Thread nD τ).loc main_arg2)) := by
  refine (dats m 0 c).arrAt_eq_of_covers 8 _ (by decide +kernel) fun t _ y => ?_
  blk_simp
  rw [after0_8]
  idx_vars y
  refine (point_k m c t _ _).trans ?_
  unfold ref_k tok
  blk_ext [idx t]

end Cert.GqaQKIdeal.Value
end
-- ==== Proof.GqaQKClaim.lean ====
/- What is claimed of `GqaQK`, put together: the frames of the program, of its reading over the extended reals and of
   the reference, and that the two readings end with equal results. -/
module

public import proofs.«01_k».proof.Defs
public import proofs.«01_k».proof.Proof.Gen.GqaQK.Frame
public import proofs.«01_k».proof.Proof.Gen.GqaQKIdeal.Frame
public import proofs.«01_k».proof.Proof.Gen.GqaQKIdeal.Value
public import proofs.«01_k».proof.Proof.Gen.GqaQKRefIdeal.Run
public import proofs.«01_k».proof.Proof.Gen.GqaQKRefIdeal.Read
public import proofs.«01_k».proof.Proof.GqaQKValue
public import Idealize.ShloMosaic.Lib.Quiescent

@[expose] public section

noncomputable section

namespace Cert.Proof.GqaQK

open Idealize.ShloMosaic Idealize.SL.Sem

/-- The reference ends with its arguments unchanged and, declaring no semaphore, with every counter at zero. -/
theorem ref_frame (m : (ℓ : Loc Cert.GqaQKRefIdeal.nD Cert.GqaQKRefIdeal.τ Cert.GqaQKRefIdeal.sig) → Buf (Elt Ideal) ℓ) (g : Dev Cert.GqaQKRefIdeal.nD → PrngReg) :
    θ_run (Cert.GqaQKRefIdeal.defs (F := Ideal)) (onTc (τ := Cert.GqaQKRefIdeal.τ) (Cert.GqaQKRefIdeal.main (F := Ideal))) ⟨m, fun _ => 0, g⟩ (fun r =>
      (∀ c : Dev Cert.GqaQKRefIdeal.nD, r.2.mem ((c.tc : Thread Cert.GqaQKRefIdeal.nD Cert.GqaQKRefIdeal.τ).loc Cert.GqaQKRefIdeal.main_arg0) = m ((c.tc : Thread Cert.GqaQKRefIdeal.nD Cert.GqaQKRefIdeal.τ).loc Cert.GqaQKRefIdeal.main_arg0)
        ∧ r.2.mem ((c.tc : Thread Cert.GqaQKRefIdeal.nD Cert.GqaQKRefIdeal.τ).loc Cert.GqaQKRefIdeal.main_arg1) = m ((c.tc : Thread Cert.GqaQKRefIdeal.nD Cert.GqaQKRefIdeal.τ).loc Cert.GqaQKRefIdeal.main_arg1)
        ∧ r.2.mem ((c.tc : Thread Cert.GqaQKRefIdeal.nD Cert.GqaQKRefIdeal.τ).loc Cert.GqaQKRefIdeal.main_arg2) = m ((c.tc : Thread Cert.GqaQKRefIdeal.nD Cert.GqaQKRefIdeal.τ).loc Cert.GqaQKRefIdeal.main_arg2))
      ∧ r.2.sem = fun _ => 0) :=
  (θ_run (Cert.GqaQKRefIdeal.defs (F := Ideal)) _ _).mono
    (fun r h => ⟨fun c => (h c).2.2, sem_eq_zero_of_no_sems (by decide) r.2⟩) (Cert.GqaQKRefIdeal.Value.run m g)

/-- The two readings end with equal results and unchanged arguments. -/
theorem algebraic [Cert.GqaQKIdeal.Facts] [Cert.GqaQKRefIdeal.Facts] : Cert.algebraic_GqaQKIdeal_GqaQKRefIdeal := by
  intro m g m' g' hpre hagree
  refine ⟨fun c => Cert.GqaQKRefIdeal.Read.val_main_v189 (F := Ideal) (m ((c.tc : Thread Cert.GqaQKIdeal.nD Cert.GqaQKIdeal.τ).loc Cert.GqaQKIdeal.main_arg0)) (m ((c.tc : Thread Cert.GqaQKIdeal.nD Cert.GqaQKIdeal.τ).loc Cert.GqaQKIdeal.main_arg1)), fun c => Cert.GqaQKRefIdeal.Read.val_main_v191 (F := Ideal) (m ((c.tc : Thread Cert.GqaQKIdeal.nD Cert.GqaQKIdeal.τ).loc Cert.GqaQKIdeal.main_arg0)) (m ((c.tc : Thread Cert.GqaQKIdeal.nD Cert.GqaQKIdeal.τ).loc Cert.GqaQKIdeal.main_arg2)), ?_, ?_⟩
  · refine (θ_run (Cert.GqaQKIdeal.defs (F := Ideal)) _ _).mono (fun r h c => ?_) (Cert.GqaQKIdeal.Value.run_blocks m g)
    exact ⟨(h c).1.trans (Cert.GqaQKIdeal.Value.final_q m c), (h c).2.1.trans (Cert.GqaQKIdeal.Value.final_k m c), (h c).2.2⟩
  · exact (θ_run (Cert.GqaQKRefIdeal.defs (F := Ideal)) _ _).mono
      (fun r h c => ⟨(h c).1.trans ((Cert.GqaQKRefIdeal.Read.val_main_v189_eq (StableHlo.launchContents m' c)).trans (show Cert.GqaQKRefIdeal.Read.val_main_v189 (F := Ideal) (m' ((c.tc : Thread Cert.GqaQKRefIdeal.nD Cert.GqaQKRefIdeal.τ).loc Cert.GqaQKRefIdeal.main_arg0)) (m' ((c.tc : Thread Cert.GqaQKRefIdeal.nD Cert.GqaQKRefIdeal.τ).loc Cert.GqaQKRefIdeal.main_arg1)) = _ from by rw [(hagree c).1, (hagree c).2.1])), (h c).2.1.trans ((Cert.GqaQKRefIdeal.Read.val_main_v191_eq (StableHlo.launchContents m' c)).trans (show Cert.GqaQKRefIdeal.Read.val_main_v191 (F := Ideal) (m' ((c.tc : Thread Cert.GqaQKRefIdeal.nD Cert.GqaQKRefIdeal.τ).loc Cert.GqaQKRefIdeal.main_arg0)) (m' ((c.tc : Thread Cert.GqaQKRefIdeal.nD Cert.GqaQKRefIdeal.τ).loc Cert.GqaQKRefIdeal.main_arg2)) = _ from by rw [(hagree c).1, (hagree c).2.2])), (h c).2.2⟩)
      (Cert.GqaQKRefIdeal.Value.run m' g')

end Cert.Proof.GqaQK

end
-- ==== Proof.MlaCtxRead.lean ====
module
public import proofs.«01_k».proof.Proof.Gen.MlaCtxRefIdeal.Read
public import proofs.«01_k».proof.Proof.AttnMath
public import Idealize.ShloMosaic.Lib.Pointwise

@[expose] public section
set_option maxRecDepth 16384
noncomputable section
open Idealize.ShloMosaic Idealize.ShloMosaic.TcCoe Idealize.SL.Sem
namespace Cert.MlaCtxRead
open Cert.MlaCtxRefIdeal Cert.MlaCtxRefIdeal.Gen Cert.MlaCtxRefIdeal.Read

abbrev A0 := (⟨S18432x1536, .bf16⟩ : BufTy).Contents (Elt Ideal)
abbrev A2 := (⟨S18432x768, .bf16⟩ : BufTy).Contents (Elt Ideal)

/-- The query of a context row, head and column, in the arguments. -/
theorem q_read (q : A0) (b : Fin 8) (r : Fin 256) (h : Fin 6) (x : Fin 256) :
    val_main_v9 q (ix5 b r h 0 x) = q (ix2 ⟨16384 + (b.val * 256 + r.val), by omega⟩ ⟨h.val * 256 + x.val, by omega⟩) := by
  pointwise [val_main_v9, val_main_v2, val_main_v1, val_main_v0]

/-- A context key. -/
theorem k_read (k : A0) (b : Fin 8) (j : Fin 256) (h : Fin 6) (x : Fin 256) :
    val_main_v5 k (ix4 b j h x) = k (ix2 ⟨16384 + (b.val * 256 + j.val), by omega⟩ ⟨h.val * 256 + x.val, by omega⟩) := by
  pointwise [val_main_v5, val_main_v4, val_main_v3]

/-- A context value. -/
theorem v_read (v : A2) (b : Fin 8) (j : Fin 256) (h : Fin 6) (x : Fin 128) :
    val_main_v8 v (ix4 b j h x) = v (ix2 ⟨16384 + (b.val * 256 + j.val), by omega⟩ ⟨h.val * 128 + x.val, by omega⟩) := by
  pointwise [val_main_v8, val_main_v7, val_main_v6]

/-- A score: the dot product of a query and a key. -/
theorem s_read (q k : A0) (b : Fin 8) (r : Fin 256) (h : Fin 6) (j : Fin 256) :
    val_main_v11 q k (ix5 b h 0 r j) = ∑ x : Fin 256, val_main_v5 k (ix4 b j h x) * val_main_v9 q (ix5 b r h 0 x) := by
  pointwise [val_main_v11, val_main_v10]

/-- The largest score of a row, folded from minus infinity. -/
theorem mx_read (q k : A0) (b : Fin 8) (r : Fin 256) (h : Fin 6) :
    val_main_v12 q k (ix4 b h 0 r) = Finset.fold max ⊥ (fun j : Fin 256 => val_main_v11 q k (ix5 b h 0 r j)) Finset.univ := by
  unfold val_main_v12
  generalize val_main_v11 q k = y
  rw [← AttnMath.ofBits_neg_inf]
  exact AttnMath.reduce_last y _ _ _ b h 0 r

/-- The largest score of a row. -/
theorem m_read (q k : A0) (b : Fin 8) (r : Fin 256) (h : Fin 6) :
    val_main_v14 q k (ix4 b h 0 r) = max ⊥ (val_main_v12 q k (ix4 b h 0 r)) := by
  rw [val_main_v14_apply, val_main_v13_apply, val_main_cst_0_apply]
  exact congrArg (fun z : EReal => max z (val_main_v12 q k (ix4 b h 0 r))) AttnMath.ofBits_neg_inf

/-- The exponential of a score less the largest. -/
theorem p_read (q k : A0) (b : Fin 8) (r : Fin 256) (h : Fin 6) (j : Fin 256) :
    val_main_v18 q k (ix5 b h 0 r j) = Ideal.exp (val_main_v11 q k (ix5 b h 0 r j) - val_main_v14 q k (ix4 b h 0 r)) := by
  pointwise [val_main_v18, val_main_v17, val_main_v16, val_main_v15]

/-- The sum of a row's exponentials. -/
theorem d_read (q k : A0) (b : Fin 8) (r : Fin 256) (h : Fin 6) :
    val_main_v19 q k (ix4 b h 0 r) = ∑ j, val_main_v18 q k (ix5 b h 0 r j) := by
  pointwise [val_main_v19, val_main_cst_1]

/-- The result: the values weighted by the exponentials over their sum. -/
theorem o_read (q k : A0) (v : A2) (b : Fin 8) (r : Fin 256) (h : Fin 6) (x : Fin 128) :
    val_main_v27 q k v (ix2 ⟨b.val * 256 + r.val, by omega⟩ ⟨h.val * 128 + x.val, by omega⟩)
      = ∑ j, val_main_v8 v (ix4 b j h x) * Ideal.div (val_main_v18 q k (ix5 b h 0 r j)) (val_main_v19 q k (ix4 b h 0 r)) := by
  pointwise [val_main_v27, val_main_v26, val_main_v25, val_main_v24, val_main_v23, val_main_v22, val_main_v21, val_main_v20]

/-- The reference at one query row and one value column is one attention row. -/
theorem ref_row (q k : A0) (v : A2) (b : Fin 8) (r : Fin 256) (h : Fin 6) (x : Fin 128) :
    val_main_v27 q k v (ix2 ⟨b.val * 256 + r.val, by omega⟩ ⟨h.val * 128 + x.val, by omega⟩)
      = ∑ j, val_main_v8 v (ix4 b j h x) * Ideal.div
          (Ideal.exp (val_main_v11 q k (ix5 b h 0 r j) - max ⊥ (Finset.fold max ⊥ (fun j : Fin 256 => val_main_v11 q k (ix5 b h 0 r j)) Finset.univ)))
          (0 + ∑ i, Ideal.exp (val_main_v11 q k (ix5 b h 0 r i) - max ⊥ (Finset.fold max ⊥ (fun j : Fin 256 => val_main_v11 q k (ix5 b h 0 r j)) Finset.univ))) := by
  rw [o_read]
  simp only [p_read, d_read, m_read, mx_read, zero_add]

end Cert.MlaCtxRead
end
-- ==== Proof.MlaCtxValue.lean ====
module
public import proofs.«01_k».proof.Proof.Gen.MlaCtxIdeal.Frame
public import proofs.«01_k».proof.Proof.MlaCtxRead
public import proofs.«01_k».proof.Pre_finite_scores
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.MlaCtxIdeal.Value
open Cert.MlaCtxIdeal Cert.MlaCtxIdeal.Gen
variable (m : (ℓ : Loc nD τ sig) → Buf (Elt Ideal) ℓ)

/-- The windows' block indices at every grid point: the batch and the head are the digits of the point. -/
theorem idx : ∀ t : Fin cfg0.N, win0_0.index t = ![64 + t.val / 6, t.val % 6] ∧ win0_1.index t = ![64 + t.val / 6, t.val % 6]
    ∧ win0_2.index t = ![64 + t.val / 6, t.val % 6] ∧ win0_3.index t = ![t.val / 6, t.val % 6] :=
  (by decide +kernel : ∀ t : Fin grid0.N, _)

/-- What the body computes at one row and one column: one attention row over the key range it loads. -/
theorem pay_row (q k : FVec Ideal S256x256 .bf16) (v : FVec Ideal S256x128 .bf16) (r : Fin 256) (d : Fin 128)
    (s w : Fin 256 → EReal) (h1 : (fun j => ∑ x : Fin 256, (q (ix2 r x) : EReal) * k (ix2 j x)) = s)
    (h2 : (fun j => (v (ix2 j d) : EReal)) = w) :
    k0_pay1 (F := Ideal) q k v (ix2 r d) = Ideal.div (∑ j, Ideal.exp (s j - Finset.fold max ⊥ s Finset.univ) * w j)
      (∑ j, Ideal.exp (s j - Finset.fold max ⊥ s Finset.univ)) := by
  subst h1 h2
  rw [← AttnMath.ofBits_neg_inf]
  pointwise [k0_pay1]

/-- The query block at a grid point. -/
theorem read0 (c : Dev nD) (t : Fin cfg0.N) (a : Fin 256) (x : Fin 256) :
    iblk m c 0 t (ix2 a x) = m ((c : Thread nD τ).loc main_arg0)
      (ix2 ⟨16384 + (t.val / 6 * 256 + a.val), by have : t.val < 48 := t.isLt; omega⟩ ⟨t.val % 6 * 256 + x.val, by omega⟩) := by
  blk_ext [iblk, V, idx t]
/-- The keys at a grid point. -/
theorem read1 (c : Dev nD) (t : Fin cfg0.N) (a : Fin 256) (x : Fin 256) :
    iblk m c 1 t (ix2 a x) = m ((c : Thread nD τ).loc main_arg1)
      (ix2 ⟨16384 + (t.val / 6 * 256 + a.val), by have : t.val < 48 := t.isLt; omega⟩ ⟨t.val % 6 * 256 + x.val, by omega⟩) := by
  blk_ext [iblk, V, idx t]
/-- The values at a grid point. -/
theorem read2 (c : Dev nD) (t : Fin cfg0.N) (a : Fin 256) (x : Fin 128) :
    iblk m c 2 t (ix2 a x) = m ((c : Thread nD τ).loc main_arg2)
      (ix2 ⟨16384 + (t.val / 6 * 256 + a.val), by have : t.val < 48 := t.isLt; omega⟩ ⟨t.val % 6 * 128 + x.val, by omega⟩) := by
  blk_ext [iblk, V, idx t]

/-- Every query and every key the precondition speaks of is a real number. -/
theorem real_of_pre [Cert.Pre_finite_scores.Facts] (q : FVec Ideal S18432x1536 .bf16) (k : FVec Ideal S18432x1536 .bf16) (v : FVec Ideal S18432x768 .bf16)
    (h : (Cert.Pre_finite_scores.fn (F := Ideal) q k v).1 = (fun _ => 1#1) ∧ (Cert.Pre_finite_scores.fn (F := Ideal) q k v).2 = (fun _ => 1#1)) :
    (∀ i, AttnMath.IsReal (q i)) ∧ (∀ i, AttnMath.IsReal (k i)) := by
  refine ⟨fun i => AttnMath.real_of_mask ?_, fun i => AttnMath.real_of_mask ?_⟩
  · exact congrFun h.1 i
  · exact congrFun h.2 i

/-- What a grid point stores at a block index is the reference at the array index it sits at. -/
theorem point (c : Dev nD) (hq : ∀ i, AttnMath.IsReal (m ((c : Thread nD τ).loc main_arg0) i))
    (hk : ∀ i, AttnMath.IsReal (m ((c : Thread nD τ).loc main_arg1) i)) (t : Fin cfg0.N) (a : Fin 256) (x : Fin 128) :
    k0_pay1 (iblk m c 0 t) (iblk m c 1 t) (iblk m c 2 t) (ix2 a x)
      = Cert.MlaCtxRefIdeal.Read.val_main_v27 (F := Ideal) (m ((c : Thread nD τ).loc main_arg0)) (m ((c : Thread nD τ).loc main_arg1))
          (m ((c : Thread nD τ).loc main_arg2))
          (ix2 ⟨t.val / 6 * 256 + a.val, by have : t.val < 48 := t.isLt; omega⟩ ⟨t.val % 6 * 128 + x.val, by omega⟩) := by
  have ht : t.val < 48 := t.isLt
  refine (pay_row _ _ _ a x _ _ rfl rfl).trans ?_
  refine Eq.trans ?_ (Cert.MlaCtxRead.ref_row _ _ _ ⟨t.val / 6, by omega⟩ a ⟨t.val % 6, by omega⟩ x).symm
  refine AttnMath.row_one (by decide) _ _ _ _ (fun j => ?_) (fun j => ?_) (fun j => ?_)
  · refine (Cert.MlaCtxRead.s_read _ _ _ _ _ _).trans (Finset.sum_congr rfl fun z _ => ?_)
    rw [Cert.MlaCtxRead.k_read, Cert.MlaCtxRead.q_read, read0, read1, mul_comm]
  · rw [Cert.MlaCtxRead.v_read, read2]
  · exact AttnMath.dot_real _ _ (fun z => by rw [read0]; exact hq _) (fun z => by rw [read1]; exact hk _)

/-- The result array after the run is the reference of the argument arrays. -/
theorem final (c : Dev nD) (hq : ∀ i, AttnMath.IsReal (m ((c : Thread nD τ).loc main_arg0) i))
    (hk : ∀ i, AttnMath.IsReal (m ((c : Thread nD τ).loc main_arg1) i)) : (dats m 0 c).arrAt 3 (cfgs 0).N
    = Cert.MlaCtxRefIdeal.Read.val_main_v27 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]; frame_out
  idx_vars y
  refine (point m c hq hk t _ _).trans ?_
  blk_ext [idx t]

end Cert.MlaCtxIdeal.Value
end
-- ==== Proof.MlaCtxClaim.lean ====
/- What is claimed of `MlaCtx`, put together: the frames of the program, of its reading over the extended reals and of
   the reference, and that the two readings end with equal results. -/
module

public import proofs.«01_k».proof.Defs
public import proofs.«01_k».proof.Proof.Gen.MlaCtx.Frame
public import proofs.«01_k».proof.Proof.Gen.MlaCtxIdeal.Frame
public import proofs.«01_k».proof.Proof.Gen.MlaCtxIdeal.Value
public import proofs.«01_k».proof.Proof.Gen.MlaCtxRefIdeal.Run
public import proofs.«01_k».proof.Proof.Gen.MlaCtxRefIdeal.Read
public import proofs.«01_k».proof.Proof.MlaCtxValue
public import proofs.«01_k».proof.Proof.Gen.Pre_finite_scores
public import Idealize.ShloMosaic.Lib.Quiescent

@[expose] public section

noncomputable section

namespace Cert.Proof.MlaCtx

open Idealize.ShloMosaic Idealize.SL.Sem

/-- The reference ends with its arguments unchanged and, declaring no semaphore, with every counter at zero. -/
theorem ref_frame (m : (ℓ : Loc Cert.MlaCtxRefIdeal.nD Cert.MlaCtxRefIdeal.τ Cert.MlaCtxRefIdeal.sig) → Buf (Elt Ideal) ℓ) (g : Dev Cert.MlaCtxRefIdeal.nD → PrngReg) :
    θ_run (Cert.MlaCtxRefIdeal.defs (F := Ideal)) (onTc (τ := Cert.MlaCtxRefIdeal.τ) (Cert.MlaCtxRefIdeal.main (F := Ideal))) ⟨m, fun _ => 0, g⟩ (fun r =>
      (∀ c : Dev Cert.MlaCtxRefIdeal.nD, r.2.mem ((c.tc : Thread Cert.MlaCtxRefIdeal.nD Cert.MlaCtxRefIdeal.τ).loc Cert.MlaCtxRefIdeal.main_arg0) = m ((c.tc : Thread Cert.MlaCtxRefIdeal.nD Cert.MlaCtxRefIdeal.τ).loc Cert.MlaCtxRefIdeal.main_arg0)
        ∧ r.2.mem ((c.tc : Thread Cert.MlaCtxRefIdeal.nD Cert.MlaCtxRefIdeal.τ).loc Cert.MlaCtxRefIdeal.main_arg1) = m ((c.tc : Thread Cert.MlaCtxRefIdeal.nD Cert.MlaCtxRefIdeal.τ).loc Cert.MlaCtxRefIdeal.main_arg1)
        ∧ r.2.mem ((c.tc : Thread Cert.MlaCtxRefIdeal.nD Cert.MlaCtxRefIdeal.τ).loc Cert.MlaCtxRefIdeal.main_arg2) = m ((c.tc : Thread Cert.MlaCtxRefIdeal.nD Cert.MlaCtxRefIdeal.τ).loc Cert.MlaCtxRefIdeal.main_arg2))
      ∧ r.2.sem = fun _ => 0) :=
  (θ_run (Cert.MlaCtxRefIdeal.defs (F := Ideal)) _ _).mono
    (fun r h => ⟨fun c => (h c).2, sem_eq_zero_of_no_sems (by decide) r.2⟩) (Cert.MlaCtxRefIdeal.Value.run m g)

/-- The two readings end with equal results and unchanged arguments. -/
theorem algebraic [Cert.MlaCtxIdeal.Facts] [Cert.MlaCtxRefIdeal.Facts] [Cert.Pre_finite_scores.Facts] : Cert.algebraic_MlaCtxIdeal_MlaCtxRefIdeal_pre_finite_scores := by
  intro m g m' g' hpre hagree
  refine ⟨fun c => Cert.MlaCtxRefIdeal.Read.val_main_v27 (F := Ideal) (m ((c.tc : Thread Cert.MlaCtxIdeal.nD Cert.MlaCtxIdeal.τ).loc Cert.MlaCtxIdeal.main_arg0)) (m ((c.tc : Thread Cert.MlaCtxIdeal.nD Cert.MlaCtxIdeal.τ).loc Cert.MlaCtxIdeal.main_arg1)) (m ((c.tc : Thread Cert.MlaCtxIdeal.nD Cert.MlaCtxIdeal.τ).loc Cert.MlaCtxIdeal.main_arg2)), ?_, ?_⟩
  · refine (θ_run (Cert.MlaCtxIdeal.defs (F := Ideal)) _ _).mono (fun r h c => ?_) (Cert.MlaCtxIdeal.Value.run_blocks m g)
    have hr := Cert.MlaCtxIdeal.Value.real_of_pre _ _ _ (hpre c)
    exact ⟨(h c).1.trans (Cert.MlaCtxIdeal.Value.final m c hr.1 hr.2), (h c).2⟩
  · exact (θ_run (Cert.MlaCtxRefIdeal.defs (F := Ideal)) _ _).mono
      (fun r h c => ⟨(h c).1.trans ((Cert.MlaCtxRefIdeal.Read.val_main_v27_eq m' c).trans (by rw [(hagree c).1, (hagree c).2.1, (hagree c).2.2])), (h c).2⟩)
      (Cert.MlaCtxRefIdeal.Value.run m' g')

end Cert.Proof.MlaCtx

end
-- ==== Proof.GqaCtxRead.lean ====
module
public import proofs.«01_k».proof.Proof.Gen.GqaCtxRefIdeal.Read
public import proofs.«01_k».proof.Proof.AttnMath
public import Idealize.ShloMosaic.Lib.Pointwise

@[expose] public section
set_option maxRecDepth 16384
noncomputable section
open Idealize.ShloMosaic Idealize.ShloMosaic.TcCoe Idealize.SL.Sem
namespace Cert.GqaCtxRead
open Cert.GqaCtxRefIdeal Cert.GqaCtxRefIdeal.Gen Cert.GqaCtxRefIdeal.Read

abbrev A0 := (⟨S18432x768, .bf16⟩ : BufTy).Contents (Elt Ideal)
abbrev A1 := (⟨S18432x256, .bf16⟩ : BufTy).Contents (Elt Ideal)
abbrev A2 := (⟨S18432x3968, .bf16⟩ : BufTy).Contents (Elt Ideal)

/-- The query of a context row, head and column, in the arguments. -/
theorem q_read (q : A0) (b : Fin 8) (r : Fin 256) (h : Fin 2) (e : Fin 3) (x : Fin 128) :
    val_main_v10 q (ix5 b r h e x) = q (ix2 ⟨16384 + (b.val * 256 + r.val), by omega⟩ ⟨(h.val * 3 + e.val) * 128 + x.val, by omega⟩) := by
  pointwise [val_main_v10, val_main_v3, val_main_v2, val_main_v1]

/-- A context key. -/
theorem k_read (k : A1) (b : Fin 8) (j : Fin 256) (h : Fin 2) (x : Fin 128) :
    val_main_v6 k (ix4 b j h x) = k (ix2 ⟨16384 + (b.val * 256 + j.val), by omega⟩ ⟨h.val * 128 + x.val, by omega⟩) := by
  pointwise [val_main_v6, val_main_v5, val_main_v4]

/-- A context value. -/
theorem v_read (v : A2) (b : Fin 8) (j : Fin 256) (h : Fin 2) (x : Fin 128) :
    val_main_v9 v (ix4 b j h x) = v (ix2 ⟨16384 + (b.val * 256 + j.val), by omega⟩ ⟨3584 + (h.val * 128 + x.val), by omega⟩) := by
  pointwise [val_main_v9, val_main_v8, val_main_v7, val_main_v0]

/-- A score: the dot product of a query and a key. -/
theorem s_read (q : A0) (k : A1) (b : Fin 8) (r : Fin 256) (h : Fin 2) (e : Fin 3) (j : Fin 256) :
    val_main_v12 q k (ix5 b h e r j) = ∑ x : Fin 128, val_main_v6 k (ix4 b j h x) * val_main_v10 q (ix5 b r h e x) := by
  pointwise [val_main_v12, val_main_v11]

/-- The largest score of a row, folded from minus infinity. -/
theorem mx_read (q : A0) (k : A1) (b : Fin 8) (r : Fin 256) (h : Fin 2) (e : Fin 3) :
    val_main_v13 q k (ix4 b h e r) = Finset.fold max ⊥ (fun j : Fin 256 => val_main_v12 q k (ix5 b h e r j)) Finset.univ := by
  unfold val_main_v13
  generalize val_main_v12 q k = y
  rw [← AttnMath.ofBits_neg_inf]
  exact AttnMath.reduce_last y _ _ _ b h e r

/-- The largest score of a row. -/
theorem m_read (q : A0) (k : A1) (b : Fin 8) (r : Fin 256) (h : Fin 2) (e : Fin 3) :
    val_main_v15 q k (ix4 b h e r) = max ⊥ (val_main_v13 q k (ix4 b h e r)) := by
  rw [val_main_v15_apply, val_main_v14_apply, val_main_cst_0_apply]
  exact congrArg (fun z : EReal => max z (val_main_v13 q k (ix4 b h e r))) AttnMath.ofBits_neg_inf

/-- The exponential of a score less the largest. -/
theorem p_read (q : A0) (k : A1) (b : Fin 8) (r : Fin 256) (h : Fin 2) (e : Fin 3) (j : Fin 256) :
    val_main_v19 q k (ix5 b h e r j) = Ideal.exp (val_main_v12 q k (ix5 b h e r j) - val_main_v15 q k (ix4 b h e r)) := by
  pointwise [val_main_v19, val_main_v18, val_main_v17, val_main_v16]

/-- The sum of a row's exponentials. -/
theorem d_read (q : A0) (k : A1) (b : Fin 8) (r : Fin 256) (h : Fin 2) (e : Fin 3) :
    val_main_v20 q k (ix4 b h e r) = ∑ j, val_main_v19 q k (ix5 b h e r j) := by
  pointwise [val_main_v20, val_main_cst_1]

/-- The result: the values weighted by the exponentials over their sum. -/
theorem o_read (q : A0) (k : A1) (v : A2) (b : Fin 8) (r : Fin 256) (h : Fin 2) (e : Fin 3) (x : Fin 128) :
    val_main_v28 q k v (ix2 ⟨b.val * 256 + r.val, by omega⟩ ⟨(h.val * 3 + e.val) * 128 + x.val, by omega⟩)
      = ∑ j, val_main_v9 v (ix4 b j h x) * Ideal.div (val_main_v19 q k (ix5 b h e r j)) (val_main_v20 q k (ix4 b h e r)) := by
  pointwise [val_main_v28, val_main_v27, val_main_v26, val_main_v25, val_main_v24, val_main_v23, val_main_v22, val_main_v21]

/-- The reference at one query row and one value column is one attention row. -/
theorem ref_row (q : A0) (k : A1) (v : A2) (b : Fin 8) (r : Fin 256) (h : Fin 2) (e : Fin 3) (x : Fin 128) :
    val_main_v28 q k v (ix2 ⟨b.val * 256 + r.val, by omega⟩ ⟨(h.val * 3 + e.val) * 128 + x.val, by omega⟩)
      = ∑ j, val_main_v9 v (ix4 b j h x) * Ideal.div
          (Ideal.exp (val_main_v12 q k (ix5 b h e r j) - max ⊥ (Finset.fold max ⊥ (fun j : Fin 256 => val_main_v12 q k (ix5 b h e r j)) Finset.univ)))
          (0 + ∑ i, Ideal.exp (val_main_v12 q k (ix5 b h e r i) - max ⊥ (Finset.fold max ⊥ (fun j : Fin 256 => val_main_v12 q k (ix5 b h e r j)) Finset.univ))) := by
  rw [o_read]
  simp only [p_read, d_read, m_read, mx_read, zero_add]

end Cert.GqaCtxRead
end
-- ==== Proof.GqaCtxValue.lean ====
module
public import proofs.«01_k».proof.Proof.Gen.GqaCtxIdeal.Frame
public import proofs.«01_k».proof.Proof.GqaCtxRead
public import proofs.«01_k».proof.Pre_finite_gqa
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.GqaCtxIdeal.Value
open Cert.GqaCtxIdeal Cert.GqaCtxIdeal.Gen
variable (m : (ℓ : Loc nD τ sig) → Buf (Elt Ideal) ℓ)

/-- The windows' block indices at every grid point: the batch and the head are the digits of the point. -/
theorem idx : ∀ t : Fin cfg0.N, win0_0.index t = ![64 + t.val / 6, t.val % 6] ∧ win0_1.index t = ![64 + t.val / 6, t.val % 6 / 3]
    ∧ win0_2.index t = ![64 + t.val / 6, 28 + t.val % 6 / 3] ∧ win0_3.index t = ![t.val / 6, t.val % 6] :=
  (by decide +kernel : ∀ t : Fin grid0.N, _)

/-- What the body computes at one row and one column: one attention row over the key range it loads. -/
theorem pay_row (q k : FVec Ideal S256x128 .bf16) (v : FVec Ideal S256x128 .bf16) (r : Fin 256) (d : Fin 128)
    (s w : Fin 256 → EReal) (h1 : (fun j => ∑ x : Fin 128, (q (ix2 r x) : EReal) * k (ix2 j x)) = s)
    (h2 : (fun j => (v (ix2 j d) : EReal)) = w) :
    k0_pay1 (F := Ideal) q k v (ix2 r d) = Ideal.div (∑ j, Ideal.exp (s j - Finset.fold max ⊥ s Finset.univ) * w j)
      (∑ j, Ideal.exp (s j - Finset.fold max ⊥ s Finset.univ)) := by
  subst h1 h2
  rw [← AttnMath.ofBits_neg_inf]
  pointwise [k0_pay1]

/-- The query block at a grid point. -/
theorem read0 (c : Dev nD) (t : Fin cfg0.N) (a : Fin 256) (x : Fin 128) :
    iblk m c 0 t (ix2 a x) = m ((c : Thread nD τ).loc main_arg0)
      (ix2 ⟨16384 + (t.val / 6 * 256 + a.val), by have : t.val < 48 := t.isLt; omega⟩ ⟨t.val % 6 * 128 + x.val, by omega⟩) := by
  blk_ext [iblk, V, idx t]
/-- The keys at a grid point. -/
theorem read1 (c : Dev nD) (t : Fin cfg0.N) (a : Fin 256) (x : Fin 128) :
    iblk m c 1 t (ix2 a x) = m ((c : Thread nD τ).loc main_arg1)
      (ix2 ⟨16384 + (t.val / 6 * 256 + a.val), by have : t.val < 48 := t.isLt; omega⟩ ⟨t.val % 6 / 3 * 128 + x.val, by omega⟩) := by
  blk_ext [iblk, V, idx t]
/-- The values at a grid point. -/
theorem read2 (c : Dev nD) (t : Fin cfg0.N) (a : Fin 256) (x : Fin 128) :
    iblk m c 2 t (ix2 a x) = m ((c : Thread nD τ).loc main_arg2)
      (ix2 ⟨16384 + (t.val / 6 * 256 + a.val), by have : t.val < 48 := t.isLt; omega⟩ ⟨3584 + (t.val % 6 / 3 * 128 + x.val), by omega⟩) := by
  blk_ext [iblk, V, idx t]

/-- Every query and every key the precondition speaks of is a real number. -/
theorem real_of_pre [Cert.Pre_finite_gqa.Facts] (q : FVec Ideal S18432x768 .bf16) (k : FVec Ideal S18432x256 .bf16) (v : FVec Ideal S18432x3968 .bf16)
    (h : (Cert.Pre_finite_gqa.fn (F := Ideal) q k v).1 = (fun _ => 1#1) ∧ (Cert.Pre_finite_gqa.fn (F := Ideal) q k v).2 = (fun _ => 1#1)) :
    (∀ i, AttnMath.IsReal (q i)) ∧ (∀ i, AttnMath.IsReal (k i)) := by
  refine ⟨fun i => AttnMath.real_of_mask ?_, fun i => AttnMath.real_of_mask ?_⟩
  · exact congrFun h.1 i
  · exact congrFun h.2 i

/-- What a grid point stores at a block index is the reference at the array index it sits at. -/
theorem point (c : Dev nD) (hq : ∀ i, AttnMath.IsReal (m ((c : Thread nD τ).loc main_arg0) i))
    (hk : ∀ i, AttnMath.IsReal (m ((c : Thread nD τ).loc main_arg1) i)) (t : Fin cfg0.N) (a : Fin 256) (x : Fin 128) :
    k0_pay1 (iblk m c 0 t) (iblk m c 1 t) (iblk m c 2 t) (ix2 a x)
      = Cert.GqaCtxRefIdeal.Read.val_main_v28 (F := Ideal) (m ((c : Thread nD τ).loc main_arg0)) (m ((c : Thread nD τ).loc main_arg1))
          (m ((c : Thread nD τ).loc main_arg2))
          (ix2 ⟨t.val / 6 * 256 + a.val, by have : t.val < 48 := t.isLt; omega⟩ ⟨(t.val % 6 / 3 * 3 + t.val % 3) * 128 + x.val, by omega⟩) := by
  have ht : t.val < 48 := t.isLt
  refine (pay_row _ _ _ a x _ _ rfl rfl).trans ?_
  refine Eq.trans ?_ (Cert.GqaCtxRead.ref_row _ _ _ ⟨t.val / 6, by omega⟩ a ⟨t.val % 6 / 3, by omega⟩ ⟨t.val % 3, by omega⟩ x).symm
  refine AttnMath.row_one (by decide) _ _ _ _ (fun j => ?_) (fun j => ?_) (fun j => ?_)
  · refine (Cert.GqaCtxRead.s_read _ _ _ _ _ _ _).trans (Finset.sum_congr rfl fun z _ => ?_)
    rw [Cert.GqaCtxRead.k_read, Cert.GqaCtxRead.q_read, read0, read1, mul_comm]
    refine congrArg₂ (· * ·) ?_ rfl
    blk_ext
  · rw [Cert.GqaCtxRead.v_read, read2]
  · exact AttnMath.dot_real _ _ (fun z => by rw [read0]; exact hq _) (fun z => by rw [read1]; exact hk _)

/-- The result array after the run is the reference of the argument arrays. -/
theorem final (c : Dev nD) (hq : ∀ i, AttnMath.IsReal (m ((c : Thread nD τ).loc main_arg0) i))
    (hk : ∀ i, AttnMath.IsReal (m ((c : Thread nD τ).loc main_arg1) i)) : (dats m 0 c).arrAt 3 (cfgs 0).N
    = Cert.GqaCtxRefIdeal.Read.val_main_v28 (F := Ideal) (m ((c : Thread nD τ).loc main_arg0)) (m ((c : Thread nD τ).loc main_arg1))
          (m ((c : Thread nD τ).loc main_arg2)) := by
  refine (dats m 0 c).arrAt_eq_of_covers 3 _ (by decide +kernel) fun t _ y => ?_
  blk_simp
  rw [after0_3]; frame_out
  idx_vars y
  refine (point m c hq hk t _ _).trans ?_
  blk_ext [idx t]

end Cert.GqaCtxIdeal.Value
end
-- ==== Proof.GqaCtxClaim.lean ====
/- What is claimed of `GqaCtx`, put together: the frames of the program, of its reading over the extended reals and of
   the reference, and that the two readings end with equal results. -/
module

public import proofs.«01_k».proof.Defs
public import proofs.«01_k».proof.Proof.Gen.GqaCtx.Frame
public import proofs.«01_k».proof.Proof.Gen.GqaCtxIdeal.Frame
public import proofs.«01_k».proof.Proof.Gen.GqaCtxIdeal.Value
public import proofs.«01_k».proof.Proof.Gen.GqaCtxRefIdeal.Run
public import proofs.«01_k».proof.Proof.Gen.GqaCtxRefIdeal.Read
public import proofs.«01_k».proof.Proof.GqaCtxValue
public import proofs.«01_k».proof.Proof.Gen.Pre_finite_gqa
public import Idealize.ShloMosaic.Lib.Quiescent

@[expose] public section

noncomputable section

namespace Cert.Proof.GqaCtx

open Idealize.ShloMosaic Idealize.SL.Sem

/-- The reference ends with its arguments unchanged and, declaring no semaphore, with every counter at zero. -/
theorem ref_frame (m : (ℓ : Loc Cert.GqaCtxRefIdeal.nD Cert.GqaCtxRefIdeal.τ Cert.GqaCtxRefIdeal.sig) → Buf (Elt Ideal) ℓ) (g : Dev Cert.GqaCtxRefIdeal.nD → PrngReg) :
    θ_run (Cert.GqaCtxRefIdeal.defs (F := Ideal)) (onTc (τ := Cert.GqaCtxRefIdeal.τ) (Cert.GqaCtxRefIdeal.main (F := Ideal))) ⟨m, fun _ => 0, g⟩ (fun r =>
      (∀ c : Dev Cert.GqaCtxRefIdeal.nD, r.2.mem ((c.tc : Thread Cert.GqaCtxRefIdeal.nD Cert.GqaCtxRefIdeal.τ).loc Cert.GqaCtxRefIdeal.main_arg0) = m ((c.tc : Thread Cert.GqaCtxRefIdeal.nD Cert.GqaCtxRefIdeal.τ).loc Cert.GqaCtxRefIdeal.main_arg0)
        ∧ r.2.mem ((c.tc : Thread Cert.GqaCtxRefIdeal.nD Cert.GqaCtxRefIdeal.τ).loc Cert.GqaCtxRefIdeal.main_arg1) = m ((c.tc : Thread Cert.GqaCtxRefIdeal.nD Cert.GqaCtxRefIdeal.τ).loc Cert.GqaCtxRefIdeal.main_arg1)
        ∧ r.2.mem ((c.tc : Thread Cert.GqaCtxRefIdeal.nD Cert.GqaCtxRefIdeal.τ).loc Cert.GqaCtxRefIdeal.main_arg2) = m ((c.tc : Thread Cert.GqaCtxRefIdeal.nD Cert.GqaCtxRefIdeal.τ).loc Cert.GqaCtxRefIdeal.main_arg2))
      ∧ r.2.sem = fun _ => 0) :=
  (θ_run (Cert.GqaCtxRefIdeal.defs (F := Ideal)) _ _).mono
    (fun r h => ⟨fun c => (h c).2, sem_eq_zero_of_no_sems (by decide) r.2⟩) (Cert.GqaCtxRefIdeal.Value.run m g)

/-- The two readings end with equal results and unchanged arguments. -/
theorem algebraic [Cert.GqaCtxIdeal.Facts] [Cert.GqaCtxRefIdeal.Facts] [Cert.Pre_finite_gqa.Facts] : Cert.algebraic_GqaCtxIdeal_GqaCtxRefIdeal_pre_finite_gqa := by
  intro m g m' g' hpre hagree
  refine ⟨fun c => Cert.GqaCtxRefIdeal.Read.val_main_v28 (F := Ideal) (m ((c.tc : Thread Cert.GqaCtxIdeal.nD Cert.GqaCtxIdeal.τ).loc Cert.GqaCtxIdeal.main_arg0)) (m ((c.tc : Thread Cert.GqaCtxIdeal.nD Cert.GqaCtxIdeal.τ).loc Cert.GqaCtxIdeal.main_arg1)) (m ((c.tc : Thread Cert.GqaCtxIdeal.nD Cert.GqaCtxIdeal.τ).loc Cert.GqaCtxIdeal.main_arg2)), ?_, ?_⟩
  · refine (θ_run (Cert.GqaCtxIdeal.defs (F := Ideal)) _ _).mono (fun r h c => ?_) (Cert.GqaCtxIdeal.Value.run_blocks m g)
    have hr := Cert.GqaCtxIdeal.Value.real_of_pre _ _ _ (hpre c)
    exact ⟨(h c).1.trans (Cert.GqaCtxIdeal.Value.final m c hr.1 hr.2), (h c).2⟩
  · exact (θ_run (Cert.GqaCtxRefIdeal.defs (F := Ideal)) _ _).mono
      (fun r h c => ⟨(h c).1.trans ((Cert.GqaCtxRefIdeal.Read.val_main_v28_eq m' c).trans (by rw [(hagree c).1, (hagree c).2.1, (hagree c).2.2])), (h c).2⟩)
      (Cert.GqaCtxRefIdeal.Value.run m' g')

end Cert.Proof.GqaCtx

end
-- ==== Proof.RealMath.lean ====
/- The row norm and the modulated row are real numbers for real gains, scales and shifts, over the extended reals. -/
module
public import proofs.«01_k».proof.Proof.NormMath

@[expose] public section
noncomputable section
open Idealize.ShloMosaic Idealize.SL.Sem
namespace Cert.RealMath
open Cert.AttnMath (IsReal)

/-- A sum of two reals is a real. -/
theorem add {x y : EReal} (hx : IsReal x) (hy : IsReal y) : IsReal (x + y) := by
  obtain ⟨a, rfl⟩ := hx; obtain ⟨b, rfl⟩ := hy; exact ⟨a + b, (EReal.coe_add a b).symm⟩

/-- A product of two reals is a real. -/
theorem mul {x y : EReal} (hx : IsReal x) (hy : IsReal y) : IsReal (x * y) := by
  obtain ⟨a, rfl⟩ := hx; obtain ⟨b, rfl⟩ := hy; exact ⟨a * b, (EReal.coe_mul a b).symm⟩

/-- A real less itself is zero. -/
theorem sub_self {x : EReal} (hx : IsReal x) : x - x = 0 := by
  obtain ⟨a, rfl⟩ := hx; rw [← EReal.coe_sub, _root_.sub_self]; rfl

/-- The sum of a real row's squares is a real that is not negative. -/
theorem sum_sq {n : ℕ} (x : Fin n → EReal) (hx : ∀ j, IsReal (x j)) : ∃ s : ℝ, 0 ≤ s ∧ ∑ j, x j * x j = s := by
  choose y hy using hx
  refine ⟨∑ j, y j * y j, Finset.sum_nonneg fun j _ => mul_self_nonneg _, ?_⟩
  simp only [hy, ← EReal.coe_mul]
  exact (map_sum (⟨⟨fun r : ℝ => (r : EReal), EReal.coe_zero⟩, EReal.coe_add⟩ : ℝ →+ EReal) (fun j => y j * y j) Finset.univ).symm

/-- The row length, as the programs write it. -/
theorem len : Ideal.ofBits .f32 0x45000000#32 = ((2048 : ℝ) : EReal) := by
  simp [Ideal.ofBits, Ideal.ieee]
  rw [← EReal.coe_mul]
  norm_num

/-- The constant under the root is a positive real. -/
theorem eps : ∃ e : ℝ, 0 < e ∧ Ideal.ofBits .f32 0x358637BD#32 = e := by
  refine ⟨8796093 * (1 / 8796093022208), by norm_num, ?_⟩
  simp [Ideal.ofBits, Ideal.ieee]
  norm_num

/-- One, as the programs write it, is a real. -/
theorem one : IsReal (Ideal.ofBits .f32 0x3F800000#32) := by
  refine ⟨8388608 * (2 ^ 23)⁻¹, ?_⟩
  simp [Ideal.ofBits, Ideal.ieee]

/-- The sum of a row's squares is plus infinity if the row holds an infinity. -/
theorem sum_sq_top {n : ℕ} (x : Fin n → EReal) (j : Fin n) (h : x j * x j = ⊤) : ∑ j, x j * x j = ⊤ := by
  refine top_le_iff.mp (h ▸ Finset.single_le_sum (f := fun j => x j * x j) (fun i _ => ?_) (Finset.mem_univ j))
  show 0 ≤ x i * x i
  rcases le_total 0 (x i) with h | h
  · exact EReal.mul_nonneg h h
  · rw [← neg_mul_neg]
    exact EReal.mul_nonneg (EReal.neg_nonneg.mpr h) (EReal.neg_nonneg.mpr h)

/-- A row over its root mean square is real, whatever the row: an infinity in it makes the root infinite and every quotient zero. -/
theorem quot (x : Fin 2048 → EReal) (k : Fin 2048) :
    IsReal (x k * Ideal.rsqrt (Ideal.div (∑ j, x j * x j) (Ideal.ofBits .f32 0x45000000#32) + Ideal.ofBits .f32 0x358637BD#32)) := by
  obtain ⟨c, hc, e'⟩ := eps
  by_cases hx : ∀ j, IsReal (x j)
  · obtain ⟨s, hs, e⟩ := sum_sq x hx
    rw [e, e', len, Ideal.div_coe (by norm_num), ← EReal.coe_mul, ← EReal.coe_add]
    refine mul (hx k) ?_
    have hp : 0 < s * (1 / 2048) + c := by positivity
    rw [Ideal.rsqrt_coe, if_neg (not_lt.mpr hp.le), if_neg hp.ne']
    exact ⟨_, rfl⟩
  · obtain ⟨j, hj⟩ := not_forall.mp hx
    have h : x j * x j = ⊤ := by
      induction hz : x j using EReal.rec with
      | bot => rfl
      | top => rfl
      | coe r => exact absurd ⟨r, hz⟩ hj
    rw [sum_sq_top x j h, e', len, Ideal.div_coe (by norm_num), EReal.top_mul_coe_of_pos (by norm_num), EReal.top_add_coe]
    exact ⟨0, mul_zero _⟩

/-- Times a real gain it is real. -/
theorem norm (x g : Fin 2048 → EReal) (hg : ∀ j, IsReal (g j)) (k : Fin 2048) : IsReal (NormMath.norm x g k) :=
  mul (quot x k) (hg k)

/-- The modulated row is real for real gains, scales and shifts. -/
theorem modulated (x g sc sh : Fin 2048 → EReal) (hg : ∀ j, IsReal (g j)) (hc : ∀ j, IsReal (sc j))
    (hs : ∀ j, IsReal (sh j)) (k : Fin 2048) : IsReal (NormMath.modulated x g sc sh k) :=
  add (mul (norm x g hg k) (add one (hc k))) (hs k)

end Cert.RealMath
end
-- ==== Proof.LogitsRead.lean ====
/- The router logits' reference read at a row: the joined heads times the weight, the residual with its gate, the second
   norm, and the router's product, for the latent rows, the context rows, and then for any row. -/
module
public import proofs.«01_k».proof.Proof.Gen.LogitsRefIdeal.Read
public import proofs.«01_k».proof.Proof.NormMath
public import Idealize.ShloMosaic.Lib.Pointwise

@[expose] public section
set_option maxRecDepth 16384
noncomputable section
open Idealize.ShloMosaic Idealize.ShloMosaic.TcCoe Idealize.SL.Sem
namespace Cert.LogitsRead
open Cert.LogitsRefIdeal Cert.LogitsRefIdeal.Gen Cert.LogitsRefIdeal.Read

abbrev H := (⟨S18432x512, .bf16⟩ : BufTy).Contents (Elt Ideal)
abbrev A := (⟨S18432x768, .bf16⟩ : BufTy).Contents (Elt Ideal)
abbrev W := (⟨S2048x2048, .f32⟩ : BufTy).Contents (Elt Ideal)
abbrev X := (⟨S18432x2048, .f32⟩ : BufTy).Contents (Elt Ideal)
abbrev G := (⟨S2048, .f32⟩ : BufTy).Contents (Elt Ideal)
abbrev M := (⟨S16x6x2048, .f32⟩ : BufTy).Contents (Elt Ideal)
variable (ho : H) (mo go : A) (w : W) (x : X) (g1 g2 : G) (md : M)

/-- The first heads' columns of the joined row. -/
theorem cat_a (i : Fin 18432) (k : Fin 512) : val_main_v3 ho mo go (ix2 i ⟨k.val, by omega⟩) = ho (ix2 i k) := by
  pointwise [val_main_v3, val_main_v2, val_main_v1, val_main_v0]
/-- The latent attention's columns of the joined row. -/
theorem cat_b (i : Fin 18432) (k : Fin 768) : val_main_v3 ho mo go (ix2 i ⟨512 + k.val, by omega⟩) = mo (ix2 i k) := by
  pointwise [val_main_v3, val_main_v2, val_main_v1, val_main_v0]
/-- The grouped attention's columns of the joined row. -/
theorem cat_c (i : Fin 18432) (k : Fin 768) : val_main_v3 ho mo go (ix2 i ⟨1280 + k.val, by omega⟩) = go (ix2 i k) := by
  pointwise [val_main_v3, val_main_v2, val_main_v1, val_main_v0]
  rw [dif_neg (by omega), dif_neg (by omega)]
  exact congrArg go (congrArg (ix2 i) (Fin.ext (by (try simp only) <;> omega)))

/-- The joined row times the weight. -/
theorem mix_dot (i : Fin 18432) (j : Fin 2048) : val_main_v4 ho mo go w (ix2 i j) = ∑ k : Fin 2048, val_main_v3 ho mo go (ix2 i k) * w (ix2 k j) := by
  pointwise [val_main_v4]

/-- The same, one sum for each kind of head. -/
theorem mix_read (i : Fin 18432) (j : Fin 2048) : val_main_v4 ho mo go w (ix2 i j)
    = (∑ k : Fin 512, (ho (ix2 i k) : EReal) * w (ix2 ⟨k.val, by omega⟩ j) + ∑ k : Fin 768, (mo (ix2 i k) : EReal) * w (ix2 ⟨512 + k.val, by omega⟩ j))
      + ∑ k : Fin 768, (go (ix2 i k) : EReal) * w (ix2 ⟨1280 + k.val, by omega⟩ j) := by
  rw [mix_dot]
  refine (Fin.sum_univ_add (M := EReal) (a := 1280) (b := 768) (fun k => val_main_v3 ho mo go (ix2 i k) * w (ix2 k j))).trans ?_
  refine congrArg₂ (fun a b : EReal => a + b) ((Fin.sum_univ_add (M := EReal) (a := 512) (b := 768)
    (fun k : Fin 1280 => val_main_v3 ho mo go (ix2 i (Fin.castAdd 768 k)) * w (ix2 (Fin.castAdd 768 k) j))).trans
      (congrArg₂ (fun a b : EReal => a + b) ?_ ?_)) ?_
  · exact Finset.sum_congr rfl fun k _ => congrArg (fun z : EReal => z * w (ix2 ⟨k.val, by omega⟩ j)) (cat_a ho mo go i k)
  · exact Finset.sum_congr rfl fun k _ => congrArg (fun z : EReal => z * w (ix2 ⟨512 + k.val, by omega⟩ j)) (cat_b ho mo go i k)
  · exact Finset.sum_congr rfl fun k _ => congrArg (fun z : EReal => z * w (ix2 ⟨1280 + k.val, by omega⟩ j)) (cat_c ho mo go i k)

/-- Which row of the modulation table a token row reads. -/
def sel (i : Fin 18432) : Fin 16 := if h : i.val < 16384 then ⟨i.val / 2048, by omega⟩ else 8

/-- The joined product at a latent row. -/
theorem mix_lat (b : Fin 8) (r : Fin 2048) (k : Fin 2048) : val_main_v6 ho mo go w (ix3 b r k) = val_main_v4 ho mo go w (ix2 ⟨b.val * 2048 + r.val, by omega⟩ k) := by
  pointwise [val_main_v6, val_main_v5]
/-- The sum of its squares. -/
theorem mss_lat (b : Fin 8) (r : Fin 2048) : val_main_v17 ho mo go w (ix2 b r) = ∑ j : Fin 2048, val_main_v6 ho mo go w (ix3 b r j) * val_main_v6 ho mo go w (ix3 b r j) := by
  pointwise [val_main_v17, val_main_v16, val_main_cst]
/-- The residual at a latent row. -/
theorem x_lat (b : Fin 8) (r : Fin 2048) (k : Fin 2048) : val_main_v31 ho mo go w x g1 md (ix3 b r k)
    = (x (ix2 ⟨b.val * 2048 + r.val, by omega⟩ k) : EReal) + md (ix3 ⟨b.val, by omega⟩ 2 k) * NormMath.norm (fun j => val_main_v4 ho mo go w (ix2 ⟨b.val * 2048 + r.val, by omega⟩ j)) (fun j => g1 (ix1 j)) k := by
  unfold NormMath.norm
  simp only [← mix_lat]
  rw [← mss_lat]
  pointwise [val_main_v31, val_main_v30, val_main_v29, val_main_v28, val_main_v27, val_main_v26, val_main_v25, val_main_v24, val_main_v23, val_main_v22, val_main_v21, val_main_v20, val_main_v19, val_main_v18, val_main_v15, val_main_v14, val_main_v13, val_main_v10, val_main_v9, val_main_cst_0, val_main_cst_1]
/-- The sum of the residual's squares. -/
theorem xss_lat (b : Fin 8) (r : Fin 2048) : val_main_v52 ho mo go w x g1 md (ix2 b r)
    = ∑ j : Fin 2048, val_main_v31 ho mo go w x g1 md (ix3 b r j) * val_main_v31 ho mo go w x g1 md (ix3 b r j) := by
  pointwise [val_main_v52, val_main_v51, val_main_cst_5]
/-- The second norm at a latent row. -/
theorem f_lat (b : Fin 8) (r : Fin 2048) (k : Fin 2048) : val_main_v75 ho mo go w x g1 g2 md (ix3 b r k)
    = NormMath.modulated (fun j => val_main_v31 ho mo go w x g1 md (ix3 b r j)) (fun j => g2 (ix1 j)) (fun k => md (ix3 ⟨b.val, by omega⟩ 4 k)) (fun k => md (ix3 ⟨b.val, by omega⟩ 3 k)) k := by
  unfold NormMath.modulated NormMath.norm
  rw [← xss_lat]
  pointwise [val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_cst_6, val_main_cst_7, val_main_cst_8]

/-- The joined product at a context row. -/
theorem mix_ctx (b : Fin 8) (r : Fin 256) (k : Fin 2048) : val_main_v8 ho mo go w (ix3 b r k) = val_main_v4 ho mo go w (ix2 ⟨16384 + (b.val * 256 + r.val), by omega⟩ k) := by
  pointwise [val_main_v8, val_main_v7]
/-- The sum of its squares. -/
theorem mss_ctx (b : Fin 8) (r : Fin 256) : val_main_v35 ho mo go w (ix2 b r) = ∑ j : Fin 2048, val_main_v8 ho mo go w (ix3 b r j) * val_main_v8 ho mo go w (ix3 b r j) := by
  pointwise [val_main_v35, val_main_v34, val_main_cst_2]
/-- The residual at a context row. -/
theorem x_ctx (b : Fin 8) (r : Fin 256) (k : Fin 2048) : val_main_v50 ho mo go w x g1 md (ix3 b r k)
    = (x (ix2 ⟨16384 + (b.val * 256 + r.val), by omega⟩ k) : EReal) + md (ix3 8 2 k) * NormMath.norm (fun j => val_main_v4 ho mo go w (ix2 ⟨16384 + (b.val * 256 + r.val), by omega⟩ j)) (fun j => g1 (ix1 j)) k := by
  unfold NormMath.norm
  simp only [← mix_ctx]
  rw [← mss_ctx]
  pointwise [val_main_v50, val_main_v49, val_main_v48, val_main_v47, val_main_v46, val_main_v45, val_main_v44, val_main_v43, val_main_v42, val_main_v41, val_main_v40, val_main_v39, val_main_v38, val_main_v37, val_main_v36, val_main_v33, val_main_v32, val_main_v12, val_main_v11, val_main_cst_3, val_main_cst_4]
/-- The sum of the residual's squares. -/
theorem xss_ctx (b : Fin 8) (r : Fin 256) : val_main_v77 ho mo go w x g1 md (ix2 b r)
    = ∑ j : Fin 2048, val_main_v50 ho mo go w x g1 md (ix3 b r j) * val_main_v50 ho mo go w x g1 md (ix3 b r j) := by
  pointwise [val_main_v77, val_main_v76, val_main_cst_9]
/-- The second norm at a context row. -/
theorem f_ctx (b : Fin 8) (r : Fin 256) (k : Fin 2048) : val_main_v100 ho mo go w x g1 g2 md (ix3 b r k)
    = NormMath.modulated (fun j => val_main_v50 ho mo go w x g1 md (ix3 b r j)) (fun j => g2 (ix1 j)) (fun k => md (ix3 8 4 k)) (fun k => md (ix3 8 3 k)) k := by
  unfold NormMath.modulated NormMath.norm
  rw [← xss_ctx]
  pointwise [val_main_v100, val_main_v99, val_main_v98, val_main_v97, val_main_v96, val_main_v95, val_main_v94, val_main_v93, val_main_v92, val_main_v91, val_main_v90, val_main_v89, val_main_v88, val_main_v87, val_main_v86, val_main_v85, val_main_v84, val_main_v83, val_main_v82, val_main_v81, val_main_v80, val_main_v79, val_main_v78, val_main_cst_10, val_main_cst_11, val_main_cst_12]

/-- The residual's row of any token, written out. -/
def xrow (i : Fin 18432) (k : Fin 2048) : EReal :=
  (x (ix2 i k) : EReal) + md (ix3 (sel i) 2 k) * NormMath.norm (fun j => val_main_v4 ho mo go w (ix2 i j)) (fun j => g1 (ix1 j)) k

/-- The latent rows of the normalised tokens. -/
theorem o2_lat (b : Fin 8) (r : Fin 2048) (k : Fin 2048) : val_main_v103 ho mo go w x g1 g2 md (ix2 ⟨b.val * 2048 + r.val, by omega⟩ k)
    = val_main_v75 ho mo go w x g1 g2 md (ix3 b r k) := by
  pointwise [val_main_v103, val_main_v101]
  exact dif_pos (by omega)
/-- The context rows, still joined. -/
theorem o2_join (i : Fin 2048) (k : Fin 2048) : val_main_v103 ho mo go w x g1 g2 md (ix2 ⟨16384 + i.val, by omega⟩ k)
    = val_main_v102 ho mo go w x g1 g2 md (ix2 i k) := by
  pointwise [val_main_v103]
/-- The context rows of the normalised tokens. -/
theorem o2_ctx (b : Fin 8) (r : Fin 256) (k : Fin 2048) : val_main_v103 ho mo go w x g1 g2 md (ix2 ⟨16384 + (b.val * 256 + r.val), by omega⟩ k)
    = val_main_v100 ho mo go w x g1 g2 md (ix3 b r k) := by
  refine (o2_join ho mo go w x g1 g2 md ⟨b.val * 256 + r.val, by omega⟩ k).trans ?_
  pointwise [val_main_v102]

/-- The normalised tokens at any row: the residual's row, normalised and modulated. -/
theorem f_read (i : Fin 18432) (k : Fin 2048) : val_main_v103 ho mo go w x g1 g2 md (ix2 i k)
    = NormMath.modulated (xrow ho mo go w x g1 md i) (fun j => g2 (ix1 j)) (fun k => md (ix3 (sel i) 4 k)) (fun k => md (ix3 (sel i) 3 k)) k := by
  by_cases h : i.val < 16384
  · have hi : i = ⟨(⟨i.val / 2048, by omega⟩ : Fin 8).val * 2048 + (⟨i.val % 2048, by omega⟩ : Fin 2048).val, by simp only; omega⟩ := Fin.ext (by simp only; omega)
    have hs : sel i = ⟨(⟨i.val / 2048, by omega⟩ : Fin 8).val, by simp only; omega⟩ := by unfold sel; rw [dif_pos h]
    unfold xrow
    rw [hs]
    conv_lhs => rw [hi]
    rw [o2_lat, f_lat]
    simp only [x_lat, ← hi]
  · have hi : i = ⟨16384 + ((⟨(i.val - 16384) / 256, by omega⟩ : Fin 8).val * 256 + (⟨(i.val - 16384) % 256, by omega⟩ : Fin 256).val), by simp only; omega⟩ := Fin.ext (by simp only; omega)
    have hs : sel i = 8 := by unfold sel; rw [dif_neg h]
    unfold xrow
    rw [hs]
    conv_lhs => rw [hi]
    rw [o2_ctx, f_ctx]
    simp only [x_ctx, ← hi]

variable (rw_ : (⟨S2048x64, .f32⟩ : BufTy).Contents (Elt Ideal))

/-- A logit: the normalised row times a column of the router's weight. -/
theorem dot_read (i : Fin 18432) (e : Fin 64) : val_main_v104 ho mo go w x g1 g2 md rw_ (ix2 i e)
    = ∑ k : Fin 2048, val_main_v103 ho mo go w x g1 g2 md (ix2 i k) * rw_ (ix2 k e) := by
  pointwise [val_main_v104]
/-- The result's first columns are the logits. -/
theorem out_lo (i : Fin 18432) (e : Fin 64) : val_main_v106 ho mo go w x g1 g2 md rw_ (ix2 i ⟨e.val, by omega⟩)
    = val_main_v104 ho mo go w x g1 g2 md rw_ (ix2 i e) := by
  pointwise [val_main_v106]
/-- The result's other columns are zero. -/
theorem out_hi (i : Fin 18432) (e : Fin 64) : val_main_v106 ho mo go w x g1 g2 md rw_ (ix2 i ⟨64 + e.val, by omega⟩) = (0 : EReal) := by
  pointwise [val_main_v106, val_main_v105, val_main_cst_13]

end Cert.LogitsRead
end
-- ==== Proof.LogitsValue.lean ====
/- The router logits' result array after a run is the reference of the argument arrays, the second gain, the shifts and scales and the
   router's weight being real numbers. -/
module
public import proofs.«01_k».proof.Proof.Gen.LogitsIdeal.Frame
public import proofs.«01_k».proof.Pre_finite_router
public import proofs.«01_k».proof.Proof.RealMath
public import proofs.«01_k».proof.Proof.LogitsRead
public import Idealize.ShloMosaic.Lib.Pipeline.ValueKit

@[expose] public section
set_option maxRecDepth 16384
noncomputable section
open Idealize.ShloMosaic Idealize.ShloMosaic.TcCoe Idealize.SL.Sem
open Idealize.ShloMosaic.Pipeline (Dat)
namespace Cert.LogitsIdeal.Value
open Cert.LogitsIdeal Cert.LogitsIdeal.Gen
variable (m : (ℓ : Loc nD τ sig) → Buf (Elt Ideal) ℓ)

/-- The windows' block indices at every grid point: the row tile, and the modulation row the tile's tokens share. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![0, 0] ∧ win0_8.index t = ![0, 0] ∧ win0_9.index t = ![if t.val < 32 then t.val / 4 else 8, 0, 0]
    ∧ win0_10.index t = ![0, 0] ∧ win0_11.index t = ![0, 0] ∧ win0_14.index t = ![t.val, 0] :=
  (by decide +kernel : ∀ t : Fin grid0.N, _)

/-- The weight rows of the first heads, as the kernel is handed them. -/
theorem V6 (c : Dev nD) : V m c main_v6 = extractStridedSlice S512x2048 ![0, 0]
    (truncf (F := Ideal) .bf16 (m ((c : Thread nD τ).loc main_arg3)) bitsLt_bf16_f32) slices_S2048x2048_S512x2048_0_0 := by
  show StableHlo.after (List.flatten [hostOps0, hostOps0_1, hostOps0_2]) _ (Proc.devRef .tc _) = _
  simp only [List.flatten_cons, List.flatten_nil, List.append_nil, List.cons_append, List.nil_append, hostOps0, hostOps0_1, hostOps0_2]
  after_results_simp
/-- The weight rows of the latent attention's heads. -/
theorem V7 (c : Dev nD) : V m c main_v7 = extractStridedSlice S768x2048 ![512, 0]
    (truncf (F := Ideal) .bf16 (m ((c : Thread nD τ).loc main_arg3)) bitsLt_bf16_f32) slices_S2048x2048_S768x2048_512_0 := by
  show StableHlo.after (List.flatten [hostOps0, hostOps0_1, hostOps0_2]) _ (Proc.devRef .tc _) = _
  simp only [List.flatten_cons, List.flatten_nil, List.append_nil, List.cons_append, List.nil_append, hostOps0, hostOps0_1, hostOps0_2]
  after_results_simp
/-- The weight rows of the grouped attention's heads. -/
theorem V8 (c : Dev nD) : V m c main_v8 = extractStridedSlice S768x2048 ![1280, 0]
    (truncf (F := Ideal) .bf16 (m ((c : Thread nD τ).loc main_arg3)) bitsLt_bf16_f32) slices_S2048x2048_S768x2048_1280_0 := by
  show StableHlo.after (List.flatten [hostOps0, hostOps0_1, hostOps0_2]) _ (Proc.devRef .tc _) = _
  simp only [List.flatten_cons, List.flatten_nil, List.append_nil, List.cons_append, List.nil_append, hostOps0, hostOps0_1, hostOps0_2]
  after_results_simp
/-- The first gain as one row. -/
theorem V9 (c : Dev nD) : V m c main_v9 = shapeCast S1x2048 (m ((c : Thread nD τ).loc main_arg5)) shapeCasts_S2048_S1x2048 := by
  show StableHlo.after (List.flatten [hostOps0, hostOps0_1, hostOps0_2]) _ (Proc.devRef .tc _) = _
  simp only [List.flatten_cons, List.flatten_nil, List.append_nil, List.cons_append, List.nil_append, hostOps0, hostOps0_1, hostOps0_2]
  after_results_simp
  rfl
/-- The second gain as one row. -/
theorem V10 (c : Dev nD) : V m c main_v10 = shapeCast S1x2048 (m ((c : Thread nD τ).loc main_arg6)) shapeCasts_S2048_S1x2048 := by
  show StableHlo.after (List.flatten [hostOps0, hostOps0_1, hostOps0_2]) _ (Proc.devRef .tc _) = _
  simp only [List.flatten_cons, List.flatten_nil, List.append_nil, List.cons_append, List.nil_append, hostOps0, hostOps0_1, hostOps0_2]
  after_results_simp
  rfl

/-- A weight with its columns padded by zeros, as the program pads it. -/
def padOf (y : FVec Ideal S2048x64 .f32) : FVec Ideal S2048x128 .f32 :=
  pad S2048x128 ![0, 0] ![0, 64] ![0, 0] y
    (sitofp (F := Ideal) .f32 (constantI S_ 32 0#32)) pads_S2048x64_S2048x128_000_0640 h_S_
/-- The router's weight so padded. -/
def padw (c : Dev nD) : FVec Ideal S2048x128 .f32 := padOf (m ((c : Thread nD τ).loc main_arg8))
/-- The padded weight's first columns are the weight. -/
theorem padOf_lo (y : FVec Ideal S2048x64 .f32) (k : Fin 2048) (e : Fin 64) : padOf y (ix2 k ⟨e.val, by omega⟩) = y (ix2 k e) := by
  pointwise [padOf]
/-- Its other columns are zero. -/
theorem padOf_hi (y : FVec Ideal S2048x64 .f32) (k : Fin 2048) (e : Fin 64) : padOf y (ix2 k ⟨64 + e.val, by omega⟩) = (0 : EReal) := by
  pointwise [padOf]
  show (((0#32 : BitVec 32).toInt : ℝ) : EReal) = 0
  simp

/-- The padded weight rounded, as the kernel is handed it. -/
theorem V2 (c : Dev nD) : V m c main_v2 = truncf (F := Ideal) .bf16 (padw m c) bitsLt_bf16_f32 := by
  show StableHlo.after (List.flatten [hostOps0, hostOps0_1, hostOps0_2]) _ (Proc.devRef .tc _) = _
  simp only [List.flatten_cons, List.flatten_nil, List.append_nil, List.cons_append, List.nil_append, hostOps0, hostOps0_1, hostOps0_2]
  after_results_simp
  rfl
/-- What the rounding left over, rounded. -/
theorem V5 (c : Dev nD) : V m c main_v5 = truncf (F := Ideal) .bf16
    (subf (padw m c) (extf .f32 (truncf (F := Ideal) .bf16 (padw m c) bitsLt_bf16_f32) bitsLt_bf16_f32)) bitsLt_bf16_f32 := by
  show StableHlo.after (List.flatten [hostOps0, hostOps0_1, hostOps0_2]) _ (Proc.devRef .tc _) = _
  simp only [List.flatten_cons, List.flatten_nil, List.append_nil, List.cons_append, List.nil_append, hostOps0, hostOps0_1, hostOps0_2]
  after_results_simp
  rfl

/-- The first heads' block at a grid point. -/
theorem read0 (c : Dev nD) (t : Fin cfg0.N) (a : Fin 512) (k : Fin 512) :
    iblk m c 0 t (ix2 a k) = m ((c : Thread nD τ).loc main_arg0) (ix2 ⟨t.val * 512 + a.val, by have : t.val < 36 := t.isLt; omega⟩ k) := by
  rw [← V_main_arg0 m c]
  blk_ext [iblk, idx t]
/-- The latent attention's block. -/
theorem read1 (c : Dev nD) (t : Fin cfg0.N) (a : Fin 512) (k : Fin 768) :
    iblk m c 1 t (ix2 a k) = m ((c : Thread nD τ).loc main_arg1) (ix2 ⟨t.val * 512 + a.val, by have : t.val < 36 := t.isLt; omega⟩ k) := by
  rw [← V_main_arg1 m c]
  blk_ext [iblk, idx t]
/-- The grouped attention's block. -/
theorem read2 (c : Dev nD) (t : Fin cfg0.N) (a : Fin 512) (k : Fin 768) :
    iblk m c 2 t (ix2 a k) = m ((c : Thread nD τ).loc main_arg2) (ix2 ⟨t.val * 512 + a.val, by have : t.val < 36 := t.isLt; omega⟩ k) := by
  rw [← V_main_arg2 m c]
  blk_ext [iblk, idx t]
/-- The first heads' weight rows. -/
theorem read3 (c : Dev nD) (t : Fin cfg0.N) (k : Fin 512) (j : Fin 2048) :
    iblk m c 3 t (ix2 k j) = m ((c : Thread nD τ).loc main_arg3) (ix2 ⟨k.val, by omega⟩ j) := by
  have h : iblk m c 3 t (ix2 k j) = V m c main_v6 (ix2 k j) := by blk_ext [iblk, idx t]
  rw [h, V6]
  pointwise []
/-- The latent attention's weight rows. -/
theorem read4 (c : Dev nD) (t : Fin cfg0.N) (k : Fin 768) (j : Fin 2048) :
    iblk m c 4 t (ix2 k j) = m ((c : Thread nD τ).loc main_arg3) (ix2 ⟨512 + k.val, by omega⟩ j) := by
  have h : iblk m c 4 t (ix2 k j) = V m c main_v7 (ix2 k j) := by blk_ext [iblk, idx t]
  rw [h, V7]
  pointwise []
/-- The grouped attention's weight rows. -/
theorem read5 (c : Dev nD) (t : Fin cfg0.N) (k : Fin 768) (j : Fin 2048) :
    iblk m c 5 t (ix2 k j) = m ((c : Thread nD τ).loc main_arg3) (ix2 ⟨1280 + k.val, by omega⟩ j) := by
  have h : iblk m c 5 t (ix2 k j) = V m c main_v8 (ix2 k j) := by blk_ext [iblk, idx t]
  rw [h, V8]
  pointwise []
/-- The token block. -/
theorem read6 (c : Dev nD) (t : Fin cfg0.N) (a : Fin 512) (k : Fin 2048) :
    iblk m c 6 t (ix2 a k) = m ((c : Thread nD τ).loc main_arg4) (ix2 ⟨t.val * 512 + a.val, by have : t.val < 36 := t.isLt; omega⟩ k) := by
  rw [← V_main_arg4 m c]
  blk_ext [iblk, idx t]
/-- The first gain. -/
theorem read7 (c : Dev nD) (t : Fin cfg0.N) (k : Fin 2048) :
    iblk m c 7 t (ix2 0 k) = m ((c : Thread nD τ).loc main_arg5) (ix1 k) := by
  have h : iblk m c 7 t (ix2 0 k) = V m c main_v9 (ix2 0 k) := by blk_ext [iblk, idx t]
  rw [h, V9]
  pointwise []
/-- The second gain. -/
theorem read8 (c : Dev nD) (t : Fin cfg0.N) (k : Fin 2048) :
    iblk m c 8 t (ix2 0 k) = m ((c : Thread nD τ).loc main_arg6) (ix1 k) := by
  have h : iblk m c 8 t (ix2 0 k) = V m c main_v10 (ix2 0 k) := by blk_ext [iblk, idx t]
  rw [h, V10]
  pointwise []
/-- The modulation block at a grid point is the row its tokens read. -/
theorem read9 (c : Dev nD) (t : Fin cfg0.N) (a : Fin 512) (q : Fin 6) (k : Fin 2048) :
    iblk m c 9 t (ix3 0 q k) = m ((c : Thread nD τ).loc main_arg7)
      (ix3 (LogitsRead.sel ⟨t.val * 512 + a.val, by have : t.val < 36 := t.isLt; omega⟩) q k) := by
  have ht : t.val < 36 := t.isLt
  rw [← V_main_arg7 m c]
  have hs : LogitsRead.sel ⟨t.val * 512 + a.val, by omega⟩ = ⟨if t.val < 32 then t.val / 4 else 8, by split <;> omega⟩ := by
    unfold LogitsRead.sel
    apply Fin.ext
    simp only
    split <;> split <;> first | (exfalso; omega) | (simp only; omega) | rfl
  rw [hs]
  blk_ext [iblk, idx t]

/-- The padded weight's first columns are the router's weight. -/
theorem padw_lo (c : Dev nD) (k : Fin 2048) (e : Fin 64) : padw m c (ix2 k ⟨e.val, by omega⟩) = m ((c : Thread nD τ).loc main_arg8) (ix2 k e) := by
  exact padOf_lo _ k e
/-- Its other columns are zero. -/
theorem padw_hi (c : Dev nD) (k : Fin 2048) (e : Fin 64) : padw m c (ix2 k ⟨64 + e.val, by omega⟩) = (0 : EReal) := by
  exact padOf_hi _ k e
/-- The rounded weight the kernel is handed is the padded weight. -/
theorem read10 (c : Dev nD) (t : Fin cfg0.N) (k : Fin 2048) (j : Fin 128) : iblk m c 10 t (ix2 k j) = padw m c (ix2 k j) := by
  have h : iblk m c 10 t (ix2 k j) = V m c main_v2 (ix2 k j) := by blk_ext [iblk, idx t]
  rw [h, V2]
  generalize padw m c = y
  pointwise []
/-- The remainder it is handed is the padded weight less itself. -/
theorem read11 (c : Dev nD) (t : Fin cfg0.N) (k : Fin 2048) (j : Fin 128) :
    iblk m c 11 t (ix2 k j) = (padw m c (ix2 k j) : EReal) - padw m c (ix2 k j) := by
  have h : iblk m c 11 t (ix2 k j) = V m c main_v5 (ix2 k j) := by blk_ext [iblk, idx t]
  rw [h, V5]
  generalize padw m c = y
  pointwise []

section
variable (x0 : Vec Ideal S512x512 .bf16) (x1 x2 : Vec Ideal S512x768 .bf16) (x3 : Vec Ideal S512x2048 .bf16) (x4 x5 : Vec Ideal S768x2048 .bf16)
  (x6 : Vec Ideal S512x2048 .f32) (x7 x8 : Vec Ideal S1x2048 .f32) (x9 : Vec Ideal S1x6x2048 .f32) (x10 x11 : Vec Ideal S2048x128 .bf16)

/-- The residual a grid point computes, from the blocks it loads. -/
theorem pay_x (a : Fin 512) (k : Fin 2048) :
    k0_pay7 (F := Ideal) x0 x1 x2 x3 x4 x5 x6 x7 x8 x9 x10 x11 (ix2 a k)
      = (x6 (ix2 a k) : EReal) + x9 (ix3 0 2 k) * NormMath.norm (fun j => (∑ z : Fin 512, (x0 (ix2 a z) : EReal) * x3 (ix2 z j)
          + ∑ z : Fin 768, (x1 (ix2 a z) : EReal) * x4 (ix2 z j)) + ∑ z : Fin 768, (x2 (ix2 a z) : EReal) * x5 (ix2 z j)) (fun j => x7 (ix2 0 j)) k := by
  unfold k0_pay7 NormMath.norm
  pointwise [k0_pay2]

/-- The block a grid point stores, one row times one column in three sums: the row by the rounded weight, the row's
    remainder by the rounded weight, and the row by the weight's remainder. -/
theorem out_l (a : Fin 512) (j : Fin 128) (f : Fin 2048 → EReal)
    (hf : ∀ k, f k = NormMath.modulated (fun j => k0_pay7 (F := Ideal) x0 x1 x2 x3 x4 x5 x6 x7 x8 x9 x10 x11 (ix2 a j)) (fun j => x8 (ix2 0 j))
          (fun k => x9 (ix3 0 4 k)) (fun k => x9 (ix3 0 3 k)) k) :
    out0_14 (F := Ideal) x0 x1 x2 x3 x4 x5 x6 x7 x8 x9 x10 x11 (ix2 a j)
      = (∑ k : Fin 2048, f k * (x10 (ix2 k j) : EReal) + ∑ k : Fin 2048, (f k - f k) * (x10 (ix2 k j) : EReal)) + ∑ k : Fin 2048, f k * (x11 (ix2 k j) : EReal) := by
  simp only [hf]
  unfold out0_14
  generalize k0_pay7 (F := Ideal) x0 x1 x2 x3 x4 x5 x6 x7 x8 x9 x10 x11 = y
  frame_out
  unfold NormMath.modulated NormMath.norm
  pointwise [k0_pay1, k0_pay5, k0_pay6, k0_pay4, k0_pay3]
end

/-- Every number the precondition speaks of is a real number. -/
theorem real_of_pre [Cert.Pre_finite_router.Facts] (ho : FVec Ideal S18432x512 .bf16) (mo go : FVec Ideal S18432x768 .bf16) (w : FVec Ideal S2048x2048 .f32)
    (x : FVec Ideal S18432x2048 .f32) (g1 g2 : FVec Ideal S2048 .f32) (md : FVec Ideal S16x6x2048 .f32) (rw_ : FVec Ideal S2048x64 .f32)
    (h : (Cert.Pre_finite_router.fn (F := Ideal) ho mo go w x g1 g2 md rw_).1 = (fun _ => 1#1)
      ∧ (Cert.Pre_finite_router.fn (F := Ideal) ho mo go w x g1 g2 md rw_).2.1 = (fun _ => 1#1)
      ∧ (Cert.Pre_finite_router.fn (F := Ideal) ho mo go w x g1 g2 md rw_).2.2 = (fun _ => 1#1)) :
    (∀ i, AttnMath.IsReal (g2 i)) ∧ (∀ (b : Fin 9) (q : Fin 2) (k : Fin 2048), AttnMath.IsReal (md (ix3 ⟨b.val, by omega⟩ ⟨3 + q.val, by omega⟩ k)))
      ∧ (∀ i, AttnMath.IsReal (rw_ i)) := by
  obtain ⟨h6, h7, h8⟩ := h
  refine ⟨fun i => AttnMath.real_of_mask (congrFun h6 i), fun b q k => ?_, fun i => AttnMath.real_of_mask (congrFun h8 i)⟩
  have e : (extractStridedSlice Cert.Pre_finite_router.S9x2x2048 ![0, 3, 0] md Cert.Pre_finite_router.Facts.slices_S16x6x2048_S9x2x2048_0_3_0) (ix3 b q k)
      = md (ix3 ⟨b.val, by omega⟩ ⟨3 + q.val, by omega⟩ k) := by
    pointwise []
  rw [← e]
  exact AttnMath.real_of_mask (congrFun h7 (ix3 b q k))

/-- The residual at a grid point is the reference's row at the array index it sits at. -/
theorem point_x (c : Dev nD) (t : Fin cfg0.N) (a : Fin 512) (k : Fin 2048) :
    k0_pay7 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 a k)
      = LogitsRead.xrow (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg7))
          ⟨t.val * 512 + a.val, by have : t.val < 36 := t.isLt; omega⟩ k := by
  refine (pay_x _ _ _ _ _ _ _ _ _ _ _ _ a k).trans ?_
  unfold LogitsRead.xrow
  simp only [LogitsRead.mix_read, read0, read1, read2, read3, read4, read5, read6, read7, read9 m c t a]

/-- The second gain, the shifts and scales, and the router's weight are real. -/
structure Reals (c : Dev nD) : Prop where
  g2 : ∀ i, AttnMath.IsReal (m ((c : Thread nD τ).loc main_arg6) i)
  md : ∀ (b : Fin 9) (q : Fin 2) (k : Fin 2048), AttnMath.IsReal (m ((c : Thread nD τ).loc main_arg7) (ix3 ⟨b.val, by omega⟩ ⟨3 + q.val, by omega⟩ k))
  rw_ : ∀ i, AttnMath.IsReal (m ((c : Thread nD τ).loc main_arg8) i)

/-- The reference's normalised tokens, on the arguments. -/
abbrev F (c : Dev nD) := Cert.LogitsRefIdeal.Read.val_main_v103 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))

/-- The shift and the scale a token reads are real. -/
theorem md_real (c : Dev nD) (h : Reals m c) (i : Fin 18432) (q : Fin 2) (k : Fin 2048) :
    AttnMath.IsReal (m ((c : Thread nD τ).loc main_arg7) (ix3 (LogitsRead.sel i) ⟨3 + q.val, by omega⟩ k)) := by
  have hb : (LogitsRead.sel i).val < 9 := by
    unfold LogitsRead.sel
    split
    · simp only; omega
    · decide
  exact h.md ⟨(LogitsRead.sel i).val, hb⟩ q k

/-- The reference's normalised tokens are real, whatever the residual. -/
theorem f_real (c : Dev nD) (h : Reals m c) (i : Fin 18432) (k : Fin 2048) : AttnMath.IsReal (F m c (ix2 i k)) := by
  unfold F
  rw [LogitsRead.f_read]
  exact RealMath.modulated _ _ _ _ (fun j => h.g2 _) (fun j => md_real m c h i 1 j) (fun j => md_real m c h i 0 j) k

/-- The padded weight is real. -/
theorem padw_real (c : Dev nD) (h : Reals m c) (k : Fin 2048) (j : Fin 128) : AttnMath.IsReal (padw m c (ix2 k j)) := by
  by_cases hj : j.val < 64
  · have e : j = ⟨(⟨j.val, hj⟩ : Fin 64).val, by simp only; omega⟩ := rfl
    rw [e, padw_lo]
    exact h.rw_ _
  · have e : j = ⟨64 + (⟨j.val - 64, by omega⟩ : Fin 64).val, by simp only; omega⟩ := Fin.ext (by simp only; omega)
    rw [e, padw_hi]
    exact ⟨0, rfl⟩

/-- The reference's result is its tokens times the padded weight. -/
theorem ref_l (c : Dev nD) (i : Fin 18432) (j : Fin 128) :
    Cert.LogitsRefIdeal.Read.val_main_v106 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (ix2 i j)
      = ∑ k : Fin 2048, F m c (ix2 i k) * (padw m c (ix2 k j) : EReal) := by
  by_cases hj : j.val < 64
  · have e : j = ⟨(⟨j.val, hj⟩ : Fin 64).val, by simp only; omega⟩ := rfl
    rw [e, LogitsRead.out_lo, LogitsRead.dot_read]
    exact Finset.sum_congr rfl fun k _ => congrArg (fun z : EReal => F m c (ix2 i k) * z) (padw_lo m c k ⟨j.val, hj⟩).symm
  · have e : j = ⟨64 + (⟨j.val - 64, by omega⟩ : Fin 64).val, by simp only; omega⟩ := Fin.ext (by simp only; omega)
    rw [e, LogitsRead.out_hi]
    exact (Finset.sum_eq_zero fun k _ => by rw [padw_hi m c k ⟨j.val - 64, by omega⟩]; exact mul_zero _).symm

/-- The block at a grid point is the reference's result at the array index it sits at. -/
theorem point (c : Dev nD) (h : Reals m c) (t : Fin cfg0.N) (a : Fin 512) (j : Fin 128) :
    out0_14 (F := Ideal) (iblk m c 0 t) (iblk m c 1 t) (iblk m c 2 t) (iblk m c 3 t) (iblk m c 4 t) (iblk m c 5 t) (iblk m c 6 t) (iblk m c 7 t)
        (iblk m c 8 t) (iblk m c 9 t) (iblk m c 10 t) (iblk m c 11 t) (ix2 a j)
      = Cert.LogitsRefIdeal.Read.val_main_v106 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (ix2 ⟨t.val * 512 + a.val, by have : t.val < 36 := t.isLt; omega⟩ j) := by
  refine (out_l _ _ _ _ _ _ _ _ _ _ _ _ a j
    (fun k => F m c (ix2 ⟨t.val * 512 + a.val, by have : t.val < 36 := t.isLt; omega⟩ k)) (fun k => ?_)).trans ?_
  · refine (LogitsRead.f_read _ _ _ _ _ _ _ _ _ k).trans ?_
    simp only [point_x, read8, read9 m c t a]
  · rw [ref_l]
    simp only [read10, read11]
    have h1 : ∀ k, F m c (ix2 ⟨t.val * 512 + a.val, by have : t.val < 36 := t.isLt; omega⟩ k)
        - F m c (ix2 ⟨t.val * 512 + a.val, by have : t.val < 36 := t.isLt; omega⟩ k) = 0 := fun k => RealMath.sub_self (f_real m c h _ k)
    have h2 : ∀ k, (padw m c (ix2 k j) : EReal) - padw m c (ix2 k j) = 0 := fun k => RealMath.sub_self (padw_real m c h k j)
    simp only [h1, h2, zero_mul, mul_zero, Finset.sum_const_zero, add_zero]

/-- The result array after the run is the reference's. -/
theorem final (c : Dev nD) (h : Reals m c) : (dats m 0 c).arrAt 14 (cfgs 0).N
    = Cert.LogitsRefIdeal.Read.val_main_v106 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  refine (dats m 0 c).arrAt_eq_of_covers 14 _ (by decide +kernel) fun t _ y => ?_
  blk_simp
  rw [after0_14]
  idx_vars y
  refine (point m c h t _ _).trans ?_
  blk_ext [idx t]

end Cert.LogitsIdeal.Value
end
-- ==== Proof.LogitsClaim.lean ====
/- What is claimed of `Logits`, put together: the frames of the program, of its reading over the extended reals and of
   the reference, and that the two readings end with equal results. -/
module

public import proofs.«01_k».proof.Defs
public import proofs.«01_k».proof.Proof.Gen.Logits.Frame
public import proofs.«01_k».proof.Proof.Gen.LogitsIdeal.Frame
public import proofs.«01_k».proof.Proof.Gen.LogitsIdeal.Value
public import proofs.«01_k».proof.Proof.Gen.LogitsRefIdeal.Run
public import proofs.«01_k».proof.Proof.Gen.LogitsRefIdeal.Read
public import proofs.«01_k».proof.Proof.Gen.Pre_finite_router
public import proofs.«01_k».proof.Proof.LogitsValue
public import Idealize.ShloMosaic.Lib.Quiescent

@[expose] public section

noncomputable section

namespace Cert.Proof.Logits

open Idealize.ShloMosaic Idealize.SL.Sem

/-- The reference ends with its arguments unchanged and, declaring no semaphore, with every counter at zero. -/
theorem ref_frame (m : (ℓ : Loc Cert.LogitsRefIdeal.nD Cert.LogitsRefIdeal.τ Cert.LogitsRefIdeal.sig) → Buf (Elt Ideal) ℓ) (g : Dev Cert.LogitsRefIdeal.nD → PrngReg) :
    θ_run (Cert.LogitsRefIdeal.defs (F := Ideal)) (onTc (τ := Cert.LogitsRefIdeal.τ) (Cert.LogitsRefIdeal.main (F := Ideal))) ⟨m, fun _ => 0, g⟩ (fun r =>
      (∀ c : Dev Cert.LogitsRefIdeal.nD, r.2.mem ((c.tc : Thread Cert.LogitsRefIdeal.nD Cert.LogitsRefIdeal.τ).loc Cert.LogitsRefIdeal.main_arg0) = m ((c.tc : Thread Cert.LogitsRefIdeal.nD Cert.LogitsRefIdeal.τ).loc Cert.LogitsRefIdeal.main_arg0)
        ∧ r.2.mem ((c.tc : Thread Cert.LogitsRefIdeal.nD Cert.LogitsRefIdeal.τ).loc Cert.LogitsRefIdeal.main_arg1) = m ((c.tc : Thread Cert.LogitsRefIdeal.nD Cert.LogitsRefIdeal.τ).loc Cert.LogitsRefIdeal.main_arg1)
        ∧ r.2.mem ((c.tc : Thread Cert.LogitsRefIdeal.nD Cert.LogitsRefIdeal.τ).loc Cert.LogitsRefIdeal.main_arg2) = m ((c.tc : Thread Cert.LogitsRefIdeal.nD Cert.LogitsRefIdeal.τ).loc Cert.LogitsRefIdeal.main_arg2)
        ∧ r.2.mem ((c.tc : Thread Cert.LogitsRefIdeal.nD Cert.LogitsRefIdeal.τ).loc Cert.LogitsRefIdeal.main_arg3) = m ((c.tc : Thread Cert.LogitsRefIdeal.nD Cert.LogitsRefIdeal.τ).loc Cert.LogitsRefIdeal.main_arg3)
        ∧ r.2.mem ((c.tc : Thread Cert.LogitsRefIdeal.nD Cert.LogitsRefIdeal.τ).loc Cert.LogitsRefIdeal.main_arg4) = m ((c.tc : Thread Cert.LogitsRefIdeal.nD Cert.LogitsRefIdeal.τ).loc Cert.LogitsRefIdeal.main_arg4)
        ∧ r.2.mem ((c.tc : Thread Cert.LogitsRefIdeal.nD Cert.LogitsRefIdeal.τ).loc Cert.LogitsRefIdeal.main_arg5) = m ((c.tc : Thread Cert.LogitsRefIdeal.nD Cert.LogitsRefIdeal.τ).loc Cert.LogitsRefIdeal.main_arg5)
        ∧ r.2.mem ((c.tc : Thread Cert.LogitsRefIdeal.nD Cert.LogitsRefIdeal.τ).loc Cert.LogitsRefIdeal.main_arg6) = m ((c.tc : Thread Cert.LogitsRefIdeal.nD Cert.LogitsRefIdeal.τ).loc Cert.LogitsRefIdeal.main_arg6)
        ∧ r.2.mem ((c.tc : Thread Cert.LogitsRefIdeal.nD Cert.LogitsRefIdeal.τ).loc Cert.LogitsRefIdeal.main_arg7) = m ((c.tc : Thread Cert.LogitsRefIdeal.nD Cert.LogitsRefIdeal.τ).loc Cert.LogitsRefIdeal.main_arg7)
        ∧ r.2.mem ((c.tc : Thread Cert.LogitsRefIdeal.nD Cert.LogitsRefIdeal.τ).loc Cert.LogitsRefIdeal.main_arg8) = m ((c.tc : Thread Cert.LogitsRefIdeal.nD Cert.LogitsRefIdeal.τ).loc Cert.LogitsRefIdeal.main_arg8))
      ∧ r.2.sem = fun _ => 0) :=
  (θ_run (Cert.LogitsRefIdeal.defs (F := Ideal)) _ _).mono
    (fun r h => ⟨fun c => (h c).2, sem_eq_zero_of_no_sems (by decide) r.2⟩) (Cert.LogitsRefIdeal.Value.run m g)

/-- The two readings end with equal results and unchanged arguments, the numbers the precondition speaks of being real. -/
theorem algebraic [Cert.LogitsIdeal.Facts] [Cert.LogitsRefIdeal.Facts] [Cert.Pre_finite_router.Facts] : Cert.algebraic_LogitsIdeal_LogitsRefIdeal_pre_finite_router := by
  intro m g m' g' hpre hagree
  refine ⟨fun c => Cert.LogitsRefIdeal.Read.val_main_v106 (F := Ideal) (m ((c.tc : Thread Cert.LogitsIdeal.nD Cert.LogitsIdeal.τ).loc Cert.LogitsIdeal.main_arg0)) (m ((c.tc : Thread Cert.LogitsIdeal.nD Cert.LogitsIdeal.τ).loc Cert.LogitsIdeal.main_arg1)) (m ((c.tc : Thread Cert.LogitsIdeal.nD Cert.LogitsIdeal.τ).loc Cert.LogitsIdeal.main_arg2)) (m ((c.tc : Thread Cert.LogitsIdeal.nD Cert.LogitsIdeal.τ).loc Cert.LogitsIdeal.main_arg3)) (m ((c.tc : Thread Cert.LogitsIdeal.nD Cert.LogitsIdeal.τ).loc Cert.LogitsIdeal.main_arg4)) (m ((c.tc : Thread Cert.LogitsIdeal.nD Cert.LogitsIdeal.τ).loc Cert.LogitsIdeal.main_arg5)) (m ((c.tc : Thread Cert.LogitsIdeal.nD Cert.LogitsIdeal.τ).loc Cert.LogitsIdeal.main_arg6)) (m ((c.tc : Thread Cert.LogitsIdeal.nD Cert.LogitsIdeal.τ).loc Cert.LogitsIdeal.main_arg7)) (m ((c.tc : Thread Cert.LogitsIdeal.nD Cert.LogitsIdeal.τ).loc Cert.LogitsIdeal.main_arg8)), ?_, ?_⟩
  · refine (θ_run (Cert.LogitsIdeal.defs (F := Ideal)) _ _).mono (fun r h c => ?_) (Cert.LogitsIdeal.Value.run_blocks m g)
    obtain ⟨h6, h7, h8⟩ := Cert.LogitsIdeal.Value.real_of_pre _ _ _ _ _ _ _ _ _ (hpre c)
    exact ⟨(h c).2.2.1.trans (Cert.LogitsIdeal.Value.final m c ⟨h6, h7, h8⟩), (h c).2.2.2⟩
  · exact (θ_run (Cert.LogitsRefIdeal.defs (F := Ideal)) _ _).mono
      (fun r h c => ⟨(h c).1.trans ((Cert.LogitsRefIdeal.Read.val_main_v106_eq m' c).trans (by rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2])), (h c).2⟩)
      (Cert.LogitsRefIdeal.Value.run m' g')

end Cert.Proof.Logits

end
-- ==== Proof.lean ====
module

public import proofs.«01_k».proof.Defs
public import proofs.«01_k».proof.Proof.Gen.Mla
public import proofs.«01_k».proof.Proof.Gen.MlaIdeal
public import proofs.«01_k».proof.Proof.Gen.MlaRefIdeal
public import proofs.«01_k».proof.Proof.MlaClaim
public import proofs.«01_k».proof.Proof.Gen.Gqa
public import proofs.«01_k».proof.Proof.Gen.GqaIdeal
public import proofs.«01_k».proof.Proof.Gen.GqaRefIdeal
public import proofs.«01_k».proof.Proof.GqaClaim
public import proofs.«01_k».proof.Proof.Gen.Moe
public import proofs.«01_k».proof.Proof.Gen.MoeIdeal
public import proofs.«01_k».proof.Proof.Gen.MoeRefIdeal
public import proofs.«01_k».proof.Proof.MoeClaim
public import proofs.«01_k».proof.Proof.Gen.InProj
public import proofs.«01_k».proof.Proof.Gen.InProjIdeal
public import proofs.«01_k».proof.Proof.Gen.InProjRefIdeal
public import proofs.«01_k».proof.Proof.InProjClaim
public import proofs.«01_k».proof.Proof.Gen.OutProj
public import proofs.«01_k».proof.Proof.Gen.OutProjIdeal
public import proofs.«01_k».proof.Proof.Gen.OutProjRefIdeal
public import proofs.«01_k».proof.Proof.OutProjClaim
public import proofs.«01_k».proof.Proof.Gen.Shared
public import proofs.«01_k».proof.Proof.Gen.SharedIdeal
public import proofs.«01_k».proof.Proof.Gen.SharedRefIdeal
public import proofs.«01_k».proof.Proof.SharedClaim
public import proofs.«01_k».proof.Proof.Gen.MlaQ
public import proofs.«01_k».proof.Proof.Gen.MlaQIdeal
public import proofs.«01_k».proof.Proof.Gen.MlaQRefIdeal
public import proofs.«01_k».proof.Proof.MlaQClaim
public import proofs.«01_k».proof.Proof.Gen.MlaKV
public import proofs.«01_k».proof.Proof.Gen.MlaKVIdeal
public import proofs.«01_k».proof.Proof.Gen.MlaKVRefIdeal
public import proofs.«01_k».proof.Proof.MlaKVClaim
public import proofs.«01_k».proof.Proof.Gen.GqaQK
public import proofs.«01_k».proof.Proof.Gen.GqaQKIdeal
public import proofs.«01_k».proof.Proof.Gen.GqaQKRefIdeal
public import proofs.«01_k».proof.Proof.GqaQKClaim
public import proofs.«01_k».proof.Proof.Gen.MlaCtx
public import proofs.«01_k».proof.Proof.Gen.MlaCtxIdeal
public import proofs.«01_k».proof.Proof.Gen.MlaCtxRefIdeal
public import proofs.«01_k».proof.Proof.MlaCtxClaim
public import proofs.«01_k».proof.Proof.Gen.GqaCtx
public import proofs.«01_k».proof.Proof.Gen.GqaCtxIdeal
public import proofs.«01_k».proof.Proof.Gen.GqaCtxRefIdeal
public import proofs.«01_k».proof.Proof.GqaCtxClaim
public import proofs.«01_k».proof.Proof.Gen.Logits
public import proofs.«01_k».proof.Proof.Gen.LogitsIdeal
public import proofs.«01_k».proof.Proof.Gen.LogitsRefIdeal
public import proofs.«01_k».proof.Proof.LogitsClaim
public import proofs.«01_k».proof.Proof.Gen.Pre_finite_scores
public import proofs.«01_k».proof.Proof.Gen.Pre_finite_gqa
public import proofs.«01_k».proof.Proof.Gen.Pre_plan_in_range
public import proofs.«01_k».proof.Proof.Gen.Pre_finite_router

@[expose] public section

noncomputable section

namespace Cert.Proof

open Idealize.ShloMosaic Idealize.SL.Sem

/-- Every claim stated of the programs holds. -/
theorem claim : Cert.Claim :=
  ⟨Cert.Mla.Gen.facts,
    Cert.MlaIdeal.Gen.facts,
    Cert.MlaRefIdeal.Gen.facts,
    Cert.Gqa.Gen.facts,
    Cert.GqaIdeal.Gen.facts,
    Cert.GqaRefIdeal.Gen.facts,
    Cert.Moe.Gen.facts,
    Cert.MoeIdeal.Gen.facts,
    Cert.MoeRefIdeal.Gen.facts,
    Cert.InProj.Gen.facts,
    Cert.InProjIdeal.Gen.facts,
    Cert.InProjRefIdeal.Gen.facts,
    Cert.OutProj.Gen.facts,
    Cert.OutProjIdeal.Gen.facts,
    Cert.OutProjRefIdeal.Gen.facts,
    Cert.Shared.Gen.facts,
    Cert.SharedIdeal.Gen.facts,
    Cert.SharedRefIdeal.Gen.facts,
    Cert.MlaQ.Gen.facts,
    Cert.MlaQIdeal.Gen.facts,
    Cert.MlaQRefIdeal.Gen.facts,
    Cert.MlaKV.Gen.facts,
    Cert.MlaKVIdeal.Gen.facts,
    Cert.MlaKVRefIdeal.Gen.facts,
    Cert.GqaQK.Gen.facts,
    Cert.GqaQKIdeal.Gen.facts,
    Cert.GqaQKRefIdeal.Gen.facts,
    Cert.MlaCtx.Gen.facts,
    Cert.MlaCtxIdeal.Gen.facts,
    Cert.MlaCtxRefIdeal.Gen.facts,
    Cert.GqaCtx.Gen.facts,
    Cert.GqaCtxIdeal.Gen.facts,
    Cert.GqaCtxRefIdeal.Gen.facts,
    Cert.Logits.Gen.facts,
    Cert.LogitsIdeal.Gen.facts,
    Cert.LogitsRefIdeal.Gen.facts,
    Cert.Pre_finite_scores.Gen.facts,
    Cert.Pre_finite_gqa.Gen.facts,
    Cert.Pre_plan_in_range.Gen.facts,
    Cert.Pre_finite_router.Gen.facts,
    fun m g _ => Cert.Mla.Gen.frame m g,
    fun m g _ => Cert.MlaIdeal.Gen.frame m g,
    fun m g _ => Cert.MlaIdeal.Gen.frame m g,
    fun m g _ => Mla.ref_frame m g,
    fun m g _ => Mla.ref_frame m g,
    fun m g _ => Cert.Gqa.Gen.frame m g,
    fun m g _ => Cert.GqaIdeal.Gen.frame m g,
    fun m g _ => Cert.GqaIdeal.Gen.frame m g,
    fun m g _ => Gqa.ref_frame m g,
    fun m g _ => Gqa.ref_frame m g,
    Moe.frame,
    Moe.frame_ideal,
    fun m g _ => Moe.ref_frame m g,
    fun m g _ => Moe.ref_frame m g,
    fun m g _ => Cert.InProj.Gen.frame m g,
    fun m g _ => Cert.InProjIdeal.Gen.frame m g,
    fun m g _ => InProj.ref_frame m g,
    fun m g _ => Cert.OutProj.Gen.frame m g,
    fun m g _ => Cert.OutProjIdeal.Gen.frame m g,
    fun m g _ => OutProj.ref_frame m g,
    fun m g _ => Cert.Shared.Gen.frame m g,
    fun m g _ => Cert.SharedIdeal.Gen.frame m g,
    fun m g _ => Shared.ref_frame m g,
    fun m g _ => Cert.MlaQ.Gen.frame m g,
    fun m g _ => Cert.MlaQIdeal.Gen.frame m g,
    fun m g _ => MlaQ.ref_frame m g,
    fun m g _ => Cert.MlaKV.Gen.frame m g,
    fun m g _ => Cert.MlaKVIdeal.Gen.frame m g,
    fun m g _ => MlaKV.ref_frame m g,
    fun m g _ => Cert.GqaQK.Gen.frame m g,
    fun m g _ => Cert.GqaQKIdeal.Gen.frame m g,
    fun m g _ => GqaQK.ref_frame m g,
    fun m g _ => Cert.MlaCtx.Gen.frame m g,
    fun m g _ => Cert.MlaCtxIdeal.Gen.frame m g,
    fun m g _ => Cert.MlaCtxIdeal.Gen.frame m g,
    fun m g _ => MlaCtx.ref_frame m g,
    fun m g _ => MlaCtx.ref_frame m g,
    fun m g _ => Cert.GqaCtx.Gen.frame m g,
    fun m g _ => Cert.GqaCtxIdeal.Gen.frame m g,
    fun m g _ => Cert.GqaCtxIdeal.Gen.frame m g,
    fun m g _ => GqaCtx.ref_frame m g,
    fun m g _ => GqaCtx.ref_frame m g,
    fun m g _ => Cert.Logits.Gen.frame m g,
    fun m g _ => Cert.LogitsIdeal.Gen.frame m g,
    fun m g _ => Cert.LogitsIdeal.Gen.frame m g,
    fun m g _ => Logits.ref_frame m g,
    fun m g _ => Logits.ref_frame m g,
    trivial,
    Mla.algebraic,
    trivial,
    Gqa.algebraic,
    trivial,
    Moe.algebraic,
    trivial,
    InProj.algebraic,
    trivial,
    OutProj.algebraic,
    trivial,
    Shared.algebraic,
    trivial,
    MlaQ.algebraic,
    trivial,
    MlaKV.algebraic,
    trivial,
    GqaQK.algebraic,
    trivial,
    MlaCtx.algebraic,
    trivial,
    GqaCtx.algebraic,
    trivial,
    Logits.algebraic⟩

end Cert.Proof

end
